-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.2.2 = (fun _ => 1#1)

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_DownEnd (m : (ℓ : Loc Cert.DownEnd.nD Cert.DownEnd.τ Cert.DownEnd.sig) → Buf (Elt Bits) ℓ) : Prop :=
  True

def Pre_DownEndIdeal (m : (ℓ : Loc Cert.DownEndIdeal.nD Cert.DownEndIdeal.τ Cert.DownEndIdeal.sig) → Buf (Elt Ideal) ℓ) : Prop :=
  True

def Pre_DownEndRefIdeal (m : (ℓ : Loc Cert.DownEndRefIdeal.nD Cert.DownEndRefIdeal.τ Cert.DownEndRefIdeal.sig) → Buf (Elt Ideal) ℓ) : Prop :=
  True

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdRefIdeal (m : (ℓ : Loc Cert.RmsBwdRefIdeal.nD Cert.RmsBwdRefIdeal.τ Cert.RmsBwdRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_FinalLoss (m : (ℓ : Loc Cert.FinalLoss.nD Cert.FinalLoss.τ Cert.FinalLoss.sig) → Buf (Elt Bits) ℓ) : Prop :=
  True

def Pre_FinalLossIdeal (m : (ℓ : Loc Cert.FinalLossIdeal.nD Cert.FinalLossIdeal.τ Cert.FinalLossIdeal.sig) → Buf (Elt Ideal) ℓ) : Prop :=
  True

def Pre_FinalLossRefIdeal (m : (ℓ : Loc Cert.FinalLossRefIdeal.nD Cert.FinalLossRefIdeal.τ Cert.FinalLossRefIdeal.sig) → Buf (Elt Ideal) ℓ) : Prop :=
  True

def Pre_FirstNorm (m : (ℓ : Loc Cert.FirstNorm.nD Cert.FirstNorm.τ Cert.FirstNorm.sig) → Buf (Elt Bits) ℓ) : Prop :=
  True

def Pre_FirstNormIdeal (m : (ℓ : Loc Cert.FirstNormIdeal.nD Cert.FirstNormIdeal.τ Cert.FirstNormIdeal.sig) → Buf (Elt Ideal) ℓ) : Prop :=
  True

def Pre_FirstNormRefIdeal (m : (ℓ : Loc Cert.FirstNormRefIdeal.nD Cert.FirstNormRefIdeal.τ Cert.FirstNormRefIdeal.sig) → Buf (Elt Ideal) ℓ) : Prop :=
  True

def Pre_EvenLn (m : (ℓ : Loc Cert.EvenLn.nD Cert.EvenLn.τ Cert.EvenLn.sig) → Buf (Elt Bits) ℓ) : Prop :=
  True

def Pre_EvenLnIdeal (m : (ℓ : Loc Cert.EvenLnIdeal.nD Cert.EvenLnIdeal.τ Cert.EvenLnIdeal.sig) → Buf (Elt Ideal) ℓ) : Prop :=
  True

def Pre_EvenLnRefIdeal (m : (ℓ : Loc Cert.EvenLnRefIdeal.nD Cert.EvenLnRefIdeal.τ Cert.EvenLnRefIdeal.sig) → Buf (Elt Ideal) ℓ) : Prop :=
  True

def Pre_EvenLnBwd (m : (ℓ : Loc Cert.EvenLnBwd.nD Cert.EvenLnBwd.τ Cert.EvenLnBwd.sig) → Buf (Elt Bits) ℓ) : Prop :=
  True

def Pre_EvenLnBwdIdeal (m : (ℓ : Loc Cert.EvenLnBwdIdeal.nD Cert.EvenLnBwdIdeal.τ Cert.EvenLnBwdIdeal.sig) → Buf (Elt Ideal) ℓ) : Prop :=
  True

def Pre_EvenLnBwdIdeal_ln_finite [hPre_ln_finite : Cert.Pre_ln_finite.Facts] (m : (ℓ : Loc Cert.EvenLnBwdIdeal.nD Cert.EvenLnBwdIdeal.τ Cert.EvenLnBwdIdeal.sig) → Buf (Elt Ideal) ℓ) : Prop :=
  ∀ c : Dev Cert.EvenLnBwdIdeal.nD,
    (Cert.Pre_ln_finite.fn (F := Ideal) (m ((c.tc : Thread Cert.EvenLnBwdIdeal.nD Cert.EvenLnBwdIdeal.τ).loc Cert.EvenLnBwdIdeal.main_arg0)) (m ((c.tc : Thread Cert.EvenLnBwdIdeal.nD Cert.EvenLnBwdIdeal.τ).loc Cert.EvenLnBwdIdeal.main_arg1)) (m ((c.tc : Thread Cert.EvenLnBwdIdeal.nD Cert.EvenLnBwdIdeal.τ).loc Cert.EvenLnBwdIdeal.main_arg2)) (m ((c.tc : Thread Cert.EvenLnBwdIdeal.nD Cert.EvenLnBwdIdeal.τ).loc Cert.EvenLnBwdIdeal.main_arg3))).1 = (fun _ => 1#1)
    ∧ (Cert.Pre_ln_finite.fn (F := Ideal) (m ((c.tc : Thread Cert.EvenLnBwdIdeal.nD Cert.EvenLnBwdIdeal.τ).loc Cert.EvenLnBwdIdeal.main_arg0)) (m ((c.tc : Thread Cert.EvenLnBwdIdeal.nD Cert.EvenLnBwdIdeal.τ).loc Cert.EvenLnBwdIdeal.main_arg1)) (m ((c.tc : Thread Cert.EvenLnBwdIdeal.nD Cert.EvenLnBwdIdeal.τ).loc Cert.EvenLnBwdIdeal.main_arg2)) (m ((c.tc : Thread Cert.EvenLnBwdIdeal.nD Cert.EvenLnBwdIdeal.τ).loc Cert.EvenLnBwdIdeal.main_arg3))).2.1 = (fun _ => 1#1)
    ∧ (Cert.Pre_ln_finite.fn (F := Ideal) (m ((c.tc : Thread Cert.EvenLnBwdIdeal.nD Cert.EvenLnBwdIdeal.τ).loc Cert.EvenLnBwdIdeal.main_arg0)) (m ((c.tc : Thread Cert.EvenLnBwdIdeal.nD Cert.EvenLnBwdIdeal.τ).loc Cert.EvenLnBwdIdeal.main_arg1)) (m ((c.tc : Thread Cert.EvenLnBwdIdeal.nD Cert.EvenLnBwdIdeal.τ).loc Cert.EvenLnBwdIdeal.main_arg2)) (m ((c.tc : Thread Cert.EvenLnBwdIdeal.nD Cert.EvenLnBwdIdeal.τ).loc Cert.EvenLnBwdIdeal.main_arg3))).2.2.1 = (fun _ => 1#1)
    ∧ (Cert.Pre_ln_finite.fn (F := Ideal) (m ((c.tc : Thread Cert.EvenLnBwdIdeal.nD Cert.EvenLnBwdIdeal.τ).loc Cert.EvenLnBwdIdeal.main_arg0)) (m ((c.tc : Thread Cert.EvenLnBwdIdeal.nD Cert.EvenLnBwdIdeal.τ).loc Cert.EvenLnBwdIdeal.main_arg1)) (m ((c.tc : Thread Cert.EvenLnBwdIdeal.nD Cert.EvenLnBwdIdeal.τ).loc Cert.EvenLnBwdIdeal.main_arg2)) (m ((c.tc : Thread Cert.EvenLnBwdIdeal.nD Cert.EvenLnBwdIdeal.τ).loc Cert.EvenLnBwdIdeal.main_arg3))).2.2.2 = (fun _ => 1#1)

def Pre_EvenLnBwdRefIdeal (m : (ℓ : Loc Cert.EvenLnBwdRefIdeal.nD Cert.EvenLnBwdRefIdeal.τ Cert.EvenLnBwdRefIdeal.sig) → Buf (Elt Ideal) ℓ) : Prop :=
  True

def Pre_EvenLnBwdRefIdeal_ln_finite [hPre_ln_finite : Cert.Pre_ln_finite.Facts] (m : (ℓ : Loc Cert.EvenLnBwdRefIdeal.nD Cert.EvenLnBwdRefIdeal.τ Cert.EvenLnBwdRefIdeal.sig) → Buf (Elt Ideal) ℓ) : Prop :=
  ∀ c : Dev Cert.EvenLnBwdRefIdeal.nD,
    (Cert.Pre_ln_finite.fn (F := Ideal) (m ((c.tc : Thread Cert.EvenLnBwdRefIdeal.nD Cert.EvenLnBwdRefIdeal.τ).loc Cert.EvenLnBwdRefIdeal.main_arg0)) (m ((c.tc : Thread Cert.EvenLnBwdRefIdeal.nD Cert.EvenLnBwdRefIdeal.τ).loc Cert.EvenLnBwdRefIdeal.main_arg1)) (m ((c.tc : Thread Cert.EvenLnBwdRefIdeal.nD Cert.EvenLnBwdRefIdeal.τ).loc Cert.EvenLnBwdRefIdeal.main_arg2)) (m ((c.tc : Thread Cert.EvenLnBwdRefIdeal.nD Cert.EvenLnBwdRefIdeal.τ).loc Cert.EvenLnBwdRefIdeal.main_arg3))).1 = (fun _ => 1#1)
    ∧ (Cert.Pre_ln_finite.fn (F := Ideal) (m ((c.tc : Thread Cert.EvenLnBwdRefIdeal.nD Cert.EvenLnBwdRefIdeal.τ).loc Cert.EvenLnBwdRefIdeal.main_arg0)) (m ((c.tc : Thread Cert.EvenLnBwdRefIdeal.nD Cert.EvenLnBwdRefIdeal.τ).loc Cert.EvenLnBwdRefIdeal.main_arg1)) (m ((c.tc : Thread Cert.EvenLnBwdRefIdeal.nD Cert.EvenLnBwdRefIdeal.τ).loc Cert.EvenLnBwdRefIdeal.main_arg2)) (m ((c.tc : Thread Cert.EvenLnBwdRefIdeal.nD Cert.EvenLnBwdRefIdeal.τ).loc Cert.EvenLnBwdRefIdeal.main_arg3))).2.1 = (fun _ => 1#1)
    ∧ (Cert.Pre_ln_finite.fn (F := Ideal) (m ((c.tc : Thread Cert.EvenLnBwdRefIdeal.nD Cert.EvenLnBwdRefIdeal.τ).loc Cert.EvenLnBwdRefIdeal.main_arg0)) (m ((c.tc : Thread Cert.EvenLnBwdRefIdeal.nD Cert.EvenLnBwdRefIdeal.τ).loc Cert.EvenLnBwdRefIdeal.main_arg1)) (m ((c.tc : Thread Cert.EvenLnBwdRefIdeal.nD Cert.EvenLnBwdRefIdeal.τ).loc Cert.EvenLnBwdRefIdeal.main_arg2)) (m ((c.tc : Thread Cert.EvenLnBwdRefIdeal.nD Cert.EvenLnBwdRefIdeal.τ).loc Cert.EvenLnBwdRefIdeal.main_arg3))).2.2.1 = (fun _ => 1#1)
    ∧ (Cert.Pre_ln_finite.fn (F := Ideal) (m ((c.tc : Thread Cert.EvenLnBwdRefIdeal.nD Cert.EvenLnBwdRefIdeal.τ).loc Cert.EvenLnBwdRefIdeal.main_arg0)) (m ((c.tc : Thread Cert.EvenLnBwdRefIdeal.nD Cert.EvenLnBwdRefIdeal.τ).loc Cert.EvenLnBwdRefIdeal.main_arg1)) (m ((c.tc : Thread Cert.EvenLnBwdRefIdeal.nD Cert.EvenLnBwdRefIdeal.τ).loc Cert.EvenLnBwdRefIdeal.main_arg2)) (m ((c.tc : Thread Cert.EvenLnBwdRefIdeal.nD Cert.EvenLnBwdRefIdeal.τ).loc Cert.EvenLnBwdRefIdeal.main_arg3))).2.2.2 = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_DownEnd [hDownEnd : Cert.DownEnd.Facts] : Prop :=
  ∀ (m : (ℓ : Loc Cert.DownEnd.nD Cert.DownEnd.τ Cert.DownEnd.sig) → Buf (Elt Bits) ℓ) (g : Dev Cert.DownEnd.nD → PrngReg), Pre_DownEnd m →
    θ_run (Cert.DownEnd.defs (F := Bits)) (onTc (τ := Cert.DownEnd.τ) (Cert.DownEnd.main (F := Bits))) ⟨m, fun _ => 0, g⟩ (fun r => (∀ c : Dev Cert.DownEnd.nD,
      r.2.mem ((c.tc : Thread Cert.DownEnd.nD Cert.DownEnd.τ).loc Cert.DownEnd.main_arg0) = m ((c.tc : Thread Cert.DownEnd.nD Cert.DownEnd.τ).loc Cert.DownEnd.main_arg0)
      ∧ r.2.mem ((c.tc : Thread Cert.DownEnd.nD Cert.DownEnd.τ).loc Cert.DownEnd.main_arg1) = m ((c.tc : Thread Cert.DownEnd.nD Cert.DownEnd.τ).loc Cert.DownEnd.main_arg1)
      ∧ r.2.mem ((c.tc : Thread Cert.DownEnd.nD Cert.DownEnd.τ).loc Cert.DownEnd.main_arg2) = m ((c.tc : Thread Cert.DownEnd.nD Cert.DownEnd.τ).loc Cert.DownEnd.main_arg2))
      ∧ r.2.sem = fun _ => 0)

def quiescent_DownEndIdeal [hDownEndIdeal : Cert.DownEndIdeal.Facts] : Prop :=
  ∀ (m : (ℓ : Loc Cert.DownEndIdeal.nD Cert.DownEndIdeal.τ Cert.DownEndIdeal.sig) → Buf (Elt Ideal) ℓ) (g : Dev Cert.DownEndIdeal.nD → PrngReg), Pre_DownEndIdeal m →
    θ_run (Cert.DownEndIdeal.defs (F := Ideal)) (onTc (τ := Cert.DownEndIdeal.τ) (Cert.DownEndIdeal.main (F := Ideal))) ⟨m, fun _ => 0, g⟩ (fun r => (∀ c : Dev Cert.DownEndIdeal.nD,
      r.2.mem ((c.tc : Thread Cert.DownEndIdeal.nD Cert.DownEndIdeal.τ).loc Cert.DownEndIdeal.main_arg0) = m ((c.tc : Thread Cert.DownEndIdeal.nD Cert.DownEndIdeal.τ).loc Cert.DownEndIdeal.main_arg0)
      ∧ r.2.mem ((c.tc : Thread Cert.DownEndIdeal.nD Cert.DownEndIdeal.τ).loc Cert.DownEndIdeal.main_arg1) = m ((c.tc : Thread Cert.DownEndIdeal.nD Cert.DownEndIdeal.τ).loc Cert.DownEndIdeal.main_arg1)
      ∧ r.2.mem ((c.tc : Thread Cert.DownEndIdeal.nD Cert.DownEndIdeal.τ).loc Cert.DownEndIdeal.main_arg2) = m ((c.tc : Thread Cert.DownEndIdeal.nD Cert.DownEndIdeal.τ).loc Cert.DownEndIdeal.main_arg2))
      ∧ r.2.sem = fun _ => 0)

def quiescent_DownEndRefIdeal [hDownEndRefIdeal : Cert.DownEndRefIdeal.Facts] : Prop :=
  ∀ (m : (ℓ : Loc Cert.DownEndRefIdeal.nD Cert.DownEndRefIdeal.τ Cert.DownEndRefIdeal.sig) → Buf (Elt Ideal) ℓ) (g : Dev Cert.DownEndRefIdeal.nD → PrngReg), Pre_DownEndRefIdeal m →
    θ_run (Cert.DownEndRefIdeal.defs (F := Ideal)) (onTc (τ := Cert.DownEndRefIdeal.τ) (Cert.DownEndRefIdeal.main (F := Ideal))) ⟨m, fun _ => 0, g⟩ (fun r => (∀ c : Dev Cert.DownEndRefIdeal.nD,
      r.2.mem ((c.tc : Thread Cert.DownEndRefIdeal.nD Cert.DownEndRefIdeal.τ).loc Cert.DownEndRefIdeal.main_arg0) = m ((c.tc : Thread Cert.DownEndRefIdeal.nD Cert.DownEndRefIdeal.τ).loc Cert.DownEndRefIdeal.main_arg0)
      ∧ r.2.mem ((c.tc : Thread Cert.DownEndRefIdeal.nD Cert.DownEndRefIdeal.τ).loc Cert.DownEndRefIdeal.main_arg1) = m ((c.tc : Thread Cert.DownEndRefIdeal.nD Cert.DownEndRefIdeal.τ).loc Cert.DownEndRefIdeal.main_arg1)
      ∧ r.2.mem ((c.tc : Thread Cert.DownEndRefIdeal.nD Cert.DownEndRefIdeal.τ).loc Cert.DownEndRefIdeal.main_arg2) = m ((c.tc : Thread Cert.DownEndRefIdeal.nD Cert.DownEndRefIdeal.τ).loc Cert.DownEndRefIdeal.main_arg2))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdRefIdeal [hRmsBwdRefIdeal : Cert.RmsBwdRefIdeal.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23)
      ∧ r.2.mem ((c.tc : Thread Cert.AdamSmall.nD Cert.AdamSmall.τ).loc Cert.AdamSmall.main_arg24) = m ((c.tc : Thread Cert.AdamSmall.nD Cert.AdamSmall.τ).loc Cert.AdamSmall.main_arg24)
      ∧ r.2.mem ((c.tc : Thread Cert.AdamSmall.nD Cert.AdamSmall.τ).loc Cert.AdamSmall.main_arg25) = m ((c.tc : Thread Cert.AdamSmall.nD Cert.AdamSmall.τ).loc Cert.AdamSmall.main_arg25)
      ∧ r.2.mem ((c.tc : Thread Cert.AdamSmall.nD Cert.AdamSmall.τ).loc Cert.AdamSmall.main_arg26) = m ((c.tc : Thread Cert.AdamSmall.nD Cert.AdamSmall.τ).loc Cert.AdamSmall.main_arg26)
      ∧ r.2.mem ((c.tc : Thread Cert.AdamSmall.nD Cert.AdamSmall.τ).loc Cert.AdamSmall.main_arg27) = m ((c.tc : Thread Cert.AdamSmall.nD Cert.AdamSmall.τ).loc Cert.AdamSmall.main_arg27)
      ∧ r.2.mem ((c.tc : Thread Cert.AdamSmall.nD Cert.AdamSmall.τ).loc Cert.AdamSmall.main_arg28) = m ((c.tc : Thread Cert.AdamSmall.nD Cert.AdamSmall.τ).loc Cert.AdamSmall.main_arg28)
      ∧ r.2.mem ((c.tc : Thread Cert.AdamSmall.nD Cert.AdamSmall.τ).loc Cert.AdamSmall.main_arg29) = m ((c.tc : Thread Cert.AdamSmall.nD Cert.AdamSmall.τ).loc Cert.AdamSmall.main_arg29)
      ∧ r.2.mem ((c.tc : Thread Cert.AdamSmall.nD Cert.AdamSmall.τ).loc Cert.AdamSmall.main_arg30) = m ((c.tc : Thread Cert.AdamSmall.nD Cert.AdamSmall.τ).loc Cert.AdamSmall.main_arg30)
      ∧ r.2.mem ((c.tc : Thread Cert.AdamSmall.nD Cert.AdamSmall.τ).loc Cert.AdamSmall.main_arg31) = m ((c.tc : Thread Cert.AdamSmall.nD Cert.AdamSmall.τ).loc Cert.AdamSmall.main_arg31)
      ∧ r.2.mem ((c.tc : Thread Cert.AdamSmall.nD Cert.AdamSmall.τ).loc Cert.AdamSmall.main_arg32) = m ((c.tc : Thread Cert.AdamSmall.nD Cert.AdamSmall.τ).loc Cert.AdamSmall.main_arg32)
      ∧ r.2.mem ((c.tc : Thread Cert.AdamSmall.nD Cert.AdamSmall.τ).loc Cert.AdamSmall.main_arg33) = m ((c.tc : Thread Cert.AdamSmall.nD Cert.AdamSmall.τ).loc Cert.AdamSmall.main_arg33)
      ∧ r.2.mem ((c.tc : Thread Cert.AdamSmall.nD Cert.AdamSmall.τ).loc Cert.AdamSmall.main_arg34) = m ((c.tc : Thread Cert.AdamSmall.nD Cert.AdamSmall.τ).loc Cert.AdamSmall.main_arg34)
      ∧ r.2.mem ((c.tc : Thread Cert.AdamSmall.nD Cert.AdamSmall.τ).loc Cert.AdamSmall.main_arg35) = m ((c.tc : Thread Cert.AdamSmall.nD Cert.AdamSmall.τ).loc Cert.AdamSmall.main_arg35)
      ∧ r.2.mem ((c.tc : Thread Cert.AdamSmall.nD Cert.AdamSmall.τ).loc Cert.AdamSmall.main_arg36) = m ((c.tc : Thread Cert.AdamSmall.nD Cert.AdamSmall.τ).loc Cert.AdamSmall.main_arg36)
      ∧ r.2.mem ((c.tc : Thread Cert.AdamSmall.nD Cert.AdamSmall.τ).loc Cert.AdamSmall.main_arg37) = m ((c.tc : Thread Cert.AdamSmall.nD Cert.AdamSmall.τ).loc Cert.AdamSmall.main_arg37)
      ∧ r.2.mem ((c.tc : Thread Cert.AdamSmall.nD Cert.AdamSmall.τ).loc Cert.AdamSmall.main_arg38) = m ((c.tc : Thread Cert.AdamSmall.nD Cert.AdamSmall.τ).loc Cert.AdamSmall.main_arg38)
      ∧ r.2.mem ((c.tc : Thread Cert.AdamSmall.nD Cert.AdamSmall.τ).loc Cert.AdamSmall.main_arg39) = m ((c.tc : Thread Cert.AdamSmall.nD Cert.AdamSmall.τ).loc Cert.AdamSmall.main_arg39)
      ∧ r.2.mem ((c.tc : Thread Cert.AdamSmall.nD Cert.AdamSmall.τ).loc Cert.AdamSmall.main_arg40) = m ((c.tc : Thread Cert.AdamSmall.nD Cert.AdamSmall.τ).loc Cert.AdamSmall.main_arg40)
      ∧ r.2.mem ((c.tc : Thread Cert.AdamSmall.nD Cert.AdamSmall.τ).loc Cert.AdamSmall.main_arg41) = m ((c.tc : Thread Cert.AdamSmall.nD Cert.AdamSmall.τ).loc Cert.AdamSmall.main_arg41)
      ∧ r.2.mem ((c.tc : Thread Cert.AdamSmall.nD Cert.AdamSmall.τ).loc Cert.AdamSmall.main_arg42) = m ((c.tc : Thread Cert.AdamSmall.nD Cert.AdamSmall.τ).loc Cert.AdamSmall.main_arg42)
      ∧ r.2.mem ((c.tc : Thread Cert.AdamSmall.nD Cert.AdamSmall.τ).loc Cert.AdamSmall.main_arg43) = m ((c.tc : Thread Cert.AdamSmall.nD Cert.AdamSmall.τ).loc Cert.AdamSmall.main_arg43)
      ∧ r.2.mem ((c.tc : Thread Cert.AdamSmall.nD Cert.AdamSmall.τ).loc Cert.AdamSmall.main_arg44) = m ((c.tc : Thread Cert.AdamSmall.nD Cert.AdamSmall.τ).loc Cert.AdamSmall.main_arg44)
      ∧ r.2.mem ((c.tc : Thread Cert.AdamSmall.nD Cert.AdamSmall.τ).loc Cert.AdamSmall.main_arg45) = m ((c.tc : Thread Cert.AdamSmall.nD Cert.AdamSmall.τ).loc Cert.AdamSmall.main_arg45)
      ∧ r.2.mem ((c.tc : Thread Cert.AdamSmall.nD Cert.AdamSmall.τ).loc Cert.AdamSmall.main_arg46) = m ((c.tc : Thread Cert.AdamSmall.nD Cert.AdamSmall.τ).loc Cert.AdamSmall.main_arg46)
      ∧ r.2.mem ((c.tc : Thread Cert.AdamSmall.nD Cert.AdamSmall.τ).loc Cert.AdamSmall.main_arg47) = m ((c.tc : Thread Cert.AdamSmall.nD Cert.AdamSmall.τ).loc Cert.AdamSmall.main_arg47)
      ∧ r.2.mem ((c.tc : Thread Cert.AdamSmall.nD Cert.AdamSmall.τ).loc Cert.AdamSmall.main_arg48) = m ((c.tc : Thread Cert.AdamSmall.nD Cert.AdamSmall.τ).loc Cert.AdamSmall.main_arg48)
      ∧ r.2.mem ((c.tc : Thread Cert.AdamSmall.nD Cert.AdamSmall.τ).loc Cert.AdamSmall.main_arg49) = m ((c.tc : Thread Cert.AdamSmall.nD Cert.AdamSmall.τ).loc Cert.AdamSmall.main_arg49)
      ∧ r.2.mem ((c.tc : Thread Cert.AdamSmall.nD Cert.AdamSmall.τ).loc Cert.AdamSmall.main_arg50) = m ((c.tc : Thread Cert.AdamSmall.nD Cert.AdamSmall.τ).loc Cert.AdamSmall.main_arg50)
      ∧ r.2.mem ((c.tc : Thread Cert.AdamSmall.nD Cert.AdamSmall.τ).loc Cert.AdamSmall.main_arg51) = m ((c.tc : Thread Cert.AdamSmall.nD Cert.AdamSmall.τ).loc Cert.AdamSmall.main_arg51)
      ∧ r.2.mem ((c.tc : Thread Cert.AdamSmall.nD Cert.AdamSmall.τ).loc Cert.AdamSmall.main_arg52) = m ((c.tc : Thread Cert.AdamSmall.nD Cert.AdamSmall.τ).loc Cert.AdamSmall.main_arg52)
      ∧ r.2.mem ((c.tc : Thread Cert.AdamSmall.nD Cert.AdamSmall.τ).loc Cert.AdamSmall.main_arg53) = m ((c.tc : Thread Cert.AdamSmall.nD Cert.AdamSmall.τ).loc Cert.AdamSmall.main_arg53)
      ∧ r.2.mem ((c.tc : Thread Cert.AdamSmall.nD Cert.AdamSmall.τ).loc Cert.AdamSmall.main_arg54) = m ((c.tc : Thread Cert.AdamSmall.nD Cert.AdamSmall.τ).loc Cert.AdamSmall.main_arg54)
      ∧ r.2.mem ((c.tc : Thread Cert.AdamSmall.nD Cert.AdamSmall.τ).loc Cert.AdamSmall.main_arg55) = m ((c.tc : Thread Cert.AdamSmall.nD Cert.AdamSmall.τ).loc Cert.AdamSmall.main_arg55)
      ∧ r.2.mem ((c.tc : Thread Cert.AdamSmall.nD Cert.AdamSmall.τ).loc Cert.AdamSmall.main_arg56) = m ((c.tc : Thread Cert.AdamSmall.nD Cert.AdamSmall.τ).loc Cert.AdamSmall.main_arg56)
      ∧ r.2.mem ((c.tc : Thread Cert.AdamSmall.nD Cert.AdamSmall.τ).loc Cert.AdamSmall.main_arg57) = m ((c.tc : Thread Cert.AdamSmall.nD Cert.AdamSmall.τ).loc Cert.AdamSmall.main_arg57)
      ∧ r.2.mem ((c.tc : Thread Cert.AdamSmall.nD Cert.AdamSmall.τ).loc Cert.AdamSmall.main_arg58) = m ((c.tc : Thread Cert.AdamSmall.nD Cert.AdamSmall.τ).loc Cert.AdamSmall.main_arg58)
      ∧ r.2.mem ((c.tc : Thread Cert.AdamSmall.nD Cert.AdamSmall.τ).loc Cert.AdamSmall.main_arg59) = m ((c.tc : Thread Cert.AdamSmall.nD Cert.AdamSmall.τ).loc Cert.AdamSmall.main_arg59)
      ∧ r.2.mem ((c.tc : Thread Cert.AdamSmall.nD Cert.AdamSmall.τ).loc Cert.AdamSmall.main_arg60) = m ((c.tc : Thread Cert.AdamSmall.nD Cert.AdamSmall.τ).loc Cert.AdamSmall.main_arg60)
      ∧ r.2.mem ((c.tc : Thread Cert.AdamSmall.nD Cert.AdamSmall.τ).loc Cert.AdamSmall.main_arg61) = m ((c.tc : Thread Cert.AdamSmall.nD Cert.AdamSmall.τ).loc Cert.AdamSmall.main_arg61)
      ∧ r.2.mem ((c.tc : Thread Cert.AdamSmall.nD Cert.AdamSmall.τ).loc Cert.AdamSmall.main_arg62) = m ((c.tc : Thread Cert.AdamSmall.nD Cert.AdamSmall.τ).loc Cert.AdamSmall.main_arg62)
      ∧ r.2.mem ((c.tc : Thread Cert.AdamSmall.nD Cert.AdamSmall.τ).loc Cert.AdamSmall.main_arg63) = m ((c.tc : Thread Cert.AdamSmall.nD Cert.AdamSmall.τ).loc Cert.AdamSmall.main_arg63)
      ∧ r.2.mem ((c.tc : Thread Cert.AdamSmall.nD Cert.AdamSmall.τ).loc Cert.AdamSmall.main_arg64) = m ((c.tc : Thread Cert.AdamSmall.nD Cert.AdamSmall.τ).loc Cert.AdamSmall.main_arg64)
      ∧ r.2.mem ((c.tc : Thread Cert.AdamSmall.nD Cert.AdamSmall.τ).loc Cert.AdamSmall.main_arg65) = m ((c.tc : Thread Cert.AdamSmall.nD Cert.AdamSmall.τ).loc Cert.AdamSmall.main_arg65)
      ∧ r.2.mem ((c.tc : Thread Cert.AdamSmall.nD Cert.AdamSmall.τ).loc Cert.AdamSmall.main_arg66) = m ((c.tc : Thread Cert.AdamSmall.nD Cert.AdamSmall.τ).loc Cert.AdamSmall.main_arg66)
      ∧ r.2.mem ((c.tc : Thread Cert.AdamSmall.nD Cert.AdamSmall.τ).loc Cert.AdamSmall.main_arg67) = m ((c.tc : Thread Cert.AdamSmall.nD Cert.AdamSmall.τ).loc Cert.AdamSmall.main_arg67)
      ∧ r.2.mem ((c.tc : Thread Cert.AdamSmall.nD Cert.AdamSmall.τ).loc Cert.AdamSmall.main_arg68) = m ((c.tc : Thread Cert.AdamSmall.nD Cert.AdamSmall.τ).loc Cert.AdamSmall.main_arg68)
      ∧ r.2.mem ((c.tc : Thread Cert.AdamSmall.nD Cert.AdamSmall.τ).loc Cert.AdamSmall.main_arg69) = m ((c.tc : Thread Cert.AdamSmall.nD Cert.AdamSmall.τ).loc Cert.AdamSmall.main_arg69)
      ∧ r.2.mem ((c.tc : Thread Cert.AdamSmall.nD Cert.AdamSmall.τ).loc Cert.AdamSmall.main_arg70) = m ((c.tc : Thread Cert.AdamSmall.nD Cert.AdamSmall.τ).loc Cert.AdamSmall.main_arg70)
      ∧ r.2.mem ((c.tc : Thread Cert.AdamSmall.nD Cert.AdamSmall.τ).loc Cert.AdamSmall.main_arg71) = m ((c.tc : Thread Cert.AdamSmall.nD Cert.AdamSmall.τ).loc Cert.AdamSmall.main_arg71)
      ∧ r.2.mem ((c.tc : Thread Cert.AdamSmall.nD Cert.AdamSmall.τ).loc Cert.AdamSmall.main_arg72) = m ((c.tc : Thread Cert.AdamSmall.nD Cert.AdamSmall.τ).loc Cert.AdamSmall.main_arg72)
      ∧ r.2.mem ((c.tc : Thread Cert.AdamSmall.nD Cert.AdamSmall.τ).loc Cert.AdamSmall.main_arg73) = m ((c.tc : Thread Cert.AdamSmall.nD Cert.AdamSmall.τ).loc Cert.AdamSmall.main_arg73)
      ∧ r.2.mem ((c.tc : Thread Cert.AdamSmall.nD Cert.AdamSmall.τ).loc Cert.AdamSmall.main_arg74) = m ((c.tc : Thread Cert.AdamSmall.nD Cert.AdamSmall.τ).loc Cert.AdamSmall.main_arg74)
      ∧ r.2.mem ((c.tc : Thread Cert.AdamSmall.nD Cert.AdamSmall.τ).loc Cert.AdamSmall.main_arg75) = m ((c.tc : Thread Cert.AdamSmall.nD Cert.AdamSmall.τ).loc Cert.AdamSmall.main_arg75)
      ∧ r.2.mem ((c.tc : Thread Cert.AdamSmall.nD Cert.AdamSmall.τ).loc Cert.AdamSmall.main_arg76) = m ((c.tc : Thread Cert.AdamSmall.nD Cert.AdamSmall.τ).loc Cert.AdamSmall.main_arg76)
      ∧ r.2.mem ((c.tc : Thread Cert.AdamSmall.nD Cert.AdamSmall.τ).loc Cert.AdamSmall.main_arg77) = m ((c.tc : Thread Cert.AdamSmall.nD Cert.AdamSmall.τ).loc Cert.AdamSmall.main_arg77)
      ∧ r.2.mem ((c.tc : Thread Cert.AdamSmall.nD Cert.AdamSmall.τ).loc Cert.AdamSmall.main_arg78) = m ((c.tc : Thread Cert.AdamSmall.nD Cert.AdamSmall.τ).loc Cert.AdamSmall.main_arg78)
      ∧ r.2.mem ((c.tc : Thread Cert.AdamSmall.nD Cert.AdamSmall.τ).loc Cert.AdamSmall.main_arg79) = m ((c.tc : Thread Cert.AdamSmall.nD Cert.AdamSmall.τ).loc Cert.AdamSmall.main_arg79)
      ∧ r.2.mem ((c.tc : Thread Cert.AdamSmall.nD Cert.AdamSmall.τ).loc Cert.AdamSmall.main_arg80) = m ((c.tc : Thread Cert.AdamSmall.nD Cert.AdamSmall.τ).loc Cert.AdamSmall.main_arg80)
      ∧ r.2.mem ((c.tc : Thread Cert.AdamSmall.nD Cert.AdamSmall.τ).loc Cert.AdamSmall.main_arg81) = m ((c.tc : Thread Cert.AdamSmall.nD Cert.AdamSmall.τ).loc Cert.AdamSmall.main_arg81)
      ∧ r.2.mem ((c.tc : Thread Cert.AdamSmall.nD Cert.AdamSmall.τ).loc Cert.AdamSmall.main_arg82) = m ((c.tc : Thread Cert.AdamSmall.nD Cert.AdamSmall.τ).loc Cert.AdamSmall.main_arg82)
      ∧ r.2.mem ((c.tc : Thread Cert.AdamSmall.nD Cert.AdamSmall.τ).loc Cert.AdamSmall.main_arg83) = m ((c.tc : Thread Cert.AdamSmall.nD Cert.AdamSmall.τ).loc Cert.AdamSmall.main_arg83)
      ∧ r.2.mem ((c.tc : Thread Cert.AdamSmall.nD Cert.AdamSmall.τ).loc Cert.AdamSmall.main_arg84) = m ((c.tc : Thread Cert.AdamSmall.nD Cert.AdamSmall.τ).loc Cert.AdamSmall.main_arg84)
      ∧ r.2.mem ((c.tc : Thread Cert.AdamSmall.nD Cert.AdamSmall.τ).loc Cert.AdamSmall.main_arg85) = m ((c.tc : Thread Cert.AdamSmall.nD Cert.AdamSmall.τ).loc Cert.AdamSmall.main_arg85)
      ∧ r.2.mem ((c.tc : Thread Cert.AdamSmall.nD Cert.AdamSmall.τ).loc Cert.AdamSmall.main_arg86) = m ((c.tc : Thread Cert.AdamSmall.nD Cert.AdamSmall.τ).loc Cert.AdamSmall.main_arg86)
      ∧ r.2.mem ((c.tc : Thread Cert.AdamSmall.nD Cert.AdamSmall.τ).loc Cert.AdamSmall.main_arg87) = m ((c.tc : Thread Cert.AdamSmall.nD Cert.AdamSmall.τ).loc Cert.AdamSmall.main_arg87))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
      ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
      ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
      ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
      ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
      ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
      ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
      ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
      ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
      ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
      ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
      ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
      ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
      ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
      ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
      ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
      ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39)
      ∧ r.2.mem ((c.tc : Thread Cert.AdamSmallIdeal.nD Cert.AdamSmallIdeal.τ).loc Cert.AdamSmallIdeal.main_arg40) = m ((c.tc : Thread Cert.AdamSmallIdeal.nD Cert.AdamSmallIdeal.τ).loc Cert.AdamSmallIdeal.main_arg40)
      ∧ r.2.mem ((c.tc : Thread Cert.AdamSmallIdeal.nD Cert.AdamSmallIdeal.τ).loc Cert.AdamSmallIdeal.main_arg41) = m ((c.tc : Thread Cert.AdamSmallIdeal.nD Cert.AdamSmallIdeal.τ).loc Cert.AdamSmallIdeal.main_arg41)
      ∧ r.2.mem ((c.tc : Thread Cert.AdamSmallIdeal.nD Cert.AdamSmallIdeal.τ).loc Cert.AdamSmallIdeal.main_arg42) = m ((c.tc : Thread Cert.AdamSmallIdeal.nD Cert.AdamSmallIdeal.τ).loc Cert.AdamSmallIdeal.main_arg42)
      ∧ r.2.mem ((c.tc : Thread Cert.AdamSmallIdeal.nD Cert.AdamSmallIdeal.τ).loc Cert.AdamSmallIdeal.main_arg43) = m ((c.tc : Thread Cert.AdamSmallIdeal.nD Cert.AdamSmallIdeal.τ).loc Cert.AdamSmallIdeal.main_arg43)
      ∧ r.2.mem ((c.tc : Thread Cert.AdamSmallIdeal.nD Cert.AdamSmallIdeal.τ).loc Cert.AdamSmallIdeal.main_arg44) = m ((c.tc : Thread Cert.AdamSmallIdeal.nD Cert.AdamSmallIdeal.τ).loc Cert.AdamSmallIdeal.main_arg44)
      ∧ r.2.mem ((c.tc : Thread Cert.AdamSmallIdeal.nD Cert.AdamSmallIdeal.τ).loc Cert.AdamSmallIdeal.main_arg45) = m ((c.tc : Thread Cert.AdamSmallIdeal.nD Cert.AdamSmallIdeal.τ).loc Cert.AdamSmallIdeal.main_arg45)
      ∧ r.2.mem ((c.tc : Thread Cert.AdamSmallIdeal.nD Cert.AdamSmallIdeal.τ).loc Cert.AdamSmallIdeal.main_arg46) = m ((c.tc : Thread Cert.AdamSmallIdeal.nD Cert.AdamSmallIdeal.τ).loc Cert.AdamSmallIdeal.main_arg46)
      ∧ r.2.mem ((c.tc : Thread Cert.AdamSmallIdeal.nD Cert.AdamSmallIdeal.τ).loc Cert.AdamSmallIdeal.main_arg47) = m ((c.tc : Thread Cert.AdamSmallIdeal.nD Cert.AdamSmallIdeal.τ).loc Cert.AdamSmallIdeal.main_arg47)
      ∧ r.2.mem ((c.tc : Thread Cert.AdamSmallIdeal.nD Cert.AdamSmallIdeal.τ).loc Cert.AdamSmallIdeal.main_arg48) = m ((c.tc : Thread Cert.AdamSmallIdeal.nD Cert.AdamSmallIdeal.τ).loc Cert.AdamSmallIdeal.main_arg48)
      ∧ r.2.mem ((c.tc : Thread Cert.AdamSmallIdeal.nD Cert.AdamSmallIdeal.τ).loc Cert.AdamSmallIdeal.main_arg49) = m ((c.tc : Thread Cert.AdamSmallIdeal.nD Cert.AdamSmallIdeal.τ).loc Cert.AdamSmallIdeal.main_arg49)
      ∧ r.2.mem ((c.tc : Thread Cert.AdamSmallIdeal.nD Cert.AdamSmallIdeal.τ).loc Cert.AdamSmallIdeal.main_arg50) = m ((c.tc : Thread Cert.AdamSmallIdeal.nD Cert.AdamSmallIdeal.τ).loc Cert.AdamSmallIdeal.main_arg50)
      ∧ r.2.mem ((c.tc : Thread Cert.AdamSmallIdeal.nD Cert.AdamSmallIdeal.τ).loc Cert.AdamSmallIdeal.main_arg51) = m ((c.tc : Thread Cert.AdamSmallIdeal.nD Cert.AdamSmallIdeal.τ).loc Cert.AdamSmallIdeal.main_arg51)
      ∧ r.2.mem ((c.tc : Thread Cert.AdamSmallIdeal.nD Cert.AdamSmallIdeal.τ).loc Cert.AdamSmallIdeal.main_arg52) = m ((c.tc : Thread Cert.AdamSmallIdeal.nD Cert.AdamSmallIdeal.τ).loc Cert.AdamSmallIdeal.main_arg52)
      ∧ r.2.mem ((c.tc : Thread Cert.AdamSmallIdeal.nD Cert.AdamSmallIdeal.τ).loc Cert.AdamSmallIdeal.main_arg53) = m ((c.tc : Thread Cert.AdamSmallIdeal.nD Cert.AdamSmallIdeal.τ).loc Cert.AdamSmallIdeal.main_arg53)
      ∧ r.2.mem ((c.tc : Thread Cert.AdamSmallIdeal.nD Cert.AdamSmallIdeal.τ).loc Cert.AdamSmallIdeal.main_arg54) = m ((c.tc : Thread Cert.AdamSmallIdeal.nD Cert.AdamSmallIdeal.τ).loc Cert.AdamSmallIdeal.main_arg54)
      ∧ r.2.mem ((c.tc : Thread Cert.AdamSmallIdeal.nD Cert.AdamSmallIdeal.τ).loc Cert.AdamSmallIdeal.main_arg55) = m ((c.tc : Thread Cert.AdamSmallIdeal.nD Cert.AdamSmallIdeal.τ).loc Cert.AdamSmallIdeal.main_arg55)
      ∧ r.2.mem ((c.tc : Thread Cert.AdamSmallIdeal.nD Cert.AdamSmallIdeal.τ).loc Cert.AdamSmallIdeal.main_arg56) = m ((c.tc : Thread Cert.AdamSmallIdeal.nD Cert.AdamSmallIdeal.τ).loc Cert.AdamSmallIdeal.main_arg56)
      ∧ r.2.mem ((c.tc : Thread Cert.AdamSmallIdeal.nD Cert.AdamSmallIdeal.τ).loc Cert.AdamSmallIdeal.main_arg57) = m ((c.tc : Thread Cert.AdamSmallIdeal.nD Cert.AdamSmallIdeal.τ).loc Cert.AdamSmallIdeal.main_arg57)
      ∧ r.2.mem ((c.tc : Thread Cert.AdamSmallIdeal.nD Cert.AdamSmallIdeal.τ).loc Cert.AdamSmallIdeal.main_arg58) = m ((c.tc : Thread Cert.AdamSmallIdeal.nD Cert.AdamSmallIdeal.τ).loc Cert.AdamSmallIdeal.main_arg58)
      ∧ r.2.mem ((c.tc : Thread Cert.AdamSmallIdeal.nD Cert.AdamSmallIdeal.τ).loc Cert.AdamSmallIdeal.main_arg59) = m ((c.tc : Thread Cert.AdamSmallIdeal.nD Cert.AdamSmallIdeal.τ).loc Cert.AdamSmallIdeal.main_arg59)
      ∧ r.2.mem ((c.tc : Thread Cert.AdamSmallIdeal.nD Cert.AdamSmallIdeal.τ).loc Cert.AdamSmallIdeal.main_arg60) = m ((c.tc : Thread Cert.AdamSmallIdeal.nD Cert.AdamSmallIdeal.τ).loc Cert.AdamSmallIdeal.main_arg60)
      ∧ r.2.mem ((c.tc : Thread Cert.AdamSmallIdeal.nD Cert.AdamSmallIdeal.τ).loc Cert.AdamSmallIdeal.main_arg61) = m ((c.tc : Thread Cert.AdamSmallIdeal.nD Cert.AdamSmallIdeal.τ).loc Cert.AdamSmallIdeal.main_arg61)
      ∧ r.2.mem ((c.tc : Thread Cert.AdamSmallIdeal.nD Cert.AdamSmallIdeal.τ).loc Cert.AdamSmallIdeal.main_arg62) = m ((c.tc : Thread Cert.AdamSmallIdeal.nD Cert.AdamSmallIdeal.τ).loc Cert.AdamSmallIdeal.main_arg62)
      ∧ r.2.mem ((c.tc : Thread Cert.AdamSmallIdeal.nD Cert.AdamSmallIdeal.τ).loc Cert.AdamSmallIdeal.main_arg63) = m ((c.tc : Thread Cert.AdamSmallIdeal.nD Cert.AdamSmallIdeal.τ).loc Cert.AdamSmallIdeal.main_arg63)
      ∧ r.2.mem ((c.tc : Thread Cert.AdamSmallIdeal.nD Cert.AdamSmallIdeal.τ).loc Cert.AdamSmallIdeal.main_arg64) = m ((c.tc : Thread Cert.AdamSmallIdeal.nD Cert.AdamSmallIdeal.τ).loc Cert.AdamSmallIdeal.main_arg64)
      ∧ r.2.mem ((c.tc : Thread Cert.AdamSmallIdeal.nD Cert.AdamSmallIdeal.τ).loc Cert.AdamSmallIdeal.main_arg65) = m ((c.tc : Thread Cert.AdamSmallIdeal.nD Cert.AdamSmallIdeal.τ).loc Cert.AdamSmallIdeal.main_arg65)
      ∧ r.2.mem ((c.tc : Thread Cert.AdamSmallIdeal.nD Cert.AdamSmallIdeal.τ).loc Cert.AdamSmallIdeal.main_arg66) = m ((c.tc : Thread Cert.AdamSmallIdeal.nD Cert.AdamSmallIdeal.τ).loc Cert.AdamSmallIdeal.main_arg66)
      ∧ r.2.mem ((c.tc : Thread Cert.AdamSmallIdeal.nD Cert.AdamSmallIdeal.τ).loc Cert.AdamSmallIdeal.main_arg67) = m ((c.tc : Thread Cert.AdamSmallIdeal.nD Cert.AdamSmallIdeal.τ).loc Cert.AdamSmallIdeal.main_arg67)
      ∧ r.2.mem ((c.tc : Thread Cert.AdamSmallIdeal.nD Cert.AdamSmallIdeal.τ).loc Cert.AdamSmallIdeal.main_arg68) = m ((c.tc : Thread Cert.AdamSmallIdeal.nD Cert.AdamSmallIdeal.τ).loc Cert.AdamSmallIdeal.main_arg68)
      ∧ r.2.mem ((c.tc : Thread Cert.AdamSmallIdeal.nD Cert.AdamSmallIdeal.τ).loc Cert.AdamSmallIdeal.main_arg69) = m ((c.tc : Thread Cert.AdamSmallIdeal.nD Cert.AdamSmallIdeal.τ).loc Cert.AdamSmallIdeal.main_arg69)
      ∧ r.2.mem ((c.tc : Thread Cert.AdamSmallIdeal.nD Cert.AdamSmallIdeal.τ).loc Cert.AdamSmallIdeal.main_arg70) = m ((c.tc : Thread Cert.AdamSmallIdeal.nD Cert.AdamSmallIdeal.τ).loc Cert.AdamSmallIdeal.main_arg70)
      ∧ r.2.mem ((c.tc : Thread Cert.AdamSmallIdeal.nD Cert.AdamSmallIdeal.τ).loc Cert.AdamSmallIdeal.main_arg71) = m ((c.tc : Thread Cert.AdamSmallIdeal.nD Cert.AdamSmallIdeal.τ).loc Cert.AdamSmallIdeal.main_arg71)
      ∧ r.2.mem ((c.tc : Thread Cert.AdamSmallIdeal.nD Cert.AdamSmallIdeal.τ).loc Cert.AdamSmallIdeal.main_arg72) = m ((c.tc : Thread Cert.AdamSmallIdeal.nD Cert.AdamSmallIdeal.τ).loc Cert.AdamSmallIdeal.main_arg72)
      ∧ r.2.mem ((c.tc : Thread Cert.AdamSmallIdeal.nD Cert.AdamSmallIdeal.τ).loc Cert.AdamSmallIdeal.main_arg73) = m ((c.tc : Thread Cert.AdamSmallIdeal.nD Cert.AdamSmallIdeal.τ).loc Cert.AdamSmallIdeal.main_arg73)
      ∧ r.2.mem ((c.tc : Thread Cert.AdamSmallIdeal.nD Cert.AdamSmallIdeal.τ).loc Cert.AdamSmallIdeal.main_arg74) = m ((c.tc : Thread Cert.AdamSmallIdeal.nD Cert.AdamSmallIdeal.τ).loc Cert.AdamSmallIdeal.main_arg74)
      ∧ r.2.mem ((c.tc : Thread Cert.AdamSmallIdeal.nD Cert.AdamSmallIdeal.τ).loc Cert.AdamSmallIdeal.main_arg75) = m ((c.tc : Thread Cert.AdamSmallIdeal.nD Cert.AdamSmallIdeal.τ).loc Cert.AdamSmallIdeal.main_arg75)
      ∧ r.2.mem ((c.tc : Thread Cert.AdamSmallIdeal.nD Cert.AdamSmallIdeal.τ).loc Cert.AdamSmallIdeal.main_arg76) = m ((c.tc : Thread Cert.AdamSmallIdeal.nD Cert.AdamSmallIdeal.τ).loc Cert.AdamSmallIdeal.main_arg76)
      ∧ r.2.mem ((c.tc : Thread Cert.AdamSmallIdeal.nD Cert.AdamSmallIdeal.τ).loc Cert.AdamSmallIdeal.main_arg77) = m ((c.tc : Thread Cert.AdamSmallIdeal.nD Cert.AdamSmallIdeal.τ).loc Cert.AdamSmallIdeal.main_arg77)
      ∧ r.2.mem ((c.tc : Thread Cert.AdamSmallIdeal.nD Cert.AdamSmallIdeal.τ).loc Cert.AdamSmallIdeal.main_arg78) = m ((c.tc : Thread Cert.AdamSmallIdeal.nD Cert.AdamSmallIdeal.τ).loc Cert.AdamSmallIdeal.main_arg78)
      ∧ r.2.mem ((c.tc : Thread Cert.AdamSmallIdeal.nD Cert.AdamSmallIdeal.τ).loc Cert.AdamSmallIdeal.main_arg79) = m ((c.tc : Thread Cert.AdamSmallIdeal.nD Cert.AdamSmallIdeal.τ).loc Cert.AdamSmallIdeal.main_arg79)
      ∧ r.2.mem ((c.tc : Thread Cert.AdamSmallIdeal.nD Cert.AdamSmallIdeal.τ).loc Cert.AdamSmallIdeal.main_arg80) = m ((c.tc : Thread Cert.AdamSmallIdeal.nD Cert.AdamSmallIdeal.τ).loc Cert.AdamSmallIdeal.main_arg80)
      ∧ r.2.mem ((c.tc : Thread Cert.AdamSmallIdeal.nD Cert.AdamSmallIdeal.τ).loc Cert.AdamSmallIdeal.main_arg81) = m ((c.tc : Thread Cert.AdamSmallIdeal.nD Cert.AdamSmallIdeal.τ).loc Cert.AdamSmallIdeal.main_arg81)
      ∧ r.2.mem ((c.tc : Thread Cert.AdamSmallIdeal.nD Cert.AdamSmallIdeal.τ).loc Cert.AdamSmallIdeal.main_arg82) = m ((c.tc : Thread Cert.AdamSmallIdeal.nD Cert.AdamSmallIdeal.τ).loc Cert.AdamSmallIdeal.main_arg82)
      ∧ r.2.mem ((c.tc : Thread Cert.AdamSmallIdeal.nD Cert.AdamSmallIdeal.τ).loc Cert.AdamSmallIdeal.main_arg83) = m ((c.tc : Thread Cert.AdamSmallIdeal.nD Cert.AdamSmallIdeal.τ).loc Cert.AdamSmallIdeal.main_arg83)
      ∧ r.2.mem ((c.tc : Thread Cert.AdamSmallIdeal.nD Cert.AdamSmallIdeal.τ).loc Cert.AdamSmallIdeal.main_arg84) = m ((c.tc : Thread Cert.AdamSmallIdeal.nD Cert.AdamSmallIdeal.τ).loc Cert.AdamSmallIdeal.main_arg84)
      ∧ r.2.mem ((c.tc : Thread Cert.AdamSmallIdeal.nD Cert.AdamSmallIdeal.τ).loc Cert.AdamSmallIdeal.main_arg85) = m ((c.tc : Thread Cert.AdamSmallIdeal.nD Cert.AdamSmallIdeal.τ).loc Cert.AdamSmallIdeal.main_arg85)
      ∧ r.2.mem ((c.tc : Thread Cert.AdamSmallIdeal.nD Cert.AdamSmallIdeal.τ).loc Cert.AdamSmallIdeal.main_arg86) = m ((c.tc : Thread Cert.AdamSmallIdeal.nD Cert.AdamSmallIdeal.τ).loc Cert.AdamSmallIdeal.main_arg86)
      ∧ r.2.mem ((c.tc : Thread Cert.AdamSmallIdeal.nD Cert.AdamSmallIdeal.τ).loc Cert.AdamSmallIdeal.main_arg87) = m ((c.tc : Thread Cert.AdamSmallIdeal.nD Cert.AdamSmallIdeal.τ).loc Cert.AdamSmallIdeal.main_arg87))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7)
      ∧ r.2.mem ((c.tc : Thread Cert.AdamSmallRefIdeal.nD Cert.AdamSmallRefIdeal.τ).loc Cert.AdamSmallRefIdeal.main_arg8) = m ((c.tc : Thread Cert.AdamSmallRefIdeal.nD Cert.AdamSmallRefIdeal.τ).loc Cert.AdamSmallRefIdeal.main_arg8)
      ∧ r.2.mem ((c.tc : Thread Cert.AdamSmallRefIdeal.nD Cert.AdamSmallRefIdeal.τ).loc Cert.AdamSmallRefIdeal.main_arg9) = m ((c.tc : Thread Cert.AdamSmallRefIdeal.nD Cert.AdamSmallRefIdeal.τ).loc Cert.AdamSmallRefIdeal.main_arg9)
      ∧ r.2.mem ((c.tc : Thread Cert.AdamSmallRefIdeal.nD Cert.AdamSmallRefIdeal.τ).loc Cert.AdamSmallRefIdeal.main_arg10) = m ((c.tc : Thread Cert.AdamSmallRefIdeal.nD Cert.AdamSmallRefIdeal.τ).loc Cert.AdamSmallRefIdeal.main_arg10)
      ∧ r.2.mem ((c.tc : Thread Cert.AdamSmallRefIdeal.nD Cert.AdamSmallRefIdeal.τ).loc Cert.AdamSmallRefIdeal.main_arg11) = m ((c.tc : Thread Cert.AdamSmallRefIdeal.nD Cert.AdamSmallRefIdeal.τ).loc Cert.AdamSmallRefIdeal.main_arg11)
      ∧ r.2.mem ((c.tc : Thread Cert.AdamSmallRefIdeal.nD Cert.AdamSmallRefIdeal.τ).loc Cert.AdamSmallRefIdeal.main_arg12) = m ((c.tc : Thread Cert.AdamSmallRefIdeal.nD Cert.AdamSmallRefIdeal.τ).loc Cert.AdamSmallRefIdeal.main_arg12)
      ∧ r.2.mem ((c.tc : Thread Cert.AdamSmallRefIdeal.nD Cert.AdamSmallRefIdeal.τ).loc Cert.AdamSmallRefIdeal.main_arg13) = m ((c.tc : Thread Cert.AdamSmallRefIdeal.nD Cert.AdamSmallRefIdeal.τ).loc Cert.AdamSmallRefIdeal.main_arg13)
      ∧ r.2.mem ((c.tc : Thread Cert.AdamSmallRefIdeal.nD Cert.AdamSmallRefIdeal.τ).loc Cert.AdamSmallRefIdeal.main_arg14) = m ((c.tc : Thread Cert.AdamSmallRefIdeal.nD Cert.AdamSmallRefIdeal.τ).loc Cert.AdamSmallRefIdeal.main_arg14)
      ∧ r.2.mem ((c.tc : Thread Cert.AdamSmallRefIdeal.nD Cert.AdamSmallRefIdeal.τ).loc Cert.AdamSmallRefIdeal.main_arg15) = m ((c.tc : Thread Cert.AdamSmallRefIdeal.nD Cert.AdamSmallRefIdeal.τ).loc Cert.AdamSmallRefIdeal.main_arg15)
      ∧ r.2.mem ((c.tc : Thread Cert.AdamSmallRefIdeal.nD Cert.AdamSmallRefIdeal.τ).loc Cert.AdamSmallRefIdeal.main_arg16) = m ((c.tc : Thread Cert.AdamSmallRefIdeal.nD Cert.AdamSmallRefIdeal.τ).loc Cert.AdamSmallRefIdeal.main_arg16)
      ∧ r.2.mem ((c.tc : Thread Cert.AdamSmallRefIdeal.nD Cert.AdamSmallRefIdeal.τ).loc Cert.AdamSmallRefIdeal.main_arg17) = m ((c.tc : Thread Cert.AdamSmallRefIdeal.nD Cert.AdamSmallRefIdeal.τ).loc Cert.AdamSmallRefIdeal.main_arg17)
      ∧ r.2.mem ((c.tc : Thread Cert.AdamSmallRefIdeal.nD Cert.AdamSmallRefIdeal.τ).loc Cert.AdamSmallRefIdeal.main_arg18) = m ((c.tc : Thread Cert.AdamSmallRefIdeal.nD Cert.AdamSmallRefIdeal.τ).loc Cert.AdamSmallRefIdeal.main_arg18)
      ∧ r.2.mem ((c.tc : Thread Cert.AdamSmallRefIdeal.nD Cert.AdamSmallRefIdeal.τ).loc Cert.AdamSmallRefIdeal.main_arg19) = m ((c.tc : Thread Cert.AdamSmallRefIdeal.nD Cert.AdamSmallRefIdeal.τ).loc Cert.AdamSmallRefIdeal.main_arg19)
      ∧ r.2.mem ((c.tc : Thread Cert.AdamSmallRefIdeal.nD Cert.AdamSmallRefIdeal.τ).loc Cert.AdamSmallRefIdeal.main_arg20) = m ((c.tc : Thread Cert.AdamSmallRefIdeal.nD Cert.AdamSmallRefIdeal.τ).loc Cert.AdamSmallRefIdeal.main_arg20)
      ∧ r.2.mem ((c.tc : Thread Cert.AdamSmallRefIdeal.nD Cert.AdamSmallRefIdeal.τ).loc Cert.AdamSmallRefIdeal.main_arg21) = m ((c.tc : Thread Cert.AdamSmallRefIdeal.nD Cert.AdamSmallRefIdeal.τ).loc Cert.AdamSmallRefIdeal.main_arg21)
      ∧ r.2.mem ((c.tc : Thread Cert.AdamSmallRefIdeal.nD Cert.AdamSmallRefIdeal.τ).loc Cert.AdamSmallRefIdeal.main_arg22) = m ((c.tc : Thread Cert.AdamSmallRefIdeal.nD Cert.AdamSmallRefIdeal.τ).loc Cert.AdamSmallRefIdeal.main_arg22)
      ∧ r.2.mem ((c.tc : Thread Cert.AdamSmallRefIdeal.nD Cert.AdamSmallRefIdeal.τ).loc Cert.AdamSmallRefIdeal.main_arg23) = m ((c.tc : Thread Cert.AdamSmallRefIdeal.nD Cert.AdamSmallRefIdeal.τ).loc Cert.AdamSmallRefIdeal.main_arg23)
      ∧ r.2.mem ((c.tc : Thread Cert.AdamSmallRefIdeal.nD Cert.AdamSmallRefIdeal.τ).loc Cert.AdamSmallRefIdeal.main_arg24) = m ((c.tc : Thread Cert.AdamSmallRefIdeal.nD Cert.AdamSmallRefIdeal.τ).loc Cert.AdamSmallRefIdeal.main_arg24)
      ∧ r.2.mem ((c.tc : Thread Cert.AdamSmallRefIdeal.nD Cert.AdamSmallRefIdeal.τ).loc Cert.AdamSmallRefIdeal.main_arg25) = m ((c.tc : Thread Cert.AdamSmallRefIdeal.nD Cert.AdamSmallRefIdeal.τ).loc Cert.AdamSmallRefIdeal.main_arg25)
      ∧ r.2.mem ((c.tc : Thread Cert.AdamSmallRefIdeal.nD Cert.AdamSmallRefIdeal.τ).loc Cert.AdamSmallRefIdeal.main_arg26) = m ((c.tc : Thread Cert.AdamSmallRefIdeal.nD Cert.AdamSmallRefIdeal.τ).loc Cert.AdamSmallRefIdeal.main_arg26)
      ∧ r.2.mem ((c.tc : Thread Cert.AdamSmallRefIdeal.nD Cert.AdamSmallRefIdeal.τ).loc Cert.AdamSmallRefIdeal.main_arg27) = m ((c.tc : Thread Cert.AdamSmallRefIdeal.nD Cert.AdamSmallRefIdeal.τ).loc Cert.AdamSmallRefIdeal.main_arg27)
      ∧ r.2.mem ((c.tc : Thread Cert.AdamSmallRefIdeal.nD Cert.AdamSmallRefIdeal.τ).loc Cert.AdamSmallRefIdeal.main_arg28) = m ((c.tc : Thread Cert.AdamSmallRefIdeal.nD Cert.AdamSmallRefIdeal.τ).loc Cert.AdamSmallRefIdeal.main_arg28)
      ∧ r.2.mem ((c.tc : Thread Cert.AdamSmallRefIdeal.nD Cert.AdamSmallRefIdeal.τ).loc Cert.AdamSmallRefIdeal.main_arg29) = m ((c.tc : Thread Cert.AdamSmallRefIdeal.nD Cert.AdamSmallRefIdeal.τ).loc Cert.AdamSmallRefIdeal.main_arg29)
      ∧ r.2.mem ((c.tc : Thread Cert.AdamSmallRefIdeal.nD Cert.AdamSmallRefIdeal.τ).loc Cert.AdamSmallRefIdeal.main_arg30) = m ((c.tc : Thread Cert.AdamSmallRefIdeal.nD Cert.AdamSmallRefIdeal.τ).loc Cert.AdamSmallRefIdeal.main_arg30)
      ∧ r.2.mem ((c.tc : Thread Cert.AdamSmallRefIdeal.nD Cert.AdamSmallRefIdeal.τ).loc Cert.AdamSmallRefIdeal.main_arg31) = m ((c.tc : Thread Cert.AdamSmallRefIdeal.nD Cert.AdamSmallRefIdeal.τ).loc Cert.AdamSmallRefIdeal.main_arg31)
      ∧ r.2.mem ((c.tc : Thread Cert.AdamSmallRefIdeal.nD Cert.AdamSmallRefIdeal.τ).loc Cert.AdamSmallRefIdeal.main_arg32) = m ((c.tc : Thread Cert.AdamSmallRefIdeal.nD Cert.AdamSmallRefIdeal.τ).loc Cert.AdamSmallRefIdeal.main_arg32)
      ∧ r.2.mem ((c.tc : Thread Cert.AdamSmallRefIdeal.nD Cert.AdamSmallRefIdeal.τ).loc Cert.AdamSmallRefIdeal.main_arg33) = m ((c.tc : Thread Cert.AdamSmallRefIdeal.nD Cert.AdamSmallRefIdeal.τ).loc Cert.AdamSmallRefIdeal.main_arg33)
      ∧ r.2.mem ((c.tc : Thread Cert.AdamSmallRefIdeal.nD Cert.AdamSmallRefIdeal.τ).loc Cert.AdamSmallRefIdeal.main_arg34) = m ((c.tc : Thread Cert.AdamSmallRefIdeal.nD Cert.AdamSmallRefIdeal.τ).loc Cert.AdamSmallRefIdeal.main_arg34)
      ∧ r.2.mem ((c.tc : Thread Cert.AdamSmallRefIdeal.nD Cert.AdamSmallRefIdeal.τ).loc Cert.AdamSmallRefIdeal.main_arg35) = m ((c.tc : Thread Cert.AdamSmallRefIdeal.nD Cert.AdamSmallRefIdeal.τ).loc Cert.AdamSmallRefIdeal.main_arg35)
      ∧ r.2.mem ((c.tc : Thread Cert.AdamSmallRefIdeal.nD Cert.AdamSmallRefIdeal.τ).loc Cert.AdamSmallRefIdeal.main_arg36) = m ((c.tc : Thread Cert.AdamSmallRefIdeal.nD Cert.AdamSmallRefIdeal.τ).loc Cert.AdamSmallRefIdeal.main_arg36)
      ∧ r.2.mem ((c.tc : Thread Cert.AdamSmallRefIdeal.nD Cert.AdamSmallRefIdeal.τ).loc Cert.AdamSmallRefIdeal.main_arg37) = m ((c.tc : Thread Cert.AdamSmallRefIdeal.nD Cert.AdamSmallRefIdeal.τ).loc Cert.AdamSmallRefIdeal.main_arg37)
      ∧ r.2.mem ((c.tc : Thread Cert.AdamSmallRefIdeal.nD Cert.AdamSmallRefIdeal.τ).loc Cert.AdamSmallRefIdeal.main_arg38) = m ((c.tc : Thread Cert.AdamSmallRefIdeal.nD Cert.AdamSmallRefIdeal.τ).loc Cert.AdamSmallRefIdeal.main_arg38)
      ∧ r.2.mem ((c.tc : Thread Cert.AdamSmallRefIdeal.nD Cert.AdamSmallRefIdeal.τ).loc Cert.AdamSmallRefIdeal.main_arg39) = m ((c.tc : Thread Cert.AdamSmallRefIdeal.nD Cert.AdamSmallRefIdeal.τ).loc Cert.AdamSmallRefIdeal.main_arg39)
      ∧ r.2.mem ((c.tc : Thread Cert.AdamSmallRefIdeal.nD Cert.AdamSmallRefIdeal.τ).loc Cert.AdamSmallRefIdeal.main_arg40) = m ((c.tc : Thread Cert.AdamSmallRefIdeal.nD Cert.AdamSmallRefIdeal.τ).loc Cert.AdamSmallRefIdeal.main_arg40)
      ∧ r.2.mem ((c.tc : Thread Cert.AdamSmallRefIdeal.nD Cert.AdamSmallRefIdeal.τ).loc Cert.AdamSmallRefIdeal.main_arg41) = m ((c.tc : Thread Cert.AdamSmallRefIdeal.nD Cert.AdamSmallRefIdeal.τ).loc Cert.AdamSmallRefIdeal.main_arg41)
      ∧ r.2.mem ((c.tc : Thread Cert.AdamSmallRefIdeal.nD Cert.AdamSmallRefIdeal.τ).loc Cert.AdamSmallRefIdeal.main_arg42) = m ((c.tc : Thread Cert.AdamSmallRefIdeal.nD Cert.AdamSmallRefIdeal.τ).loc Cert.AdamSmallRefIdeal.main_arg42)
      ∧ r.2.mem ((c.tc : Thread Cert.AdamSmallRefIdeal.nD Cert.AdamSmallRefIdeal.τ).loc Cert.AdamSmallRefIdeal.main_arg43) = m ((c.tc : Thread Cert.AdamSmallRefIdeal.nD Cert.AdamSmallRefIdeal.τ).loc Cert.AdamSmallRefIdeal.main_arg43)
      ∧ r.2.mem ((c.tc : Thread Cert.AdamSmallRefIdeal.nD Cert.AdamSmallRefIdeal.τ).loc Cert.AdamSmallRefIdeal.main_arg44) = m ((c.tc : Thread Cert.AdamSmallRefIdeal.nD Cert.AdamSmallRefIdeal.τ).loc Cert.AdamSmallRefIdeal.main_arg44)
      ∧ r.2.mem ((c.tc : Thread Cert.AdamSmallRefIdeal.nD Cert.AdamSmallRefIdeal.τ).loc Cert.AdamSmallRefIdeal.main_arg45) = m ((c.tc : Thread Cert.AdamSmallRefIdeal.nD Cert.AdamSmallRefIdeal.τ).loc Cert.AdamSmallRefIdeal.main_arg45)
      ∧ r.2.mem ((c.tc : Thread Cert.AdamSmallRefIdeal.nD Cert.AdamSmallRefIdeal.τ).loc Cert.AdamSmallRefIdeal.main_arg46) = m ((c.tc : Thread Cert.AdamSmallRefIdeal.nD Cert.AdamSmallRefIdeal.τ).loc Cert.AdamSmallRefIdeal.main_arg46)
      ∧ r.2.mem ((c.tc : Thread Cert.AdamSmallRefIdeal.nD Cert.AdamSmallRefIdeal.τ).loc Cert.AdamSmallRefIdeal.main_arg47) = m ((c.tc : Thread Cert.AdamSmallRefIdeal.nD Cert.AdamSmallRefIdeal.τ).loc Cert.AdamSmallRefIdeal.main_arg47)
      ∧ r.2.mem ((c.tc : Thread Cert.AdamSmallRefIdeal.nD Cert.AdamSmallRefIdeal.τ).loc Cert.AdamSmallRefIdeal.main_arg48) = m ((c.tc : Thread Cert.AdamSmallRefIdeal.nD Cert.AdamSmallRefIdeal.τ).loc Cert.AdamSmallRefIdeal.main_arg48)
      ∧ r.2.mem ((c.tc : Thread Cert.AdamSmallRefIdeal.nD Cert.AdamSmallRefIdeal.τ).loc Cert.AdamSmallRefIdeal.main_arg49) = m ((c.tc : Thread Cert.AdamSmallRefIdeal.nD Cert.AdamSmallRefIdeal.τ).loc Cert.AdamSmallRefIdeal.main_arg49)
      ∧ r.2.mem ((c.tc : Thread Cert.AdamSmallRefIdeal.nD Cert.AdamSmallRefIdeal.τ).loc Cert.AdamSmallRefIdeal.main_arg50) = m ((c.tc : Thread Cert.AdamSmallRefIdeal.nD Cert.AdamSmallRefIdeal.τ).loc Cert.AdamSmallRefIdeal.main_arg50)
      ∧ r.2.mem ((c.tc : Thread Cert.AdamSmallRefIdeal.nD Cert.AdamSmallRefIdeal.τ).loc Cert.AdamSmallRefIdeal.main_arg51) = m ((c.tc : Thread Cert.AdamSmallRefIdeal.nD Cert.AdamSmallRefIdeal.τ).loc Cert.AdamSmallRefIdeal.main_arg51)
      ∧ r.2.mem ((c.tc : Thread Cert.AdamSmallRefIdeal.nD Cert.AdamSmallRefIdeal.τ).loc Cert.AdamSmallRefIdeal.main_arg52) = m ((c.tc : Thread Cert.AdamSmallRefIdeal.nD Cert.AdamSmallRefIdeal.τ).loc Cert.AdamSmallRefIdeal.main_arg52)
      ∧ r.2.mem ((c.tc : Thread Cert.AdamSmallRefIdeal.nD Cert.AdamSmallRefIdeal.τ).loc Cert.AdamSmallRefIdeal.main_arg53) = m ((c.tc : Thread Cert.AdamSmallRefIdeal.nD Cert.AdamSmallRefIdeal.τ).loc Cert.AdamSmallRefIdeal.main_arg53)
      ∧ r.2.mem ((c.tc : Thread Cert.AdamSmallRefIdeal.nD Cert.AdamSmallRefIdeal.τ).loc Cert.AdamSmallRefIdeal.main_arg54) = m ((c.tc : Thread Cert.AdamSmallRefIdeal.nD Cert.AdamSmallRefIdeal.τ).loc Cert.AdamSmallRefIdeal.main_arg54)
      ∧ r.2.mem ((c.tc : Thread Cert.AdamSmallRefIdeal.nD Cert.AdamSmallRefIdeal.τ).loc Cert.AdamSmallRefIdeal.main_arg55) = m ((c.tc : Thread Cert.AdamSmallRefIdeal.nD Cert.AdamSmallRefIdeal.τ).loc Cert.AdamSmallRefIdeal.main_arg55)
      ∧ r.2.mem ((c.tc : Thread Cert.AdamSmallRefIdeal.nD Cert.AdamSmallRefIdeal.τ).loc Cert.AdamSmallRefIdeal.main_arg56) = m ((c.tc : Thread Cert.AdamSmallRefIdeal.nD Cert.AdamSmallRefIdeal.τ).loc Cert.AdamSmallRefIdeal.main_arg56)
      ∧ r.2.mem ((c.tc : Thread Cert.AdamSmallRefIdeal.nD Cert.AdamSmallRefIdeal.τ).loc Cert.AdamSmallRefIdeal.main_arg57) = m ((c.tc : Thread Cert.AdamSmallRefIdeal.nD Cert.AdamSmallRefIdeal.τ).loc Cert.AdamSmallRefIdeal.main_arg57)
      ∧ r.2.mem ((c.tc : Thread Cert.AdamSmallRefIdeal.nD Cert.AdamSmallRefIdeal.τ).loc Cert.AdamSmallRefIdeal.main_arg58) = m ((c.tc : Thread Cert.AdamSmallRefIdeal.nD Cert.AdamSmallRefIdeal.τ).loc Cert.AdamSmallRefIdeal.main_arg58)
      ∧ r.2.mem ((c.tc : Thread Cert.AdamSmallRefIdeal.nD Cert.AdamSmallRefIdeal.τ).loc Cert.AdamSmallRefIdeal.main_arg59) = m ((c.tc : Thread Cert.AdamSmallRefIdeal.nD Cert.AdamSmallRefIdeal.τ).loc Cert.AdamSmallRefIdeal.main_arg59)
      ∧ r.2.mem ((c.tc : Thread Cert.AdamSmallRefIdeal.nD Cert.AdamSmallRefIdeal.τ).loc Cert.AdamSmallRefIdeal.main_arg60) = m ((c.tc : Thread Cert.AdamSmallRefIdeal.nD Cert.AdamSmallRefIdeal.τ).loc Cert.AdamSmallRefIdeal.main_arg60)
      ∧ r.2.mem ((c.tc : Thread Cert.AdamSmallRefIdeal.nD Cert.AdamSmallRefIdeal.τ).loc Cert.AdamSmallRefIdeal.main_arg61) = m ((c.tc : Thread Cert.AdamSmallRefIdeal.nD Cert.AdamSmallRefIdeal.τ).loc Cert.AdamSmallRefIdeal.main_arg61)
      ∧ r.2.mem ((c.tc : Thread Cert.AdamSmallRefIdeal.nD Cert.AdamSmallRefIdeal.τ).loc Cert.AdamSmallRefIdeal.main_arg62) = m ((c.tc : Thread Cert.AdamSmallRefIdeal.nD Cert.AdamSmallRefIdeal.τ).loc Cert.AdamSmallRefIdeal.main_arg62)
      ∧ r.2.mem ((c.tc : Thread Cert.AdamSmallRefIdeal.nD Cert.AdamSmallRefIdeal.τ).loc Cert.AdamSmallRefIdeal.main_arg63) = m ((c.tc : Thread Cert.AdamSmallRefIdeal.nD Cert.AdamSmallRefIdeal.τ).loc Cert.AdamSmallRefIdeal.main_arg63)
      ∧ r.2.mem ((c.tc : Thread Cert.AdamSmallRefIdeal.nD Cert.AdamSmallRefIdeal.τ).loc Cert.AdamSmallRefIdeal.main_arg64) = m ((c.tc : Thread Cert.AdamSmallRefIdeal.nD Cert.AdamSmallRefIdeal.τ).loc Cert.AdamSmallRefIdeal.main_arg64)
      ∧ r.2.mem ((c.tc : Thread Cert.AdamSmallRefIdeal.nD Cert.AdamSmallRefIdeal.τ).loc Cert.AdamSmallRefIdeal.main_arg65) = m ((c.tc : Thread Cert.AdamSmallRefIdeal.nD Cert.AdamSmallRefIdeal.τ).loc Cert.AdamSmallRefIdeal.main_arg65)
      ∧ r.2.mem ((c.tc : Thread Cert.AdamSmallRefIdeal.nD Cert.AdamSmallRefIdeal.τ).loc Cert.AdamSmallRefIdeal.main_arg66) = m ((c.tc : Thread Cert.AdamSmallRefIdeal.nD Cert.AdamSmallRefIdeal.τ).loc Cert.AdamSmallRefIdeal.main_arg66)
      ∧ r.2.mem ((c.tc : Thread Cert.AdamSmallRefIdeal.nD Cert.AdamSmallRefIdeal.τ).loc Cert.AdamSmallRefIdeal.main_arg67) = m ((c.tc : Thread Cert.AdamSmallRefIdeal.nD Cert.AdamSmallRefIdeal.τ).loc Cert.AdamSmallRefIdeal.main_arg67)
      ∧ r.2.mem ((c.tc : Thread Cert.AdamSmallRefIdeal.nD Cert.AdamSmallRefIdeal.τ).loc Cert.AdamSmallRefIdeal.main_arg68) = m ((c.tc : Thread Cert.AdamSmallRefIdeal.nD Cert.AdamSmallRefIdeal.τ).loc Cert.AdamSmallRefIdeal.main_arg68)
      ∧ r.2.mem ((c.tc : Thread Cert.AdamSmallRefIdeal.nD Cert.AdamSmallRefIdeal.τ).loc Cert.AdamSmallRefIdeal.main_arg69) = m ((c.tc : Thread Cert.AdamSmallRefIdeal.nD Cert.AdamSmallRefIdeal.τ).loc Cert.AdamSmallRefIdeal.main_arg69)
      ∧ r.2.mem ((c.tc : Thread Cert.AdamSmallRefIdeal.nD Cert.AdamSmallRefIdeal.τ).loc Cert.AdamSmallRefIdeal.main_arg70) = m ((c.tc : Thread Cert.AdamSmallRefIdeal.nD Cert.AdamSmallRefIdeal.τ).loc Cert.AdamSmallRefIdeal.main_arg70)
      ∧ r.2.mem ((c.tc : Thread Cert.AdamSmallRefIdeal.nD Cert.AdamSmallRefIdeal.τ).loc Cert.AdamSmallRefIdeal.main_arg71) = m ((c.tc : Thread Cert.AdamSmallRefIdeal.nD Cert.AdamSmallRefIdeal.τ).loc Cert.AdamSmallRefIdeal.main_arg71)
      ∧ r.2.mem ((c.tc : Thread Cert.AdamSmallRefIdeal.nD Cert.AdamSmallRefIdeal.τ).loc Cert.AdamSmallRefIdeal.main_arg72) = m ((c.tc : Thread Cert.AdamSmallRefIdeal.nD Cert.AdamSmallRefIdeal.τ).loc Cert.AdamSmallRefIdeal.main_arg72)
      ∧ r.2.mem ((c.tc : Thread Cert.AdamSmallRefIdeal.nD Cert.AdamSmallRefIdeal.τ).loc Cert.AdamSmallRefIdeal.main_arg73) = m ((c.tc : Thread Cert.AdamSmallRefIdeal.nD Cert.AdamSmallRefIdeal.τ).loc Cert.AdamSmallRefIdeal.main_arg73)
      ∧ r.2.mem ((c.tc : Thread Cert.AdamSmallRefIdeal.nD Cert.AdamSmallRefIdeal.τ).loc Cert.AdamSmallRefIdeal.main_arg74) = m ((c.tc : Thread Cert.AdamSmallRefIdeal.nD Cert.AdamSmallRefIdeal.τ).loc Cert.AdamSmallRefIdeal.main_arg74)
      ∧ r.2.mem ((c.tc : Thread Cert.AdamSmallRefIdeal.nD Cert.AdamSmallRefIdeal.τ).loc Cert.AdamSmallRefIdeal.main_arg75) = m ((c.tc : Thread Cert.AdamSmallRefIdeal.nD Cert.AdamSmallRefIdeal.τ).loc Cert.AdamSmallRefIdeal.main_arg75)
      ∧ r.2.mem ((c.tc : Thread Cert.AdamSmallRefIdeal.nD Cert.AdamSmallRefIdeal.τ).loc Cert.AdamSmallRefIdeal.main_arg76) = m ((c.tc : Thread Cert.AdamSmallRefIdeal.nD Cert.AdamSmallRefIdeal.τ).loc Cert.AdamSmallRefIdeal.main_arg76)
      ∧ r.2.mem ((c.tc : Thread Cert.AdamSmallRefIdeal.nD Cert.AdamSmallRefIdeal.τ).loc Cert.AdamSmallRefIdeal.main_arg77) = m ((c.tc : Thread Cert.AdamSmallRefIdeal.nD Cert.AdamSmallRefIdeal.τ).loc Cert.AdamSmallRefIdeal.main_arg77)
      ∧ r.2.mem ((c.tc : Thread Cert.AdamSmallRefIdeal.nD Cert.AdamSmallRefIdeal.τ).loc Cert.AdamSmallRefIdeal.main_arg78) = m ((c.tc : Thread Cert.AdamSmallRefIdeal.nD Cert.AdamSmallRefIdeal.τ).loc Cert.AdamSmallRefIdeal.main_arg78)
      ∧ r.2.mem ((c.tc : Thread Cert.AdamSmallRefIdeal.nD Cert.AdamSmallRefIdeal.τ).loc Cert.AdamSmallRefIdeal.main_arg79) = m ((c.tc : Thread Cert.AdamSmallRefIdeal.nD Cert.AdamSmallRefIdeal.τ).loc Cert.AdamSmallRefIdeal.main_arg79)
      ∧ r.2.mem ((c.tc : Thread Cert.AdamSmallRefIdeal.nD Cert.AdamSmallRefIdeal.τ).loc Cert.AdamSmallRefIdeal.main_arg80) = m ((c.tc : Thread Cert.AdamSmallRefIdeal.nD Cert.AdamSmallRefIdeal.τ).loc Cert.AdamSmallRefIdeal.main_arg80)
      ∧ r.2.mem ((c.tc : Thread Cert.AdamSmallRefIdeal.nD Cert.AdamSmallRefIdeal.τ).loc Cert.AdamSmallRefIdeal.main_arg81) = m ((c.tc : Thread Cert.AdamSmallRefIdeal.nD Cert.AdamSmallRefIdeal.τ).loc Cert.AdamSmallRefIdeal.main_arg81)
      ∧ r.2.mem ((c.tc : Thread Cert.AdamSmallRefIdeal.nD Cert.AdamSmallRefIdeal.τ).loc Cert.AdamSmallRefIdeal.main_arg82) = m ((c.tc : Thread Cert.AdamSmallRefIdeal.nD Cert.AdamSmallRefIdeal.τ).loc Cert.AdamSmallRefIdeal.main_arg82)
      ∧ r.2.mem ((c.tc : Thread Cert.AdamSmallRefIdeal.nD Cert.AdamSmallRefIdeal.τ).loc Cert.AdamSmallRefIdeal.main_arg83) = m ((c.tc : Thread Cert.AdamSmallRefIdeal.nD Cert.AdamSmallRefIdeal.τ).loc Cert.AdamSmallRefIdeal.main_arg83)
      ∧ r.2.mem ((c.tc : Thread Cert.AdamSmallRefIdeal.nD Cert.AdamSmallRefIdeal.τ).loc Cert.AdamSmallRefIdeal.main_arg84) = m ((c.tc : Thread Cert.AdamSmallRefIdeal.nD Cert.AdamSmallRefIdeal.τ).loc Cert.AdamSmallRefIdeal.main_arg84)
      ∧ r.2.mem ((c.tc : Thread Cert.AdamSmallRefIdeal.nD Cert.AdamSmallRefIdeal.τ).loc Cert.AdamSmallRefIdeal.main_arg85) = m ((c.tc : Thread Cert.AdamSmallRefIdeal.nD Cert.AdamSmallRefIdeal.τ).loc Cert.AdamSmallRefIdeal.main_arg85)
      ∧ r.2.mem ((c.tc : Thread Cert.AdamSmallRefIdeal.nD Cert.AdamSmallRefIdeal.τ).loc Cert.AdamSmallRefIdeal.main_arg86) = m ((c.tc : Thread Cert.AdamSmallRefIdeal.nD Cert.AdamSmallRefIdeal.τ).loc Cert.AdamSmallRefIdeal.main_arg86)
      ∧ r.2.mem ((c.tc : Thread Cert.AdamSmallRefIdeal.nD Cert.AdamSmallRefIdeal.τ).loc Cert.AdamSmallRefIdeal.main_arg87) = m ((c.tc : Thread Cert.AdamSmallRefIdeal.nD Cert.AdamSmallRefIdeal.τ).loc Cert.AdamSmallRefIdeal.main_arg87))
      ∧ r.2.sem = fun _ => 0)

def quiescent_FinalLoss [hFinalLoss : Cert.FinalLoss.Facts] : Prop :=
  ∀ (m : (ℓ : Loc Cert.FinalLoss.nD Cert.FinalLoss.τ Cert.FinalLoss.sig) → Buf (Elt Bits) ℓ) (g : Dev Cert.FinalLoss.nD → PrngReg), Pre_FinalLoss m →
    θ_run (Cert.FinalLoss.defs (F := Bits)) (onTc (τ := Cert.FinalLoss.τ) (Cert.FinalLoss.main (F := Bits))) ⟨m, fun _ => 0, g⟩ (fun r => (∀ c : Dev Cert.FinalLoss.nD,
      r.2.mem ((c.tc : Thread Cert.FinalLoss.nD Cert.FinalLoss.τ).loc Cert.FinalLoss.main_arg0) = m ((c.tc : Thread Cert.FinalLoss.nD Cert.FinalLoss.τ).loc Cert.FinalLoss.main_arg0)
      ∧ r.2.mem ((c.tc : Thread Cert.FinalLoss.nD Cert.FinalLoss.τ).loc Cert.FinalLoss.main_arg1) = m ((c.tc : Thread Cert.FinalLoss.nD Cert.FinalLoss.τ).loc Cert.FinalLoss.main_arg1)
      ∧ r.2.mem ((c.tc : Thread Cert.FinalLoss.nD Cert.FinalLoss.τ).loc Cert.FinalLoss.main_arg2) = m ((c.tc : Thread Cert.FinalLoss.nD Cert.FinalLoss.τ).loc Cert.FinalLoss.main_arg2))
      ∧ r.2.sem = fun _ => 0)

def quiescent_FinalLossIdeal [hFinalLossIdeal : Cert.FinalLossIdeal.Facts] : Prop :=
  ∀ (m : (ℓ : Loc Cert.FinalLossIdeal.nD Cert.FinalLossIdeal.τ Cert.FinalLossIdeal.sig) → Buf (Elt Ideal) ℓ) (g : Dev Cert.FinalLossIdeal.nD → PrngReg), Pre_FinalLossIdeal m →
    θ_run (Cert.FinalLossIdeal.defs (F := Ideal)) (onTc (τ := Cert.FinalLossIdeal.τ) (Cert.FinalLossIdeal.main (F := Ideal))) ⟨m, fun _ => 0, g⟩ (fun r => (∀ c : Dev Cert.FinalLossIdeal.nD,
      r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
      ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
      ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2))
      ∧ r.2.sem = fun _ => 0)

def quiescent_FinalLossRefIdeal [hFinalLossRefIdeal : Cert.FinalLossRefIdeal.Facts] : Prop :=
  ∀ (m : (ℓ : Loc Cert.FinalLossRefIdeal.nD Cert.FinalLossRefIdeal.τ Cert.FinalLossRefIdeal.sig) → Buf (Elt Ideal) ℓ) (g : Dev Cert.FinalLossRefIdeal.nD → PrngReg), Pre_FinalLossRefIdeal m →
    θ_run (Cert.FinalLossRefIdeal.defs (F := Ideal)) (onTc (τ := Cert.FinalLossRefIdeal.τ) (Cert.FinalLossRefIdeal.main (F := Ideal))) ⟨m, fun _ => 0, g⟩ (fun r => (∀ c : Dev Cert.FinalLossRefIdeal.nD,
      r.2.mem ((c.tc : Thread Cert.FinalLossRefIdeal.nD Cert.FinalLossRefIdeal.τ).loc Cert.FinalLossRefIdeal.main_arg0) = m ((c.tc : Thread Cert.FinalLossRefIdeal.nD Cert.FinalLossRefIdeal.τ).loc Cert.FinalLossRefIdeal.main_arg0)
      ∧ r.2.mem ((c.tc : Thread Cert.FinalLossRefIdeal.nD Cert.FinalLossRefIdeal.τ).loc Cert.FinalLossRefIdeal.main_arg1) = m ((c.tc : Thread Cert.FinalLossRefIdeal.nD Cert.FinalLossRefIdeal.τ).loc Cert.FinalLossRefIdeal.main_arg1)
      ∧ r.2.mem ((c.tc : Thread Cert.FinalLossRefIdeal.nD Cert.FinalLossRefIdeal.τ).loc Cert.FinalLossRefIdeal.main_arg2) = m ((c.tc : Thread Cert.FinalLossRefIdeal.nD Cert.FinalLossRefIdeal.τ).loc Cert.FinalLossRefIdeal.main_arg2))
      ∧ r.2.sem = fun _ => 0)

def quiescent_FirstNorm [hFirstNorm : Cert.FirstNorm.Facts] : Prop :=
  ∀ (m : (ℓ : Loc Cert.FirstNorm.nD Cert.FirstNorm.τ Cert.FirstNorm.sig) → Buf (Elt Bits) ℓ) (g : Dev Cert.FirstNorm.nD → PrngReg), Pre_FirstNorm m →
    θ_run (Cert.FirstNorm.defs (F := Bits)) (onTc (τ := Cert.FirstNorm.τ) (Cert.FirstNorm.main (F := Bits))) ⟨m, fun _ => 0, g⟩ (fun r => (∀ c : Dev Cert.FirstNorm.nD,
      r.2.mem ((c.tc : Thread Cert.FirstNorm.nD Cert.FirstNorm.τ).loc Cert.FirstNorm.main_arg0) = m ((c.tc : Thread Cert.FirstNorm.nD Cert.FirstNorm.τ).loc Cert.FirstNorm.main_arg0)
      ∧ r.2.mem ((c.tc : Thread Cert.FirstNorm.nD Cert.FirstNorm.τ).loc Cert.FirstNorm.main_arg1) = m ((c.tc : Thread Cert.FirstNorm.nD Cert.FirstNorm.τ).loc Cert.FirstNorm.main_arg1))
      ∧ r.2.sem = fun _ => 0)

def quiescent_FirstNormIdeal [hFirstNormIdeal : Cert.FirstNormIdeal.Facts] : Prop :=
  ∀ (m : (ℓ : Loc Cert.FirstNormIdeal.nD Cert.FirstNormIdeal.τ Cert.FirstNormIdeal.sig) → Buf (Elt Ideal) ℓ) (g : Dev Cert.FirstNormIdeal.nD → PrngReg), Pre_FirstNormIdeal m →
    θ_run (Cert.FirstNormIdeal.defs (F := Ideal)) (onTc (τ := Cert.FirstNormIdeal.τ) (Cert.FirstNormIdeal.main (F := Ideal))) ⟨m, fun _ => 0, g⟩ (fun r => (∀ c : Dev Cert.FirstNormIdeal.nD,
      r.2.mem ((c.tc : Thread Cert.FirstNormIdeal.nD Cert.FirstNormIdeal.τ).loc Cert.FirstNormIdeal.main_arg0) = m ((c.tc : Thread Cert.FirstNormIdeal.nD Cert.FirstNormIdeal.τ).loc Cert.FirstNormIdeal.main_arg0)
      ∧ r.2.mem ((c.tc : Thread Cert.FirstNormIdeal.nD Cert.FirstNormIdeal.τ).loc Cert.FirstNormIdeal.main_arg1) = m ((c.tc : Thread Cert.FirstNormIdeal.nD Cert.FirstNormIdeal.τ).loc Cert.FirstNormIdeal.main_arg1))
      ∧ r.2.sem = fun _ => 0)

def quiescent_FirstNormRefIdeal [hFirstNormRefIdeal : Cert.FirstNormRefIdeal.Facts] : Prop :=
  ∀ (m : (ℓ : Loc Cert.FirstNormRefIdeal.nD Cert.FirstNormRefIdeal.τ Cert.FirstNormRefIdeal.sig) → Buf (Elt Ideal) ℓ) (g : Dev Cert.FirstNormRefIdeal.nD → PrngReg), Pre_FirstNormRefIdeal m →
    θ_run (Cert.FirstNormRefIdeal.defs (F := Ideal)) (onTc (τ := Cert.FirstNormRefIdeal.τ) (Cert.FirstNormRefIdeal.main (F := Ideal))) ⟨m, fun _ => 0, g⟩ (fun r => (∀ c : Dev Cert.FirstNormRefIdeal.nD,
      r.2.mem ((c.tc : Thread Cert.FirstNormRefIdeal.nD Cert.FirstNormRefIdeal.τ).loc Cert.FirstNormRefIdeal.main_arg0) = m ((c.tc : Thread Cert.FirstNormRefIdeal.nD Cert.FirstNormRefIdeal.τ).loc Cert.FirstNormRefIdeal.main_arg0)
      ∧ r.2.mem ((c.tc : Thread Cert.FirstNormRefIdeal.nD Cert.FirstNormRefIdeal.τ).loc Cert.FirstNormRefIdeal.main_arg1) = m ((c.tc : Thread Cert.FirstNormRefIdeal.nD Cert.FirstNormRefIdeal.τ).loc Cert.FirstNormRefIdeal.main_arg1))
      ∧ r.2.sem = fun _ => 0)

def quiescent_EvenLn [hEvenLn : Cert.EvenLn.Facts] : Prop :=
  ∀ (m : (ℓ : Loc Cert.EvenLn.nD Cert.EvenLn.τ Cert.EvenLn.sig) → Buf (Elt Bits) ℓ) (g : Dev Cert.EvenLn.nD → PrngReg), Pre_EvenLn m →
    θ_run (Cert.EvenLn.defs (F := Bits)) (onTc (τ := Cert.EvenLn.τ) (Cert.EvenLn.main (F := Bits))) ⟨m, fun _ => 0, g⟩ (fun r => (∀ c : Dev Cert.EvenLn.nD,
      r.2.mem ((c.tc : Thread Cert.EvenLn.nD Cert.EvenLn.τ).loc Cert.EvenLn.main_arg0) = m ((c.tc : Thread Cert.EvenLn.nD Cert.EvenLn.τ).loc Cert.EvenLn.main_arg0)
      ∧ r.2.mem ((c.tc : Thread Cert.EvenLn.nD Cert.EvenLn.τ).loc Cert.EvenLn.main_arg1) = m ((c.tc : Thread Cert.EvenLn.nD Cert.EvenLn.τ).loc Cert.EvenLn.main_arg1)
      ∧ r.2.mem ((c.tc : Thread Cert.EvenLn.nD Cert.EvenLn.τ).loc Cert.EvenLn.main_arg2) = m ((c.tc : Thread Cert.EvenLn.nD Cert.EvenLn.τ).loc Cert.EvenLn.main_arg2))
      ∧ r.2.sem = fun _ => 0)

def quiescent_EvenLnIdeal [hEvenLnIdeal : Cert.EvenLnIdeal.Facts] : Prop :=
  ∀ (m : (ℓ : Loc Cert.EvenLnIdeal.nD Cert.EvenLnIdeal.τ Cert.EvenLnIdeal.sig) → Buf (Elt Ideal) ℓ) (g : Dev Cert.EvenLnIdeal.nD → PrngReg), Pre_EvenLnIdeal m →
    θ_run (Cert.EvenLnIdeal.defs (F := Ideal)) (onTc (τ := Cert.EvenLnIdeal.τ) (Cert.EvenLnIdeal.main (F := Ideal))) ⟨m, fun _ => 0, g⟩ (fun r => (∀ c : Dev Cert.EvenLnIdeal.nD,
      r.2.mem ((c.tc : Thread Cert.EvenLnIdeal.nD Cert.EvenLnIdeal.τ).loc Cert.EvenLnIdeal.main_arg0) = m ((c.tc : Thread Cert.EvenLnIdeal.nD Cert.EvenLnIdeal.τ).loc Cert.EvenLnIdeal.main_arg0)
      ∧ r.2.mem ((c.tc : Thread Cert.EvenLnIdeal.nD Cert.EvenLnIdeal.τ).loc Cert.EvenLnIdeal.main_arg1) = m ((c.tc : Thread Cert.EvenLnIdeal.nD Cert.EvenLnIdeal.τ).loc Cert.EvenLnIdeal.main_arg1)
      ∧ r.2.mem ((c.tc : Thread Cert.EvenLnIdeal.nD Cert.EvenLnIdeal.τ).loc Cert.EvenLnIdeal.main_arg2) = m ((c.tc : Thread Cert.EvenLnIdeal.nD Cert.EvenLnIdeal.τ).loc Cert.EvenLnIdeal.main_arg2))
      ∧ r.2.sem = fun _ => 0)

def quiescent_EvenLnRefIdeal [hEvenLnRefIdeal : Cert.EvenLnRefIdeal.Facts] : Prop :=
  ∀ (m : (ℓ : Loc Cert.EvenLnRefIdeal.nD Cert.EvenLnRefIdeal.τ Cert.EvenLnRefIdeal.sig) → Buf (Elt Ideal) ℓ) (g : Dev Cert.EvenLnRefIdeal.nD → PrngReg), Pre_EvenLnRefIdeal m →
    θ_run (Cert.EvenLnRefIdeal.defs (F := Ideal)) (onTc (τ := Cert.EvenLnRefIdeal.τ) (Cert.EvenLnRefIdeal.main (F := Ideal))) ⟨m, fun _ => 0, g⟩ (fun r => (∀ c : Dev Cert.EvenLnRefIdeal.nD,
      r.2.mem ((c.tc : Thread Cert.EvenLnRefIdeal.nD Cert.EvenLnRefIdeal.τ).loc Cert.EvenLnRefIdeal.main_arg0) = m ((c.tc : Thread Cert.EvenLnRefIdeal.nD Cert.EvenLnRefIdeal.τ).loc Cert.EvenLnRefIdeal.main_arg0)
      ∧ r.2.mem ((c.tc : Thread Cert.EvenLnRefIdeal.nD Cert.EvenLnRefIdeal.τ).loc Cert.EvenLnRefIdeal.main_arg1) = m ((c.tc : Thread Cert.EvenLnRefIdeal.nD Cert.EvenLnRefIdeal.τ).loc Cert.EvenLnRefIdeal.main_arg1)
      ∧ r.2.mem ((c.tc : Thread Cert.EvenLnRefIdeal.nD Cert.EvenLnRefIdeal.τ).loc Cert.EvenLnRefIdeal.main_arg2) = m ((c.tc : Thread Cert.EvenLnRefIdeal.nD Cert.EvenLnRefIdeal.τ).loc Cert.EvenLnRefIdeal.main_arg2))
      ∧ r.2.sem = fun _ => 0)

def quiescent_EvenLnBwd [hEvenLnBwd : Cert.EvenLnBwd.Facts] : Prop :=
  ∀ (m : (ℓ : Loc Cert.EvenLnBwd.nD Cert.EvenLnBwd.τ Cert.EvenLnBwd.sig) → Buf (Elt Bits) ℓ) (g : Dev Cert.EvenLnBwd.nD → PrngReg), Pre_EvenLnBwd m →
    θ_run (Cert.EvenLnBwd.defs (F := Bits)) (onTc (τ := Cert.EvenLnBwd.τ) (Cert.EvenLnBwd.main (F := Bits))) ⟨m, fun _ => 0, g⟩ (fun r => (∀ c : Dev Cert.EvenLnBwd.nD,
      r.2.mem ((c.tc : Thread Cert.EvenLnBwd.nD Cert.EvenLnBwd.τ).loc Cert.EvenLnBwd.main_arg0) = m ((c.tc : Thread Cert.EvenLnBwd.nD Cert.EvenLnBwd.τ).loc Cert.EvenLnBwd.main_arg0)
      ∧ r.2.mem ((c.tc : Thread Cert.EvenLnBwd.nD Cert.EvenLnBwd.τ).loc Cert.EvenLnBwd.main_arg1) = m ((c.tc : Thread Cert.EvenLnBwd.nD Cert.EvenLnBwd.τ).loc Cert.EvenLnBwd.main_arg1)
      ∧ r.2.mem ((c.tc : Thread Cert.EvenLnBwd.nD Cert.EvenLnBwd.τ).loc Cert.EvenLnBwd.main_arg2) = m ((c.tc : Thread Cert.EvenLnBwd.nD Cert.EvenLnBwd.τ).loc Cert.EvenLnBwd.main_arg2)
      ∧ r.2.mem ((c.tc : Thread Cert.EvenLnBwd.nD Cert.EvenLnBwd.τ).loc Cert.EvenLnBwd.main_arg3) = m ((c.tc : Thread Cert.EvenLnBwd.nD Cert.EvenLnBwd.τ).loc Cert.EvenLnBwd.main_arg3))
      ∧ r.2.sem = fun _ => 0)

def quiescent_EvenLnBwdIdeal [hEvenLnBwdIdeal : Cert.EvenLnBwdIdeal.Facts] : Prop :=
  ∀ (m : (ℓ : Loc Cert.EvenLnBwdIdeal.nD Cert.EvenLnBwdIdeal.τ Cert.EvenLnBwdIdeal.sig) → Buf (Elt Ideal) ℓ) (g : Dev Cert.EvenLnBwdIdeal.nD → PrngReg), Pre_EvenLnBwdIdeal m →
    θ_run (Cert.EvenLnBwdIdeal.defs (F := Ideal)) (onTc (τ := Cert.EvenLnBwdIdeal.τ) (Cert.EvenLnBwdIdeal.main (F := Ideal))) ⟨m, fun _ => 0, g⟩ (fun r => (∀ c : Dev Cert.EvenLnBwdIdeal.nD,
      r.2.mem ((c.tc : Thread Cert.EvenLnBwdIdeal.nD Cert.EvenLnBwdIdeal.τ).loc Cert.EvenLnBwdIdeal.main_arg0) = m ((c.tc : Thread Cert.EvenLnBwdIdeal.nD Cert.EvenLnBwdIdeal.τ).loc Cert.EvenLnBwdIdeal.main_arg0)
      ∧ r.2.mem ((c.tc : Thread Cert.EvenLnBwdIdeal.nD Cert.EvenLnBwdIdeal.τ).loc Cert.EvenLnBwdIdeal.main_arg1) = m ((c.tc : Thread Cert.EvenLnBwdIdeal.nD Cert.EvenLnBwdIdeal.τ).loc Cert.EvenLnBwdIdeal.main_arg1)
      ∧ r.2.mem ((c.tc : Thread Cert.EvenLnBwdIdeal.nD Cert.EvenLnBwdIdeal.τ).loc Cert.EvenLnBwdIdeal.main_arg2) = m ((c.tc : Thread Cert.EvenLnBwdIdeal.nD Cert.EvenLnBwdIdeal.τ).loc Cert.EvenLnBwdIdeal.main_arg2)
      ∧ r.2.mem ((c.tc : Thread Cert.EvenLnBwdIdeal.nD Cert.EvenLnBwdIdeal.τ).loc Cert.EvenLnBwdIdeal.main_arg3) = m ((c.tc : Thread Cert.EvenLnBwdIdeal.nD Cert.EvenLnBwdIdeal.τ).loc Cert.EvenLnBwdIdeal.main_arg3))
      ∧ r.2.sem = fun _ => 0)

def quiescent_EvenLnBwdIdeal_pre_ln_finite [hEvenLnBwdIdeal : Cert.EvenLnBwdIdeal.Facts] [hPre_ln_finite : Cert.Pre_ln_finite.Facts] : Prop :=
  ∀ (m : (ℓ : Loc Cert.EvenLnBwdIdeal.nD Cert.EvenLnBwdIdeal.τ Cert.EvenLnBwdIdeal.sig) → Buf (Elt Ideal) ℓ) (g : Dev Cert.EvenLnBwdIdeal.nD → PrngReg), Pre_EvenLnBwdIdeal_ln_finite m →
    θ_run (Cert.EvenLnBwdIdeal.defs (F := Ideal)) (onTc (τ := Cert.EvenLnBwdIdeal.τ) (Cert.EvenLnBwdIdeal.main (F := Ideal))) ⟨m, fun _ => 0, g⟩ (fun r => (∀ c : Dev Cert.EvenLnBwdIdeal.nD,
      r.2.mem ((c.tc : Thread Cert.EvenLnBwdIdeal.nD Cert.EvenLnBwdIdeal.τ).loc Cert.EvenLnBwdIdeal.main_arg0) = m ((c.tc : Thread Cert.EvenLnBwdIdeal.nD Cert.EvenLnBwdIdeal.τ).loc Cert.EvenLnBwdIdeal.main_arg0)
      ∧ r.2.mem ((c.tc : Thread Cert.EvenLnBwdIdeal.nD Cert.EvenLnBwdIdeal.τ).loc Cert.EvenLnBwdIdeal.main_arg1) = m ((c.tc : Thread Cert.EvenLnBwdIdeal.nD Cert.EvenLnBwdIdeal.τ).loc Cert.EvenLnBwdIdeal.main_arg1)
      ∧ r.2.mem ((c.tc : Thread Cert.EvenLnBwdIdeal.nD Cert.EvenLnBwdIdeal.τ).loc Cert.EvenLnBwdIdeal.main_arg2) = m ((c.tc : Thread Cert.EvenLnBwdIdeal.nD Cert.EvenLnBwdIdeal.τ).loc Cert.EvenLnBwdIdeal.main_arg2)
      ∧ r.2.mem ((c.tc : Thread Cert.EvenLnBwdIdeal.nD Cert.EvenLnBwdIdeal.τ).loc Cert.EvenLnBwdIdeal.main_arg3) = m ((c.tc : Thread Cert.EvenLnBwdIdeal.nD Cert.EvenLnBwdIdeal.τ).loc Cert.EvenLnBwdIdeal.main_arg3))
      ∧ r.2.sem = fun _ => 0)

def quiescent_EvenLnBwdRefIdeal [hEvenLnBwdRefIdeal : Cert.EvenLnBwdRefIdeal.Facts] : Prop :=
  ∀ (m : (ℓ : Loc Cert.EvenLnBwdRefIdeal.nD Cert.EvenLnBwdRefIdeal.τ Cert.EvenLnBwdRefIdeal.sig) → Buf (Elt Ideal) ℓ) (g : Dev Cert.EvenLnBwdRefIdeal.nD → PrngReg), Pre_EvenLnBwdRefIdeal m →
    θ_run (Cert.EvenLnBwdRefIdeal.defs (F := Ideal)) (onTc (τ := Cert.EvenLnBwdRefIdeal.τ) (Cert.EvenLnBwdRefIdeal.main (F := Ideal))) ⟨m, fun _ => 0, g⟩ (fun r => (∀ c : Dev Cert.EvenLnBwdRefIdeal.nD,
      r.2.mem ((c.tc : Thread Cert.EvenLnBwdRefIdeal.nD Cert.EvenLnBwdRefIdeal.τ).loc Cert.EvenLnBwdRefIdeal.main_arg0) = m ((c.tc : Thread Cert.EvenLnBwdRefIdeal.nD Cert.EvenLnBwdRefIdeal.τ).loc Cert.EvenLnBwdRefIdeal.main_arg0)
      ∧ r.2.mem ((c.tc : Thread Cert.EvenLnBwdRefIdeal.nD Cert.EvenLnBwdRefIdeal.τ).loc Cert.EvenLnBwdRefIdeal.main_arg1) = m ((c.tc : Thread Cert.EvenLnBwdRefIdeal.nD Cert.EvenLnBwdRefIdeal.τ).loc Cert.EvenLnBwdRefIdeal.main_arg1)
      ∧ r.2.mem ((c.tc : Thread Cert.EvenLnBwdRefIdeal.nD Cert.EvenLnBwdRefIdeal.τ).loc Cert.EvenLnBwdRefIdeal.main_arg2) = m ((c.tc : Thread Cert.EvenLnBwdRefIdeal.nD Cert.EvenLnBwdRefIdeal.τ).loc Cert.EvenLnBwdRefIdeal.main_arg2)
      ∧ r.2.mem ((c.tc : Thread Cert.EvenLnBwdRefIdeal.nD Cert.EvenLnBwdRefIdeal.τ).loc Cert.EvenLnBwdRefIdeal.main_arg3) = m ((c.tc : Thread Cert.EvenLnBwdRefIdeal.nD Cert.EvenLnBwdRefIdeal.τ).loc Cert.EvenLnBwdRefIdeal.main_arg3))
      ∧ r.2.sem = fun _ => 0)

def quiescent_EvenLnBwdRefIdeal_pre_ln_finite [hEvenLnBwdRefIdeal : Cert.EvenLnBwdRefIdeal.Facts] [hPre_ln_finite : Cert.Pre_ln_finite.Facts] : Prop :=
  ∀ (m : (ℓ : Loc Cert.EvenLnBwdRefIdeal.nD Cert.EvenLnBwdRefIdeal.τ Cert.EvenLnBwdRefIdeal.sig) → Buf (Elt Ideal) ℓ) (g : Dev Cert.EvenLnBwdRefIdeal.nD → PrngReg), Pre_EvenLnBwdRefIdeal_ln_finite m →
    θ_run (Cert.EvenLnBwdRefIdeal.defs (F := Ideal)) (onTc (τ := Cert.EvenLnBwdRefIdeal.τ) (Cert.EvenLnBwdRefIdeal.main (F := Ideal))) ⟨m, fun _ => 0, g⟩ (fun r => (∀ c : Dev Cert.EvenLnBwdRefIdeal.nD,
      r.2.mem ((c.tc : Thread Cert.EvenLnBwdRefIdeal.nD Cert.EvenLnBwdRefIdeal.τ).loc Cert.EvenLnBwdRefIdeal.main_arg0) = m ((c.tc : Thread Cert.EvenLnBwdRefIdeal.nD Cert.EvenLnBwdRefIdeal.τ).loc Cert.EvenLnBwdRefIdeal.main_arg0)
      ∧ r.2.mem ((c.tc : Thread Cert.EvenLnBwdRefIdeal.nD Cert.EvenLnBwdRefIdeal.τ).loc Cert.EvenLnBwdRefIdeal.main_arg1) = m ((c.tc : Thread Cert.EvenLnBwdRefIdeal.nD Cert.EvenLnBwdRefIdeal.τ).loc Cert.EvenLnBwdRefIdeal.main_arg1)
      ∧ r.2.mem ((c.tc : Thread Cert.EvenLnBwdRefIdeal.nD Cert.EvenLnBwdRefIdeal.τ).loc Cert.EvenLnBwdRefIdeal.main_arg2) = m ((c.tc : Thread Cert.EvenLnBwdRefIdeal.nD Cert.EvenLnBwdRefIdeal.τ).loc Cert.EvenLnBwdRefIdeal.main_arg2)
      ∧ r.2.mem ((c.tc : Thread Cert.EvenLnBwdRefIdeal.nD Cert.EvenLnBwdRefIdeal.τ).loc Cert.EvenLnBwdRefIdeal.main_arg3) = m ((c.tc : Thread Cert.EvenLnBwdRefIdeal.nD Cert.EvenLnBwdRefIdeal.τ).loc Cert.EvenLnBwdRefIdeal.main_arg3))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v68_0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v68_0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v189) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v7) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v7) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v4) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v4) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v7) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v7) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v4) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v4) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v6) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v5) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v4) = v0 c
          ∧ r.2.mem ((c.tc : Thread Cert.DownRefIdeal.nD Cert.DownRefIdeal.τ).loc Cert.DownRefIdeal.main_v17) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v0_0)) (v1 : (c : Dev Cert.OutIdeal.nD) → Buf (Elt Ideal) ((c.tc : Thread Cert.OutIdeal.nD Cert.OutIdeal.τ).loc Cert.OutIdeal.main_v0_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0_0) = v0 c
          ∧ r.2.mem ((c.tc : Thread Cert.OutIdeal.nD Cert.OutIdeal.τ).loc Cert.OutIdeal.main_v0_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v4) = v0 c
          ∧ r.2.mem ((c.tc : Thread Cert.OutRefIdeal.nD Cert.OutRefIdeal.τ).loc Cert.OutRefIdeal.main_v17) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v4_0)) (v1 : (c : Dev Cert.AdamInIdeal.nD) → Buf (Elt Ideal) ((c.tc : Thread Cert.AdamInIdeal.nD Cert.AdamInIdeal.τ).loc Cert.AdamInIdeal.main_v4_1)) (v2 : (c : Dev Cert.AdamInIdeal.nD) → Buf (Elt Ideal) ((c.tc : Thread Cert.AdamInIdeal.nD Cert.AdamInIdeal.τ).loc Cert.AdamInIdeal.main_v4_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v4_0) = v0 c
          ∧ r.2.mem ((c.tc : Thread Cert.AdamInIdeal.nD Cert.AdamInIdeal.τ).loc Cert.AdamInIdeal.main_v4_1) = v1 c
          ∧ r.2.mem ((c.tc : Thread Cert.AdamInIdeal.nD Cert.AdamInIdeal.τ).loc Cert.AdamInIdeal.main_v4_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v24) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v26) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v4_0)) (v1 : (c : Dev Cert.AdamOutIdeal.nD) → Buf (Elt Ideal) ((c.tc : Thread Cert.AdamOutIdeal.nD Cert.AdamOutIdeal.τ).loc Cert.AdamOutIdeal.main_v4_1)) (v2 : (c : Dev Cert.AdamOutIdeal.nD) → Buf (Elt Ideal) ((c.tc : Thread Cert.AdamOutIdeal.nD Cert.AdamOutIdeal.τ).loc Cert.AdamOutIdeal.main_v4_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v4_0) = v0 c
          ∧ r.2.mem ((c.tc : Thread Cert.AdamOutIdeal.nD Cert.AdamOutIdeal.τ).loc Cert.AdamOutIdeal.main_v4_1) = v1 c
          ∧ r.2.mem ((c.tc : Thread Cert.AdamOutIdeal.nD Cert.AdamOutIdeal.τ).loc Cert.AdamOutIdeal.main_v4_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v24) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v26) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v4_0)) (v1 : (c : Dev Cert.AdamUpIdeal.nD) → Buf (Elt Ideal) ((c.tc : Thread Cert.AdamUpIdeal.nD Cert.AdamUpIdeal.τ).loc Cert.AdamUpIdeal.main_v4_1)) (v2 : (c : Dev Cert.AdamUpIdeal.nD) → Buf (Elt Ideal) ((c.tc : Thread Cert.AdamUpIdeal.nD Cert.AdamUpIdeal.τ).loc Cert.AdamUpIdeal.main_v4_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v4_0) = v0 c
          ∧ r.2.mem ((c.tc : Thread Cert.AdamUpIdeal.nD Cert.AdamUpIdeal.τ).loc Cert.AdamUpIdeal.main_v4_1) = v1 c
          ∧ r.2.mem ((c.tc : Thread Cert.AdamUpIdeal.nD Cert.AdamUpIdeal.τ).loc Cert.AdamUpIdeal.main_v4_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v24) = v0 c
          ∧ r.2.mem ((c.tc : Thread Cert.AdamUpRefIdeal.nD Cert.AdamUpRefIdeal.τ).loc Cert.AdamUpRefIdeal.main_v25) = v1 c
          ∧ r.2.mem ((c.tc : Thread Cert.AdamUpRefIdeal.nD Cert.AdamUpRefIdeal.τ).loc Cert.AdamUpRefIdeal.main_v26) = v2 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v4_0)) (v1 : (c : Dev Cert.AdamDownIdeal.nD) → Buf (Elt Ideal) ((c.tc : Thread Cert.AdamDownIdeal.nD Cert.AdamDownIdeal.τ).loc Cert.AdamDownIdeal.main_v4_1)) (v2 : (c : Dev Cert.AdamDownIdeal.nD) → Buf (Elt Ideal) ((c.tc : Thread Cert.AdamDownIdeal.nD Cert.AdamDownIdeal.τ).loc Cert.AdamDownIdeal.main_v4_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v4_0) = v0 c
          ∧ r.2.mem ((c.tc : Thread Cert.AdamDownIdeal.nD Cert.AdamDownIdeal.τ).loc Cert.AdamDownIdeal.main_v4_1) = v1 c
          ∧ r.2.mem ((c.tc : Thread Cert.AdamDownIdeal.nD Cert.AdamDownIdeal.τ).loc Cert.AdamDownIdeal.main_v4_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v24) = v0 c
          ∧ r.2.mem ((c.tc : Thread Cert.AdamDownRefIdeal.nD Cert.AdamDownRefIdeal.τ).loc Cert.AdamDownRefIdeal.main_v25) = v1 c
          ∧ r.2.mem ((c.tc : Thread Cert.AdamDownRefIdeal.nD Cert.AdamDownRefIdeal.τ).loc Cert.AdamDownRefIdeal.main_v26) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_DownEnd_DownEndIdeal : Prop :=
  True

def algebraic_DownEndIdeal_DownEndRefIdeal [hDownEndIdeal : Cert.DownEndIdeal.Facts] [hDownEndRefIdeal : Cert.DownEndRefIdeal.Facts] : Prop :=
  ∀ (m : (ℓ : Loc Cert.DownEndIdeal.nD Cert.DownEndIdeal.τ Cert.DownEndIdeal.sig) → Buf (Elt Ideal) ℓ) (g : Dev Cert.DownEndIdeal.nD → PrngReg)
    (m' : (ℓ : Loc Cert.DownEndRefIdeal.nD Cert.DownEndRefIdeal.τ Cert.DownEndRefIdeal.sig) → Buf (Elt Ideal) ℓ) (g' : Dev Cert.DownEndRefIdeal.nD → PrngReg), Pre_DownEndIdeal m →
    (∀ c : Dev Cert.DownEndIdeal.nD,
      m' ((c.tc : Thread Cert.DownEndRefIdeal.nD Cert.DownEndRefIdeal.τ).loc Cert.DownEndRefIdeal.main_arg0) = m ((c.tc : Thread Cert.DownEndIdeal.nD Cert.DownEndIdeal.τ).loc Cert.DownEndIdeal.main_arg0)
      ∧ m' ((c.tc : Thread Cert.DownEndRefIdeal.nD Cert.DownEndRefIdeal.τ).loc Cert.DownEndRefIdeal.main_arg1) = m ((c.tc : Thread Cert.DownEndIdeal.nD Cert.DownEndIdeal.τ).loc Cert.DownEndIdeal.main_arg1)
      ∧ m' ((c.tc : Thread Cert.DownEndRefIdeal.nD Cert.DownEndRefIdeal.τ).loc Cert.DownEndRefIdeal.main_arg2) = m ((c.tc : Thread Cert.DownEndIdeal.nD Cert.DownEndIdeal.τ).loc Cert.DownEndIdeal.main_arg2)) →
    ∃ (v0 : (c : Dev Cert.DownEndIdeal.nD) → Buf (Elt Ideal) ((c.tc : Thread Cert.DownEndIdeal.nD Cert.DownEndIdeal.τ).loc Cert.DownEndIdeal.main_v0)),
      θ_run (Cert.DownEndIdeal.defs (F := Ideal)) (onTc (τ := Cert.DownEndIdeal.τ) (Cert.DownEndIdeal.main (F := Ideal))) ⟨m, fun _ => 0, g⟩ (fun r => ∀ c : Dev Cert.DownEndIdeal.nD,
          r.2.mem ((c.tc : Thread Cert.DownEndIdeal.nD Cert.DownEndIdeal.τ).loc Cert.DownEndIdeal.main_v0) = v0 c
          ∧ r.2.mem ((c.tc : Thread Cert.DownEndIdeal.nD Cert.DownEndIdeal.τ).loc Cert.DownEndIdeal.main_arg0) = m ((c.tc : Thread Cert.DownEndIdeal.nD Cert.DownEndIdeal.τ).loc Cert.DownEndIdeal.main_arg0)
          ∧ r.2.mem ((c.tc : Thread Cert.DownEndIdeal.nD Cert.DownEndIdeal.τ).loc Cert.DownEndIdeal.main_arg1) = m ((c.tc : Thread Cert.DownEndIdeal.nD Cert.DownEndIdeal.τ).loc Cert.DownEndIdeal.main_arg1)
          ∧ r.2.mem ((c.tc : Thread Cert.DownEndIdeal.nD Cert.DownEndIdeal.τ).loc Cert.DownEndIdeal.main_arg2) = m ((c.tc : Thread Cert.DownEndIdeal.nD Cert.DownEndIdeal.τ).loc Cert.DownEndIdeal.main_arg2))
      ∧ θ_run (Cert.DownEndRefIdeal.defs (F := Ideal)) (onTc (τ := Cert.DownEndRefIdeal.τ) (Cert.DownEndRefIdeal.main (F := Ideal))) ⟨m', fun _ => 0, g'⟩ (fun r => ∀ c : Dev Cert.DownEndRefIdeal.nD,
          r.2.mem ((c.tc : Thread Cert.DownEndRefIdeal.nD Cert.DownEndRefIdeal.τ).loc Cert.DownEndRefIdeal.main_v4) = v0 c
          ∧ r.2.mem ((c.tc : Thread Cert.DownEndRefIdeal.nD Cert.DownEndRefIdeal.τ).loc Cert.DownEndRefIdeal.main_arg0) = m' ((c.tc : Thread Cert.DownEndRefIdeal.nD Cert.DownEndRefIdeal.τ).loc Cert.DownEndRefIdeal.main_arg0)
          ∧ r.2.mem ((c.tc : Thread Cert.DownEndRefIdeal.nD Cert.DownEndRefIdeal.τ).loc Cert.DownEndRefIdeal.main_arg1) = m' ((c.tc : Thread Cert.DownEndRefIdeal.nD Cert.DownEndRefIdeal.τ).loc Cert.DownEndRefIdeal.main_arg1)
          ∧ r.2.mem ((c.tc : Thread Cert.DownEndRefIdeal.nD Cert.DownEndRefIdeal.τ).loc Cert.DownEndRefIdeal.main_arg2) = m' ((c.tc : Thread Cert.DownEndRefIdeal.nD Cert.DownEndRefIdeal.τ).loc Cert.DownEndRefIdeal.main_arg2))

def preserves_RmsBwd_RmsBwdIdeal : Prop :=
  True

def algebraic_RmsBwdIdeal_RmsBwdRefIdeal [hRmsBwdIdeal : Cert.RmsBwdIdeal.Facts] [hRmsBwdRefIdeal : Cert.RmsBwdRefIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsBwdRefIdeal.nD Cert.RmsBwdRefIdeal.τ Cert.RmsBwdRefIdeal.sig) → Buf (Elt Ideal) ℓ) (g' : Dev Cert.RmsBwdRefIdeal.nD → PrngReg), Pre_RmsBwdIdeal m →
    (∀ c : Dev Cert.RmsBwdIdeal.nD,
      m' ((c.tc : Thread Cert.RmsBwdRefIdeal.nD Cert.RmsBwdRefIdeal.τ).loc Cert.RmsBwdRefIdeal.main_arg0) = m ((c.tc : Thread Cert.RmsBwdIdeal.nD Cert.RmsBwdIdeal.τ).loc Cert.RmsBwdIdeal.main_arg0)
      ∧ m' ((c.tc : Thread Cert.RmsBwdRefIdeal.nD Cert.RmsBwdRefIdeal.τ).loc Cert.RmsBwdRefIdeal.main_arg1) = m ((c.tc : Thread Cert.RmsBwdIdeal.nD Cert.RmsBwdIdeal.τ).loc Cert.RmsBwdIdeal.main_arg1)
      ∧ m' ((c.tc : Thread Cert.RmsBwdRefIdeal.nD Cert.RmsBwdRefIdeal.τ).loc Cert.RmsBwdRefIdeal.main_arg2) = m ((c.tc : Thread Cert.RmsBwdIdeal.nD Cert.RmsBwdIdeal.τ).loc Cert.RmsBwdIdeal.main_arg2)
      ∧ m' ((c.tc : Thread Cert.RmsBwdRefIdeal.nD Cert.RmsBwdRefIdeal.τ).loc Cert.RmsBwdRefIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v0_0)) (v1 : (c : Dev Cert.RmsBwdIdeal.nD) → Buf (Elt Ideal) ((c.tc : Thread Cert.RmsBwdIdeal.nD Cert.RmsBwdIdeal.τ).loc Cert.RmsBwdIdeal.main_v0_1)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v0_0) = v0 c
          ∧ r.2.mem ((c.tc : Thread Cert.RmsBwdIdeal.nD Cert.RmsBwdIdeal.τ).loc Cert.RmsBwdIdeal.main_v0_1) = v1 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RmsBwdRefIdeal.defs (F := Ideal)) (onTc (τ := Cert.RmsBwdRefIdeal.τ) (Cert.RmsBwdRefIdeal.main (F := Ideal))) ⟨m', fun _ => 0, g'⟩ (fun r => ∀ c : Dev Cert.RmsBwdRefIdeal.nD,
          r.2.mem ((c.tc : Thread Cert.RmsBwdRefIdeal.nD Cert.RmsBwdRefIdeal.τ).loc Cert.RmsBwdRefIdeal.main_v34) = v0 c
          ∧ r.2.mem ((c.tc : Thread Cert.RmsBwdRefIdeal.nD Cert.RmsBwdRefIdeal.τ).loc Cert.RmsBwdRefIdeal.main_v17) = v1 c
          ∧ r.2.mem ((c.tc : Thread Cert.RmsBwdRefIdeal.nD Cert.RmsBwdRefIdeal.τ).loc Cert.RmsBwdRefIdeal.main_arg0) = m' ((c.tc : Thread Cert.RmsBwdRefIdeal.nD Cert.RmsBwdRefIdeal.τ).loc Cert.RmsBwdRefIdeal.main_arg0)
          ∧ r.2.mem ((c.tc : Thread Cert.RmsBwdRefIdeal.nD Cert.RmsBwdRefIdeal.τ).loc Cert.RmsBwdRefIdeal.main_arg1) = m' ((c.tc : Thread Cert.RmsBwdRefIdeal.nD Cert.RmsBwdRefIdeal.τ).loc Cert.RmsBwdRefIdeal.main_arg1)
          ∧ r.2.mem ((c.tc : Thread Cert.RmsBwdRefIdeal.nD Cert.RmsBwdRefIdeal.τ).loc Cert.RmsBwdRefIdeal.main_arg2) = m' ((c.tc : Thread Cert.RmsBwdRefIdeal.nD Cert.RmsBwdRefIdeal.τ).loc Cert.RmsBwdRefIdeal.main_arg2)
          ∧ r.2.mem ((c.tc : Thread Cert.RmsBwdRefIdeal.nD Cert.RmsBwdRefIdeal.τ).loc Cert.RmsBwdRefIdeal.main_arg3) = m' ((c.tc : Thread Cert.RmsBwdRefIdeal.nD Cert.RmsBwdRefIdeal.τ).loc Cert.RmsBwdRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)
      ∧ m' ((c.tc : Thread Cert.AdamSmallRefIdeal.nD Cert.AdamSmallRefIdeal.τ).loc Cert.AdamSmallRefIdeal.main_arg6) = m ((c.tc : Thread Cert.AdamSmallIdeal.nD Cert.AdamSmallIdeal.τ).loc Cert.AdamSmallIdeal.main_arg6)
      ∧ m' ((c.tc : Thread Cert.AdamSmallRefIdeal.nD Cert.AdamSmallRefIdeal.τ).loc Cert.AdamSmallRefIdeal.main_arg7) = m ((c.tc : Thread Cert.AdamSmallIdeal.nD Cert.AdamSmallIdeal.τ).loc Cert.AdamSmallIdeal.main_arg7)
      ∧ m' ((c.tc : Thread Cert.AdamSmallRefIdeal.nD Cert.AdamSmallRefIdeal.τ).loc Cert.AdamSmallRefIdeal.main_arg8) = m ((c.tc : Thread Cert.AdamSmallIdeal.nD Cert.AdamSmallIdeal.τ).loc Cert.AdamSmallIdeal.main_arg8)
      ∧ m' ((c.tc : Thread Cert.AdamSmallRefIdeal.nD Cert.AdamSmallRefIdeal.τ).loc Cert.AdamSmallRefIdeal.main_arg9) = m ((c.tc : Thread Cert.AdamSmallIdeal.nD Cert.AdamSmallIdeal.τ).loc Cert.AdamSmallIdeal.main_arg9)
      ∧ m' ((c.tc : Thread Cert.AdamSmallRefIdeal.nD Cert.AdamSmallRefIdeal.τ).loc Cert.AdamSmallRefIdeal.main_arg10) = m ((c.tc : Thread Cert.AdamSmallIdeal.nD Cert.AdamSmallIdeal.τ).loc Cert.AdamSmallIdeal.main_arg10)
      ∧ m' ((c.tc : Thread Cert.AdamSmallRefIdeal.nD Cert.AdamSmallRefIdeal.τ).loc Cert.AdamSmallRefIdeal.main_arg11) = m ((c.tc : Thread Cert.AdamSmallIdeal.nD Cert.AdamSmallIdeal.τ).loc Cert.AdamSmallIdeal.main_arg11)
      ∧ m' ((c.tc : Thread Cert.AdamSmallRefIdeal.nD Cert.AdamSmallRefIdeal.τ).loc Cert.AdamSmallRefIdeal.main_arg12) = m ((c.tc : Thread Cert.AdamSmallIdeal.nD Cert.AdamSmallIdeal.τ).loc Cert.AdamSmallIdeal.main_arg12)
      ∧ m' ((c.tc : Thread Cert.AdamSmallRefIdeal.nD Cert.AdamSmallRefIdeal.τ).loc Cert.AdamSmallRefIdeal.main_arg13) = m ((c.tc : Thread Cert.AdamSmallIdeal.nD Cert.AdamSmallIdeal.τ).loc Cert.AdamSmallIdeal.main_arg13)
      ∧ m' ((c.tc : Thread Cert.AdamSmallRefIdeal.nD Cert.AdamSmallRefIdeal.τ).loc Cert.AdamSmallRefIdeal.main_arg14) = m ((c.tc : Thread Cert.AdamSmallIdeal.nD Cert.AdamSmallIdeal.τ).loc Cert.AdamSmallIdeal.main_arg14)
      ∧ m' ((c.tc : Thread Cert.AdamSmallRefIdeal.nD Cert.AdamSmallRefIdeal.τ).loc Cert.AdamSmallRefIdeal.main_arg15) = m ((c.tc : Thread Cert.AdamSmallIdeal.nD Cert.AdamSmallIdeal.τ).loc Cert.AdamSmallIdeal.main_arg15)
      ∧ m' ((c.tc : Thread Cert.AdamSmallRefIdeal.nD Cert.AdamSmallRefIdeal.τ).loc Cert.AdamSmallRefIdeal.main_arg16) = m ((c.tc : Thread Cert.AdamSmallIdeal.nD Cert.AdamSmallIdeal.τ).loc Cert.AdamSmallIdeal.main_arg16)
      ∧ m' ((c.tc : Thread Cert.AdamSmallRefIdeal.nD Cert.AdamSmallRefIdeal.τ).loc Cert.AdamSmallRefIdeal.main_arg17) = m ((c.tc : Thread Cert.AdamSmallIdeal.nD Cert.AdamSmallIdeal.τ).loc Cert.AdamSmallIdeal.main_arg17)
      ∧ m' ((c.tc : Thread Cert.AdamSmallRefIdeal.nD Cert.AdamSmallRefIdeal.τ).loc Cert.AdamSmallRefIdeal.main_arg18) = m ((c.tc : Thread Cert.AdamSmallIdeal.nD Cert.AdamSmallIdeal.τ).loc Cert.AdamSmallIdeal.main_arg18)
      ∧ m' ((c.tc : Thread Cert.AdamSmallRefIdeal.nD Cert.AdamSmallRefIdeal.τ).loc Cert.AdamSmallRefIdeal.main_arg19) = m ((c.tc : Thread Cert.AdamSmallIdeal.nD Cert.AdamSmallIdeal.τ).loc Cert.AdamSmallIdeal.main_arg19)
      ∧ m' ((c.tc : Thread Cert.AdamSmallRefIdeal.nD Cert.AdamSmallRefIdeal.τ).loc Cert.AdamSmallRefIdeal.main_arg20) = m ((c.tc : Thread Cert.AdamSmallIdeal.nD Cert.AdamSmallIdeal.τ).loc Cert.AdamSmallIdeal.main_arg20)
      ∧ m' ((c.tc : Thread Cert.AdamSmallRefIdeal.nD Cert.AdamSmallRefIdeal.τ).loc Cert.AdamSmallRefIdeal.main_arg21) = m ((c.tc : Thread Cert.AdamSmallIdeal.nD Cert.AdamSmallIdeal.τ).loc Cert.AdamSmallIdeal.main_arg21)
      ∧ m' ((c.tc : Thread Cert.AdamSmallRefIdeal.nD Cert.AdamSmallRefIdeal.τ).loc Cert.AdamSmallRefIdeal.main_arg22) = m ((c.tc : Thread Cert.AdamSmallIdeal.nD Cert.AdamSmallIdeal.τ).loc Cert.AdamSmallIdeal.main_arg22)
      ∧ m' ((c.tc : Thread Cert.AdamSmallRefIdeal.nD Cert.AdamSmallRefIdeal.τ).loc Cert.AdamSmallRefIdeal.main_arg23) = m ((c.tc : Thread Cert.AdamSmallIdeal.nD Cert.AdamSmallIdeal.τ).loc Cert.AdamSmallIdeal.main_arg23)
      ∧ m' ((c.tc : Thread Cert.AdamSmallRefIdeal.nD Cert.AdamSmallRefIdeal.τ).loc Cert.AdamSmallRefIdeal.main_arg24) = m ((c.tc : Thread Cert.AdamSmallIdeal.nD Cert.AdamSmallIdeal.τ).loc Cert.AdamSmallIdeal.main_arg24)
      ∧ m' ((c.tc : Thread Cert.AdamSmallRefIdeal.nD Cert.AdamSmallRefIdeal.τ).loc Cert.AdamSmallRefIdeal.main_arg25) = m ((c.tc : Thread Cert.AdamSmallIdeal.nD Cert.AdamSmallIdeal.τ).loc Cert.AdamSmallIdeal.main_arg25)
      ∧ m' ((c.tc : Thread Cert.AdamSmallRefIdeal.nD Cert.AdamSmallRefIdeal.τ).loc Cert.AdamSmallRefIdeal.main_arg26) = m ((c.tc : Thread Cert.AdamSmallIdeal.nD Cert.AdamSmallIdeal.τ).loc Cert.AdamSmallIdeal.main_arg26)
      ∧ m' ((c.tc : Thread Cert.AdamSmallRefIdeal.nD Cert.AdamSmallRefIdeal.τ).loc Cert.AdamSmallRefIdeal.main_arg27) = m ((c.tc : Thread Cert.AdamSmallIdeal.nD Cert.AdamSmallIdeal.τ).loc Cert.AdamSmallIdeal.main_arg27)
      ∧ m' ((c.tc : Thread Cert.AdamSmallRefIdeal.nD Cert.AdamSmallRefIdeal.τ).loc Cert.AdamSmallRefIdeal.main_arg28) = m ((c.tc : Thread Cert.AdamSmallIdeal.nD Cert.AdamSmallIdeal.τ).loc Cert.AdamSmallIdeal.main_arg28)
      ∧ m' ((c.tc : Thread Cert.AdamSmallRefIdeal.nD Cert.AdamSmallRefIdeal.τ).loc Cert.AdamSmallRefIdeal.main_arg29) = m ((c.tc : Thread Cert.AdamSmallIdeal.nD Cert.AdamSmallIdeal.τ).loc Cert.AdamSmallIdeal.main_arg29)
      ∧ m' ((c.tc : Thread Cert.AdamSmallRefIdeal.nD Cert.AdamSmallRefIdeal.τ).loc Cert.AdamSmallRefIdeal.main_arg30) = m ((c.tc : Thread Cert.AdamSmallIdeal.nD Cert.AdamSmallIdeal.τ).loc Cert.AdamSmallIdeal.main_arg30)
      ∧ m' ((c.tc : Thread Cert.AdamSmallRefIdeal.nD Cert.AdamSmallRefIdeal.τ).loc Cert.AdamSmallRefIdeal.main_arg31) = m ((c.tc : Thread Cert.AdamSmallIdeal.nD Cert.AdamSmallIdeal.τ).loc Cert.AdamSmallIdeal.main_arg31)
      ∧ m' ((c.tc : Thread Cert.AdamSmallRefIdeal.nD Cert.AdamSmallRefIdeal.τ).loc Cert.AdamSmallRefIdeal.main_arg32) = m ((c.tc : Thread Cert.AdamSmallIdeal.nD Cert.AdamSmallIdeal.τ).loc Cert.AdamSmallIdeal.main_arg32)
      ∧ m' ((c.tc : Thread Cert.AdamSmallRefIdeal.nD Cert.AdamSmallRefIdeal.τ).loc Cert.AdamSmallRefIdeal.main_arg33) = m ((c.tc : Thread Cert.AdamSmallIdeal.nD Cert.AdamSmallIdeal.τ).loc Cert.AdamSmallIdeal.main_arg33)
      ∧ m' ((c.tc : Thread Cert.AdamSmallRefIdeal.nD Cert.AdamSmallRefIdeal.τ).loc Cert.AdamSmallRefIdeal.main_arg34) = m ((c.tc : Thread Cert.AdamSmallIdeal.nD Cert.AdamSmallIdeal.τ).loc Cert.AdamSmallIdeal.main_arg34)
      ∧ m' ((c.tc : Thread Cert.AdamSmallRefIdeal.nD Cert.AdamSmallRefIdeal.τ).loc Cert.AdamSmallRefIdeal.main_arg35) = m ((c.tc : Thread Cert.AdamSmallIdeal.nD Cert.AdamSmallIdeal.τ).loc Cert.AdamSmallIdeal.main_arg35)
      ∧ m' ((c.tc : Thread Cert.AdamSmallRefIdeal.nD Cert.AdamSmallRefIdeal.τ).loc Cert.AdamSmallRefIdeal.main_arg36) = m ((c.tc : Thread Cert.AdamSmallIdeal.nD Cert.AdamSmallIdeal.τ).loc Cert.AdamSmallIdeal.main_arg36)
      ∧ m' ((c.tc : Thread Cert.AdamSmallRefIdeal.nD Cert.AdamSmallRefIdeal.τ).loc Cert.AdamSmallRefIdeal.main_arg37) = m ((c.tc : Thread Cert.AdamSmallIdeal.nD Cert.AdamSmallIdeal.τ).loc Cert.AdamSmallIdeal.main_arg37)
      ∧ m' ((c.tc : Thread Cert.AdamSmallRefIdeal.nD Cert.AdamSmallRefIdeal.τ).loc Cert.AdamSmallRefIdeal.main_arg38) = m ((c.tc : Thread Cert.AdamSmallIdeal.nD Cert.AdamSmallIdeal.τ).loc Cert.AdamSmallIdeal.main_arg38)
      ∧ m' ((c.tc : Thread Cert.AdamSmallRefIdeal.nD Cert.AdamSmallRefIdeal.τ).loc Cert.AdamSmallRefIdeal.main_arg39) = m ((c.tc : Thread Cert.AdamSmallIdeal.nD Cert.AdamSmallIdeal.τ).loc Cert.AdamSmallIdeal.main_arg39)
      ∧ m' ((c.tc : Thread Cert.AdamSmallRefIdeal.nD Cert.AdamSmallRefIdeal.τ).loc Cert.AdamSmallRefIdeal.main_arg40) = m ((c.tc : Thread Cert.AdamSmallIdeal.nD Cert.AdamSmallIdeal.τ).loc Cert.AdamSmallIdeal.main_arg40)
      ∧ m' ((c.tc : Thread Cert.AdamSmallRefIdeal.nD Cert.AdamSmallRefIdeal.τ).loc Cert.AdamSmallRefIdeal.main_arg41) = m ((c.tc : Thread Cert.AdamSmallIdeal.nD Cert.AdamSmallIdeal.τ).loc Cert.AdamSmallIdeal.main_arg41)
      ∧ m' ((c.tc : Thread Cert.AdamSmallRefIdeal.nD Cert.AdamSmallRefIdeal.τ).loc Cert.AdamSmallRefIdeal.main_arg42) = m ((c.tc : Thread Cert.AdamSmallIdeal.nD Cert.AdamSmallIdeal.τ).loc Cert.AdamSmallIdeal.main_arg42)
      ∧ m' ((c.tc : Thread Cert.AdamSmallRefIdeal.nD Cert.AdamSmallRefIdeal.τ).loc Cert.AdamSmallRefIdeal.main_arg43) = m ((c.tc : Thread Cert.AdamSmallIdeal.nD Cert.AdamSmallIdeal.τ).loc Cert.AdamSmallIdeal.main_arg43)
      ∧ m' ((c.tc : Thread Cert.AdamSmallRefIdeal.nD Cert.AdamSmallRefIdeal.τ).loc Cert.AdamSmallRefIdeal.main_arg44) = m ((c.tc : Thread Cert.AdamSmallIdeal.nD Cert.AdamSmallIdeal.τ).loc Cert.AdamSmallIdeal.main_arg44)
      ∧ m' ((c.tc : Thread Cert.AdamSmallRefIdeal.nD Cert.AdamSmallRefIdeal.τ).loc Cert.AdamSmallRefIdeal.main_arg45) = m ((c.tc : Thread Cert.AdamSmallIdeal.nD Cert.AdamSmallIdeal.τ).loc Cert.AdamSmallIdeal.main_arg45)
      ∧ m' ((c.tc : Thread Cert.AdamSmallRefIdeal.nD Cert.AdamSmallRefIdeal.τ).loc Cert.AdamSmallRefIdeal.main_arg46) = m ((c.tc : Thread Cert.AdamSmallIdeal.nD Cert.AdamSmallIdeal.τ).loc Cert.AdamSmallIdeal.main_arg46)
      ∧ m' ((c.tc : Thread Cert.AdamSmallRefIdeal.nD Cert.AdamSmallRefIdeal.τ).loc Cert.AdamSmallRefIdeal.main_arg47) = m ((c.tc : Thread Cert.AdamSmallIdeal.nD Cert.AdamSmallIdeal.τ).loc Cert.AdamSmallIdeal.main_arg47)
      ∧ m' ((c.tc : Thread Cert.AdamSmallRefIdeal.nD Cert.AdamSmallRefIdeal.τ).loc Cert.AdamSmallRefIdeal.main_arg48) = m ((c.tc : Thread Cert.AdamSmallIdeal.nD Cert.AdamSmallIdeal.τ).loc Cert.AdamSmallIdeal.main_arg48)
      ∧ m' ((c.tc : Thread Cert.AdamSmallRefIdeal.nD Cert.AdamSmallRefIdeal.τ).loc Cert.AdamSmallRefIdeal.main_arg49) = m ((c.tc : Thread Cert.AdamSmallIdeal.nD Cert.AdamSmallIdeal.τ).loc Cert.AdamSmallIdeal.main_arg49)
      ∧ m' ((c.tc : Thread Cert.AdamSmallRefIdeal.nD Cert.AdamSmallRefIdeal.τ).loc Cert.AdamSmallRefIdeal.main_arg50) = m ((c.tc : Thread Cert.AdamSmallIdeal.nD Cert.AdamSmallIdeal.τ).loc Cert.AdamSmallIdeal.main_arg50)
      ∧ m' ((c.tc : Thread Cert.AdamSmallRefIdeal.nD Cert.AdamSmallRefIdeal.τ).loc Cert.AdamSmallRefIdeal.main_arg51) = m ((c.tc : Thread Cert.AdamSmallIdeal.nD Cert.AdamSmallIdeal.τ).loc Cert.AdamSmallIdeal.main_arg51)
      ∧ m' ((c.tc : Thread Cert.AdamSmallRefIdeal.nD Cert.AdamSmallRefIdeal.τ).loc Cert.AdamSmallRefIdeal.main_arg52) = m ((c.tc : Thread Cert.AdamSmallIdeal.nD Cert.AdamSmallIdeal.τ).loc Cert.AdamSmallIdeal.main_arg52)
      ∧ m' ((c.tc : Thread Cert.AdamSmallRefIdeal.nD Cert.AdamSmallRefIdeal.τ).loc Cert.AdamSmallRefIdeal.main_arg53) = m ((c.tc : Thread Cert.AdamSmallIdeal.nD Cert.AdamSmallIdeal.τ).loc Cert.AdamSmallIdeal.main_arg53)
      ∧ m' ((c.tc : Thread Cert.AdamSmallRefIdeal.nD Cert.AdamSmallRefIdeal.τ).loc Cert.AdamSmallRefIdeal.main_arg54) = m ((c.tc : Thread Cert.AdamSmallIdeal.nD Cert.AdamSmallIdeal.τ).loc Cert.AdamSmallIdeal.main_arg54)
      ∧ m' ((c.tc : Thread Cert.AdamSmallRefIdeal.nD Cert.AdamSmallRefIdeal.τ).loc Cert.AdamSmallRefIdeal.main_arg55) = m ((c.tc : Thread Cert.AdamSmallIdeal.nD Cert.AdamSmallIdeal.τ).loc Cert.AdamSmallIdeal.main_arg55)
      ∧ m' ((c.tc : Thread Cert.AdamSmallRefIdeal.nD Cert.AdamSmallRefIdeal.τ).loc Cert.AdamSmallRefIdeal.main_arg56) = m ((c.tc : Thread Cert.AdamSmallIdeal.nD Cert.AdamSmallIdeal.τ).loc Cert.AdamSmallIdeal.main_arg56)
      ∧ m' ((c.tc : Thread Cert.AdamSmallRefIdeal.nD Cert.AdamSmallRefIdeal.τ).loc Cert.AdamSmallRefIdeal.main_arg57) = m ((c.tc : Thread Cert.AdamSmallIdeal.nD Cert.AdamSmallIdeal.τ).loc Cert.AdamSmallIdeal.main_arg57)
      ∧ m' ((c.tc : Thread Cert.AdamSmallRefIdeal.nD Cert.AdamSmallRefIdeal.τ).loc Cert.AdamSmallRefIdeal.main_arg58) = m ((c.tc : Thread Cert.AdamSmallIdeal.nD Cert.AdamSmallIdeal.τ).loc Cert.AdamSmallIdeal.main_arg58)
      ∧ m' ((c.tc : Thread Cert.AdamSmallRefIdeal.nD Cert.AdamSmallRefIdeal.τ).loc Cert.AdamSmallRefIdeal.main_arg59) = m ((c.tc : Thread Cert.AdamSmallIdeal.nD Cert.AdamSmallIdeal.τ).loc Cert.AdamSmallIdeal.main_arg59)
      ∧ m' ((c.tc : Thread Cert.AdamSmallRefIdeal.nD Cert.AdamSmallRefIdeal.τ).loc Cert.AdamSmallRefIdeal.main_arg60) = m ((c.tc : Thread Cert.AdamSmallIdeal.nD Cert.AdamSmallIdeal.τ).loc Cert.AdamSmallIdeal.main_arg60)
      ∧ m' ((c.tc : Thread Cert.AdamSmallRefIdeal.nD Cert.AdamSmallRefIdeal.τ).loc Cert.AdamSmallRefIdeal.main_arg61) = m ((c.tc : Thread Cert.AdamSmallIdeal.nD Cert.AdamSmallIdeal.τ).loc Cert.AdamSmallIdeal.main_arg61)
      ∧ m' ((c.tc : Thread Cert.AdamSmallRefIdeal.nD Cert.AdamSmallRefIdeal.τ).loc Cert.AdamSmallRefIdeal.main_arg62) = m ((c.tc : Thread Cert.AdamSmallIdeal.nD Cert.AdamSmallIdeal.τ).loc Cert.AdamSmallIdeal.main_arg62)
      ∧ m' ((c.tc : Thread Cert.AdamSmallRefIdeal.nD Cert.AdamSmallRefIdeal.τ).loc Cert.AdamSmallRefIdeal.main_arg63) = m ((c.tc : Thread Cert.AdamSmallIdeal.nD Cert.AdamSmallIdeal.τ).loc Cert.AdamSmallIdeal.main_arg63)
      ∧ m' ((c.tc : Thread Cert.AdamSmallRefIdeal.nD Cert.AdamSmallRefIdeal.τ).loc Cert.AdamSmallRefIdeal.main_arg64) = m ((c.tc : Thread Cert.AdamSmallIdeal.nD Cert.AdamSmallIdeal.τ).loc Cert.AdamSmallIdeal.main_arg64)
      ∧ m' ((c.tc : Thread Cert.AdamSmallRefIdeal.nD Cert.AdamSmallRefIdeal.τ).loc Cert.AdamSmallRefIdeal.main_arg65) = m ((c.tc : Thread Cert.AdamSmallIdeal.nD Cert.AdamSmallIdeal.τ).loc Cert.AdamSmallIdeal.main_arg65)
      ∧ m' ((c.tc : Thread Cert.AdamSmallRefIdeal.nD Cert.AdamSmallRefIdeal.τ).loc Cert.AdamSmallRefIdeal.main_arg66) = m ((c.tc : Thread Cert.AdamSmallIdeal.nD Cert.AdamSmallIdeal.τ).loc Cert.AdamSmallIdeal.main_arg66)
      ∧ m' ((c.tc : Thread Cert.AdamSmallRefIdeal.nD Cert.AdamSmallRefIdeal.τ).loc Cert.AdamSmallRefIdeal.main_arg67) = m ((c.tc : Thread Cert.AdamSmallIdeal.nD Cert.AdamSmallIdeal.τ).loc Cert.AdamSmallIdeal.main_arg67)
      ∧ m' ((c.tc : Thread Cert.AdamSmallRefIdeal.nD Cert.AdamSmallRefIdeal.τ).loc Cert.AdamSmallRefIdeal.main_arg68) = m ((c.tc : Thread Cert.AdamSmallIdeal.nD Cert.AdamSmallIdeal.τ).loc Cert.AdamSmallIdeal.main_arg68)
      ∧ m' ((c.tc : Thread Cert.AdamSmallRefIdeal.nD Cert.AdamSmallRefIdeal.τ).loc Cert.AdamSmallRefIdeal.main_arg69) = m ((c.tc : Thread Cert.AdamSmallIdeal.nD Cert.AdamSmallIdeal.τ).loc Cert.AdamSmallIdeal.main_arg69)
      ∧ m' ((c.tc : Thread Cert.AdamSmallRefIdeal.nD Cert.AdamSmallRefIdeal.τ).loc Cert.AdamSmallRefIdeal.main_arg70) = m ((c.tc : Thread Cert.AdamSmallIdeal.nD Cert.AdamSmallIdeal.τ).loc Cert.AdamSmallIdeal.main_arg70)
      ∧ m' ((c.tc : Thread Cert.AdamSmallRefIdeal.nD Cert.AdamSmallRefIdeal.τ).loc Cert.AdamSmallRefIdeal.main_arg71) = m ((c.tc : Thread Cert.AdamSmallIdeal.nD Cert.AdamSmallIdeal.τ).loc Cert.AdamSmallIdeal.main_arg71)
      ∧ m' ((c.tc : Thread Cert.AdamSmallRefIdeal.nD Cert.AdamSmallRefIdeal.τ).loc Cert.AdamSmallRefIdeal.main_arg72) = m ((c.tc : Thread Cert.AdamSmallIdeal.nD Cert.AdamSmallIdeal.τ).loc Cert.AdamSmallIdeal.main_arg72)
      ∧ m' ((c.tc : Thread Cert.AdamSmallRefIdeal.nD Cert.AdamSmallRefIdeal.τ).loc Cert.AdamSmallRefIdeal.main_arg73) = m ((c.tc : Thread Cert.AdamSmallIdeal.nD Cert.AdamSmallIdeal.τ).loc Cert.AdamSmallIdeal.main_arg73)
      ∧ m' ((c.tc : Thread Cert.AdamSmallRefIdeal.nD Cert.AdamSmallRefIdeal.τ).loc Cert.AdamSmallRefIdeal.main_arg74) = m ((c.tc : Thread Cert.AdamSmallIdeal.nD Cert.AdamSmallIdeal.τ).loc Cert.AdamSmallIdeal.main_arg74)
      ∧ m' ((c.tc : Thread Cert.AdamSmallRefIdeal.nD Cert.AdamSmallRefIdeal.τ).loc Cert.AdamSmallRefIdeal.main_arg75) = m ((c.tc : Thread Cert.AdamSmallIdeal.nD Cert.AdamSmallIdeal.τ).loc Cert.AdamSmallIdeal.main_arg75)
      ∧ m' ((c.tc : Thread Cert.AdamSmallRefIdeal.nD Cert.AdamSmallRefIdeal.τ).loc Cert.AdamSmallRefIdeal.main_arg76) = m ((c.tc : Thread Cert.AdamSmallIdeal.nD Cert.AdamSmallIdeal.τ).loc Cert.AdamSmallIdeal.main_arg76)
      ∧ m' ((c.tc : Thread Cert.AdamSmallRefIdeal.nD Cert.AdamSmallRefIdeal.τ).loc Cert.AdamSmallRefIdeal.main_arg77) = m ((c.tc : Thread Cert.AdamSmallIdeal.nD Cert.AdamSmallIdeal.τ).loc Cert.AdamSmallIdeal.main_arg77)
      ∧ m' ((c.tc : Thread Cert.AdamSmallRefIdeal.nD Cert.AdamSmallRefIdeal.τ).loc Cert.AdamSmallRefIdeal.main_arg78) = m ((c.tc : Thread Cert.AdamSmallIdeal.nD Cert.AdamSmallIdeal.τ).loc Cert.AdamSmallIdeal.main_arg78)
      ∧ m' ((c.tc : Thread Cert.AdamSmallRefIdeal.nD Cert.AdamSmallRefIdeal.τ).loc Cert.AdamSmallRefIdeal.main_arg79) = m ((c.tc : Thread Cert.AdamSmallIdeal.nD Cert.AdamSmallIdeal.τ).loc Cert.AdamSmallIdeal.main_arg79)
      ∧ m' ((c.tc : Thread Cert.AdamSmallRefIdeal.nD Cert.AdamSmallRefIdeal.τ).loc Cert.AdamSmallRefIdeal.main_arg80) = m ((c.tc : Thread Cert.AdamSmallIdeal.nD Cert.AdamSmallIdeal.τ).loc Cert.AdamSmallIdeal.main_arg80)
      ∧ m' ((c.tc : Thread Cert.AdamSmallRefIdeal.nD Cert.AdamSmallRefIdeal.τ).loc Cert.AdamSmallRefIdeal.main_arg81) = m ((c.tc : Thread Cert.AdamSmallIdeal.nD Cert.AdamSmallIdeal.τ).loc Cert.AdamSmallIdeal.main_arg81)
      ∧ m' ((c.tc : Thread Cert.AdamSmallRefIdeal.nD Cert.AdamSmallRefIdeal.τ).loc Cert.AdamSmallRefIdeal.main_arg82) = m ((c.tc : Thread Cert.AdamSmallIdeal.nD Cert.AdamSmallIdeal.τ).loc Cert.AdamSmallIdeal.main_arg82)
      ∧ m' ((c.tc : Thread Cert.AdamSmallRefIdeal.nD Cert.AdamSmallRefIdeal.τ).loc Cert.AdamSmallRefIdeal.main_arg83) = m ((c.tc : Thread Cert.AdamSmallIdeal.nD Cert.AdamSmallIdeal.τ).loc Cert.AdamSmallIdeal.main_arg83)
      ∧ m' ((c.tc : Thread Cert.AdamSmallRefIdeal.nD Cert.AdamSmallRefIdeal.τ).loc Cert.AdamSmallRefIdeal.main_arg84) = m ((c.tc : Thread Cert.AdamSmallIdeal.nD Cert.AdamSmallIdeal.τ).loc Cert.AdamSmallIdeal.main_arg84)
      ∧ m' ((c.tc : Thread Cert.AdamSmallRefIdeal.nD Cert.AdamSmallRefIdeal.τ).loc Cert.AdamSmallRefIdeal.main_arg85) = m ((c.tc : Thread Cert.AdamSmallIdeal.nD Cert.AdamSmallIdeal.τ).loc Cert.AdamSmallIdeal.main_arg85)
      ∧ m' ((c.tc : Thread Cert.AdamSmallRefIdeal.nD Cert.AdamSmallRefIdeal.τ).loc Cert.AdamSmallRefIdeal.main_arg86) = m ((c.tc : Thread Cert.AdamSmallIdeal.nD Cert.AdamSmallIdeal.τ).loc Cert.AdamSmallIdeal.main_arg86)
      ∧ m' ((c.tc : Thread Cert.AdamSmallRefIdeal.nD Cert.AdamSmallRefIdeal.τ).loc Cert.AdamSmallRefIdeal.main_arg87) = m ((c.tc : Thread Cert.AdamSmallIdeal.nD Cert.AdamSmallIdeal.τ).loc Cert.AdamSmallIdeal.main_arg87)) →
    ∃ (v0 : (c : Dev Cert.AdamSmallIdeal.nD) → Buf (Elt Ideal) ((c.tc : Thread Cert.AdamSmallIdeal.nD Cert.AdamSmallIdeal.τ).loc Cert.AdamSmallIdeal.main_v107)) (v1 : (c : Dev Cert.AdamSmallIdeal.nD) → Buf (Elt Ideal) ((c.tc : Thread Cert.AdamSmallIdeal.nD Cert.AdamSmallIdeal.τ).loc Cert.AdamSmallIdeal.main_v109)) (v2 : (c : Dev Cert.AdamSmallIdeal.nD) → Buf (Elt Ideal) ((c.tc : Thread Cert.AdamSmallIdeal.nD Cert.AdamSmallIdeal.τ).loc Cert.AdamSmallIdeal.main_v111)) (v3 : (c : Dev Cert.AdamSmallIdeal.nD) → Buf (Elt Ideal) ((c.tc : Thread Cert.AdamSmallIdeal.nD Cert.AdamSmallIdeal.τ).loc Cert.AdamSmallIdeal.main_v113)) (v4 : (c : Dev Cert.AdamSmallIdeal.nD) → Buf (Elt Ideal) ((c.tc : Thread Cert.AdamSmallIdeal.nD Cert.AdamSmallIdeal.τ).loc Cert.AdamSmallIdeal.main_v115)) (v5 : (c : Dev Cert.AdamSmallIdeal.nD) → Buf (Elt Ideal) ((c.tc : Thread Cert.AdamSmallIdeal.nD Cert.AdamSmallIdeal.τ).loc Cert.AdamSmallIdeal.main_v117)) (v6 : (c : Dev Cert.AdamSmallIdeal.nD) → Buf (Elt Ideal) ((c.tc : Thread Cert.AdamSmallIdeal.nD Cert.AdamSmallIdeal.τ).loc Cert.AdamSmallIdeal.main_v119)) (v7 : (c : Dev Cert.AdamSmallIdeal.nD) → Buf (Elt Ideal) ((c.tc : Thread Cert.AdamSmallIdeal.nD Cert.AdamSmallIdeal.τ).loc Cert.AdamSmallIdeal.main_v121)) (v8 : (c : Dev Cert.AdamSmallIdeal.nD) → Buf (Elt Ideal) ((c.tc : Thread Cert.AdamSmallIdeal.nD Cert.AdamSmallIdeal.τ).loc Cert.AdamSmallIdeal.main_v123)) (v9 : (c : Dev Cert.AdamSmallIdeal.nD) → Buf (Elt Ideal) ((c.tc : Thread Cert.AdamSmallIdeal.nD Cert.AdamSmallIdeal.τ).loc Cert.AdamSmallIdeal.main_v125)) (v10 : (c : Dev Cert.AdamSmallIdeal.nD) → Buf (Elt Ideal) ((c.tc : Thread Cert.AdamSmallIdeal.nD Cert.AdamSmallIdeal.τ).loc Cert.AdamSmallIdeal.main_v127)) (v11 : (c : Dev Cert.AdamSmallIdeal.nD) → Buf (Elt Ideal) ((c.tc : Thread Cert.AdamSmallIdeal.nD Cert.AdamSmallIdeal.τ).loc Cert.AdamSmallIdeal.main_v129)) (v12 : (c : Dev Cert.AdamSmallIdeal.nD) → Buf (Elt Ideal) ((c.tc : Thread Cert.AdamSmallIdeal.nD Cert.AdamSmallIdeal.τ).loc Cert.AdamSmallIdeal.main_v131)) (v13 : (c : Dev Cert.AdamSmallIdeal.nD) → Buf (Elt Ideal) ((c.tc : Thread Cert.AdamSmallIdeal.nD Cert.AdamSmallIdeal.τ).loc Cert.AdamSmallIdeal.main_v133)) (v14 : (c : Dev Cert.AdamSmallIdeal.nD) → Buf (Elt Ideal) ((c.tc : Thread Cert.AdamSmallIdeal.nD Cert.AdamSmallIdeal.τ).loc Cert.AdamSmallIdeal.main_v135)) (v15 : (c : Dev Cert.AdamSmallIdeal.nD) → Buf (Elt Ideal) ((c.tc : Thread Cert.AdamSmallIdeal.nD Cert.AdamSmallIdeal.τ).loc Cert.AdamSmallIdeal.main_v137)) (v16 : (c : Dev Cert.AdamSmallIdeal.nD) → Buf (Elt Ideal) ((c.tc : Thread Cert.AdamSmallIdeal.nD Cert.AdamSmallIdeal.τ).loc Cert.AdamSmallIdeal.main_v138)) (v17 : (c : Dev Cert.AdamSmallIdeal.nD) → Buf (Elt Ideal) ((c.tc : Thread Cert.AdamSmallIdeal.nD Cert.AdamSmallIdeal.τ).loc Cert.AdamSmallIdeal.main_v140)) (v18 : (c : Dev Cert.AdamSmallIdeal.nD) → Buf (Elt Ideal) ((c.tc : Thread Cert.AdamSmallIdeal.nD Cert.AdamSmallIdeal.τ).loc Cert.AdamSmallIdeal.main_v142)) (v19 : (c : Dev Cert.AdamSmallIdeal.nD) → Buf (Elt Ideal) ((c.tc : Thread Cert.AdamSmallIdeal.nD Cert.AdamSmallIdeal.τ).loc Cert.AdamSmallIdeal.main_v144)) (v20 : (c : Dev Cert.AdamSmallIdeal.nD) → Buf (Elt Ideal) ((c.tc : Thread Cert.AdamSmallIdeal.nD Cert.AdamSmallIdeal.τ).loc Cert.AdamSmallIdeal.main_v146)) (v21 : (c : Dev Cert.AdamSmallIdeal.nD) → Buf (Elt Ideal) ((c.tc : Thread Cert.AdamSmallIdeal.nD Cert.AdamSmallIdeal.τ).loc Cert.AdamSmallIdeal.main_v148)) (v22 : (c : Dev Cert.AdamSmallIdeal.nD) → Buf (Elt Ideal) ((c.tc : Thread Cert.AdamSmallIdeal.nD Cert.AdamSmallIdeal.τ).loc Cert.AdamSmallIdeal.main_v151)) (v23 : (c : Dev Cert.AdamSmallIdeal.nD) → Buf (Elt Ideal) ((c.tc : Thread Cert.AdamSmallIdeal.nD Cert.AdamSmallIdeal.τ).loc Cert.AdamSmallIdeal.main_v153)) (v24 : (c : Dev Cert.AdamSmallIdeal.nD) → Buf (Elt Ideal) ((c.tc : Thread Cert.AdamSmallIdeal.nD Cert.AdamSmallIdeal.τ).loc Cert.AdamSmallIdeal.main_v155)) (v25 : (c : Dev Cert.AdamSmallIdeal.nD) → Buf (Elt Ideal) ((c.tc : Thread Cert.AdamSmallIdeal.nD Cert.AdamSmallIdeal.τ).loc Cert.AdamSmallIdeal.main_v157)) (v26 : (c : Dev Cert.AdamSmallIdeal.nD) → Buf (Elt Ideal) ((c.tc : Thread Cert.AdamSmallIdeal.nD Cert.AdamSmallIdeal.τ).loc Cert.AdamSmallIdeal.main_v159)) (v27 : (c : Dev Cert.AdamSmallIdeal.nD) → Buf (Elt Ideal) ((c.tc : Thread Cert.AdamSmallIdeal.nD Cert.AdamSmallIdeal.τ).loc Cert.AdamSmallIdeal.main_v161)) (v28 : (c : Dev Cert.AdamSmallIdeal.nD) → Buf (Elt Ideal) ((c.tc : Thread Cert.AdamSmallIdeal.nD Cert.AdamSmallIdeal.τ).loc Cert.AdamSmallIdeal.main_v163)) (v29 : (c : Dev Cert.AdamSmallIdeal.nD) → Buf (Elt Ideal) ((c.tc : Thread Cert.AdamSmallIdeal.nD Cert.AdamSmallIdeal.τ).loc Cert.AdamSmallIdeal.main_v165)) (v30 : (c : Dev Cert.AdamSmallIdeal.nD) → Buf (Elt Ideal) ((c.tc : Thread Cert.AdamSmallIdeal.nD Cert.AdamSmallIdeal.τ).loc Cert.AdamSmallIdeal.main_v167)) (v31 : (c : Dev Cert.AdamSmallIdeal.nD) → Buf (Elt Ideal) ((c.tc : Thread Cert.AdamSmallIdeal.nD Cert.AdamSmallIdeal.τ).loc Cert.AdamSmallIdeal.main_v169)) (v32 : (c : Dev Cert.AdamSmallIdeal.nD) → Buf (Elt Ideal) ((c.tc : Thread Cert.AdamSmallIdeal.nD Cert.AdamSmallIdeal.τ).loc Cert.AdamSmallIdeal.main_v171)) (v33 : (c : Dev Cert.AdamSmallIdeal.nD) → Buf (Elt Ideal) ((c.tc : Thread Cert.AdamSmallIdeal.nD Cert.AdamSmallIdeal.τ).loc Cert.AdamSmallIdeal.main_v173)) (v34 : (c : Dev Cert.AdamSmallIdeal.nD) → Buf (Elt Ideal) ((c.tc : Thread Cert.AdamSmallIdeal.nD Cert.AdamSmallIdeal.τ).loc Cert.AdamSmallIdeal.main_v175)) (v35 : (c : Dev Cert.AdamSmallIdeal.nD) → Buf (Elt Ideal) ((c.tc : Thread Cert.AdamSmallIdeal.nD Cert.AdamSmallIdeal.τ).loc Cert.AdamSmallIdeal.main_v177)) (v36 : (c : Dev Cert.AdamSmallIdeal.nD) → Buf (Elt Ideal) ((c.tc : Thread Cert.AdamSmallIdeal.nD Cert.AdamSmallIdeal.τ).loc Cert.AdamSmallIdeal.main_v179)) (v37 : (c : Dev Cert.AdamSmallIdeal.nD) → Buf (Elt Ideal) ((c.tc : Thread Cert.AdamSmallIdeal.nD Cert.AdamSmallIdeal.τ).loc Cert.AdamSmallIdeal.main_v181)) (v38 : (c : Dev Cert.AdamSmallIdeal.nD) → Buf (Elt Ideal) ((c.tc : Thread Cert.AdamSmallIdeal.nD Cert.AdamSmallIdeal.τ).loc Cert.AdamSmallIdeal.main_v182)) (v39 : (c : Dev Cert.AdamSmallIdeal.nD) → Buf (Elt Ideal) ((c.tc : Thread Cert.AdamSmallIdeal.nD Cert.AdamSmallIdeal.τ).loc Cert.AdamSmallIdeal.main_v184)) (v40 : (c : Dev Cert.AdamSmallIdeal.nD) → Buf (Elt Ideal) ((c.tc : Thread Cert.AdamSmallIdeal.nD Cert.AdamSmallIdeal.τ).loc Cert.AdamSmallIdeal.main_v186)) (v41 : (c : Dev Cert.AdamSmallIdeal.nD) → Buf (Elt Ideal) ((c.tc : Thread Cert.AdamSmallIdeal.nD Cert.AdamSmallIdeal.τ).loc Cert.AdamSmallIdeal.main_v188)) (v42 : (c : Dev Cert.AdamSmallIdeal.nD) → Buf (Elt Ideal) ((c.tc : Thread Cert.AdamSmallIdeal.nD Cert.AdamSmallIdeal.τ).loc Cert.AdamSmallIdeal.main_v190)) (v43 : (c : Dev Cert.AdamSmallIdeal.nD) → Buf (Elt Ideal) ((c.tc : Thread Cert.AdamSmallIdeal.nD Cert.AdamSmallIdeal.τ).loc Cert.AdamSmallIdeal.main_v192)) (v44 : (c : Dev Cert.AdamSmallIdeal.nD) → Buf (Elt Ideal) ((c.tc : Thread Cert.AdamSmallIdeal.nD Cert.AdamSmallIdeal.τ).loc Cert.AdamSmallIdeal.main_v195)) (v45 : (c : Dev Cert.AdamSmallIdeal.nD) → Buf (Elt Ideal) ((c.tc : Thread Cert.AdamSmallIdeal.nD Cert.AdamSmallIdeal.τ).loc Cert.AdamSmallIdeal.main_v197)) (v46 : (c : Dev Cert.AdamSmallIdeal.nD) → Buf (Elt Ideal) ((c.tc : Thread Cert.AdamSmallIdeal.nD Cert.AdamSmallIdeal.τ).loc Cert.AdamSmallIdeal.main_v199)) (v47 : (c : Dev Cert.AdamSmallIdeal.nD) → Buf (Elt Ideal) ((c.tc : Thread Cert.AdamSmallIdeal.nD Cert.AdamSmallIdeal.τ).loc Cert.AdamSmallIdeal.main_v201)) (v48 : (c : Dev Cert.AdamSmallIdeal.nD) → Buf (Elt Ideal) ((c.tc : Thread Cert.AdamSmallIdeal.nD Cert.AdamSmallIdeal.τ).loc Cert.AdamSmallIdeal.main_v203)) (v49 : (c : Dev Cert.AdamSmallIdeal.nD) → Buf (Elt Ideal) ((c.tc : Thread Cert.AdamSmallIdeal.nD Cert.AdamSmallIdeal.τ).loc Cert.AdamSmallIdeal.main_v205)) (v50 : (c : Dev Cert.AdamSmallIdeal.nD) → Buf (Elt Ideal) ((c.tc : Thread Cert.AdamSmallIdeal.nD Cert.AdamSmallIdeal.τ).loc Cert.AdamSmallIdeal.main_v207)) (v51 : (c : Dev Cert.AdamSmallIdeal.nD) → Buf (Elt Ideal) ((c.tc : Thread Cert.AdamSmallIdeal.nD Cert.AdamSmallIdeal.τ).loc Cert.AdamSmallIdeal.main_v209)) (v52 : (c : Dev Cert.AdamSmallIdeal.nD) → Buf (Elt Ideal) ((c.tc : Thread Cert.AdamSmallIdeal.nD Cert.AdamSmallIdeal.τ).loc Cert.AdamSmallIdeal.main_v211)) (v53 : (c : Dev Cert.AdamSmallIdeal.nD) → Buf (Elt Ideal) ((c.tc : Thread Cert.AdamSmallIdeal.nD Cert.AdamSmallIdeal.τ).loc Cert.AdamSmallIdeal.main_v213)) (v54 : (c : Dev Cert.AdamSmallIdeal.nD) → Buf (Elt Ideal) ((c.tc : Thread Cert.AdamSmallIdeal.nD Cert.AdamSmallIdeal.τ).loc Cert.AdamSmallIdeal.main_v215)) (v55 : (c : Dev Cert.AdamSmallIdeal.nD) → Buf (Elt Ideal) ((c.tc : Thread Cert.AdamSmallIdeal.nD Cert.AdamSmallIdeal.τ).loc Cert.AdamSmallIdeal.main_v217)) (v56 : (c : Dev Cert.AdamSmallIdeal.nD) → Buf (Elt Ideal) ((c.tc : Thread Cert.AdamSmallIdeal.nD Cert.AdamSmallIdeal.τ).loc Cert.AdamSmallIdeal.main_v219)) (v57 : (c : Dev Cert.AdamSmallIdeal.nD) → Buf (Elt Ideal) ((c.tc : Thread Cert.AdamSmallIdeal.nD Cert.AdamSmallIdeal.τ).loc Cert.AdamSmallIdeal.main_v221)) (v58 : (c : Dev Cert.AdamSmallIdeal.nD) → Buf (Elt Ideal) ((c.tc : Thread Cert.AdamSmallIdeal.nD Cert.AdamSmallIdeal.τ).loc Cert.AdamSmallIdeal.main_v223)) (v59 : (c : Dev Cert.AdamSmallIdeal.nD) → Buf (Elt Ideal) ((c.tc : Thread Cert.AdamSmallIdeal.nD Cert.AdamSmallIdeal.τ).loc Cert.AdamSmallIdeal.main_v225)) (v60 : (c : Dev Cert.AdamSmallIdeal.nD) → Buf (Elt Ideal) ((c.tc : Thread Cert.AdamSmallIdeal.nD Cert.AdamSmallIdeal.τ).loc Cert.AdamSmallIdeal.main_v226)) (v61 : (c : Dev Cert.AdamSmallIdeal.nD) → Buf (Elt Ideal) ((c.tc : Thread Cert.AdamSmallIdeal.nD Cert.AdamSmallIdeal.τ).loc Cert.AdamSmallIdeal.main_v228)) (v62 : (c : Dev Cert.AdamSmallIdeal.nD) → Buf (Elt Ideal) ((c.tc : Thread Cert.AdamSmallIdeal.nD Cert.AdamSmallIdeal.τ).loc Cert.AdamSmallIdeal.main_v230)) (v63 : (c : Dev Cert.AdamSmallIdeal.nD) → Buf (Elt Ideal) ((c.tc : Thread Cert.AdamSmallIdeal.nD Cert.AdamSmallIdeal.τ).loc Cert.AdamSmallIdeal.main_v232)) (v64 : (c : Dev Cert.AdamSmallIdeal.nD) → Buf (Elt Ideal) ((c.tc : Thread Cert.AdamSmallIdeal.nD Cert.AdamSmallIdeal.τ).loc Cert.AdamSmallIdeal.main_v234)) (v65 : (c : Dev Cert.AdamSmallIdeal.nD) → Buf (Elt Ideal) ((c.tc : Thread Cert.AdamSmallIdeal.nD Cert.AdamSmallIdeal.τ).loc Cert.AdamSmallIdeal.main_v236)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v107) = v0 c
          ∧ r.2.mem ((c.tc : Thread Cert.AdamSmallIdeal.nD Cert.AdamSmallIdeal.τ).loc Cert.AdamSmallIdeal.main_v109) = v1 c
          ∧ r.2.mem ((c.tc : Thread Cert.AdamSmallIdeal.nD Cert.AdamSmallIdeal.τ).loc Cert.AdamSmallIdeal.main_v111) = v2 c
          ∧ r.2.mem ((c.tc : Thread Cert.AdamSmallIdeal.nD Cert.AdamSmallIdeal.τ).loc Cert.AdamSmallIdeal.main_v113) = v3 c
          ∧ r.2.mem ((c.tc : Thread Cert.AdamSmallIdeal.nD Cert.AdamSmallIdeal.τ).loc Cert.AdamSmallIdeal.main_v115) = v4 c
          ∧ r.2.mem ((c.tc : Thread Cert.AdamSmallIdeal.nD Cert.AdamSmallIdeal.τ).loc Cert.AdamSmallIdeal.main_v117) = v5 c
          ∧ r.2.mem ((c.tc : Thread Cert.AdamSmallIdeal.nD Cert.AdamSmallIdeal.τ).loc Cert.AdamSmallIdeal.main_v119) = v6 c
          ∧ r.2.mem ((c.tc : Thread Cert.AdamSmallIdeal.nD Cert.AdamSmallIdeal.τ).loc Cert.AdamSmallIdeal.main_v121) = v7 c
          ∧ r.2.mem ((c.tc : Thread Cert.AdamSmallIdeal.nD Cert.AdamSmallIdeal.τ).loc Cert.AdamSmallIdeal.main_v123) = v8 c
          ∧ r.2.mem ((c.tc : Thread Cert.AdamSmallIdeal.nD Cert.AdamSmallIdeal.τ).loc Cert.AdamSmallIdeal.main_v125) = v9 c
          ∧ r.2.mem ((c.tc : Thread Cert.AdamSmallIdeal.nD Cert.AdamSmallIdeal.τ).loc Cert.AdamSmallIdeal.main_v127) = v10 c
          ∧ r.2.mem ((c.tc : Thread Cert.AdamSmallIdeal.nD Cert.AdamSmallIdeal.τ).loc Cert.AdamSmallIdeal.main_v129) = v11 c
          ∧ r.2.mem ((c.tc : Thread Cert.AdamSmallIdeal.nD Cert.AdamSmallIdeal.τ).loc Cert.AdamSmallIdeal.main_v131) = v12 c
          ∧ r.2.mem ((c.tc : Thread Cert.AdamSmallIdeal.nD Cert.AdamSmallIdeal.τ).loc Cert.AdamSmallIdeal.main_v133) = v13 c
          ∧ r.2.mem ((c.tc : Thread Cert.AdamSmallIdeal.nD Cert.AdamSmallIdeal.τ).loc Cert.AdamSmallIdeal.main_v135) = v14 c
          ∧ r.2.mem ((c.tc : Thread Cert.AdamSmallIdeal.nD Cert.AdamSmallIdeal.τ).loc Cert.AdamSmallIdeal.main_v137) = v15 c
          ∧ r.2.mem ((c.tc : Thread Cert.AdamSmallIdeal.nD Cert.AdamSmallIdeal.τ).loc Cert.AdamSmallIdeal.main_v138) = v16 c
          ∧ r.2.mem ((c.tc : Thread Cert.AdamSmallIdeal.nD Cert.AdamSmallIdeal.τ).loc Cert.AdamSmallIdeal.main_v140) = v17 c
          ∧ r.2.mem ((c.tc : Thread Cert.AdamSmallIdeal.nD Cert.AdamSmallIdeal.τ).loc Cert.AdamSmallIdeal.main_v142) = v18 c
          ∧ r.2.mem ((c.tc : Thread Cert.AdamSmallIdeal.nD Cert.AdamSmallIdeal.τ).loc Cert.AdamSmallIdeal.main_v144) = v19 c
          ∧ r.2.mem ((c.tc : Thread Cert.AdamSmallIdeal.nD Cert.AdamSmallIdeal.τ).loc Cert.AdamSmallIdeal.main_v146) = v20 c
          ∧ r.2.mem ((c.tc : Thread Cert.AdamSmallIdeal.nD Cert.AdamSmallIdeal.τ).loc Cert.AdamSmallIdeal.main_v148) = v21 c
          ∧ r.2.mem ((c.tc : Thread Cert.AdamSmallIdeal.nD Cert.AdamSmallIdeal.τ).loc Cert.AdamSmallIdeal.main_v151) = v22 c
          ∧ r.2.mem ((c.tc : Thread Cert.AdamSmallIdeal.nD Cert.AdamSmallIdeal.τ).loc Cert.AdamSmallIdeal.main_v153) = v23 c
          ∧ r.2.mem ((c.tc : Thread Cert.AdamSmallIdeal.nD Cert.AdamSmallIdeal.τ).loc Cert.AdamSmallIdeal.main_v155) = v24 c
          ∧ r.2.mem ((c.tc : Thread Cert.AdamSmallIdeal.nD Cert.AdamSmallIdeal.τ).loc Cert.AdamSmallIdeal.main_v157) = v25 c
          ∧ r.2.mem ((c.tc : Thread Cert.AdamSmallIdeal.nD Cert.AdamSmallIdeal.τ).loc Cert.AdamSmallIdeal.main_v159) = v26 c
          ∧ r.2.mem ((c.tc : Thread Cert.AdamSmallIdeal.nD Cert.AdamSmallIdeal.τ).loc Cert.AdamSmallIdeal.main_v161) = v27 c
          ∧ r.2.mem ((c.tc : Thread Cert.AdamSmallIdeal.nD Cert.AdamSmallIdeal.τ).loc Cert.AdamSmallIdeal.main_v163) = v28 c
          ∧ r.2.mem ((c.tc : Thread Cert.AdamSmallIdeal.nD Cert.AdamSmallIdeal.τ).loc Cert.AdamSmallIdeal.main_v165) = v29 c
          ∧ r.2.mem ((c.tc : Thread Cert.AdamSmallIdeal.nD Cert.AdamSmallIdeal.τ).loc Cert.AdamSmallIdeal.main_v167) = v30 c
          ∧ r.2.mem ((c.tc : Thread Cert.AdamSmallIdeal.nD Cert.AdamSmallIdeal.τ).loc Cert.AdamSmallIdeal.main_v169) = v31 c
          ∧ r.2.mem ((c.tc : Thread Cert.AdamSmallIdeal.nD Cert.AdamSmallIdeal.τ).loc Cert.AdamSmallIdeal.main_v171) = v32 c
          ∧ r.2.mem ((c.tc : Thread Cert.AdamSmallIdeal.nD Cert.AdamSmallIdeal.τ).loc Cert.AdamSmallIdeal.main_v173) = v33 c
          ∧ r.2.mem ((c.tc : Thread Cert.AdamSmallIdeal.nD Cert.AdamSmallIdeal.τ).loc Cert.AdamSmallIdeal.main_v175) = v34 c
          ∧ r.2.mem ((c.tc : Thread Cert.AdamSmallIdeal.nD Cert.AdamSmallIdeal.τ).loc Cert.AdamSmallIdeal.main_v177) = v35 c
          ∧ r.2.mem ((c.tc : Thread Cert.AdamSmallIdeal.nD Cert.AdamSmallIdeal.τ).loc Cert.AdamSmallIdeal.main_v179) = v36 c
          ∧ r.2.mem ((c.tc : Thread Cert.AdamSmallIdeal.nD Cert.AdamSmallIdeal.τ).loc Cert.AdamSmallIdeal.main_v181) = v37 c
          ∧ r.2.mem ((c.tc : Thread Cert.AdamSmallIdeal.nD Cert.AdamSmallIdeal.τ).loc Cert.AdamSmallIdeal.main_v182) = v38 c
          ∧ r.2.mem ((c.tc : Thread Cert.AdamSmallIdeal.nD Cert.AdamSmallIdeal.τ).loc Cert.AdamSmallIdeal.main_v184) = v39 c
          ∧ r.2.mem ((c.tc : Thread Cert.AdamSmallIdeal.nD Cert.AdamSmallIdeal.τ).loc Cert.AdamSmallIdeal.main_v186) = v40 c
          ∧ r.2.mem ((c.tc : Thread Cert.AdamSmallIdeal.nD Cert.AdamSmallIdeal.τ).loc Cert.AdamSmallIdeal.main_v188) = v41 c
          ∧ r.2.mem ((c.tc : Thread Cert.AdamSmallIdeal.nD Cert.AdamSmallIdeal.τ).loc Cert.AdamSmallIdeal.main_v190) = v42 c
          ∧ r.2.mem ((c.tc : Thread Cert.AdamSmallIdeal.nD Cert.AdamSmallIdeal.τ).loc Cert.AdamSmallIdeal.main_v192) = v43 c
          ∧ r.2.mem ((c.tc : Thread Cert.AdamSmallIdeal.nD Cert.AdamSmallIdeal.τ).loc Cert.AdamSmallIdeal.main_v195) = v44 c
          ∧ r.2.mem ((c.tc : Thread Cert.AdamSmallIdeal.nD Cert.AdamSmallIdeal.τ).loc Cert.AdamSmallIdeal.main_v197) = v45 c
          ∧ r.2.mem ((c.tc : Thread Cert.AdamSmallIdeal.nD Cert.AdamSmallIdeal.τ).loc Cert.AdamSmallIdeal.main_v199) = v46 c
          ∧ r.2.mem ((c.tc : Thread Cert.AdamSmallIdeal.nD Cert.AdamSmallIdeal.τ).loc Cert.AdamSmallIdeal.main_v201) = v47 c
          ∧ r.2.mem ((c.tc : Thread Cert.AdamSmallIdeal.nD Cert.AdamSmallIdeal.τ).loc Cert.AdamSmallIdeal.main_v203) = v48 c
          ∧ r.2.mem ((c.tc : Thread Cert.AdamSmallIdeal.nD Cert.AdamSmallIdeal.τ).loc Cert.AdamSmallIdeal.main_v205) = v49 c
          ∧ r.2.mem ((c.tc : Thread Cert.AdamSmallIdeal.nD Cert.AdamSmallIdeal.τ).loc Cert.AdamSmallIdeal.main_v207) = v50 c
          ∧ r.2.mem ((c.tc : Thread Cert.AdamSmallIdeal.nD Cert.AdamSmallIdeal.τ).loc Cert.AdamSmallIdeal.main_v209) = v51 c
          ∧ r.2.mem ((c.tc : Thread Cert.AdamSmallIdeal.nD Cert.AdamSmallIdeal.τ).loc Cert.AdamSmallIdeal.main_v211) = v52 c
          ∧ r.2.mem ((c.tc : Thread Cert.AdamSmallIdeal.nD Cert.AdamSmallIdeal.τ).loc Cert.AdamSmallIdeal.main_v213) = v53 c
          ∧ r.2.mem ((c.tc : Thread Cert.AdamSmallIdeal.nD Cert.AdamSmallIdeal.τ).loc Cert.AdamSmallIdeal.main_v215) = v54 c
          ∧ r.2.mem ((c.tc : Thread Cert.AdamSmallIdeal.nD Cert.AdamSmallIdeal.τ).loc Cert.AdamSmallIdeal.main_v217) = v55 c
          ∧ r.2.mem ((c.tc : Thread Cert.AdamSmallIdeal.nD Cert.AdamSmallIdeal.τ).loc Cert.AdamSmallIdeal.main_v219) = v56 c
          ∧ r.2.mem ((c.tc : Thread Cert.AdamSmallIdeal.nD Cert.AdamSmallIdeal.τ).loc Cert.AdamSmallIdeal.main_v221) = v57 c
          ∧ r.2.mem ((c.tc : Thread Cert.AdamSmallIdeal.nD Cert.AdamSmallIdeal.τ).loc Cert.AdamSmallIdeal.main_v223) = v58 c
          ∧ r.2.mem ((c.tc : Thread Cert.AdamSmallIdeal.nD Cert.AdamSmallIdeal.τ).loc Cert.AdamSmallIdeal.main_v225) = v59 c
          ∧ r.2.mem ((c.tc : Thread Cert.AdamSmallIdeal.nD Cert.AdamSmallIdeal.τ).loc Cert.AdamSmallIdeal.main_v226) = v60 c
          ∧ r.2.mem ((c.tc : Thread Cert.AdamSmallIdeal.nD Cert.AdamSmallIdeal.τ).loc Cert.AdamSmallIdeal.main_v228) = v61 c
          ∧ r.2.mem ((c.tc : Thread Cert.AdamSmallIdeal.nD Cert.AdamSmallIdeal.τ).loc Cert.AdamSmallIdeal.main_v230) = v62 c
          ∧ r.2.mem ((c.tc : Thread Cert.AdamSmallIdeal.nD Cert.AdamSmallIdeal.τ).loc Cert.AdamSmallIdeal.main_v232) = v63 c
          ∧ r.2.mem ((c.tc : Thread Cert.AdamSmallIdeal.nD Cert.AdamSmallIdeal.τ).loc Cert.AdamSmallIdeal.main_v234) = v64 c
          ∧ r.2.mem ((c.tc : Thread Cert.AdamSmallIdeal.nD Cert.AdamSmallIdeal.τ).loc Cert.AdamSmallIdeal.main_v236) = v65 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
          ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
          ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
          ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
          ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
          ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
          ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
          ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
          ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
          ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
          ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
          ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
          ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
          ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
          ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
          ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
          ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39)
          ∧ r.2.mem ((c.tc : Thread Cert.AdamSmallIdeal.nD Cert.AdamSmallIdeal.τ).loc Cert.AdamSmallIdeal.main_arg40) = m ((c.tc : Thread Cert.AdamSmallIdeal.nD Cert.AdamSmallIdeal.τ).loc Cert.AdamSmallIdeal.main_arg40)
          ∧ r.2.mem ((c.tc : Thread Cert.AdamSmallIdeal.nD Cert.AdamSmallIdeal.τ).loc Cert.AdamSmallIdeal.main_arg41) = m ((c.tc : Thread Cert.AdamSmallIdeal.nD Cert.AdamSmallIdeal.τ).loc Cert.AdamSmallIdeal.main_arg41)
          ∧ r.2.mem ((c.tc : Thread Cert.AdamSmallIdeal.nD Cert.AdamSmallIdeal.τ).loc Cert.AdamSmallIdeal.main_arg42) = m ((c.tc : Thread Cert.AdamSmallIdeal.nD Cert.AdamSmallIdeal.τ).loc Cert.AdamSmallIdeal.main_arg42)
          ∧ r.2.mem ((c.tc : Thread Cert.AdamSmallIdeal.nD Cert.AdamSmallIdeal.τ).loc Cert.AdamSmallIdeal.main_arg43) = m ((c.tc : Thread Cert.AdamSmallIdeal.nD Cert.AdamSmallIdeal.τ).loc Cert.AdamSmallIdeal.main_arg43)
          ∧ r.2.mem ((c.tc : Thread Cert.AdamSmallIdeal.nD Cert.AdamSmallIdeal.τ).loc Cert.AdamSmallIdeal.main_arg44) = m ((c.tc : Thread Cert.AdamSmallIdeal.nD Cert.AdamSmallIdeal.τ).loc Cert.AdamSmallIdeal.main_arg44)
          ∧ r.2.mem ((c.tc : Thread Cert.AdamSmallIdeal.nD Cert.AdamSmallIdeal.τ).loc Cert.AdamSmallIdeal.main_arg45) = m ((c.tc : Thread Cert.AdamSmallIdeal.nD Cert.AdamSmallIdeal.τ).loc Cert.AdamSmallIdeal.main_arg45)
          ∧ r.2.mem ((c.tc : Thread Cert.AdamSmallIdeal.nD Cert.AdamSmallIdeal.τ).loc Cert.AdamSmallIdeal.main_arg46) = m ((c.tc : Thread Cert.AdamSmallIdeal.nD Cert.AdamSmallIdeal.τ).loc Cert.AdamSmallIdeal.main_arg46)
          ∧ r.2.mem ((c.tc : Thread Cert.AdamSmallIdeal.nD Cert.AdamSmallIdeal.τ).loc Cert.AdamSmallIdeal.main_arg47) = m ((c.tc : Thread Cert.AdamSmallIdeal.nD Cert.AdamSmallIdeal.τ).loc Cert.AdamSmallIdeal.main_arg47)
          ∧ r.2.mem ((c.tc : Thread Cert.AdamSmallIdeal.nD Cert.AdamSmallIdeal.τ).loc Cert.AdamSmallIdeal.main_arg48) = m ((c.tc : Thread Cert.AdamSmallIdeal.nD Cert.AdamSmallIdeal.τ).loc Cert.AdamSmallIdeal.main_arg48)
          ∧ r.2.mem ((c.tc : Thread Cert.AdamSmallIdeal.nD Cert.AdamSmallIdeal.τ).loc Cert.AdamSmallIdeal.main_arg49) = m ((c.tc : Thread Cert.AdamSmallIdeal.nD Cert.AdamSmallIdeal.τ).loc Cert.AdamSmallIdeal.main_arg49)
          ∧ r.2.mem ((c.tc : Thread Cert.AdamSmallIdeal.nD Cert.AdamSmallIdeal.τ).loc Cert.AdamSmallIdeal.main_arg50) = m ((c.tc : Thread Cert.AdamSmallIdeal.nD Cert.AdamSmallIdeal.τ).loc Cert.AdamSmallIdeal.main_arg50)
          ∧ r.2.mem ((c.tc : Thread Cert.AdamSmallIdeal.nD Cert.AdamSmallIdeal.τ).loc Cert.AdamSmallIdeal.main_arg51) = m ((c.tc : Thread Cert.AdamSmallIdeal.nD Cert.AdamSmallIdeal.τ).loc Cert.AdamSmallIdeal.main_arg51)
          ∧ r.2.mem ((c.tc : Thread Cert.AdamSmallIdeal.nD Cert.AdamSmallIdeal.τ).loc Cert.AdamSmallIdeal.main_arg52) = m ((c.tc : Thread Cert.AdamSmallIdeal.nD Cert.AdamSmallIdeal.τ).loc Cert.AdamSmallIdeal.main_arg52)
          ∧ r.2.mem ((c.tc : Thread Cert.AdamSmallIdeal.nD Cert.AdamSmallIdeal.τ).loc Cert.AdamSmallIdeal.main_arg53) = m ((c.tc : Thread Cert.AdamSmallIdeal.nD Cert.AdamSmallIdeal.τ).loc Cert.AdamSmallIdeal.main_arg53)
          ∧ r.2.mem ((c.tc : Thread Cert.AdamSmallIdeal.nD Cert.AdamSmallIdeal.τ).loc Cert.AdamSmallIdeal.main_arg54) = m ((c.tc : Thread Cert.AdamSmallIdeal.nD Cert.AdamSmallIdeal.τ).loc Cert.AdamSmallIdeal.main_arg54)
          ∧ r.2.mem ((c.tc : Thread Cert.AdamSmallIdeal.nD Cert.AdamSmallIdeal.τ).loc Cert.AdamSmallIdeal.main_arg55) = m ((c.tc : Thread Cert.AdamSmallIdeal.nD Cert.AdamSmallIdeal.τ).loc Cert.AdamSmallIdeal.main_arg55)
          ∧ r.2.mem ((c.tc : Thread Cert.AdamSmallIdeal.nD Cert.AdamSmallIdeal.τ).loc Cert.AdamSmallIdeal.main_arg56) = m ((c.tc : Thread Cert.AdamSmallIdeal.nD Cert.AdamSmallIdeal.τ).loc Cert.AdamSmallIdeal.main_arg56)
          ∧ r.2.mem ((c.tc : Thread Cert.AdamSmallIdeal.nD Cert.AdamSmallIdeal.τ).loc Cert.AdamSmallIdeal.main_arg57) = m ((c.tc : Thread Cert.AdamSmallIdeal.nD Cert.AdamSmallIdeal.τ).loc Cert.AdamSmallIdeal.main_arg57)
          ∧ r.2.mem ((c.tc : Thread Cert.AdamSmallIdeal.nD Cert.AdamSmallIdeal.τ).loc Cert.AdamSmallIdeal.main_arg58) = m ((c.tc : Thread Cert.AdamSmallIdeal.nD Cert.AdamSmallIdeal.τ).loc Cert.AdamSmallIdeal.main_arg58)
          ∧ r.2.mem ((c.tc : Thread Cert.AdamSmallIdeal.nD Cert.AdamSmallIdeal.τ).loc Cert.AdamSmallIdeal.main_arg59) = m ((c.tc : Thread Cert.AdamSmallIdeal.nD Cert.AdamSmallIdeal.τ).loc Cert.AdamSmallIdeal.main_arg59)
          ∧ r.2.mem ((c.tc : Thread Cert.AdamSmallIdeal.nD Cert.AdamSmallIdeal.τ).loc Cert.AdamSmallIdeal.main_arg60) = m ((c.tc : Thread Cert.AdamSmallIdeal.nD Cert.AdamSmallIdeal.τ).loc Cert.AdamSmallIdeal.main_arg60)
          ∧ r.2.mem ((c.tc : Thread Cert.AdamSmallIdeal.nD Cert.AdamSmallIdeal.τ).loc Cert.AdamSmallIdeal.main_arg61) = m ((c.tc : Thread Cert.AdamSmallIdeal.nD Cert.AdamSmallIdeal.τ).loc Cert.AdamSmallIdeal.main_arg61)
          ∧ r.2.mem ((c.tc : Thread Cert.AdamSmallIdeal.nD Cert.AdamSmallIdeal.τ).loc Cert.AdamSmallIdeal.main_arg62) = m ((c.tc : Thread Cert.AdamSmallIdeal.nD Cert.AdamSmallIdeal.τ).loc Cert.AdamSmallIdeal.main_arg62)
          ∧ r.2.mem ((c.tc : Thread Cert.AdamSmallIdeal.nD Cert.AdamSmallIdeal.τ).loc Cert.AdamSmallIdeal.main_arg63) = m ((c.tc : Thread Cert.AdamSmallIdeal.nD Cert.AdamSmallIdeal.τ).loc Cert.AdamSmallIdeal.main_arg63)
          ∧ r.2.mem ((c.tc : Thread Cert.AdamSmallIdeal.nD Cert.AdamSmallIdeal.τ).loc Cert.AdamSmallIdeal.main_arg64) = m ((c.tc : Thread Cert.AdamSmallIdeal.nD Cert.AdamSmallIdeal.τ).loc Cert.AdamSmallIdeal.main_arg64)
          ∧ r.2.mem ((c.tc : Thread Cert.AdamSmallIdeal.nD Cert.AdamSmallIdeal.τ).loc Cert.AdamSmallIdeal.main_arg65) = m ((c.tc : Thread Cert.AdamSmallIdeal.nD Cert.AdamSmallIdeal.τ).loc Cert.AdamSmallIdeal.main_arg65)
          ∧ r.2.mem ((c.tc : Thread Cert.AdamSmallIdeal.nD Cert.AdamSmallIdeal.τ).loc Cert.AdamSmallIdeal.main_arg66) = m ((c.tc : Thread Cert.AdamSmallIdeal.nD Cert.AdamSmallIdeal.τ).loc Cert.AdamSmallIdeal.main_arg66)
          ∧ r.2.mem ((c.tc : Thread Cert.AdamSmallIdeal.nD Cert.AdamSmallIdeal.τ).loc Cert.AdamSmallIdeal.main_arg67) = m ((c.tc : Thread Cert.AdamSmallIdeal.nD Cert.AdamSmallIdeal.τ).loc Cert.AdamSmallIdeal.main_arg67)
          ∧ r.2.mem ((c.tc : Thread Cert.AdamSmallIdeal.nD Cert.AdamSmallIdeal.τ).loc Cert.AdamSmallIdeal.main_arg68) = m ((c.tc : Thread Cert.AdamSmallIdeal.nD Cert.AdamSmallIdeal.τ).loc Cert.AdamSmallIdeal.main_arg68)
          ∧ r.2.mem ((c.tc : Thread Cert.AdamSmallIdeal.nD Cert.AdamSmallIdeal.τ).loc Cert.AdamSmallIdeal.main_arg69) = m ((c.tc : Thread Cert.AdamSmallIdeal.nD Cert.AdamSmallIdeal.τ).loc Cert.AdamSmallIdeal.main_arg69)
          ∧ r.2.mem ((c.tc : Thread Cert.AdamSmallIdeal.nD Cert.AdamSmallIdeal.τ).loc Cert.AdamSmallIdeal.main_arg70) = m ((c.tc : Thread Cert.AdamSmallIdeal.nD Cert.AdamSmallIdeal.τ).loc Cert.AdamSmallIdeal.main_arg70)
          ∧ r.2.mem ((c.tc : Thread Cert.AdamSmallIdeal.nD Cert.AdamSmallIdeal.τ).loc Cert.AdamSmallIdeal.main_arg71) = m ((c.tc : Thread Cert.AdamSmallIdeal.nD Cert.AdamSmallIdeal.τ).loc Cert.AdamSmallIdeal.main_arg71)
          ∧ r.2.mem ((c.tc : Thread Cert.AdamSmallIdeal.nD Cert.AdamSmallIdeal.τ).loc Cert.AdamSmallIdeal.main_arg72) = m ((c.tc : Thread Cert.AdamSmallIdeal.nD Cert.AdamSmallIdeal.τ).loc Cert.AdamSmallIdeal.main_arg72)
          ∧ r.2.mem ((c.tc : Thread Cert.AdamSmallIdeal.nD Cert.AdamSmallIdeal.τ).loc Cert.AdamSmallIdeal.main_arg73) = m ((c.tc : Thread Cert.AdamSmallIdeal.nD Cert.AdamSmallIdeal.τ).loc Cert.AdamSmallIdeal.main_arg73)
          ∧ r.2.mem ((c.tc : Thread Cert.AdamSmallIdeal.nD Cert.AdamSmallIdeal.τ).loc Cert.AdamSmallIdeal.main_arg74) = m ((c.tc : Thread Cert.AdamSmallIdeal.nD Cert.AdamSmallIdeal.τ).loc Cert.AdamSmallIdeal.main_arg74)
          ∧ r.2.mem ((c.tc : Thread Cert.AdamSmallIdeal.nD Cert.AdamSmallIdeal.τ).loc Cert.AdamSmallIdeal.main_arg75) = m ((c.tc : Thread Cert.AdamSmallIdeal.nD Cert.AdamSmallIdeal.τ).loc Cert.AdamSmallIdeal.main_arg75)
          ∧ r.2.mem ((c.tc : Thread Cert.AdamSmallIdeal.nD Cert.AdamSmallIdeal.τ).loc Cert.AdamSmallIdeal.main_arg76) = m ((c.tc : Thread Cert.AdamSmallIdeal.nD Cert.AdamSmallIdeal.τ).loc Cert.AdamSmallIdeal.main_arg76)
          ∧ r.2.mem ((c.tc : Thread Cert.AdamSmallIdeal.nD Cert.AdamSmallIdeal.τ).loc Cert.AdamSmallIdeal.main_arg77) = m ((c.tc : Thread Cert.AdamSmallIdeal.nD Cert.AdamSmallIdeal.τ).loc Cert.AdamSmallIdeal.main_arg77)
          ∧ r.2.mem ((c.tc : Thread Cert.AdamSmallIdeal.nD Cert.AdamSmallIdeal.τ).loc Cert.AdamSmallIdeal.main_arg78) = m ((c.tc : Thread Cert.AdamSmallIdeal.nD Cert.AdamSmallIdeal.τ).loc Cert.AdamSmallIdeal.main_arg78)
          ∧ r.2.mem ((c.tc : Thread Cert.AdamSmallIdeal.nD Cert.AdamSmallIdeal.τ).loc Cert.AdamSmallIdeal.main_arg79) = m ((c.tc : Thread Cert.AdamSmallIdeal.nD Cert.AdamSmallIdeal.τ).loc Cert.AdamSmallIdeal.main_arg79)
          ∧ r.2.mem ((c.tc : Thread Cert.AdamSmallIdeal.nD Cert.AdamSmallIdeal.τ).loc Cert.AdamSmallIdeal.main_arg80) = m ((c.tc : Thread Cert.AdamSmallIdeal.nD Cert.AdamSmallIdeal.τ).loc Cert.AdamSmallIdeal.main_arg80)
          ∧ r.2.mem ((c.tc : Thread Cert.AdamSmallIdeal.nD Cert.AdamSmallIdeal.τ).loc Cert.AdamSmallIdeal.main_arg81) = m ((c.tc : Thread Cert.AdamSmallIdeal.nD Cert.AdamSmallIdeal.τ).loc Cert.AdamSmallIdeal.main_arg81)
          ∧ r.2.mem ((c.tc : Thread Cert.AdamSmallIdeal.nD Cert.AdamSmallIdeal.τ).loc Cert.AdamSmallIdeal.main_arg82) = m ((c.tc : Thread Cert.AdamSmallIdeal.nD Cert.AdamSmallIdeal.τ).loc Cert.AdamSmallIdeal.main_arg82)
          ∧ r.2.mem ((c.tc : Thread Cert.AdamSmallIdeal.nD Cert.AdamSmallIdeal.τ).loc Cert.AdamSmallIdeal.main_arg83) = m ((c.tc : Thread Cert.AdamSmallIdeal.nD Cert.AdamSmallIdeal.τ).loc Cert.AdamSmallIdeal.main_arg83)
          ∧ r.2.mem ((c.tc : Thread Cert.AdamSmallIdeal.nD Cert.AdamSmallIdeal.τ).loc Cert.AdamSmallIdeal.main_arg84) = m ((c.tc : Thread Cert.AdamSmallIdeal.nD Cert.AdamSmallIdeal.τ).loc Cert.AdamSmallIdeal.main_arg84)
          ∧ r.2.mem ((c.tc : Thread Cert.AdamSmallIdeal.nD Cert.AdamSmallIdeal.τ).loc Cert.AdamSmallIdeal.main_arg85) = m ((c.tc : Thread Cert.AdamSmallIdeal.nD Cert.AdamSmallIdeal.τ).loc Cert.AdamSmallIdeal.main_arg85)
          ∧ r.2.mem ((c.tc : Thread Cert.AdamSmallIdeal.nD Cert.AdamSmallIdeal.τ).loc Cert.AdamSmallIdeal.main_arg86) = m ((c.tc : Thread Cert.AdamSmallIdeal.nD Cert.AdamSmallIdeal.τ).loc Cert.AdamSmallIdeal.main_arg86)
          ∧ r.2.mem ((c.tc : Thread Cert.AdamSmallIdeal.nD Cert.AdamSmallIdeal.τ).loc Cert.AdamSmallIdeal.main_arg87) = m ((c.tc : Thread Cert.AdamSmallIdeal.nD Cert.AdamSmallIdeal.τ).loc Cert.AdamSmallIdeal.main_arg87))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v47) = v1 c
          ∧ r.2.mem ((c.tc : Thread Cert.AdamSmallRefIdeal.nD Cert.AdamSmallRefIdeal.τ).loc Cert.AdamSmallRefIdeal.main_v71) = v2 c
          ∧ r.2.mem ((c.tc : Thread Cert.AdamSmallRefIdeal.nD Cert.AdamSmallRefIdeal.τ).loc Cert.AdamSmallRefIdeal.main_v95) = v3 c
          ∧ r.2.mem ((c.tc : Thread Cert.AdamSmallRefIdeal.nD Cert.AdamSmallRefIdeal.τ).loc Cert.AdamSmallRefIdeal.main_v119) = v4 c
          ∧ r.2.mem ((c.tc : Thread Cert.AdamSmallRefIdeal.nD Cert.AdamSmallRefIdeal.τ).loc Cert.AdamSmallRefIdeal.main_v143) = v5 c
          ∧ r.2.mem ((c.tc : Thread Cert.AdamSmallRefIdeal.nD Cert.AdamSmallRefIdeal.τ).loc Cert.AdamSmallRefIdeal.main_v167) = v6 c
          ∧ r.2.mem ((c.tc : Thread Cert.AdamSmallRefIdeal.nD Cert.AdamSmallRefIdeal.τ).loc Cert.AdamSmallRefIdeal.main_v191) = v7 c
          ∧ r.2.mem ((c.tc : Thread Cert.AdamSmallRefIdeal.nD Cert.AdamSmallRefIdeal.τ).loc Cert.AdamSmallRefIdeal.main_v215) = v8 c
          ∧ r.2.mem ((c.tc : Thread Cert.AdamSmallRefIdeal.nD Cert.AdamSmallRefIdeal.τ).loc Cert.AdamSmallRefIdeal.main_v239) = v9 c
          ∧ r.2.mem ((c.tc : Thread Cert.AdamSmallRefIdeal.nD Cert.AdamSmallRefIdeal.τ).loc Cert.AdamSmallRefIdeal.main_v263) = v10 c
          ∧ r.2.mem ((c.tc : Thread Cert.AdamSmallRefIdeal.nD Cert.AdamSmallRefIdeal.τ).loc Cert.AdamSmallRefIdeal.main_v287) = v11 c
          ∧ r.2.mem ((c.tc : Thread Cert.AdamSmallRefIdeal.nD Cert.AdamSmallRefIdeal.τ).loc Cert.AdamSmallRefIdeal.main_v311) = v12 c
          ∧ r.2.mem ((c.tc : Thread Cert.AdamSmallRefIdeal.nD Cert.AdamSmallRefIdeal.τ).loc Cert.AdamSmallRefIdeal.main_v335) = v13 c
          ∧ r.2.mem ((c.tc : Thread Cert.AdamSmallRefIdeal.nD Cert.AdamSmallRefIdeal.τ).loc Cert.AdamSmallRefIdeal.main_v359) = v14 c
          ∧ r.2.mem ((c.tc : Thread Cert.AdamSmallRefIdeal.nD Cert.AdamSmallRefIdeal.τ).loc Cert.AdamSmallRefIdeal.main_v383) = v15 c
          ∧ r.2.mem ((c.tc : Thread Cert.AdamSmallRefIdeal.nD Cert.AdamSmallRefIdeal.τ).loc Cert.AdamSmallRefIdeal.main_v407) = v16 c
          ∧ r.2.mem ((c.tc : Thread Cert.AdamSmallRefIdeal.nD Cert.AdamSmallRefIdeal.τ).loc Cert.AdamSmallRefIdeal.main_v431) = v17 c
          ∧ r.2.mem ((c.tc : Thread Cert.AdamSmallRefIdeal.nD Cert.AdamSmallRefIdeal.τ).loc Cert.AdamSmallRefIdeal.main_v455) = v18 c
          ∧ r.2.mem ((c.tc : Thread Cert.AdamSmallRefIdeal.nD Cert.AdamSmallRefIdeal.τ).loc Cert.AdamSmallRefIdeal.main_v479) = v19 c
          ∧ r.2.mem ((c.tc : Thread Cert.AdamSmallRefIdeal.nD Cert.AdamSmallRefIdeal.τ).loc Cert.AdamSmallRefIdeal.main_v503) = v20 c
          ∧ r.2.mem ((c.tc : Thread Cert.AdamSmallRefIdeal.nD Cert.AdamSmallRefIdeal.τ).loc Cert.AdamSmallRefIdeal.main_v527) = v21 c
          ∧ r.2.mem ((c.tc : Thread Cert.AdamSmallRefIdeal.nD Cert.AdamSmallRefIdeal.τ).loc Cert.AdamSmallRefIdeal.main_v4) = v22 c
          ∧ r.2.mem ((c.tc : Thread Cert.AdamSmallRefIdeal.nD Cert.AdamSmallRefIdeal.τ).loc Cert.AdamSmallRefIdeal.main_v28) = v23 c
          ∧ r.2.mem ((c.tc : Thread Cert.AdamSmallRefIdeal.nD Cert.AdamSmallRefIdeal.τ).loc Cert.AdamSmallRefIdeal.main_v52) = v24 c
          ∧ r.2.mem ((c.tc : Thread Cert.AdamSmallRefIdeal.nD Cert.AdamSmallRefIdeal.τ).loc Cert.AdamSmallRefIdeal.main_v76) = v25 c
          ∧ r.2.mem ((c.tc : Thread Cert.AdamSmallRefIdeal.nD Cert.AdamSmallRefIdeal.τ).loc Cert.AdamSmallRefIdeal.main_v100) = v26 c
          ∧ r.2.mem ((c.tc : Thread Cert.AdamSmallRefIdeal.nD Cert.AdamSmallRefIdeal.τ).loc Cert.AdamSmallRefIdeal.main_v124) = v27 c
          ∧ r.2.mem ((c.tc : Thread Cert.AdamSmallRefIdeal.nD Cert.AdamSmallRefIdeal.τ).loc Cert.AdamSmallRefIdeal.main_v148) = v28 c
          ∧ r.2.mem ((c.tc : Thread Cert.AdamSmallRefIdeal.nD Cert.AdamSmallRefIdeal.τ).loc Cert.AdamSmallRefIdeal.main_v172) = v29 c
          ∧ r.2.mem ((c.tc : Thread Cert.AdamSmallRefIdeal.nD Cert.AdamSmallRefIdeal.τ).loc Cert.AdamSmallRefIdeal.main_v196) = v30 c
          ∧ r.2.mem ((c.tc : Thread Cert.AdamSmallRefIdeal.nD Cert.AdamSmallRefIdeal.τ).loc Cert.AdamSmallRefIdeal.main_v220) = v31 c
          ∧ r.2.mem ((c.tc : Thread Cert.AdamSmallRefIdeal.nD Cert.AdamSmallRefIdeal.τ).loc Cert.AdamSmallRefIdeal.main_v244) = v32 c
          ∧ r.2.mem ((c.tc : Thread Cert.AdamSmallRefIdeal.nD Cert.AdamSmallRefIdeal.τ).loc Cert.AdamSmallRefIdeal.main_v268) = v33 c
          ∧ r.2.mem ((c.tc : Thread Cert.AdamSmallRefIdeal.nD Cert.AdamSmallRefIdeal.τ).loc Cert.AdamSmallRefIdeal.main_v292) = v34 c
          ∧ r.2.mem ((c.tc : Thread Cert.AdamSmallRefIdeal.nD Cert.AdamSmallRefIdeal.τ).loc Cert.AdamSmallRefIdeal.main_v316) = v35 c
          ∧ r.2.mem ((c.tc : Thread Cert.AdamSmallRefIdeal.nD Cert.AdamSmallRefIdeal.τ).loc Cert.AdamSmallRefIdeal.main_v340) = v36 c
          ∧ r.2.mem ((c.tc : Thread Cert.AdamSmallRefIdeal.nD Cert.AdamSmallRefIdeal.τ).loc Cert.AdamSmallRefIdeal.main_v364) = v37 c
          ∧ r.2.mem ((c.tc : Thread Cert.AdamSmallRefIdeal.nD Cert.AdamSmallRefIdeal.τ).loc Cert.AdamSmallRefIdeal.main_v388) = v38 c
          ∧ r.2.mem ((c.tc : Thread Cert.AdamSmallRefIdeal.nD Cert.AdamSmallRefIdeal.τ).loc Cert.AdamSmallRefIdeal.main_v412) = v39 c
          ∧ r.2.mem ((c.tc : Thread Cert.AdamSmallRefIdeal.nD Cert.AdamSmallRefIdeal.τ).loc Cert.AdamSmallRefIdeal.main_v436) = v40 c
          ∧ r.2.mem ((c.tc : Thread Cert.AdamSmallRefIdeal.nD Cert.AdamSmallRefIdeal.τ).loc Cert.AdamSmallRefIdeal.main_v460) = v41 c
          ∧ r.2.mem ((c.tc : Thread Cert.AdamSmallRefIdeal.nD Cert.AdamSmallRefIdeal.τ).loc Cert.AdamSmallRefIdeal.main_v484) = v42 c
          ∧ r.2.mem ((c.tc : Thread Cert.AdamSmallRefIdeal.nD Cert.AdamSmallRefIdeal.τ).loc Cert.AdamSmallRefIdeal.main_v508) = v43 c
          ∧ r.2.mem ((c.tc : Thread Cert.AdamSmallRefIdeal.nD Cert.AdamSmallRefIdeal.τ).loc Cert.AdamSmallRefIdeal.main_v10) = v44 c
          ∧ r.2.mem ((c.tc : Thread Cert.AdamSmallRefIdeal.nD Cert.AdamSmallRefIdeal.τ).loc Cert.AdamSmallRefIdeal.main_v34) = v45 c
          ∧ r.2.mem ((c.tc : Thread Cert.AdamSmallRefIdeal.nD Cert.AdamSmallRefIdeal.τ).loc Cert.AdamSmallRefIdeal.main_v58) = v46 c
          ∧ r.2.mem ((c.tc : Thread Cert.AdamSmallRefIdeal.nD Cert.AdamSmallRefIdeal.τ).loc Cert.AdamSmallRefIdeal.main_v82) = v47 c
          ∧ r.2.mem ((c.tc : Thread Cert.AdamSmallRefIdeal.nD Cert.AdamSmallRefIdeal.τ).loc Cert.AdamSmallRefIdeal.main_v106) = v48 c
          ∧ r.2.mem ((c.tc : Thread Cert.AdamSmallRefIdeal.nD Cert.AdamSmallRefIdeal.τ).loc Cert.AdamSmallRefIdeal.main_v130) = v49 c
          ∧ r.2.mem ((c.tc : Thread Cert.AdamSmallRefIdeal.nD Cert.AdamSmallRefIdeal.τ).loc Cert.AdamSmallRefIdeal.main_v154) = v50 c
          ∧ r.2.mem ((c.tc : Thread Cert.AdamSmallRefIdeal.nD Cert.AdamSmallRefIdeal.τ).loc Cert.AdamSmallRefIdeal.main_v178) = v51 c
          ∧ r.2.mem ((c.tc : Thread Cert.AdamSmallRefIdeal.nD Cert.AdamSmallRefIdeal.τ).loc Cert.AdamSmallRefIdeal.main_v202) = v52 c
          ∧ r.2.mem ((c.tc : Thread Cert.AdamSmallRefIdeal.nD Cert.AdamSmallRefIdeal.τ).loc Cert.AdamSmallRefIdeal.main_v226) = v53 c
          ∧ r.2.mem ((c.tc : Thread Cert.AdamSmallRefIdeal.nD Cert.AdamSmallRefIdeal.τ).loc Cert.AdamSmallRefIdeal.main_v250) = v54 c
          ∧ r.2.mem ((c.tc : Thread Cert.AdamSmallRefIdeal.nD Cert.AdamSmallRefIdeal.τ).loc Cert.AdamSmallRefIdeal.main_v274) = v55 c
          ∧ r.2.mem ((c.tc : Thread Cert.AdamSmallRefIdeal.nD Cert.AdamSmallRefIdeal.τ).loc Cert.AdamSmallRefIdeal.main_v298) = v56 c
          ∧ r.2.mem ((c.tc : Thread Cert.AdamSmallRefIdeal.nD Cert.AdamSmallRefIdeal.τ).loc Cert.AdamSmallRefIdeal.main_v322) = v57 c
          ∧ r.2.mem ((c.tc : Thread Cert.AdamSmallRefIdeal.nD Cert.AdamSmallRefIdeal.τ).loc Cert.AdamSmallRefIdeal.main_v346) = v58 c
          ∧ r.2.mem ((c.tc : Thread Cert.AdamSmallRefIdeal.nD Cert.AdamSmallRefIdeal.τ).loc Cert.AdamSmallRefIdeal.main_v370) = v59 c
          ∧ r.2.mem ((c.tc : Thread Cert.AdamSmallRefIdeal.nD Cert.AdamSmallRefIdeal.τ).loc Cert.AdamSmallRefIdeal.main_v394) = v60 c
          ∧ r.2.mem ((c.tc : Thread Cert.AdamSmallRefIdeal.nD Cert.AdamSmallRefIdeal.τ).loc Cert.AdamSmallRefIdeal.main_v418) = v61 c
          ∧ r.2.mem ((c.tc : Thread Cert.AdamSmallRefIdeal.nD Cert.AdamSmallRefIdeal.τ).loc Cert.AdamSmallRefIdeal.main_v442) = v62 c
          ∧ r.2.mem ((c.tc : Thread Cert.AdamSmallRefIdeal.nD Cert.AdamSmallRefIdeal.τ).loc Cert.AdamSmallRefIdeal.main_v466) = v63 c
          ∧ r.2.mem ((c.tc : Thread Cert.AdamSmallRefIdeal.nD Cert.AdamSmallRefIdeal.τ).loc Cert.AdamSmallRefIdeal.main_v490) = v64 c
          ∧ r.2.mem ((c.tc : Thread Cert.AdamSmallRefIdeal.nD Cert.AdamSmallRefIdeal.τ).loc Cert.AdamSmallRefIdeal.main_v514) = v65 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5)
          ∧ r.2.mem ((c.tc : Thread Cert.AdamSmallRefIdeal.nD Cert.AdamSmallRefIdeal.τ).loc Cert.AdamSmallRefIdeal.main_arg6) = m' ((c.tc : Thread Cert.AdamSmallRefIdeal.nD Cert.AdamSmallRefIdeal.τ).loc Cert.AdamSmallRefIdeal.main_arg6)
          ∧ r.2.mem ((c.tc : Thread Cert.AdamSmallRefIdeal.nD Cert.AdamSmallRefIdeal.τ).loc Cert.AdamSmallRefIdeal.main_arg7) = m' ((c.tc : Thread Cert.AdamSmallRefIdeal.nD Cert.AdamSmallRefIdeal.τ).loc Cert.AdamSmallRefIdeal.main_arg7)
          ∧ r.2.mem ((c.tc : Thread Cert.AdamSmallRefIdeal.nD Cert.AdamSmallRefIdeal.τ).loc Cert.AdamSmallRefIdeal.main_arg8) = m' ((c.tc : Thread Cert.AdamSmallRefIdeal.nD Cert.AdamSmallRefIdeal.τ).loc Cert.AdamSmallRefIdeal.main_arg8)
          ∧ r.2.mem ((c.tc : Thread Cert.AdamSmallRefIdeal.nD Cert.AdamSmallRefIdeal.τ).loc Cert.AdamSmallRefIdeal.main_arg9) = m' ((c.tc : Thread Cert.AdamSmallRefIdeal.nD Cert.AdamSmallRefIdeal.τ).loc Cert.AdamSmallRefIdeal.main_arg9)
          ∧ r.2.mem ((c.tc : Thread Cert.AdamSmallRefIdeal.nD Cert.AdamSmallRefIdeal.τ).loc Cert.AdamSmallRefIdeal.main_arg10) = m' ((c.tc : Thread Cert.AdamSmallRefIdeal.nD Cert.AdamSmallRefIdeal.τ).loc Cert.AdamSmallRefIdeal.main_arg10)
          ∧ r.2.mem ((c.tc : Thread Cert.AdamSmallRefIdeal.nD Cert.AdamSmallRefIdeal.τ).loc Cert.AdamSmallRefIdeal.main_arg11) = m' ((c.tc : Thread Cert.AdamSmallRefIdeal.nD Cert.AdamSmallRefIdeal.τ).loc Cert.AdamSmallRefIdeal.main_arg11)
          ∧ r.2.mem ((c.tc : Thread Cert.AdamSmallRefIdeal.nD Cert.AdamSmallRefIdeal.τ).loc Cert.AdamSmallRefIdeal.main_arg12) = m' ((c.tc : Thread Cert.AdamSmallRefIdeal.nD Cert.AdamSmallRefIdeal.τ).loc Cert.AdamSmallRefIdeal.main_arg12)
          ∧ r.2.mem ((c.tc : Thread Cert.AdamSmallRefIdeal.nD Cert.AdamSmallRefIdeal.τ).loc Cert.AdamSmallRefIdeal.main_arg13) = m' ((c.tc : Thread Cert.AdamSmallRefIdeal.nD Cert.AdamSmallRefIdeal.τ).loc Cert.AdamSmallRefIdeal.main_arg13)
          ∧ r.2.mem ((c.tc : Thread Cert.AdamSmallRefIdeal.nD Cert.AdamSmallRefIdeal.τ).loc Cert.AdamSmallRefIdeal.main_arg14) = m' ((c.tc : Thread Cert.AdamSmallRefIdeal.nD Cert.AdamSmallRefIdeal.τ).loc Cert.AdamSmallRefIdeal.main_arg14)
          ∧ r.2.mem ((c.tc : Thread Cert.AdamSmallRefIdeal.nD Cert.AdamSmallRefIdeal.τ).loc Cert.AdamSmallRefIdeal.main_arg15) = m' ((c.tc : Thread Cert.AdamSmallRefIdeal.nD Cert.AdamSmallRefIdeal.τ).loc Cert.AdamSmallRefIdeal.main_arg15)
          ∧ r.2.mem ((c.tc : Thread Cert.AdamSmallRefIdeal.nD Cert.AdamSmallRefIdeal.τ).loc Cert.AdamSmallRefIdeal.main_arg16) = m' ((c.tc : Thread Cert.AdamSmallRefIdeal.nD Cert.AdamSmallRefIdeal.τ).loc Cert.AdamSmallRefIdeal.main_arg16)
          ∧ r.2.mem ((c.tc : Thread Cert.AdamSmallRefIdeal.nD Cert.AdamSmallRefIdeal.τ).loc Cert.AdamSmallRefIdeal.main_arg17) = m' ((c.tc : Thread Cert.AdamSmallRefIdeal.nD Cert.AdamSmallRefIdeal.τ).loc Cert.AdamSmallRefIdeal.main_arg17)
          ∧ r.2.mem ((c.tc : Thread Cert.AdamSmallRefIdeal.nD Cert.AdamSmallRefIdeal.τ).loc Cert.AdamSmallRefIdeal.main_arg18) = m' ((c.tc : Thread Cert.AdamSmallRefIdeal.nD Cert.AdamSmallRefIdeal.τ).loc Cert.AdamSmallRefIdeal.main_arg18)
          ∧ r.2.mem ((c.tc : Thread Cert.AdamSmallRefIdeal.nD Cert.AdamSmallRefIdeal.τ).loc Cert.AdamSmallRefIdeal.main_arg19) = m' ((c.tc : Thread Cert.AdamSmallRefIdeal.nD Cert.AdamSmallRefIdeal.τ).loc Cert.AdamSmallRefIdeal.main_arg19)
          ∧ r.2.mem ((c.tc : Thread Cert.AdamSmallRefIdeal.nD Cert.AdamSmallRefIdeal.τ).loc Cert.AdamSmallRefIdeal.main_arg20) = m' ((c.tc : Thread Cert.AdamSmallRefIdeal.nD Cert.AdamSmallRefIdeal.τ).loc Cert.AdamSmallRefIdeal.main_arg20)
          ∧ r.2.mem ((c.tc : Thread Cert.AdamSmallRefIdeal.nD Cert.AdamSmallRefIdeal.τ).loc Cert.AdamSmallRefIdeal.main_arg21) = m' ((c.tc : Thread Cert.AdamSmallRefIdeal.nD Cert.AdamSmallRefIdeal.τ).loc Cert.AdamSmallRefIdeal.main_arg21)
          ∧ r.2.mem ((c.tc : Thread Cert.AdamSmallRefIdeal.nD Cert.AdamSmallRefIdeal.τ).loc Cert.AdamSmallRefIdeal.main_arg22) = m' ((c.tc : Thread Cert.AdamSmallRefIdeal.nD Cert.AdamSmallRefIdeal.τ).loc Cert.AdamSmallRefIdeal.main_arg22)
          ∧ r.2.mem ((c.tc : Thread Cert.AdamSmallRefIdeal.nD Cert.AdamSmallRefIdeal.τ).loc Cert.AdamSmallRefIdeal.main_arg23) = m' ((c.tc : Thread Cert.AdamSmallRefIdeal.nD Cert.AdamSmallRefIdeal.τ).loc Cert.AdamSmallRefIdeal.main_arg23)
          ∧ r.2.mem ((c.tc : Thread Cert.AdamSmallRefIdeal.nD Cert.AdamSmallRefIdeal.τ).loc Cert.AdamSmallRefIdeal.main_arg24) = m' ((c.tc : Thread Cert.AdamSmallRefIdeal.nD Cert.AdamSmallRefIdeal.τ).loc Cert.AdamSmallRefIdeal.main_arg24)
          ∧ r.2.mem ((c.tc : Thread Cert.AdamSmallRefIdeal.nD Cert.AdamSmallRefIdeal.τ).loc Cert.AdamSmallRefIdeal.main_arg25) = m' ((c.tc : Thread Cert.AdamSmallRefIdeal.nD Cert.AdamSmallRefIdeal.τ).loc Cert.AdamSmallRefIdeal.main_arg25)
          ∧ r.2.mem ((c.tc : Thread Cert.AdamSmallRefIdeal.nD Cert.AdamSmallRefIdeal.τ).loc Cert.AdamSmallRefIdeal.main_arg26) = m' ((c.tc : Thread Cert.AdamSmallRefIdeal.nD Cert.AdamSmallRefIdeal.τ).loc Cert.AdamSmallRefIdeal.main_arg26)
          ∧ r.2.mem ((c.tc : Thread Cert.AdamSmallRefIdeal.nD Cert.AdamSmallRefIdeal.τ).loc Cert.AdamSmallRefIdeal.main_arg27) = m' ((c.tc : Thread Cert.AdamSmallRefIdeal.nD Cert.AdamSmallRefIdeal.τ).loc Cert.AdamSmallRefIdeal.main_arg27)
          ∧ r.2.mem ((c.tc : Thread Cert.AdamSmallRefIdeal.nD Cert.AdamSmallRefIdeal.τ).loc Cert.AdamSmallRefIdeal.main_arg28) = m' ((c.tc : Thread Cert.AdamSmallRefIdeal.nD Cert.AdamSmallRefIdeal.τ).loc Cert.AdamSmallRefIdeal.main_arg28)
          ∧ r.2.mem ((c.tc : Thread Cert.AdamSmallRefIdeal.nD Cert.AdamSmallRefIdeal.τ).loc Cert.AdamSmallRefIdeal.main_arg29) = m' ((c.tc : Thread Cert.AdamSmallRefIdeal.nD Cert.AdamSmallRefIdeal.τ).loc Cert.AdamSmallRefIdeal.main_arg29)
          ∧ r.2.mem ((c.tc : Thread Cert.AdamSmallRefIdeal.nD Cert.AdamSmallRefIdeal.τ).loc Cert.AdamSmallRefIdeal.main_arg30) = m' ((c.tc : Thread Cert.AdamSmallRefIdeal.nD Cert.AdamSmallRefIdeal.τ).loc Cert.AdamSmallRefIdeal.main_arg30)
          ∧ r.2.mem ((c.tc : Thread Cert.AdamSmallRefIdeal.nD Cert.AdamSmallRefIdeal.τ).loc Cert.AdamSmallRefIdeal.main_arg31) = m' ((c.tc : Thread Cert.AdamSmallRefIdeal.nD Cert.AdamSmallRefIdeal.τ).loc Cert.AdamSmallRefIdeal.main_arg31)
          ∧ r.2.mem ((c.tc : Thread Cert.AdamSmallRefIdeal.nD Cert.AdamSmallRefIdeal.τ).loc Cert.AdamSmallRefIdeal.main_arg32) = m' ((c.tc : Thread Cert.AdamSmallRefIdeal.nD Cert.AdamSmallRefIdeal.τ).loc Cert.AdamSmallRefIdeal.main_arg32)
          ∧ r.2.mem ((c.tc : Thread Cert.AdamSmallRefIdeal.nD Cert.AdamSmallRefIdeal.τ).loc Cert.AdamSmallRefIdeal.main_arg33) = m' ((c.tc : Thread Cert.AdamSmallRefIdeal.nD Cert.AdamSmallRefIdeal.τ).loc Cert.AdamSmallRefIdeal.main_arg33)
          ∧ r.2.mem ((c.tc : Thread Cert.AdamSmallRefIdeal.nD Cert.AdamSmallRefIdeal.τ).loc Cert.AdamSmallRefIdeal.main_arg34) = m' ((c.tc : Thread Cert.AdamSmallRefIdeal.nD Cert.AdamSmallRefIdeal.τ).loc Cert.AdamSmallRefIdeal.main_arg34)
          ∧ r.2.mem ((c.tc : Thread Cert.AdamSmallRefIdeal.nD Cert.AdamSmallRefIdeal.τ).loc Cert.AdamSmallRefIdeal.main_arg35) = m' ((c.tc : Thread Cert.AdamSmallRefIdeal.nD Cert.AdamSmallRefIdeal.τ).loc Cert.AdamSmallRefIdeal.main_arg35)
          ∧ r.2.mem ((c.tc : Thread Cert.AdamSmallRefIdeal.nD Cert.AdamSmallRefIdeal.τ).loc Cert.AdamSmallRefIdeal.main_arg36) = m' ((c.tc : Thread Cert.AdamSmallRefIdeal.nD Cert.AdamSmallRefIdeal.τ).loc Cert.AdamSmallRefIdeal.main_arg36)
          ∧ r.2.mem ((c.tc : Thread Cert.AdamSmallRefIdeal.nD Cert.AdamSmallRefIdeal.τ).loc Cert.AdamSmallRefIdeal.main_arg37) = m' ((c.tc : Thread Cert.AdamSmallRefIdeal.nD Cert.AdamSmallRefIdeal.τ).loc Cert.AdamSmallRefIdeal.main_arg37)
          ∧ r.2.mem ((c.tc : Thread Cert.AdamSmallRefIdeal.nD Cert.AdamSmallRefIdeal.τ).loc Cert.AdamSmallRefIdeal.main_arg38) = m' ((c.tc : Thread Cert.AdamSmallRefIdeal.nD Cert.AdamSmallRefIdeal.τ).loc Cert.AdamSmallRefIdeal.main_arg38)
          ∧ r.2.mem ((c.tc : Thread Cert.AdamSmallRefIdeal.nD Cert.AdamSmallRefIdeal.τ).loc Cert.AdamSmallRefIdeal.main_arg39) = m' ((c.tc : Thread Cert.AdamSmallRefIdeal.nD Cert.AdamSmallRefIdeal.τ).loc Cert.AdamSmallRefIdeal.main_arg39)
          ∧ r.2.mem ((c.tc : Thread Cert.AdamSmallRefIdeal.nD Cert.AdamSmallRefIdeal.τ).loc Cert.AdamSmallRefIdeal.main_arg40) = m' ((c.tc : Thread Cert.AdamSmallRefIdeal.nD Cert.AdamSmallRefIdeal.τ).loc Cert.AdamSmallRefIdeal.main_arg40)
          ∧ r.2.mem ((c.tc : Thread Cert.AdamSmallRefIdeal.nD Cert.AdamSmallRefIdeal.τ).loc Cert.AdamSmallRefIdeal.main_arg41) = m' ((c.tc : Thread Cert.AdamSmallRefIdeal.nD Cert.AdamSmallRefIdeal.τ).loc Cert.AdamSmallRefIdeal.main_arg41)
          ∧ r.2.mem ((c.tc : Thread Cert.AdamSmallRefIdeal.nD Cert.AdamSmallRefIdeal.τ).loc Cert.AdamSmallRefIdeal.main_arg42) = m' ((c.tc : Thread Cert.AdamSmallRefIdeal.nD Cert.AdamSmallRefIdeal.τ).loc Cert.AdamSmallRefIdeal.main_arg42)
          ∧ r.2.mem ((c.tc : Thread Cert.AdamSmallRefIdeal.nD Cert.AdamSmallRefIdeal.τ).loc Cert.AdamSmallRefIdeal.main_arg43) = m' ((c.tc : Thread Cert.AdamSmallRefIdeal.nD Cert.AdamSmallRefIdeal.τ).loc Cert.AdamSmallRefIdeal.main_arg43)
          ∧ r.2.mem ((c.tc : Thread Cert.AdamSmallRefIdeal.nD Cert.AdamSmallRefIdeal.τ).loc Cert.AdamSmallRefIdeal.main_arg44) = m' ((c.tc : Thread Cert.AdamSmallRefIdeal.nD Cert.AdamSmallRefIdeal.τ).loc Cert.AdamSmallRefIdeal.main_arg44)
          ∧ r.2.mem ((c.tc : Thread Cert.AdamSmallRefIdeal.nD Cert.AdamSmallRefIdeal.τ).loc Cert.AdamSmallRefIdeal.main_arg45) = m' ((c.tc : Thread Cert.AdamSmallRefIdeal.nD Cert.AdamSmallRefIdeal.τ).loc Cert.AdamSmallRefIdeal.main_arg45)
          ∧ r.2.mem ((c.tc : Thread Cert.AdamSmallRefIdeal.nD Cert.AdamSmallRefIdeal.τ).loc Cert.AdamSmallRefIdeal.main_arg46) = m' ((c.tc : Thread Cert.AdamSmallRefIdeal.nD Cert.AdamSmallRefIdeal.τ).loc Cert.AdamSmallRefIdeal.main_arg46)
          ∧ r.2.mem ((c.tc : Thread Cert.AdamSmallRefIdeal.nD Cert.AdamSmallRefIdeal.τ).loc Cert.AdamSmallRefIdeal.main_arg47) = m' ((c.tc : Thread Cert.AdamSmallRefIdeal.nD Cert.AdamSmallRefIdeal.τ).loc Cert.AdamSmallRefIdeal.main_arg47)
          ∧ r.2.mem ((c.tc : Thread Cert.AdamSmallRefIdeal.nD Cert.AdamSmallRefIdeal.τ).loc Cert.AdamSmallRefIdeal.main_arg48) = m' ((c.tc : Thread Cert.AdamSmallRefIdeal.nD Cert.AdamSmallRefIdeal.τ).loc Cert.AdamSmallRefIdeal.main_arg48)
          ∧ r.2.mem ((c.tc : Thread Cert.AdamSmallRefIdeal.nD Cert.AdamSmallRefIdeal.τ).loc Cert.AdamSmallRefIdeal.main_arg49) = m' ((c.tc : Thread Cert.AdamSmallRefIdeal.nD Cert.AdamSmallRefIdeal.τ).loc Cert.AdamSmallRefIdeal.main_arg49)
          ∧ r.2.mem ((c.tc : Thread Cert.AdamSmallRefIdeal.nD Cert.AdamSmallRefIdeal.τ).loc Cert.AdamSmallRefIdeal.main_arg50) = m' ((c.tc : Thread Cert.AdamSmallRefIdeal.nD Cert.AdamSmallRefIdeal.τ).loc Cert.AdamSmallRefIdeal.main_arg50)
          ∧ r.2.mem ((c.tc : Thread Cert.AdamSmallRefIdeal.nD Cert.AdamSmallRefIdeal.τ).loc Cert.AdamSmallRefIdeal.main_arg51) = m' ((c.tc : Thread Cert.AdamSmallRefIdeal.nD Cert.AdamSmallRefIdeal.τ).loc Cert.AdamSmallRefIdeal.main_arg51)
          ∧ r.2.mem ((c.tc : Thread Cert.AdamSmallRefIdeal.nD Cert.AdamSmallRefIdeal.τ).loc Cert.AdamSmallRefIdeal.main_arg52) = m' ((c.tc : Thread Cert.AdamSmallRefIdeal.nD Cert.AdamSmallRefIdeal.τ).loc Cert.AdamSmallRefIdeal.main_arg52)
          ∧ r.2.mem ((c.tc : Thread Cert.AdamSmallRefIdeal.nD Cert.AdamSmallRefIdeal.τ).loc Cert.AdamSmallRefIdeal.main_arg53) = m' ((c.tc : Thread Cert.AdamSmallRefIdeal.nD Cert.AdamSmallRefIdeal.τ).loc Cert.AdamSmallRefIdeal.main_arg53)
          ∧ r.2.mem ((c.tc : Thread Cert.AdamSmallRefIdeal.nD Cert.AdamSmallRefIdeal.τ).loc Cert.AdamSmallRefIdeal.main_arg54) = m' ((c.tc : Thread Cert.AdamSmallRefIdeal.nD Cert.AdamSmallRefIdeal.τ).loc Cert.AdamSmallRefIdeal.main_arg54)
          ∧ r.2.mem ((c.tc : Thread Cert.AdamSmallRefIdeal.nD Cert.AdamSmallRefIdeal.τ).loc Cert.AdamSmallRefIdeal.main_arg55) = m' ((c.tc : Thread Cert.AdamSmallRefIdeal.nD Cert.AdamSmallRefIdeal.τ).loc Cert.AdamSmallRefIdeal.main_arg55)
          ∧ r.2.mem ((c.tc : Thread Cert.AdamSmallRefIdeal.nD Cert.AdamSmallRefIdeal.τ).loc Cert.AdamSmallRefIdeal.main_arg56) = m' ((c.tc : Thread Cert.AdamSmallRefIdeal.nD Cert.AdamSmallRefIdeal.τ).loc Cert.AdamSmallRefIdeal.main_arg56)
          ∧ r.2.mem ((c.tc : Thread Cert.AdamSmallRefIdeal.nD Cert.AdamSmallRefIdeal.τ).loc Cert.AdamSmallRefIdeal.main_arg57) = m' ((c.tc : Thread Cert.AdamSmallRefIdeal.nD Cert.AdamSmallRefIdeal.τ).loc Cert.AdamSmallRefIdeal.main_arg57)
          ∧ r.2.mem ((c.tc : Thread Cert.AdamSmallRefIdeal.nD Cert.AdamSmallRefIdeal.τ).loc Cert.AdamSmallRefIdeal.main_arg58) = m' ((c.tc : Thread Cert.AdamSmallRefIdeal.nD Cert.AdamSmallRefIdeal.τ).loc Cert.AdamSmallRefIdeal.main_arg58)
          ∧ r.2.mem ((c.tc : Thread Cert.AdamSmallRefIdeal.nD Cert.AdamSmallRefIdeal.τ).loc Cert.AdamSmallRefIdeal.main_arg59) = m' ((c.tc : Thread Cert.AdamSmallRefIdeal.nD Cert.AdamSmallRefIdeal.τ).loc Cert.AdamSmallRefIdeal.main_arg59)
          ∧ r.2.mem ((c.tc : Thread Cert.AdamSmallRefIdeal.nD Cert.AdamSmallRefIdeal.τ).loc Cert.AdamSmallRefIdeal.main_arg60) = m' ((c.tc : Thread Cert.AdamSmallRefIdeal.nD Cert.AdamSmallRefIdeal.τ).loc Cert.AdamSmallRefIdeal.main_arg60)
          ∧ r.2.mem ((c.tc : Thread Cert.AdamSmallRefIdeal.nD Cert.AdamSmallRefIdeal.τ).loc Cert.AdamSmallRefIdeal.main_arg61) = m' ((c.tc : Thread Cert.AdamSmallRefIdeal.nD Cert.AdamSmallRefIdeal.τ).loc Cert.AdamSmallRefIdeal.main_arg61)
          ∧ r.2.mem ((c.tc : Thread Cert.AdamSmallRefIdeal.nD Cert.AdamSmallRefIdeal.τ).loc Cert.AdamSmallRefIdeal.main_arg62) = m' ((c.tc : Thread Cert.AdamSmallRefIdeal.nD Cert.AdamSmallRefIdeal.τ).loc Cert.AdamSmallRefIdeal.main_arg62)
          ∧ r.2.mem ((c.tc : Thread Cert.AdamSmallRefIdeal.nD Cert.AdamSmallRefIdeal.τ).loc Cert.AdamSmallRefIdeal.main_arg63) = m' ((c.tc : Thread Cert.AdamSmallRefIdeal.nD Cert.AdamSmallRefIdeal.τ).loc Cert.AdamSmallRefIdeal.main_arg63)
          ∧ r.2.mem ((c.tc : Thread Cert.AdamSmallRefIdeal.nD Cert.AdamSmallRefIdeal.τ).loc Cert.AdamSmallRefIdeal.main_arg64) = m' ((c.tc : Thread Cert.AdamSmallRefIdeal.nD Cert.AdamSmallRefIdeal.τ).loc Cert.AdamSmallRefIdeal.main_arg64)
          ∧ r.2.mem ((c.tc : Thread Cert.AdamSmallRefIdeal.nD Cert.AdamSmallRefIdeal.τ).loc Cert.AdamSmallRefIdeal.main_arg65) = m' ((c.tc : Thread Cert.AdamSmallRefIdeal.nD Cert.AdamSmallRefIdeal.τ).loc Cert.AdamSmallRefIdeal.main_arg65)
          ∧ r.2.mem ((c.tc : Thread Cert.AdamSmallRefIdeal.nD Cert.AdamSmallRefIdeal.τ).loc Cert.AdamSmallRefIdeal.main_arg66) = m' ((c.tc : Thread Cert.AdamSmallRefIdeal.nD Cert.AdamSmallRefIdeal.τ).loc Cert.AdamSmallRefIdeal.main_arg66)
          ∧ r.2.mem ((c.tc : Thread Cert.AdamSmallRefIdeal.nD Cert.AdamSmallRefIdeal.τ).loc Cert.AdamSmallRefIdeal.main_arg67) = m' ((c.tc : Thread Cert.AdamSmallRefIdeal.nD Cert.AdamSmallRefIdeal.τ).loc Cert.AdamSmallRefIdeal.main_arg67)
          ∧ r.2.mem ((c.tc : Thread Cert.AdamSmallRefIdeal.nD Cert.AdamSmallRefIdeal.τ).loc Cert.AdamSmallRefIdeal.main_arg68) = m' ((c.tc : Thread Cert.AdamSmallRefIdeal.nD Cert.AdamSmallRefIdeal.τ).loc Cert.AdamSmallRefIdeal.main_arg68)
          ∧ r.2.mem ((c.tc : Thread Cert.AdamSmallRefIdeal.nD Cert.AdamSmallRefIdeal.τ).loc Cert.AdamSmallRefIdeal.main_arg69) = m' ((c.tc : Thread Cert.AdamSmallRefIdeal.nD Cert.AdamSmallRefIdeal.τ).loc Cert.AdamSmallRefIdeal.main_arg69)
          ∧ r.2.mem ((c.tc : Thread Cert.AdamSmallRefIdeal.nD Cert.AdamSmallRefIdeal.τ).loc Cert.AdamSmallRefIdeal.main_arg70) = m' ((c.tc : Thread Cert.AdamSmallRefIdeal.nD Cert.AdamSmallRefIdeal.τ).loc Cert.AdamSmallRefIdeal.main_arg70)
          ∧ r.2.mem ((c.tc : Thread Cert.AdamSmallRefIdeal.nD Cert.AdamSmallRefIdeal.τ).loc Cert.AdamSmallRefIdeal.main_arg71) = m' ((c.tc : Thread Cert.AdamSmallRefIdeal.nD Cert.AdamSmallRefIdeal.τ).loc Cert.AdamSmallRefIdeal.main_arg71)
          ∧ r.2.mem ((c.tc : Thread Cert.AdamSmallRefIdeal.nD Cert.AdamSmallRefIdeal.τ).loc Cert.AdamSmallRefIdeal.main_arg72) = m' ((c.tc : Thread Cert.AdamSmallRefIdeal.nD Cert.AdamSmallRefIdeal.τ).loc Cert.AdamSmallRefIdeal.main_arg72)
          ∧ r.2.mem ((c.tc : Thread Cert.AdamSmallRefIdeal.nD Cert.AdamSmallRefIdeal.τ).loc Cert.AdamSmallRefIdeal.main_arg73) = m' ((c.tc : Thread Cert.AdamSmallRefIdeal.nD Cert.AdamSmallRefIdeal.τ).loc Cert.AdamSmallRefIdeal.main_arg73)
          ∧ r.2.mem ((c.tc : Thread Cert.AdamSmallRefIdeal.nD Cert.AdamSmallRefIdeal.τ).loc Cert.AdamSmallRefIdeal.main_arg74) = m' ((c.tc : Thread Cert.AdamSmallRefIdeal.nD Cert.AdamSmallRefIdeal.τ).loc Cert.AdamSmallRefIdeal.main_arg74)
          ∧ r.2.mem ((c.tc : Thread Cert.AdamSmallRefIdeal.nD Cert.AdamSmallRefIdeal.τ).loc Cert.AdamSmallRefIdeal.main_arg75) = m' ((c.tc : Thread Cert.AdamSmallRefIdeal.nD Cert.AdamSmallRefIdeal.τ).loc Cert.AdamSmallRefIdeal.main_arg75)
          ∧ r.2.mem ((c.tc : Thread Cert.AdamSmallRefIdeal.nD Cert.AdamSmallRefIdeal.τ).loc Cert.AdamSmallRefIdeal.main_arg76) = m' ((c.tc : Thread Cert.AdamSmallRefIdeal.nD Cert.AdamSmallRefIdeal.τ).loc Cert.AdamSmallRefIdeal.main_arg76)
          ∧ r.2.mem ((c.tc : Thread Cert.AdamSmallRefIdeal.nD Cert.AdamSmallRefIdeal.τ).loc Cert.AdamSmallRefIdeal.main_arg77) = m' ((c.tc : Thread Cert.AdamSmallRefIdeal.nD Cert.AdamSmallRefIdeal.τ).loc Cert.AdamSmallRefIdeal.main_arg77)
          ∧ r.2.mem ((c.tc : Thread Cert.AdamSmallRefIdeal.nD Cert.AdamSmallRefIdeal.τ).loc Cert.AdamSmallRefIdeal.main_arg78) = m' ((c.tc : Thread Cert.AdamSmallRefIdeal.nD Cert.AdamSmallRefIdeal.τ).loc Cert.AdamSmallRefIdeal.main_arg78)
          ∧ r.2.mem ((c.tc : Thread Cert.AdamSmallRefIdeal.nD Cert.AdamSmallRefIdeal.τ).loc Cert.AdamSmallRefIdeal.main_arg79) = m' ((c.tc : Thread Cert.AdamSmallRefIdeal.nD Cert.AdamSmallRefIdeal.τ).loc Cert.AdamSmallRefIdeal.main_arg79)
          ∧ r.2.mem ((c.tc : Thread Cert.AdamSmallRefIdeal.nD Cert.AdamSmallRefIdeal.τ).loc Cert.AdamSmallRefIdeal.main_arg80) = m' ((c.tc : Thread Cert.AdamSmallRefIdeal.nD Cert.AdamSmallRefIdeal.τ).loc Cert.AdamSmallRefIdeal.main_arg80)
          ∧ r.2.mem ((c.tc : Thread Cert.AdamSmallRefIdeal.nD Cert.AdamSmallRefIdeal.τ).loc Cert.AdamSmallRefIdeal.main_arg81) = m' ((c.tc : Thread Cert.AdamSmallRefIdeal.nD Cert.AdamSmallRefIdeal.τ).loc Cert.AdamSmallRefIdeal.main_arg81)
          ∧ r.2.mem ((c.tc : Thread Cert.AdamSmallRefIdeal.nD Cert.AdamSmallRefIdeal.τ).loc Cert.AdamSmallRefIdeal.main_arg82) = m' ((c.tc : Thread Cert.AdamSmallRefIdeal.nD Cert.AdamSmallRefIdeal.τ).loc Cert.AdamSmallRefIdeal.main_arg82)
          ∧ r.2.mem ((c.tc : Thread Cert.AdamSmallRefIdeal.nD Cert.AdamSmallRefIdeal.τ).loc Cert.AdamSmallRefIdeal.main_arg83) = m' ((c.tc : Thread Cert.AdamSmallRefIdeal.nD Cert.AdamSmallRefIdeal.τ).loc Cert.AdamSmallRefIdeal.main_arg83)
          ∧ r.2.mem ((c.tc : Thread Cert.AdamSmallRefIdeal.nD Cert.AdamSmallRefIdeal.τ).loc Cert.AdamSmallRefIdeal.main_arg84) = m' ((c.tc : Thread Cert.AdamSmallRefIdeal.nD Cert.AdamSmallRefIdeal.τ).loc Cert.AdamSmallRefIdeal.main_arg84)
          ∧ r.2.mem ((c.tc : Thread Cert.AdamSmallRefIdeal.nD Cert.AdamSmallRefIdeal.τ).loc Cert.AdamSmallRefIdeal.main_arg85) = m' ((c.tc : Thread Cert.AdamSmallRefIdeal.nD Cert.AdamSmallRefIdeal.τ).loc Cert.AdamSmallRefIdeal.main_arg85)
          ∧ r.2.mem ((c.tc : Thread Cert.AdamSmallRefIdeal.nD Cert.AdamSmallRefIdeal.τ).loc Cert.AdamSmallRefIdeal.main_arg86) = m' ((c.tc : Thread Cert.AdamSmallRefIdeal.nD Cert.AdamSmallRefIdeal.τ).loc Cert.AdamSmallRefIdeal.main_arg86)
          ∧ r.2.mem ((c.tc : Thread Cert.AdamSmallRefIdeal.nD Cert.AdamSmallRefIdeal.τ).loc Cert.AdamSmallRefIdeal.main_arg87) = m' ((c.tc : Thread Cert.AdamSmallRefIdeal.nD Cert.AdamSmallRefIdeal.τ).loc Cert.AdamSmallRefIdeal.main_arg87))

def preserves_FinalLoss_FinalLossIdeal : Prop :=
  True

def algebraic_FinalLossIdeal_FinalLossRefIdeal [hFinalLossIdeal : Cert.FinalLossIdeal.Facts] [hFinalLossRefIdeal : Cert.FinalLossRefIdeal.Facts] : Prop :=
  ∀ (m : (ℓ : Loc Cert.FinalLossIdeal.nD Cert.FinalLossIdeal.τ Cert.FinalLossIdeal.sig) → Buf (Elt Ideal) ℓ) (g : Dev Cert.FinalLossIdeal.nD → PrngReg)
    (m' : (ℓ : Loc Cert.FinalLossRefIdeal.nD Cert.FinalLossRefIdeal.τ Cert.FinalLossRefIdeal.sig) → Buf (Elt Ideal) ℓ) (g' : Dev Cert.FinalLossRefIdeal.nD → PrngReg), Pre_FinalLossIdeal m →
    (∀ c : Dev Cert.FinalLossIdeal.nD,
      m' ((c.tc : Thread Cert.FinalLossRefIdeal.nD Cert.FinalLossRefIdeal.τ).loc Cert.FinalLossRefIdeal.main_arg0) = m ((c.tc : Thread Cert.FinalLossIdeal.nD Cert.FinalLossIdeal.τ).loc Cert.FinalLossIdeal.main_arg0)
      ∧ m' ((c.tc : Thread Cert.FinalLossRefIdeal.nD Cert.FinalLossRefIdeal.τ).loc Cert.FinalLossRefIdeal.main_arg1) = m ((c.tc : Thread Cert.FinalLossIdeal.nD Cert.FinalLossIdeal.τ).loc Cert.FinalLossIdeal.main_arg1)
      ∧ m' ((c.tc : Thread Cert.FinalLossRefIdeal.nD Cert.FinalLossRefIdeal.τ).loc Cert.FinalLossRefIdeal.main_arg2) = m ((c.tc : Thread Cert.FinalLossIdeal.nD Cert.FinalLossIdeal.τ).loc Cert.FinalLossIdeal.main_arg2)) →
    ∃ (v0 : (c : Dev Cert.FinalLossIdeal.nD) → Buf (Elt Ideal) ((c.tc : Thread Cert.FinalLossIdeal.nD Cert.FinalLossIdeal.τ).loc Cert.FinalLossIdeal.main_v3)) (v1 : (c : Dev Cert.FinalLossIdeal.nD) → Buf (Elt Ideal) ((c.tc : Thread Cert.FinalLossIdeal.nD Cert.FinalLossIdeal.τ).loc Cert.FinalLossIdeal.main_v1_1)) (v2 : (c : Dev Cert.FinalLossIdeal.nD) → Buf (Elt Ideal) ((c.tc : Thread Cert.FinalLossIdeal.nD Cert.FinalLossIdeal.τ).loc Cert.FinalLossIdeal.main_v1_2)),
      θ_run (Cert.FinalLossIdeal.defs (F := Ideal)) (onTc (τ := Cert.FinalLossIdeal.τ) (Cert.FinalLossIdeal.main (F := Ideal))) ⟨m, fun _ => 0, g⟩ (fun r => ∀ c : Dev Cert.FinalLossIdeal.nD,
          r.2.mem ((c.tc : Thread Cert.FinalLossIdeal.nD Cert.FinalLossIdeal.τ).loc Cert.FinalLossIdeal.main_v3) = v0 c
          ∧ r.2.mem ((c.tc : Thread Cert.FinalLossIdeal.nD Cert.FinalLossIdeal.τ).loc Cert.FinalLossIdeal.main_v1_1) = v1 c
          ∧ r.2.mem ((c.tc : Thread Cert.FinalLossIdeal.nD Cert.FinalLossIdeal.τ).loc Cert.FinalLossIdeal.main_v1_2) = v2 c
          ∧ r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
          ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
          ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2))
      ∧ θ_run (Cert.FinalLossRefIdeal.defs (F := Ideal)) (onTc (τ := Cert.FinalLossRefIdeal.τ) (Cert.FinalLossRefIdeal.main (F := Ideal))) ⟨m', fun _ => 0, g'⟩ (fun r => ∀ c : Dev Cert.FinalLossRefIdeal.nD,
          r.2.mem ((c.tc : Thread Cert.FinalLossRefIdeal.nD Cert.FinalLossRefIdeal.τ).loc Cert.FinalLossRefIdeal.main_v24) = v0 c
          ∧ r.2.mem ((c.tc : Thread Cert.FinalLossRefIdeal.nD Cert.FinalLossRefIdeal.τ).loc Cert.FinalLossRefIdeal.main_v50) = v1 c
          ∧ r.2.mem ((c.tc : Thread Cert.FinalLossRefIdeal.nD Cert.FinalLossRefIdeal.τ).loc Cert.FinalLossRefIdeal.main_v34) = v2 c
          ∧ r.2.mem ((c.tc : Thread Cert.FinalLossRefIdeal.nD Cert.FinalLossRefIdeal.τ).loc Cert.FinalLossRefIdeal.main_arg0) = m' ((c.tc : Thread Cert.FinalLossRefIdeal.nD Cert.FinalLossRefIdeal.τ).loc Cert.FinalLossRefIdeal.main_arg0)
          ∧ r.2.mem ((c.tc : Thread Cert.FinalLossRefIdeal.nD Cert.FinalLossRefIdeal.τ).loc Cert.FinalLossRefIdeal.main_arg1) = m' ((c.tc : Thread Cert.FinalLossRefIdeal.nD Cert.FinalLossRefIdeal.τ).loc Cert.FinalLossRefIdeal.main_arg1)
          ∧ r.2.mem ((c.tc : Thread Cert.FinalLossRefIdeal.nD Cert.FinalLossRefIdeal.τ).loc Cert.FinalLossRefIdeal.main_arg2) = m' ((c.tc : Thread Cert.FinalLossRefIdeal.nD Cert.FinalLossRefIdeal.τ).loc Cert.FinalLossRefIdeal.main_arg2))

def preserves_FirstNorm_FirstNormIdeal : Prop :=
  True

def algebraic_FirstNormIdeal_FirstNormRefIdeal [hFirstNormIdeal : Cert.FirstNormIdeal.Facts] [hFirstNormRefIdeal : Cert.FirstNormRefIdeal.Facts] : Prop :=
  ∀ (m : (ℓ : Loc Cert.FirstNormIdeal.nD Cert.FirstNormIdeal.τ Cert.FirstNormIdeal.sig) → Buf (Elt Ideal) ℓ) (g : Dev Cert.FirstNormIdeal.nD → PrngReg)
    (m' : (ℓ : Loc Cert.FirstNormRefIdeal.nD Cert.FirstNormRefIdeal.τ Cert.FirstNormRefIdeal.sig) → Buf (Elt Ideal) ℓ) (g' : Dev Cert.FirstNormRefIdeal.nD → PrngReg), Pre_FirstNormIdeal m →
    (∀ c : Dev Cert.FirstNormIdeal.nD,
      m' ((c.tc : Thread Cert.FirstNormRefIdeal.nD Cert.FirstNormRefIdeal.τ).loc Cert.FirstNormRefIdeal.main_arg0) = m ((c.tc : Thread Cert.FirstNormIdeal.nD Cert.FirstNormIdeal.τ).loc Cert.FirstNormIdeal.main_arg0)
      ∧ m' ((c.tc : Thread Cert.FirstNormRefIdeal.nD Cert.FirstNormRefIdeal.τ).loc Cert.FirstNormRefIdeal.main_arg1) = m ((c.tc : Thread Cert.FirstNormIdeal.nD Cert.FirstNormIdeal.τ).loc Cert.FirstNormIdeal.main_arg1)) →
    ∃ (v0 : (c : Dev Cert.FirstNormIdeal.nD) → Buf (Elt Ideal) ((c.tc : Thread Cert.FirstNormIdeal.nD Cert.FirstNormIdeal.τ).loc Cert.FirstNormIdeal.main_v0)),
      θ_run (Cert.FirstNormIdeal.defs (F := Ideal)) (onTc (τ := Cert.FirstNormIdeal.τ) (Cert.FirstNormIdeal.main (F := Ideal))) ⟨m, fun _ => 0, g⟩ (fun r => ∀ c : Dev Cert.FirstNormIdeal.nD,
          r.2.mem ((c.tc : Thread Cert.FirstNormIdeal.nD Cert.FirstNormIdeal.τ).loc Cert.FirstNormIdeal.main_v0) = v0 c
          ∧ r.2.mem ((c.tc : Thread Cert.FirstNormIdeal.nD Cert.FirstNormIdeal.τ).loc Cert.FirstNormIdeal.main_arg0) = m ((c.tc : Thread Cert.FirstNormIdeal.nD Cert.FirstNormIdeal.τ).loc Cert.FirstNormIdeal.main_arg0)
          ∧ r.2.mem ((c.tc : Thread Cert.FirstNormIdeal.nD Cert.FirstNormIdeal.τ).loc Cert.FirstNormIdeal.main_arg1) = m ((c.tc : Thread Cert.FirstNormIdeal.nD Cert.FirstNormIdeal.τ).loc Cert.FirstNormIdeal.main_arg1))
      ∧ θ_run (Cert.FirstNormRefIdeal.defs (F := Ideal)) (onTc (τ := Cert.FirstNormRefIdeal.τ) (Cert.FirstNormRefIdeal.main (F := Ideal))) ⟨m', fun _ => 0, g'⟩ (fun r => ∀ c : Dev Cert.FirstNormRefIdeal.nD,
          r.2.mem ((c.tc : Thread Cert.FirstNormRefIdeal.nD Cert.FirstNormRefIdeal.τ).loc Cert.FirstNormRefIdeal.main_v12) = v0 c
          ∧ r.2.mem ((c.tc : Thread Cert.FirstNormRefIdeal.nD Cert.FirstNormRefIdeal.τ).loc Cert.FirstNormRefIdeal.main_arg0) = m' ((c.tc : Thread Cert.FirstNormRefIdeal.nD Cert.FirstNormRefIdeal.τ).loc Cert.FirstNormRefIdeal.main_arg0)
          ∧ r.2.mem ((c.tc : Thread Cert.FirstNormRefIdeal.nD Cert.FirstNormRefIdeal.τ).loc Cert.FirstNormRefIdeal.main_arg1) = m' ((c.tc : Thread Cert.FirstNormRefIdeal.nD Cert.FirstNormRefIdeal.τ).loc Cert.FirstNormRefIdeal.main_arg1))

def preserves_EvenLn_EvenLnIdeal : Prop :=
  True

def algebraic_EvenLnIdeal_EvenLnRefIdeal [hEvenLnIdeal : Cert.EvenLnIdeal.Facts] [hEvenLnRefIdeal : Cert.EvenLnRefIdeal.Facts] : Prop :=
  ∀ (m : (ℓ : Loc Cert.EvenLnIdeal.nD Cert.EvenLnIdeal.τ Cert.EvenLnIdeal.sig) → Buf (Elt Ideal) ℓ) (g : Dev Cert.EvenLnIdeal.nD → PrngReg)
    (m' : (ℓ : Loc Cert.EvenLnRefIdeal.nD Cert.EvenLnRefIdeal.τ Cert.EvenLnRefIdeal.sig) → Buf (Elt Ideal) ℓ) (g' : Dev Cert.EvenLnRefIdeal.nD → PrngReg), Pre_EvenLnIdeal m →
    (∀ c : Dev Cert.EvenLnIdeal.nD,
      m' ((c.tc : Thread Cert.EvenLnRefIdeal.nD Cert.EvenLnRefIdeal.τ).loc Cert.EvenLnRefIdeal.main_arg0) = m ((c.tc : Thread Cert.EvenLnIdeal.nD Cert.EvenLnIdeal.τ).loc Cert.EvenLnIdeal.main_arg0)
      ∧ m' ((c.tc : Thread Cert.EvenLnRefIdeal.nD Cert.EvenLnRefIdeal.τ).loc Cert.EvenLnRefIdeal.main_arg1) = m ((c.tc : Thread Cert.EvenLnIdeal.nD Cert.EvenLnIdeal.τ).loc Cert.EvenLnIdeal.main_arg1)
      ∧ m' ((c.tc : Thread Cert.EvenLnRefIdeal.nD Cert.EvenLnRefIdeal.τ).loc Cert.EvenLnRefIdeal.main_arg2) = m ((c.tc : Thread Cert.EvenLnIdeal.nD Cert.EvenLnIdeal.τ).loc Cert.EvenLnIdeal.main_arg2)) →
    ∃ (v0 : (c : Dev Cert.EvenLnIdeal.nD) → Buf (Elt Ideal) ((c.tc : Thread Cert.EvenLnIdeal.nD Cert.EvenLnIdeal.τ).loc Cert.EvenLnIdeal.main_v0)),
      θ_run (Cert.EvenLnIdeal.defs (F := Ideal)) (onTc (τ := Cert.EvenLnIdeal.τ) (Cert.EvenLnIdeal.main (F := Ideal))) ⟨m, fun _ => 0, g⟩ (fun r => ∀ c : Dev Cert.EvenLnIdeal.nD,
          r.2.mem ((c.tc : Thread Cert.EvenLnIdeal.nD Cert.EvenLnIdeal.τ).loc Cert.EvenLnIdeal.main_v0) = v0 c
          ∧ r.2.mem ((c.tc : Thread Cert.EvenLnIdeal.nD Cert.EvenLnIdeal.τ).loc Cert.EvenLnIdeal.main_arg0) = m ((c.tc : Thread Cert.EvenLnIdeal.nD Cert.EvenLnIdeal.τ).loc Cert.EvenLnIdeal.main_arg0)
          ∧ r.2.mem ((c.tc : Thread Cert.EvenLnIdeal.nD Cert.EvenLnIdeal.τ).loc Cert.EvenLnIdeal.main_arg1) = m ((c.tc : Thread Cert.EvenLnIdeal.nD Cert.EvenLnIdeal.τ).loc Cert.EvenLnIdeal.main_arg1)
          ∧ r.2.mem ((c.tc : Thread Cert.EvenLnIdeal.nD Cert.EvenLnIdeal.τ).loc Cert.EvenLnIdeal.main_arg2) = m ((c.tc : Thread Cert.EvenLnIdeal.nD Cert.EvenLnIdeal.τ).loc Cert.EvenLnIdeal.main_arg2))
      ∧ θ_run (Cert.EvenLnRefIdeal.defs (F := Ideal)) (onTc (τ := Cert.EvenLnRefIdeal.τ) (Cert.EvenLnRefIdeal.main (F := Ideal))) ⟨m', fun _ => 0, g'⟩ (fun r => ∀ c : Dev Cert.EvenLnRefIdeal.nD,
          r.2.mem ((c.tc : Thread Cert.EvenLnRefIdeal.nD Cert.EvenLnRefIdeal.τ).loc Cert.EvenLnRefIdeal.main_v29) = v0 c
          ∧ r.2.mem ((c.tc : Thread Cert.EvenLnRefIdeal.nD Cert.EvenLnRefIdeal.τ).loc Cert.EvenLnRefIdeal.main_arg0) = m' ((c.tc : Thread Cert.EvenLnRefIdeal.nD Cert.EvenLnRefIdeal.τ).loc Cert.EvenLnRefIdeal.main_arg0)
          ∧ r.2.mem ((c.tc : Thread Cert.EvenLnRefIdeal.nD Cert.EvenLnRefIdeal.τ).loc Cert.EvenLnRefIdeal.main_arg1) = m' ((c.tc : Thread Cert.EvenLnRefIdeal.nD Cert.EvenLnRefIdeal.τ).loc Cert.EvenLnRefIdeal.main_arg1)
          ∧ r.2.mem ((c.tc : Thread Cert.EvenLnRefIdeal.nD Cert.EvenLnRefIdeal.τ).loc Cert.EvenLnRefIdeal.main_arg2) = m' ((c.tc : Thread Cert.EvenLnRefIdeal.nD Cert.EvenLnRefIdeal.τ).loc Cert.EvenLnRefIdeal.main_arg2))

def preserves_EvenLnBwd_EvenLnBwdIdeal : Prop :=
  True

def algebraic_EvenLnBwdIdeal_EvenLnBwdRefIdeal_pre_ln_finite [hEvenLnBwdIdeal : Cert.EvenLnBwdIdeal.Facts] [hEvenLnBwdRefIdeal : Cert.EvenLnBwdRefIdeal.Facts] [hPre_ln_finite : Cert.Pre_ln_finite.Facts] : Prop :=
  ∀ (m : (ℓ : Loc Cert.EvenLnBwdIdeal.nD Cert.EvenLnBwdIdeal.τ Cert.EvenLnBwdIdeal.sig) → Buf (Elt Ideal) ℓ) (g : Dev Cert.EvenLnBwdIdeal.nD → PrngReg)
    (m' : (ℓ : Loc Cert.EvenLnBwdRefIdeal.nD Cert.EvenLnBwdRefIdeal.τ Cert.EvenLnBwdRefIdeal.sig) → Buf (Elt Ideal) ℓ) (g' : Dev Cert.EvenLnBwdRefIdeal.nD → PrngReg), Pre_EvenLnBwdIdeal_ln_finite m →
    (∀ c : Dev Cert.EvenLnBwdIdeal.nD,
      m' ((c.tc : Thread Cert.EvenLnBwdRefIdeal.nD Cert.EvenLnBwdRefIdeal.τ).loc Cert.EvenLnBwdRefIdeal.main_arg0) = m ((c.tc : Thread Cert.EvenLnBwdIdeal.nD Cert.EvenLnBwdIdeal.τ).loc Cert.EvenLnBwdIdeal.main_arg0)
      ∧ m' ((c.tc : Thread Cert.EvenLnBwdRefIdeal.nD Cert.EvenLnBwdRefIdeal.τ).loc Cert.EvenLnBwdRefIdeal.main_arg1) = m ((c.tc : Thread Cert.EvenLnBwdIdeal.nD Cert.EvenLnBwdIdeal.τ).loc Cert.EvenLnBwdIdeal.main_arg1)
      ∧ m' ((c.tc : Thread Cert.EvenLnBwdRefIdeal.nD Cert.EvenLnBwdRefIdeal.τ).loc Cert.EvenLnBwdRefIdeal.main_arg2) = m ((c.tc : Thread Cert.EvenLnBwdIdeal.nD Cert.EvenLnBwdIdeal.τ).loc Cert.EvenLnBwdIdeal.main_arg2)
      ∧ m' ((c.tc : Thread Cert.EvenLnBwdRefIdeal.nD Cert.EvenLnBwdRefIdeal.τ).loc Cert.EvenLnBwdRefIdeal.main_arg3) = m ((c.tc : Thread Cert.EvenLnBwdIdeal.nD Cert.EvenLnBwdIdeal.τ).loc Cert.EvenLnBwdIdeal.main_arg3)) →
    ∃ (v0 : (c : Dev Cert.EvenLnBwdIdeal.nD) → Buf (Elt Ideal) ((c.tc : Thread Cert.EvenLnBwdIdeal.nD Cert.EvenLnBwdIdeal.τ).loc Cert.EvenLnBwdIdeal.main_v0_0)) (v1 : (c : Dev Cert.EvenLnBwdIdeal.nD) → Buf (Elt Ideal) ((c.tc : Thread Cert.EvenLnBwdIdeal.nD Cert.EvenLnBwdIdeal.τ).loc Cert.EvenLnBwdIdeal.main_v0_1)) (v2 : (c : Dev Cert.EvenLnBwdIdeal.nD) → Buf (Elt Ideal) ((c.tc : Thread Cert.EvenLnBwdIdeal.nD Cert.EvenLnBwdIdeal.τ).loc Cert.EvenLnBwdIdeal.main_v0_2)),
      θ_run (Cert.EvenLnBwdIdeal.defs (F := Ideal)) (onTc (τ := Cert.EvenLnBwdIdeal.τ) (Cert.EvenLnBwdIdeal.main (F := Ideal))) ⟨m, fun _ => 0, g⟩ (fun r => ∀ c : Dev Cert.EvenLnBwdIdeal.nD,
          r.2.mem ((c.tc : Thread Cert.EvenLnBwdIdeal.nD Cert.EvenLnBwdIdeal.τ).loc Cert.EvenLnBwdIdeal.main_v0_0) = v0 c
          ∧ r.2.mem ((c.tc : Thread Cert.EvenLnBwdIdeal.nD Cert.EvenLnBwdIdeal.τ).loc Cert.EvenLnBwdIdeal.main_v0_1) = v1 c
          ∧ r.2.mem ((c.tc : Thread Cert.EvenLnBwdIdeal.nD Cert.EvenLnBwdIdeal.τ).loc Cert.EvenLnBwdIdeal.main_v0_2) = v2 c
          ∧ r.2.mem ((c.tc : Thread Cert.EvenLnBwdIdeal.nD Cert.EvenLnBwdIdeal.τ).loc Cert.EvenLnBwdIdeal.main_arg0) = m ((c.tc : Thread Cert.EvenLnBwdIdeal.nD Cert.EvenLnBwdIdeal.τ).loc Cert.EvenLnBwdIdeal.main_arg0)
          ∧ r.2.mem ((c.tc : Thread Cert.EvenLnBwdIdeal.nD Cert.EvenLnBwdIdeal.τ).loc Cert.EvenLnBwdIdeal.main_arg1) = m ((c.tc : Thread Cert.EvenLnBwdIdeal.nD Cert.EvenLnBwdIdeal.τ).loc Cert.EvenLnBwdIdeal.main_arg1)
          ∧ r.2.mem ((c.tc : Thread Cert.EvenLnBwdIdeal.nD Cert.EvenLnBwdIdeal.τ).loc Cert.EvenLnBwdIdeal.main_arg2) = m ((c.tc : Thread Cert.EvenLnBwdIdeal.nD Cert.EvenLnBwdIdeal.τ).loc Cert.EvenLnBwdIdeal.main_arg2)
          ∧ r.2.mem ((c.tc : Thread Cert.EvenLnBwdIdeal.nD Cert.EvenLnBwdIdeal.τ).loc Cert.EvenLnBwdIdeal.main_arg3) = m ((c.tc : Thread Cert.EvenLnBwdIdeal.nD Cert.EvenLnBwdIdeal.τ).loc Cert.EvenLnBwdIdeal.main_arg3))
      ∧ θ_run (Cert.EvenLnBwdRefIdeal.defs (F := Ideal)) (onTc (τ := Cert.EvenLnBwdRefIdeal.τ) (Cert.EvenLnBwdRefIdeal.main (F := Ideal))) ⟨m', fun _ => 0, g'⟩ (fun r => ∀ c : Dev Cert.EvenLnBwdRefIdeal.nD,
          r.2.mem ((c.tc : Thread Cert.EvenLnBwdRefIdeal.nD Cert.EvenLnBwdRefIdeal.τ).loc Cert.EvenLnBwdRefIdeal.main_v72) = v0 c
          ∧ r.2.mem ((c.tc : Thread Cert.EvenLnBwdRefIdeal.nD Cert.EvenLnBwdRefIdeal.τ).loc Cert.EvenLnBwdRefIdeal.main_v46) = v1 c
          ∧ r.2.mem ((c.tc : Thread Cert.EvenLnBwdRefIdeal.nD Cert.EvenLnBwdRefIdeal.τ).loc Cert.EvenLnBwdRefIdeal.main_v43) = v2 c
          ∧ r.2.mem ((c.tc : Thread Cert.EvenLnBwdRefIdeal.nD Cert.EvenLnBwdRefIdeal.τ).loc Cert.EvenLnBwdRefIdeal.main_arg0) = m' ((c.tc : Thread Cert.EvenLnBwdRefIdeal.nD Cert.EvenLnBwdRefIdeal.τ).loc Cert.EvenLnBwdRefIdeal.main_arg0)
          ∧ r.2.mem ((c.tc : Thread Cert.EvenLnBwdRefIdeal.nD Cert.EvenLnBwdRefIdeal.τ).loc Cert.EvenLnBwdRefIdeal.main_arg1) = m' ((c.tc : Thread Cert.EvenLnBwdRefIdeal.nD Cert.EvenLnBwdRefIdeal.τ).loc Cert.EvenLnBwdRefIdeal.main_arg1)
          ∧ r.2.mem ((c.tc : Thread Cert.EvenLnBwdRefIdeal.nD Cert.EvenLnBwdRefIdeal.τ).loc Cert.EvenLnBwdRefIdeal.main_arg2) = m' ((c.tc : Thread Cert.EvenLnBwdRefIdeal.nD Cert.EvenLnBwdRefIdeal.τ).loc Cert.EvenLnBwdRefIdeal.main_arg2)
          ∧ r.2.mem ((c.tc : Thread Cert.EvenLnBwdRefIdeal.nD Cert.EvenLnBwdRefIdeal.τ).loc Cert.EvenLnBwdRefIdeal.main_arg3) = m' ((c.tc : Thread Cert.EvenLnBwdRefIdeal.nD Cert.EvenLnBwdRefIdeal.τ).loc Cert.EvenLnBwdRefIdeal.main_arg3))

def Claim : Prop :=
  ∃ (hAttn : Cert.Attn.Facts) (hAttnIdeal : Cert.AttnIdeal.Facts) (hAttnRefIdeal : Cert.AttnRefIdeal.Facts) (hUpDw : Cert.UpDw.Facts) (hUpDwIdeal : Cert.UpDwIdeal.Facts) (hUpDwRefIdeal : Cert.UpDwRefIdeal.Facts) (hUpDx : Cert.UpDx.Facts) (hUpDxIdeal : Cert.UpDxIdeal.Facts) (hUpDxRefIdeal : Cert.UpDxRefIdeal.Facts) (hDownDw : Cert.DownDw.Facts) (hDownDwIdeal : Cert.DownDwIdeal.Facts) (hDownDwRefIdeal : Cert.DownDwRefIdeal.Facts) (hDownDx : Cert.DownDx.Facts) (hDownDxIdeal : Cert.DownDxIdeal.Facts) (hDownDxRefIdeal : Cert.DownDxRefIdeal.Facts) (hInDw : Cert.InDw.Facts) (hInDwIdeal : Cert.InDwIdeal.Facts) (hInDwRefIdeal : Cert.InDwRefIdeal.Facts) (hInDx : Cert.InDx.Facts) (hInDxIdeal : Cert.InDxIdeal.Facts) (hInDxRefIdeal : Cert.InDxRefIdeal.Facts) (hOutDw : Cert.OutDw.Facts) (hOutDwIdeal : Cert.OutDwIdeal.Facts) (hOutDwRefIdeal : Cert.OutDwRefIdeal.Facts) (hOutDx : Cert.OutDx.Facts) (hOutDxIdeal : Cert.OutDxIdeal.Facts) (hOutDxRefIdeal : Cert.OutDxRefIdeal.Facts) (hUp : Cert.Up.Facts) (hUpIdeal : Cert.UpIdeal.Facts) (hUpRefIdeal : Cert.UpRefIdeal.Facts) (hIn : Cert.In.Facts) (hInIdeal : Cert.InIdeal.Facts) (hInRefIdeal : Cert.InRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hDownEnd : Cert.DownEnd.Facts) (hDownEndIdeal : Cert.DownEndIdeal.Facts) (hDownEndRefIdeal : Cert.DownEndRefIdeal.Facts) (hRmsBwd : Cert.RmsBwd.Facts) (hRmsBwdIdeal : Cert.RmsBwdIdeal.Facts) (hRmsBwdRefIdeal : Cert.RmsBwdRefIdeal.Facts) (hAdamSmall : Cert.AdamSmall.Facts) (hAdamSmallIdeal : Cert.AdamSmallIdeal.Facts) (hAdamSmallRefIdeal : Cert.AdamSmallRefIdeal.Facts) (hFinalLoss : Cert.FinalLoss.Facts) (hFinalLossIdeal : Cert.FinalLossIdeal.Facts) (hFinalLossRefIdeal : Cert.FinalLossRefIdeal.Facts) (hFirstNorm : Cert.FirstNorm.Facts) (hFirstNormIdeal : Cert.FirstNormIdeal.Facts) (hFirstNormRefIdeal : Cert.FirstNormRefIdeal.Facts) (hEvenLn : Cert.EvenLn.Facts) (hEvenLnIdeal : Cert.EvenLnIdeal.Facts) (hEvenLnRefIdeal : Cert.EvenLnRefIdeal.Facts) (hEvenLnBwd : Cert.EvenLnBwd.Facts) (hEvenLnBwdIdeal : Cert.EvenLnBwdIdeal.Facts) (hEvenLnBwdRefIdeal : Cert.EvenLnBwdRefIdeal.Facts) (hPre_attn_finite : Cert.Pre_attn_finite.Facts) (hPre_ln_finite : Cert.Pre_ln_finite.Facts),
    quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_InDw (hInDw := hInDw)
    ∧ quiescent_InDwIdeal (hInDwIdeal := hInDwIdeal)
    ∧ quiescent_InDwRefIdeal (hInDwRefIdeal := hInDwRefIdeal)
    ∧ quiescent_InDx (hInDx := hInDx)
    ∧ quiescent_InDxIdeal (hInDxIdeal := hInDxIdeal)
    ∧ quiescent_InDxRefIdeal (hInDxRefIdeal := hInDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_Up (hUp := hUp)
    ∧ quiescent_UpIdeal (hUpIdeal := hUpIdeal)
    ∧ quiescent_UpRefIdeal (hUpRefIdeal := hUpRefIdeal)
    ∧ quiescent_In (hIn := hIn)
    ∧ quiescent_InIdeal (hInIdeal := hInIdeal)
    ∧ quiescent_InRefIdeal (hInRefIdeal := hInRefIdeal)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_DownEnd (hDownEnd := hDownEnd)
    ∧ quiescent_DownEndIdeal (hDownEndIdeal := hDownEndIdeal)
    ∧ quiescent_DownEndRefIdeal (hDownEndRefIdeal := hDownEndRefIdeal)
    ∧ quiescent_RmsBwd (hRmsBwd := hRmsBwd)
    ∧ quiescent_RmsBwdIdeal (hRmsBwdIdeal := hRmsBwdIdeal)
    ∧ quiescent_RmsBwdRefIdeal (hRmsBwdRefIdeal := hRmsBwdRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_FinalLoss (hFinalLoss := hFinalLoss)
    ∧ quiescent_FinalLossIdeal (hFinalLossIdeal := hFinalLossIdeal)
    ∧ quiescent_FinalLossRefIdeal (hFinalLossRefIdeal := hFinalLossRefIdeal)
    ∧ quiescent_FirstNorm (hFirstNorm := hFirstNorm)
    ∧ quiescent_FirstNormIdeal (hFirstNormIdeal := hFirstNormIdeal)
    ∧ quiescent_FirstNormRefIdeal (hFirstNormRefIdeal := hFirstNormRefIdeal)
    ∧ quiescent_EvenLn (hEvenLn := hEvenLn)
    ∧ quiescent_EvenLnIdeal (hEvenLnIdeal := hEvenLnIdeal)
    ∧ quiescent_EvenLnRefIdeal (hEvenLnRefIdeal := hEvenLnRefIdeal)
    ∧ quiescent_EvenLnBwd (hEvenLnBwd := hEvenLnBwd)
    ∧ quiescent_EvenLnBwdIdeal (hEvenLnBwdIdeal := hEvenLnBwdIdeal)
    ∧ quiescent_EvenLnBwdIdeal_pre_ln_finite (hEvenLnBwdIdeal := hEvenLnBwdIdeal) (hPre_ln_finite := hPre_ln_finite)
    ∧ quiescent_EvenLnBwdRefIdeal (hEvenLnBwdRefIdeal := hEvenLnBwdRefIdeal)
    ∧ quiescent_EvenLnBwdRefIdeal_pre_ln_finite (hEvenLnBwdRefIdeal := hEvenLnBwdRefIdeal) (hPre_ln_finite := hPre_ln_finite)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_UpDw_UpDwIdeal
    ∧ algebraic_UpDwIdeal_UpDwRefIdeal (hUpDwIdeal := hUpDwIdeal) (hUpDwRefIdeal := hUpDwRefIdeal)
    ∧ preserves_UpDx_UpDxIdeal
    ∧ algebraic_UpDxIdeal_UpDxRefIdeal (hUpDxIdeal := hUpDxIdeal) (hUpDxRefIdeal := hUpDxRefIdeal)
    ∧ preserves_DownDw_DownDwIdeal
    ∧ algebraic_DownDwIdeal_DownDwRefIdeal (hDownDwIdeal := hDownDwIdeal) (hDownDwRefIdeal := hDownDwRefIdeal)
    ∧ preserves_DownDx_DownDxIdeal
    ∧ algebraic_DownDxIdeal_DownDxRefIdeal (hDownDxIdeal := hDownDxIdeal) (hDownDxRefIdeal := hDownDxRefIdeal)
    ∧ preserves_InDw_InDwIdeal
    ∧ algebraic_InDwIdeal_InDwRefIdeal (hInDwIdeal := hInDwIdeal) (hInDwRefIdeal := hInDwRefIdeal)
    ∧ preserves_InDx_InDxIdeal
    ∧ algebraic_InDxIdeal_InDxRefIdeal (hInDxIdeal := hInDxIdeal) (hInDxRefIdeal := hInDxRefIdeal)
    ∧ preserves_OutDw_OutDwIdeal
    ∧ algebraic_OutDwIdeal_OutDwRefIdeal (hOutDwIdeal := hOutDwIdeal) (hOutDwRefIdeal := hOutDwRefIdeal)
    ∧ preserves_OutDx_OutDxIdeal
    ∧ algebraic_OutDxIdeal_OutDxRefIdeal (hOutDxIdeal := hOutDxIdeal) (hOutDxRefIdeal := hOutDxRefIdeal)
    ∧ preserves_Up_UpIdeal
    ∧ algebraic_UpIdeal_UpRefIdeal (hUpIdeal := hUpIdeal) (hUpRefIdeal := hUpRefIdeal)
    ∧ preserves_In_InIdeal
    ∧ algebraic_InIdeal_InRefIdeal (hInIdeal := hInIdeal) (hInRefIdeal := hInRefIdeal)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_DownEnd_DownEndIdeal
    ∧ algebraic_DownEndIdeal_DownEndRefIdeal (hDownEndIdeal := hDownEndIdeal) (hDownEndRefIdeal := hDownEndRefIdeal)
    ∧ preserves_RmsBwd_RmsBwdIdeal
    ∧ algebraic_RmsBwdIdeal_RmsBwdRefIdeal (hRmsBwdIdeal := hRmsBwdIdeal) (hRmsBwdRefIdeal := hRmsBwdRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_FinalLoss_FinalLossIdeal
    ∧ algebraic_FinalLossIdeal_FinalLossRefIdeal (hFinalLossIdeal := hFinalLossIdeal) (hFinalLossRefIdeal := hFinalLossRefIdeal)
    ∧ preserves_FirstNorm_FirstNormIdeal
    ∧ algebraic_FirstNormIdeal_FirstNormRefIdeal (hFirstNormIdeal := hFirstNormIdeal) (hFirstNormRefIdeal := hFirstNormRefIdeal)
    ∧ preserves_EvenLn_EvenLnIdeal
    ∧ algebraic_EvenLnIdeal_EvenLnRefIdeal (hEvenLnIdeal := hEvenLnIdeal) (hEvenLnRefIdeal := hEvenLnRefIdeal)
    ∧ preserves_EvenLnBwd_EvenLnBwdIdeal
    ∧ algebraic_EvenLnBwdIdeal_EvenLnBwdRefIdeal_pre_ln_finite (hEvenLnBwdIdeal := hEvenLnBwdIdeal) (hEvenLnBwdRefIdeal := hEvenLnBwdRefIdeal) (hPre_ln_finite := hPre_ln_finite)
-- ==== Pre_attn_finite.lean ====
abbrev S2064x512 : Shape := ⟨2, ![2064, 512]⟩
abbrev S2064x128 : Shape := ⟨2, ![2064, 128]⟩
abbrev S1x8 : Shape := ⟨2, ![1, 8]⟩
abbrev S_ : Shape := ⟨0, ![]⟩

class Facts : Prop where
  bcast_S_S2064x512 : S_.BroadcastsInDim S2064x512 (![] : Fin 0 → Fin S2064x512.rank)
  bcast_S_S2064x128 : S_.BroadcastsInDim S2064x128 (![] : Fin 0 → Fin S2064x128.rank)
  bcast_S_S1x8 : S_.BroadcastsInDim S1x8 (![] : Fin 0 → Fin S1x8.rank)

variable [Facts]

def fn {F : FTy → Type} [FloatOps F] (main_arg0 : FVec F S2064x512 .f32) (main_arg1 : FVec F S2064x128 .f32) (main_arg2 : FVec F S2064x128 .f32) (main_arg3 : FVec F S1x8 .f32) (main_arg4 : FVec F S2064x512 .f32) : IVec S2064x512 1 × IVec S2064x128 1 × IVec S2064x128 1 × IVec S1x8 1 × IVec S2064x512 1 :=
  let main_v0 : FVec F S2064x512 .f32 := Host.absf main_arg0
  let main_cst : FVec F S_ .f32 := constant S_ .f32 0x7F800000#32
  let main_v1 : FVec F S2064x512 .f32 := broadcastInDim S2064x512 ![] bcast_S_S2064x512 main_cst
  let main_v2 : IVec S2064x512 1 := cmpf .olt main_v0 main_v1
  let main_v3 : FVec F S2064x128 .f32 := Host.absf main_arg1
  let main_cst_0 : FVec F S_ .f32 := constant S_ .f32 0x7F800000#32
  let main_v4 : FVec F S2064x128 .f32 := broadcastInDim S2064x128 ![] bcast_S_S2064x128 main_cst_0
  let main_v5 : IVec S2064x128 1 := cmpf .olt main_v3 main_v4
  let main_v6 : FVec F S2064x128 .f32 := Host.absf main_arg2
  let main_cst_1 : FVec F S_ .f32 := constant S_ .f32 0x7F800000#32
  let main_v7 : FVec F S2064x128 .f32 := broadcastInDim S2064x128 ![] bcast_S_S2064x128 main_cst_1
  let main_v8 : IVec S2064x128 1 := cmpf .olt main_v6 main_v7
  let main_v9 : FVec F S1x8 .f32 := Host.absf main_arg3
  let main_cst_2 : FVec F S_ .f32 := constant S_ .f32 0x7F800000#32
  let main_v10 : FVec F S1x8 .f32 := broadcastInDim S1x8 ![] bcast_S_S1x8 main_cst_2
  let main_v11 : IVec S1x8 1 := cmpf .olt main_v9 main_v10
  let main_v12 : FVec F S2064x512 .f32 := Host.absf main_arg4
  let main_cst_3 : FVec F S_ .f32 := constant S_ .f32 0x7F800000#32
  let main_v13 : FVec F S2064x512 .f32 := broadcastInDim S2064x512 ![] bcast_S_S2064x512 main_cst_3
  let main_v14 : IVec S2064x512 1 := cmpf .olt main_v12 main_v13
  (main_v2, main_v5, main_v8, main_v11, main_v14)
-- ==== Pre_ln_finite.lean ====
abbrev S2064x512 : Shape := ⟨2, ![2064, 512]⟩
abbrev S1x512 : Shape := ⟨2, ![1, 512]⟩
abbrev S2064x1024 : Shape := ⟨2, ![2064, 1024]⟩
abbrev S_ : Shape := ⟨0, ![]⟩

class Facts : Prop where
  slices_S2064x1024_S2064x512_0_0 : S2064x1024.Slices ![0, 0] S2064x512
  bcast_S_S2064x512 : S_.BroadcastsInDim S2064x512 (![] : Fin 0 → Fin S2064x512.rank)
  bcast_S_S1x512 : S_.BroadcastsInDim S1x512 (![] : Fin 0 → Fin S1x512.rank)

variable [Facts]

def fn {F : FTy → Type} [FloatOps F] (main_arg0 : FVec F S2064x512 .f32) (main_arg1 : FVec F S1x512 .f32) (main_arg2 : FVec F S1x512 .f32) (main_arg3 : FVec F S2064x1024 .f32) : IVec S2064x512 1 × IVec S1x512 1 × IVec S1x512 1 × IVec S2064x512 1 :=
  let main_v0 : FVec F S2064x512 .f32 := (extractStridedSlice S2064x512 ![0, 0] · slices_S2064x1024_S2064x512_0_0) main_arg3
  let main_v1 : FVec F S2064x512 .f32 := Host.absf main_arg0
  let main_cst : FVec F S_ .f32 := constant S_ .f32 0x7F800000#32
  let main_v2 : FVec F S2064x512 .f32 := broadcastInDim S2064x512 ![] bcast_S_S2064x512 main_cst
  let main_v3 : IVec S2064x512 1 := cmpf .olt main_v1 main_v2
  let main_v4 : FVec F S1x512 .f32 := Host.absf main_arg1
  let main_cst_0 : FVec F S_ .f32 := constant S_ .f32 0x7F800000#32
  let main_v5 : FVec F S1x512 .f32 := broadcastInDim S1x512 ![] bcast_S_S1x512 main_cst_0
  let main_v6 : IVec S1x512 1 := cmpf .olt main_v4 main_v5
  let main_v7 : FVec F S1x512 .f32 := Host.absf main_arg2
  let main_cst_1 : FVec F S_ .f32 := constant S_ .f32 0x7F800000#32
  let main_v8 : FVec F S1x512 .f32 := broadcastInDim S1x512 ![] bcast_S_S1x512 main_cst_1
  let main_v9 : IVec S1x512 1 := cmpf .olt main_v7 main_v8
  let main_v10 : FVec F S2064x512 .f32 := Host.absf main_v0
  let main_cst_2 : FVec F S_ .f32 := constant S_ .f32 0x7F800000#32
  let main_v11 : FVec F S2064x512 .f32 := broadcastInDim S2064x512 ![] bcast_S_S2064x512 main_cst_2
  let main_v12 : IVec S2064x512 1 := cmpf .olt main_v10 main_v11
  (main_v3, main_v6, main_v9, main_v12)
-- ==== Attn.lean ====
abbrev S2064x512 : Shape := ⟨2, ![2064, 512]⟩
abbrev S2064x128 : Shape := ⟨2, ![2064, 128]⟩
abbrev S1x8 : Shape := ⟨2, ![1, 8]⟩
abbrev S32 : Shape := ⟨1, ![32]⟩
abbrev S_ : Shape := ⟨0, ![]⟩
abbrev S2176 : Shape := ⟨1, ![2176]⟩
abbrev S2176x1 : Shape := ⟨2, ![2176, 1]⟩
abbrev S1x32 : Shape := ⟨2, ![1, 32]⟩
abbrev S2176x32 : Shape := ⟨2, ![2176, 32]⟩
abbrev S64x64 : Shape := ⟨2, ![64, 64]⟩
abbrev S32x1 : Shape := ⟨2, ![32, 1]⟩
abbrev S32x2 : Shape := ⟨2, ![32, 2]⟩
abbrev S2176x64 : Shape := ⟨2, ![2176, 64]⟩
abbrev S8x1x1 : Shape := ⟨3, ![8, 1, 1]⟩
abbrev S8x8x128 : Shape := ⟨3, ![8, 8, 128]⟩
abbrev S2064x8x64 : Shape := ⟨3, ![2064, 8, 64]⟩
abbrev S8x2064x64 : Shape := ⟨3, ![8, 2064, 64]⟩
abbrev S8x2176x64 : Shape := ⟨3, ![8, 2176, 64]⟩
abbrev S2064x2x64 : Shape := ⟨3, ![2064, 2, 64]⟩
abbrev S2x2064x64 : Shape := ⟨3, ![2, 2064, 64]⟩
abbrev S2x2176x64 : Shape := ⟨3, ![2, 2176, 64]⟩
abbrev S2x17x128x64 : Shape := ⟨4, ![2, 17, 128, 64]⟩
abbrev S2x128x64 : Shape := ⟨3, ![2, 128, 64]⟩
abbrev S8x128x64 : Shape := ⟨3, ![8, 128, 64]⟩
abbrev S128x64 : Shape := ⟨2, ![128, 64]⟩
abbrev S2x1x128x64 : Shape := ⟨4, ![2, 1, 128, 64]⟩
abbrev S1x128x64 : Shape := ⟨3, ![1, 128, 64]⟩
abbrev S512x64 : Shape := ⟨2, ![512, 64]⟩
abbrev S1x8x128 : Shape := ⟨3, ![1, 8, 128]⟩
abbrev S8x128 : Shape := ⟨2, ![8, 128]⟩
abbrev S1x1 : Shape := ⟨2, ![1, 1]⟩
abbrev S512x128 : Shape := ⟨2, ![512, 128]⟩
abbrev S128x1 : Shape := ⟨2, ![128, 1]⟩
abbrev S512x1 : Shape := ⟨2, ![512, 1]⟩
abbrev S512 : Shape := ⟨1, ![512]⟩
abbrev S1x128x1 : Shape := ⟨3, ![1, 128, 1]⟩
abbrev S1 : Shape := ⟨1, ![1]⟩
abbrev S1x1x1 : Shape := ⟨3, ![1, 1, 1]⟩
abbrev S1x1x128x64 : Shape := ⟨4, ![1, 1, 128, 64]⟩

abbrev nBuf : Space → Nat
  | .hbm => 105
  | .vmem => 39
  | .smem => 0
  | _ => 0

abbrev bufTy : (tb : Table) → Fin (tcTables nBuf tb) → BufTy
  | .hbm, ⟨0, _⟩ => ⟨S2064x512, .f32⟩
  | .hbm, ⟨1, _⟩ => ⟨S2064x128, .f32⟩
  | .hbm, ⟨2, _⟩ => ⟨S2064x128, .f32⟩
  | .hbm, ⟨3, _⟩ => ⟨S1x8, .f32⟩
  | .hbm, ⟨4, _⟩ => ⟨S2064x512, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S2176, .f32⟩
  | .hbm, ⟨14, _⟩ => ⟨S_, .f32⟩
  | .hbm, ⟨15, _⟩ => ⟨S2176, .f32⟩
  | .hbm, ⟨16, _⟩ => ⟨S2176, .f32⟩
  | .hbm, ⟨17, _⟩ => ⟨S2176x1, .f32⟩
  | .hbm, ⟨18, _⟩ => ⟨S1x32, .f32⟩
  | .hbm, ⟨19, _⟩ => ⟨S2176x32, .f32⟩
  | .hbm, ⟨20, _⟩ => ⟨S2176x32, .f32⟩
  | .hbm, ⟨21, _⟩ => ⟨S2176x32, .f32⟩
  | .hbm, ⟨22, _⟩ => ⟨S2176x32, .f32⟩
  | .hbm, ⟨23, _⟩ => ⟨S2176x32, .f32⟩
  | .hbm, ⟨24, _⟩ => ⟨S_, .f32⟩
  | .hbm, ⟨25, _⟩ => ⟨S64x64, .f32⟩
  | .hbm, ⟨26, _⟩ => ⟨S32, .i32⟩
  | .hbm, ⟨27, _⟩ => ⟨S_, .i32⟩
  | .hbm, ⟨28, _⟩ => ⟨S32, .i32⟩
  | .hbm, ⟨29, _⟩ => ⟨S32, .i32⟩
  | .hbm, ⟨30, _⟩ => ⟨S_, .i32⟩
  | .hbm, ⟨31, _⟩ => ⟨S32, .i32⟩
  | .hbm, ⟨32, _⟩ => ⟨S32, .i1⟩
  | .hbm, ⟨33, _⟩ => ⟨S_, .i32⟩
  | .hbm, ⟨34, _⟩ => ⟨S32, .i32⟩
  | .hbm, ⟨35, _⟩ => ⟨S32, .i32⟩
  | .hbm, ⟨36, _⟩ => ⟨S32, .i32⟩
  | .hbm, ⟨37, _⟩ => ⟨S_, .i32⟩
  | .hbm, ⟨38, _⟩ => ⟨S32, .i32⟩
  | .hbm, ⟨39, _⟩ => ⟨S32, .i1⟩
  | .hbm, ⟨40, _⟩ => ⟨S_, .i32⟩
  | .hbm, ⟨41, _⟩ => ⟨S32, .i32⟩
  | .hbm, ⟨42, _⟩ => ⟨S32, .i32⟩
  | .hbm, ⟨43, _⟩ => ⟨S32, .i32⟩
  | .hbm, ⟨44, _⟩ => ⟨S32x1, .i32⟩
  | .hbm, ⟨45, _⟩ => ⟨S32x1, .i32⟩
  | .hbm, ⟨46, _⟩ => ⟨S32x2, .i32⟩
  | .hbm, ⟨47, _⟩ => ⟨S_, .f32⟩
  | .hbm, ⟨48, _⟩ => ⟨S32, .f32⟩
  | .hbm, ⟨49, _⟩ => ⟨S64x64, .f32⟩
  | .hbm, ⟨50, _⟩ => ⟨S_, .i32⟩
  | .hbm, ⟨51, _⟩ => ⟨S32, .i32⟩
  | .hbm, ⟨52, _⟩ => ⟨S32, .i32⟩
  | .hbm, ⟨53, _⟩ => ⟨S_, .i32⟩
  | .hbm, ⟨54, _⟩ => ⟨S32, .i32⟩
  | .hbm, ⟨55, _⟩ => ⟨S32, .i1⟩
  | .hbm, ⟨56, _⟩ => ⟨S_, .i32⟩
  | .hbm, ⟨57, _⟩ => ⟨S32, .i32⟩
  | .hbm, ⟨58, _⟩ => ⟨S32, .i32⟩
  | .hbm, ⟨59, _⟩ => ⟨S32, .i32⟩
  | .hbm, ⟨60, _⟩ => ⟨S_, .i32⟩
  | .hbm, ⟨61, _⟩ => ⟨S32, .i32⟩
  | .hbm, ⟨62, _⟩ => ⟨S32, .i1⟩
  | .hbm, ⟨63, _⟩ => ⟨S_, .i32⟩
  | .hbm, ⟨64, _⟩ => ⟨S32, .i32⟩
  | .hbm, ⟨65, _⟩ => ⟨S32, .i32⟩
  | .hbm, ⟨66, _⟩ => ⟨S32, .i32⟩
  | .hbm, ⟨67, _⟩ => ⟨S32x1, .i32⟩
  | .hbm, ⟨68, _⟩ => ⟨S32x1, .i32⟩
  | .hbm, ⟨69, _⟩ => ⟨S32x2, .i32⟩
  | .hbm, ⟨70, _⟩ => ⟨S_, .f32⟩
  | .hbm, ⟨71, _⟩ => ⟨S32, .f32⟩
  | .hbm, ⟨72, _⟩ => ⟨S64x64, .f32⟩
  | .hbm, ⟨73, _⟩ => ⟨S2176x64, .f32⟩
  | .hbm, ⟨74, _⟩ => ⟨S2176x64, .f32⟩
  | .hbm, ⟨75, _⟩ => ⟨S8x1x1, .f32⟩
  | .hbm, ⟨76, _⟩ => ⟨S8x8x128, .f32⟩
  | .hbm, ⟨77, _⟩ => ⟨S2064x8x64, .f32⟩
  | .hbm, ⟨78, _⟩ => ⟨S8x2064x64, .f32⟩
  | .hbm, ⟨79, _⟩ => ⟨S_, .i32⟩
  | .hbm, ⟨80, _⟩ => ⟨S_, .f32⟩
  | .hbm, ⟨81, _⟩ => ⟨S8x2176x64, .f32⟩
  | .hbm, ⟨82, _⟩ => ⟨S2064x2x64, .f32⟩
  | .hbm, ⟨83, _⟩ => ⟨S2x2064x64, .f32⟩
  | .hbm, ⟨84, _⟩ => ⟨S_, .i32⟩
  | .hbm, ⟨85, _⟩ => ⟨S_, .f32⟩
  | .hbm, ⟨86, _⟩ => ⟨S2x2176x64, .f32⟩
  | .hbm, ⟨87, _⟩ => ⟨S2064x2x64, .f32⟩
  | .hbm, ⟨88, _⟩ => ⟨S2x2064x64, .f32⟩
  | .hbm, ⟨89, _⟩ => ⟨S_, .i32⟩
  | .hbm, ⟨90, _⟩ => ⟨S_, .f32⟩
  | .hbm, ⟨91, _⟩ => ⟨S2x2176x64, .f32⟩
  | .hbm, ⟨92, _⟩ => ⟨S2064x8x64, .f32⟩
  | .hbm, ⟨93, _⟩ => ⟨S8x2064x64, .f32⟩
  | .hbm, ⟨94, _⟩ => ⟨S_, .i32⟩
  | .hbm, ⟨95, _⟩ => ⟨S_, .f32⟩
  | .hbm, ⟨96, _⟩ => ⟨S8x2176x64, .f32⟩
  | .hbm, ⟨97, _⟩ => ⟨S8x2176x64, .f32⟩
  | .hbm, ⟨98, _⟩ => ⟨S2x17x128x64, .f32⟩
  | .hbm, ⟨99, _⟩ => ⟨S2x17x128x64, .f32⟩
  | .hbm, ⟨100, _⟩ => ⟨S2x17x128x64, .f32⟩
  | .hbm, ⟨101, _⟩ => ⟨S2x17x128x64, .f32⟩
  | .hbm, ⟨102, _⟩ => ⟨S2x128x64, .f32⟩
  | .hbm, ⟨103, _⟩ => ⟨S2x128x64, .f32⟩
  | .hbm, ⟨104, _⟩ => ⟨S8x8x128, .f32⟩
  | .local _ .vmem, ⟨0, _⟩ => ⟨S8x128x64, .f32⟩
  | .local _ .vmem, ⟨1, _⟩ => ⟨S8x128x64, .f32⟩
  | .local _ .vmem, ⟨2, _⟩ => ⟨S2x128x64, .f32⟩
  | .local _ .vmem, ⟨3, _⟩ => ⟨S2x128x64, .f32⟩
  | .local _ .vmem, ⟨4, _⟩ => ⟨S2x128x64, .f32⟩
  | .local _ .vmem, ⟨5, _⟩ => ⟨S2x128x64, .f32⟩
  | .local _ .vmem, ⟨6, _⟩ => ⟨S2x128x64, .f32⟩
  | .local _ .vmem, ⟨7, _⟩ => ⟨S2x128x64, .f32⟩
  | .local _ .vmem, ⟨8, _⟩ => ⟨S2x128x64, .f32⟩
  | .local _ .vmem, ⟨9, _⟩ => ⟨S2x128x64, .f32⟩
  | .local _ .vmem, ⟨10, _⟩ => ⟨S2x128x64, .f32⟩
  | .local _ .vmem, ⟨11, _⟩ => ⟨S2x128x64, .f32⟩
  | .local _ .vmem, ⟨12, _⟩ => ⟨S8x8x128, .f32⟩
  | .local _ .vmem, ⟨13, _⟩ => ⟨S128x64, .f32⟩
  | .local _ .vmem, ⟨14, _⟩ => ⟨S128x64, .f32⟩
  | .local _ .vmem, ⟨15, _⟩ => ⟨S128x64, .f32⟩
  | .local _ .vmem, ⟨16, _⟩ => ⟨S128x64, .f32⟩
  | .local _ .vmem, ⟨17, _⟩ => ⟨S128x64, .f32⟩
  | .local _ .vmem, ⟨18, _⟩ => ⟨S128x64, .f32⟩
  | .local _ .vmem, ⟨19, _⟩ => ⟨S128x64, .f32⟩
  | .local _ .vmem, ⟨20, _⟩ => ⟨S128x64, .f32⟩
  | .local _ .vmem, ⟨21, _⟩ => ⟨S128x64, .f32⟩
  | .local _ .vmem, ⟨22, _⟩ => ⟨S128x64, .f32⟩
  | .local _ .vmem, ⟨23, _⟩ => ⟨S64x64, .f32⟩
  | .local _ .vmem, ⟨24, _⟩ => ⟨S8x128x64, .f32⟩
  | .local _ .vmem, ⟨25, _⟩ => ⟨S8x128x64, .f32⟩
  | .local _ .vmem, ⟨26, _⟩ => ⟨S8x128x64, .f32⟩
  | .local _ .vmem, ⟨27, _⟩ => ⟨S8x128x64, .f32⟩
  | .local _ .vmem, ⟨28, _⟩ => ⟨S2x1x128x64, .f32⟩
  | .local _ .vmem, ⟨29, _⟩ => ⟨S2x1x128x64, .f32⟩
  | .local _ .vmem, ⟨30, _⟩ => ⟨S2x1x128x64, .f32⟩
  | .local _ .vmem, ⟨31, _⟩ => ⟨S2x1x128x64, .f32⟩
  | .local _ .vmem, ⟨32, _⟩ => ⟨S2x1x128x64, .f32⟩
  | .local _ .vmem, ⟨33, _⟩ => ⟨S2x1x128x64, .f32⟩
  | .local _ .vmem, ⟨34, _⟩ => ⟨S2x1x128x64, .f32⟩
  | .local _ .vmem, ⟨35, _⟩ => ⟨S2x1x128x64, .f32⟩
  | .local _ .vmem, ⟨36, _⟩ => ⟨S2x128x64, .f32⟩
  | .local _ .vmem, ⟨37, _⟩ => ⟨S2x128x64, .f32⟩
  | .local _ .vmem, ⟨38, _⟩ => ⟨S8x8x128, .f32⟩
  | _, _ => ⟨S2064x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_c_8 : Ref sig .tc := ⟨.hbm, 50, rfl⟩
abbrev main_v35 : Ref sig .tc := ⟨.hbm, 51, rfl⟩
abbrev main_v36 : Ref sig .tc := ⟨.hbm, 52, rfl⟩
abbrev main_c_9 : Ref sig .tc := ⟨.hbm, 53, rfl⟩
abbrev main_v37 : Ref sig .tc := ⟨.hbm, 54, rfl⟩
abbrev main_v38 : Ref sig .tc := ⟨.hbm, 55, rfl⟩
abbrev main_c_10 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_11 : Ref sig .tc := ⟨.hbm, 60, rfl⟩
abbrev main_v42 : Ref sig .tc := ⟨.hbm, 61, rfl⟩
abbrev main_v43 : Ref sig .tc := ⟨.hbm, 62, rfl⟩
abbrev main_c_12 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_13 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_14 : Ref sig .tc := ⟨.hbm, 79, rfl⟩
abbrev main_call0_v0 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_15 : Ref sig .tc := ⟨.hbm, 84, rfl⟩
abbrev main_call1_v0 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_16 : Ref sig .tc := ⟨.hbm, 89, rfl⟩
abbrev main_call2_v0 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_17 : Ref sig .tc := ⟨.hbm, 94, rfl⟩
abbrev main_call3_v0 : Ref sig .tc := ⟨.hbm, 95, rfl⟩
abbrev main_v67 : Ref sig .tc := ⟨.hbm, 96, rfl⟩
abbrev main_v68_0 : Ref sig .tc := ⟨.hbm, 97, rfl⟩
abbrev main_v68_1 : Ref sig .tc := ⟨.hbm, 98, rfl⟩
abbrev main_v68_2 : Ref sig .tc := ⟨.hbm, 99, rfl⟩
abbrev main_v68_3 : Ref sig .tc := ⟨.hbm, 100, rfl⟩
abbrev main_v68_4 : Ref sig .tc := ⟨.hbm, 101, rfl⟩
abbrev main_v68_5 : Ref sig .tc := ⟨.hbm, 102, rfl⟩
abbrev main_v68_6 : Ref sig .tc := ⟨.hbm, 103, rfl⟩
abbrev main_v68_7 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg22_0 : Ref sig .tc := ⟨.vmem, 37, rfl⟩
abbrev cc0_stg23_0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem22_0 : DmaSem sig := 37
abbrev cc0_sem23_0 : DmaSem sig := 38

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32_281 : BitVec 32 := 0#32
  let v650 : BitVec 1 := Scalar.cmpi .eq arg0 c0_i32_281
  let v651 : BitVec 32 := Scalar.extui v650
  let c0_i32_282 : BitVec 32 := 0#32
  let v652 : BitVec 1 := Scalar.cmpi .ne v651 c0_i32_282
  v652

def k0_cond2 (i : grid0.Coords) : BitVec 1 :=
  let arg0 : BitVec 32 := BitVec.ofNat 32 (i 0).val
  let c0_i32_283 : BitVec 32 := 0#32
  let v653 : BitVec 1 := Scalar.cmpi .ne arg0 c0_i32_283
  let v654 : BitVec 32 := Scalar.extui v653
  let c0_i32_284 : BitVec 32 := 0#32
  let v655 : BitVec 1 := Scalar.cmpi .ne v654 c0_i32_284
  v655

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_18 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_19 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_20 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S8x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x128x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S128x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S8x128x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x128x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2x1x128x64 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2x1x128x64 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2x1x128x64 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S2x1x128x64 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S2x128x64 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S2x128x64 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S8x8x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]
-- ==== AttnIdeal.lean ====
variable {F : FTy → Type} [FloatOps F] [Named F]
def κ : String → Option EReal := fun
  | "mask" => some ⊥
  | _ => none
-- ==== AttnRefIdeal.lean ====
abbrev S2064x512 : Shape := ⟨2, ![2064, 512]⟩
abbrev S2064x128 : Shape := ⟨2, ![2064, 128]⟩
abbrev S1x8 : Shape := ⟨2, ![1, 8]⟩
abbrev S2064x8x64 : Shape := ⟨3, ![2064, 8, 64]⟩
abbrev S32 : Shape := ⟨1, ![32]⟩
abbrev S_ : Shape := ⟨0, ![]⟩
abbrev S2064 : Shape := ⟨1, ![2064]⟩
abbrev S2064x1 : Shape := ⟨2, ![2064, 1]⟩
abbrev S1x32 : Shape := ⟨2, ![1, 32]⟩
abbrev S2064x32 : Shape := ⟨2, ![2064, 32]⟩
abbrev S2064x1x32 : Shape := ⟨3, ![2064, 1, 32]⟩
abbrev S2064x8x32 : Shape := ⟨3, ![2064, 8, 32]⟩
abbrev S2064x2x4x64 : Shape := ⟨4, ![2064, 2, 4, 64]⟩
abbrev S2064x2x64 : Shape := ⟨3, ![2064, 2, 64]⟩
abbrev S2064x2x32 : Shape := ⟨3, ![2064, 2, 32]⟩
abbrev S1x2064 : Shape := ⟨2, ![1, 2064]⟩
abbrev S2064x2064 : Shape := ⟨2, ![2064, 2064]⟩
abbrev S2x2064x2064x4 : Shape := ⟨4, ![2, 2064, 2064, 4]⟩
abbrev S2x4x2064x2064 : Shape := ⟨4, ![2, 4, 2064, 2064]⟩
abbrev S2x4x1x1 : Shape := ⟨4, ![2, 4, 1, 1]⟩
abbrev S2x4x2064x1 : Shape := ⟨4, ![2, 4, 2064, 1]⟩
abbrev S2x4x2064x2065 : Shape := ⟨4, ![2, 4, 2064, 2065]⟩
abbrev S2x4x2064 : Shape := ⟨3, ![2, 4, 2064]⟩
abbrev S2x64x4x2064 : Shape := ⟨4, ![2, 64, 4, 2064]⟩
abbrev S2x64x2064 : Shape := ⟨3, ![2, 64, 2064]⟩
abbrev S2x4 : Shape := ⟨2, ![2, 4]⟩
abbrev S2x2064x4x64 : Shape := ⟨4, ![2, 2064, 4, 64]⟩
abbrev S2x2064x64 : Shape := ⟨3, ![2, 2064, 64]⟩
abbrev S8x2064x64 : Shape := ⟨3, ![8, 2064, 64]⟩
abbrev S8x112x64 : Shape := ⟨3, ![8, 112, 64]⟩
abbrev S8x2176x64 : Shape := ⟨3, ![8, 2176, 64]⟩

abbrev nBuf : Space → Nat
  | .hbm => 230
  | .vmem => 0
  | .smem => 0
  | _ => 0

abbrev hbmTy0_0 (i : Nat) : BufTy := match i % 128 with
  | 0 => ⟨S2064x512, .f32⟩
  | 1 => ⟨S2064x128, .f32⟩
  | 2 => ⟨S2064x128, .f32⟩
  | 3 => ⟨S1x8, .f32⟩
  | 4 => ⟨S2064x512, .f32⟩
  | 5 => ⟨S2064x8x64, .f32⟩
  | 6 => ⟨S32, .f32⟩
  | 7 => ⟨S32, .f32⟩
  | 8 => ⟨S_, .f32⟩
  | 9 => ⟨S32, .f32⟩
  | 10 => ⟨S32, .f32⟩
  | 11 => ⟨S_, .f32⟩
  | 12 => ⟨S32, .f32⟩
  | 13 => ⟨S32, .f32⟩
  | 14 => ⟨S2064, .f32⟩
  | 15 => ⟨S2064x1, .f32⟩
  | 16 => ⟨S1x32, .f32⟩
  | 17 => ⟨S2064x32, .f32⟩
  | 18 => ⟨S2064x32, .f32⟩
  | 19 => ⟨S2064x32, .f32⟩
  | 20 => ⟨S2064x32, .f32⟩
  | 21 => ⟨S2064x1x32, .f32⟩
  | 22 => ⟨S2064x32, .f32⟩
  | 23 => ⟨S2064x1x32, .f32⟩
  | 24 => ⟨S2064x8x32, .f32⟩
  | 25 => ⟨S2064x8x32, .f32⟩
  | 26 => ⟨S2064x8x32, .f32⟩
  | 27 => ⟨S2064x8x32, .f32⟩
  | 28 => ⟨S2064x8x32, .f32⟩
  | 29 => ⟨S2064x8x32, .f32⟩
  | 30 => ⟨S2064x8x32, .f32⟩
  | 31 => ⟨S2064x8x32, .f32⟩
  | 32 => ⟨S2064x8x32, .f32⟩
  | 33 => ⟨S2064x8x32, .f32⟩
  | 34 => ⟨S2064x8x32, .f32⟩
  | 35 => ⟨S2064x8x32, .f32⟩
  | 36 => ⟨S2064x8x64, .f32⟩
  | 37 => ⟨S2064x2x4x64, .f32⟩
  | 38 => ⟨S2064x2x64, .f32⟩
  | 39 => ⟨S32, .f32⟩
  | 40 => ⟨S32, .f32⟩
  | 41 => ⟨S_, .f32⟩
  | 42 => ⟨S32, .f32⟩
  | 43 => ⟨S32, .f32⟩
  | 44 => ⟨S_, .f32⟩
  | 45 => ⟨S32, .f32⟩
  | 46 => ⟨S32, .f32⟩
  | 47 => ⟨S2064, .f32⟩
  | 48 => ⟨S2064x1, .f32⟩
  | 49 => ⟨S1x32, .f32⟩
  | 50 => ⟨S2064x32, .f32⟩
  | 51 => ⟨S2064x32, .f32⟩
  | 52 => ⟨S2064x32, .f32⟩
  | 53 => ⟨S2064x32, .f32⟩
  | 54 => ⟨S2064x1x32, .f32⟩
  | 55 => ⟨S2064x32, .f32⟩
  | 56 => ⟨S2064x1x32, .f32⟩
  | 57 => ⟨S2064x2x32, .f32⟩
  | 58 => ⟨S2064x2x32, .f32⟩
  | 59 => ⟨S2064x2x32, .f32⟩
  | 60 => ⟨S2064x2x32, .f32⟩
  | 61 => ⟨S2064x2x32, .f32⟩
  | 62 => ⟨S2064x2x32, .f32⟩
  | 63 => ⟨S2064x2x32, .f32⟩
  | 64 => ⟨S2064x2x32, .f32⟩
  | 65 => ⟨S2064x2x32, .f32⟩
  | 66 => ⟨S2064x2x32, .f32⟩
  | 67 => ⟨S2064x2x32, .f32⟩
  | 68 => ⟨S2064x2x32, .f32⟩
  | 69 => ⟨S2064x2x64, .f32⟩
  | 70 => ⟨S2064x2x64, .f32⟩
  | 71 => ⟨S2064, .i32⟩
  | 72 => ⟨S2064x1, .i32⟩
  | 73 => ⟨S2064, .i32⟩
  | 74 => ⟨S1x2064, .i32⟩
  | 75 => ⟨S2064x2064, .i32⟩
  | 76 => ⟨S2064x2064, .i32⟩
  | 77 => ⟨S2064x2064, .i1⟩
  | 78 => ⟨S2064x2064, .i32⟩
  | 79 => ⟨S2064x2064, .i32⟩
  | 80 => ⟨S2064x2064, .i32⟩
  | 81 => ⟨S_, .i32⟩
  | 82 => ⟨S2064x2064, .i32⟩
  | 83 => ⟨S2064x2064, .i1⟩
  | 84 => ⟨S_, .i32⟩
  | 85 => ⟨S1x2064, .i32⟩
  | 86 => ⟨S1x2064, .i1⟩
  | 87 => ⟨S2064x2064, .i1⟩
  | 88 => ⟨S2064x2064, .i1⟩
  | 89 => ⟨S2064x2064, .i1⟩
  | 90 => ⟨S2x2064x2064x4, .f32⟩
  | 91 => ⟨S2x4x2064x2064, .f32⟩
  | 92 => ⟨S_, .f32⟩
  | 93 => ⟨S2x4x2064x2064, .f32⟩
  | 94 => ⟨S2x4x2064x2064, .f32⟩
  | 95 => ⟨S_, .f32⟩
  | 96 => ⟨S_, .f32⟩
  | 97 => ⟨S2x4x2064x2064, .i1⟩
  | 98 => ⟨S2x4x2064x2064, .f32⟩
  | 99 => ⟨S2x4x2064x2064, .f32⟩
  | 100 => ⟨S_, .f32⟩
  | 101 => ⟨S2x4x2064x2064, .f32⟩
  | 102 => ⟨S2x4x1x1, .f32⟩
  | 103 => ⟨S2x4x2064x1, .f32⟩
  | 104 => ⟨S2x4x2064x2065, .f32⟩
  | 105 => ⟨S_, .f32⟩
  | 106 => ⟨S2x4x2064, .f32⟩
  | 107 => ⟨S2x4x2064x1, .f32⟩
  | 108 => ⟨S2x4x2064x2065, .f32⟩
  | 109 => ⟨S2x4x2064x2065, .i1⟩
  | 110 => ⟨S2x4x2064x2065, .f32⟩
  | 111 => ⟨S_, .f32⟩
  | 112 => ⟨S2x4x2064, .f32⟩
  | 113 => ⟨S_, .f32⟩
  | 114 => ⟨S2x4x2064, .f32⟩
  | 115 => ⟨S2x4x2064, .f32⟩
  | 116 => ⟨S_, .f32⟩
  | 117 => ⟨S2x4x2064, .f32⟩
  | 118 => ⟨S2x4x2064, .i1⟩
  | 119 => ⟨S_, .f32⟩
  | 120 => ⟨S2x4x2064, .f32⟩
  | 121 => ⟨S2x4x2064, .i1⟩
  | 122 => ⟨S_, .f32⟩
  | 123 => ⟨S2x4x2064, .f32⟩
  | 124 => ⟨S_, .f32⟩
  | 125 => ⟨S2x4x2064, .f32⟩
  | 126 => ⟨S_, .f32⟩
  | 127 => ⟨S2x4x2064, .f32⟩
  | _ => ⟨S2064x512, .f32⟩

abbrev hbmTy0_1 (i : Nat) : BufTy := match i % 128 with
  | 0 => ⟨S2x4x2064, .f32⟩
  | 1 => ⟨S2x4x2064, .f32⟩
  | 2 => ⟨S2x4x2064x1, .f32⟩
  | 3 => ⟨S2x4x2064x2065, .f32⟩
  | 4 => ⟨S2x4x2064x2065, .f32⟩
  | 5 => ⟨S2x4x2064x2065, .f32⟩
  | 6 => ⟨S_, .f32⟩
  | 7 => ⟨S2x4x2064, .f32⟩
  | 8 => ⟨S2x4x2064x1, .f32⟩
  | 9 => ⟨S2x4x2064x2065, .f32⟩
  | 10 => ⟨S2x4x2064x2065, .f32⟩
  | 11 => ⟨S2x4x2064x1, .f32⟩
  | 12 => ⟨S_, .f32⟩
  | 13 => ⟨S2x4x2064x1, .f32⟩
  | 14 => ⟨S2x4x2064x1, .f32⟩
  | 15 => ⟨S2x4x2064x2064, .f32⟩
  | 16 => ⟨S2x64x4x2064, .f32⟩
  | 17 => ⟨S2064x2x4x64, .f32⟩
  | 18 => ⟨S2064x512, .f32⟩
  | 19 => ⟨S2064x2x4x64, .f32⟩
  | 20 => ⟨S2x64x4x2064, .f32⟩
  | 21 => ⟨S2x4x2064x2064, .f32⟩
  | 22 => ⟨S2x64x2064, .f32⟩
  | 23 => ⟨S2064x2x64, .f32⟩
  | 24 => ⟨S_, .f32⟩
  | 25 => ⟨S2x4x2064x2065, .f32⟩
  | 26 => ⟨S2x4x2064x2065, .f32⟩
  | 27 => ⟨S2x4x2064x2065, .f32⟩
  | 28 => ⟨S2x4x2064x2065, .f32⟩
  | 29 => ⟨S_, .f32⟩
  | 30 => ⟨S2x4x2064, .f32⟩
  | 31 => ⟨S2x4x2064x1, .f32⟩
  | 32 => ⟨S2x4x2064x1, .f32⟩
  | 33 => ⟨S2x4x2064x2065, .f32⟩
  | 34 => ⟨S2x4x2064x2065, .f32⟩
  | 35 => ⟨S_, .f32⟩
  | 36 => ⟨S2x4x2064, .f32⟩
  | 37 => ⟨S2x4x2064x2065, .f32⟩
  | 38 => ⟨S2x4x2064x2065, .f32⟩
  | 39 => ⟨S2x4x2064x2065, .f32⟩
  | 40 => ⟨S2x4x2064x2064, .f32⟩
  | 41 => ⟨S2x4x2064x1, .f32⟩
  | 42 => ⟨S_, .f32⟩
  | 43 => ⟨S2x4, .f32⟩
  | 44 => ⟨S2x4x1x1, .f32⟩
  | 45 => ⟨S1x8, .f32⟩
  | 46 => ⟨S_, .f32⟩
  | 47 => ⟨S2x4x2064x2064, .f32⟩
  | 48 => ⟨S2x4x2064x2064, .f32⟩
  | 49 => ⟨S_, .f32⟩
  | 50 => ⟨S2x4x2064x2064, .f32⟩
  | 51 => ⟨S2x4x2064x2064, .f32⟩
  | 52 => ⟨S2x2064x2064x4, .f32⟩
  | 53 => ⟨S2x2064x4x64, .f32⟩
  | 54 => ⟨S2064x2x4x64, .f32⟩
  | 55 => ⟨S2x2064x64, .f32⟩
  | 56 => ⟨S2064x2x64, .f32⟩
  | 57 => ⟨S2064x128, .f32⟩
  | 58 => ⟨S2064x2x32, .f32⟩
  | 59 => ⟨S2064x2x32, .f32⟩
  | 60 => ⟨S2064x2x32, .f32⟩
  | 61 => ⟨S2064x2x32, .f32⟩
  | 62 => ⟨S2064x2x32, .f32⟩
  | 63 => ⟨S2064x2x32, .f32⟩
  | 64 => ⟨S2064x2x32, .f32⟩
  | 65 => ⟨S2064x2x32, .f32⟩
  | 66 => ⟨S2064x2x32, .f32⟩
  | 67 => ⟨S2064x2x32, .f32⟩
  | 68 => ⟨S2064x2x32, .f32⟩
  | 69 => ⟨S2064x2x32, .f32⟩
  | 70 => ⟨S2064x2x32, .f32⟩
  | 71 => ⟨S_, .f32⟩
  | 72 => ⟨S2064x2x64, .f32⟩
  | 73 => ⟨S_, .f32⟩
  | 74 => ⟨S2064x2x64, .f32⟩
  | 75 => ⟨S2064x2x64, .f32⟩
  | 76 => ⟨S2064x128, .f32⟩
  | 77 => ⟨S2064x8x64, .f32⟩
  | 78 => ⟨S2064x8x32, .f32⟩
  | 79 => ⟨S2064x8x32, .f32⟩
  | 80 => ⟨S2064x8x32, .f32⟩
  | 81 => ⟨S2064x8x32, .f32⟩
  | 82 => ⟨S2064x8x32, .f32⟩
  | 83 => ⟨S2064x8x32, .f32⟩
  | 84 => ⟨S2064x8x32, .f32⟩
  | 85 => ⟨S2064x8x32, .f32⟩
  | 86 => ⟨S2064x8x32, .f32⟩
  | 87 => ⟨S2064x8x32, .f32⟩
  | 88 => ⟨S2064x8x32, .f32⟩
  | 89 => ⟨S2064x8x32, .f32⟩
  | 90 => ⟨S2064x8x32, .f32⟩
  | 91 => ⟨S_, .f32⟩
  | 92 => ⟨S2064x8x64, .f32⟩
  | 93 => ⟨S_, .f32⟩
  | 94 => ⟨S2064x8x64, .f32⟩
  | 95 => ⟨S2064x8x64, .f32⟩
  | 96 => ⟨S2064x512, .f32⟩
  | 97 => ⟨S2064x8x64, .f32⟩
  | 98 => ⟨S8x2064x64, .f32⟩
  | 99 => ⟨S_, .f32⟩
  | 100 => ⟨S8x112x64, .f32⟩
  | 101 => ⟨S8x2176x64, .f32⟩
  | _ => ⟨S2064x512, .f32⟩

abbrev hbmTy (i : Nat) : BufTy := match i / 128 with
  | 0 => hbmTy0_0 i
  | 1 => hbmTy0_1 i
  | _ => ⟨S2064x512, .f32⟩

abbrev bufTy : (tb : Table) → Fin (tcTables nBuf tb) → BufTy
  | .hbm, ⟨i, _⟩ => hbmTy i
  | _, _ => ⟨S2064x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_1 : Ref sig .tc := ⟨.hbm, 41, rfl⟩
abbrev main_v34 : Ref sig .tc := ⟨.hbm, 42, rfl⟩
abbrev main_v35 : Ref sig .tc := ⟨.hbm, 43, rfl⟩
abbrev main_cst_2 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_c : Ref sig .tc := ⟨.hbm, 81, rfl⟩
abbrev main_v72 : Ref sig .tc := ⟨.hbm, 82, rfl⟩
abbrev main_v73 : Ref sig .tc := ⟨.hbm, 83, rfl⟩
abbrev main_c_3 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_cst_4 : Ref sig .tc := ⟨.hbm, 92, rfl⟩
abbrev main_v81 : Ref sig .tc := ⟨.hbm, 93, rfl⟩
abbrev main_v82 : Ref sig .tc := ⟨.hbm, 94, rfl⟩
abbrev main_cst_5 : Ref sig .tc := ⟨.hbm, 95, rfl⟩
abbrev main_call0_v0 : Ref sig .tc := ⟨.hbm, 96, rfl⟩
abbrev main_v83_1 : Ref sig .tc := ⟨.hbm, 97, rfl⟩
abbrev main_call0_v2 : Ref sig .tc := ⟨.hbm, 98, rfl⟩
abbrev main_v83_0 : Ref sig .tc := ⟨.hbm, 99, rfl⟩
abbrev main_call0_cst : Ref sig .tc := ⟨.hbm, 100, rfl⟩
abbrev main_v83_2 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_cst_6 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_cst_7 : Ref sig .tc := ⟨.hbm, 111, rfl⟩
abbrev main_v92 : Ref sig .tc := ⟨.hbm, 112, rfl⟩
abbrev main_cst_8 : Ref sig .tc := ⟨.hbm, 113, rfl⟩
abbrev main_v93 : Ref sig .tc := ⟨.hbm, 114, rfl⟩
abbrev main_v94 : Ref sig .tc := ⟨.hbm, 115, rfl⟩
abbrev main_cst_9 : Ref sig .tc := ⟨.hbm, 116, rfl⟩
abbrev main_v95 : Ref sig .tc := ⟨.hbm, 117, rfl⟩
abbrev main_v96 : Ref sig .tc := ⟨.hbm, 118, rfl⟩
abbrev main_cst_10 : Ref sig .tc := ⟨.hbm, 119, rfl⟩
abbrev main_v97 : Ref sig .tc := ⟨.hbm, 120, rfl⟩
abbrev main_v98 : Ref sig .tc := ⟨.hbm, 121, rfl⟩
abbrev main_cst_11 : Ref sig .tc := ⟨.hbm, 122, rfl⟩
abbrev main_v99 : Ref sig .tc := ⟨.hbm, 123, rfl⟩
abbrev main_cst_12 : Ref sig .tc := ⟨.hbm, 124, rfl⟩
abbrev main_v100 : Ref sig .tc := ⟨.hbm, 125, rfl⟩
abbrev main_cst_13 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_cst_14 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_cst_15 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_cst_16 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_cst_17 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_cst_18 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_cst_19 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_call1_cst : Ref sig .tc := ⟨.hbm, 174, rfl⟩
abbrev main_call1_v0 : Ref sig .tc := ⟨.hbm, 175, rfl⟩
abbrev main_v142 : Ref sig .tc := ⟨.hbm, 176, rfl⟩
abbrev main_cst_20 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_cst_21 : Ref sig .tc := ⟨.hbm, 199, rfl⟩
abbrev main_v164 : Ref sig .tc := ⟨.hbm, 200, rfl⟩
abbrev main_cst_22 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_cst_23 : Ref sig .tc := ⟨.hbm, 219, rfl⟩
abbrev main_v182 : Ref sig .tc := ⟨.hbm, 220, rfl⟩
abbrev main_cst_24 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_cst_25 : Ref sig .tc := ⟨.hbm, 227, rfl⟩
abbrev main_v188 : Ref sig .tc := ⟨.hbm, 228, rfl⟩
abbrev main_v189 : Ref sig .tc := ⟨.hbm, 229, rfl⟩

abbrev nD : Nat := 1
abbrev τ : Topo := Topo.v7x

variable {F : FTy → Type} [FloatOps F]

def κ : String → Option EReal := fun
  | "mask" => some ⊥
  | _ => none
-- ==== UpDw.lean ====
abbrev S2064x1024 : Shape := ⟨2, ![2064, 1024]⟩
abbrev S2064x5632 : Shape := ⟨2, ![2064, 5632]⟩
abbrev S4x1024x1408 : Shape := ⟨3, ![4, 1024, 1408]⟩
abbrev S2064x1408 : Shape := ⟨2, ![2064, 1408]⟩
abbrev S1x1024x1408 : Shape := ⟨3, ![1, 1024, 1408]⟩
abbrev S1024x1408 : Shape := ⟨2, ![1024, 1408]⟩

abbrev nBuf : Space → Nat
  | .hbm => 3
  | .vmem => 5
  | .smem => 0
  | _ => 0

abbrev bufTy : (tb : Table) → Fin (tcTables nBuf tb) → BufTy
  | .hbm, ⟨0, _⟩ => ⟨S2064x1024, .bf16⟩
  | .hbm, ⟨1, _⟩ => ⟨S2064x5632, .bf16⟩
  | .hbm, ⟨2, _⟩ => ⟨S4x1024x1408, .f32⟩
  | .local _ .vmem, ⟨0, _⟩ => ⟨S2064x1024, .bf16⟩
  | .local _ .vmem, ⟨1, _⟩ => ⟨S2064x1408, .bf16⟩
  | .local _ .vmem, ⟨2, _⟩ => ⟨S2064x1408, .bf16⟩
  | .local _ .vmem, ⟨3, _⟩ => ⟨S1x1024x1408, .f32⟩
  | .local _ .vmem, ⟨4, _⟩ => ⟨S1x1024x1408, .f32⟩
  | _, _ => ⟨S2064x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2064x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true]

abbrev stage0_1 : Fin 2 → Memref sig .tc .vmem S2064x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== UpDwRefIdeal.lean ====
abbrev S2064x1024 : Shape := ⟨2, ![2064, 1024]⟩
abbrev S2064x5632 : Shape := ⟨2, ![2064, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 11
  | .vmem => 0
  | .smem => 0
  | _ => 0

abbrev bufTy : (tb : Table) → Fin (tcTables nBuf tb) → BufTy
  | .hbm, ⟨0, _⟩ => ⟨S2064x1024, .bf16⟩
  | .hbm, ⟨1, _⟩ => ⟨S2064x5632, .bf16⟩
  | .hbm, ⟨2, _⟩ => ⟨S_, .f32⟩
  | .hbm, ⟨3, _⟩ => ⟨S1024x5632, .f32⟩
  | .hbm, ⟨4, _⟩ => ⟨S2064x1024, .f32⟩
  | .hbm, ⟨5, _⟩ => ⟨S2064x5632, .f32⟩
  | .hbm, ⟨6, _⟩ => ⟨S2064x5632, .f32⟩
  | .hbm, ⟨7, _⟩ => ⟨S5632x1024, .f32⟩
  | .hbm, ⟨8, _⟩ => ⟨S1024x5632, .f32⟩
  | .hbm, ⟨9, _⟩ => ⟨S1024x4x1408, .f32⟩
  | .hbm, ⟨10, _⟩ => ⟨S4x1024x1408, .f32⟩
  | _, _ => ⟨S2064x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== UpDx.lean ====
abbrev S2064x5632 : Shape := ⟨2, ![2064, 5632]⟩
abbrev S4x1x1024x1408 : Shape := ⟨4, ![4, 1, 1024, 1408]⟩
abbrev S2064x1024 : Shape := ⟨2, ![2064, 1024]⟩
abbrev S2064x1408 : Shape := ⟨2, ![2064, 1408]⟩
abbrev S1x1x1024x1408 : Shape := ⟨4, ![1, 1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2064x5632, .bf16⟩
  | .hbm, ⟨1, _⟩ => ⟨S4x1x1024x1408, .bf16⟩
  | .hbm, ⟨2, _⟩ => ⟨S2064x1024, .f32⟩
  | .local _ .vmem, ⟨0, _⟩ => ⟨S2064x1408, .bf16⟩
  | .local _ .vmem, ⟨1, _⟩ => ⟨S2064x1408, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S2064x1024, .f32⟩
  | .local _ .vmem, ⟨5, _⟩ => ⟨S2064x1024, .f32⟩
  | _, _ => ⟨S2064x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg2.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S2064x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S2064x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]
-- ==== UpDxRefIdeal.lean ====
abbrev S2064x5632 : Shape := ⟨2, ![2064, 5632]⟩
abbrev S4x1x1024x1408 : Shape := ⟨4, ![4, 1, 1024, 1408]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S_ : Shape := ⟨0, ![]⟩
abbrev S2064x1024 : Shape := ⟨2, ![2064, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2064x5632, .bf16⟩
  | .hbm, ⟨1, _⟩ => ⟨S4x1x1024x1408, .bf16⟩
  | .hbm, ⟨2, _⟩ => ⟨S4x1024x1408, .bf16⟩
  | .hbm, ⟨3, _⟩ => ⟨S1024x4x1408, .bf16⟩
  | .hbm, ⟨4, _⟩ => ⟨S1024x5632, .bf16⟩
  | .hbm, ⟨5, _⟩ => ⟨S_, .f32⟩
  | .hbm, ⟨6, _⟩ => ⟨S2064x1024, .f32⟩
  | .hbm, ⟨7, _⟩ => ⟨S1024x5632, .f32⟩
  | .hbm, ⟨8, _⟩ => ⟨S2064x5632, .f32⟩
  | .hbm, ⟨9, _⟩ => ⟨S2064x5632, .f32⟩
  | .hbm, ⟨10, _⟩ => ⟨S2064x1024, .f32⟩
  | _, _ => ⟨S2064x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DownDw.lean ====
abbrev S2064x2816 : Shape := ⟨2, ![2064, 2816]⟩
abbrev S2064x1024 : Shape := ⟨2, ![2064, 1024]⟩
abbrev S2816x1024 : Shape := ⟨2, ![2816, 1024]⟩
abbrev S2064x1408 : Shape := ⟨2, ![2064, 1408]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2064x2816, .bf16⟩
  | .hbm, ⟨1, _⟩ => ⟨S2064x1024, .f32⟩
  | .hbm, ⟨2, _⟩ => ⟨S2816x1024, .f32⟩
  | .local _ .vmem, ⟨0, _⟩ => ⟨S2064x1408, .bf16⟩
  | .local _ .vmem, ⟨1, _⟩ => ⟨S2064x1408, .bf16⟩
  | .local _ .vmem, ⟨2, _⟩ => ⟨S2064x1024, .f32⟩
  | .local _ .vmem, ⟨3, _⟩ => ⟨S1408x1024, .f32⟩
  | .local _ .vmem, ⟨4, _⟩ => ⟨S1408x1024, .f32⟩
  | _, _ => ⟨S2064x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S2064x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2064x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DownDwRefIdeal.lean ====
abbrev S2064x2816 : Shape := ⟨2, ![2064, 2816]⟩
abbrev S2064x1024 : Shape := ⟨2, ![2064, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S2064x2816, .bf16⟩
  | .hbm, ⟨1, _⟩ => ⟨S2064x1024, .f32⟩
  | .hbm, ⟨2, _⟩ => ⟨S_, .f32⟩
  | .hbm, ⟨3, _⟩ => ⟨S2816x1024, .f32⟩
  | .hbm, ⟨4, _⟩ => ⟨S2064x2816, .f32⟩
  | .hbm, ⟨5, _⟩ => ⟨S2064x1024, .f32⟩
  | .hbm, ⟨6, _⟩ => ⟨S1024x2816, .f32⟩
  | .hbm, ⟨7, _⟩ => ⟨S2816x1024, .f32⟩
  | _, _ => ⟨S2064x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownDx.lean ====
abbrev S2064x1024 : Shape := ⟨2, ![2064, 1024]⟩
abbrev S1x2816x1024 : Shape := ⟨3, ![1, 2816, 1024]⟩
abbrev S2064x2816 : Shape := ⟨2, ![2064, 2816]⟩
abbrev S1x1408x1024 : Shape := ⟨3, ![1, 1408, 1024]⟩
abbrev S2064x1408 : Shape := ⟨2, ![2064, 1408]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2064x1024, .f32⟩
  | .hbm, ⟨1, _⟩ => ⟨S1x2816x1024, .bf16⟩
  | .hbm, ⟨2, _⟩ => ⟨S2064x2816, .f32⟩
  | .local _ .vmem, ⟨0, _⟩ => ⟨S2064x1024, .f32⟩
  | .local _ .vmem, ⟨1, _⟩ => ⟨S1x1408x1024, .bf16⟩
  | .local _ .vmem, ⟨2, _⟩ => ⟨S1x1408x1024, .bf16⟩
  | .local _ .vmem, ⟨3, _⟩ => ⟨S2064x1408, .f32⟩
  | .local _ .vmem, ⟨4, _⟩ => ⟨S2064x1408, .f32⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2064x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2064x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S2064x1024 : Shape := ⟨2, ![2064, 1024]⟩
abbrev S1x2816x1024 : Shape := ⟨3, ![1, 2816, 1024]⟩
abbrev S2816x1024 : Shape := ⟨2, ![2816, 1024]⟩
abbrev S_ : Shape := ⟨0, ![]⟩
abbrev S2064x2816 : Shape := ⟨2, ![2064, 2816]⟩

abbrev nBuf : Space → Nat
  | .hbm => 8
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S1x2816x1024, .bf16⟩
  | .hbm, ⟨2, _⟩ => ⟨S2816x1024, .bf16⟩
  | .hbm, ⟨3, _⟩ => ⟨S_, .f32⟩
  | .hbm, ⟨4, _⟩ => ⟨S2064x2816, .f32⟩
  | .hbm, ⟨5, _⟩ => ⟨S2816x1024, .f32⟩
  | .hbm, ⟨6, _⟩ => ⟨S2064x1024, .f32⟩
  | .hbm, ⟨7, _⟩ => ⟨S2064x2816, .f32⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InDw.lean ====
abbrev S2064x1024 : Shape := ⟨2, ![2064, 1024]⟩
abbrev S2064x2560 : Shape := ⟨2, ![2064, 2560]⟩
abbrev S4x1024x640 : Shape := ⟨3, ![4, 1024, 640]⟩
abbrev S2064x640 : Shape := ⟨2, ![2064, 640]⟩
abbrev S1x1024x640 : Shape := ⟨3, ![1, 1024, 640]⟩
abbrev S1024x640 : Shape := ⟨2, ![1024, 640]⟩

abbrev nBuf : Space → Nat
  | .hbm => 3
  | .vmem => 5
  | .smem => 0
  | _ => 0

abbrev bufTy : (tb : Table) → Fin (tcTables nBuf tb) → BufTy
  | .hbm, ⟨0, _⟩ => ⟨S2064x1024, .bf16⟩
  | .hbm, ⟨1, _⟩ => ⟨S2064x2560, .bf16⟩
  | .hbm, ⟨2, _⟩ => ⟨S4x1024x640, .f32⟩
  | .local _ .vmem, ⟨0, _⟩ => ⟨S2064x1024, .bf16⟩
  | .local _ .vmem, ⟨1, _⟩ => ⟨S2064x640, .bf16⟩
  | .local _ .vmem, ⟨2, _⟩ => ⟨S2064x640, .bf16⟩
  | .local _ .vmem, ⟨3, _⟩ => ⟨S1x1024x640, .f32⟩
  | .local _ .vmem, ⟨4, _⟩ => ⟨S1x1024x640, .f32⟩
  | _, _ => ⟨S2064x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2064x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true]

abbrev stage0_1 : Fin 2 → Memref sig .tc .vmem S2064x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== InDwRefIdeal.lean ====
abbrev S2064x1024 : Shape := ⟨2, ![2064, 1024]⟩
abbrev S2064x2560 : Shape := ⟨2, ![2064, 2560]⟩
abbrev S_ : Shape := ⟨0, ![]⟩
abbrev S1024x2560 : Shape := ⟨2, ![1024, 2560]⟩
abbrev S2560x1024 : Shape := ⟨2, ![2560, 1024]⟩
abbrev S1024x4x640 : Shape := ⟨3, ![1024, 4, 640]⟩
abbrev S4x1024x640 : Shape := ⟨3, ![4, 1024, 640]⟩

abbrev nBuf : Space → Nat
  | .hbm => 11
  | .vmem => 0
  | .smem => 0
  | _ => 0

abbrev bufTy : (tb : Table) → Fin (tcTables nBuf tb) → BufTy
  | .hbm, ⟨0, _⟩ => ⟨S2064x1024, .bf16⟩
  | .hbm, ⟨1, _⟩ => ⟨S2064x2560, .bf16⟩
  | .hbm, ⟨2, _⟩ => ⟨S_, .f32⟩
  | .hbm, ⟨3, _⟩ => ⟨S1024x2560, .f32⟩
  | .hbm, ⟨4, _⟩ => ⟨S2064x1024, .f32⟩
  | .hbm, ⟨5, _⟩ => ⟨S2064x2560, .f32⟩
  | .hbm, ⟨6, _⟩ => ⟨S2064x2560, .f32⟩
  | .hbm, ⟨7, _⟩ => ⟨S2560x1024, .f32⟩
  | .hbm, ⟨8, _⟩ => ⟨S1024x2560, .f32⟩
  | .hbm, ⟨9, _⟩ => ⟨S1024x4x640, .f32⟩
  | .hbm, ⟨10, _⟩ => ⟨S4x1024x640, .f32⟩
  | _, _ => ⟨S2064x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InDx.lean ====
abbrev S2064x2560 : Shape := ⟨2, ![2064, 2560]⟩
abbrev S4x1x1024x640 : Shape := ⟨4, ![4, 1, 1024, 640]⟩
abbrev S2064x1024 : Shape := ⟨2, ![2064, 1024]⟩
abbrev S2064x640 : Shape := ⟨2, ![2064, 640]⟩
abbrev S1x1x1024x640 : Shape := ⟨4, ![1, 1, 1024, 640]⟩
abbrev S1024x640 : Shape := ⟨2, ![1024, 640]⟩

abbrev nBuf : Space → Nat
  | .hbm => 3
  | .vmem => 6
  | .smem => 0
  | _ => 0

abbrev bufTy : (tb : Table) → Fin (tcTables nBuf tb) → BufTy
  | .hbm, ⟨0, _⟩ => ⟨S2064x2560, .bf16⟩
  | .hbm, ⟨1, _⟩ => ⟨S4x1x1024x640, .bf16⟩
  | .hbm, ⟨2, _⟩ => ⟨S2064x1024, .f32⟩
  | .local _ .vmem, ⟨0, _⟩ => ⟨S2064x640, .bf16⟩
  | .local _ .vmem, ⟨1, _⟩ => ⟨S2064x640, .bf16⟩
  | .local _ .vmem, ⟨2, _⟩ => ⟨S1x1x1024x640, .bf16⟩
  | .local _ .vmem, ⟨3, _⟩ => ⟨S1x1x1024x640, .bf16⟩
  | .local _ .vmem, ⟨4, _⟩ => ⟨S2064x1024, .f32⟩
  | .local _ .vmem, ⟨5, _⟩ => ⟨S2064x1024, .f32⟩
  | _, _ => ⟨S2064x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg2.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S2064x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S2064x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]
-- ==== InDxRefIdeal.lean ====
abbrev S2064x2560 : Shape := ⟨2, ![2064, 2560]⟩
abbrev S4x1x1024x640 : Shape := ⟨4, ![4, 1, 1024, 640]⟩
abbrev S4x1024x640 : Shape := ⟨3, ![4, 1024, 640]⟩
abbrev S1024x4x640 : Shape := ⟨3, ![1024, 4, 640]⟩
abbrev S1024x2560 : Shape := ⟨2, ![1024, 2560]⟩
abbrev S_ : Shape := ⟨0, ![]⟩
abbrev S2064x1024 : Shape := ⟨2, ![2064, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2064x2560, .bf16⟩
  | .hbm, ⟨1, _⟩ => ⟨S4x1x1024x640, .bf16⟩
  | .hbm, ⟨2, _⟩ => ⟨S4x1024x640, .bf16⟩
  | .hbm, ⟨3, _⟩ => ⟨S1024x4x640, .bf16⟩
  | .hbm, ⟨4, _⟩ => ⟨S1024x2560, .bf16⟩
  | .hbm, ⟨5, _⟩ => ⟨S_, .f32⟩
  | .hbm, ⟨6, _⟩ => ⟨S2064x1024, .f32⟩
  | .hbm, ⟨7, _⟩ => ⟨S1024x2560, .f32⟩
  | .hbm, ⟨8, _⟩ => ⟨S2064x2560, .f32⟩
  | .hbm, ⟨9, _⟩ => ⟨S2064x2560, .f32⟩
  | .hbm, ⟨10, _⟩ => ⟨S2064x1024, .f32⟩
  | _, _ => ⟨S2064x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== OutDw.lean ====
abbrev S2064x1024 : Shape := ⟨2, ![2064, 1024]⟩
abbrev S1024x1024 : Shape := ⟨2, ![1024, 1024]⟩
abbrev S2064x512 : Shape := ⟨2, ![2064, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2064x1024, .bf16⟩
  | .hbm, ⟨1, _⟩ => ⟨S2064x1024, .f32⟩
  | .hbm, ⟨2, _⟩ => ⟨S1024x1024, .f32⟩
  | .local _ .vmem, ⟨0, _⟩ => ⟨S2064x512, .bf16⟩
  | .local _ .vmem, ⟨1, _⟩ => ⟨S2064x512, .bf16⟩
  | .local _ .vmem, ⟨2, _⟩ => ⟨S2064x1024, .f32⟩
  | .local _ .vmem, ⟨3, _⟩ => ⟨S512x1024, .f32⟩
  | .local _ .vmem, ⟨4, _⟩ => ⟨S512x1024, .f32⟩
  | _, _ => ⟨S2064x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S2064x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2064x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== OutDwRefIdeal.lean ====
abbrev S2064x1024 : Shape := ⟨2, ![2064, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2064x1024, .bf16⟩
  | .hbm, ⟨1, _⟩ => ⟨S2064x1024, .f32⟩
  | .hbm, ⟨2, _⟩ => ⟨S_, .f32⟩
  | .hbm, ⟨3, _⟩ => ⟨S1024x1024, .f32⟩
  | .hbm, ⟨4, _⟩ => ⟨S2064x1024, .f32⟩
  | .hbm, ⟨5, _⟩ => ⟨S2064x1024, .f32⟩
  | .hbm, ⟨6, _⟩ => ⟨S1024x1024, .f32⟩
  | .hbm, ⟨7, _⟩ => ⟨S1024x1024, .f32⟩
  | _, _ => ⟨S2064x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutDx.lean ====
abbrev S2064x1024 : Shape := ⟨2, ![2064, 1024]⟩
abbrev S1x1024x1024 : Shape := ⟨3, ![1, 1024, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2064x1024, .f32⟩
  | .hbm, ⟨1, _⟩ => ⟨S1x1024x1024, .bf16⟩
  | .hbm, ⟨2, _⟩ => ⟨S2064x1024, .f32⟩
  | .local _ .vmem, ⟨0, _⟩ => ⟨S2064x1024, .f32⟩
  | .local _ .vmem, ⟨1, _⟩ => ⟨S1x1024x1024, .bf16⟩
  | .local _ .vmem, ⟨2, _⟩ => ⟨S2064x1024, .f32⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2064x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 1 → Memref sig .tc .vmem S2064x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDxRefIdeal.lean ====
abbrev S2064x1024 : Shape := ⟨2, ![2064, 1024]⟩
abbrev S1x1024x1024 : Shape := ⟨3, ![1, 1024, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S1x1024x1024, .bf16⟩
  | .hbm, ⟨2, _⟩ => ⟨S1024x1024, .bf16⟩
  | .hbm, ⟨3, _⟩ => ⟨S_, .f32⟩
  | .hbm, ⟨4, _⟩ => ⟨S2064x1024, .f32⟩
  | .hbm, ⟨5, _⟩ => ⟨S1024x1024, .f32⟩
  | .hbm, ⟨6, _⟩ => ⟨S2064x1024, .f32⟩
  | .hbm, ⟨7, _⟩ => ⟨S2064x1024, .f32⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Up.lean ====
abbrev S2064x1024 : Shape := ⟨2, ![2064, 1024]⟩
abbrev S4x1x1024x1408 : Shape := ⟨4, ![4, 1, 1024, 1408]⟩
abbrev S2064x5632 : Shape := ⟨2, ![2064, 5632]⟩
abbrev S1x1x1024x1408 : Shape := ⟨4, ![1, 1, 1024, 1408]⟩
abbrev S2064x1408 : Shape := ⟨2, ![2064, 1408]⟩
abbrev S1024x1408 : Shape := ⟨2, ![1024, 1408]⟩

abbrev nBuf : Space → Nat
  | .hbm => 3
  | .vmem => 5
  | .smem => 0
  | _ => 0

abbrev bufTy : (tb : Table) → Fin (tcTables nBuf tb) → BufTy
  | .hbm, ⟨0, _⟩ => ⟨S2064x1024, .bf16⟩
  | .hbm, ⟨1, _⟩ => ⟨S4x1x1024x1408, .bf16⟩
  | .hbm, ⟨2, _⟩ => ⟨S2064x5632, .bf16⟩
  | .local _ .vmem, ⟨0, _⟩ => ⟨S2064x1024, .bf16⟩
  | .local _ .vmem, ⟨1, _⟩ => ⟨S1x1x1024x1408, .bf16⟩
  | .local _ .vmem, ⟨2, _⟩ => ⟨S1x1x1024x1408, .bf16⟩
  | .local _ .vmem, ⟨3, _⟩ => ⟨S2064x1408, .bf16⟩
  | .local _ .vmem, ⟨4, _⟩ => ⟨S2064x1408, .bf16⟩
  | _, _ => ⟨S2064x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S2064x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2064x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S2064x1024 : Shape := ⟨2, ![2064, 1024]⟩
abbrev S4x1x1024x1408 : Shape := ⟨4, ![4, 1, 1024, 1408]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S2064x5632 : Shape := ⟨2, ![2064, 5632]⟩

abbrev nBuf : Space → Nat
  | .hbm => 9
  | .vmem => 0
  | .smem => 0
  | _ => 0

abbrev bufTy : (tb : Table) → Fin (tcTables nBuf tb) → BufTy
  | .hbm, ⟨0, _⟩ => ⟨S2064x1024, .bf16⟩
  | .hbm, ⟨1, _⟩ => ⟨S4x1x1024x1408, .bf16⟩
  | .hbm, ⟨2, _⟩ => ⟨S4x1024x1408, .bf16⟩
  | .hbm, ⟨3, _⟩ => ⟨S1024x4x1408, .bf16⟩
  | .hbm, ⟨4, _⟩ => ⟨S1024x5632, .bf16⟩
  | .hbm, ⟨5, _⟩ => ⟨S2064x1024, .f32⟩
  | .hbm, ⟨6, _⟩ => ⟨S1024x5632, .f32⟩
  | .hbm, ⟨7, _⟩ => ⟨S2064x5632, .f32⟩
  | .hbm, ⟨8, _⟩ => ⟨S2064x5632, .bf16⟩
  | _, _ => ⟨S2064x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== In.lean ====
abbrev S2064x1024 : Shape := ⟨2, ![2064, 1024]⟩
abbrev S4x1x1024x640 : Shape := ⟨4, ![4, 1, 1024, 640]⟩
abbrev S2064x2560 : Shape := ⟨2, ![2064, 2560]⟩
abbrev S1x1x1024x640 : Shape := ⟨4, ![1, 1, 1024, 640]⟩
abbrev S2064x640 : Shape := ⟨2, ![2064, 640]⟩
abbrev S1024x640 : Shape := ⟨2, ![1024, 640]⟩

abbrev nBuf : Space → Nat
  | .hbm => 3
  | .vmem => 5
  | .smem => 0
  | _ => 0

abbrev bufTy : (tb : Table) → Fin (tcTables nBuf tb) → BufTy
  | .hbm, ⟨0, _⟩ => ⟨S2064x1024, .bf16⟩
  | .hbm, ⟨1, _⟩ => ⟨S4x1x1024x640, .bf16⟩
  | .hbm, ⟨2, _⟩ => ⟨S2064x2560, .f32⟩
  | .local _ .vmem, ⟨0, _⟩ => ⟨S2064x1024, .bf16⟩
  | .local _ .vmem, ⟨1, _⟩ => ⟨S1x1x1024x640, .bf16⟩
  | .local _ .vmem, ⟨2, _⟩ => ⟨S1x1x1024x640, .bf16⟩
  | .local _ .vmem, ⟨3, _⟩ => ⟨S2064x640, .f32⟩
  | .local _ .vmem, ⟨4, _⟩ => ⟨S2064x640, .f32⟩
  | _, _ => ⟨S2064x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S2064x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false]

abbrev stage0_1 : Fin 2 → Memref sig .tc .vmem S1x1x1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2064x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRefIdeal.lean ====
abbrev S2064x1024 : Shape := ⟨2, ![2064, 1024]⟩
abbrev S4x1x1024x640 : Shape := ⟨4, ![4, 1, 1024, 640]⟩
abbrev S4x1024x640 : Shape := ⟨3, ![4, 1024, 640]⟩
abbrev S1024x4x640 : Shape := ⟨3, ![1024, 4, 640]⟩
abbrev S1024x2560 : Shape := ⟨2, ![1024, 2560]⟩
abbrev S2064x2560 : Shape := ⟨2, ![2064, 2560]⟩

abbrev nBuf : Space → Nat
  | .hbm => 8
  | .vmem => 0
  | .smem => 0
  | _ => 0

abbrev bufTy : (tb : Table) → Fin (tcTables nBuf tb) → BufTy
  | .hbm, ⟨0, _⟩ => ⟨S2064x1024, .bf16⟩
  | .hbm, ⟨1, _⟩ => ⟨S4x1x1024x640, .bf16⟩
  | .hbm, ⟨2, _⟩ => ⟨S4x1024x640, .bf16⟩
  | .hbm, ⟨3, _⟩ => ⟨S1024x4x640, .bf16⟩
  | .hbm, ⟨4, _⟩ => ⟨S1024x2560, .bf16⟩
  | .hbm, ⟨5, _⟩ => ⟨S2064x1024, .f32⟩
  | .hbm, ⟨6, _⟩ => ⟨S1024x2560, .f32⟩
  | .hbm, ⟨7, _⟩ => ⟨S2064x2560, .f32⟩
  | _, _ => ⟨S2064x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Down.lean ====
abbrev S2064x2816 : Shape := ⟨2, ![2064, 2816]⟩
abbrev S1x2816x1024 : Shape := ⟨3, ![1, 2816, 1024]⟩
abbrev S2064x1024 : Shape := ⟨2, ![2064, 1024]⟩
abbrev S1x1024 : Shape := ⟨2, ![1, 1024]⟩
abbrev S688x1408 : Shape := ⟨2, ![688, 1408]⟩
abbrev S1x1408x1024 : Shape := ⟨3, ![1, 1408, 1024]⟩
abbrev S688x1024 : Shape := ⟨2, ![688, 1024]⟩
abbrev S1408x1024 : Shape := ⟨2, ![1408, 1024]⟩
abbrev S688 : Shape := ⟨1, ![688]⟩
abbrev S688x1 : Shape := ⟨2, ![688, 1]⟩

abbrev nBuf : Space → Nat
  | .hbm => 6
  | .vmem => 12
  | .smem => 0
  | _ => 0

abbrev bufTy : (tb : Table) → Fin (tcTables nBuf tb) → BufTy
  | .hbm, ⟨0, _⟩ => ⟨S2064x2816, .bf16⟩
  | .hbm, ⟨1, _⟩ => ⟨S1x2816x1024, .bf16⟩
  | .hbm, ⟨2, _⟩ => ⟨S2064x1024, .f32⟩
  | .hbm, ⟨3, _⟩ => ⟨S1x1024, .f32⟩
  | .hbm, ⟨4, _⟩ => ⟨S2064x1024, .f32⟩
  | .hbm, ⟨5, _⟩ => ⟨S2064x1024, .bf16⟩
  | .local _ .vmem, ⟨0, _⟩ => ⟨S688x1408, .bf16⟩
  | .local _ .vmem, ⟨1, _⟩ => ⟨S688x1408, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S688x1024, .f32⟩
  | .local _ .vmem, ⟨5, _⟩ => ⟨S688x1024, .f32⟩
  | .local _ .vmem, ⟨6, _⟩ => ⟨S1x1024, .f32⟩
  | .local _ .vmem, ⟨7, _⟩ => ⟨S688x1024, .f32⟩
  | .local _ .vmem, ⟨8, _⟩ => ⟨S688x1024, .f32⟩
  | .local _ .vmem, ⟨9, _⟩ => ⟨S688x1024, .bf16⟩
  | .local _ .vmem, ⟨10, _⟩ => ⟨S688x1024, .bf16⟩
  | .local _ .vmem, ⟨11, _⟩ => ⟨S688x1024, .f32⟩
  | _, _ => ⟨S2064x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![3, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S688x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S688x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S688x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== DownRefIdeal.lean ====
abbrev S2064x2816 : Shape := ⟨2, ![2064, 2816]⟩
abbrev S1x2816x1024 : Shape := ⟨3, ![1, 2816, 1024]⟩
abbrev S2064x1024 : Shape := ⟨2, ![2064, 1024]⟩
abbrev S1x1024 : Shape := ⟨2, ![1, 1024]⟩
abbrev S2816x1024 : Shape := ⟨2, ![2816, 1024]⟩
abbrev S_ : Shape := ⟨0, ![]⟩
abbrev S2064 : Shape := ⟨1, ![2064]⟩
abbrev S2064x1 : Shape := ⟨2, ![2064, 1]⟩

abbrev nBuf : Space → Nat
  | .hbm => 25
  | .vmem => 0
  | .smem => 0
  | _ => 0

abbrev bufTy : (tb : Table) → Fin (tcTables nBuf tb) → BufTy
  | .hbm, ⟨0, _⟩ => ⟨S2064x2816, .bf16⟩
  | .hbm, ⟨1, _⟩ => ⟨S1x2816x1024, .bf16⟩
  | .hbm, ⟨2, _⟩ => ⟨S2064x1024, .f32⟩
  | .hbm, ⟨3, _⟩ => ⟨S1x1024, .f32⟩
  | .hbm, ⟨4, _⟩ => ⟨S2816x1024, .bf16⟩
  | .hbm, ⟨5, _⟩ => ⟨S2064x2816, .f32⟩
  | .hbm, ⟨6, _⟩ => ⟨S2816x1024, .f32⟩
  | .hbm, ⟨7, _⟩ => ⟨S2064x1024, .f32⟩
  | .hbm, ⟨8, _⟩ => ⟨S2064x1024, .f32⟩
  | .hbm, ⟨9, _⟩ => ⟨S2064x1024, .f32⟩
  | .hbm, ⟨10, _⟩ => ⟨S_, .f32⟩
  | .hbm, ⟨11, _⟩ => ⟨S2064, .f32⟩
  | .hbm, ⟨12, _⟩ => ⟨S2064x1, .f32⟩
  | .hbm, ⟨13, _⟩ => ⟨S_, .f32⟩
  | .hbm, ⟨14, _⟩ => ⟨S2064x1, .f32⟩
  | .hbm, ⟨15, _⟩ => ⟨S2064x1, .f32⟩
  | .hbm, ⟨16, _⟩ => ⟨S_, .f32⟩
  | .hbm, ⟨17, _⟩ => ⟨S2064x1, .f32⟩
  | .hbm, ⟨18, _⟩ => ⟨S2064x1, .f32⟩
  | .hbm, ⟨19, _⟩ => ⟨S2064x1, .f32⟩
  | .hbm, ⟨20, _⟩ => ⟨S2064x1024, .f32⟩
  | .hbm, ⟨21, _⟩ => ⟨S2064x1024, .f32⟩
  | .hbm, ⟨22, _⟩ => ⟨S2064x1024, .f32⟩
  | .hbm, ⟨23, _⟩ => ⟨S2064x1024, .f32⟩
  | .hbm, ⟨24, _⟩ => ⟨S2064x1024, .bf16⟩
  | _, _ => ⟨S2064x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Out.lean ====
abbrev S2064x1024 : Shape := ⟨2, ![2064, 1024]⟩
abbrev S1x1024x1024 : Shape := ⟨3, ![1, 1024, 1024]⟩
abbrev S1x1024 : Shape := ⟨2, ![1, 1024]⟩
abbrev S688x1024 : Shape := ⟨2, ![688, 1024]⟩
abbrev S1024x1024 : Shape := ⟨2, ![1024, 1024]⟩
abbrev S688 : Shape := ⟨1, ![688]⟩
abbrev S688x1 : Shape := ⟨2, ![688, 1]⟩

abbrev nBuf : Space → Nat
  | .hbm => 6
  | .vmem => 10
  | .smem => 0
  | _ => 0

abbrev bufTy : (tb : Table) → Fin (tcTables nBuf tb) → BufTy
  | .hbm, ⟨0, _⟩ => ⟨S2064x1024, .bf16⟩
  | .hbm, ⟨1, _⟩ => ⟨S1x1024x1024, .bf16⟩
  | .hbm, ⟨2, _⟩ => ⟨S2064x1024, .f32⟩
  | .hbm, ⟨3, _⟩ => ⟨S1x1024, .f32⟩
  | .hbm, ⟨4, _⟩ => ⟨S2064x1024, .f32⟩
  | .hbm, ⟨5, _⟩ => ⟨S2064x1024, .bf16⟩
  | .local _ .vmem, ⟨0, _⟩ => ⟨S688x1024, .bf16⟩
  | .local _ .vmem, ⟨1, _⟩ => ⟨S688x1024, .bf16⟩
  | .local _ .vmem, ⟨2, _⟩ => ⟨S1x1024x1024, .bf16⟩
  | .local _ .vmem, ⟨3, _⟩ => ⟨S688x1024, .f32⟩
  | .local _ .vmem, ⟨4, _⟩ => ⟨S688x1024, .f32⟩
  | .local _ .vmem, ⟨5, _⟩ => ⟨S1x1024, .f32⟩
  | .local _ .vmem, ⟨6, _⟩ => ⟨S688x1024, .f32⟩
  | .local _ .vmem, ⟨7, _⟩ => ⟨S688x1024, .f32⟩
  | .local _ .vmem, ⟨8, _⟩ => ⟨S688x1024, .bf16⟩
  | .local _ .vmem, ⟨9, _⟩ => ⟨S688x1024, .bf16⟩
  | _, _ => ⟨S2064x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S688x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S688x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== OutRefIdeal.lean ====
abbrev S2064x1024 : Shape := ⟨2, ![2064, 1024]⟩
abbrev S1x1024x1024 : Shape := ⟨3, ![1, 1024, 1024]⟩
abbrev S1x1024 : Shape := ⟨2, ![1, 1024]⟩
abbrev S1024x1024 : Shape := ⟨2, ![1024, 1024]⟩
abbrev S_ : Shape := ⟨0, ![]⟩
abbrev S2064 : Shape := ⟨1, ![2064]⟩
abbrev S2064x1 : Shape := ⟨2, ![2064, 1]⟩

abbrev nBuf : Space → Nat
  | .hbm => 25
  | .vmem => 0
  | .smem => 0
  | _ => 0

abbrev bufTy : (tb : Table) → Fin (tcTables nBuf tb) → BufTy
  | .hbm, ⟨0, _⟩ => ⟨S2064x1024, .bf16⟩
  | .hbm, ⟨1, _⟩ => ⟨S1x1024x1024, .bf16⟩
  | .hbm, ⟨2, _⟩ => ⟨S2064x1024, .f32⟩
  | .hbm, ⟨3, _⟩ => ⟨S1x1024, .f32⟩
  | .hbm, ⟨4, _⟩ => ⟨S1024x1024, .bf16⟩
  | .hbm, ⟨5, _⟩ => ⟨S2064x1024, .f32⟩
  | .hbm, ⟨6, _⟩ => ⟨S1024x1024, .f32⟩
  | .hbm, ⟨7, _⟩ => ⟨S2064x1024, .f32⟩
  | .hbm, ⟨8, _⟩ => ⟨S2064x1024, .f32⟩
  | .hbm, ⟨9, _⟩ => ⟨S2064x1024, .f32⟩
  | .hbm, ⟨10, _⟩ => ⟨S_, .f32⟩
  | .hbm, ⟨11, _⟩ => ⟨S2064, .f32⟩
  | .hbm, ⟨12, _⟩ => ⟨S2064x1, .f32⟩
  | .hbm, ⟨13, _⟩ => ⟨S_, .f32⟩
  | .hbm, ⟨14, _⟩ => ⟨S2064x1, .f32⟩
  | .hbm, ⟨15, _⟩ => ⟨S2064x1, .f32⟩
  | .hbm, ⟨16, _⟩ => ⟨S_, .f32⟩
  | .hbm, ⟨17, _⟩ => ⟨S2064x1, .f32⟩
  | .hbm, ⟨18, _⟩ => ⟨S2064x1, .f32⟩
  | .hbm, ⟨19, _⟩ => ⟨S2064x1, .f32⟩
  | .hbm, ⟨20, _⟩ => ⟨S2064x1024, .f32⟩
  | .hbm, ⟨21, _⟩ => ⟨S2064x1024, .f32⟩
  | .hbm, ⟨22, _⟩ => ⟨S2064x1024, .f32⟩
  | .hbm, ⟨23, _⟩ => ⟨S2064x1024, .f32⟩
  | .hbm, ⟨24, _⟩ => ⟨S2064x1024, .bf16⟩
  | _, _ => ⟨S2064x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== AdamIn.lean ====
abbrev S1x1024x640 : Shape := ⟨3, ![1, 1024, 640]⟩
abbrev S1024x640 : Shape := ⟨2, ![1024, 640]⟩
abbrev S512x640 : Shape := ⟨2, ![512, 640]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x640, .f32⟩
  | .hbm, ⟨1, _⟩ => ⟨S1x1024x640, .f32⟩
  | .hbm, ⟨2, _⟩ => ⟨S1x1024x640, .f32⟩
  | .hbm, ⟨3, _⟩ => ⟨S1x1024x640, .f32⟩
  | .hbm, ⟨4, _⟩ => ⟨S1024x640, .f32⟩
  | .hbm, ⟨5, _⟩ => ⟨S1024x640, .f32⟩
  | .hbm, ⟨6, _⟩ => ⟨S1024x640, .f32⟩
  | .hbm, ⟨7, _⟩ => ⟨S1024x640, .f32⟩
  | .hbm, ⟨8, _⟩ => ⟨S1024x640, .f32⟩
  | .hbm, ⟨9, _⟩ => ⟨S1024x640, .f32⟩
  | .hbm, ⟨10, _⟩ => ⟨S1024x640, .f32⟩
  | .local _ .vmem, ⟨0, _⟩ => ⟨S512x640, .f32⟩
  | .local _ .vmem, ⟨1, _⟩ => ⟨S512x640, .f32⟩
  | .local _ .vmem, ⟨2, _⟩ => ⟨S512x640, .f32⟩
  | .local _ .vmem, ⟨3, _⟩ => ⟨S512x640, .f32⟩
  | .local _ .vmem, ⟨4, _⟩ => ⟨S512x640, .f32⟩
  | .local _ .vmem, ⟨5, _⟩ => ⟨S512x640, .f32⟩
  | .local _ .vmem, ⟨6, _⟩ => ⟨S512x640, .f32⟩
  | .local _ .vmem, ⟨7, _⟩ => ⟨S512x640, .f32⟩
  | .local _ .vmem, ⟨8, _⟩ => ⟨S512x640, .f32⟩
  | .local _ .vmem, ⟨9, _⟩ => ⟨S512x640, .f32⟩
  | .local _ .vmem, ⟨10, _⟩ => ⟨S512x640, .f32⟩
  | .local _ .vmem, ⟨11, _⟩ => ⟨S512x640, .f32⟩
  | .local _ .vmem, ⟨12, _⟩ => ⟨S512x640, .f32⟩
  | .local _ .vmem, ⟨13, _⟩ => ⟨S512x640, .f32⟩
  | _, _ => ⟨S1x1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
abbrev S1x1024x640 : Shape := ⟨3, ![1, 1024, 640]⟩
abbrev S1024x640 : Shape := ⟨2, ![1024, 640]⟩
abbrev S512x640 : Shape := ⟨2, ![512, 640]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x640, .f32⟩
  | .hbm, ⟨1, _⟩ => ⟨S1x1024x640, .f32⟩
  | .hbm, ⟨2, _⟩ => ⟨S1x1024x640, .f32⟩
  | .hbm, ⟨3, _⟩ => ⟨S1x1024x640, .f32⟩
  | .hbm, ⟨4, _⟩ => ⟨S1024x640, .f32⟩
  | .hbm, ⟨5, _⟩ => ⟨S1024x640, .f32⟩
  | .hbm, ⟨6, _⟩ => ⟨S1024x640, .f32⟩
  | .hbm, ⟨7, _⟩ => ⟨S1024x640, .f32⟩
  | .hbm, ⟨8, _⟩ => ⟨S1024x640, .f32⟩
  | .hbm, ⟨9, _⟩ => ⟨S1024x640, .f32⟩
  | .hbm, ⟨10, _⟩ => ⟨S1024x640, .f32⟩
  | .local _ .vmem, ⟨0, _⟩ => ⟨S512x640, .f32⟩
  | .local _ .vmem, ⟨1, _⟩ => ⟨S512x640, .f32⟩
  | .local _ .vmem, ⟨2, _⟩ => ⟨S512x640, .f32⟩
  | .local _ .vmem, ⟨3, _⟩ => ⟨S512x640, .f32⟩
  | .local _ .vmem, ⟨4, _⟩ => ⟨S512x640, .f32⟩
  | .local _ .vmem, ⟨5, _⟩ => ⟨S512x640, .f32⟩
  | .local _ .vmem, ⟨6, _⟩ => ⟨S512x640, .f32⟩
  | .local _ .vmem, ⟨7, _⟩ => ⟨S512x640, .f32⟩
  | .local _ .vmem, ⟨8, _⟩ => ⟨S512x640, .f32⟩
  | .local _ .vmem, ⟨9, _⟩ => ⟨S512x640, .f32⟩
  | .local _ .vmem, ⟨10, _⟩ => ⟨S512x640, .f32⟩
  | .local _ .vmem, ⟨11, _⟩ => ⟨S512x640, .f32⟩
  | .local _ .vmem, ⟨12, _⟩ => ⟨S512x640, .f32⟩
  | .local _ .vmem, ⟨13, _⟩ => ⟨S512x640, .f32⟩
  | _, _ => ⟨S1x1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S1x1024x640 : Shape := ⟨3, ![1, 1024, 640]⟩
abbrev S_ : Shape := ⟨0, ![]⟩
abbrev S1024x640 : Shape := ⟨2, ![1024, 640]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x640, .f32⟩
  | .hbm, ⟨1, _⟩ => ⟨S1x1024x640, .f32⟩
  | .hbm, ⟨2, _⟩ => ⟨S1x1024x640, .f32⟩
  | .hbm, ⟨3, _⟩ => ⟨S1x1024x640, .f32⟩
  | .hbm, ⟨4, _⟩ => ⟨S_, .f32⟩
  | .hbm, ⟨5, _⟩ => ⟨S1x1024x640, .f32⟩
  | .hbm, ⟨6, _⟩ => ⟨S1x1024x640, .f32⟩
  | .hbm, ⟨7, _⟩ => ⟨S_, .f32⟩
  | .hbm, ⟨8, _⟩ => ⟨S1x1024x640, .f32⟩
  | .hbm, ⟨9, _⟩ => ⟨S1x1024x640, .f32⟩
  | .hbm, ⟨10, _⟩ => ⟨S1x1024x640, .f32⟩
  | .hbm, ⟨11, _⟩ => ⟨S_, .f32⟩
  | .hbm, ⟨12, _⟩ => ⟨S1x1024x640, .f32⟩
  | .hbm, ⟨13, _⟩ => ⟨S1x1024x640, .f32⟩
  | .hbm, ⟨14, _⟩ => ⟨S1x1024x640, .f32⟩
  | .hbm, ⟨15, _⟩ => ⟨S_, .f32⟩
  | .hbm, ⟨16, _⟩ => ⟨S1x1024x640, .f32⟩
  | .hbm, ⟨17, _⟩ => ⟨S1x1024x640, .f32⟩
  | .hbm, ⟨18, _⟩ => ⟨S1x1024x640, .f32⟩
  | .hbm, ⟨19, _⟩ => ⟨S_, .f32⟩
  | .hbm, ⟨20, _⟩ => ⟨S1x1024x640, .f32⟩
  | .hbm, ⟨21, _⟩ => ⟨S1x1024x640, .f32⟩
  | .hbm, ⟨22, _⟩ => ⟨S_, .f32⟩
  | .hbm, ⟨23, _⟩ => ⟨S1x1024x640, .f32⟩
  | .hbm, ⟨24, _⟩ => ⟨S1x1024x640, .f32⟩
  | .hbm, ⟨25, _⟩ => ⟨S1x1024x640, .f32⟩
  | .hbm, ⟨26, _⟩ => ⟨S_, .f32⟩
  | .hbm, ⟨27, _⟩ => ⟨S1x1024x640, .f32⟩
  | .hbm, ⟨28, _⟩ => ⟨S1x1024x640, .f32⟩
  | .hbm, ⟨29, _⟩ => ⟨S1x1024x640, .f32⟩
  | .hbm, ⟨30, _⟩ => ⟨S_, .f32⟩
  | .hbm, ⟨31, _⟩ => ⟨S1x1024x640, .f32⟩
  | .hbm, ⟨32, _⟩ => ⟨S1x1024x640, .f32⟩
  | .hbm, ⟨33, _⟩ => ⟨S1x1024x640, .f32⟩
  | .hbm, ⟨34, _⟩ => ⟨S_, .f32⟩
  | .hbm, ⟨35, _⟩ => ⟨S1x1024x640, .f32⟩
  | .hbm, ⟨36, _⟩ => ⟨S1x1024x640, .f32⟩
  | .hbm, ⟨37, _⟩ => ⟨S1024x640, .f32⟩
  | .hbm, ⟨38, _⟩ => ⟨S1024x640, .f32⟩
  | .hbm, ⟨39, _⟩ => ⟨S1024x640, .f32⟩
  | _, _ => ⟨S1x1024x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamOut.lean ====
abbrev S1x256x1024 : Shape := ⟨3, ![1, 256, 1024]⟩
abbrev S256x1024 : Shape := ⟨2, ![256, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutIdeal.lean ====
abbrev S1x256x1024 : Shape := ⟨3, ![1, 256, 1024]⟩
abbrev S256x1024 : Shape := ⟨2, ![256, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutRefIdeal.lean ====
abbrev S1x256x1024 : Shape := ⟨3, ![1, 256, 1024]⟩
abbrev S_ : Shape := ⟨0, ![]⟩
abbrev S256x1024 : Shape := ⟨2, ![256, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S_, .f32⟩
  | .hbm, ⟨5, _⟩ => ⟨S1x256x1024, .f32⟩
  | .hbm, ⟨6, _⟩ => ⟨S1x256x1024, .f32⟩
  | .hbm, ⟨7, _⟩ => ⟨S_, .f32⟩
  | .hbm, ⟨8, _⟩ => ⟨S1x256x1024, .f32⟩
  | .hbm, ⟨9, _⟩ => ⟨S1x256x1024, .f32⟩
  | .hbm, ⟨10, _⟩ => ⟨S1x256x1024, .f32⟩
  | .hbm, ⟨11, _⟩ => ⟨S_, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S_, .f32⟩
  | .hbm, ⟨16, _⟩ => ⟨S1x256x1024, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S_, .f32⟩
  | .hbm, ⟨23, _⟩ => ⟨S1x256x1024, .f32⟩
  | .hbm, ⟨24, _⟩ => ⟨S1x256x1024, .f32⟩
  | .hbm, ⟨25, _⟩ => ⟨S1x256x1024, .f32⟩
  | .hbm, ⟨26, _⟩ => ⟨S_, .f32⟩
  | .hbm, ⟨27, _⟩ => ⟨S1x256x1024, .f32⟩
  | .hbm, ⟨28, _⟩ => ⟨S1x256x1024, .f32⟩
  | .hbm, ⟨29, _⟩ => ⟨S1x256x1024, .f32⟩
  | .hbm, ⟨30, _⟩ => ⟨S_, .f32⟩
  | .hbm, ⟨31, _⟩ => ⟨S1x256x1024, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1x256x1024, .f32⟩
  | .hbm, ⟨36, _⟩ => ⟨S1x256x1024, .f32⟩
  | .hbm, ⟨37, _⟩ => ⟨S256x1024, .f32⟩
  | .hbm, ⟨38, _⟩ => ⟨S256x1024, .f32⟩
  | .hbm, ⟨39, _⟩ => ⟨S256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamUp.lean ====
abbrev S2x1024x1408 : Shape := ⟨3, ![2, 1024, 1408]⟩
abbrev S2048x1408 : Shape := ⟨2, ![2048, 1408]⟩
abbrev S256x1408 : Shape := ⟨2, ![256, 1408]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .hbm, ⟨9, _⟩ => ⟨S2048x1408, .f32⟩
  | .hbm, ⟨10, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpIdeal.lean ====
abbrev S2x1024x1408 : Shape := ⟨3, ![2, 1024, 1408]⟩
abbrev S2048x1408 : Shape := ⟨2, ![2048, 1408]⟩
abbrev S256x1408 : Shape := ⟨2, ![256, 1408]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .hbm, ⟨9, _⟩ => ⟨S2048x1408, .f32⟩
  | .hbm, ⟨10, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpRefIdeal.lean ====
abbrev S2x1024x1408 : Shape := ⟨3, ![2, 1024, 1408]⟩
abbrev S_ : Shape := ⟨0, ![]⟩
abbrev S2048x1408 : Shape := ⟨2, ![2048, 1408]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S_, .f32⟩
  | .hbm, ⟨5, _⟩ => ⟨S2x1024x1408, .f32⟩
  | .hbm, ⟨6, _⟩ => ⟨S2x1024x1408, .f32⟩
  | .hbm, ⟨7, _⟩ => ⟨S_, .f32⟩
  | .hbm, ⟨8, _⟩ => ⟨S2x1024x1408, .f32⟩
  | .hbm, ⟨9, _⟩ => ⟨S2x1024x1408, .f32⟩
  | .hbm, ⟨10, _⟩ => ⟨S2x1024x1408, .f32⟩
  | .hbm, ⟨11, _⟩ => ⟨S_, .f32⟩
  | .hbm, ⟨12, _⟩ => ⟨S2x1024x1408, .f32⟩
  | .hbm, ⟨13, _⟩ => ⟨S2x1024x1408, .f32⟩
  | .hbm, ⟨14, _⟩ => ⟨S2x1024x1408, .f32⟩
  | .hbm, ⟨15, _⟩ => ⟨S_, .f32⟩
  | .hbm, ⟨16, _⟩ => ⟨S2x1024x1408, .f32⟩
  | .hbm, ⟨17, _⟩ => ⟨S2x1024x1408, .f32⟩
  | .hbm, ⟨18, _⟩ => ⟨S2x1024x1408, .f32⟩
  | .hbm, ⟨19, _⟩ => ⟨S_, .f32⟩
  | .hbm, ⟨20, _⟩ => ⟨S2x1024x1408, .f32⟩
  | .hbm, ⟨21, _⟩ => ⟨S2x1024x1408, .f32⟩
  | .hbm, ⟨22, _⟩ => ⟨S_, .f32⟩
  | .hbm, ⟨23, _⟩ => ⟨S2x1024x1408, .f32⟩
  | .hbm, ⟨24, _⟩ => ⟨S2x1024x1408, .f32⟩
  | .hbm, ⟨25, _⟩ => ⟨S2x1024x1408, .f32⟩
  | .hbm, ⟨26, _⟩ => ⟨S_, .f32⟩
  | .hbm, ⟨27, _⟩ => ⟨S2x1024x1408, .f32⟩
  | .hbm, ⟨28, _⟩ => ⟨S2x1024x1408, .f32⟩
  | .hbm, ⟨29, _⟩ => ⟨S2x1024x1408, .f32⟩
  | .hbm, ⟨30, _⟩ => ⟨S_, .f32⟩
  | .hbm, ⟨31, _⟩ => ⟨S2x1024x1408, .f32⟩
  | .hbm, ⟨32, _⟩ => ⟨S2x1024x1408, .f32⟩
  | .hbm, ⟨33, _⟩ => ⟨S2x1024x1408, .f32⟩
  | .hbm, ⟨34, _⟩ => ⟨S_, .f32⟩
  | .hbm, ⟨35, _⟩ => ⟨S2x1024x1408, .f32⟩
  | .hbm, ⟨36, _⟩ => ⟨S2x1024x1408, .f32⟩
  | .hbm, ⟨37, _⟩ => ⟨S2048x1408, .f32⟩
  | .hbm, ⟨38, _⟩ => ⟨S2048x1408, .f32⟩
  | .hbm, ⟨39, _⟩ => ⟨S2048x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamDown.lean ====
abbrev S2x704x1024 : Shape := ⟨3, ![2, 704, 1024]⟩
abbrev S1408x1024 : Shape := ⟨2, ![1408, 1024]⟩
abbrev S352x1024 : Shape := ⟨2, ![352, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownRefIdeal.lean ====
abbrev S2x704x1024 : Shape := ⟨3, ![2, 704, 1024]⟩
abbrev S_ : Shape := ⟨0, ![]⟩
abbrev S1408x1024 : Shape := ⟨2, ![1408, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S_, .f32⟩
  | .hbm, ⟨5, _⟩ => ⟨S2x704x1024, .f32⟩
  | .hbm, ⟨6, _⟩ => ⟨S2x704x1024, .f32⟩
  | .hbm, ⟨7, _⟩ => ⟨S_, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S_, .f32⟩
  | .hbm, ⟨23, _⟩ => ⟨S2x704x1024, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | .hbm, ⟨37, _⟩ => ⟨S1408x1024, .f32⟩
  | .hbm, ⟨38, _⟩ => ⟨S1408x1024, .f32⟩
  | .hbm, ⟨39, _⟩ => ⟨S1408x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== DownEnd.lean ====
abbrev S2064x2816 : Shape := ⟨2, ![2064, 2816]⟩
abbrev S1x2816x1024 : Shape := ⟨3, ![1, 2816, 1024]⟩
abbrev S2064x1024 : Shape := ⟨2, ![2064, 1024]⟩
abbrev S688x1408 : Shape := ⟨2, ![688, 1408]⟩
abbrev S1x1408x1024 : Shape := ⟨3, ![1, 1408, 1024]⟩
abbrev S688x1024 : Shape := ⟨2, ![688, 1024]⟩
abbrev S1408x1024 : Shape := ⟨2, ![1408, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2064x2816, .bf16⟩
  | .hbm, ⟨1, _⟩ => ⟨S1x2816x1024, .bf16⟩
  | .hbm, ⟨2, _⟩ => ⟨S2064x1024, .f32⟩
  | .hbm, ⟨3, _⟩ => ⟨S2064x1024, .f32⟩
  | .local _ .vmem, ⟨0, _⟩ => ⟨S688x1408, .bf16⟩
  | .local _ .vmem, ⟨1, _⟩ => ⟨S688x1408, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S688x1024, .f32⟩
  | .local _ .vmem, ⟨5, _⟩ => ⟨S688x1024, .f32⟩
  | .local _ .vmem, ⟨6, _⟩ => ⟨S688x1024, .f32⟩
  | .local _ .vmem, ⟨7, _⟩ => ⟨S688x1024, .f32⟩
  | .local _ .vmem, ⟨8, _⟩ => ⟨S688x1024, .f32⟩
  | _, _ => ⟨S2064x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S688x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S688x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== DownEndRefIdeal.lean ====
abbrev S2064x2816 : Shape := ⟨2, ![2064, 2816]⟩
abbrev S1x2816x1024 : Shape := ⟨3, ![1, 2816, 1024]⟩
abbrev S2064x1024 : Shape := ⟨2, ![2064, 1024]⟩
abbrev S2816x1024 : Shape := ⟨2, ![2816, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2064x2816, .bf16⟩
  | .hbm, ⟨1, _⟩ => ⟨S1x2816x1024, .bf16⟩
  | .hbm, ⟨2, _⟩ => ⟨S2064x1024, .f32⟩
  | .hbm, ⟨3, _⟩ => ⟨S2816x1024, .bf16⟩
  | .hbm, ⟨4, _⟩ => ⟨S2064x2816, .f32⟩
  | .hbm, ⟨5, _⟩ => ⟨S2816x1024, .f32⟩
  | .hbm, ⟨6, _⟩ => ⟨S2064x1024, .f32⟩
  | .hbm, ⟨7, _⟩ => ⟨S2064x1024, .f32⟩
  | _, _ => ⟨S2064x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== RmsBwd.lean ====
abbrev S2064x1024 : Shape := ⟨2, ![2064, 1024]⟩
abbrev S1x1024 : Shape := ⟨2, ![1, 1024]⟩
abbrev S688x1024 : Shape := ⟨2, ![688, 1024]⟩
abbrev S688 : Shape := ⟨1, ![688]⟩
abbrev S688x1 : Shape := ⟨2, ![688, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S2064x1024, .f32⟩
  | .hbm, ⟨1, _⟩ => ⟨S1x1024, .f32⟩
  | .hbm, ⟨2, _⟩ => ⟨S2064x1024, .f32⟩
  | .hbm, ⟨3, _⟩ => ⟨S2064x1024, .f32⟩
  | .hbm, ⟨4, _⟩ => ⟨S2064x1024, .f32⟩
  | .hbm, ⟨5, _⟩ => ⟨S1x1024, .f32⟩
  | .local _ .vmem, ⟨0, _⟩ => ⟨S688x1024, .f32⟩
  | .local _ .vmem, ⟨1, _⟩ => ⟨S688x1024, .f32⟩
  | .local _ .vmem, ⟨2, _⟩ => ⟨S1x1024, .f32⟩
  | .local _ .vmem, ⟨3, _⟩ => ⟨S688x1024, .f32⟩
  | .local _ .vmem, ⟨4, _⟩ => ⟨S688x1024, .f32⟩
  | .local _ .vmem, ⟨5, _⟩ => ⟨S688x1024, .f32⟩
  | .local _ .vmem, ⟨6, _⟩ => ⟨S688x1024, .f32⟩
  | .local _ .vmem, ⟨7, _⟩ => ⟨S688x1024, .f32⟩
  | .local _ .vmem, ⟨8, _⟩ => ⟨S688x1024, .f32⟩
  | .local _ .vmem, ⟨9, _⟩ => ⟨S1x1024, .f32⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![3], ![false]⟩

def k0_cond1 (i : grid0.Coords) : BitVec 1 :=
  let arg0 : BitVec 32 := BitVec.ofNat 32 (i 0).val
  let c0_i32 : BitVec 32 := 0#32
  let v31 : BitVec 1 := Scalar.cmpi .eq arg0 c0_i32
  let v32 : BitVec 32 := Scalar.extui v31
  let c0_i32_14 : BitVec 32 := 0#32
  let v33 : BitVec 1 := Scalar.cmpi .ne v32 c0_i32_14
  v33

def k0_cond2 (i : grid0.Coords) : BitVec 1 :=
  let arg0 : BitVec 32 := BitVec.ofNat 32 (i 0).val
  let c0_i32 : BitVec 32 := 0#32
  let v31 : BitVec 1 := Scalar.cmpi .eq arg0 c0_i32
  let v_true : BitVec 1 := 1#1
  let v34 : BitVec 1 := Scalar.xori v31 v_true
  let v35 : BitVec 32 := Scalar.extui v34
  let c0_i32_15 : BitVec 32 := 0#32
  let v36 : BitVec 1 := Scalar.cmpi .ne v35 c0_i32_15
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S688x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S688x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RmsBwdRefIdeal.lean ====
abbrev S2064x1024 : Shape := ⟨2, ![2064, 1024]⟩
abbrev S1x1024 : Shape := ⟨2, ![1, 1024]⟩
abbrev S_ : Shape := ⟨0, ![]⟩
abbrev S2064 : Shape := ⟨1, ![2064]⟩
abbrev S2064x1 : Shape := ⟨2, ![2064, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S1x1024, .f32⟩
  | .hbm, ⟨2, _⟩ => ⟨S2064x1024, .f32⟩
  | .hbm, ⟨3, _⟩ => ⟨S2064x1024, .f32⟩
  | .hbm, ⟨4, _⟩ => ⟨S2064x1024, .f32⟩
  | .hbm, ⟨5, _⟩ => ⟨S_, .f32⟩
  | .hbm, ⟨6, _⟩ => ⟨S2064, .f32⟩
  | .hbm, ⟨7, _⟩ => ⟨S2064x1, .f32⟩
  | .hbm, ⟨8, _⟩ => ⟨S_, .f32⟩
  | .hbm, ⟨9, _⟩ => ⟨S2064x1, .f32⟩
  | .hbm, ⟨10, _⟩ => ⟨S2064x1, .f32⟩
  | .hbm, ⟨11, _⟩ => ⟨S_, .f32⟩
  | .hbm, ⟨12, _⟩ => ⟨S2064x1, .f32⟩
  | .hbm, ⟨13, _⟩ => ⟨S2064x1, .f32⟩
  | .hbm, ⟨14, _⟩ => ⟨S2064x1, .f32⟩
  | .hbm, ⟨15, _⟩ => ⟨S2064x1, .f32⟩
  | .hbm, ⟨16, _⟩ => ⟨S_, .f32⟩
  | .hbm, ⟨17, _⟩ => ⟨S2064x1, .f32⟩
  | .hbm, ⟨18, _⟩ => ⟨S2064x1, .f32⟩
  | .hbm, ⟨19, _⟩ => ⟨S2064x1024, .f32⟩
  | .hbm, ⟨20, _⟩ => ⟨S2064x1024, .f32⟩
  | .hbm, ⟨21, _⟩ => ⟨S2064x1024, .f32⟩
  | .hbm, ⟨22, _⟩ => ⟨S2064x1024, .f32⟩
  | .hbm, ⟨23, _⟩ => ⟨S2064x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S2064x1024, .f32⟩
  | .hbm, ⟨28, _⟩ => ⟨S2064x1024, .f32⟩
  | .hbm, ⟨29, _⟩ => ⟨S2064x1024, .f32⟩
  | .hbm, ⟨30, _⟩ => ⟨S_, .f32⟩
  | .hbm, ⟨31, _⟩ => ⟨S2064, .f32⟩
  | .hbm, ⟨32, _⟩ => ⟨S2064x1, .f32⟩
  | .hbm, ⟨33, _⟩ => ⟨S2064x1024, .f32⟩
  | .hbm, ⟨34, _⟩ => ⟨S2064x1024, .f32⟩
  | .hbm, ⟨35, _⟩ => ⟨S2064x1, .f32⟩
  | .hbm, ⟨36, _⟩ => ⟨S_, .f32⟩
  | .hbm, ⟨37, _⟩ => ⟨S2064x1, .f32⟩
  | .hbm, ⟨38, _⟩ => ⟨S2064x1, .f32⟩
  | .hbm, ⟨39, _⟩ => ⟨S_, .f32⟩
  | .hbm, ⟨40, _⟩ => ⟨S2064, .f32⟩
  | .hbm, ⟨41, _⟩ => ⟨S2064x1024, .f32⟩
  | .hbm, ⟨42, _⟩ => ⟨S2064x1024, .f32⟩
  | .hbm, ⟨43, _⟩ => ⟨S2064x1024, .f32⟩
  | .hbm, ⟨44, _⟩ => ⟨S2064x1024, .f32⟩
  | .hbm, ⟨45, _⟩ => ⟨S2064x1024, .f32⟩
  | .hbm, ⟨46, _⟩ => ⟨S2064x1024, .f32⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== AdamSmall.lean ====
abbrev S16x256 : Shape := ⟨2, ![16, 256]⟩
abbrev S1x31x128 : Shape := ⟨3, ![1, 31, 128]⟩
abbrev S1x3x128 : Shape := ⟨3, ![1, 3, 128]⟩
abbrev S1x448 : Shape := ⟨2, ![1, 448]⟩
abbrev S1x128 : Shape := ⟨2, ![1, 128]⟩
abbrev S1x64x128 : Shape := ⟨3, ![1, 64, 128]⟩
abbrev S1x128x128 : Shape := ⟨3, ![1, 128, 128]⟩
abbrev S2x3x704 : Shape := ⟨3, ![2, 3, 704]⟩
abbrev S2x1024 : Shape := ⟨2, ![2, 1024]⟩
abbrev S1024 : Shape := ⟨1, ![1024]⟩
abbrev S1x512 : Shape := ⟨2, ![1, 512]⟩
abbrev S1x8 : Shape := ⟨2, ![1, 8]⟩
abbrev S1x8x64 : Shape := ⟨3, ![1, 8, 64]⟩
abbrev S2x2816 : Shape := ⟨2, ![2, 2816]⟩
abbrev S4096 : Shape := ⟨1, ![4096]⟩
abbrev S3968 : Shape := ⟨1, ![3968]⟩
abbrev S384 : Shape := ⟨1, ![384]⟩
abbrev S448 : Shape := ⟨1, ![448]⟩
abbrev S128 : Shape := ⟨1, ![128]⟩
abbrev S8192 : Shape := ⟨1, ![8192]⟩
abbrev S16384 : Shape := ⟨1, ![16384]⟩
abbrev S4224 : Shape := ⟨1, ![4224]⟩
abbrev S2048 : Shape := ⟨1, ![2048]⟩
abbrev S512 : Shape := ⟨1, ![512]⟩
abbrev S8 : Shape := ⟨1, ![8]⟩
abbrev S5632 : Shape := ⟨1, ![5632]⟩
abbrev S50752 : Shape := ⟨1, ![50752]⟩
abbrev S8200 : Shape := ⟨1, ![8200]⟩
abbrev S58952 : Shape := ⟨1, ![58952]⟩
abbrev S_ : Shape := ⟨0, ![]⟩
abbrev S65536 : Shape := ⟨1, ![65536]⟩
abbrev S64x1024 : Shape := ⟨2, ![64, 1024]⟩

abbrev nBuf : Space → Nat
  | .hbm => 335
  | .vmem => 7
  | .smem => 0
  | _ => 0

abbrev hbmTy0_0 (i : Nat) : BufTy := match i % 128 with
  | 0 => ⟨S16x256, .f32⟩
  | 1 => ⟨S1x31x128, .f32⟩
  | 2 => ⟨S1x3x128, .f32⟩
  | 3 => ⟨S1x448, .f32⟩
  | 4 => ⟨S1x128, .f32⟩
  | 5 => ⟨S1x64x128, .f32⟩
  | 6 => ⟨S1x128, .f32⟩
  | 7 => ⟨S1x64x128, .f32⟩
  | 8 => ⟨S1x128x128, .f32⟩
  | 9 => ⟨S1x128, .f32⟩
  | 10 => ⟨S1x128, .f32⟩
  | 11 => ⟨S1x128, .f32⟩
  | 12 => ⟨S1x128, .f32⟩
  | 13 => ⟨S2x3x704, .f32⟩
  | 14 => ⟨S2x1024, .f32⟩
  | 15 => ⟨S2x1024, .f32⟩
  | 16 => ⟨S1024, .f32⟩
  | 17 => ⟨S1x512, .f32⟩
  | 18 => ⟨S1x512, .f32⟩
  | 19 => ⟨S1x8, .f32⟩
  | 20 => ⟨S1x8x64, .f32⟩
  | 21 => ⟨S2x2816, .f32⟩
  | 22 => ⟨S16x256, .f32⟩
  | 23 => ⟨S1x31x128, .f32⟩
  | 24 => ⟨S1x3x128, .f32⟩
  | 25 => ⟨S1x448, .f32⟩
  | 26 => ⟨S1x128, .f32⟩
  | 27 => ⟨S1x64x128, .f32⟩
  | 28 => ⟨S1x128, .f32⟩
  | 29 => ⟨S1x64x128, .f32⟩
  | 30 => ⟨S1x128x128, .f32⟩
  | 31 => ⟨S1x128, .f32⟩
  | 32 => ⟨S1x128, .f32⟩
  | 33 => ⟨S1x128, .f32⟩
  | 34 => ⟨S1x128, .f32⟩
  | 35 => ⟨S2x3x704, .f32⟩
  | 36 => ⟨S2x1024, .f32⟩
  | 37 => ⟨S2x1024, .f32⟩
  | 38 => ⟨S1024, .f32⟩
  | 39 => ⟨S1x512, .f32⟩
  | 40 => ⟨S1x512, .f32⟩
  | 41 => ⟨S1x8, .f32⟩
  | 42 => ⟨S1x8x64, .f32⟩
  | 43 => ⟨S2x2816, .f32⟩
  | 44 => ⟨S16x256, .f32⟩
  | 45 => ⟨S1x31x128, .f32⟩
  | 46 => ⟨S1x3x128, .f32⟩
  | 47 => ⟨S1x448, .f32⟩
  | 48 => ⟨S1x128, .f32⟩
  | 49 => ⟨S1x64x128, .f32⟩
  | 50 => ⟨S1x128, .f32⟩
  | 51 => ⟨S1x64x128, .f32⟩
  | 52 => ⟨S1x128x128, .f32⟩
  | 53 => ⟨S1x128, .f32⟩
  | 54 => ⟨S1x128, .f32⟩
  | 55 => ⟨S1x128, .f32⟩
  | 56 => ⟨S1x128, .f32⟩
  | 57 => ⟨S2x3x704, .f32⟩
  | 58 => ⟨S2x1024, .f32⟩
  | 59 => ⟨S2x1024, .f32⟩
  | 60 => ⟨S1024, .f32⟩
  | 61 => ⟨S1x512, .f32⟩
  | 62 => ⟨S1x512, .f32⟩
  | 63 => ⟨S1x8, .f32⟩
  | 64 => ⟨S1x8x64, .f32⟩
  | 65 => ⟨S2x2816, .f32⟩
  | 66 => ⟨S16x256, .f32⟩
  | 67 => ⟨S1x31x128, .f32⟩
  | 68 => ⟨S1x3x128, .f32⟩
  | 69 => ⟨S1x448, .f32⟩
  | 70 => ⟨S1x128, .f32⟩
  | 71 => ⟨S1x64x128, .f32⟩
  | 72 => ⟨S1x128, .f32⟩
  | 73 => ⟨S1x64x128, .f32⟩
  | 74 => ⟨S1x128x128, .f32⟩
  | 75 => ⟨S1x128, .f32⟩
  | 76 => ⟨S1x128, .f32⟩
  | 77 => ⟨S1x128, .f32⟩
  | 78 => ⟨S1x128, .f32⟩
  | 79 => ⟨S2x3x704, .f32⟩
  | 80 => ⟨S2x1024, .f32⟩
  | 81 => ⟨S2x1024, .f32⟩
  | 82 => ⟨S1024, .f32⟩
  | 83 => ⟨S1x512, .f32⟩
  | 84 => ⟨S1x512, .f32⟩
  | 85 => ⟨S1x8, .f32⟩
  | 86 => ⟨S1x8x64, .f32⟩
  | 87 => ⟨S2x2816, .f32⟩
  | 88 => ⟨S4096, .f32⟩
  | 89 => ⟨S3968, .f32⟩
  | 90 => ⟨S384, .f32⟩
  | 91 => ⟨S448, .f32⟩
  | 92 => ⟨S128, .f32⟩
  | 93 => ⟨S8192, .f32⟩
  | 94 => ⟨S128, .f32⟩
  | 95 => ⟨S8192, .f32⟩
  | 96 => ⟨S16384, .f32⟩
  | 97 => ⟨S128, .f32⟩
  | 98 => ⟨S128, .f32⟩
  | 99 => ⟨S128, .f32⟩
  | 100 => ⟨S128, .f32⟩
  | 101 => ⟨S4224, .f32⟩
  | 102 => ⟨S2048, .f32⟩
  | 103 => ⟨S2048, .f32⟩
  | 104 => ⟨S512, .f32⟩
  | 105 => ⟨S512, .f32⟩
  | 106 => ⟨S8, .f32⟩
  | 107 => ⟨S512, .f32⟩
  | 108 => ⟨S5632, .f32⟩
  | 109 => ⟨S50752, .f32⟩
  | 110 => ⟨S8200, .f32⟩
  | 111 => ⟨S58952, .f32⟩
  | 112 => ⟨S_, .i32⟩
  | 113 => ⟨S_, .f32⟩
  | 114 => ⟨S65536, .f32⟩
  | 115 => ⟨S64x1024, .f32⟩
  | 116 => ⟨S4096, .f32⟩
  | 117 => ⟨S3968, .f32⟩
  | 118 => ⟨S384, .f32⟩
  | 119 => ⟨S448, .f32⟩
  | 120 => ⟨S128, .f32⟩
  | 121 => ⟨S8192, .f32⟩
  | 122 => ⟨S128, .f32⟩
  | 123 => ⟨S8192, .f32⟩
  | 124 => ⟨S16384, .f32⟩
  | 125 => ⟨S128, .f32⟩
  | 126 => ⟨S128, .f32⟩
  | 127 => ⟨S128, .f32⟩
  | _ => ⟨S16x256, .f32⟩

abbrev hbmTy0_1 (i : Nat) : BufTy := match i % 128 with
  | 0 => ⟨S128, .f32⟩
  | 1 => ⟨S4224, .f32⟩
  | 2 => ⟨S2048, .f32⟩
  | 3 => ⟨S2048, .f32⟩
  | 4 => ⟨S512, .f32⟩
  | 5 => ⟨S512, .f32⟩
  | 6 => ⟨S8, .f32⟩
  | 7 => ⟨S512, .f32⟩
  | 8 => ⟨S5632, .f32⟩
  | 9 => ⟨S50752, .f32⟩
  | 10 => ⟨S8200, .f32⟩
  | 11 => ⟨S58952, .f32⟩
  | 12 => ⟨S_, .i32⟩
  | 13 => ⟨S_, .f32⟩
  | 14 => ⟨S65536, .f32⟩
  | 15 => ⟨S64x1024, .f32⟩
  | 16 => ⟨S4096, .f32⟩
  | 17 => ⟨S3968, .f32⟩
  | 18 => ⟨S384, .f32⟩
  | 19 => ⟨S448, .f32⟩
  | 20 => ⟨S128, .f32⟩
  | 21 => ⟨S8192, .f32⟩
  | 22 => ⟨S128, .f32⟩
  | 23 => ⟨S8192, .f32⟩
  | 24 => ⟨S16384, .f32⟩
  | 25 => ⟨S128, .f32⟩
  | 26 => ⟨S128, .f32⟩
  | 27 => ⟨S128, .f32⟩
  | 28 => ⟨S128, .f32⟩
  | 29 => ⟨S4224, .f32⟩
  | 30 => ⟨S2048, .f32⟩
  | 31 => ⟨S2048, .f32⟩
  | 32 => ⟨S512, .f32⟩
  | 33 => ⟨S512, .f32⟩
  | 34 => ⟨S8, .f32⟩
  | 35 => ⟨S512, .f32⟩
  | 36 => ⟨S5632, .f32⟩
  | 37 => ⟨S50752, .f32⟩
  | 38 => ⟨S8200, .f32⟩
  | 39 => ⟨S58952, .f32⟩
  | 40 => ⟨S_, .i32⟩
  | 41 => ⟨S_, .f32⟩
  | 42 => ⟨S65536, .f32⟩
  | 43 => ⟨S64x1024, .f32⟩
  | 44 => ⟨S4096, .f32⟩
  | 45 => ⟨S3968, .f32⟩
  | 46 => ⟨S384, .f32⟩
  | 47 => ⟨S448, .f32⟩
  | 48 => ⟨S128, .f32⟩
  | 49 => ⟨S8192, .f32⟩
  | 50 => ⟨S128, .f32⟩
  | 51 => ⟨S8192, .f32⟩
  | 52 => ⟨S16384, .f32⟩
  | 53 => ⟨S128, .f32⟩
  | 54 => ⟨S128, .f32⟩
  | 55 => ⟨S128, .f32⟩
  | 56 => ⟨S128, .f32⟩
  | 57 => ⟨S4224, .f32⟩
  | 58 => ⟨S2048, .f32⟩
  | 59 => ⟨S2048, .f32⟩
  | 60 => ⟨S512, .f32⟩
  | 61 => ⟨S512, .f32⟩
  | 62 => ⟨S8, .f32⟩
  | 63 => ⟨S512, .f32⟩
  | 64 => ⟨S5632, .f32⟩
  | 65 => ⟨S50752, .f32⟩
  | 66 => ⟨S8200, .f32⟩
  | 67 => ⟨S58952, .f32⟩
  | 68 => ⟨S_, .i32⟩
  | 69 => ⟨S_, .f32⟩
  | 70 => ⟨S65536, .f32⟩
  | 71 => ⟨S64x1024, .f32⟩
  | 72 => ⟨S64x1024, .f32⟩
  | 73 => ⟨S64x1024, .f32⟩
  | 74 => ⟨S64x1024, .f32⟩
  | 75 => ⟨S65536, .f32⟩
  | 76 => ⟨S4096, .f32⟩
  | 77 => ⟨S16x256, .f32⟩
  | 78 => ⟨S3968, .f32⟩
  | 79 => ⟨S1x31x128, .f32⟩
  | 80 => ⟨S384, .f32⟩
  | 81 => ⟨S1x3x128, .f32⟩
  | 82 => ⟨S448, .f32⟩
  | 83 => ⟨S1x448, .f32⟩
  | 84 => ⟨S128, .f32⟩
  | 85 => ⟨S1x128, .f32⟩
  | 86 => ⟨S8192, .f32⟩
  | 87 => ⟨S1x64x128, .f32⟩
  | 88 => ⟨S128, .f32⟩
  | 89 => ⟨S1x128, .f32⟩
  | 90 => ⟨S8192, .f32⟩
  | 91 => ⟨S1x64x128, .f32⟩
  | 92 => ⟨S16384, .f32⟩
  | 93 => ⟨S1x128x128, .f32⟩
  | 94 => ⟨S128, .f32⟩
  | 95 => ⟨S1x128, .f32⟩
  | 96 => ⟨S128, .f32⟩
  | 97 => ⟨S1x128, .f32⟩
  | 98 => ⟨S128, .f32⟩
  | 99 => ⟨S1x128, .f32⟩
  | 100 => ⟨S128, .f32⟩
  | 101 => ⟨S1x128, .f32⟩
  | 102 => ⟨S4224, .f32⟩
  | 103 => ⟨S2x3x704, .f32⟩
  | 104 => ⟨S2048, .f32⟩
  | 105 => ⟨S2x1024, .f32⟩
  | 106 => ⟨S2048, .f32⟩
  | 107 => ⟨S2x1024, .f32⟩
  | 108 => ⟨S1024, .f32⟩
  | 109 => ⟨S512, .f32⟩
  | 110 => ⟨S1x512, .f32⟩
  | 111 => ⟨S512, .f32⟩
  | 112 => ⟨S1x512, .f32⟩
  | 113 => ⟨S8, .f32⟩
  | 114 => ⟨S1x8, .f32⟩
  | 115 => ⟨S512, .f32⟩
  | 116 => ⟨S1x8x64, .f32⟩
  | 117 => ⟨S5632, .f32⟩
  | 118 => ⟨S2x2816, .f32⟩
  | 119 => ⟨S65536, .f32⟩
  | 120 => ⟨S4096, .f32⟩
  | 121 => ⟨S16x256, .f32⟩
  | 122 => ⟨S3968, .f32⟩
  | 123 => ⟨S1x31x128, .f32⟩
  | 124 => ⟨S384, .f32⟩
  | 125 => ⟨S1x3x128, .f32⟩
  | 126 => ⟨S448, .f32⟩
  | 127 => ⟨S1x448, .f32⟩
  | _ => ⟨S16x256, .f32⟩

abbrev hbmTy0_2 (i : Nat) : BufTy := match i % 128 with
  | 0 => ⟨S128, .f32⟩
  | 1 => ⟨S1x128, .f32⟩
  | 2 => ⟨S8192, .f32⟩
  | 3 => ⟨S1x64x128, .f32⟩
  | 4 => ⟨S128, .f32⟩
  | 5 => ⟨S1x128, .f32⟩
  | 6 => ⟨S8192, .f32⟩
  | 7 => ⟨S1x64x128, .f32⟩
  | 8 => ⟨S16384, .f32⟩
  | 9 => ⟨S1x128x128, .f32⟩
  | 10 => ⟨S128, .f32⟩
  | 11 => ⟨S1x128, .f32⟩
  | 12 => ⟨S128, .f32⟩
  | 13 => ⟨S1x128, .f32⟩
  | 14 => ⟨S128, .f32⟩
  | 15 => ⟨S1x128, .f32⟩
  | 16 => ⟨S128, .f32⟩
  | 17 => ⟨S1x128, .f32⟩
  | 18 => ⟨S4224, .f32⟩
  | 19 => ⟨S2x3x704, .f32⟩
  | 20 => ⟨S2048, .f32⟩
  | 21 => ⟨S2x1024, .f32⟩
  | 22 => ⟨S2048, .f32⟩
  | 23 => ⟨S2x1024, .f32⟩
  | 24 => ⟨S1024, .f32⟩
  | 25 => ⟨S512, .f32⟩
  | 26 => ⟨S1x512, .f32⟩
  | 27 => ⟨S512, .f32⟩
  | 28 => ⟨S1x512, .f32⟩
  | 29 => ⟨S8, .f32⟩
  | 30 => ⟨S1x8, .f32⟩
  | 31 => ⟨S512, .f32⟩
  | 32 => ⟨S1x8x64, .f32⟩
  | 33 => ⟨S5632, .f32⟩
  | 34 => ⟨S2x2816, .f32⟩
  | 35 => ⟨S65536, .f32⟩
  | 36 => ⟨S4096, .f32⟩
  | 37 => ⟨S16x256, .f32⟩
  | 38 => ⟨S3968, .f32⟩
  | 39 => ⟨S1x31x128, .f32⟩
  | 40 => ⟨S384, .f32⟩
  | 41 => ⟨S1x3x128, .f32⟩
  | 42 => ⟨S448, .f32⟩
  | 43 => ⟨S1x448, .f32⟩
  | 44 => ⟨S128, .f32⟩
  | 45 => ⟨S1x128, .f32⟩
  | 46 => ⟨S8192, .f32⟩
  | 47 => ⟨S1x64x128, .f32⟩
  | 48 => ⟨S128, .f32⟩
  | 49 => ⟨S1x128, .f32⟩
  | 50 => ⟨S8192, .f32⟩
  | 51 => ⟨S1x64x128, .f32⟩
  | 52 => ⟨S16384, .f32⟩
  | 53 => ⟨S1x128x128, .f32⟩
  | 54 => ⟨S128, .f32⟩
  | 55 => ⟨S1x128, .f32⟩
  | 56 => ⟨S128, .f32⟩
  | 57 => ⟨S1x128, .f32⟩
  | 58 => ⟨S128, .f32⟩
  | 59 => ⟨S1x128, .f32⟩
  | 60 => ⟨S128, .f32⟩
  | 61 => ⟨S1x128, .f32⟩
  | 62 => ⟨S4224, .f32⟩
  | 63 => ⟨S2x3x704, .f32⟩
  | 64 => ⟨S2048, .f32⟩
  | 65 => ⟨S2x1024, .f32⟩
  | 66 => ⟨S2048, .f32⟩
  | 67 => ⟨S2x1024, .f32⟩
  | 68 => ⟨S1024, .f32⟩
  | 69 => ⟨S512, .f32⟩
  | 70 => ⟨S1x512, .f32⟩
  | 71 => ⟨S512, .f32⟩
  | 72 => ⟨S1x512, .f32⟩
  | 73 => ⟨S8, .f32⟩
  | 74 => ⟨S1x8, .f32⟩
  | 75 => ⟨S512, .f32⟩
  | 76 => ⟨S1x8x64, .f32⟩
  | 77 => ⟨S5632, .f32⟩
  | 78 => ⟨S2x2816, .f32⟩
  | _ => ⟨S16x256, .f32⟩

abbrev hbmTy (i : Nat) : BufTy := match i / 128 with
  | 0 => hbmTy0_0 i
  | 1 => hbmTy0_1 i
  | 2 => hbmTy0_2 i
  | _ => ⟨S16x256, .f32⟩

abbrev bufTy : (tb : Table) → Fin (tcTables nBuf tb) → BufTy
  | .hbm, ⟨i, _⟩ => hbmTy i
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_arg60 : Ref sig .tc := ⟨.hbm, 60, rfl⟩
abbrev main_arg61 : Ref sig .tc := ⟨.hbm, 61, rfl⟩
abbrev main_arg62 : Ref sig .tc := ⟨.hbm, 62, rfl⟩
abbrev main_arg63 : Ref sig .tc := ⟨.hbm, 63, rfl⟩
abbrev main_arg64 : Ref sig .tc := ⟨.hbm, 64, rfl⟩
abbrev main_arg65 : Ref sig .tc := ⟨.hbm, 65, rfl⟩
abbrev main_arg66 : Ref sig .tc := ⟨.hbm, 66, rfl⟩
abbrev main_arg67 : Ref sig .tc := ⟨.hbm, 67, rfl⟩
abbrev main_arg68 : Ref sig .tc := ⟨.hbm, 68, rfl⟩
abbrev main_arg69 : Ref sig .tc := ⟨.hbm, 69, rfl⟩
abbrev main_arg70 : Ref sig .tc := ⟨.hbm, 70, rfl⟩
abbrev main_arg71 : Ref sig .tc := ⟨.hbm, 71, rfl⟩
abbrev main_arg72 : Ref sig .tc := ⟨.hbm, 72, rfl⟩
abbrev main_arg73 : Ref sig .tc := ⟨.hbm, 73, rfl⟩
abbrev main_arg74 : Ref sig .tc := ⟨.hbm, 74, rfl⟩
abbrev main_arg75 : Ref sig .tc := ⟨.hbm, 75, rfl⟩
abbrev main_arg76 : Ref sig .tc := ⟨.hbm, 76, rfl⟩
abbrev main_arg77 : Ref sig .tc := ⟨.hbm, 77, rfl⟩
abbrev main_arg78 : Ref sig .tc := ⟨.hbm, 78, rfl⟩
abbrev main_arg79 : Ref sig .tc := ⟨.hbm, 79, rfl⟩
abbrev main_arg80 : Ref sig .tc := ⟨.hbm, 80, rfl⟩
abbrev main_arg81 : Ref sig .tc := ⟨.hbm, 81, rfl⟩
abbrev main_arg82 : Ref sig .tc := ⟨.hbm, 82, rfl⟩
abbrev main_arg83 : Ref sig .tc := ⟨.hbm, 83, rfl⟩
abbrev main_arg84 : Ref sig .tc := ⟨.hbm, 84, rfl⟩
abbrev main_arg85 : Ref sig .tc := ⟨.hbm, 85, rfl⟩
abbrev main_arg86 : Ref sig .tc := ⟨.hbm, 86, rfl⟩
abbrev main_arg87 : Ref sig .tc := ⟨.hbm, 87, rfl⟩
abbrev main_v0 : Ref sig .tc := ⟨.hbm, 88, rfl⟩
abbrev main_v1 : Ref sig .tc := ⟨.hbm, 89, rfl⟩
abbrev main_v2 : Ref sig .tc := ⟨.hbm, 90, rfl⟩
abbrev main_v3 : Ref sig .tc := ⟨.hbm, 91, rfl⟩
abbrev main_v4 : Ref sig .tc := ⟨.hbm, 92, rfl⟩
abbrev main_v5 : Ref sig .tc := ⟨.hbm, 93, rfl⟩
abbrev main_v6 : Ref sig .tc := ⟨.hbm, 94, rfl⟩
abbrev main_v7 : Ref sig .tc := ⟨.hbm, 95, rfl⟩
abbrev main_v8 : Ref sig .tc := ⟨.hbm, 96, rfl⟩
abbrev main_v9 : Ref sig .tc := ⟨.hbm, 97, rfl⟩
abbrev main_v10 : Ref sig .tc := ⟨.hbm, 98, rfl⟩
abbrev main_v11 : Ref sig .tc := ⟨.hbm, 99, rfl⟩
abbrev main_v12 : Ref sig .tc := ⟨.hbm, 100, rfl⟩
abbrev main_v13 : Ref sig .tc := ⟨.hbm, 101, rfl⟩
abbrev main_v14 : Ref sig .tc := ⟨.hbm, 102, rfl⟩
abbrev main_v15 : Ref sig .tc := ⟨.hbm, 103, rfl⟩
abbrev main_v16 : Ref sig .tc := ⟨.hbm, 104, rfl⟩
abbrev main_v17 : Ref sig .tc := ⟨.hbm, 105, rfl⟩
abbrev main_v18 : Ref sig .tc := ⟨.hbm, 106, rfl⟩
abbrev main_v19 : Ref sig .tc := ⟨.hbm, 107, rfl⟩
abbrev main_v20 : Ref sig .tc := ⟨.hbm, 108, rfl⟩
abbrev main_v21 : Ref sig .tc := ⟨.hbm, 109, rfl⟩
abbrev main_v22 : Ref sig .tc := ⟨.hbm, 110, rfl⟩
abbrev main_v23 : Ref sig .tc := ⟨.hbm, 111, rfl⟩
abbrev main_c : Ref sig .tc := ⟨.hbm, 112, rfl⟩
abbrev main_call0_v0 : Ref sig .tc := ⟨.hbm, 113, rfl⟩
abbrev main_v24 : Ref sig .tc := ⟨.hbm, 114, rfl⟩
abbrev main_v25 : Ref sig .tc := ⟨.hbm, 115, rfl⟩
abbrev main_v26 : Ref sig .tc := ⟨.hbm, 116, rfl⟩
abbrev main_v27 : Ref sig .tc := ⟨.hbm, 117, rfl⟩
abbrev main_v28 : Ref sig .tc := ⟨.hbm, 118, rfl⟩
abbrev main_v29 : Ref sig .tc := ⟨.hbm, 119, rfl⟩
abbrev main_v30 : Ref sig .tc := ⟨.hbm, 120, rfl⟩
abbrev main_v31 : Ref sig .tc := ⟨.hbm, 121, rfl⟩
abbrev main_v32 : Ref sig .tc := ⟨.hbm, 122, rfl⟩
abbrev main_v33 : Ref sig .tc := ⟨.hbm, 123, rfl⟩
abbrev main_v34 : Ref sig .tc := ⟨.hbm, 124, rfl⟩
abbrev main_v35 : Ref sig .tc := ⟨.hbm, 125, rfl⟩
abbrev main_v36 : Ref sig .tc := ⟨.hbm, 126, rfl⟩
abbrev main_v37 : Ref sig .tc := ⟨.hbm, 127, rfl⟩
abbrev main_v38 : Ref sig .tc := ⟨.hbm, 128, rfl⟩
abbrev main_v39 : Ref sig .tc := ⟨.hbm, 129, rfl⟩
abbrev main_v40 : Ref sig .tc := ⟨.hbm, 130, rfl⟩
abbrev main_v41 : Ref sig .tc := ⟨.hbm, 131, rfl⟩
abbrev main_v42 : Ref sig .tc := ⟨.hbm, 132, rfl⟩
abbrev main_v43 : Ref sig .tc := ⟨.hbm, 133, rfl⟩
abbrev main_v44 : Ref sig .tc := ⟨.hbm, 134, rfl⟩
abbrev main_v45 : Ref sig .tc := ⟨.hbm, 135, rfl⟩
abbrev main_v46 : Ref sig .tc := ⟨.hbm, 136, rfl⟩
abbrev main_v47 : Ref sig .tc := ⟨.hbm, 137, rfl⟩
abbrev main_v48 : Ref sig .tc := ⟨.hbm, 138, rfl⟩
abbrev main_v49 : Ref sig .tc := ⟨.hbm, 139, rfl⟩
abbrev main_c_0 : Ref sig .tc := ⟨.hbm, 140, rfl⟩
abbrev main_call1_v0 : Ref sig .tc := ⟨.hbm, 141, rfl⟩
abbrev main_v50 : Ref sig .tc := ⟨.hbm, 142, rfl⟩
abbrev main_v51 : Ref sig .tc := ⟨.hbm, 143, rfl⟩
abbrev main_v52 : Ref sig .tc := ⟨.hbm, 144, rfl⟩
abbrev main_v53 : Ref sig .tc := ⟨.hbm, 145, rfl⟩
abbrev main_v54 : Ref sig .tc := ⟨.hbm, 146, rfl⟩
abbrev main_v55 : Ref sig .tc := ⟨.hbm, 147, rfl⟩
abbrev main_v56 : Ref sig .tc := ⟨.hbm, 148, rfl⟩
abbrev main_v57 : Ref sig .tc := ⟨.hbm, 149, rfl⟩
abbrev main_v58 : Ref sig .tc := ⟨.hbm, 150, rfl⟩
abbrev main_v59 : Ref sig .tc := ⟨.hbm, 151, rfl⟩
abbrev main_v60 : Ref sig .tc := ⟨.hbm, 152, rfl⟩
abbrev main_v61 : Ref sig .tc := ⟨.hbm, 153, rfl⟩
abbrev main_v62 : Ref sig .tc := ⟨.hbm, 154, rfl⟩
abbrev main_v63 : Ref sig .tc := ⟨.hbm, 155, rfl⟩
abbrev main_v64 : Ref sig .tc := ⟨.hbm, 156, rfl⟩
abbrev main_v65 : Ref sig .tc := ⟨.hbm, 157, rfl⟩
abbrev main_v66 : Ref sig .tc := ⟨.hbm, 158, rfl⟩
abbrev main_v67 : Ref sig .tc := ⟨.hbm, 159, rfl⟩
abbrev main_v68 : Ref sig .tc := ⟨.hbm, 160, rfl⟩
abbrev main_v69 : Ref sig .tc := ⟨.hbm, 161, rfl⟩
abbrev main_v70 : Ref sig .tc := ⟨.hbm, 162, rfl⟩
abbrev main_v71 : Ref sig .tc := ⟨.hbm, 163, rfl⟩
abbrev main_v72 : Ref sig .tc := ⟨.hbm, 164, rfl⟩
abbrev main_v73 : Ref sig .tc := ⟨.hbm, 165, rfl⟩
abbrev main_v74 : Ref sig .tc := ⟨.hbm, 166, rfl⟩
abbrev main_v75 : Ref sig .tc := ⟨.hbm, 167, rfl⟩
abbrev main_c_1 : Ref sig .tc := ⟨.hbm, 168, rfl⟩
abbrev main_call2_v0 : Ref sig .tc := ⟨.hbm, 169, rfl⟩
abbrev main_v76 : Ref sig .tc := ⟨.hbm, 170, rfl⟩
abbrev main_v77 : Ref sig .tc := ⟨.hbm, 171, rfl⟩
abbrev main_v78 : Ref sig .tc := ⟨.hbm, 172, rfl⟩
abbrev main_v79 : Ref sig .tc := ⟨.hbm, 173, rfl⟩
abbrev main_v80 : Ref sig .tc := ⟨.hbm, 174, rfl⟩
abbrev main_v81 : Ref sig .tc := ⟨.hbm, 175, rfl⟩
abbrev main_v82 : Ref sig .tc := ⟨.hbm, 176, rfl⟩
abbrev main_v83 : Ref sig .tc := ⟨.hbm, 177, rfl⟩
abbrev main_v84 : Ref sig .tc := ⟨.hbm, 178, rfl⟩
abbrev main_v85 : Ref sig .tc := ⟨.hbm, 179, rfl⟩
abbrev main_v86 : Ref sig .tc := ⟨.hbm, 180, rfl⟩
abbrev main_v87 : Ref sig .tc := ⟨.hbm, 181, rfl⟩
abbrev main_v88 : Ref sig .tc := ⟨.hbm, 182, rfl⟩
abbrev main_v89 : Ref sig .tc := ⟨.hbm, 183, rfl⟩
abbrev main_v90 : Ref sig .tc := ⟨.hbm, 184, rfl⟩
abbrev main_v91 : Ref sig .tc := ⟨.hbm, 185, rfl⟩
abbrev main_v92 : Ref sig .tc := ⟨.hbm, 186, rfl⟩
abbrev main_v93 : Ref sig .tc := ⟨.hbm, 187, rfl⟩
abbrev main_v94 : Ref sig .tc := ⟨.hbm, 188, rfl⟩
abbrev main_v95 : Ref sig .tc := ⟨.hbm, 189, rfl⟩
abbrev main_v96 : Ref sig .tc := ⟨.hbm, 190, rfl⟩
abbrev main_v97 : Ref sig .tc := ⟨.hbm, 191, rfl⟩
abbrev main_v98 : Ref sig .tc := ⟨.hbm, 192, rfl⟩
abbrev main_v99 : Ref sig .tc := ⟨.hbm, 193, rfl⟩
abbrev main_v100 : Ref sig .tc := ⟨.hbm, 194, rfl⟩
abbrev main_v101 : Ref sig .tc := ⟨.hbm, 195, rfl⟩
abbrev main_c_2 : Ref sig .tc := ⟨.hbm, 196, rfl⟩
abbrev main_call3_v0 : Ref sig .tc := ⟨.hbm, 197, rfl⟩
abbrev main_v102 : Ref sig .tc := ⟨.hbm, 198, rfl⟩
abbrev main_v103 : Ref sig .tc := ⟨.hbm, 199, rfl⟩
abbrev main_v104_0 : Ref sig .tc := ⟨.hbm, 200, rfl⟩
abbrev main_v104_1 : Ref sig .tc := ⟨.hbm, 201, rfl⟩
abbrev main_v104_2 : Ref sig .tc := ⟨.hbm, 202, rfl⟩
abbrev main_v105 : Ref sig .tc := ⟨.hbm, 203, rfl⟩
abbrev main_v106 : Ref sig .tc := ⟨.hbm, 204, rfl⟩
abbrev main_v107 : Ref sig .tc := ⟨.hbm, 205, rfl⟩
abbrev main_v108 : Ref sig .tc := ⟨.hbm, 206, rfl⟩
abbrev main_v109 : Ref sig .tc := ⟨.hbm, 207, rfl⟩
abbrev main_v110 : Ref sig .tc := ⟨.hbm, 208, rfl⟩
abbrev main_v111 : Ref sig .tc := ⟨.hbm, 209, rfl⟩
abbrev main_v112 : Ref sig .tc := ⟨.hbm, 210, rfl⟩
abbrev main_v113 : Ref sig .tc := ⟨.hbm, 211, rfl⟩
abbrev main_v114 : Ref sig .tc := ⟨.hbm, 212, rfl⟩
abbrev main_v115 : Ref sig .tc := ⟨.hbm, 213, rfl⟩
abbrev main_v116 : Ref sig .tc := ⟨.hbm, 214, rfl⟩
abbrev main_v117 : Ref sig .tc := ⟨.hbm, 215, rfl⟩
abbrev main_v118 : Ref sig .tc := ⟨.hbm, 216, rfl⟩
abbrev main_v119 : Ref sig .tc := ⟨.hbm, 217, rfl⟩
abbrev main_v120 : Ref sig .tc := ⟨.hbm, 218, rfl⟩
abbrev main_v121 : Ref sig .tc := ⟨.hbm, 219, rfl⟩
abbrev main_v122 : Ref sig .tc := ⟨.hbm, 220, rfl⟩
abbrev main_v123 : Ref sig .tc := ⟨.hbm, 221, rfl⟩
abbrev main_v124 : Ref sig .tc := ⟨.hbm, 222, rfl⟩
abbrev main_v125 : Ref sig .tc := ⟨.hbm, 223, rfl⟩
abbrev main_v126 : Ref sig .tc := ⟨.hbm, 224, rfl⟩
abbrev main_v127 : Ref sig .tc := ⟨.hbm, 225, rfl⟩
abbrev main_v128 : Ref sig .tc := ⟨.hbm, 226, rfl⟩
abbrev main_v129 : Ref sig .tc := ⟨.hbm, 227, rfl⟩
abbrev main_v130 : Ref sig .tc := ⟨.hbm, 228, rfl⟩
abbrev main_v131 : Ref sig .tc := ⟨.hbm, 229, rfl⟩
abbrev main_v132 : Ref sig .tc := ⟨.hbm, 230, rfl⟩
abbrev main_v133 : Ref sig .tc := ⟨.hbm, 231, rfl⟩
abbrev main_v134 : Ref sig .tc := ⟨.hbm, 232, rfl⟩
abbrev main_v135 : Ref sig .tc := ⟨.hbm, 233, rfl⟩
abbrev main_v136 : Ref sig .tc := ⟨.hbm, 234, rfl⟩
abbrev main_v137 : Ref sig .tc := ⟨.hbm, 235, rfl⟩
abbrev main_v138 : Ref sig .tc := ⟨.hbm, 236, rfl⟩
abbrev main_v139 : Ref sig .tc := ⟨.hbm, 237, rfl⟩
abbrev main_v140 : Ref sig .tc := ⟨.hbm, 238, rfl⟩
abbrev main_v141 : Ref sig .tc := ⟨.hbm, 239, rfl⟩
abbrev main_v142 : Ref sig .tc := ⟨.hbm, 240, rfl⟩
abbrev main_v143 : Ref sig .tc := ⟨.hbm, 241, rfl⟩
abbrev main_v144 : Ref sig .tc := ⟨.hbm, 242, rfl⟩
abbrev main_v145 : Ref sig .tc := ⟨.hbm, 243, rfl⟩
abbrev main_v146 : Ref sig .tc := ⟨.hbm, 244, rfl⟩
abbrev main_v147 : Ref sig .tc := ⟨.hbm, 245, rfl⟩
abbrev main_v148 : Ref sig .tc := ⟨.hbm, 246, rfl⟩
abbrev main_v149 : Ref sig .tc := ⟨.hbm, 247, rfl⟩
abbrev main_v150 : Ref sig .tc := ⟨.hbm, 248, rfl⟩
abbrev main_v151 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_v155 : Ref sig .tc := ⟨.hbm, 253, rfl⟩
abbrev main_v156 : Ref sig .tc := ⟨.hbm, 254, rfl⟩
abbrev main_v157 : Ref sig .tc := ⟨.hbm, 255, rfl⟩
abbrev main_v158 : Ref sig .tc := ⟨.hbm, 256, rfl⟩
abbrev main_v159 : Ref sig .tc := ⟨.hbm, 257, rfl⟩
abbrev main_v160 : Ref sig .tc := ⟨.hbm, 258, rfl⟩
abbrev main_v161 : Ref sig .tc := ⟨.hbm, 259, rfl⟩
abbrev main_v162 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_v166 : Ref sig .tc := ⟨.hbm, 264, rfl⟩
abbrev main_v167 : Ref sig .tc := ⟨.hbm, 265, rfl⟩
abbrev main_v168 : Ref sig .tc := ⟨.hbm, 266, rfl⟩
abbrev main_v169 : Ref sig .tc := ⟨.hbm, 267, rfl⟩
abbrev main_v170 : Ref sig .tc := ⟨.hbm, 268, rfl⟩
abbrev main_v171 : Ref sig .tc := ⟨.hbm, 269, rfl⟩
abbrev main_v172 : Ref sig .tc := ⟨.hbm, 270, rfl⟩
abbrev main_v173 : Ref sig .tc := ⟨.hbm, 271, rfl⟩
abbrev main_v174 : Ref sig .tc := ⟨.hbm, 272, rfl⟩
abbrev main_v175 : Ref sig .tc := ⟨.hbm, 273, rfl⟩
abbrev main_v176 : Ref sig .tc := ⟨.hbm, 274, rfl⟩
abbrev main_v177 : Ref sig .tc := ⟨.hbm, 275, rfl⟩
abbrev main_v178 : Ref sig .tc := ⟨.hbm, 276, rfl⟩
abbrev main_v179 : Ref sig .tc := ⟨.hbm, 277, rfl⟩
abbrev main_v180 : Ref sig .tc := ⟨.hbm, 278, rfl⟩
abbrev main_v181 : Ref sig .tc := ⟨.hbm, 279, rfl⟩
abbrev main_v182 : Ref sig .tc := ⟨.hbm, 280, rfl⟩
abbrev main_v183 : Ref sig .tc := ⟨.hbm, 281, rfl⟩
abbrev main_v184 : Ref sig .tc := ⟨.hbm, 282, rfl⟩
abbrev main_v185 : Ref sig .tc := ⟨.hbm, 283, rfl⟩
abbrev main_v186 : Ref sig .tc := ⟨.hbm, 284, rfl⟩
abbrev main_v187 : Ref sig .tc := ⟨.hbm, 285, rfl⟩
abbrev main_v188 : Ref sig .tc := ⟨.hbm, 286, rfl⟩
abbrev main_v189 : Ref sig .tc := ⟨.hbm, 287, rfl⟩
abbrev main_v190 : Ref sig .tc := ⟨.hbm, 288, rfl⟩
abbrev main_v191 : Ref sig .tc := ⟨.hbm, 289, rfl⟩
abbrev main_v192 : Ref sig .tc := ⟨.hbm, 290, rfl⟩
abbrev main_v193 : Ref sig .tc := ⟨.hbm, 291, rfl⟩
abbrev main_v194 : Ref sig .tc := ⟨.hbm, 292, rfl⟩
abbrev main_v195 : Ref sig .tc := ⟨.hbm, 293, rfl⟩
abbrev main_v196 : Ref sig .tc := ⟨.hbm, 294, rfl⟩
abbrev main_v197 : Ref sig .tc := ⟨.hbm, 295, rfl⟩
abbrev main_v198 : Ref sig .tc := ⟨.hbm, 296, rfl⟩
abbrev main_v199 : Ref sig .tc := ⟨.hbm, 297, rfl⟩
abbrev main_v200 : Ref sig .tc := ⟨.hbm, 298, rfl⟩
abbrev main_v201 : Ref sig .tc := ⟨.hbm, 299, rfl⟩
abbrev main_v202 : Ref sig .tc := ⟨.hbm, 300, rfl⟩
abbrev main_v203 : Ref sig .tc := ⟨.hbm, 301, rfl⟩
abbrev main_v204 : Ref sig .tc := ⟨.hbm, 302, rfl⟩
abbrev main_v205 : Ref sig .tc := ⟨.hbm, 303, rfl⟩
abbrev main_v206 : Ref sig .tc := ⟨.hbm, 304, rfl⟩
abbrev main_v207 : Ref sig .tc := ⟨.hbm, 305, rfl⟩
abbrev main_v208 : Ref sig .tc := ⟨.hbm, 306, rfl⟩
abbrev main_v209 : Ref sig .tc := ⟨.hbm, 307, rfl⟩
abbrev main_v210 : Ref sig .tc := ⟨.hbm, 308, rfl⟩
abbrev main_v211 : Ref sig .tc := ⟨.hbm, 309, rfl⟩
abbrev main_v212 : Ref sig .tc := ⟨.hbm, 310, rfl⟩
abbrev main_v213 : Ref sig .tc := ⟨.hbm, 311, rfl⟩
abbrev main_v214 : Ref sig .tc := ⟨.hbm, 312, rfl⟩
abbrev main_v215 : Ref sig .tc := ⟨.hbm, 313, rfl⟩
abbrev main_v216 : Ref sig .tc := ⟨.hbm, 314, rfl⟩
abbrev main_v217 : Ref sig .tc := ⟨.hbm, 315, rfl⟩
abbrev main_v218 : Ref sig .tc := ⟨.hbm, 316, rfl⟩
abbrev main_v219 : Ref sig .tc := ⟨.hbm, 317, rfl⟩
abbrev main_v220 : Ref sig .tc := ⟨.hbm, 318, rfl⟩
abbrev main_v221 : Ref sig .tc := ⟨.hbm, 319, rfl⟩
abbrev main_v222 : Ref sig .tc := ⟨.hbm, 320, rfl⟩
abbrev main_v223 : Ref sig .tc := ⟨.hbm, 321, rfl⟩
abbrev main_v224 : Ref sig .tc := ⟨.hbm, 322, rfl⟩
abbrev main_v225 : Ref sig .tc := ⟨.hbm, 323, rfl⟩
abbrev main_v226 : Ref sig .tc := ⟨.hbm, 324, rfl⟩
abbrev main_v227 : Ref sig .tc := ⟨.hbm, 325, rfl⟩
abbrev main_v228 : Ref sig .tc := ⟨.hbm, 326, rfl⟩
abbrev main_v229 : Ref sig .tc := ⟨.hbm, 327, rfl⟩
abbrev main_v230 : Ref sig .tc := ⟨.hbm, 328, rfl⟩
abbrev main_v231 : Ref sig .tc := ⟨.hbm, 329, rfl⟩
abbrev main_v232 : Ref sig .tc := ⟨.hbm, 330, rfl⟩
abbrev main_v233 : Ref sig .tc := ⟨.hbm, 331, rfl⟩
abbrev main_v234 : Ref sig .tc := ⟨.hbm, 332, rfl⟩
abbrev main_v235 : Ref sig .tc := ⟨.hbm, 333, rfl⟩
abbrev main_v236 : Ref sig .tc := ⟨.hbm, 334, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallRefIdeal.lean ====
abbrev S16x256 : Shape := ⟨2, ![16, 256]⟩
abbrev S1x31x128 : Shape := ⟨3, ![1, 31, 128]⟩
abbrev S1x3x128 : Shape := ⟨3, ![1, 3, 128]⟩
abbrev S1x448 : Shape := ⟨2, ![1, 448]⟩
abbrev S1x128 : Shape := ⟨2, ![1, 128]⟩
abbrev S1x64x128 : Shape := ⟨3, ![1, 64, 128]⟩
abbrev S1x128x128 : Shape := ⟨3, ![1, 128, 128]⟩
abbrev S2x3x704 : Shape := ⟨3, ![2, 3, 704]⟩
abbrev S2x1024 : Shape := ⟨2, ![2, 1024]⟩
abbrev S1024 : Shape := ⟨1, ![1024]⟩
abbrev S1x512 : Shape := ⟨2, ![1, 512]⟩
abbrev S1x8 : Shape := ⟨2, ![1, 8]⟩
abbrev S1x8x64 : Shape := ⟨3, ![1, 8, 64]⟩
abbrev S2x2816 : Shape := ⟨2, ![2, 2816]⟩
abbrev S_ : Shape := ⟨0, ![]⟩

abbrev nBuf : Space → Nat
  | .hbm => 814
  | .vmem => 0
  | .smem => 0
  | _ => 0

abbrev hbmTy0_0 (i : Nat) : BufTy := match i % 128 with
  | 0 => ⟨S16x256, .f32⟩
  | 1 => ⟨S1x31x128, .f32⟩
  | 2 => ⟨S1x3x128, .f32⟩
  | 3 => ⟨S1x448, .f32⟩
  | 4 => ⟨S1x128, .f32⟩
  | 5 => ⟨S1x64x128, .f32⟩
  | 6 => ⟨S1x128, .f32⟩
  | 7 => ⟨S1x64x128, .f32⟩
  | 8 => ⟨S1x128x128, .f32⟩
  | 9 => ⟨S1x128, .f32⟩
  | 10 => ⟨S1x128, .f32⟩
  | 11 => ⟨S1x128, .f32⟩
  | 12 => ⟨S1x128, .f32⟩
  | 13 => ⟨S2x3x704, .f32⟩
  | 14 => ⟨S2x1024, .f32⟩
  | 15 => ⟨S2x1024, .f32⟩
  | 16 => ⟨S1024, .f32⟩
  | 17 => ⟨S1x512, .f32⟩
  | 18 => ⟨S1x512, .f32⟩
  | 19 => ⟨S1x8, .f32⟩
  | 20 => ⟨S1x8x64, .f32⟩
  | 21 => ⟨S2x2816, .f32⟩
  | 22 => ⟨S16x256, .f32⟩
  | 23 => ⟨S1x31x128, .f32⟩
  | 24 => ⟨S1x3x128, .f32⟩
  | 25 => ⟨S1x448, .f32⟩
  | 26 => ⟨S1x128, .f32⟩
  | 27 => ⟨S1x64x128, .f32⟩
  | 28 => ⟨S1x128, .f32⟩
  | 29 => ⟨S1x64x128, .f32⟩
  | 30 => ⟨S1x128x128, .f32⟩
  | 31 => ⟨S1x128, .f32⟩
  | 32 => ⟨S1x128, .f32⟩
  | 33 => ⟨S1x128, .f32⟩
  | 34 => ⟨S1x128, .f32⟩
  | 35 => ⟨S2x3x704, .f32⟩
  | 36 => ⟨S2x1024, .f32⟩
  | 37 => ⟨S2x1024, .f32⟩
  | 38 => ⟨S1024, .f32⟩
  | 39 => ⟨S1x512, .f32⟩
  | 40 => ⟨S1x512, .f32⟩
  | 41 => ⟨S1x8, .f32⟩
  | 42 => ⟨S1x8x64, .f32⟩
  | 43 => ⟨S2x2816, .f32⟩
  | 44 => ⟨S16x256, .f32⟩
  | 45 => ⟨S1x31x128, .f32⟩
  | 46 => ⟨S1x3x128, .f32⟩
  | 47 => ⟨S1x448, .f32⟩
  | 48 => ⟨S1x128, .f32⟩
  | 49 => ⟨S1x64x128, .f32⟩
  | 50 => ⟨S1x128, .f32⟩
  | 51 => ⟨S1x64x128, .f32⟩
  | 52 => ⟨S1x128x128, .f32⟩
  | 53 => ⟨S1x128, .f32⟩
  | 54 => ⟨S1x128, .f32⟩
  | 55 => ⟨S1x128, .f32⟩
  | 56 => ⟨S1x128, .f32⟩
  | 57 => ⟨S2x3x704, .f32⟩
  | 58 => ⟨S2x1024, .f32⟩
  | 59 => ⟨S2x1024, .f32⟩
  | 60 => ⟨S1024, .f32⟩
  | 61 => ⟨S1x512, .f32⟩
  | 62 => ⟨S1x512, .f32⟩
  | 63 => ⟨S1x8, .f32⟩
  | 64 => ⟨S1x8x64, .f32⟩
  | 65 => ⟨S2x2816, .f32⟩
  | 66 => ⟨S16x256, .f32⟩
  | 67 => ⟨S1x31x128, .f32⟩
  | 68 => ⟨S1x3x128, .f32⟩
  | 69 => ⟨S1x448, .f32⟩
  | 70 => ⟨S1x128, .f32⟩
  | 71 => ⟨S1x64x128, .f32⟩
  | 72 => ⟨S1x128, .f32⟩
  | 73 => ⟨S1x64x128, .f32⟩
  | 74 => ⟨S1x128x128, .f32⟩
  | 75 => ⟨S1x128, .f32⟩
  | 76 => ⟨S1x128, .f32⟩
  | 77 => ⟨S1x128, .f32⟩
  | 78 => ⟨S1x128, .f32⟩
  | 79 => ⟨S2x3x704, .f32⟩
  | 80 => ⟨S2x1024, .f32⟩
  | 81 => ⟨S2x1024, .f32⟩
  | 82 => ⟨S1024, .f32⟩
  | 83 => ⟨S1x512, .f32⟩
  | 84 => ⟨S1x512, .f32⟩
  | 85 => ⟨S1x8, .f32⟩
  | 86 => ⟨S1x8x64, .f32⟩
  | 87 => ⟨S2x2816, .f32⟩
  | 88 => ⟨S_, .f32⟩
  | 89 => ⟨S16x256, .f32⟩
  | 90 => ⟨S16x256, .f32⟩
  | 91 => ⟨S_, .f32⟩
  | 92 => ⟨S16x256, .f32⟩
  | 93 => ⟨S16x256, .f32⟩
  | 94 => ⟨S16x256, .f32⟩
  | 95 => ⟨S_, .f32⟩
  | 96 => ⟨S16x256, .f32⟩
  | 97 => ⟨S16x256, .f32⟩
  | 98 => ⟨S16x256, .f32⟩
  | 99 => ⟨S_, .f32⟩
  | 100 => ⟨S16x256, .f32⟩
  | 101 => ⟨S16x256, .f32⟩
  | 102 => ⟨S16x256, .f32⟩
  | 103 => ⟨S_, .f32⟩
  | 104 => ⟨S16x256, .f32⟩
  | 105 => ⟨S16x256, .f32⟩
  | 106 => ⟨S_, .f32⟩
  | 107 => ⟨S16x256, .f32⟩
  | 108 => ⟨S16x256, .f32⟩
  | 109 => ⟨S16x256, .f32⟩
  | 110 => ⟨S_, .f32⟩
  | 111 => ⟨S16x256, .f32⟩
  | 112 => ⟨S16x256, .f32⟩
  | 113 => ⟨S16x256, .f32⟩
  | 114 => ⟨S_, .f32⟩
  | 115 => ⟨S16x256, .f32⟩
  | 116 => ⟨S16x256, .f32⟩
  | 117 => ⟨S16x256, .f32⟩
  | 118 => ⟨S_, .f32⟩
  | 119 => ⟨S16x256, .f32⟩
  | 120 => ⟨S16x256, .f32⟩
  | 121 => ⟨S_, .f32⟩
  | 122 => ⟨S1x31x128, .f32⟩
  | 123 => ⟨S1x31x128, .f32⟩
  | 124 => ⟨S_, .f32⟩
  | 125 => ⟨S1x31x128, .f32⟩
  | 126 => ⟨S1x31x128, .f32⟩
  | 127 => ⟨S1x31x128, .f32⟩
  | _ => ⟨S16x256, .f32⟩

abbrev hbmTy0_1 (i : Nat) : BufTy := match i % 128 with
  | 0 => ⟨S_, .f32⟩
  | 1 => ⟨S1x31x128, .f32⟩
  | 2 => ⟨S1x31x128, .f32⟩
  | 3 => ⟨S1x31x128, .f32⟩
  | 4 => ⟨S_, .f32⟩
  | 5 => ⟨S1x31x128, .f32⟩
  | 6 => ⟨S1x31x128, .f32⟩
  | 7 => ⟨S1x31x128, .f32⟩
  | 8 => ⟨S_, .f32⟩
  | 9 => ⟨S1x31x128, .f32⟩
  | 10 => ⟨S1x31x128, .f32⟩
  | 11 => ⟨S_, .f32⟩
  | 12 => ⟨S1x31x128, .f32⟩
  | 13 => ⟨S1x31x128, .f32⟩
  | 14 => ⟨S1x31x128, .f32⟩
  | 15 => ⟨S_, .f32⟩
  | 16 => ⟨S1x31x128, .f32⟩
  | 17 => ⟨S1x31x128, .f32⟩
  | 18 => ⟨S1x31x128, .f32⟩
  | 19 => ⟨S_, .f32⟩
  | 20 => ⟨S1x31x128, .f32⟩
  | 21 => ⟨S1x31x128, .f32⟩
  | 22 => ⟨S1x31x128, .f32⟩
  | 23 => ⟨S_, .f32⟩
  | 24 => ⟨S1x31x128, .f32⟩
  | 25 => ⟨S1x31x128, .f32⟩
  | 26 => ⟨S_, .f32⟩
  | 27 => ⟨S1x3x128, .f32⟩
  | 28 => ⟨S1x3x128, .f32⟩
  | 29 => ⟨S_, .f32⟩
  | 30 => ⟨S1x3x128, .f32⟩
  | 31 => ⟨S1x3x128, .f32⟩
  | 32 => ⟨S1x3x128, .f32⟩
  | 33 => ⟨S_, .f32⟩
  | 34 => ⟨S1x3x128, .f32⟩
  | 35 => ⟨S1x3x128, .f32⟩
  | 36 => ⟨S1x3x128, .f32⟩
  | 37 => ⟨S_, .f32⟩
  | 38 => ⟨S1x3x128, .f32⟩
  | 39 => ⟨S1x3x128, .f32⟩
  | 40 => ⟨S1x3x128, .f32⟩
  | 41 => ⟨S_, .f32⟩
  | 42 => ⟨S1x3x128, .f32⟩
  | 43 => ⟨S1x3x128, .f32⟩
  | 44 => ⟨S_, .f32⟩
  | 45 => ⟨S1x3x128, .f32⟩
  | 46 => ⟨S1x3x128, .f32⟩
  | 47 => ⟨S1x3x128, .f32⟩
  | 48 => ⟨S_, .f32⟩
  | 49 => ⟨S1x3x128, .f32⟩
  | 50 => ⟨S1x3x128, .f32⟩
  | 51 => ⟨S1x3x128, .f32⟩
  | 52 => ⟨S_, .f32⟩
  | 53 => ⟨S1x3x128, .f32⟩
  | 54 => ⟨S1x3x128, .f32⟩
  | 55 => ⟨S1x3x128, .f32⟩
  | 56 => ⟨S_, .f32⟩
  | 57 => ⟨S1x3x128, .f32⟩
  | 58 => ⟨S1x3x128, .f32⟩
  | 59 => ⟨S_, .f32⟩
  | 60 => ⟨S1x448, .f32⟩
  | 61 => ⟨S1x448, .f32⟩
  | 62 => ⟨S_, .f32⟩
  | 63 => ⟨S1x448, .f32⟩
  | 64 => ⟨S1x448, .f32⟩
  | 65 => ⟨S1x448, .f32⟩
  | 66 => ⟨S_, .f32⟩
  | 67 => ⟨S1x448, .f32⟩
  | 68 => ⟨S1x448, .f32⟩
  | 69 => ⟨S1x448, .f32⟩
  | 70 => ⟨S_, .f32⟩
  | 71 => ⟨S1x448, .f32⟩
  | 72 => ⟨S1x448, .f32⟩
  | 73 => ⟨S1x448, .f32⟩
  | 74 => ⟨S_, .f32⟩
  | 75 => ⟨S1x448, .f32⟩
  | 76 => ⟨S1x448, .f32⟩
  | 77 => ⟨S_, .f32⟩
  | 78 => ⟨S1x448, .f32⟩
  | 79 => ⟨S1x448, .f32⟩
  | 80 => ⟨S1x448, .f32⟩
  | 81 => ⟨S_, .f32⟩
  | 82 => ⟨S1x448, .f32⟩
  | 83 => ⟨S1x448, .f32⟩
  | 84 => ⟨S1x448, .f32⟩
  | 85 => ⟨S_, .f32⟩
  | 86 => ⟨S1x448, .f32⟩
  | 87 => ⟨S1x448, .f32⟩
  | 88 => ⟨S1x448, .f32⟩
  | 89 => ⟨S_, .f32⟩
  | 90 => ⟨S1x448, .f32⟩
  | 91 => ⟨S1x448, .f32⟩
  | 92 => ⟨S_, .f32⟩
  | 93 => ⟨S1x128, .f32⟩
  | 94 => ⟨S1x128, .f32⟩
  | 95 => ⟨S_, .f32⟩
  | 96 => ⟨S1x128, .f32⟩
  | 97 => ⟨S1x128, .f32⟩
  | 98 => ⟨S1x128, .f32⟩
  | 99 => ⟨S_, .f32⟩
  | 100 => ⟨S1x128, .f32⟩
  | 101 => ⟨S1x128, .f32⟩
  | 102 => ⟨S1x128, .f32⟩
  | 103 => ⟨S_, .f32⟩
  | 104 => ⟨S1x128, .f32⟩
  | 105 => ⟨S1x128, .f32⟩
  | 106 => ⟨S1x128, .f32⟩
  | 107 => ⟨S_, .f32⟩
  | 108 => ⟨S1x128, .f32⟩
  | 109 => ⟨S1x128, .f32⟩
  | 110 => ⟨S_, .f32⟩
  | 111 => ⟨S1x128, .f32⟩
  | 112 => ⟨S1x128, .f32⟩
  | 113 => ⟨S1x128, .f32⟩
  | 114 => ⟨S_, .f32⟩
  | 115 => ⟨S1x128, .f32⟩
  | 116 => ⟨S1x128, .f32⟩
  | 117 => ⟨S1x128, .f32⟩
  | 118 => ⟨S_, .f32⟩
  | 119 => ⟨S1x128, .f32⟩
  | 120 => ⟨S1x128, .f32⟩
  | 121 => ⟨S1x128, .f32⟩
  | 122 => ⟨S_, .f32⟩
  | 123 => ⟨S1x128, .f32⟩
  | 124 => ⟨S1x128, .f32⟩
  | 125 => ⟨S_, .f32⟩
  | 126 => ⟨S1x64x128, .f32⟩
  | 127 => ⟨S1x64x128, .f32⟩
  | _ => ⟨S16x256, .f32⟩

abbrev hbmTy0_2 (i : Nat) : BufTy := match i % 128 with
  | 0 => ⟨S_, .f32⟩
  | 1 => ⟨S1x64x128, .f32⟩
  | 2 => ⟨S1x64x128, .f32⟩
  | 3 => ⟨S1x64x128, .f32⟩
  | 4 => ⟨S_, .f32⟩
  | 5 => ⟨S1x64x128, .f32⟩
  | 6 => ⟨S1x64x128, .f32⟩
  | 7 => ⟨S1x64x128, .f32⟩
  | 8 => ⟨S_, .f32⟩
  | 9 => ⟨S1x64x128, .f32⟩
  | 10 => ⟨S1x64x128, .f32⟩
  | 11 => ⟨S1x64x128, .f32⟩
  | 12 => ⟨S_, .f32⟩
  | 13 => ⟨S1x64x128, .f32⟩
  | 14 => ⟨S1x64x128, .f32⟩
  | 15 => ⟨S_, .f32⟩
  | 16 => ⟨S1x64x128, .f32⟩
  | 17 => ⟨S1x64x128, .f32⟩
  | 18 => ⟨S1x64x128, .f32⟩
  | 19 => ⟨S_, .f32⟩
  | 20 => ⟨S1x64x128, .f32⟩
  | 21 => ⟨S1x64x128, .f32⟩
  | 22 => ⟨S1x64x128, .f32⟩
  | 23 => ⟨S_, .f32⟩
  | 24 => ⟨S1x64x128, .f32⟩
  | 25 => ⟨S1x64x128, .f32⟩
  | 26 => ⟨S1x64x128, .f32⟩
  | 27 => ⟨S_, .f32⟩
  | 28 => ⟨S1x64x128, .f32⟩
  | 29 => ⟨S1x64x128, .f32⟩
  | 30 => ⟨S_, .f32⟩
  | 31 => ⟨S1x128, .f32⟩
  | 32 => ⟨S1x128, .f32⟩
  | 33 => ⟨S_, .f32⟩
  | 34 => ⟨S1x128, .f32⟩
  | 35 => ⟨S1x128, .f32⟩
  | 36 => ⟨S1x128, .f32⟩
  | 37 => ⟨S_, .f32⟩
  | 38 => ⟨S1x128, .f32⟩
  | 39 => ⟨S1x128, .f32⟩
  | 40 => ⟨S1x128, .f32⟩
  | 41 => ⟨S_, .f32⟩
  | 42 => ⟨S1x128, .f32⟩
  | 43 => ⟨S1x128, .f32⟩
  | 44 => ⟨S1x128, .f32⟩
  | 45 => ⟨S_, .f32⟩
  | 46 => ⟨S1x128, .f32⟩
  | 47 => ⟨S1x128, .f32⟩
  | 48 => ⟨S_, .f32⟩
  | 49 => ⟨S1x128, .f32⟩
  | 50 => ⟨S1x128, .f32⟩
  | 51 => ⟨S1x128, .f32⟩
  | 52 => ⟨S_, .f32⟩
  | 53 => ⟨S1x128, .f32⟩
  | 54 => ⟨S1x128, .f32⟩
  | 55 => ⟨S1x128, .f32⟩
  | 56 => ⟨S_, .f32⟩
  | 57 => ⟨S1x128, .f32⟩
  | 58 => ⟨S1x128, .f32⟩
  | 59 => ⟨S1x128, .f32⟩
  | 60 => ⟨S_, .f32⟩
  | 61 => ⟨S1x128, .f32⟩
  | 62 => ⟨S1x128, .f32⟩
  | 63 => ⟨S_, .f32⟩
  | 64 => ⟨S1x64x128, .f32⟩
  | 65 => ⟨S1x64x128, .f32⟩
  | 66 => ⟨S_, .f32⟩
  | 67 => ⟨S1x64x128, .f32⟩
  | 68 => ⟨S1x64x128, .f32⟩
  | 69 => ⟨S1x64x128, .f32⟩
  | 70 => ⟨S_, .f32⟩
  | 71 => ⟨S1x64x128, .f32⟩
  | 72 => ⟨S1x64x128, .f32⟩
  | 73 => ⟨S1x64x128, .f32⟩
  | 74 => ⟨S_, .f32⟩
  | 75 => ⟨S1x64x128, .f32⟩
  | 76 => ⟨S1x64x128, .f32⟩
  | 77 => ⟨S1x64x128, .f32⟩
  | 78 => ⟨S_, .f32⟩
  | 79 => ⟨S1x64x128, .f32⟩
  | 80 => ⟨S1x64x128, .f32⟩
  | 81 => ⟨S_, .f32⟩
  | 82 => ⟨S1x64x128, .f32⟩
  | 83 => ⟨S1x64x128, .f32⟩
  | 84 => ⟨S1x64x128, .f32⟩
  | 85 => ⟨S_, .f32⟩
  | 86 => ⟨S1x64x128, .f32⟩
  | 87 => ⟨S1x64x128, .f32⟩
  | 88 => ⟨S1x64x128, .f32⟩
  | 89 => ⟨S_, .f32⟩
  | 90 => ⟨S1x64x128, .f32⟩
  | 91 => ⟨S1x64x128, .f32⟩
  | 92 => ⟨S1x64x128, .f32⟩
  | 93 => ⟨S_, .f32⟩
  | 94 => ⟨S1x64x128, .f32⟩
  | 95 => ⟨S1x64x128, .f32⟩
  | 96 => ⟨S_, .f32⟩
  | 97 => ⟨S1x128x128, .f32⟩
  | 98 => ⟨S1x128x128, .f32⟩
  | 99 => ⟨S_, .f32⟩
  | 100 => ⟨S1x128x128, .f32⟩
  | 101 => ⟨S1x128x128, .f32⟩
  | 102 => ⟨S1x128x128, .f32⟩
  | 103 => ⟨S_, .f32⟩
  | 104 => ⟨S1x128x128, .f32⟩
  | 105 => ⟨S1x128x128, .f32⟩
  | 106 => ⟨S1x128x128, .f32⟩
  | 107 => ⟨S_, .f32⟩
  | 108 => ⟨S1x128x128, .f32⟩
  | 109 => ⟨S1x128x128, .f32⟩
  | 110 => ⟨S1x128x128, .f32⟩
  | 111 => ⟨S_, .f32⟩
  | 112 => ⟨S1x128x128, .f32⟩
  | 113 => ⟨S1x128x128, .f32⟩
  | 114 => ⟨S_, .f32⟩
  | 115 => ⟨S1x128x128, .f32⟩
  | 116 => ⟨S1x128x128, .f32⟩
  | 117 => ⟨S1x128x128, .f32⟩
  | 118 => ⟨S_, .f32⟩
  | 119 => ⟨S1x128x128, .f32⟩
  | 120 => ⟨S1x128x128, .f32⟩
  | 121 => ⟨S1x128x128, .f32⟩
  | 122 => ⟨S_, .f32⟩
  | 123 => ⟨S1x128x128, .f32⟩
  | 124 => ⟨S1x128x128, .f32⟩
  | 125 => ⟨S1x128x128, .f32⟩
  | 126 => ⟨S_, .f32⟩
  | 127 => ⟨S1x128x128, .f32⟩
  | _ => ⟨S16x256, .f32⟩

abbrev hbmTy0_3 (i : Nat) : BufTy := match i % 128 with
  | 0 => ⟨S1x128x128, .f32⟩
  | 1 => ⟨S_, .f32⟩
  | 2 => ⟨S1x128, .f32⟩
  | 3 => ⟨S1x128, .f32⟩
  | 4 => ⟨S_, .f32⟩
  | 5 => ⟨S1x128, .f32⟩
  | 6 => ⟨S1x128, .f32⟩
  | 7 => ⟨S1x128, .f32⟩
  | 8 => ⟨S_, .f32⟩
  | 9 => ⟨S1x128, .f32⟩
  | 10 => ⟨S1x128, .f32⟩
  | 11 => ⟨S1x128, .f32⟩
  | 12 => ⟨S_, .f32⟩
  | 13 => ⟨S1x128, .f32⟩
  | 14 => ⟨S1x128, .f32⟩
  | 15 => ⟨S1x128, .f32⟩
  | 16 => ⟨S_, .f32⟩
  | 17 => ⟨S1x128, .f32⟩
  | 18 => ⟨S1x128, .f32⟩
  | 19 => ⟨S_, .f32⟩
  | 20 => ⟨S1x128, .f32⟩
  | 21 => ⟨S1x128, .f32⟩
  | 22 => ⟨S1x128, .f32⟩
  | 23 => ⟨S_, .f32⟩
  | 24 => ⟨S1x128, .f32⟩
  | 25 => ⟨S1x128, .f32⟩
  | 26 => ⟨S1x128, .f32⟩
  | 27 => ⟨S_, .f32⟩
  | 28 => ⟨S1x128, .f32⟩
  | 29 => ⟨S1x128, .f32⟩
  | 30 => ⟨S1x128, .f32⟩
  | 31 => ⟨S_, .f32⟩
  | 32 => ⟨S1x128, .f32⟩
  | 33 => ⟨S1x128, .f32⟩
  | 34 => ⟨S_, .f32⟩
  | 35 => ⟨S1x128, .f32⟩
  | 36 => ⟨S1x128, .f32⟩
  | 37 => ⟨S_, .f32⟩
  | 38 => ⟨S1x128, .f32⟩
  | 39 => ⟨S1x128, .f32⟩
  | 40 => ⟨S1x128, .f32⟩
  | 41 => ⟨S_, .f32⟩
  | 42 => ⟨S1x128, .f32⟩
  | 43 => ⟨S1x128, .f32⟩
  | 44 => ⟨S1x128, .f32⟩
  | 45 => ⟨S_, .f32⟩
  | 46 => ⟨S1x128, .f32⟩
  | 47 => ⟨S1x128, .f32⟩
  | 48 => ⟨S1x128, .f32⟩
  | 49 => ⟨S_, .f32⟩
  | 50 => ⟨S1x128, .f32⟩
  | 51 => ⟨S1x128, .f32⟩
  | 52 => ⟨S_, .f32⟩
  | 53 => ⟨S1x128, .f32⟩
  | 54 => ⟨S1x128, .f32⟩
  | 55 => ⟨S1x128, .f32⟩
  | 56 => ⟨S_, .f32⟩
  | 57 => ⟨S1x128, .f32⟩
  | 58 => ⟨S1x128, .f32⟩
  | 59 => ⟨S1x128, .f32⟩
  | 60 => ⟨S_, .f32⟩
  | 61 => ⟨S1x128, .f32⟩
  | 62 => ⟨S1x128, .f32⟩
  | 63 => ⟨S1x128, .f32⟩
  | 64 => ⟨S_, .f32⟩
  | 65 => ⟨S1x128, .f32⟩
  | 66 => ⟨S1x128, .f32⟩
  | 67 => ⟨S_, .f32⟩
  | 68 => ⟨S1x128, .f32⟩
  | 69 => ⟨S1x128, .f32⟩
  | 70 => ⟨S_, .f32⟩
  | 71 => ⟨S1x128, .f32⟩
  | 72 => ⟨S1x128, .f32⟩
  | 73 => ⟨S1x128, .f32⟩
  | 74 => ⟨S_, .f32⟩
  | 75 => ⟨S1x128, .f32⟩
  | 76 => ⟨S1x128, .f32⟩
  | 77 => ⟨S1x128, .f32⟩
  | 78 => ⟨S_, .f32⟩
  | 79 => ⟨S1x128, .f32⟩
  | 80 => ⟨S1x128, .f32⟩
  | 81 => ⟨S1x128, .f32⟩
  | 82 => ⟨S_, .f32⟩
  | 83 => ⟨S1x128, .f32⟩
  | 84 => ⟨S1x128, .f32⟩
  | 85 => ⟨S_, .f32⟩
  | 86 => ⟨S1x128, .f32⟩
  | 87 => ⟨S1x128, .f32⟩
  | 88 => ⟨S1x128, .f32⟩
  | 89 => ⟨S_, .f32⟩
  | 90 => ⟨S1x128, .f32⟩
  | 91 => ⟨S1x128, .f32⟩
  | 92 => ⟨S1x128, .f32⟩
  | 93 => ⟨S_, .f32⟩
  | 94 => ⟨S1x128, .f32⟩
  | 95 => ⟨S1x128, .f32⟩
  | 96 => ⟨S1x128, .f32⟩
  | 97 => ⟨S_, .f32⟩
  | 98 => ⟨S1x128, .f32⟩
  | 99 => ⟨S1x128, .f32⟩
  | 100 => ⟨S_, .f32⟩
  | 101 => ⟨S1x128, .f32⟩
  | 102 => ⟨S1x128, .f32⟩
  | 103 => ⟨S_, .f32⟩
  | 104 => ⟨S1x128, .f32⟩
  | 105 => ⟨S1x128, .f32⟩
  | 106 => ⟨S1x128, .f32⟩
  | 107 => ⟨S_, .f32⟩
  | 108 => ⟨S1x128, .f32⟩
  | 109 => ⟨S1x128, .f32⟩
  | 110 => ⟨S1x128, .f32⟩
  | 111 => ⟨S_, .f32⟩
  | 112 => ⟨S1x128, .f32⟩
  | 113 => ⟨S1x128, .f32⟩
  | 114 => ⟨S1x128, .f32⟩
  | 115 => ⟨S_, .f32⟩
  | 116 => ⟨S1x128, .f32⟩
  | 117 => ⟨S1x128, .f32⟩
  | 118 => ⟨S_, .f32⟩
  | 119 => ⟨S1x128, .f32⟩
  | 120 => ⟨S1x128, .f32⟩
  | 121 => ⟨S1x128, .f32⟩
  | 122 => ⟨S_, .f32⟩
  | 123 => ⟨S1x128, .f32⟩
  | 124 => ⟨S1x128, .f32⟩
  | 125 => ⟨S1x128, .f32⟩
  | 126 => ⟨S_, .f32⟩
  | 127 => ⟨S1x128, .f32⟩
  | _ => ⟨S16x256, .f32⟩

abbrev hbmTy0_4 (i : Nat) : BufTy := match i % 128 with
  | 0 => ⟨S1x128, .f32⟩
  | 1 => ⟨S1x128, .f32⟩
  | 2 => ⟨S_, .f32⟩
  | 3 => ⟨S1x128, .f32⟩
  | 4 => ⟨S1x128, .f32⟩
  | 5 => ⟨S_, .f32⟩
  | 6 => ⟨S2x3x704, .f32⟩
  | 7 => ⟨S2x3x704, .f32⟩
  | 8 => ⟨S_, .f32⟩
  | 9 => ⟨S2x3x704, .f32⟩
  | 10 => ⟨S2x3x704, .f32⟩
  | 11 => ⟨S2x3x704, .f32⟩
  | 12 => ⟨S_, .f32⟩
  | 13 => ⟨S2x3x704, .f32⟩
  | 14 => ⟨S2x3x704, .f32⟩
  | 15 => ⟨S2x3x704, .f32⟩
  | 16 => ⟨S_, .f32⟩
  | 17 => ⟨S2x3x704, .f32⟩
  | 18 => ⟨S2x3x704, .f32⟩
  | 19 => ⟨S2x3x704, .f32⟩
  | 20 => ⟨S_, .f32⟩
  | 21 => ⟨S2x3x704, .f32⟩
  | 22 => ⟨S2x3x704, .f32⟩
  | 23 => ⟨S_, .f32⟩
  | 24 => ⟨S2x3x704, .f32⟩
  | 25 => ⟨S2x3x704, .f32⟩
  | 26 => ⟨S2x3x704, .f32⟩
  | 27 => ⟨S_, .f32⟩
  | 28 => ⟨S2x3x704, .f32⟩
  | 29 => ⟨S2x3x704, .f32⟩
  | 30 => ⟨S2x3x704, .f32⟩
  | 31 => ⟨S_, .f32⟩
  | 32 => ⟨S2x3x704, .f32⟩
  | 33 => ⟨S2x3x704, .f32⟩
  | 34 => ⟨S2x3x704, .f32⟩
  | 35 => ⟨S_, .f32⟩
  | 36 => ⟨S2x3x704, .f32⟩
  | 37 => ⟨S2x3x704, .f32⟩
  | 38 => ⟨S_, .f32⟩
  | 39 => ⟨S2x1024, .f32⟩
  | 40 => ⟨S2x1024, .f32⟩
  | 41 => ⟨S_, .f32⟩
  | 42 => ⟨S2x1024, .f32⟩
  | 43 => ⟨S2x1024, .f32⟩
  | 44 => ⟨S2x1024, .f32⟩
  | 45 => ⟨S_, .f32⟩
  | 46 => ⟨S2x1024, .f32⟩
  | 47 => ⟨S2x1024, .f32⟩
  | 48 => ⟨S2x1024, .f32⟩
  | 49 => ⟨S_, .f32⟩
  | 50 => ⟨S2x1024, .f32⟩
  | 51 => ⟨S2x1024, .f32⟩
  | 52 => ⟨S2x1024, .f32⟩
  | 53 => ⟨S_, .f32⟩
  | 54 => ⟨S2x1024, .f32⟩
  | 55 => ⟨S2x1024, .f32⟩
  | 56 => ⟨S_, .f32⟩
  | 57 => ⟨S2x1024, .f32⟩
  | 58 => ⟨S2x1024, .f32⟩
  | 59 => ⟨S2x1024, .f32⟩
  | 60 => ⟨S_, .f32⟩
  | 61 => ⟨S2x1024, .f32⟩
  | 62 => ⟨S2x1024, .f32⟩
  | 63 => ⟨S2x1024, .f32⟩
  | 64 => ⟨S_, .f32⟩
  | 65 => ⟨S2x1024, .f32⟩
  | 66 => ⟨S2x1024, .f32⟩
  | 67 => ⟨S2x1024, .f32⟩
  | 68 => ⟨S_, .f32⟩
  | 69 => ⟨S2x1024, .f32⟩
  | 70 => ⟨S2x1024, .f32⟩
  | 71 => ⟨S_, .f32⟩
  | 72 => ⟨S2x1024, .f32⟩
  | 73 => ⟨S2x1024, .f32⟩
  | 74 => ⟨S_, .f32⟩
  | 75 => ⟨S2x1024, .f32⟩
  | 76 => ⟨S2x1024, .f32⟩
  | 77 => ⟨S2x1024, .f32⟩
  | 78 => ⟨S_, .f32⟩
  | 79 => ⟨S2x1024, .f32⟩
  | 80 => ⟨S2x1024, .f32⟩
  | 81 => ⟨S2x1024, .f32⟩
  | 82 => ⟨S_, .f32⟩
  | 83 => ⟨S2x1024, .f32⟩
  | 84 => ⟨S2x1024, .f32⟩
  | 85 => ⟨S2x1024, .f32⟩
  | 86 => ⟨S_, .f32⟩
  | 87 => ⟨S2x1024, .f32⟩
  | 88 => ⟨S2x1024, .f32⟩
  | 89 => ⟨S_, .f32⟩
  | 90 => ⟨S2x1024, .f32⟩
  | 91 => ⟨S2x1024, .f32⟩
  | 92 => ⟨S2x1024, .f32⟩
  | 93 => ⟨S_, .f32⟩
  | 94 => ⟨S2x1024, .f32⟩
  | 95 => ⟨S2x1024, .f32⟩
  | 96 => ⟨S2x1024, .f32⟩
  | 97 => ⟨S_, .f32⟩
  | 98 => ⟨S2x1024, .f32⟩
  | 99 => ⟨S2x1024, .f32⟩
  | 100 => ⟨S2x1024, .f32⟩
  | 101 => ⟨S_, .f32⟩
  | 102 => ⟨S2x1024, .f32⟩
  | 103 => ⟨S2x1024, .f32⟩
  | 104 => ⟨S_, .f32⟩
  | 105 => ⟨S1024, .f32⟩
  | 106 => ⟨S1024, .f32⟩
  | 107 => ⟨S_, .f32⟩
  | 108 => ⟨S1024, .f32⟩
  | 109 => ⟨S1024, .f32⟩
  | 110 => ⟨S1024, .f32⟩
  | 111 => ⟨S_, .f32⟩
  | 112 => ⟨S1024, .f32⟩
  | 113 => ⟨S1024, .f32⟩
  | 114 => ⟨S1024, .f32⟩
  | 115 => ⟨S_, .f32⟩
  | 116 => ⟨S1024, .f32⟩
  | 117 => ⟨S1024, .f32⟩
  | 118 => ⟨S1024, .f32⟩
  | 119 => ⟨S_, .f32⟩
  | 120 => ⟨S1024, .f32⟩
  | 121 => ⟨S1024, .f32⟩
  | 122 => ⟨S_, .f32⟩
  | 123 => ⟨S1024, .f32⟩
  | 124 => ⟨S1024, .f32⟩
  | 125 => ⟨S1024, .f32⟩
  | 126 => ⟨S_, .f32⟩
  | 127 => ⟨S1024, .f32⟩
  | _ => ⟨S16x256, .f32⟩

abbrev hbmTy0_5 (i : Nat) : BufTy := match i % 128 with
  | 0 => ⟨S1024, .f32⟩
  | 1 => ⟨S1024, .f32⟩
  | 2 => ⟨S_, .f32⟩
  | 3 => ⟨S1024, .f32⟩
  | 4 => ⟨S1024, .f32⟩
  | 5 => ⟨S1024, .f32⟩
  | 6 => ⟨S_, .f32⟩
  | 7 => ⟨S1024, .f32⟩
  | 8 => ⟨S1024, .f32⟩
  | 9 => ⟨S_, .f32⟩
  | 10 => ⟨S1x512, .f32⟩
  | 11 => ⟨S1x512, .f32⟩
  | 12 => ⟨S_, .f32⟩
  | 13 => ⟨S1x512, .f32⟩
  | 14 => ⟨S1x512, .f32⟩
  | 15 => ⟨S1x512, .f32⟩
  | 16 => ⟨S_, .f32⟩
  | 17 => ⟨S1x512, .f32⟩
  | 18 => ⟨S1x512, .f32⟩
  | 19 => ⟨S1x512, .f32⟩
  | 20 => ⟨S_, .f32⟩
  | 21 => ⟨S1x512, .f32⟩
  | 22 => ⟨S1x512, .f32⟩
  | 23 => ⟨S1x512, .f32⟩
  | 24 => ⟨S_, .f32⟩
  | 25 => ⟨S1x512, .f32⟩
  | 26 => ⟨S1x512, .f32⟩
  | 27 => ⟨S_, .f32⟩
  | 28 => ⟨S1x512, .f32⟩
  | 29 => ⟨S1x512, .f32⟩
  | 30 => ⟨S1x512, .f32⟩
  | 31 => ⟨S_, .f32⟩
  | 32 => ⟨S1x512, .f32⟩
  | 33 => ⟨S1x512, .f32⟩
  | 34 => ⟨S1x512, .f32⟩
  | 35 => ⟨S_, .f32⟩
  | 36 => ⟨S1x512, .f32⟩
  | 37 => ⟨S1x512, .f32⟩
  | 38 => ⟨S1x512, .f32⟩
  | 39 => ⟨S_, .f32⟩
  | 40 => ⟨S1x512, .f32⟩
  | 41 => ⟨S1x512, .f32⟩
  | 42 => ⟨S_, .f32⟩
  | 43 => ⟨S1x512, .f32⟩
  | 44 => ⟨S1x512, .f32⟩
  | 45 => ⟨S_, .f32⟩
  | 46 => ⟨S1x512, .f32⟩
  | 47 => ⟨S1x512, .f32⟩
  | 48 => ⟨S1x512, .f32⟩
  | 49 => ⟨S_, .f32⟩
  | 50 => ⟨S1x512, .f32⟩
  | 51 => ⟨S1x512, .f32⟩
  | 52 => ⟨S1x512, .f32⟩
  | 53 => ⟨S_, .f32⟩
  | 54 => ⟨S1x512, .f32⟩
  | 55 => ⟨S1x512, .f32⟩
  | 56 => ⟨S1x512, .f32⟩
  | 57 => ⟨S_, .f32⟩
  | 58 => ⟨S1x512, .f32⟩
  | 59 => ⟨S1x512, .f32⟩
  | 60 => ⟨S_, .f32⟩
  | 61 => ⟨S1x512, .f32⟩
  | 62 => ⟨S1x512, .f32⟩
  | 63 => ⟨S1x512, .f32⟩
  | 64 => ⟨S_, .f32⟩
  | 65 => ⟨S1x512, .f32⟩
  | 66 => ⟨S1x512, .f32⟩
  | 67 => ⟨S1x512, .f32⟩
  | 68 => ⟨S_, .f32⟩
  | 69 => ⟨S1x512, .f32⟩
  | 70 => ⟨S1x512, .f32⟩
  | 71 => ⟨S1x512, .f32⟩
  | 72 => ⟨S_, .f32⟩
  | 73 => ⟨S1x512, .f32⟩
  | 74 => ⟨S1x512, .f32⟩
  | 75 => ⟨S_, .f32⟩
  | 76 => ⟨S1x8, .f32⟩
  | 77 => ⟨S1x8, .f32⟩
  | 78 => ⟨S_, .f32⟩
  | 79 => ⟨S1x8, .f32⟩
  | 80 => ⟨S1x8, .f32⟩
  | 81 => ⟨S1x8, .f32⟩
  | 82 => ⟨S_, .f32⟩
  | 83 => ⟨S1x8, .f32⟩
  | 84 => ⟨S1x8, .f32⟩
  | 85 => ⟨S1x8, .f32⟩
  | 86 => ⟨S_, .f32⟩
  | 87 => ⟨S1x8, .f32⟩
  | 88 => ⟨S1x8, .f32⟩
  | 89 => ⟨S1x8, .f32⟩
  | 90 => ⟨S_, .f32⟩
  | 91 => ⟨S1x8, .f32⟩
  | 92 => ⟨S1x8, .f32⟩
  | 93 => ⟨S_, .f32⟩
  | 94 => ⟨S1x8, .f32⟩
  | 95 => ⟨S1x8, .f32⟩
  | 96 => ⟨S1x8, .f32⟩
  | 97 => ⟨S_, .f32⟩
  | 98 => ⟨S1x8, .f32⟩
  | 99 => ⟨S1x8, .f32⟩
  | 100 => ⟨S1x8, .f32⟩
  | 101 => ⟨S_, .f32⟩
  | 102 => ⟨S1x8, .f32⟩
  | 103 => ⟨S1x8, .f32⟩
  | 104 => ⟨S1x8, .f32⟩
  | 105 => ⟨S_, .f32⟩
  | 106 => ⟨S1x8, .f32⟩
  | 107 => ⟨S1x8, .f32⟩
  | 108 => ⟨S_, .f32⟩
  | 109 => ⟨S1x8x64, .f32⟩
  | 110 => ⟨S1x8x64, .f32⟩
  | 111 => ⟨S_, .f32⟩
  | 112 => ⟨S1x8x64, .f32⟩
  | 113 => ⟨S1x8x64, .f32⟩
  | 114 => ⟨S1x8x64, .f32⟩
  | 115 => ⟨S_, .f32⟩
  | 116 => ⟨S1x8x64, .f32⟩
  | 117 => ⟨S1x8x64, .f32⟩
  | 118 => ⟨S1x8x64, .f32⟩
  | 119 => ⟨S_, .f32⟩
  | 120 => ⟨S1x8x64, .f32⟩
  | 121 => ⟨S1x8x64, .f32⟩
  | 122 => ⟨S1x8x64, .f32⟩
  | 123 => ⟨S_, .f32⟩
  | 124 => ⟨S1x8x64, .f32⟩
  | 125 => ⟨S1x8x64, .f32⟩
  | 126 => ⟨S_, .f32⟩
  | 127 => ⟨S1x8x64, .f32⟩
  | _ => ⟨S16x256, .f32⟩

abbrev hbmTy0_6 (i : Nat) : BufTy := match i % 128 with
  | 0 => ⟨S1x8x64, .f32⟩
  | 1 => ⟨S1x8x64, .f32⟩
  | 2 => ⟨S_, .f32⟩
  | 3 => ⟨S1x8x64, .f32⟩
  | 4 => ⟨S1x8x64, .f32⟩
  | 5 => ⟨S1x8x64, .f32⟩
  | 6 => ⟨S_, .f32⟩
  | 7 => ⟨S1x8x64, .f32⟩
  | 8 => ⟨S1x8x64, .f32⟩
  | 9 => ⟨S1x8x64, .f32⟩
  | 10 => ⟨S_, .f32⟩
  | 11 => ⟨S1x8x64, .f32⟩
  | 12 => ⟨S1x8x64, .f32⟩
  | 13 => ⟨S_, .f32⟩
  | 14 => ⟨S2x2816, .f32⟩
  | 15 => ⟨S2x2816, .f32⟩
  | 16 => ⟨S_, .f32⟩
  | 17 => ⟨S2x2816, .f32⟩
  | 18 => ⟨S2x2816, .f32⟩
  | 19 => ⟨S2x2816, .f32⟩
  | 20 => ⟨S_, .f32⟩
  | 21 => ⟨S2x2816, .f32⟩
  | 22 => ⟨S2x2816, .f32⟩
  | 23 => ⟨S2x2816, .f32⟩
  | 24 => ⟨S_, .f32⟩
  | 25 => ⟨S2x2816, .f32⟩
  | 26 => ⟨S2x2816, .f32⟩
  | 27 => ⟨S2x2816, .f32⟩
  | 28 => ⟨S_, .f32⟩
  | 29 => ⟨S2x2816, .f32⟩
  | 30 => ⟨S2x2816, .f32⟩
  | 31 => ⟨S_, .f32⟩
  | 32 => ⟨S2x2816, .f32⟩
  | 33 => ⟨S2x2816, .f32⟩
  | 34 => ⟨S2x2816, .f32⟩
  | 35 => ⟨S_, .f32⟩
  | 36 => ⟨S2x2816, .f32⟩
  | 37 => ⟨S2x2816, .f32⟩
  | 38 => ⟨S2x2816, .f32⟩
  | 39 => ⟨S_, .f32⟩
  | 40 => ⟨S2x2816, .f32⟩
  | 41 => ⟨S2x2816, .f32⟩
  | 42 => ⟨S2x2816, .f32⟩
  | 43 => ⟨S_, .f32⟩
  | 44 => ⟨S2x2816, .f32⟩
  | 45 => ⟨S2x2816, .f32⟩
  | _ => ⟨S16x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S16x256, .f32⟩

abbrev bufTy : (tb : Table) → Fin (tcTables nBuf tb) → BufTy
  | .hbm, ⟨i, _⟩ => hbmTy i
  | _, _ => ⟨S16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_arg60 : Ref sig .tc := ⟨.hbm, 60, rfl⟩
abbrev main_arg61 : Ref sig .tc := ⟨.hbm, 61, rfl⟩
abbrev main_arg62 : Ref sig .tc := ⟨.hbm, 62, rfl⟩
abbrev main_arg63 : Ref sig .tc := ⟨.hbm, 63, rfl⟩
abbrev main_arg64 : Ref sig .tc := ⟨.hbm, 64, rfl⟩
abbrev main_arg65 : Ref sig .tc := ⟨.hbm, 65, rfl⟩
abbrev main_arg66 : Ref sig .tc := ⟨.hbm, 66, rfl⟩
abbrev main_arg67 : Ref sig .tc := ⟨.hbm, 67, rfl⟩
abbrev main_arg68 : Ref sig .tc := ⟨.hbm, 68, rfl⟩
abbrev main_arg69 : Ref sig .tc := ⟨.hbm, 69, rfl⟩
abbrev main_arg70 : Ref sig .tc := ⟨.hbm, 70, rfl⟩
abbrev main_arg71 : Ref sig .tc := ⟨.hbm, 71, rfl⟩
abbrev main_arg72 : Ref sig .tc := ⟨.hbm, 72, rfl⟩
abbrev main_arg73 : Ref sig .tc := ⟨.hbm, 73, rfl⟩
abbrev main_arg74 : Ref sig .tc := ⟨.hbm, 74, rfl⟩
abbrev main_arg75 : Ref sig .tc := ⟨.hbm, 75, rfl⟩
abbrev main_arg76 : Ref sig .tc := ⟨.hbm, 76, rfl⟩
abbrev main_arg77 : Ref sig .tc := ⟨.hbm, 77, rfl⟩
abbrev main_arg78 : Ref sig .tc := ⟨.hbm, 78, rfl⟩
abbrev main_arg79 : Ref sig .tc := ⟨.hbm, 79, rfl⟩
abbrev main_arg80 : Ref sig .tc := ⟨.hbm, 80, rfl⟩
abbrev main_arg81 : Ref sig .tc := ⟨.hbm, 81, rfl⟩
abbrev main_arg82 : Ref sig .tc := ⟨.hbm, 82, rfl⟩
abbrev main_arg83 : Ref sig .tc := ⟨.hbm, 83, rfl⟩
abbrev main_arg84 : Ref sig .tc := ⟨.hbm, 84, rfl⟩
abbrev main_arg85 : Ref sig .tc := ⟨.hbm, 85, rfl⟩
abbrev main_arg86 : Ref sig .tc := ⟨.hbm, 86, rfl⟩
abbrev main_arg87 : Ref sig .tc := ⟨.hbm, 87, rfl⟩
abbrev main_cst : Ref sig .tc := ⟨.hbm, 88, rfl⟩
abbrev main_v0 : Ref sig .tc := ⟨.hbm, 89, rfl⟩
abbrev main_v1 : Ref sig .tc := ⟨.hbm, 90, rfl⟩
abbrev main_cst_0 : Ref sig .tc := ⟨.hbm, 91, rfl⟩
abbrev main_v2 : Ref sig .tc := ⟨.hbm, 92, rfl⟩
abbrev main_v3 : Ref sig .tc := ⟨.hbm, 93, rfl⟩
abbrev main_v4 : Ref sig .tc := ⟨.hbm, 94, rfl⟩
abbrev main_cst_1 : Ref sig .tc := ⟨.hbm, 95, rfl⟩
abbrev main_v5 : Ref sig .tc := ⟨.hbm, 96, rfl⟩
abbrev main_v6 : Ref sig .tc := ⟨.hbm, 97, rfl⟩
abbrev main_v7 : Ref sig .tc := ⟨.hbm, 98, rfl⟩
abbrev main_cst_2 : Ref sig .tc := ⟨.hbm, 99, rfl⟩
abbrev main_v8 : Ref sig .tc := ⟨.hbm, 100, rfl⟩
abbrev main_v9 : Ref sig .tc := ⟨.hbm, 101, rfl⟩
abbrev main_v10 : Ref sig .tc := ⟨.hbm, 102, rfl⟩
abbrev main_cst_3 : Ref sig .tc := ⟨.hbm, 103, rfl⟩
abbrev main_v11 : Ref sig .tc := ⟨.hbm, 104, rfl⟩
abbrev main_v12 : Ref sig .tc := ⟨.hbm, 105, rfl⟩
abbrev main_cst_4 : Ref sig .tc := ⟨.hbm, 106, rfl⟩
abbrev main_v13 : Ref sig .tc := ⟨.hbm, 107, rfl⟩
abbrev main_v14 : Ref sig .tc := ⟨.hbm, 108, rfl⟩
abbrev main_v15 : Ref sig .tc := ⟨.hbm, 109, rfl⟩
abbrev main_cst_5 : Ref sig .tc := ⟨.hbm, 110, rfl⟩
abbrev main_v16 : Ref sig .tc := ⟨.hbm, 111, rfl⟩
abbrev main_v17 : Ref sig .tc := ⟨.hbm, 112, rfl⟩
abbrev main_v18 : Ref sig .tc := ⟨.hbm, 113, rfl⟩
abbrev main_cst_6 : Ref sig .tc := ⟨.hbm, 114, rfl⟩
abbrev main_v19 : Ref sig .tc := ⟨.hbm, 115, rfl⟩
abbrev main_v20 : Ref sig .tc := ⟨.hbm, 116, rfl⟩
abbrev main_v21 : Ref sig .tc := ⟨.hbm, 117, rfl⟩
abbrev main_cst_7 : Ref sig .tc := ⟨.hbm, 118, rfl⟩
abbrev main_v22 : Ref sig .tc := ⟨.hbm, 119, rfl⟩
abbrev main_v23 : Ref sig .tc := ⟨.hbm, 120, rfl⟩
abbrev main_cst_8 : Ref sig .tc := ⟨.hbm, 121, rfl⟩
abbrev main_v24 : Ref sig .tc := ⟨.hbm, 122, rfl⟩
abbrev main_v25 : Ref sig .tc := ⟨.hbm, 123, rfl⟩
abbrev main_cst_9 : Ref sig .tc := ⟨.hbm, 124, rfl⟩
abbrev main_v26 : Ref sig .tc := ⟨.hbm, 125, rfl⟩
abbrev main_v27 : Ref sig .tc := ⟨.hbm, 126, rfl⟩
abbrev main_v28 : Ref sig .tc := ⟨.hbm, 127, rfl⟩
abbrev main_cst_10 : Ref sig .tc := ⟨.hbm, 128, rfl⟩
abbrev main_v29 : Ref sig .tc := ⟨.hbm, 129, rfl⟩
abbrev main_v30 : Ref sig .tc := ⟨.hbm, 130, rfl⟩
abbrev main_v31 : Ref sig .tc := ⟨.hbm, 131, rfl⟩
abbrev main_cst_11 : Ref sig .tc := ⟨.hbm, 132, rfl⟩
abbrev main_v32 : Ref sig .tc := ⟨.hbm, 133, rfl⟩
abbrev main_v33 : Ref sig .tc := ⟨.hbm, 134, rfl⟩
abbrev main_v34 : Ref sig .tc := ⟨.hbm, 135, rfl⟩
abbrev main_cst_12 : Ref sig .tc := ⟨.hbm, 136, rfl⟩
abbrev main_v35 : Ref sig .tc := ⟨.hbm, 137, rfl⟩
abbrev main_v36 : Ref sig .tc := ⟨.hbm, 138, rfl⟩
abbrev main_cst_13 : Ref sig .tc := ⟨.hbm, 139, rfl⟩
abbrev main_v37 : Ref sig .tc := ⟨.hbm, 140, rfl⟩
abbrev main_v38 : Ref sig .tc := ⟨.hbm, 141, rfl⟩
abbrev main_v39 : Ref sig .tc := ⟨.hbm, 142, rfl⟩
abbrev main_cst_14 : Ref sig .tc := ⟨.hbm, 143, rfl⟩
abbrev main_v40 : Ref sig .tc := ⟨.hbm, 144, rfl⟩
abbrev main_v41 : Ref sig .tc := ⟨.hbm, 145, rfl⟩
abbrev main_v42 : Ref sig .tc := ⟨.hbm, 146, rfl⟩
abbrev main_cst_15 : Ref sig .tc := ⟨.hbm, 147, rfl⟩
abbrev main_v43 : Ref sig .tc := ⟨.hbm, 148, rfl⟩
abbrev main_v44 : Ref sig .tc := ⟨.hbm, 149, rfl⟩
abbrev main_v45 : Ref sig .tc := ⟨.hbm, 150, rfl⟩
abbrev main_cst_16 : Ref sig .tc := ⟨.hbm, 151, rfl⟩
abbrev main_v46 : Ref sig .tc := ⟨.hbm, 152, rfl⟩
abbrev main_v47 : Ref sig .tc := ⟨.hbm, 153, rfl⟩
abbrev main_cst_17 : Ref sig .tc := ⟨.hbm, 154, rfl⟩
abbrev main_v48 : Ref sig .tc := ⟨.hbm, 155, rfl⟩
abbrev main_v49 : Ref sig .tc := ⟨.hbm, 156, rfl⟩
abbrev main_cst_18 : Ref sig .tc := ⟨.hbm, 157, rfl⟩
abbrev main_v50 : Ref sig .tc := ⟨.hbm, 158, rfl⟩
abbrev main_v51 : Ref sig .tc := ⟨.hbm, 159, rfl⟩
abbrev main_v52 : Ref sig .tc := ⟨.hbm, 160, rfl⟩
abbrev main_cst_19 : Ref sig .tc := ⟨.hbm, 161, rfl⟩
abbrev main_v53 : Ref sig .tc := ⟨.hbm, 162, rfl⟩
abbrev main_v54 : Ref sig .tc := ⟨.hbm, 163, rfl⟩
abbrev main_v55 : Ref sig .tc := ⟨.hbm, 164, rfl⟩
abbrev main_cst_20 : Ref sig .tc := ⟨.hbm, 165, rfl⟩
abbrev main_v56 : Ref sig .tc := ⟨.hbm, 166, rfl⟩
abbrev main_v57 : Ref sig .tc := ⟨.hbm, 167, rfl⟩
abbrev main_v58 : Ref sig .tc := ⟨.hbm, 168, rfl⟩
abbrev main_cst_21 : Ref sig .tc := ⟨.hbm, 169, rfl⟩
abbrev main_v59 : Ref sig .tc := ⟨.hbm, 170, rfl⟩
abbrev main_v60 : Ref sig .tc := ⟨.hbm, 171, rfl⟩
abbrev main_cst_22 : Ref sig .tc := ⟨.hbm, 172, rfl⟩
abbrev main_v61 : Ref sig .tc := ⟨.hbm, 173, rfl⟩
abbrev main_v62 : Ref sig .tc := ⟨.hbm, 174, rfl⟩
abbrev main_v63 : Ref sig .tc := ⟨.hbm, 175, rfl⟩
abbrev main_cst_23 : Ref sig .tc := ⟨.hbm, 176, rfl⟩
abbrev main_v64 : Ref sig .tc := ⟨.hbm, 177, rfl⟩
abbrev main_v65 : Ref sig .tc := ⟨.hbm, 178, rfl⟩
abbrev main_v66 : Ref sig .tc := ⟨.hbm, 179, rfl⟩
abbrev main_cst_24 : Ref sig .tc := ⟨.hbm, 180, rfl⟩
abbrev main_v67 : Ref sig .tc := ⟨.hbm, 181, rfl⟩
abbrev main_v68 : Ref sig .tc := ⟨.hbm, 182, rfl⟩
abbrev main_v69 : Ref sig .tc := ⟨.hbm, 183, rfl⟩
abbrev main_cst_25 : Ref sig .tc := ⟨.hbm, 184, rfl⟩
abbrev main_v70 : Ref sig .tc := ⟨.hbm, 185, rfl⟩
abbrev main_v71 : Ref sig .tc := ⟨.hbm, 186, rfl⟩
abbrev main_cst_26 : Ref sig .tc := ⟨.hbm, 187, rfl⟩
abbrev main_v72 : Ref sig .tc := ⟨.hbm, 188, rfl⟩
abbrev main_v73 : Ref sig .tc := ⟨.hbm, 189, rfl⟩
abbrev main_cst_27 : Ref sig .tc := ⟨.hbm, 190, rfl⟩
abbrev main_v74 : Ref sig .tc := ⟨.hbm, 191, rfl⟩
abbrev main_v75 : Ref sig .tc := ⟨.hbm, 192, rfl⟩
abbrev main_v76 : Ref sig .tc := ⟨.hbm, 193, rfl⟩
abbrev main_cst_28 : Ref sig .tc := ⟨.hbm, 194, rfl⟩
abbrev main_v77 : Ref sig .tc := ⟨.hbm, 195, rfl⟩
abbrev main_v78 : Ref sig .tc := ⟨.hbm, 196, rfl⟩
abbrev main_v79 : Ref sig .tc := ⟨.hbm, 197, rfl⟩
abbrev main_cst_29 : Ref sig .tc := ⟨.hbm, 198, rfl⟩
abbrev main_v80 : Ref sig .tc := ⟨.hbm, 199, rfl⟩
abbrev main_v81 : Ref sig .tc := ⟨.hbm, 200, rfl⟩
abbrev main_v82 : Ref sig .tc := ⟨.hbm, 201, rfl⟩
abbrev main_cst_30 : Ref sig .tc := ⟨.hbm, 202, rfl⟩
abbrev main_v83 : Ref sig .tc := ⟨.hbm, 203, rfl⟩
abbrev main_v84 : Ref sig .tc := ⟨.hbm, 204, rfl⟩
abbrev main_cst_31 : Ref sig .tc := ⟨.hbm, 205, rfl⟩
abbrev main_v85 : Ref sig .tc := ⟨.hbm, 206, rfl⟩
abbrev main_v86 : Ref sig .tc := ⟨.hbm, 207, rfl⟩
abbrev main_v87 : Ref sig .tc := ⟨.hbm, 208, rfl⟩
abbrev main_cst_32 : Ref sig .tc := ⟨.hbm, 209, rfl⟩
abbrev main_v88 : Ref sig .tc := ⟨.hbm, 210, rfl⟩
abbrev main_v89 : Ref sig .tc := ⟨.hbm, 211, rfl⟩
abbrev main_v90 : Ref sig .tc := ⟨.hbm, 212, rfl⟩
abbrev main_cst_33 : Ref sig .tc := ⟨.hbm, 213, rfl⟩
abbrev main_v91 : Ref sig .tc := ⟨.hbm, 214, rfl⟩
abbrev main_v92 : Ref sig .tc := ⟨.hbm, 215, rfl⟩
abbrev main_v93 : Ref sig .tc := ⟨.hbm, 216, rfl⟩
abbrev main_cst_34 : Ref sig .tc := ⟨.hbm, 217, rfl⟩
abbrev main_v94 : Ref sig .tc := ⟨.hbm, 218, rfl⟩
abbrev main_v95 : Ref sig .tc := ⟨.hbm, 219, rfl⟩
abbrev main_cst_35 : Ref sig .tc := ⟨.hbm, 220, rfl⟩
abbrev main_v96 : Ref sig .tc := ⟨.hbm, 221, rfl⟩
abbrev main_v97 : Ref sig .tc := ⟨.hbm, 222, rfl⟩
abbrev main_cst_36 : Ref sig .tc := ⟨.hbm, 223, rfl⟩
abbrev main_v98 : Ref sig .tc := ⟨.hbm, 224, rfl⟩
abbrev main_v99 : Ref sig .tc := ⟨.hbm, 225, rfl⟩
abbrev main_v100 : Ref sig .tc := ⟨.hbm, 226, rfl⟩
abbrev main_cst_37 : Ref sig .tc := ⟨.hbm, 227, rfl⟩
abbrev main_v101 : Ref sig .tc := ⟨.hbm, 228, rfl⟩
abbrev main_v102 : Ref sig .tc := ⟨.hbm, 229, rfl⟩
abbrev main_v103 : Ref sig .tc := ⟨.hbm, 230, rfl⟩
abbrev main_cst_38 : Ref sig .tc := ⟨.hbm, 231, rfl⟩
abbrev main_v104 : Ref sig .tc := ⟨.hbm, 232, rfl⟩
abbrev main_v105 : Ref sig .tc := ⟨.hbm, 233, rfl⟩
abbrev main_v106 : Ref sig .tc := ⟨.hbm, 234, rfl⟩
abbrev main_cst_39 : Ref sig .tc := ⟨.hbm, 235, rfl⟩
abbrev main_v107 : Ref sig .tc := ⟨.hbm, 236, rfl⟩
abbrev main_v108 : Ref sig .tc := ⟨.hbm, 237, rfl⟩
abbrev main_cst_40 : Ref sig .tc := ⟨.hbm, 238, rfl⟩
abbrev main_v109 : Ref sig .tc := ⟨.hbm, 239, rfl⟩
abbrev main_v110 : Ref sig .tc := ⟨.hbm, 240, rfl⟩
abbrev main_v111 : Ref sig .tc := ⟨.hbm, 241, rfl⟩
abbrev main_cst_41 : Ref sig .tc := ⟨.hbm, 242, rfl⟩
abbrev main_v112 : Ref sig .tc := ⟨.hbm, 243, rfl⟩
abbrev main_v113 : Ref sig .tc := ⟨.hbm, 244, rfl⟩
abbrev main_v114 : Ref sig .tc := ⟨.hbm, 245, rfl⟩
abbrev main_cst_42 : Ref sig .tc := ⟨.hbm, 246, rfl⟩
abbrev main_v115 : Ref sig .tc := ⟨.hbm, 247, rfl⟩
abbrev main_v116 : Ref sig .tc := ⟨.hbm, 248, rfl⟩
abbrev main_v117 : Ref sig .tc := ⟨.hbm, 249, rfl⟩
abbrev main_cst_43 : Ref sig .tc := ⟨.hbm, 250, rfl⟩
abbrev main_v118 : Ref sig .tc := ⟨.hbm, 251, rfl⟩
abbrev main_v119 : Ref sig .tc := ⟨.hbm, 252, rfl⟩
abbrev main_cst_44 : Ref sig .tc := ⟨.hbm, 253, rfl⟩
abbrev main_v120 : Ref sig .tc := ⟨.hbm, 254, rfl⟩
abbrev main_v121 : Ref sig .tc := ⟨.hbm, 255, rfl⟩
abbrev main_cst_45 : Ref sig .tc := ⟨.hbm, 256, rfl⟩
abbrev main_v122 : Ref sig .tc := ⟨.hbm, 257, rfl⟩
abbrev main_v123 : Ref sig .tc := ⟨.hbm, 258, rfl⟩
abbrev main_v124 : Ref sig .tc := ⟨.hbm, 259, rfl⟩
abbrev main_cst_46 : Ref sig .tc := ⟨.hbm, 260, rfl⟩
abbrev main_v125 : Ref sig .tc := ⟨.hbm, 261, rfl⟩
abbrev main_v126 : Ref sig .tc := ⟨.hbm, 262, rfl⟩
abbrev main_v127 : Ref sig .tc := ⟨.hbm, 263, rfl⟩
abbrev main_cst_47 : Ref sig .tc := ⟨.hbm, 264, rfl⟩
abbrev main_v128 : Ref sig .tc := ⟨.hbm, 265, rfl⟩
abbrev main_v129 : Ref sig .tc := ⟨.hbm, 266, rfl⟩
abbrev main_v130 : Ref sig .tc := ⟨.hbm, 267, rfl⟩
abbrev main_cst_48 : Ref sig .tc := ⟨.hbm, 268, rfl⟩
abbrev main_v131 : Ref sig .tc := ⟨.hbm, 269, rfl⟩
abbrev main_v132 : Ref sig .tc := ⟨.hbm, 270, rfl⟩
abbrev main_cst_49 : Ref sig .tc := ⟨.hbm, 271, rfl⟩
abbrev main_v133 : Ref sig .tc := ⟨.hbm, 272, rfl⟩
abbrev main_v134 : Ref sig .tc := ⟨.hbm, 273, rfl⟩
abbrev main_v135 : Ref sig .tc := ⟨.hbm, 274, rfl⟩
abbrev main_cst_50 : Ref sig .tc := ⟨.hbm, 275, rfl⟩
abbrev main_v136 : Ref sig .tc := ⟨.hbm, 276, rfl⟩
abbrev main_v137 : Ref sig .tc := ⟨.hbm, 277, rfl⟩
abbrev main_v138 : Ref sig .tc := ⟨.hbm, 278, rfl⟩
abbrev main_cst_51 : Ref sig .tc := ⟨.hbm, 279, rfl⟩
abbrev main_v139 : Ref sig .tc := ⟨.hbm, 280, rfl⟩
abbrev main_v140 : Ref sig .tc := ⟨.hbm, 281, rfl⟩
abbrev main_v141 : Ref sig .tc := ⟨.hbm, 282, rfl⟩
abbrev main_cst_52 : Ref sig .tc := ⟨.hbm, 283, rfl⟩
abbrev main_v142 : Ref sig .tc := ⟨.hbm, 284, rfl⟩
abbrev main_v143 : Ref sig .tc := ⟨.hbm, 285, rfl⟩
abbrev main_cst_53 : Ref sig .tc := ⟨.hbm, 286, rfl⟩
abbrev main_v144 : Ref sig .tc := ⟨.hbm, 287, rfl⟩
abbrev main_v145 : Ref sig .tc := ⟨.hbm, 288, rfl⟩
abbrev main_cst_54 : Ref sig .tc := ⟨.hbm, 289, rfl⟩
abbrev main_v146 : Ref sig .tc := ⟨.hbm, 290, rfl⟩
abbrev main_v147 : Ref sig .tc := ⟨.hbm, 291, rfl⟩
abbrev main_v148 : Ref sig .tc := ⟨.hbm, 292, rfl⟩
abbrev main_cst_55 : Ref sig .tc := ⟨.hbm, 293, rfl⟩
abbrev main_v149 : Ref sig .tc := ⟨.hbm, 294, rfl⟩
abbrev main_v150 : Ref sig .tc := ⟨.hbm, 295, rfl⟩
abbrev main_v151 : Ref sig .tc := ⟨.hbm, 296, rfl⟩
abbrev main_cst_56 : Ref sig .tc := ⟨.hbm, 297, rfl⟩
abbrev main_v152 : Ref sig .tc := ⟨.hbm, 298, rfl⟩
abbrev main_v153 : Ref sig .tc := ⟨.hbm, 299, rfl⟩
abbrev main_v154 : Ref sig .tc := ⟨.hbm, 300, rfl⟩
abbrev main_cst_57 : Ref sig .tc := ⟨.hbm, 301, rfl⟩
abbrev main_v155 : Ref sig .tc := ⟨.hbm, 302, rfl⟩
abbrev main_v156 : Ref sig .tc := ⟨.hbm, 303, rfl⟩
abbrev main_cst_58 : Ref sig .tc := ⟨.hbm, 304, rfl⟩
abbrev main_v157 : Ref sig .tc := ⟨.hbm, 305, rfl⟩
abbrev main_v158 : Ref sig .tc := ⟨.hbm, 306, rfl⟩
abbrev main_v159 : Ref sig .tc := ⟨.hbm, 307, rfl⟩
abbrev main_cst_59 : Ref sig .tc := ⟨.hbm, 308, rfl⟩
abbrev main_v160 : Ref sig .tc := ⟨.hbm, 309, rfl⟩
abbrev main_v161 : Ref sig .tc := ⟨.hbm, 310, rfl⟩
abbrev main_v162 : Ref sig .tc := ⟨.hbm, 311, rfl⟩
abbrev main_cst_60 : Ref sig .tc := ⟨.hbm, 312, rfl⟩
abbrev main_v163 : Ref sig .tc := ⟨.hbm, 313, rfl⟩
abbrev main_v164 : Ref sig .tc := ⟨.hbm, 314, rfl⟩
abbrev main_v165 : Ref sig .tc := ⟨.hbm, 315, rfl⟩
abbrev main_cst_61 : Ref sig .tc := ⟨.hbm, 316, rfl⟩
abbrev main_v166 : Ref sig .tc := ⟨.hbm, 317, rfl⟩
abbrev main_v167 : Ref sig .tc := ⟨.hbm, 318, rfl⟩
abbrev main_cst_62 : Ref sig .tc := ⟨.hbm, 319, rfl⟩
abbrev main_v168 : Ref sig .tc := ⟨.hbm, 320, rfl⟩
abbrev main_v169 : Ref sig .tc := ⟨.hbm, 321, rfl⟩
abbrev main_cst_63 : Ref sig .tc := ⟨.hbm, 322, rfl⟩
abbrev main_v170 : Ref sig .tc := ⟨.hbm, 323, rfl⟩
abbrev main_v171 : Ref sig .tc := ⟨.hbm, 324, rfl⟩
abbrev main_v172 : Ref sig .tc := ⟨.hbm, 325, rfl⟩
abbrev main_cst_64 : Ref sig .tc := ⟨.hbm, 326, rfl⟩
abbrev main_v173 : Ref sig .tc := ⟨.hbm, 327, rfl⟩
abbrev main_v174 : Ref sig .tc := ⟨.hbm, 328, rfl⟩
abbrev main_v175 : Ref sig .tc := ⟨.hbm, 329, rfl⟩
abbrev main_cst_65 : Ref sig .tc := ⟨.hbm, 330, rfl⟩
abbrev main_v176 : Ref sig .tc := ⟨.hbm, 331, rfl⟩
abbrev main_v177 : Ref sig .tc := ⟨.hbm, 332, rfl⟩
abbrev main_v178 : Ref sig .tc := ⟨.hbm, 333, rfl⟩
abbrev main_cst_66 : Ref sig .tc := ⟨.hbm, 334, rfl⟩
abbrev main_v179 : Ref sig .tc := ⟨.hbm, 335, rfl⟩
abbrev main_v180 : Ref sig .tc := ⟨.hbm, 336, rfl⟩
abbrev main_cst_67 : Ref sig .tc := ⟨.hbm, 337, rfl⟩
abbrev main_v181 : Ref sig .tc := ⟨.hbm, 338, rfl⟩
abbrev main_v182 : Ref sig .tc := ⟨.hbm, 339, rfl⟩
abbrev main_v183 : Ref sig .tc := ⟨.hbm, 340, rfl⟩
abbrev main_cst_68 : Ref sig .tc := ⟨.hbm, 341, rfl⟩
abbrev main_v184 : Ref sig .tc := ⟨.hbm, 342, rfl⟩
abbrev main_v185 : Ref sig .tc := ⟨.hbm, 343, rfl⟩
abbrev main_v186 : Ref sig .tc := ⟨.hbm, 344, rfl⟩
abbrev main_cst_69 : Ref sig .tc := ⟨.hbm, 345, rfl⟩
abbrev main_v187 : Ref sig .tc := ⟨.hbm, 346, rfl⟩
abbrev main_v188 : Ref sig .tc := ⟨.hbm, 347, rfl⟩
abbrev main_v189 : Ref sig .tc := ⟨.hbm, 348, rfl⟩
abbrev main_cst_70 : Ref sig .tc := ⟨.hbm, 349, rfl⟩
abbrev main_v190 : Ref sig .tc := ⟨.hbm, 350, rfl⟩
abbrev main_v191 : Ref sig .tc := ⟨.hbm, 351, rfl⟩
abbrev main_cst_71 : Ref sig .tc := ⟨.hbm, 352, rfl⟩
abbrev main_v192 : Ref sig .tc := ⟨.hbm, 353, rfl⟩
abbrev main_v193 : Ref sig .tc := ⟨.hbm, 354, rfl⟩
abbrev main_cst_72 : Ref sig .tc := ⟨.hbm, 355, rfl⟩
abbrev main_v194 : Ref sig .tc := ⟨.hbm, 356, rfl⟩
abbrev main_v195 : Ref sig .tc := ⟨.hbm, 357, rfl⟩
abbrev main_v196 : Ref sig .tc := ⟨.hbm, 358, rfl⟩
abbrev main_cst_73 : Ref sig .tc := ⟨.hbm, 359, rfl⟩
abbrev main_v197 : Ref sig .tc := ⟨.hbm, 360, rfl⟩
abbrev main_v198 : Ref sig .tc := ⟨.hbm, 361, rfl⟩
abbrev main_v199 : Ref sig .tc := ⟨.hbm, 362, rfl⟩
abbrev main_cst_74 : Ref sig .tc := ⟨.hbm, 363, rfl⟩
abbrev main_v200 : Ref sig .tc := ⟨.hbm, 364, rfl⟩
abbrev main_v201 : Ref sig .tc := ⟨.hbm, 365, rfl⟩
abbrev main_v202 : Ref sig .tc := ⟨.hbm, 366, rfl⟩
abbrev main_cst_75 : Ref sig .tc := ⟨.hbm, 367, rfl⟩
abbrev main_v203 : Ref sig .tc := ⟨.hbm, 368, rfl⟩
abbrev main_v204 : Ref sig .tc := ⟨.hbm, 369, rfl⟩
abbrev main_cst_76 : Ref sig .tc := ⟨.hbm, 370, rfl⟩
abbrev main_v205 : Ref sig .tc := ⟨.hbm, 371, rfl⟩
abbrev main_v206 : Ref sig .tc := ⟨.hbm, 372, rfl⟩
abbrev main_v207 : Ref sig .tc := ⟨.hbm, 373, rfl⟩
abbrev main_cst_77 : Ref sig .tc := ⟨.hbm, 374, rfl⟩
abbrev main_v208 : Ref sig .tc := ⟨.hbm, 375, rfl⟩
abbrev main_v209 : Ref sig .tc := ⟨.hbm, 376, rfl⟩
abbrev main_v210 : Ref sig .tc := ⟨.hbm, 377, rfl⟩
abbrev main_cst_78 : Ref sig .tc := ⟨.hbm, 378, rfl⟩
abbrev main_v211 : Ref sig .tc := ⟨.hbm, 379, rfl⟩
abbrev main_v212 : Ref sig .tc := ⟨.hbm, 380, rfl⟩
abbrev main_v213 : Ref sig .tc := ⟨.hbm, 381, rfl⟩
abbrev main_cst_79 : Ref sig .tc := ⟨.hbm, 382, rfl⟩
abbrev main_v214 : Ref sig .tc := ⟨.hbm, 383, rfl⟩
abbrev main_v215 : Ref sig .tc := ⟨.hbm, 384, rfl⟩
abbrev main_cst_80 : Ref sig .tc := ⟨.hbm, 385, rfl⟩
abbrev main_v216 : Ref sig .tc := ⟨.hbm, 386, rfl⟩
abbrev main_v217 : Ref sig .tc := ⟨.hbm, 387, rfl⟩
abbrev main_cst_81 : Ref sig .tc := ⟨.hbm, 388, rfl⟩
abbrev main_v218 : Ref sig .tc := ⟨.hbm, 389, rfl⟩
abbrev main_v219 : Ref sig .tc := ⟨.hbm, 390, rfl⟩
abbrev main_v220 : Ref sig .tc := ⟨.hbm, 391, rfl⟩
abbrev main_cst_82 : Ref sig .tc := ⟨.hbm, 392, rfl⟩
abbrev main_v221 : Ref sig .tc := ⟨.hbm, 393, rfl⟩
abbrev main_v222 : Ref sig .tc := ⟨.hbm, 394, rfl⟩
abbrev main_v223 : Ref sig .tc := ⟨.hbm, 395, rfl⟩
abbrev main_cst_83 : Ref sig .tc := ⟨.hbm, 396, rfl⟩
abbrev main_v224 : Ref sig .tc := ⟨.hbm, 397, rfl⟩
abbrev main_v225 : Ref sig .tc := ⟨.hbm, 398, rfl⟩
abbrev main_v226 : Ref sig .tc := ⟨.hbm, 399, rfl⟩
abbrev main_cst_84 : Ref sig .tc := ⟨.hbm, 400, rfl⟩
abbrev main_v227 : Ref sig .tc := ⟨.hbm, 401, rfl⟩
abbrev main_v228 : Ref sig .tc := ⟨.hbm, 402, rfl⟩
abbrev main_cst_85 : Ref sig .tc := ⟨.hbm, 403, rfl⟩
abbrev main_v229 : Ref sig .tc := ⟨.hbm, 404, rfl⟩
abbrev main_v230 : Ref sig .tc := ⟨.hbm, 405, rfl⟩
abbrev main_v231 : Ref sig .tc := ⟨.hbm, 406, rfl⟩
abbrev main_cst_86 : Ref sig .tc := ⟨.hbm, 407, rfl⟩
abbrev main_v232 : Ref sig .tc := ⟨.hbm, 408, rfl⟩
abbrev main_v233 : Ref sig .tc := ⟨.hbm, 409, rfl⟩
abbrev main_v234 : Ref sig .tc := ⟨.hbm, 410, rfl⟩
abbrev main_cst_87 : Ref sig .tc := ⟨.hbm, 411, rfl⟩
abbrev main_v235 : Ref sig .tc := ⟨.hbm, 412, rfl⟩
abbrev main_v236 : Ref sig .tc := ⟨.hbm, 413, rfl⟩
abbrev main_v237 : Ref sig .tc := ⟨.hbm, 414, rfl⟩
abbrev main_cst_88 : Ref sig .tc := ⟨.hbm, 415, rfl⟩
abbrev main_v238 : Ref sig .tc := ⟨.hbm, 416, rfl⟩
abbrev main_v239 : Ref sig .tc := ⟨.hbm, 417, rfl⟩
abbrev main_cst_89 : Ref sig .tc := ⟨.hbm, 418, rfl⟩
abbrev main_v240 : Ref sig .tc := ⟨.hbm, 419, rfl⟩
abbrev main_v241 : Ref sig .tc := ⟨.hbm, 420, rfl⟩
abbrev main_cst_90 : Ref sig .tc := ⟨.hbm, 421, rfl⟩
abbrev main_v242 : Ref sig .tc := ⟨.hbm, 422, rfl⟩
abbrev main_v243 : Ref sig .tc := ⟨.hbm, 423, rfl⟩
abbrev main_v244 : Ref sig .tc := ⟨.hbm, 424, rfl⟩
abbrev main_cst_91 : Ref sig .tc := ⟨.hbm, 425, rfl⟩
abbrev main_v245 : Ref sig .tc := ⟨.hbm, 426, rfl⟩
abbrev main_v246 : Ref sig .tc := ⟨.hbm, 427, rfl⟩
abbrev main_v247 : Ref sig .tc := ⟨.hbm, 428, rfl⟩
abbrev main_cst_92 : Ref sig .tc := ⟨.hbm, 429, rfl⟩
abbrev main_v248 : Ref sig .tc := ⟨.hbm, 430, rfl⟩
abbrev main_v249 : Ref sig .tc := ⟨.hbm, 431, rfl⟩
abbrev main_v250 : Ref sig .tc := ⟨.hbm, 432, rfl⟩
abbrev main_cst_93 : Ref sig .tc := ⟨.hbm, 433, rfl⟩
abbrev main_v251 : Ref sig .tc := ⟨.hbm, 434, rfl⟩
abbrev main_v252 : Ref sig .tc := ⟨.hbm, 435, rfl⟩
abbrev main_cst_94 : Ref sig .tc := ⟨.hbm, 436, rfl⟩
abbrev main_v253 : Ref sig .tc := ⟨.hbm, 437, rfl⟩
abbrev main_v254 : Ref sig .tc := ⟨.hbm, 438, rfl⟩
abbrev main_v255 : Ref sig .tc := ⟨.hbm, 439, rfl⟩
abbrev main_cst_95 : Ref sig .tc := ⟨.hbm, 440, rfl⟩
abbrev main_v256 : Ref sig .tc := ⟨.hbm, 441, rfl⟩
abbrev main_v257 : Ref sig .tc := ⟨.hbm, 442, rfl⟩
abbrev main_v258 : Ref sig .tc := ⟨.hbm, 443, rfl⟩
abbrev main_cst_96 : Ref sig .tc := ⟨.hbm, 444, rfl⟩
abbrev main_v259 : Ref sig .tc := ⟨.hbm, 445, rfl⟩
abbrev main_v260 : Ref sig .tc := ⟨.hbm, 446, rfl⟩
abbrev main_v261 : Ref sig .tc := ⟨.hbm, 447, rfl⟩
abbrev main_cst_97 : Ref sig .tc := ⟨.hbm, 448, rfl⟩
abbrev main_v262 : Ref sig .tc := ⟨.hbm, 449, rfl⟩
abbrev main_v263 : Ref sig .tc := ⟨.hbm, 450, rfl⟩
abbrev main_cst_98 : Ref sig .tc := ⟨.hbm, 451, rfl⟩
abbrev main_v264 : Ref sig .tc := ⟨.hbm, 452, rfl⟩
abbrev main_v265 : Ref sig .tc := ⟨.hbm, 453, rfl⟩
abbrev main_cst_99 : Ref sig .tc := ⟨.hbm, 454, rfl⟩
abbrev main_v266 : Ref sig .tc := ⟨.hbm, 455, rfl⟩
abbrev main_v267 : Ref sig .tc := ⟨.hbm, 456, rfl⟩
abbrev main_v268 : Ref sig .tc := ⟨.hbm, 457, rfl⟩
abbrev main_cst_100 : Ref sig .tc := ⟨.hbm, 458, rfl⟩
abbrev main_v269 : Ref sig .tc := ⟨.hbm, 459, rfl⟩
abbrev main_v270 : Ref sig .tc := ⟨.hbm, 460, rfl⟩
abbrev main_v271 : Ref sig .tc := ⟨.hbm, 461, rfl⟩
abbrev main_cst_101 : Ref sig .tc := ⟨.hbm, 462, rfl⟩
abbrev main_v272 : Ref sig .tc := ⟨.hbm, 463, rfl⟩
abbrev main_v273 : Ref sig .tc := ⟨.hbm, 464, rfl⟩
abbrev main_v274 : Ref sig .tc := ⟨.hbm, 465, rfl⟩
abbrev main_cst_102 : Ref sig .tc := ⟨.hbm, 466, rfl⟩
abbrev main_v275 : Ref sig .tc := ⟨.hbm, 467, rfl⟩
abbrev main_v276 : Ref sig .tc := ⟨.hbm, 468, rfl⟩
abbrev main_cst_103 : Ref sig .tc := ⟨.hbm, 469, rfl⟩
abbrev main_v277 : Ref sig .tc := ⟨.hbm, 470, rfl⟩
abbrev main_v278 : Ref sig .tc := ⟨.hbm, 471, rfl⟩
abbrev main_v279 : Ref sig .tc := ⟨.hbm, 472, rfl⟩
abbrev main_cst_104 : Ref sig .tc := ⟨.hbm, 473, rfl⟩
abbrev main_v280 : Ref sig .tc := ⟨.hbm, 474, rfl⟩
abbrev main_v281 : Ref sig .tc := ⟨.hbm, 475, rfl⟩
abbrev main_v282 : Ref sig .tc := ⟨.hbm, 476, rfl⟩
abbrev main_cst_105 : Ref sig .tc := ⟨.hbm, 477, rfl⟩
abbrev main_v283 : Ref sig .tc := ⟨.hbm, 478, rfl⟩
abbrev main_v284 : Ref sig .tc := ⟨.hbm, 479, rfl⟩
abbrev main_v285 : Ref sig .tc := ⟨.hbm, 480, rfl⟩
abbrev main_cst_106 : Ref sig .tc := ⟨.hbm, 481, rfl⟩
abbrev main_v286 : Ref sig .tc := ⟨.hbm, 482, rfl⟩
abbrev main_v287 : Ref sig .tc := ⟨.hbm, 483, rfl⟩
abbrev main_cst_107 : Ref sig .tc := ⟨.hbm, 484, rfl⟩
abbrev main_v288 : Ref sig .tc := ⟨.hbm, 485, rfl⟩
abbrev main_v289 : Ref sig .tc := ⟨.hbm, 486, rfl⟩
abbrev main_cst_108 : Ref sig .tc := ⟨.hbm, 487, rfl⟩
abbrev main_v290 : Ref sig .tc := ⟨.hbm, 488, rfl⟩
abbrev main_v291 : Ref sig .tc := ⟨.hbm, 489, rfl⟩
abbrev main_v292 : Ref sig .tc := ⟨.hbm, 490, rfl⟩
abbrev main_cst_109 : Ref sig .tc := ⟨.hbm, 491, rfl⟩
abbrev main_v293 : Ref sig .tc := ⟨.hbm, 492, rfl⟩
abbrev main_v294 : Ref sig .tc := ⟨.hbm, 493, rfl⟩
abbrev main_v295 : Ref sig .tc := ⟨.hbm, 494, rfl⟩
abbrev main_cst_110 : Ref sig .tc := ⟨.hbm, 495, rfl⟩
abbrev main_v296 : Ref sig .tc := ⟨.hbm, 496, rfl⟩
abbrev main_v297 : Ref sig .tc := ⟨.hbm, 497, rfl⟩
abbrev main_v298 : Ref sig .tc := ⟨.hbm, 498, rfl⟩
abbrev main_cst_111 : Ref sig .tc := ⟨.hbm, 499, rfl⟩
abbrev main_v299 : Ref sig .tc := ⟨.hbm, 500, rfl⟩
abbrev main_v300 : Ref sig .tc := ⟨.hbm, 501, rfl⟩
abbrev main_cst_112 : Ref sig .tc := ⟨.hbm, 502, rfl⟩
abbrev main_v301 : Ref sig .tc := ⟨.hbm, 503, rfl⟩
abbrev main_v302 : Ref sig .tc := ⟨.hbm, 504, rfl⟩
abbrev main_v303 : Ref sig .tc := ⟨.hbm, 505, rfl⟩
abbrev main_cst_113 : Ref sig .tc := ⟨.hbm, 506, rfl⟩
abbrev main_v304 : Ref sig .tc := ⟨.hbm, 507, rfl⟩
abbrev main_v305 : Ref sig .tc := ⟨.hbm, 508, rfl⟩
abbrev main_v306 : Ref sig .tc := ⟨.hbm, 509, rfl⟩
abbrev main_cst_114 : Ref sig .tc := ⟨.hbm, 510, rfl⟩
abbrev main_v307 : Ref sig .tc := ⟨.hbm, 511, rfl⟩
abbrev main_v308 : Ref sig .tc := ⟨.hbm, 512, rfl⟩
abbrev main_v309 : Ref sig .tc := ⟨.hbm, 513, rfl⟩
abbrev main_cst_115 : Ref sig .tc := ⟨.hbm, 514, rfl⟩
abbrev main_v310 : Ref sig .tc := ⟨.hbm, 515, rfl⟩
abbrev main_v311 : Ref sig .tc := ⟨.hbm, 516, rfl⟩
abbrev main_cst_116 : Ref sig .tc := ⟨.hbm, 517, rfl⟩
abbrev main_v312 : Ref sig .tc := ⟨.hbm, 518, rfl⟩
abbrev main_v313 : Ref sig .tc := ⟨.hbm, 519, rfl⟩
abbrev main_cst_117 : Ref sig .tc := ⟨.hbm, 520, rfl⟩
abbrev main_v314 : Ref sig .tc := ⟨.hbm, 521, rfl⟩
abbrev main_v315 : Ref sig .tc := ⟨.hbm, 522, rfl⟩
abbrev main_v316 : Ref sig .tc := ⟨.hbm, 523, rfl⟩
abbrev main_cst_118 : Ref sig .tc := ⟨.hbm, 524, rfl⟩
abbrev main_v317 : Ref sig .tc := ⟨.hbm, 525, rfl⟩
abbrev main_v318 : Ref sig .tc := ⟨.hbm, 526, rfl⟩
abbrev main_v319 : Ref sig .tc := ⟨.hbm, 527, rfl⟩
abbrev main_cst_119 : Ref sig .tc := ⟨.hbm, 528, rfl⟩
abbrev main_v320 : Ref sig .tc := ⟨.hbm, 529, rfl⟩
abbrev main_v321 : Ref sig .tc := ⟨.hbm, 530, rfl⟩
abbrev main_v322 : Ref sig .tc := ⟨.hbm, 531, rfl⟩
abbrev main_cst_120 : Ref sig .tc := ⟨.hbm, 532, rfl⟩
abbrev main_v323 : Ref sig .tc := ⟨.hbm, 533, rfl⟩
abbrev main_v324 : Ref sig .tc := ⟨.hbm, 534, rfl⟩
abbrev main_cst_121 : Ref sig .tc := ⟨.hbm, 535, rfl⟩
abbrev main_v325 : Ref sig .tc := ⟨.hbm, 536, rfl⟩
abbrev main_v326 : Ref sig .tc := ⟨.hbm, 537, rfl⟩
abbrev main_v327 : Ref sig .tc := ⟨.hbm, 538, rfl⟩
abbrev main_cst_122 : Ref sig .tc := ⟨.hbm, 539, rfl⟩
abbrev main_v328 : Ref sig .tc := ⟨.hbm, 540, rfl⟩
abbrev main_v329 : Ref sig .tc := ⟨.hbm, 541, rfl⟩
abbrev main_v330 : Ref sig .tc := ⟨.hbm, 542, rfl⟩
abbrev main_cst_123 : Ref sig .tc := ⟨.hbm, 543, rfl⟩
abbrev main_v331 : Ref sig .tc := ⟨.hbm, 544, rfl⟩
abbrev main_v332 : Ref sig .tc := ⟨.hbm, 545, rfl⟩
abbrev main_v333 : Ref sig .tc := ⟨.hbm, 546, rfl⟩
abbrev main_cst_124 : Ref sig .tc := ⟨.hbm, 547, rfl⟩
abbrev main_v334 : Ref sig .tc := ⟨.hbm, 548, rfl⟩
abbrev main_v335 : Ref sig .tc := ⟨.hbm, 549, rfl⟩
abbrev main_cst_125 : Ref sig .tc := ⟨.hbm, 550, rfl⟩
abbrev main_v336 : Ref sig .tc := ⟨.hbm, 551, rfl⟩
abbrev main_v337 : Ref sig .tc := ⟨.hbm, 552, rfl⟩
abbrev main_cst_126 : Ref sig .tc := ⟨.hbm, 553, rfl⟩
abbrev main_v338 : Ref sig .tc := ⟨.hbm, 554, rfl⟩
abbrev main_v339 : Ref sig .tc := ⟨.hbm, 555, rfl⟩
abbrev main_v340 : Ref sig .tc := ⟨.hbm, 556, rfl⟩
abbrev main_cst_127 : Ref sig .tc := ⟨.hbm, 557, rfl⟩
abbrev main_v341 : Ref sig .tc := ⟨.hbm, 558, rfl⟩
abbrev main_v342 : Ref sig .tc := ⟨.hbm, 559, rfl⟩
abbrev main_v343 : Ref sig .tc := ⟨.hbm, 560, rfl⟩
abbrev main_cst_128 : Ref sig .tc := ⟨.hbm, 561, rfl⟩
abbrev main_v344 : Ref sig .tc := ⟨.hbm, 562, rfl⟩
abbrev main_v345 : Ref sig .tc := ⟨.hbm, 563, rfl⟩
abbrev main_v346 : Ref sig .tc := ⟨.hbm, 564, rfl⟩
abbrev main_cst_129 : Ref sig .tc := ⟨.hbm, 565, rfl⟩
abbrev main_v347 : Ref sig .tc := ⟨.hbm, 566, rfl⟩
abbrev main_v348 : Ref sig .tc := ⟨.hbm, 567, rfl⟩
abbrev main_cst_130 : Ref sig .tc := ⟨.hbm, 568, rfl⟩
abbrev main_v349 : Ref sig .tc := ⟨.hbm, 569, rfl⟩
abbrev main_v350 : Ref sig .tc := ⟨.hbm, 570, rfl⟩
abbrev main_v351 : Ref sig .tc := ⟨.hbm, 571, rfl⟩
abbrev main_cst_131 : Ref sig .tc := ⟨.hbm, 572, rfl⟩
abbrev main_v352 : Ref sig .tc := ⟨.hbm, 573, rfl⟩
abbrev main_v353 : Ref sig .tc := ⟨.hbm, 574, rfl⟩
abbrev main_v354 : Ref sig .tc := ⟨.hbm, 575, rfl⟩
abbrev main_cst_132 : Ref sig .tc := ⟨.hbm, 576, rfl⟩
abbrev main_v355 : Ref sig .tc := ⟨.hbm, 577, rfl⟩
abbrev main_v356 : Ref sig .tc := ⟨.hbm, 578, rfl⟩
abbrev main_v357 : Ref sig .tc := ⟨.hbm, 579, rfl⟩
abbrev main_cst_133 : Ref sig .tc := ⟨.hbm, 580, rfl⟩
abbrev main_v358 : Ref sig .tc := ⟨.hbm, 581, rfl⟩
abbrev main_v359 : Ref sig .tc := ⟨.hbm, 582, rfl⟩
abbrev main_cst_134 : Ref sig .tc := ⟨.hbm, 583, rfl⟩
abbrev main_v360 : Ref sig .tc := ⟨.hbm, 584, rfl⟩
abbrev main_v361 : Ref sig .tc := ⟨.hbm, 585, rfl⟩
abbrev main_cst_135 : Ref sig .tc := ⟨.hbm, 586, rfl⟩
abbrev main_v362 : Ref sig .tc := ⟨.hbm, 587, rfl⟩
abbrev main_v363 : Ref sig .tc := ⟨.hbm, 588, rfl⟩
abbrev main_v364 : Ref sig .tc := ⟨.hbm, 589, rfl⟩
abbrev main_cst_136 : Ref sig .tc := ⟨.hbm, 590, rfl⟩
abbrev main_v365 : Ref sig .tc := ⟨.hbm, 591, rfl⟩
abbrev main_v366 : Ref sig .tc := ⟨.hbm, 592, rfl⟩
abbrev main_v367 : Ref sig .tc := ⟨.hbm, 593, rfl⟩
abbrev main_cst_137 : Ref sig .tc := ⟨.hbm, 594, rfl⟩
abbrev main_v368 : Ref sig .tc := ⟨.hbm, 595, rfl⟩
abbrev main_v369 : Ref sig .tc := ⟨.hbm, 596, rfl⟩
abbrev main_v370 : Ref sig .tc := ⟨.hbm, 597, rfl⟩
abbrev main_cst_138 : Ref sig .tc := ⟨.hbm, 598, rfl⟩
abbrev main_v371 : Ref sig .tc := ⟨.hbm, 599, rfl⟩
abbrev main_v372 : Ref sig .tc := ⟨.hbm, 600, rfl⟩
abbrev main_cst_139 : Ref sig .tc := ⟨.hbm, 601, rfl⟩
abbrev main_v373 : Ref sig .tc := ⟨.hbm, 602, rfl⟩
abbrev main_v374 : Ref sig .tc := ⟨.hbm, 603, rfl⟩
abbrev main_v375 : Ref sig .tc := ⟨.hbm, 604, rfl⟩
abbrev main_cst_140 : Ref sig .tc := ⟨.hbm, 605, rfl⟩
abbrev main_v376 : Ref sig .tc := ⟨.hbm, 606, rfl⟩
abbrev main_v377 : Ref sig .tc := ⟨.hbm, 607, rfl⟩
abbrev main_v378 : Ref sig .tc := ⟨.hbm, 608, rfl⟩
abbrev main_cst_141 : Ref sig .tc := ⟨.hbm, 609, rfl⟩
abbrev main_v379 : Ref sig .tc := ⟨.hbm, 610, rfl⟩
abbrev main_v380 : Ref sig .tc := ⟨.hbm, 611, rfl⟩
abbrev main_v381 : Ref sig .tc := ⟨.hbm, 612, rfl⟩
abbrev main_cst_142 : Ref sig .tc := ⟨.hbm, 613, rfl⟩
abbrev main_v382 : Ref sig .tc := ⟨.hbm, 614, rfl⟩
abbrev main_v383 : Ref sig .tc := ⟨.hbm, 615, rfl⟩
abbrev main_cst_143 : Ref sig .tc := ⟨.hbm, 616, rfl⟩
abbrev main_v384 : Ref sig .tc := ⟨.hbm, 617, rfl⟩
abbrev main_v385 : Ref sig .tc := ⟨.hbm, 618, rfl⟩
abbrev main_cst_144 : Ref sig .tc := ⟨.hbm, 619, rfl⟩
abbrev main_v386 : Ref sig .tc := ⟨.hbm, 620, rfl⟩
abbrev main_v387 : Ref sig .tc := ⟨.hbm, 621, rfl⟩
abbrev main_v388 : Ref sig .tc := ⟨.hbm, 622, rfl⟩
abbrev main_cst_145 : Ref sig .tc := ⟨.hbm, 623, rfl⟩
abbrev main_v389 : Ref sig .tc := ⟨.hbm, 624, rfl⟩
abbrev main_v390 : Ref sig .tc := ⟨.hbm, 625, rfl⟩
abbrev main_v391 : Ref sig .tc := ⟨.hbm, 626, rfl⟩
abbrev main_cst_146 : Ref sig .tc := ⟨.hbm, 627, rfl⟩
abbrev main_v392 : Ref sig .tc := ⟨.hbm, 628, rfl⟩
abbrev main_v393 : Ref sig .tc := ⟨.hbm, 629, rfl⟩
abbrev main_v394 : Ref sig .tc := ⟨.hbm, 630, rfl⟩
abbrev main_cst_147 : Ref sig .tc := ⟨.hbm, 631, rfl⟩
abbrev main_v395 : Ref sig .tc := ⟨.hbm, 632, rfl⟩
abbrev main_v396 : Ref sig .tc := ⟨.hbm, 633, rfl⟩
abbrev main_cst_148 : Ref sig .tc := ⟨.hbm, 634, rfl⟩
abbrev main_v397 : Ref sig .tc := ⟨.hbm, 635, rfl⟩
abbrev main_v398 : Ref sig .tc := ⟨.hbm, 636, rfl⟩
abbrev main_v399 : Ref sig .tc := ⟨.hbm, 637, rfl⟩
abbrev main_cst_149 : Ref sig .tc := ⟨.hbm, 638, rfl⟩
abbrev main_v400 : Ref sig .tc := ⟨.hbm, 639, rfl⟩
abbrev main_v401 : Ref sig .tc := ⟨.hbm, 640, rfl⟩
abbrev main_v402 : Ref sig .tc := ⟨.hbm, 641, rfl⟩
abbrev main_cst_150 : Ref sig .tc := ⟨.hbm, 642, rfl⟩
abbrev main_v403 : Ref sig .tc := ⟨.hbm, 643, rfl⟩
abbrev main_v404 : Ref sig .tc := ⟨.hbm, 644, rfl⟩
abbrev main_v405 : Ref sig .tc := ⟨.hbm, 645, rfl⟩
abbrev main_cst_151 : Ref sig .tc := ⟨.hbm, 646, rfl⟩
abbrev main_v406 : Ref sig .tc := ⟨.hbm, 647, rfl⟩
abbrev main_v407 : Ref sig .tc := ⟨.hbm, 648, rfl⟩
abbrev main_cst_152 : Ref sig .tc := ⟨.hbm, 649, rfl⟩
abbrev main_v408 : Ref sig .tc := ⟨.hbm, 650, rfl⟩
abbrev main_v409 : Ref sig .tc := ⟨.hbm, 651, rfl⟩
abbrev main_cst_153 : Ref sig .tc := ⟨.hbm, 652, rfl⟩
abbrev main_v410 : Ref sig .tc := ⟨.hbm, 653, rfl⟩
abbrev main_v411 : Ref sig .tc := ⟨.hbm, 654, rfl⟩
abbrev main_v412 : Ref sig .tc := ⟨.hbm, 655, rfl⟩
abbrev main_cst_154 : Ref sig .tc := ⟨.hbm, 656, rfl⟩
abbrev main_v413 : Ref sig .tc := ⟨.hbm, 657, rfl⟩
abbrev main_v414 : Ref sig .tc := ⟨.hbm, 658, rfl⟩
abbrev main_v415 : Ref sig .tc := ⟨.hbm, 659, rfl⟩
abbrev main_cst_155 : Ref sig .tc := ⟨.hbm, 660, rfl⟩
abbrev main_v416 : Ref sig .tc := ⟨.hbm, 661, rfl⟩
abbrev main_v417 : Ref sig .tc := ⟨.hbm, 662, rfl⟩
abbrev main_v418 : Ref sig .tc := ⟨.hbm, 663, rfl⟩
abbrev main_cst_156 : Ref sig .tc := ⟨.hbm, 664, rfl⟩
abbrev main_v419 : Ref sig .tc := ⟨.hbm, 665, rfl⟩
abbrev main_v420 : Ref sig .tc := ⟨.hbm, 666, rfl⟩
abbrev main_cst_157 : Ref sig .tc := ⟨.hbm, 667, rfl⟩
abbrev main_v421 : Ref sig .tc := ⟨.hbm, 668, rfl⟩
abbrev main_v422 : Ref sig .tc := ⟨.hbm, 669, rfl⟩
abbrev main_v423 : Ref sig .tc := ⟨.hbm, 670, rfl⟩
abbrev main_cst_158 : Ref sig .tc := ⟨.hbm, 671, rfl⟩
abbrev main_v424 : Ref sig .tc := ⟨.hbm, 672, rfl⟩
abbrev main_v425 : Ref sig .tc := ⟨.hbm, 673, rfl⟩
abbrev main_v426 : Ref sig .tc := ⟨.hbm, 674, rfl⟩
abbrev main_cst_159 : Ref sig .tc := ⟨.hbm, 675, rfl⟩
abbrev main_v427 : Ref sig .tc := ⟨.hbm, 676, rfl⟩
abbrev main_v428 : Ref sig .tc := ⟨.hbm, 677, rfl⟩
abbrev main_v429 : Ref sig .tc := ⟨.hbm, 678, rfl⟩
abbrev main_cst_160 : Ref sig .tc := ⟨.hbm, 679, rfl⟩
abbrev main_v430 : Ref sig .tc := ⟨.hbm, 680, rfl⟩
abbrev main_v431 : Ref sig .tc := ⟨.hbm, 681, rfl⟩
abbrev main_cst_161 : Ref sig .tc := ⟨.hbm, 682, rfl⟩
abbrev main_v432 : Ref sig .tc := ⟨.hbm, 683, rfl⟩
abbrev main_v433 : Ref sig .tc := ⟨.hbm, 684, rfl⟩
abbrev main_cst_162 : Ref sig .tc := ⟨.hbm, 685, rfl⟩
abbrev main_v434 : Ref sig .tc := ⟨.hbm, 686, rfl⟩
abbrev main_v435 : Ref sig .tc := ⟨.hbm, 687, rfl⟩
abbrev main_v436 : Ref sig .tc := ⟨.hbm, 688, rfl⟩
abbrev main_cst_163 : Ref sig .tc := ⟨.hbm, 689, rfl⟩
abbrev main_v437 : Ref sig .tc := ⟨.hbm, 690, rfl⟩
abbrev main_v438 : Ref sig .tc := ⟨.hbm, 691, rfl⟩
abbrev main_v439 : Ref sig .tc := ⟨.hbm, 692, rfl⟩
abbrev main_cst_164 : Ref sig .tc := ⟨.hbm, 693, rfl⟩
abbrev main_v440 : Ref sig .tc := ⟨.hbm, 694, rfl⟩
abbrev main_v441 : Ref sig .tc := ⟨.hbm, 695, rfl⟩
abbrev main_v442 : Ref sig .tc := ⟨.hbm, 696, rfl⟩
abbrev main_cst_165 : Ref sig .tc := ⟨.hbm, 697, rfl⟩
abbrev main_v443 : Ref sig .tc := ⟨.hbm, 698, rfl⟩
abbrev main_v444 : Ref sig .tc := ⟨.hbm, 699, rfl⟩
abbrev main_cst_166 : Ref sig .tc := ⟨.hbm, 700, rfl⟩
abbrev main_v445 : Ref sig .tc := ⟨.hbm, 701, rfl⟩
abbrev main_v446 : Ref sig .tc := ⟨.hbm, 702, rfl⟩
abbrev main_v447 : Ref sig .tc := ⟨.hbm, 703, rfl⟩
abbrev main_cst_167 : Ref sig .tc := ⟨.hbm, 704, rfl⟩
abbrev main_v448 : Ref sig .tc := ⟨.hbm, 705, rfl⟩
abbrev main_v449 : Ref sig .tc := ⟨.hbm, 706, rfl⟩
abbrev main_v450 : Ref sig .tc := ⟨.hbm, 707, rfl⟩
abbrev main_cst_168 : Ref sig .tc := ⟨.hbm, 708, rfl⟩
abbrev main_v451 : Ref sig .tc := ⟨.hbm, 709, rfl⟩
abbrev main_v452 : Ref sig .tc := ⟨.hbm, 710, rfl⟩
abbrev main_v453 : Ref sig .tc := ⟨.hbm, 711, rfl⟩
abbrev main_cst_169 : Ref sig .tc := ⟨.hbm, 712, rfl⟩
abbrev main_v454 : Ref sig .tc := ⟨.hbm, 713, rfl⟩
abbrev main_v455 : Ref sig .tc := ⟨.hbm, 714, rfl⟩
abbrev main_cst_170 : Ref sig .tc := ⟨.hbm, 715, rfl⟩
abbrev main_v456 : Ref sig .tc := ⟨.hbm, 716, rfl⟩
abbrev main_v457 : Ref sig .tc := ⟨.hbm, 717, rfl⟩
abbrev main_cst_171 : Ref sig .tc := ⟨.hbm, 718, rfl⟩
abbrev main_v458 : Ref sig .tc := ⟨.hbm, 719, rfl⟩
abbrev main_v459 : Ref sig .tc := ⟨.hbm, 720, rfl⟩
abbrev main_v460 : Ref sig .tc := ⟨.hbm, 721, rfl⟩
abbrev main_cst_172 : Ref sig .tc := ⟨.hbm, 722, rfl⟩
abbrev main_v461 : Ref sig .tc := ⟨.hbm, 723, rfl⟩
abbrev main_v462 : Ref sig .tc := ⟨.hbm, 724, rfl⟩
abbrev main_v463 : Ref sig .tc := ⟨.hbm, 725, rfl⟩
abbrev main_cst_173 : Ref sig .tc := ⟨.hbm, 726, rfl⟩
abbrev main_v464 : Ref sig .tc := ⟨.hbm, 727, rfl⟩
abbrev main_v465 : Ref sig .tc := ⟨.hbm, 728, rfl⟩
abbrev main_v466 : Ref sig .tc := ⟨.hbm, 729, rfl⟩
abbrev main_cst_174 : Ref sig .tc := ⟨.hbm, 730, rfl⟩
abbrev main_v467 : Ref sig .tc := ⟨.hbm, 731, rfl⟩
abbrev main_v468 : Ref sig .tc := ⟨.hbm, 732, rfl⟩
abbrev main_cst_175 : Ref sig .tc := ⟨.hbm, 733, rfl⟩
abbrev main_v469 : Ref sig .tc := ⟨.hbm, 734, rfl⟩
abbrev main_v470 : Ref sig .tc := ⟨.hbm, 735, rfl⟩
abbrev main_v471 : Ref sig .tc := ⟨.hbm, 736, rfl⟩
abbrev main_cst_176 : Ref sig .tc := ⟨.hbm, 737, rfl⟩
abbrev main_v472 : Ref sig .tc := ⟨.hbm, 738, rfl⟩
abbrev main_v473 : Ref sig .tc := ⟨.hbm, 739, rfl⟩
abbrev main_v474 : Ref sig .tc := ⟨.hbm, 740, rfl⟩
abbrev main_cst_177 : Ref sig .tc := ⟨.hbm, 741, rfl⟩
abbrev main_v475 : Ref sig .tc := ⟨.hbm, 742, rfl⟩
abbrev main_v476 : Ref sig .tc := ⟨.hbm, 743, rfl⟩
abbrev main_v477 : Ref sig .tc := ⟨.hbm, 744, rfl⟩
abbrev main_cst_178 : Ref sig .tc := ⟨.hbm, 745, rfl⟩
abbrev main_v478 : Ref sig .tc := ⟨.hbm, 746, rfl⟩
abbrev main_v479 : Ref sig .tc := ⟨.hbm, 747, rfl⟩
abbrev main_cst_179 : Ref sig .tc := ⟨.hbm, 748, rfl⟩
abbrev main_v480 : Ref sig .tc := ⟨.hbm, 749, rfl⟩
abbrev main_v481 : Ref sig .tc := ⟨.hbm, 750, rfl⟩
abbrev main_cst_180 : Ref sig .tc := ⟨.hbm, 751, rfl⟩
abbrev main_v482 : Ref sig .tc := ⟨.hbm, 752, rfl⟩
abbrev main_v483 : Ref sig .tc := ⟨.hbm, 753, rfl⟩
abbrev main_v484 : Ref sig .tc := ⟨.hbm, 754, rfl⟩
abbrev main_cst_181 : Ref sig .tc := ⟨.hbm, 755, rfl⟩
abbrev main_v485 : Ref sig .tc := ⟨.hbm, 756, rfl⟩
abbrev main_v486 : Ref sig .tc := ⟨.hbm, 757, rfl⟩
abbrev main_v487 : Ref sig .tc := ⟨.hbm, 758, rfl⟩
abbrev main_cst_182 : Ref sig .tc := ⟨.hbm, 759, rfl⟩
abbrev main_v488 : Ref sig .tc := ⟨.hbm, 760, rfl⟩
abbrev main_v489 : Ref sig .tc := ⟨.hbm, 761, rfl⟩
abbrev main_v490 : Ref sig .tc := ⟨.hbm, 762, rfl⟩
abbrev main_cst_183 : Ref sig .tc := ⟨.hbm, 763, rfl⟩
abbrev main_v491 : Ref sig .tc := ⟨.hbm, 764, rfl⟩
abbrev main_v492 : Ref sig .tc := ⟨.hbm, 765, rfl⟩
abbrev main_cst_184 : Ref sig .tc := ⟨.hbm, 766, rfl⟩
abbrev main_v493 : Ref sig .tc := ⟨.hbm, 767, rfl⟩
abbrev main_v494 : Ref sig .tc := ⟨.hbm, 768, rfl⟩
abbrev main_v495 : Ref sig .tc := ⟨.hbm, 769, rfl⟩
abbrev main_cst_185 : Ref sig .tc := ⟨.hbm, 770, rfl⟩
abbrev main_v496 : Ref sig .tc := ⟨.hbm, 771, rfl⟩
abbrev main_v497 : Ref sig .tc := ⟨.hbm, 772, rfl⟩
abbrev main_v498 : Ref sig .tc := ⟨.hbm, 773, rfl⟩
abbrev main_cst_186 : Ref sig .tc := ⟨.hbm, 774, rfl⟩
abbrev main_v499 : Ref sig .tc := ⟨.hbm, 775, rfl⟩
abbrev main_v500 : Ref sig .tc := ⟨.hbm, 776, rfl⟩
abbrev main_v501 : Ref sig .tc := ⟨.hbm, 777, rfl⟩
abbrev main_cst_187 : Ref sig .tc := ⟨.hbm, 778, rfl⟩
abbrev main_v502 : Ref sig .tc := ⟨.hbm, 779, rfl⟩
abbrev main_v503 : Ref sig .tc := ⟨.hbm, 780, rfl⟩
abbrev main_cst_188 : Ref sig .tc := ⟨.hbm, 781, rfl⟩
abbrev main_v504 : Ref sig .tc := ⟨.hbm, 782, rfl⟩
abbrev main_v505 : Ref sig .tc := ⟨.hbm, 783, rfl⟩
abbrev main_cst_189 : Ref sig .tc := ⟨.hbm, 784, rfl⟩
abbrev main_v506 : Ref sig .tc := ⟨.hbm, 785, rfl⟩
abbrev main_v507 : Ref sig .tc := ⟨.hbm, 786, rfl⟩
abbrev main_v508 : Ref sig .tc := ⟨.hbm, 787, rfl⟩
abbrev main_cst_190 : Ref sig .tc := ⟨.hbm, 788, rfl⟩
abbrev main_v509 : Ref sig .tc := ⟨.hbm, 789, rfl⟩
abbrev main_v510 : Ref sig .tc := ⟨.hbm, 790, rfl⟩
abbrev main_v511 : Ref sig .tc := ⟨.hbm, 791, rfl⟩
abbrev main_cst_191 : Ref sig .tc := ⟨.hbm, 792, rfl⟩
abbrev main_v512 : Ref sig .tc := ⟨.hbm, 793, rfl⟩
abbrev main_v513 : Ref sig .tc := ⟨.hbm, 794, rfl⟩
abbrev main_v514 : Ref sig .tc := ⟨.hbm, 795, rfl⟩
abbrev main_cst_192 : Ref sig .tc := ⟨.hbm, 796, rfl⟩
abbrev main_v515 : Ref sig .tc := ⟨.hbm, 797, rfl⟩
abbrev main_v516 : Ref sig .tc := ⟨.hbm, 798, rfl⟩
abbrev main_cst_193 : Ref sig .tc := ⟨.hbm, 799, rfl⟩
abbrev main_v517 : Ref sig .tc := ⟨.hbm, 800, rfl⟩
abbrev main_v518 : Ref sig .tc := ⟨.hbm, 801, rfl⟩
abbrev main_v519 : Ref sig .tc := ⟨.hbm, 802, rfl⟩
abbrev main_cst_194 : Ref sig .tc := ⟨.hbm, 803, rfl⟩
abbrev main_v520 : Ref sig .tc := ⟨.hbm, 804, rfl⟩
abbrev main_v521 : Ref sig .tc := ⟨.hbm, 805, rfl⟩
abbrev main_v522 : Ref sig .tc := ⟨.hbm, 806, rfl⟩
abbrev main_cst_195 : Ref sig .tc := ⟨.hbm, 807, rfl⟩
abbrev main_v523 : Ref sig .tc := ⟨.hbm, 808, rfl⟩
abbrev main_v524 : Ref sig .tc := ⟨.hbm, 809, rfl⟩
abbrev main_v525 : Ref sig .tc := ⟨.hbm, 810, rfl⟩
abbrev main_cst_196 : Ref sig .tc := ⟨.hbm, 811, rfl⟩
abbrev main_v526 : Ref sig .tc := ⟨.hbm, 812, rfl⟩
abbrev main_v527 : Ref sig .tc := ⟨.hbm, 813, rfl⟩

abbrev nD : Nat := 1
abbrev τ : Topo := Topo.v7x

variable {F : FTy → Type} [FloatOps F]
-- ==== FinalLoss.lean ====
abbrev S2064x1024 : Shape := ⟨2, ![2064, 1024]⟩
abbrev S1x1024 : Shape := ⟨2, ![1, 1024]⟩
abbrev S2048x1024 : Shape := ⟨2, ![2048, 1024]⟩
abbrev S_ : Shape := ⟨0, ![]⟩
abbrev S8x128 : Shape := ⟨2, ![8, 128]⟩
abbrev S688x1024 : Shape := ⟨2, ![688, 1024]⟩
abbrev S688 : Shape := ⟨1, ![688]⟩
abbrev S688x1 : Shape := ⟨2, ![688, 1]⟩
abbrev S1 : Shape := ⟨1, ![1]⟩
abbrev S1x1 : Shape := ⟨2, ![1, 1]⟩
abbrev S1024 : Shape := ⟨1, ![1024]⟩

abbrev nBuf : Space → Nat
  | .hbm => 11
  | .vmem => 9
  | .smem => 0
  | _ => 0

abbrev bufTy : (tb : Table) → Fin (tcTables nBuf tb) → BufTy
  | .hbm, ⟨0, _⟩ => ⟨S2064x1024, .f32⟩
  | .hbm, ⟨1, _⟩ => ⟨S1x1024, .f32⟩
  | .hbm, ⟨2, _⟩ => ⟨S2048x1024, .f32⟩
  | .hbm, ⟨3, _⟩ => ⟨S_, .i32⟩
  | .hbm, ⟨4, _⟩ => ⟨S_, .f32⟩
  | .hbm, ⟨5, _⟩ => ⟨S2064x1024, .f32⟩
  | .hbm, ⟨6, _⟩ => ⟨S8x128, .f32⟩
  | .hbm, ⟨7, _⟩ => ⟨S2064x1024, .f32⟩
  | .hbm, ⟨8, _⟩ => ⟨S1x1024, .f32⟩
  | .hbm, ⟨9, _⟩ => ⟨S1x1, .f32⟩
  | .hbm, ⟨10, _⟩ => ⟨S_, .f32⟩
  | .local _ .vmem, ⟨0, _⟩ => ⟨S688x1024, .f32⟩
  | .local _ .vmem, ⟨1, _⟩ => ⟨S688x1024, .f32⟩
  | .local _ .vmem, ⟨2, _⟩ => ⟨S1x1024, .f32⟩
  | .local _ .vmem, ⟨3, _⟩ => ⟨S688x1024, .f32⟩
  | .local _ .vmem, ⟨4, _⟩ => ⟨S688x1024, .f32⟩
  | .local _ .vmem, ⟨5, _⟩ => ⟨S8x128, .f32⟩
  | .local _ .vmem, ⟨6, _⟩ => ⟨S688x1024, .f32⟩
  | .local _ .vmem, ⟨7, _⟩ => ⟨S688x1024, .f32⟩
  | .local _ .vmem, ⟨8, _⟩ => ⟨S1x1024, .f32⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![3], ![false]⟩

def k0_cond1 (i : grid0.Coords) : BitVec 1 :=
  let arg0 : BitVec 32 := BitVec.ofNat 32 (i 0).val
  let c0_i32 : BitVec 32 := 0#32
  let v55 : BitVec 1 := Scalar.cmpi .eq arg0 c0_i32
  let v56 : BitVec 32 := Scalar.extui v55
  let c0_i32_16 : BitVec 32 := 0#32
  let v57 : BitVec 1 := Scalar.cmpi .ne v56 c0_i32_16
  v57

def k0_cond2 (i : grid0.Coords) : BitVec 1 :=
  let arg0 : BitVec 32 := BitVec.ofNat 32 (i 0).val
  let c0_i32 : BitVec 32 := 0#32
  let v55 : BitVec 1 := Scalar.cmpi .eq arg0 c0_i32
  let v_true : BitVec 1 := 1#1
  let v58 : BitVec 1 := Scalar.xori v55 v_true
  let v59 : BitVec 32 := Scalar.extui v58
  let c0_i32_17 : BitVec 32 := 0#32
  let v60 : BitVec 1 := Scalar.cmpi .ne v59 c0_i32_17
  v60

def k0_cond3 (i : grid0.Coords) : BitVec 1 :=
  let arg0 : BitVec 32 := BitVec.ofNat 32 (i 0).val
  let c0_i32_20 : BitVec 32 := 0#32
  let v62 : BitVec 1 := Scalar.cmpi .eq arg0 c0_i32_20
  let v63 : BitVec 32 := Scalar.extui v62
  let c0_i32_21 : BitVec 32 := 0#32
  let v64 : BitVec 1 := Scalar.cmpi .ne v63 c0_i32_21
  v64

def k0_cond4 (i : grid0.Coords) : BitVec 1 :=
  let arg0 : BitVec 32 := BitVec.ofNat 32 (i 0).val
  let c0_i32_20 : BitVec 32 := 0#32
  let v62 : BitVec 1 := Scalar.cmpi .eq arg0 c0_i32_20
  let true_22 : BitVec 1 := 1#1
  let v65 : BitVec 1 := Scalar.xori v62 true_22
  let v66 : BitVec 32 := Scalar.extui v65
  let c0_i32_23 : BitVec 32 := 0#32
  let v67 : BitVec 1 := Scalar.cmpi .ne v66 c0_i32_23
  v67

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S688x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== FinalLossRefIdeal.lean ====
abbrev S2064x1024 : Shape := ⟨2, ![2064, 1024]⟩
abbrev S1x1024 : Shape := ⟨2, ![1, 1024]⟩
abbrev S2048x1024 : Shape := ⟨2, ![2048, 1024]⟩
abbrev S_ : Shape := ⟨0, ![]⟩
abbrev S2064 : Shape := ⟨1, ![2064]⟩
abbrev S2064x1 : Shape := ⟨2, ![2064, 1]⟩
abbrev S2048 : Shape := ⟨1, ![2048]⟩
abbrev S1024 : Shape := ⟨1, ![1024]⟩

abbrev nBuf : Space → Nat
  | .hbm => 71
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S1x1024, .f32⟩
  | .hbm, ⟨2, _⟩ => ⟨S2048x1024, .f32⟩
  | .hbm, ⟨3, _⟩ => ⟨S2064x1024, .f32⟩
  | .hbm, ⟨4, _⟩ => ⟨S_, .f32⟩
  | .hbm, ⟨5, _⟩ => ⟨S2064, .f32⟩
  | .hbm, ⟨6, _⟩ => ⟨S2064x1, .f32⟩
  | .hbm, ⟨7, _⟩ => ⟨S_, .f32⟩
  | .hbm, ⟨8, _⟩ => ⟨S2064x1, .f32⟩
  | .hbm, ⟨9, _⟩ => ⟨S2064x1, .f32⟩
  | .hbm, ⟨10, _⟩ => ⟨S_, .f32⟩
  | .hbm, ⟨11, _⟩ => ⟨S2064x1, .f32⟩
  | .hbm, ⟨12, _⟩ => ⟨S2064x1, .f32⟩
  | .hbm, ⟨13, _⟩ => ⟨S2064x1, .f32⟩
  | .hbm, ⟨14, _⟩ => ⟨S2064x1, .f32⟩
  | .hbm, ⟨15, _⟩ => ⟨S_, .f32⟩
  | .hbm, ⟨16, _⟩ => ⟨S2064x1, .f32⟩
  | .hbm, ⟨17, _⟩ => ⟨S2064x1, .f32⟩
  | .hbm, ⟨18, _⟩ => ⟨S2064x1024, .f32⟩
  | .hbm, ⟨19, _⟩ => ⟨S2064x1024, .f32⟩
  | .hbm, ⟨20, _⟩ => ⟨S2064x1024, .f32⟩
  | .hbm, ⟨21, _⟩ => ⟨S2064x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2048, .f32⟩
  | .hbm, ⟨41, _⟩ => ⟨S_, .f32⟩
  | .hbm, ⟨42, _⟩ => ⟨S2048, .f32⟩
  | .hbm, ⟨43, _⟩ => ⟨S2048, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S2064x1024, .f32⟩
  | .hbm, ⟨48, _⟩ => ⟨S2064x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S2064x1024, .f32⟩
  | .hbm, ⟨53, _⟩ => ⟨S2064x1024, .f32⟩
  | .hbm, ⟨54, _⟩ => ⟨S2064x1024, .f32⟩
  | .hbm, ⟨55, _⟩ => ⟨S_, .f32⟩
  | .hbm, ⟨56, _⟩ => ⟨S2064, .f32⟩
  | .hbm, ⟨57, _⟩ => ⟨S2064x1, .f32⟩
  | .hbm, ⟨58, _⟩ => ⟨S2064x1024, .f32⟩
  | .hbm, ⟨59, _⟩ => ⟨S2064x1024, .f32⟩
  | .hbm, ⟨60, _⟩ => ⟨S2064x1, .f32⟩
  | .hbm, ⟨61, _⟩ => ⟨S_, .f32⟩
  | .hbm, ⟨62, _⟩ => ⟨S2064x1, .f32⟩
  | .hbm, ⟨63, _⟩ => ⟨S2064x1, .f32⟩
  | .hbm, ⟨64, _⟩ => ⟨S_, .f32⟩
  | .hbm, ⟨65, _⟩ => ⟨S2064, .f32⟩
  | .hbm, ⟨66, _⟩ => ⟨S2064x1024, .f32⟩
  | .hbm, ⟨67, _⟩ => ⟨S2064x1024, .f32⟩
  | .hbm, ⟨68, _⟩ => ⟨S2064x1024, .f32⟩
  | .hbm, ⟨69, _⟩ => ⟨S2064x1024, .f32⟩
  | .hbm, ⟨70, _⟩ => ⟨S2064x1024, .f32⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_cst_12 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== FirstNorm.lean ====
abbrev S2064x1024 : Shape := ⟨2, ![2064, 1024]⟩
abbrev S1x1024 : Shape := ⟨2, ![1, 1024]⟩
abbrev S688x1024 : Shape := ⟨2, ![688, 1024]⟩
abbrev S688 : Shape := ⟨1, ![688]⟩
abbrev S688x1 : Shape := ⟨2, ![688, 1]⟩

abbrev nBuf : Space → Nat
  | .hbm => 3
  | .vmem => 5
  | .smem => 0
  | _ => 0

abbrev bufTy : (tb : Table) → Fin (tcTables nBuf tb) → BufTy
  | .hbm, ⟨0, _⟩ => ⟨S2064x1024, .f32⟩
  | .hbm, ⟨1, _⟩ => ⟨S1x1024, .f32⟩
  | .hbm, ⟨2, _⟩ => ⟨S2064x1024, .bf16⟩
  | .local _ .vmem, ⟨0, _⟩ => ⟨S688x1024, .f32⟩
  | .local _ .vmem, ⟨1, _⟩ => ⟨S688x1024, .f32⟩
  | .local _ .vmem, ⟨2, _⟩ => ⟨S1x1024, .f32⟩
  | .local _ .vmem, ⟨3, _⟩ => ⟨S688x1024, .bf16⟩
  | .local _ .vmem, ⟨4, _⟩ => ⟨S688x1024, .bf16⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S688x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FirstNormRefIdeal.lean ====
abbrev S2064x1024 : Shape := ⟨2, ![2064, 1024]⟩
abbrev S1x1024 : Shape := ⟨2, ![1, 1024]⟩
abbrev S_ : Shape := ⟨0, ![]⟩
abbrev S2064 : Shape := ⟨1, ![2064]⟩
abbrev S2064x1 : Shape := ⟨2, ![2064, 1]⟩

abbrev nBuf : Space → Nat
  | .hbm => 18
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S1x1024, .f32⟩
  | .hbm, ⟨2, _⟩ => ⟨S2064x1024, .f32⟩
  | .hbm, ⟨3, _⟩ => ⟨S_, .f32⟩
  | .hbm, ⟨4, _⟩ => ⟨S2064, .f32⟩
  | .hbm, ⟨5, _⟩ => ⟨S2064x1, .f32⟩
  | .hbm, ⟨6, _⟩ => ⟨S_, .f32⟩
  | .hbm, ⟨7, _⟩ => ⟨S2064x1, .f32⟩
  | .hbm, ⟨8, _⟩ => ⟨S2064x1, .f32⟩
  | .hbm, ⟨9, _⟩ => ⟨S_, .f32⟩
  | .hbm, ⟨10, _⟩ => ⟨S2064x1, .f32⟩
  | .hbm, ⟨11, _⟩ => ⟨S2064x1, .f32⟩
  | .hbm, ⟨12, _⟩ => ⟨S2064x1, .f32⟩
  | .hbm, ⟨13, _⟩ => ⟨S2064x1024, .f32⟩
  | .hbm, ⟨14, _⟩ => ⟨S2064x1024, .f32⟩
  | .hbm, ⟨15, _⟩ => ⟨S2064x1024, .f32⟩
  | .hbm, ⟨16, _⟩ => ⟨S2064x1024, .f32⟩
  | .hbm, ⟨17, _⟩ => ⟨S2064x1024, .bf16⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== EvenLn.lean ====
abbrev S2064x512 : Shape := ⟨2, ![2064, 512]⟩
abbrev S1x512 : Shape := ⟨2, ![1, 512]⟩
abbrev S688x512 : Shape := ⟨2, ![688, 512]⟩
abbrev S688 : Shape := ⟨1, ![688]⟩
abbrev S688x1 : Shape := ⟨2, ![688, 1]⟩

abbrev nBuf : Space → Nat
  | .hbm => 4
  | .vmem => 6
  | .smem => 0
  | _ => 0

abbrev bufTy : (tb : Table) → Fin (tcTables nBuf tb) → BufTy
  | .hbm, ⟨0, _⟩ => ⟨S2064x512, .f32⟩
  | .hbm, ⟨1, _⟩ => ⟨S1x512, .f32⟩
  | .hbm, ⟨2, _⟩ => ⟨S1x512, .f32⟩
  | .hbm, ⟨3, _⟩ => ⟨S2064x512, .bf16⟩
  | .local _ .vmem, ⟨0, _⟩ => ⟨S688x512, .f32⟩
  | .local _ .vmem, ⟨1, _⟩ => ⟨S688x512, .f32⟩
  | .local _ .vmem, ⟨2, _⟩ => ⟨S1x512, .f32⟩
  | .local _ .vmem, ⟨3, _⟩ => ⟨S1x512, .f32⟩
  | .local _ .vmem, ⟨4, _⟩ => ⟨S688x512, .bf16⟩
  | .local _ .vmem, ⟨5, _⟩ => ⟨S688x512, .bf16⟩
  | _, _ => ⟨S2064x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S688x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== EvenLnRefIdeal.lean ====
abbrev S2064x512 : Shape := ⟨2, ![2064, 512]⟩
abbrev S1x512 : Shape := ⟨2, ![1, 512]⟩
abbrev S_ : Shape := ⟨0, ![]⟩
abbrev S2064 : Shape := ⟨1, ![2064]⟩
abbrev S2064x1 : Shape := ⟨2, ![2064, 1]⟩

abbrev nBuf : Space → Nat
  | .hbm => 40
  | .vmem => 0
  | .smem => 0
  | _ => 0

abbrev bufTy : (tb : Table) → Fin (tcTables nBuf tb) → BufTy
  | .hbm, ⟨0, _⟩ => ⟨S2064x512, .f32⟩
  | .hbm, ⟨1, _⟩ => ⟨S1x512, .f32⟩
  | .hbm, ⟨2, _⟩ => ⟨S1x512, .f32⟩
  | .hbm, ⟨3, _⟩ => ⟨S_, .f32⟩
  | .hbm, ⟨4, _⟩ => ⟨S2064, .f32⟩
  | .hbm, ⟨5, _⟩ => ⟨S2064x1, .f32⟩
  | .hbm, ⟨6, _⟩ => ⟨S_, .f32⟩
  | .hbm, ⟨7, _⟩ => ⟨S2064x1, .f32⟩
  | .hbm, ⟨8, _⟩ => ⟨S2064x1, .f32⟩
  | .hbm, ⟨9, _⟩ => ⟨S2064x512, .f32⟩
  | .hbm, ⟨10, _⟩ => ⟨S2064x512, .f32⟩
  | .hbm, ⟨11, _⟩ => ⟨S2064x512, .f32⟩
  | .hbm, ⟨12, _⟩ => ⟨S_, .f32⟩
  | .hbm, ⟨13, _⟩ => ⟨S2064, .f32⟩
  | .hbm, ⟨14, _⟩ => ⟨S2064x1, .f32⟩
  | .hbm, ⟨15, _⟩ => ⟨S_, .f32⟩
  | .hbm, ⟨16, _⟩ => ⟨S2064x1, .f32⟩
  | .hbm, ⟨17, _⟩ => ⟨S2064x1, .f32⟩
  | .hbm, ⟨18, _⟩ => ⟨S2064x512, .f32⟩
  | .hbm, ⟨19, _⟩ => ⟨S2064x512, .f32⟩
  | .hbm, ⟨20, _⟩ => ⟨S_, .f32⟩
  | .hbm, ⟨21, _⟩ => ⟨S2064x1, .f32⟩
  | .hbm, ⟨22, _⟩ => ⟨S2064x1, .f32⟩
  | .hbm, ⟨23, _⟩ => ⟨S2064x1, .f32⟩
  | .hbm, ⟨24, _⟩ => ⟨S2064x512, .f32⟩
  | .hbm, ⟨25, _⟩ => ⟨S2064x512, .f32⟩
  | .hbm, ⟨26, _⟩ => ⟨S2064x512, .f32⟩
  | .hbm, ⟨27, _⟩ => ⟨S2064x512, .f32⟩
  | .hbm, ⟨28, _⟩ => ⟨S2064x512, .f32⟩
  | .hbm, ⟨29, _⟩ => ⟨S2064x512, .f32⟩
  | .hbm, ⟨30, _⟩ => ⟨S2064x512, .f32⟩
  | .hbm, ⟨31, _⟩ => ⟨S2064x512, .f32⟩
  | .hbm, ⟨32, _⟩ => ⟨S_, .f32⟩
  | .hbm, ⟨33, _⟩ => ⟨S2064x512, .f32⟩
  | .hbm, ⟨34, _⟩ => ⟨S2064x512, .f32⟩
  | .hbm, ⟨35, _⟩ => ⟨S_, .f32⟩
  | .hbm, ⟨36, _⟩ => ⟨S2064x512, .f32⟩
  | .hbm, ⟨37, _⟩ => ⟨S2064x512, .f32⟩
  | .hbm, ⟨38, _⟩ => ⟨S2064x512, .f32⟩
  | .hbm, ⟨39, _⟩ => ⟨S2064x512, .bf16⟩
  | _, _ => ⟨S2064x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== EvenLnBwd.lean ====
abbrev S2064x512 : Shape := ⟨2, ![2064, 512]⟩
abbrev S1x512 : Shape := ⟨2, ![1, 512]⟩
abbrev S2064x1024 : Shape := ⟨2, ![2064, 1024]⟩
abbrev S688x512 : Shape := ⟨2, ![688, 512]⟩
abbrev S688 : Shape := ⟨1, ![688]⟩
abbrev S688x1 : Shape := ⟨2, ![688, 1]⟩
abbrev S512 : Shape := ⟨1, ![512]⟩

abbrev nBuf : Space → Nat
  | .hbm => 7
  | .vmem => 10
  | .smem => 0
  | _ => 0

abbrev bufTy : (tb : Table) → Fin (tcTables nBuf tb) → BufTy
  | .hbm, ⟨0, _⟩ => ⟨S2064x512, .f32⟩
  | .hbm, ⟨1, _⟩ => ⟨S1x512, .f32⟩
  | .hbm, ⟨2, _⟩ => ⟨S1x512, .f32⟩
  | .hbm, ⟨3, _⟩ => ⟨S2064x1024, .f32⟩
  | .hbm, ⟨4, _⟩ => ⟨S2064x512, .f32⟩
  | .hbm, ⟨5, _⟩ => ⟨S1x512, .f32⟩
  | .hbm, ⟨6, _⟩ => ⟨S1x512, .f32⟩
  | .local _ .vmem, ⟨0, _⟩ => ⟨S688x512, .f32⟩
  | .local _ .vmem, ⟨1, _⟩ => ⟨S688x512, .f32⟩
  | .local _ .vmem, ⟨2, _⟩ => ⟨S1x512, .f32⟩
  | .local _ .vmem, ⟨3, _⟩ => ⟨S1x512, .f32⟩
  | .local _ .vmem, ⟨4, _⟩ => ⟨S688x512, .f32⟩
  | .local _ .vmem, ⟨5, _⟩ => ⟨S688x512, .f32⟩
  | .local _ .vmem, ⟨6, _⟩ => ⟨S688x512, .f32⟩
  | .local _ .vmem, ⟨7, _⟩ => ⟨S688x512, .f32⟩
  | .local _ .vmem, ⟨8, _⟩ => ⟨S1x512, .f32⟩
  | .local _ .vmem, ⟨9, _⟩ => ⟨S1x512, .f32⟩
  | _, _ => ⟨S2064x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![3], ![false]⟩

def k0_cond1 (i : grid0.Coords) : BitVec 1 :=
  let arg0 : BitVec 32 := BitVec.ofNat 32 (i 0).val
  let c0_i32 : BitVec 32 := 0#32
  let v62 : BitVec 1 := Scalar.cmpi .eq arg0 c0_i32
  let v63 : BitVec 32 := Scalar.extui v62
  let c0_i32_24 : BitVec 32 := 0#32
  let v64 : BitVec 1 := Scalar.cmpi .ne v63 c0_i32_24
  v64

def k0_cond2 (i : grid0.Coords) : BitVec 1 :=
  let arg0 : BitVec 32 := BitVec.ofNat 32 (i 0).val
  let c0_i32 : BitVec 32 := 0#32
  let v62 : BitVec 1 := Scalar.cmpi .eq arg0 c0_i32
  let v_true : BitVec 1 := 1#1
  let v65 : BitVec 1 := Scalar.xori v62 v_true
  let v66 : BitVec 32 := Scalar.extui v65
  let c0_i32_25 : BitVec 32 := 0#32
  let v67 : BitVec 1 := Scalar.cmpi .ne v66 c0_i32_25
  v67

def k0_cond3 (i : grid0.Coords) : BitVec 1 :=
  let arg0 : BitVec 32 := BitVec.ofNat 32 (i 0).val
  let c0_i32_26 : BitVec 32 := 0#32
  let v68 : BitVec 1 := Scalar.cmpi .eq arg0 c0_i32_26
  let v69 : BitVec 32 := Scalar.extui v68
  let c0_i32_27 : BitVec 32 := 0#32
  let v70 : BitVec 1 := Scalar.cmpi .ne v69 c0_i32_27
  v70

def k0_cond4 (i : grid0.Coords) : BitVec 1 :=
  let arg0 : BitVec 32 := BitVec.ofNat 32 (i 0).val
  let c0_i32_26 : BitVec 32 := 0#32
  let v68 : BitVec 1 := Scalar.cmpi .eq arg0 c0_i32_26
  let true_28 : BitVec 1 := 1#1
  let v71 : BitVec 1 := Scalar.xori v68 true_28
  let v72 : BitVec 32 := Scalar.extui v71
  let c0_i32_29 : BitVec 32 := 0#32
  let v73 : BitVec 1 := Scalar.cmpi .ne v72 c0_i32_29
  v73

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S688x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S688x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S688x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== EvenLnBwdRefIdeal.lean ====
abbrev S2064x512 : Shape := ⟨2, ![2064, 512]⟩
abbrev S1x512 : Shape := ⟨2, ![1, 512]⟩
abbrev S2064x1024 : Shape := ⟨2, ![2064, 1024]⟩
abbrev S_ : Shape := ⟨0, ![]⟩
abbrev S2064 : Shape := ⟨1, ![2064]⟩
abbrev S2064x1 : Shape := ⟨2, ![2064, 1]⟩
abbrev S512 : Shape := ⟨1, ![512]⟩

abbrev nBuf : Space → Nat
  | .hbm => 96
  | .vmem => 0
  | .smem => 0
  | _ => 0

abbrev bufTy : (tb : Table) → Fin (tcTables nBuf tb) → BufTy
  | .hbm, ⟨0, _⟩ => ⟨S2064x512, .f32⟩
  | .hbm, ⟨1, _⟩ => ⟨S1x512, .f32⟩
  | .hbm, ⟨2, _⟩ => ⟨S1x512, .f32⟩
  | .hbm, ⟨3, _⟩ => ⟨S2064x1024, .f32⟩
  | .hbm, ⟨4, _⟩ => ⟨S_, .f32⟩
  | .hbm, ⟨5, _⟩ => ⟨S2064, .f32⟩
  | .hbm, ⟨6, _⟩ => ⟨S2064x1, .f32⟩
  | .hbm, ⟨7, _⟩ => ⟨S_, .f32⟩
  | .hbm, ⟨8, _⟩ => ⟨S2064x1, .f32⟩
  | .hbm, ⟨9, _⟩ => ⟨S2064x1, .f32⟩
  | .hbm, ⟨10, _⟩ => ⟨S2064x512, .f32⟩
  | .hbm, ⟨11, _⟩ => ⟨S2064x512, .f32⟩
  | .hbm, ⟨12, _⟩ => ⟨S2064x512, .f32⟩
  | .hbm, ⟨13, _⟩ => ⟨S_, .f32⟩
  | .hbm, ⟨14, _⟩ => ⟨S2064x512, .f32⟩
  | .hbm, ⟨15, _⟩ => ⟨S2064x512, .f32⟩
  | .hbm, ⟨16, _⟩ => ⟨S_, .f32⟩
  | .hbm, ⟨17, _⟩ => ⟨S2064, .f32⟩
  | .hbm, ⟨18, _⟩ => ⟨S2064x1, .f32⟩
  | .hbm, ⟨19, _⟩ => ⟨S_, .f32⟩
  | .hbm, ⟨20, _⟩ => ⟨S2064x1, .f32⟩
  | .hbm, ⟨21, _⟩ => ⟨S2064x1, .f32⟩
  | .hbm, ⟨22, _⟩ => ⟨S2064x512, .f32⟩
  | .hbm, ⟨23, _⟩ => ⟨S2064x512, .f32⟩
  | .hbm, ⟨24, _⟩ => ⟨S_, .f32⟩
  | .hbm, ⟨25, _⟩ => ⟨S2064x1, .f32⟩
  | .hbm, ⟨26, _⟩ => ⟨S2064x1, .f32⟩
  | .hbm, ⟨27, _⟩ => ⟨S2064x1, .f32⟩
  | .hbm, ⟨28, _⟩ => ⟨S2064x1, .f32⟩
  | .hbm, ⟨29, _⟩ => ⟨S_, .f32⟩
  | .hbm, ⟨30, _⟩ => ⟨S2064x1, .f32⟩
  | .hbm, ⟨31, _⟩ => ⟨S2064x1, .f32⟩
  | .hbm, ⟨32, _⟩ => ⟨S2064x512, .f32⟩
  | .hbm, ⟨33, _⟩ => ⟨S2064x512, .f32⟩
  | .hbm, ⟨34, _⟩ => ⟨S2064x512, .f32⟩
  | .hbm, ⟨35, _⟩ => ⟨S2064x512, .f32⟩
  | .hbm, ⟨36, _⟩ => ⟨S2064x512, .f32⟩
  | .hbm, ⟨37, _⟩ => ⟨S2064x512, .f32⟩
  | .hbm, ⟨38, _⟩ => ⟨S2064x512, .f32⟩
  | .hbm, ⟨39, _⟩ => ⟨S2064x512, .f32⟩
  | .hbm, ⟨40, _⟩ => ⟨S_, .f32⟩
  | .hbm, ⟨41, _⟩ => ⟨S2064x512, .f32⟩
  | .hbm, ⟨42, _⟩ => ⟨S2064x512, .f32⟩
  | .hbm, ⟨43, _⟩ => ⟨S_, .f32⟩
  | .hbm, ⟨44, _⟩ => ⟨S2064x512, .f32⟩
  | .hbm, ⟨45, _⟩ => ⟨S2064x512, .f32⟩
  | .hbm, ⟨46, _⟩ => ⟨S_, .f32⟩
  | .hbm, ⟨47, _⟩ => ⟨S2064x512, .f32⟩
  | .hbm, ⟨48, _⟩ => ⟨S2064x512, .f32⟩
  | .hbm, ⟨49, _⟩ => ⟨S2064x512, .f32⟩
  | .hbm, ⟨50, _⟩ => ⟨S2064x512, .f32⟩
  | .hbm, ⟨51, _⟩ => ⟨S2064x512, .f32⟩
  | .hbm, ⟨52, _⟩ => ⟨S2064x512, .f32⟩
  | .hbm, ⟨53, _⟩ => ⟨S2064x512, .f32⟩
  | .hbm, ⟨54, _⟩ => ⟨S2064x512, .f32⟩
  | .hbm, ⟨55, _⟩ => ⟨S2064x512, .f32⟩
  | .hbm, ⟨56, _⟩ => ⟨S_, .f32⟩
  | .hbm, ⟨57, _⟩ => ⟨S512, .f32⟩
  | .hbm, ⟨58, _⟩ => ⟨S1x512, .f32⟩
  | .hbm, ⟨59, _⟩ => ⟨S2064x512, .f32⟩
  | .hbm, ⟨60, _⟩ => ⟨S_, .f32⟩
  | .hbm, ⟨61, _⟩ => ⟨S512, .f32⟩
  | .hbm, ⟨62, _⟩ => ⟨S1x512, .f32⟩
  | .hbm, ⟨63, _⟩ => ⟨S2064x512, .f32⟩
  | .hbm, ⟨64, _⟩ => ⟨S2064x512, .f32⟩
  | .hbm, ⟨65, _⟩ => ⟨S2064x512, .f32⟩
  | .hbm, ⟨66, _⟩ => ⟨S_, .f32⟩
  | .hbm, ⟨67, _⟩ => ⟨S2064, .f32⟩
  | .hbm, ⟨68, _⟩ => ⟨S2064x1, .f32⟩
  | .hbm, ⟨69, _⟩ => ⟨S2064x512, .f32⟩
  | .hbm, ⟨70, _⟩ => ⟨S2064x512, .f32⟩
  | .hbm, ⟨71, _⟩ => ⟨S2064x1, .f32⟩
  | .hbm, ⟨72, _⟩ => ⟨S2064x512, .f32⟩
  | .hbm, ⟨73, _⟩ => ⟨S_, .f32⟩
  | .hbm, ⟨74, _⟩ => ⟨S2064, .f32⟩
  | .hbm, ⟨75, _⟩ => ⟨S2064x1, .f32⟩
  | .hbm, ⟨76, _⟩ => ⟨S_, .f32⟩
  | .hbm, ⟨77, _⟩ => ⟨S2064x1, .f32⟩
  | .hbm, ⟨78, _⟩ => ⟨S2064x1, .f32⟩
  | .hbm, ⟨79, _⟩ => ⟨S_, .f32⟩
  | .hbm, ⟨80, _⟩ => ⟨S2064, .f32⟩
  | .hbm, ⟨81, _⟩ => ⟨S2064x512, .f32⟩
  | .hbm, ⟨82, _⟩ => ⟨S2064x512, .f32⟩
  | .hbm, ⟨83, _⟩ => ⟨S2064x512, .f32⟩
  | .hbm, ⟨84, _⟩ => ⟨S_, .f32⟩
  | .hbm, ⟨85, _⟩ => ⟨S2064, .f32⟩
  | .hbm, ⟨86, _⟩ => ⟨S2064x1, .f32⟩
  | .hbm, ⟨87, _⟩ => ⟨S2064x512, .f32⟩
  | .hbm, ⟨88, _⟩ => ⟨S2064x1, .f32⟩
  | .hbm, ⟨89, _⟩ => ⟨S_, .f32⟩
  | .hbm, ⟨90, _⟩ => ⟨S2064x1, .f32⟩
  | .hbm, ⟨91, _⟩ => ⟨S2064x1, .f32⟩
  | .hbm, ⟨92, _⟩ => ⟨S_, .f32⟩
  | .hbm, ⟨93, _⟩ => ⟨S2064, .f32⟩
  | .hbm, ⟨94, _⟩ => ⟨S2064x512, .f32⟩
  | .hbm, ⟨95, _⟩ => ⟨S2064x512, .f32⟩
  | _, _ => ⟨S2064x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_9 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_10 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_11 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_12 : Ref sig .tc := ⟨.hbm, 73, rfl⟩
abbrev main_v56 : Ref sig .tc := ⟨.hbm, 74, rfl⟩
abbrev main_v57 : Ref sig .tc := ⟨.hbm, 75, rfl⟩
abbrev main_cst_13 : Ref sig .tc := ⟨.hbm, 76, rfl⟩
abbrev main_v58 : Ref sig .tc := ⟨.hbm, 77, rfl⟩
abbrev main_v59 : Ref sig .tc := ⟨.hbm, 78, rfl⟩
abbrev main_cst_14 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_15 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_16 : Ref sig .tc := ⟨.hbm, 89, rfl⟩
abbrev main_v68 : Ref sig .tc := ⟨.hbm, 90, rfl⟩
abbrev main_v69 : Ref sig .tc := ⟨.hbm, 91, rfl⟩
abbrev main_cst_17 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩

abbrev nD : Nat := 1
abbrev τ : Topo := Topo.v7x

variable {F : FTy → Type} [FloatOps F]
-- ==== Proof.AttnIdealRunA.lean ====
/- The body of the attention gradient run once, at the first block of queries: what each output block ends with. -/
module

public import proofs.«01_k».proof.Proof.Gen.AttnIdeal.Frame.Runs

@[expose] public section

set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The pieces that the stores leave in each output block, with the proof that the body runs from the staged input blocks to them. -/
noncomputable def bodyA (c : Dev nD) (i : grid0.Coords) (arg1 : Memref sig .tc .vmem S8x128x64 .f32) (harg1 : arg1.IsWhole) (arg2 : Memref sig .tc .vmem S2x128x64 .f32) (harg2 : arg2.IsWhole) (arg3 : Memref sig .tc .vmem S2x128x64 .f32) (harg3 : arg3.IsWhole) (arg4 : Memref sig .tc .vmem S2x128x64 .f32) (harg4 : arg4.IsWhole) (arg5 : Memref sig .tc .vmem S2x128x64 .f32) (harg5 : arg5.IsWhole) (arg6 : Memref sig .tc .vmem S2x128x64 .f32) (harg6 : arg6.IsWhole) (arg7 : Memref sig .tc .vmem S2x128x64 .f32) (harg7 : arg7.IsWhole) (arg8 : Memref sig .tc .vmem S8x8x128 .f32) (harg8 : arg8.IsWhole) (arg9 : Memref sig .tc .vmem S128x64 .f32) (harg9 : arg9.IsWhole) (arg10 : Memref sig .tc .vmem S128x64 .f32) (harg10 : arg10.IsWhole) (arg11 : Memref sig .tc .vmem S128x64 .f32) (harg11 : arg11.IsWhole) (arg12 : Memref sig .tc .vmem S128x64 .f32) (harg12 : arg12.IsWhole) (arg13 : Memref sig .tc .vmem S128x64 .f32) (harg13 : arg13.IsWhole) (arg14 : Memref sig .tc .vmem S128x64 .f32) (harg14 : arg14.IsWhole) (arg15 : Memref sig .tc .vmem S64x64 .f32) (harg15 : arg15.IsWhole) (arg16 : Memref sig .tc .vmem S8x128x64 .f32) (harg16 : arg16.IsWhole) (arg17 : Memref sig .tc .vmem S8x128x64 .f32) (harg17 : arg17.IsWhole) (arg18 : Memref sig .tc .vmem S2x1x128x64 .f32) (harg18 : arg18.IsWhole) (arg19 : Memref sig .tc .vmem S2x1x128x64 .f32) (harg19 : arg19.IsWhole) (arg20 : Memref sig .tc .vmem S2x1x128x64 .f32) (harg20 : arg20.IsWhole) (arg21 : Memref sig .tc .vmem S2x1x128x64 .f32) (harg21 : arg21.IsWhole) (arg22 : Memref sig .tc .vmem S2x128x64 .f32) (harg22 : arg22.IsWhole) (arg23 : Memref sig .tc .vmem S2x128x64 .f32) (harg23 : arg23.IsWhole) (arg24 : Memref sig .tc .vmem S8x8x128 .f32) (harg24 : arg24.IsWhole) (hc0 : cond0_0 i) (hc1 : ¬cond0_1 i)
    (x0 : Vec F S8x128x64 .f32) (x1 : Vec F S2x128x64 .f32) (x2 : Vec F S2x128x64 .f32) (x3 : Vec F S2x128x64 .f32) (x4 : Vec F S2x128x64 .f32) (x5 : Vec F S2x128x64 .f32) (x6 : Vec F S2x128x64 .f32) (x7 : Vec F S8x8x128 .f32) (x8 : Vec F S128x64 .f32) (x9 : Vec F S128x64 .f32) (x10 : Vec F S128x64 .f32) (x11 : Vec F S128x64 .f32) (x12 : Vec F S128x64 .f32) (x13 : Vec F S128x64 .f32) (x14 : Vec F S64x64 .f32) (x15 : Vec F S8x128x64 .f32) :
    Σ' (L16 : List (View.Piece (Elt F) S8x128x64 .f32)), Σ' (L17 : List (View.Piece (Elt F) S2x1x128x64 .f32)), Σ' (L18 : List (View.Piece (Elt F) S2x1x128x64 .f32)), Σ' (L19 : List (View.Piece (Elt F) S2x1x128x64 .f32)), Σ' (L20 : List (View.Piece (Elt F) S2x1x128x64 .f32)), Σ' (L21 : List (View.Piece (Elt F) S2x128x64 .f32)), Σ' (L22 : List (View.Piece (Elt F) S2x128x64 .f32)), { L23 : List (View.Piece (Elt F) S8x8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23)) -∗ K ⟨⟩))
          ⊢ wp frame (wpE (defs₀ (F := F)) Variants.none c none) E (cc0_l1_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, ?_, ?_, ?_, ?_, fun E K => ?run⟩
  case run =>
    simp only [cc0_l1_attn_bwd_eq_skeleton]; unfold cc0_l1_attn_bwd_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    iexists _; iexact H23

end Cert.AttnIdeal.Gen

end
-- ==== Proof.AttnIdealRunB.lean ====
/- The body of the attention gradient run once, at a later block of queries: what each output block ends with. -/
module

public import proofs.«01_k».proof.Proof.AttnIdealRunA

@[expose] public section

set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The pieces that the stores leave in each output block, with the proof that the body runs from the staged input blocks to them, its three running sums from what they held. -/
noncomputable def bodyB (c : Dev nD) (i : grid0.Coords) (arg1 : Memref sig .tc .vmem S8x128x64 .f32) (harg1 : arg1.IsWhole) (arg2 : Memref sig .tc .vmem S2x128x64 .f32) (harg2 : arg2.IsWhole) (arg3 : Memref sig .tc .vmem S2x128x64 .f32) (harg3 : arg3.IsWhole) (arg4 : Memref sig .tc .vmem S2x128x64 .f32) (harg4 : arg4.IsWhole) (arg5 : Memref sig .tc .vmem S2x128x64 .f32) (harg5 : arg5.IsWhole) (arg6 : Memref sig .tc .vmem S2x128x64 .f32) (harg6 : arg6.IsWhole) (arg7 : Memref sig .tc .vmem S2x128x64 .f32) (harg7 : arg7.IsWhole) (arg8 : Memref sig .tc .vmem S8x8x128 .f32) (harg8 : arg8.IsWhole) (arg9 : Memref sig .tc .vmem S128x64 .f32) (harg9 : arg9.IsWhole) (arg10 : Memref sig .tc .vmem S128x64 .f32) (harg10 : arg10.IsWhole) (arg11 : Memref sig .tc .vmem S128x64 .f32) (harg11 : arg11.IsWhole) (arg12 : Memref sig .tc .vmem S128x64 .f32) (harg12 : arg12.IsWhole) (arg13 : Memref sig .tc .vmem S128x64 .f32) (harg13 : arg13.IsWhole) (arg14 : Memref sig .tc .vmem S128x64 .f32) (harg14 : arg14.IsWhole) (arg15 : Memref sig .tc .vmem S64x64 .f32) (harg15 : arg15.IsWhole) (arg16 : Memref sig .tc .vmem S8x128x64 .f32) (harg16 : arg16.IsWhole) (arg17 : Memref sig .tc .vmem S8x128x64 .f32) (harg17 : arg17.IsWhole) (arg18 : Memref sig .tc .vmem S2x1x128x64 .f32) (harg18 : arg18.IsWhole) (arg19 : Memref sig .tc .vmem S2x1x128x64 .f32) (harg19 : arg19.IsWhole) (arg20 : Memref sig .tc .vmem S2x1x128x64 .f32) (harg20 : arg20.IsWhole) (arg21 : Memref sig .tc .vmem S2x1x128x64 .f32) (harg21 : arg21.IsWhole) (arg22 : Memref sig .tc .vmem S2x128x64 .f32) (harg22 : arg22.IsWhole) (arg23 : Memref sig .tc .vmem S2x128x64 .f32) (harg23 : arg23.IsWhole) (arg24 : Memref sig .tc .vmem S8x8x128 .f32) (harg24 : arg24.IsWhole) (hc0 : ¬cond0_0 i) (hc1 : cond0_1 i)
    (x0 : Vec F S8x128x64 .f32) (x1 : Vec F S2x128x64 .f32) (x2 : Vec F S2x128x64 .f32) (x3 : Vec F S2x128x64 .f32) (x4 : Vec F S2x128x64 .f32) (x5 : Vec F S2x128x64 .f32) (x6 : Vec F S2x128x64 .f32) (x7 : Vec F S8x8x128 .f32) (x8 : Vec F S128x64 .f32) (x9 : Vec F S128x64 .f32) (x10 : Vec F S128x64 .f32) (x11 : Vec F S128x64 .f32) (x12 : Vec F S128x64 .f32) (x13 : Vec F S128x64 .f32) (x14 : Vec F S64x64 .f32) (x15 : Vec F S8x128x64 .f32) (xo21 : Vec F S2x128x64 .f32) (xo22 : Vec F S2x128x64 .f32) (xo23 : Vec F S8x8x128 .f32) :
    Σ' (L16 : List (View.Piece (Elt F) S8x128x64 .f32)), Σ' (L17 : List (View.Piece (Elt F) S2x1x128x64 .f32)), Σ' (L18 : List (View.Piece (Elt F) S2x1x128x64 .f32)), Σ' (L19 : List (View.Piece (Elt F) S2x1x128x64 .f32)), Σ' (L20 : List (View.Piece (Elt F) S2x1x128x64 .f32)), Σ' (L21 : List (View.Piece (Elt F) S2x128x64 .f32)), Σ' (L22 : List (View.Piece (Elt F) S2x128x64 .f32)), { L23 : List (View.Piece (Elt F) S8x8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ owns (c : Thread nD τ) arg22 fullShare xo21 ∗ owns (c : Thread nD τ) arg23 fullShare xo22 ∗ owns (c : Thread nD τ) arg24 fullShare xo23
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23)) -∗ K ⟨⟩))
          ⊢ wp frame (wpE (defs₀ (F := F)) Variants.none c none) E (cc0_l1_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, ?_, ?_, ?_, ?_, fun E K => ?run⟩
  case run =>
    simp only [cc0_l1_attn_bwd_eq_skeleton]; unfold cc0_l1_attn_bwd_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%f21, %hf21, H21⟩, ⟨%f22, %hf22, H22⟩, ⟨%f23, %hf23, H23⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg22.eq_unread hf21; obtain rfl := harg23.eq_unread hf22; obtain rfl := harg24.eq_unread hf23
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    iexists _; iexact H23

end Cert.AttnIdeal.Gen

end
-- ==== Proof.AttnIdealBody.lean ====
/- The attention gradient of `AttnIdeal` at one block of queries after another: what the output blocks hold, the launch, and its frame. -/
module

public import proofs.«01_k».proof.Proof.AttnIdealRunB
public import Idealize.ShloMosaic.Lib.Claim

@[expose] public section

set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the eight output blocks hold after the body at one point. -/
abbrev Outs (F : FTy → Type) : Type := Vec F S8x128x64 .f32 × Vec F S2x1x128x64 .f32 × Vec F S2x1x128x64 .f32 × Vec F S2x1x128x64 .f32 × Vec F S2x1x128x64 .f32 × Vec F S2x128x64 .f32 × Vec F S2x128x64 .f32 × Vec F S8x8x128 .f32

/-- The body's run at point `t`, the first. -/
abbrev atA (c : Dev nD) (t : Fin cfg0.N) (h0 : cond0_0 (grid0.coords t)) (h1 : ¬cond0_1 (grid0.coords t)) :=
  bodyA (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) h0 h1
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)

/-- The pieces stored into output 0 tile its block. -/
theorem coverA_16 (c : Dev nD) (t : Fin cfg0.N) (h0 : cond0_0 (grid0.coords t)) (h1 : ¬cond0_1 (grid0.coords t)) (y : S8x128x64.Idx) : ∃ pc ∈ (atA m c t h0 h1).1, y ∈ pc.1.set :=
  View.cover_of_tiledL (atA m c t h0 h1).1 S1x128x64.size (by sl_kernel_rfl) y

/-- The pieces stored into output 1 tile its block. -/
theorem coverA_17 (c : Dev nD) (t : Fin cfg0.N) (h0 : cond0_0 (grid0.coords t)) (h1 : ¬cond0_1 (grid0.coords t)) (y : S2x1x128x64.Idx) : ∃ pc ∈ (atA m c t h0 h1).2.1, y ∈ pc.1.set :=
  View.cover_of_tiledL (atA m c t h0 h1).2.1 S1x1x128x64.size (by sl_kernel_rfl) y

/-- The pieces stored into output 2 tile its block. -/
theorem coverA_18 (c : Dev nD) (t : Fin cfg0.N) (h0 : cond0_0 (grid0.coords t)) (h1 : ¬cond0_1 (grid0.coords t)) (y : S2x1x128x64.Idx) : ∃ pc ∈ (atA m c t h0 h1).2.2.1, y ∈ pc.1.set :=
  View.cover_of_tiledL (atA m c t h0 h1).2.2.1 S1x1x128x64.size (by sl_kernel_rfl) y

/-- The pieces stored into output 3 tile its block. -/
theorem coverA_19 (c : Dev nD) (t : Fin cfg0.N) (h0 : cond0_0 (grid0.coords t)) (h1 : ¬cond0_1 (grid0.coords t)) (y : S2x1x128x64.Idx) : ∃ pc ∈ (atA m c t h0 h1).2.2.2.1, y ∈ pc.1.set :=
  View.cover_of_tiledL (atA m c t h0 h1).2.2.2.1 S1x1x128x64.size (by sl_kernel_rfl) y

/-- The pieces stored into output 4 tile its block. -/
theorem coverA_20 (c : Dev nD) (t : Fin cfg0.N) (h0 : cond0_0 (grid0.coords t)) (h1 : ¬cond0_1 (grid0.coords t)) (y : S2x1x128x64.Idx) : ∃ pc ∈ (atA m c t h0 h1).2.2.2.2.1, y ∈ pc.1.set :=
  View.cover_of_tiledL (atA m c t h0 h1).2.2.2.2.1 S1x1x128x64.size (by sl_kernel_rfl) y

/-- The pieces stored into output 5 tile its block. -/
theorem coverA_21 (c : Dev nD) (t : Fin cfg0.N) (h0 : cond0_0 (grid0.coords t)) (h1 : ¬cond0_1 (grid0.coords t)) (y : S2x128x64.Idx) : ∃ pc ∈ (atA m c t h0 h1).2.2.2.2.2.1, y ∈ pc.1.set :=
  View.cover_of_tiledL (atA m c t h0 h1).2.2.2.2.2.1 S1x128x64.size (by sl_kernel_rfl) y

/-- The pieces stored into output 6 tile its block. -/
theorem coverA_22 (c : Dev nD) (t : Fin cfg0.N) (h0 : cond0_0 (grid0.coords t)) (h1 : ¬cond0_1 (grid0.coords t)) (y : S2x128x64.Idx) : ∃ pc ∈ (atA m c t h0 h1).2.2.2.2.2.2.1, y ∈ pc.1.set :=
  View.cover_of_tiledL (atA m c t h0 h1).2.2.2.2.2.2.1 S1x128x64.size (by sl_kernel_rfl) y

/-- The pieces stored into output 7 tile its block. -/
theorem coverA_23 (c : Dev nD) (t : Fin cfg0.N) (h0 : cond0_0 (grid0.coords t)) (h1 : ¬cond0_1 (grid0.coords t)) (y : S8x8x128.Idx) : ∃ pc ∈ (atA m c t h0 h1).2.2.2.2.2.2.2.1, y ∈ pc.1.set :=
  View.cover_of_tiledL (atA m c t h0 h1).2.2.2.2.2.2.2.1 S1x8x128.size (by sl_kernel_rfl) y

/-- The output blocks after the body at point `t`. -/
def outsA (c : Dev nD) (t : Fin cfg0.N) (h0 : cond0_0 (grid0.coords t)) (h1 : ¬cond0_1 (grid0.coords t)) : Outs F :=
  (VO0_16.read (Elt F) (VO0_16.writes (Elt F) VO0_16.junk (atA m c t h0 h1).1),
    VO0_17.read (Elt F) (VO0_17.writes (Elt F) VO0_17.junk (atA m c t h0 h1).2.1),
    VO0_18.read (Elt F) (VO0_18.writes (Elt F) VO0_18.junk (atA m c t h0 h1).2.2.1),
    VO0_19.read (Elt F) (VO0_19.writes (Elt F) VO0_19.junk (atA m c t h0 h1).2.2.2.1),
    VO0_20.read (Elt F) (VO0_20.writes (Elt F) VO0_20.junk (atA m c t h0 h1).2.2.2.2.1),
    VO0_21.read (Elt F) (VO0_21.writes (Elt F) VO0_21.junk (atA m c t h0 h1).2.2.2.2.2.1),
    VO0_22.read (Elt F) (VO0_22.writes (Elt F) VO0_22.junk (atA m c t h0 h1).2.2.2.2.2.2.1),
    VO0_23.read (Elt F) (VO0_23.writes (Elt F) VO0_23.junk (atA m c t h0 h1).2.2.2.2.2.2.2.1))

/-- The body's run at point `t`, a later one, the blocks holding `p` before. -/
abbrev atB (c : Dev nD) (t : Fin cfg0.N) (h0 : ¬cond0_0 (grid0.coords t)) (h1 : cond0_1 (grid0.coords t)) (p : Outs F) :=
  bodyB (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) h0 h1
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) p.2.2.2.2.2.1 p.2.2.2.2.2.2.1 p.2.2.2.2.2.2.2

/-- The pieces stored into output 0 tile its block. -/
theorem coverB_16 (c : Dev nD) (t : Fin cfg0.N) (h0 : ¬cond0_0 (grid0.coords t)) (h1 : cond0_1 (grid0.coords t)) (p : Outs F) (y : S8x128x64.Idx) : ∃ pc ∈ (atB m c t h0 h1 p).1, y ∈ pc.1.set :=
  View.cover_of_tiledL (atB m c t h0 h1 p).1 S1x128x64.size (by sl_kernel_rfl) y

/-- The pieces stored into output 1 tile its block. -/
theorem coverB_17 (c : Dev nD) (t : Fin cfg0.N) (h0 : ¬cond0_0 (grid0.coords t)) (h1 : cond0_1 (grid0.coords t)) (p : Outs F) (y : S2x1x128x64.Idx) : ∃ pc ∈ (atB m c t h0 h1 p).2.1, y ∈ pc.1.set :=
  View.cover_of_tiledL (atB m c t h0 h1 p).2.1 S1x1x128x64.size (by sl_kernel_rfl) y

/-- The pieces stored into output 2 tile its block. -/
theorem coverB_18 (c : Dev nD) (t : Fin cfg0.N) (h0 : ¬cond0_0 (grid0.coords t)) (h1 : cond0_1 (grid0.coords t)) (p : Outs F) (y : S2x1x128x64.Idx) : ∃ pc ∈ (atB m c t h0 h1 p).2.2.1, y ∈ pc.1.set :=
  View.cover_of_tiledL (atB m c t h0 h1 p).2.2.1 S1x1x128x64.size (by sl_kernel_rfl) y

/-- The pieces stored into output 3 tile its block. -/
theorem coverB_19 (c : Dev nD) (t : Fin cfg0.N) (h0 : ¬cond0_0 (grid0.coords t)) (h1 : cond0_1 (grid0.coords t)) (p : Outs F) (y : S2x1x128x64.Idx) : ∃ pc ∈ (atB m c t h0 h1 p).2.2.2.1, y ∈ pc.1.set :=
  View.cover_of_tiledL (atB m c t h0 h1 p).2.2.2.1 S1x1x128x64.size (by sl_kernel_rfl) y

/-- The pieces stored into output 4 tile its block. -/
theorem coverB_20 (c : Dev nD) (t : Fin cfg0.N) (h0 : ¬cond0_0 (grid0.coords t)) (h1 : cond0_1 (grid0.coords t)) (p : Outs F) (y : S2x1x128x64.Idx) : ∃ pc ∈ (atB m c t h0 h1 p).2.2.2.2.1, y ∈ pc.1.set :=
  View.cover_of_tiledL (atB m c t h0 h1 p).2.2.2.2.1 S1x1x128x64.size (by sl_kernel_rfl) y

/-- The pieces stored into output 5 tile its block. -/
theorem coverB_21 (c : Dev nD) (t : Fin cfg0.N) (h0 : ¬cond0_0 (grid0.coords t)) (h1 : cond0_1 (grid0.coords t)) (p : Outs F) (y : S2x128x64.Idx) : ∃ pc ∈ (atB m c t h0 h1 p).2.2.2.2.2.1, y ∈ pc.1.set :=
  View.cover_of_tiledL (atB m c t h0 h1 p).2.2.2.2.2.1 S1x128x64.size (by sl_kernel_rfl) y

/-- The pieces stored into output 6 tile its block. -/
theorem coverB_22 (c : Dev nD) (t : Fin cfg0.N) (h0 : ¬cond0_0 (grid0.coords t)) (h1 : cond0_1 (grid0.coords t)) (p : Outs F) (y : S2x128x64.Idx) : ∃ pc ∈ (atB m c t h0 h1 p).2.2.2.2.2.2.1, y ∈ pc.1.set :=
  View.cover_of_tiledL (atB m c t h0 h1 p).2.2.2.2.2.2.1 S1x128x64.size (by sl_kernel_rfl) y

/-- The pieces stored into output 7 tile its block. -/
theorem coverB_23 (c : Dev nD) (t : Fin cfg0.N) (h0 : ¬cond0_0 (grid0.coords t)) (h1 : cond0_1 (grid0.coords t)) (p : Outs F) (y : S8x8x128.Idx) : ∃ pc ∈ (atB m c t h0 h1 p).2.2.2.2.2.2.2.1, y ∈ pc.1.set :=
  View.cover_of_tiledL (atB m c t h0 h1 p).2.2.2.2.2.2.2.1 S1x8x128.size (by sl_kernel_rfl) y

/-- The output blocks after the body at point `t`. -/
def outsB (c : Dev nD) (t : Fin cfg0.N) (h0 : ¬cond0_0 (grid0.coords t)) (h1 : cond0_1 (grid0.coords t)) (p : Outs F) : Outs F :=
  (VO0_16.read (Elt F) (VO0_16.writes (Elt F) VO0_16.junk (atB m c t h0 h1 p).1),
    VO0_17.read (Elt F) (VO0_17.writes (Elt F) VO0_17.junk (atB m c t h0 h1 p).2.1),
    VO0_18.read (Elt F) (VO0_18.writes (Elt F) VO0_18.junk (atB m c t h0 h1 p).2.2.1),
    VO0_19.read (Elt F) (VO0_19.writes (Elt F) VO0_19.junk (atB m c t h0 h1 p).2.2.2.1),
    VO0_20.read (Elt F) (VO0_20.writes (Elt F) VO0_20.junk (atB m c t h0 h1 p).2.2.2.2.1),
    VO0_21.read (Elt F) (VO0_21.writes (Elt F) VO0_21.junk (atB m c t h0 h1 p).2.2.2.2.2.1),
    VO0_22.read (Elt F) (VO0_22.writes (Elt F) VO0_22.junk (atB m c t h0 h1 p).2.2.2.2.2.2.1),
    VO0_23.read (Elt F) (VO0_23.writes (Elt F) VO0_23.junk (atB m c t h0 h1 p).2.2.2.2.2.2.2.1))

/-- Point 0 is the one that starts the running sums. -/
theorem first_iff (t : Fin cfg0.N) : cond0_0 (grid0.coords t) ↔ t.val = 0 := by
  have hN : t.val < 17 := lt_of_lt_of_eq t.isLt (show cfg0.N = 17 from N_0)
  rw [hcond0_0 t]; omega

/-- Every other point adds to them. -/
theorem later_iff (t : Fin cfg0.N) : cond0_1 (grid0.coords t) ↔ t.val ≠ 0 := by
  rw [hcond0_1 t]; omega

/-- The output blocks after the body at point `n`, by recursion over the points. -/
def outsAt (c : Dev nD) : (n : ℕ) → n < cfg0.N → Outs F
  | 0, hn => outsA m c ⟨0, hn⟩ ((first_iff _).2 rfl) (fun h => (later_iff _).1 h rfl)
  | n + 1, hn => outsB m c ⟨n + 1, hn⟩ (fun h => Nat.succ_ne_zero n ((first_iff _).1 h)) ((later_iff _).2 (Nat.succ_ne_zero n))
      (outsAt c n (Nat.lt_of_succ_lt hn))

/-- The first point. -/
theorem outsAt_first (c : Dev nD) (t : Fin cfg0.N) (h : t.val = 0) :
    outsAt m c t.val t.isLt = outsA m c t ((first_iff t).2 h) (fun h' => (later_iff t).1 h' h) := by
  obtain ⟨n, hn⟩ := t
  obtain rfl : n = 0 := h
  rfl

/-- A later point. -/
theorem outsAt_later (c : Dev nD) (t : Fin cfg0.N) (h : t.val ≠ 0) :
    outsAt m c t.val t.isLt = outsB m c t (fun h' => h ((first_iff t).1 h')) ((later_iff t).2 h)
      (outsAt m c (t.val - 1) (Nat.lt_of_le_of_lt (Nat.sub_le _ _) t.isLt)) := by
  obtain ⟨n, hn⟩ := t
  cases n with
  | zero => exact absurd rfl h
  | succ n => rfl

/-- The launch's proof data: the arrays as the launch finds them, each input block as staged, each output block as the body leaves it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => (outsAt m c t.val t.isLt).1
    | ⟨17, _⟩ => (outsAt m c t.val t.isLt).2.1
    | ⟨18, _⟩ => (outsAt m c t.val t.isLt).2.2.1
    | ⟨19, _⟩ => (outsAt m c t.val t.isLt).2.2.2.1
    | ⟨20, _⟩ => (outsAt m c t.val t.isLt).2.2.2.2.1
    | ⟨21, _⟩ => (outsAt m c t.val t.isLt).2.2.2.2.2.1
    | ⟨22, _⟩ => (outsAt m c t.val t.isLt).2.2.2.2.2.2.1
    | ⟨23, _⟩ => (outsAt m c t.val t.isLt).2.2.2.2.2.2.2
    | ⟨_ + 24, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = (outsAt m c t.val t.isLt).1 := by dsimp only [dats]
theorem after0_17 (c : Dev nD) (t : Fin cfg0.N) : (dats m 0 c).after 17 t = (outsAt m c t.val t.isLt).2.1 := by dsimp only [dats]
theorem after0_18 (c : Dev nD) (t : Fin cfg0.N) : (dats m 0 c).after 18 t = (outsAt m c t.val t.isLt).2.2.1 := by dsimp only [dats]
theorem after0_19 (c : Dev nD) (t : Fin cfg0.N) : (dats m 0 c).after 19 t = (outsAt m c t.val t.isLt).2.2.2.1 := by dsimp only [dats]
theorem after0_20 (c : Dev nD) (t : Fin cfg0.N) : (dats m 0 c).after 20 t = (outsAt m c t.val t.isLt).2.2.2.2.1 := by dsimp only [dats]
theorem after0_21 (c : Dev nD) (t : Fin cfg0.N) : (dats m 0 c).after 21 t = (outsAt m c t.val t.isLt).2.2.2.2.2.1 := by dsimp only [dats]
theorem after0_22 (c : Dev nD) (t : Fin cfg0.N) : (dats m 0 c).after 22 t = (outsAt m c t.val t.isLt).2.2.2.2.2.2.1 := by dsimp only [dats]
theorem after0_23 (c : Dev nD) (t : Fin cfg0.N) : (dats m 0 c).after 23 t = (outsAt m c t.val t.isLt).2.2.2.2.2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-- No point leaves the running sum 1 alone. -/
theorem carry_21 (c : Dev nD) (t : Fin cfg0.N) (_ : t.val ≠ 0) (hi : cfg0.idle 21 (grid0.coords t) = true) (_ : cfg0.fresh 21 t.val = false) :
    (dats m 0 c).after 21 t = (dats m 0 c).after 21 ⟨t.val - 1, by omega⟩ := by
  rw [liveAt0_21_B t (fun h => ‹t.val ≠ 0› ((first_iff t).1 h)) ((later_iff t).2 ‹_›)] at hi
  exact absurd hi Bool.false_ne_true

/-- A later point finds the running sum 1 as the point before left it. -/
theorem before_21 (c : Dev nD) (t : Fin cfg0.N) (h : t.val ≠ 0) (d) :
    (dats m 0 c).before 21 t d = (outsAt m c (t.val - 1) (Nat.lt_of_le_of_lt (Nat.sub_le _ _) t.isLt)).2.2.2.2.2.1 := by
  rw [Dat.before_out_traj _ 21 rfl (fun _ _ => rfl) (carry_21 m c) t.val t rfl d,
    if_neg (by rw [notFresh0_21_B t (fun h' => h ((first_iff t).1 h')) ((later_iff t).2 h)]; exact Bool.false_ne_true)]
  dsimp only [dats]

/-- No point leaves the running sum 2 alone. -/
theorem carry_22 (c : Dev nD) (t : Fin cfg0.N) (_ : t.val ≠ 0) (hi : cfg0.idle 22 (grid0.coords t) = true) (_ : cfg0.fresh 22 t.val = false) :
    (dats m 0 c).after 22 t = (dats m 0 c).after 22 ⟨t.val - 1, by omega⟩ := by
  rw [liveAt0_22_B t (fun h => ‹t.val ≠ 0› ((first_iff t).1 h)) ((later_iff t).2 ‹_›)] at hi
  exact absurd hi Bool.false_ne_true

/-- A later point finds the running sum 2 as the point before left it. -/
theorem before_22 (c : Dev nD) (t : Fin cfg0.N) (h : t.val ≠ 0) (d) :
    (dats m 0 c).before 22 t d = (outsAt m c (t.val - 1) (Nat.lt_of_le_of_lt (Nat.sub_le _ _) t.isLt)).2.2.2.2.2.2.1 := by
  rw [Dat.before_out_traj _ 22 rfl (fun _ _ => rfl) (carry_22 m c) t.val t rfl d,
    if_neg (by rw [notFresh0_22_B t (fun h' => h ((first_iff t).1 h')) ((later_iff t).2 h)]; exact Bool.false_ne_true)]
  dsimp only [dats]

/-- No point leaves the running sum 3 alone. -/
theorem carry_23 (c : Dev nD) (t : Fin cfg0.N) (_ : t.val ≠ 0) (hi : cfg0.idle 23 (grid0.coords t) = true) (_ : cfg0.fresh 23 t.val = false) :
    (dats m 0 c).after 23 t = (dats m 0 c).after 23 ⟨t.val - 1, by omega⟩ := by
  rw [liveAt0_23_B t (fun h => ‹t.val ≠ 0› ((first_iff t).1 h)) ((later_iff t).2 ‹_›)] at hi
  exact absurd hi Bool.false_ne_true

/-- A later point finds the running sum 3 as the point before left it. -/
theorem before_23 (c : Dev nD) (t : Fin cfg0.N) (h : t.val ≠ 0) (d) :
    (dats m 0 c).before 23 t d = (outsAt m c (t.val - 1) (Nat.lt_of_le_of_lt (Nat.sub_le _ _) t.isLt)).2.2.2.2.2.2.2 := by
  rw [Dat.before_out_traj _ 23 rfl (fun _ _ => rfl) (carry_23 m c) t.val t rfl d,
    if_neg (by rw [notFresh0_23_B t (fun h' => h ((first_iff t).1 h')) ((later_iff t).2 h)]; exact Bool.false_ne_true)]
  dsimp only [dats]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t)

set_option maxHeartbeats 2000000 in
/-- The body at the first point. -/
theorem soundA (c : Dev nD) (t : Fin cfg0.N) (h : t.val = 0) :
    bodyPre m c t ⊢ wp frame (wpE (defs₀ (F := F)) Variants.none c none) Set.univ (bodyAt0 t) (fun _ => bodyPost m c t) := by
    unfold bodyPre bodyPost bodyAt0
    simp only [before0_0, before0_1, before0_2, before0_3, before0_4, before0_5, before0_6, before0_7, before0_8, before0_9, before0_10, before0_11, before0_12, before0_13, before0_14, before0_15]
    rw [show (dats m 0 c).Φ t.succ = (dats m 0 c).Φ t.castSucc from rfl,
      show (dats m 0 c).owesAt () t.succ = (dats m 0 c).owesAt () t.castSucc from rfl]
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    rw [show (dats m 0 c).leavesExact 10 t = owns (c : Thread nD τ) (ms0_10 t) fullShare ((dats m 0 c).after 10 t) from by
      unfold Dat.leavesExact; rw [liveAt0_10 t], after0_10]
    rw [show (dats m 0 c).leavesExact 11 t = owns (c : Thread nD τ) (ms0_11 t) fullShare ((dats m 0 c).after 11 t) from by
      unfold Dat.leavesExact; rw [liveAt0_11 t], after0_11]
    rw [show (dats m 0 c).leavesExact 12 t = owns (c : Thread nD τ) (ms0_12 t) fullShare ((dats m 0 c).after 12 t) from by
      unfold Dat.leavesExact; rw [liveAt0_12 t], after0_12]
    rw [show (dats m 0 c).leavesExact 13 t = owns (c : Thread nD τ) (ms0_13 t) fullShare ((dats m 0 c).after 13 t) from by
      unfold Dat.leavesExact; rw [liveAt0_13 t], after0_13]
    rw [show (dats m 0 c).leavesExact 14 t = owns (c : Thread nD τ) (ms0_14 t) fullShare ((dats m 0 c).after 14 t) from by
      unfold Dat.leavesExact; rw [liveAt0_14 t], after0_14]
    rw [show (dats m 0 c).leavesExact 15 t = owns (c : Thread nD τ) (ms0_15 t) fullShare ((dats m 0 c).after 15 t) from by
      unfold Dat.leavesExact; rw [liveAt0_15 t], after0_15]
    rw [show (dats m 0 c).leavesExact 16 t = owns (c : Thread nD τ) (ms0_16 t) fullShare ((dats m 0 c).after 16 t) from by
      unfold Dat.leavesExact; rw [liveAt0_16 t], after0_16]
    rw [show (dats m 0 c).leavesExact 17 t = owns (c : Thread nD τ) (ms0_17 t) fullShare ((dats m 0 c).after 17 t) from by
      unfold Dat.leavesExact; rw [liveAt0_17 t], after0_17]
    rw [show (dats m 0 c).leavesExact 18 t = owns (c : Thread nD τ) (ms0_18 t) fullShare ((dats m 0 c).after 18 t) from by
      unfold Dat.leavesExact; rw [liveAt0_18 t], after0_18]
    rw [show (dats m 0 c).leavesExact 19 t = owns (c : Thread nD τ) (ms0_19 t) fullShare ((dats m 0 c).after 19 t) from by
      unfold Dat.leavesExact; rw [liveAt0_19 t], after0_19]
    rw [show (dats m 0 c).leavesExact 20 t = owns (c : Thread nD τ) (ms0_20 t) fullShare ((dats m 0 c).after 20 t) from by
      unfold Dat.leavesExact; rw [liveAt0_20 t], after0_20]
    rw [show (dats m 0 c).leavesExact 21 t = owns (c : Thread nD τ) (ms0_21 t) fullShare ((dats m 0 c).after 21 t) from by
      unfold Dat.leavesExact; rw [liveAt0_21_A t ((first_iff t).2 h) (fun h' => (later_iff t).1 h' h)], after0_21]
    rw [show (dats m 0 c).leavesExact 22 t = owns (c : Thread nD τ) (ms0_22 t) fullShare ((dats m 0 c).after 22 t) from by
      unfold Dat.leavesExact; rw [liveAt0_22_A t ((first_iff t).2 h) (fun h' => (later_iff t).1 h' h)], after0_22]
    rw [show (dats m 0 c).leavesExact 23 t = owns (c : Thread nD τ) (ms0_23 t) fullShare ((dats m 0 c).after 23 t) from by
      unfold Dat.leavesExact; rw [liveAt0_23_A t ((first_iff t).2 h) (fun h' => (later_iff t).1 h' h)], after0_23]
    rw [outsAt_first m c t h]
    unfold outsA; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
    iapply ((atA m c t ((first_iff t).2 h) (fun h' => (later_iff t).1 h' h)).2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩, ⟨%e23, H23⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]
    · unfold owns; iexists _; isplitr
      swap; · iexact H16
      ipureintro; exact View.read_writes_of_cover _ _ _ _ _ (coverA_16 m c t _ _)
    isplitl [H17]
    · unfold owns; iexists _; isplitr
      swap; · iexact H17
      ipureintro; exact View.read_writes_of_cover _ _ _ _ _ (coverA_17 m c t _ _)
    isplitl [H18]
    · unfold owns; iexists _; isplitr
      swap; · iexact H18
      ipureintro; exact View.read_writes_of_cover _ _ _ _ _ (coverA_18 m c t _ _)
    isplitl [H19]
    · unfold owns; iexists _; isplitr
      swap; · iexact H19
      ipureintro; exact View.read_writes_of_cover _ _ _ _ _ (coverA_19 m c t _ _)
    isplitl [H20]
    · unfold owns; iexists _; isplitr
      swap; · iexact H20
      ipureintro; exact View.read_writes_of_cover _ _ _ _ _ (coverA_20 m c t _ _)
    isplitl [H21]
    · unfold owns; iexists _; isplitr
      swap; · iexact H21
      ipureintro; exact View.read_writes_of_cover _ _ _ _ _ (coverA_21 m c t _ _)
    isplitl [H22]
    · unfold owns; iexists _; isplitr
      swap; · iexact H22
      ipureintro; exact View.read_writes_of_cover _ _ _ _ _ (coverA_22 m c t _ _)
    unfold owns; iexists _; isplitr
    swap; · iexact H23
    ipureintro; exact View.read_writes_of_cover _ _ _ _ _ (coverA_23 m c t _ _)

set_option maxHeartbeats 2000000 in
/-- The body at a later point. -/
theorem soundB (c : Dev nD) (t : Fin cfg0.N) (h : t.val ≠ 0) :
    bodyPre m c t ⊢ wp frame (wpE (defs₀ (F := F)) Variants.none c none) Set.univ (bodyAt0 t) (fun _ => bodyPost m c t) := by
    unfold bodyPre bodyPost bodyAt0
    simp only [before0_0, before0_1, before0_2, before0_3, before0_4, before0_5, before0_6, before0_7, before0_8, before0_9, before0_10, before0_11, before0_12, before0_13, before0_14, before0_15]
    rw [show (dats m 0 c).Φ t.succ = (dats m 0 c).Φ t.castSucc from rfl,
      show (dats m 0 c).owesAt () t.succ = (dats m 0 c).owesAt () t.castSucc from rfl]
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    rw [show (dats m 0 c).leavesExact 10 t = owns (c : Thread nD τ) (ms0_10 t) fullShare ((dats m 0 c).after 10 t) from by
      unfold Dat.leavesExact; rw [liveAt0_10 t], after0_10]
    rw [show (dats m 0 c).leavesExact 11 t = owns (c : Thread nD τ) (ms0_11 t) fullShare ((dats m 0 c).after 11 t) from by
      unfold Dat.leavesExact; rw [liveAt0_11 t], after0_11]
    rw [show (dats m 0 c).leavesExact 12 t = owns (c : Thread nD τ) (ms0_12 t) fullShare ((dats m 0 c).after 12 t) from by
      unfold Dat.leavesExact; rw [liveAt0_12 t], after0_12]
    rw [show (dats m 0 c).leavesExact 13 t = owns (c : Thread nD τ) (ms0_13 t) fullShare ((dats m 0 c).after 13 t) from by
      unfold Dat.leavesExact; rw [liveAt0_13 t], after0_13]
    rw [show (dats m 0 c).leavesExact 14 t = owns (c : Thread nD τ) (ms0_14 t) fullShare ((dats m 0 c).after 14 t) from by
      unfold Dat.leavesExact; rw [liveAt0_14 t], after0_14]
    rw [show (dats m 0 c).leavesExact 15 t = owns (c : Thread nD τ) (ms0_15 t) fullShare ((dats m 0 c).after 15 t) from by
      unfold Dat.leavesExact; rw [liveAt0_15 t], after0_15]
    rw [show (dats m 0 c).leavesExact 16 t = owns (c : Thread nD τ) (ms0_16 t) fullShare ((dats m 0 c).after 16 t) from by
      unfold Dat.leavesExact; rw [liveAt0_16 t], after0_16]
    rw [show (dats m 0 c).leavesExact 17 t = owns (c : Thread nD τ) (ms0_17 t) fullShare ((dats m 0 c).after 17 t) from by
      unfold Dat.leavesExact; rw [liveAt0_17 t], after0_17]
    rw [show (dats m 0 c).leavesExact 18 t = owns (c : Thread nD τ) (ms0_18 t) fullShare ((dats m 0 c).after 18 t) from by
      unfold Dat.leavesExact; rw [liveAt0_18 t], after0_18]
    rw [show (dats m 0 c).leavesExact 19 t = owns (c : Thread nD τ) (ms0_19 t) fullShare ((dats m 0 c).after 19 t) from by
      unfold Dat.leavesExact; rw [liveAt0_19 t], after0_19]
    rw [show (dats m 0 c).leavesExact 20 t = owns (c : Thread nD τ) (ms0_20 t) fullShare ((dats m 0 c).after 20 t) from by
      unfold Dat.leavesExact; rw [liveAt0_20 t], after0_20]
    rw [show (dats m 0 c).leavesExact 21 t = owns (c : Thread nD τ) (ms0_21 t) fullShare ((dats m 0 c).after 21 t) from by
      unfold Dat.leavesExact; rw [liveAt0_21_B t (fun h' => h ((first_iff t).1 h')) ((later_iff t).2 h)], after0_21]
    rw [show (dats m 0 c).leavesExact 22 t = owns (c : Thread nD τ) (ms0_22 t) fullShare ((dats m 0 c).after 22 t) from by
      unfold Dat.leavesExact; rw [liveAt0_22_B t (fun h' => h ((first_iff t).1 h')) ((later_iff t).2 h)], after0_22]
    rw [show (dats m 0 c).leavesExact 23 t = owns (c : Thread nD τ) (ms0_23 t) fullShare ((dats m 0 c).after 23 t) from by
      unfold Dat.leavesExact; rw [liveAt0_23_B t (fun h' => h ((first_iff t).1 h')) ((later_iff t).2 h)], after0_23]
    simp only [before_21 m c t h, before_22 m c t h, before_23 m c t h]
    rw [outsAt_later m c t h]
    unfold outsB; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
    iapply ((atB m c t (fun h' => h ((first_iff t).1 h')) ((later_iff t).2 h) (outsAt m c (t.val - 1) (Nat.lt_of_le_of_lt (Nat.sub_le _ _) t.isLt))).2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexact H21
    isplitl [H22]; · iexact H22
    isplitl [H23]; · iexact H23
    iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩, ⟨%e23, H23⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]
    · unfold owns; iexists _; isplitr
      swap; · iexact H16
      ipureintro; exact View.read_writes_of_cover _ _ _ _ _ (coverB_16 m c t _ _ _)
    isplitl [H17]
    · unfold owns; iexists _; isplitr
      swap; · iexact H17
      ipureintro; exact View.read_writes_of_cover _ _ _ _ _ (coverB_17 m c t _ _ _)
    isplitl [H18]
    · unfold owns; iexists _; isplitr
      swap; · iexact H18
      ipureintro; exact View.read_writes_of_cover _ _ _ _ _ (coverB_18 m c t _ _ _)
    isplitl [H19]
    · unfold owns; iexists _; isplitr
      swap; · iexact H19
      ipureintro; exact View.read_writes_of_cover _ _ _ _ _ (coverB_19 m c t _ _ _)
    isplitl [H20]
    · unfold owns; iexists _; isplitr
      swap; · iexact H20
      ipureintro; exact View.read_writes_of_cover _ _ _ _ _ (coverB_20 m c t _ _ _)
    isplitl [H21]
    · unfold owns; iexists _; isplitr
      swap; · iexact H21
      ipureintro; exact View.read_writes_of_cover _ _ _ _ _ (coverB_21 m c t _ _ _)
    isplitl [H22]
    · unfold owns; iexists _; isplitr
      swap; · iexact H22
      ipureintro; exact View.read_writes_of_cover _ _ _ _ _ (coverB_22 m c t _ _ _)
    unfold owns; iexists _; isplitr
    swap; · iexact H23
    ipureintro; exact View.read_writes_of_cover _ _ _ _ _ (coverB_23 m c t _ _ _)

/-- The body at every point. -/
theorem sound_body (c : Dev nD) (t : Fin cfg0.N) :
    bodyPre m c t ⊢ wp frame (wpE (defs₀ (F := F)) Variants.none c none) Set.univ (bodyAt0 t) (fun _ => bodyPost m c t) := by
  by_cases h : t.val = 0
  · exact soundA m c t h
  · exact soundB m c t h

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The launch's obligation for the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: the arrays at what the proof data says, every semaphore counter zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the arguments unchanged, every semaphore counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.AttnIdeal.Gen

end
-- ==== Proof.AttnRope.lean ====
/- The rotary tables and the rotation matrix that the host prepares for the attention gradient, as reals. -/
module

public import proofs.«01_k».proof.Proof.AttnIdealBody
public import Idealize.ShloMosaic.Lib.Pipeline.ValueKit
public import Idealize.ShloMosaic.Lib.Pointwise
public import Idealize.ShloMosaic.Lib.WordCmp
public import Idealize.ShloMosaic.Lib.Routing.OpsSet
public import Idealize.ShloMosaic.Lib.Claim

@[expose] public section

set_option maxRecDepth 16384

noncomputable section

namespace Cert.AttnMath

open Idealize.ShloMosaic Idealize.ShloMosaic.TcCoe Idealize.ShloMosaic.Tactic

/-- The rate at which pair `d` of a head turns from one position to the next. -/
def rate (d : ℕ) : ℝ := Real.rpow 10000 (-(d : ℝ) / 32)

/-- A small word as a real. -/
theorem word_real (n : ℕ) (h : n < 2 ^ 31) : (((BitVec.ofNat 32 n).toInt : ℝ) : EReal) = ((n : ℝ) : EReal) := by
  rw [StableHlo.Predicate.toInt_ofNat_small _ h]; simp

theorem lit_base : Ideal.ofBits .f32 1176256512#32 = ((10000 : ℝ) : EReal) := by
  simp [Ideal.ofBits, Ideal.ieee, -EReal.coe_mul]; norm_num
theorem lit_half : Ideal.ofBits .f32 1107296256#32 = ((32 : ℝ) : EReal) := by
  simp [Ideal.ofBits, Ideal.ieee, -EReal.coe_mul]; norm_num
theorem lit_pad : Ideal.ofBits .f32 1121976320#32 = ((112 : ℝ) : EReal) := by
  simp [Ideal.ofBits, Ideal.ieee, -EReal.coe_mul]; norm_num
theorem lit_zero : Ideal.ofBits .f32 0#32 = ((0 : ℝ) : EReal) := by
  simp [Ideal.ofBits, Ideal.ieee]
theorem lit_one : Ideal.ofBits .f32 0x3F800000#32 = ((1 : ℝ) : EReal) := by
  simp [Ideal.ofBits, Ideal.ieee, -EReal.coe_mul]; norm_num
theorem lit_minus : Ideal.ofBits .f32 0xBF800000#32 = ((-1 : ℝ) : EReal) := by
  simp [Ideal.ofBits, Ideal.ieee, -EReal.coe_mul, -EReal.coe_neg]; norm_num

/-- The power that the host takes is the rate. -/
theorem rate_host (d : ℕ) : Ideal.pow (Ideal.ofBits .f32 1176256512#32) (Ideal.div (-((d : ℝ) : EReal)) (Ideal.ofBits .f32 1107296256#32)) = (rate d : EReal) := by
  rw [lit_base, lit_half, Ideal.div_coe (by norm_num), ← EReal.coe_neg, ← EReal.coe_mul]
  show ((Real.rpow 10000 _ : ℝ) : EReal) = _
  unfold rate
  congr 2
  ring

/-- Rows of an argument, behind 112 rows of zeros. -/
def padded {W : ℕ} (X : Fin 2064 → Fin W → ℝ) (a : ℕ) (e : Fin W) : ℝ := if p : 112 ≤ a ∧ a - 112 < 2064 then X ⟨a - 112, p.2⟩ e else 0

theorem zero_word : (FloatOps.sitofp (F := Ideal) FTy.f32 0#32 : EReal) = ((0 : ℝ) : EReal) := by
  simp only [FloatOps.sitofp]; simp

end Cert.AttnMath

namespace Cert.AttnIdeal.Value

open Idealize.ShloMosaic Idealize.ShloMosaic.TcCoe Idealize.SL.Sem Idealize.ShloMosaic.Tactic
open Cert.AttnIdeal Cert.AttnIdeal.Gen Cert.AttnMath
variable (m : (ℓ : Loc nD τ sig) → Buf (Elt Ideal) ℓ) (c : Dev nD)

/-- The angle of row `a` of the padded sequence, pair `d`. -/
def ang (a : ℕ) (d : ℕ) : ℝ := ((a : ℝ) - 112) * rate (d % 32)

theorem cos_real (x : ℝ) : Ideal.cos (x : EReal) = ((Real.cos x : ℝ) : EReal) := rfl
theorem sin_real (x : ℝ) : Ideal.sin (x : EReal) = ((Real.sin x : ℝ) : EReal) := rfl

/-- The table of cosines. -/
theorem cos_table (a : Fin 2176) (d : Fin 64) : V m c main_v52 (ix2 a d) = ((Real.cos (ang a d) : ℝ) : EReal) := by
  simp only [V, hostOps0, hostOps0_1, hostOps0_2, hostOps0_3, hostOps0_4, hostOps0_5, hostOps0_6, hostOps0_7, List.flatten_cons, List.flatten_nil, List.append_nil, List.cons_append, List.nil_append]
  entry_read
  pointwise []
  split
  · simp only [FloatOps.sitofp]
    rw [word_real _ (by omega), word_real _ (by omega), rate_host, lit_pad, ← EReal.coe_sub, ← EReal.coe_mul, cos_real]
    unfold ang
    rw [Nat.mod_eq_of_lt (by omega)]
  · simp only [FloatOps.sitofp]
    rw [word_real _ (by omega), word_real _ (by omega), rate_host, lit_pad, ← EReal.coe_sub, ← EReal.coe_mul, cos_real]
    unfold ang
    rw [show d.val % 32 = d.val - 32 by omega]

/-- The table of sines. -/
theorem sin_table (a : Fin 2176) (d : Fin 64) : V m c main_v53 (ix2 a d) = ((Real.sin (ang a d) : ℝ) : EReal) := by
  simp only [V, hostOps0, hostOps0_1, hostOps0_2, hostOps0_3, hostOps0_4, hostOps0_5, hostOps0_6, hostOps0_7, List.flatten_cons, List.flatten_nil, List.append_nil, List.cons_append, List.nil_append]
  entry_read
  pointwise []
  split
  · simp only [FloatOps.sitofp]
    rw [word_real _ (by omega), word_real _ (by omega), rate_host, lit_pad, ← EReal.coe_sub, ← EReal.coe_mul, sin_real]
    unfold ang
    rw [Nat.mod_eq_of_lt (by omega)]
  · simp only [FloatOps.sitofp]
    rw [word_real _ (by omega), word_real _ (by omega), rate_host, lit_pad, ← EReal.coe_sub, ← EReal.coe_mul, sin_real]
    unfold ang
    rw [show d.val % 32 = d.val - 32 by omega]

/-- The rotation matrix: it takes `x` to `(-x₂, x₁)`. -/
def rotM (e d : Fin 64) : ℝ := if e.val = d.val + 32 then -1 else if e.val + 32 = d.val then 1 else 0

/-- The positions `32 … 63`. -/
def upIdx : IVec S32 32 := addi (iotaInDim S32 32 0) (broadcastInDim S32 ![] bcast_S_S32 (constantI S_ 32 32#32))

/-- Positions with the negative ones counted from the end, as a column. -/
def wrapped (v : IVec S32 32) : IVec S32x1 32 := broadcastInDim S32x1 ![0] bcast_S32_S32x1_0
  (select (cmpi .slt v (broadcastInDim S32 ![] bcast_S_S32 (constantI S_ 32 0#32))) (addi v (broadcastInDim S32 ![] bcast_S_S32 (constantI S_ 32 64#32))) v)

/-- Positions in pairs. -/
def pairs (u v : IVec S32 32) : IVec S32x2 32 := concatenate S32x2 1 [⟨S32x1, wrapped u⟩, ⟨S32x1, wrapped v⟩] concatenates_S32x1_S32x1_S32x2_d1

/-- Where the first scatter's updates land. -/
theorem land_low : ∀ k : Fin 32, scatter_S64x64_S32x2_S32_n_01_01_1.resultIdx? (ix1 k) (pairs upIdx (iotaInDim S32 32 0)) = some (ix2 (⟨k.val + 32, by omega⟩ : Fin 64) ⟨k.val, by omega⟩) := by
  decide +kernel

/-- Where the second scatter's updates land. -/
theorem land_up : ∀ k : Fin 32, scatter_S64x64_S32x2_S32_n_01_01_1.resultIdx? (ix1 k) (pairs (iotaInDim S32 32 0) upIdx) = some (ix2 ⟨k.val, by omega⟩ (⟨k.val + 32, by omega⟩ : Fin 64)) := by
  decide +kernel

theorem idx1 (k : S32.Idx) : ∃ j : Fin 32, k = ix1 j := ⟨k 0, by funext a; fin_cases a; rfl⟩

theorem ix2_ne {a b e d : Fin 64} (h : a ≠ e ∨ b ≠ d) : (some (ix2 a b) : Option S64x64.Idx) ≠ some (ix2 e d) := fun q => by
  have q' := Option.some.inj q
  rcases h with h | h
  · exact h (congrFun q' 0)
  · exact h (congrFun q' 1)

/-- The matrix that the host writes is the rotation matrix. -/
theorem rot_entry (e d : Fin 64) : V m c main_v51 (ix2 e d) = (rotM e d : EReal) := by
  simp only [V, hostOps0, hostOps0_1, hostOps0_2, hostOps0_3, hostOps0_4, hostOps0_5, hostOps0_6, hostOps0_7, List.flatten_cons, List.flatten_nil, List.append_nil, List.cons_append, List.nil_append]
  entry_read
  show Host.scatter scatter_S64x64_S32x2_S32_n_01_01_1 (fun _ b => b)
      (Host.scatter scatter_S64x64_S32x2_S32_n_01_01_1 (fun _ b => b) (fun _ => Ideal.ofBits .f32 0#32) (pairs upIdx (iotaInDim S32 32 0)) (fun _ => Ideal.ofBits .f32 0xBF800000#32))
      (pairs (iotaInDim S32 32 0) upIdx) (fun _ => Ideal.ofBits .f32 0x3F800000#32) (ix2 e d) = _
  unfold rotM
  by_cases h1 : e.val = d.val + 32
  · rw [if_pos h1, Routing.scatter_set_miss, ← lit_minus]
    · refine Routing.scatter_set_hit _ _ _ _ _ _ (fun _ _ => rfl) (ix1 ⟨d.val, by omega⟩) ?_
      rw [land_low]
      exact congrArg some (congrArg₂ ix2 (Fin.ext h1.symm) rfl)
    · intro k
      obtain ⟨j, rfl⟩ := idx1 k
      rw [land_up]
      exact ix2_ne (Or.inl fun q => by have := congrArg Fin.val q; simp at this; omega)
  · rw [if_neg h1]
    by_cases h2 : e.val + 32 = d.val
    · rw [if_pos h2, ← lit_one]
      refine Routing.scatter_set_hit _ _ _ _ _ _ (fun _ _ => rfl) (ix1 ⟨e.val, by omega⟩) ?_
      rw [land_up]
      exact congrArg some (congrArg₂ ix2 rfl (Fin.ext h2))
    · rw [if_neg h2, Routing.scatter_set_miss, Routing.scatter_set_miss, ← lit_zero]
      · intro k
        obtain ⟨j, rfl⟩ := idx1 k
        rw [land_low]
        refine ix2_ne ?_
        by_contra hc
        push Not at hc
        have q1 := congrArg Fin.val hc.1
        have q2 := congrArg Fin.val hc.2
        simp at q1 q2
        omega
      · intro k
        obtain ⟨j, rfl⟩ := idx1 k
        rw [land_up]
        refine ix2_ne ?_
        by_contra hc
        push Not at hc
        have q1 := congrArg Fin.val hc.1
        have q2 := congrArg Fin.val hc.2
        simp at q1 q2
        omega

/-- The sinks, one per head. -/
theorem sink_entry (h : Fin 8) : V m c main_v55 (ix3 h 0 0) = m ((c : Thread nD τ).loc main_arg3) (ix2 0 h) := by
  simp only [V, hostOps0, hostOps0_1, hostOps0_2, hostOps0_3, hostOps0_4, hostOps0_5, hostOps0_6, hostOps0_7, List.flatten_cons, List.flatten_nil, List.append_nil, List.cons_append, List.nil_append]
  entry_read
  pointwise []

/-- The padded queries, head by head. -/
theorem q_entry (X : Fin 2064 → Fin 512 → ℝ) (hX : ∀ t e, m ((c : Thread nD τ).loc main_arg0) (ix2 t e) = (X t e : EReal)) (h : Fin 8) (a : Fin 2176) (d : Fin 64) :
    V m c main_v58 (ix3 h a d) = (padded X a.val ⟨h.val * 64 + d.val, by omega⟩ : EReal) := by
  simp only [V, hostOps0, hostOps0_1, hostOps0_2, hostOps0_3, hostOps0_4, hostOps0_5, hostOps0_6, hostOps0_7, List.flatten_cons, List.flatten_nil, List.append_nil, List.cons_append, List.nil_append]
  entry_read
  show pad S8x2176x64 ![0, 112, 0] ![0, 0, 0] ![0, 0, 0] (transpose S8x2064x64 [1, 0, 2]
    (shapeCast S2064x8x64 (m ((c : Thread nD τ).loc main_arg0) : FVec Ideal S2064x512 .f32) shapeCasts_S2064x512_S2064x8x64) transposes_S2064x8x64_S8x2064x64_1_0_2)
    (sitofp (F := Ideal) .f32 (constantI S_ 32 0#32)) pads_S8x2064x64_S8x2176x64_000_11200_000 h_S_ (ix3 h a d) = _
  pointwise []
  unfold padded
  split
  · exact hX _ _
  · exact zero_word

/-- The padded keys, head by head. -/
theorem k_entry (X : Fin 2064 → Fin 128 → ℝ) (hX : ∀ t e, m ((c : Thread nD τ).loc main_arg1) (ix2 t e) = (X t e : EReal)) (h : Fin 2) (a : Fin 2176) (d : Fin 64) :
    V m c main_v61 (ix3 h a d) = (padded X a.val ⟨h.val * 64 + d.val, by omega⟩ : EReal) := by
  simp only [V, hostOps0, hostOps0_1, hostOps0_2, hostOps0_3, hostOps0_4, hostOps0_5, hostOps0_6, hostOps0_7, List.flatten_cons, List.flatten_nil, List.append_nil, List.cons_append, List.nil_append]
  entry_read
  show pad S2x2176x64 ![0, 112, 0] ![0, 0, 0] ![0, 0, 0] (transpose S2x2064x64 [1, 0, 2]
    (shapeCast S2064x2x64 (m ((c : Thread nD τ).loc main_arg1) : FVec Ideal S2064x128 .f32) shapeCasts_S2064x128_S2064x2x64) transposes_S2064x2x64_S2x2064x64_1_0_2)
    (sitofp (F := Ideal) .f32 (constantI S_ 32 0#32)) pads_S2x2064x64_S2x2176x64_000_11200_000 h_S_ (ix3 h a d) = _
  pointwise []
  unfold padded
  split
  · exact hX _ _
  · exact zero_word

/-- The padded values, head by head. -/
theorem v_entry (X : Fin 2064 → Fin 128 → ℝ) (hX : ∀ t e, m ((c : Thread nD τ).loc main_arg2) (ix2 t e) = (X t e : EReal)) (h : Fin 2) (a : Fin 2176) (d : Fin 64) :
    V m c main_v64 (ix3 h a d) = (padded X a.val ⟨h.val * 64 + d.val, by omega⟩ : EReal) := by
  simp only [V, hostOps0, hostOps0_1, hostOps0_2, hostOps0_3, hostOps0_4, hostOps0_5, hostOps0_6, hostOps0_7, List.flatten_cons, List.flatten_nil, List.append_nil, List.cons_append, List.nil_append]
  entry_read
  show pad S2x2176x64 ![0, 112, 0] ![0, 0, 0] ![0, 0, 0] (transpose S2x2064x64 [1, 0, 2]
    (shapeCast S2064x2x64 (m ((c : Thread nD τ).loc main_arg2) : FVec Ideal S2064x128 .f32) shapeCasts_S2064x128_S2064x2x64) transposes_S2064x2x64_S2x2064x64_1_0_2)
    (sitofp (F := Ideal) .f32 (constantI S_ 32 0#32)) pads_S2x2064x64_S2x2176x64_000_11200_000 h_S_ (ix3 h a d) = _
  pointwise []
  unfold padded
  split
  · exact hX _ _
  · exact zero_word

/-- The padded output gradients, head by head. -/
theorem do_entry (X : Fin 2064 → Fin 512 → ℝ) (hX : ∀ t e, m ((c : Thread nD τ).loc main_arg4) (ix2 t e) = (X t e : EReal)) (h : Fin 8) (a : Fin 2176) (d : Fin 64) :
    V m c main_v67 (ix3 h a d) = (padded X a.val ⟨h.val * 64 + d.val, by omega⟩ : EReal) := by
  simp only [V, hostOps0, hostOps0_1, hostOps0_2, hostOps0_3, hostOps0_4, hostOps0_5, hostOps0_6, hostOps0_7, List.flatten_cons, List.flatten_nil, List.append_nil, List.cons_append, List.nil_append]
  entry_read
  show pad S8x2176x64 ![0, 112, 0] ![0, 0, 0] ![0, 0, 0] (transpose S8x2064x64 [1, 0, 2]
    (shapeCast S2064x8x64 (m ((c : Thread nD τ).loc main_arg4) : FVec Ideal S2064x512 .f32) shapeCasts_S2064x512_S2064x8x64) transposes_S2064x8x64_S8x2064x64_1_0_2)
    (sitofp (F := Ideal) .f32 (constantI S_ 32 0#32)) pads_S8x2064x64_S8x2176x64_000_11200_000 h_S_ (ix3 h a d) = _
  pointwise []
  unfold padded
  split
  · exact hX _ _
  · exact zero_word

theorem idx : ∀ t : Fin cfg0.N, win0_0.index t = ![0, t.val, 0] ∧ win0_1.index t = ![0, t.val - 1, 0] ∧ win0_2.index t = ![0, t.val, 0] ∧ win0_3.index t = ![0, 0, 0]
    ∧ win0_4.index t = ![0, t.val - 1, 0] ∧ win0_5.index t = ![0, t.val, 0] ∧ win0_6.index t = ![0, 0, 0] ∧ win0_7.index t = ![0, 0, 0]
    ∧ win0_8.index t = ![t.val, 0] ∧ win0_9.index t = ![t.val, 0] ∧ win0_10.index t = ![t.val - 1, 0] ∧ win0_11.index t = ![t.val - 1, 0] ∧ win0_12.index t = ![0, 0] ∧ win0_13.index t = ![0, 0]
    ∧ win0_14.index t = ![0, 0] ∧ win0_15.index t = ![0, t.val, 0] ∧ win0_16.index t = ![0, t.val, 0] ∧ (grid0.coords t 0).val = t.val :=
  (by decide +kernel : ∀ t : Fin grid0.N, _)

/-- Row `i` of the block before that of point `t`, of the block of point `t`, and of the first block. -/
def rowP (t : Fin cfg0.N) (i : Fin 128) : Fin 2176 := ⟨128 * (t.val - 1) + i.val, by have := t.isLt; have : cfg0.N = 17 := rfl; omega⟩
def rowC (t : Fin cfg0.N) (i : Fin 128) : Fin 2176 := ⟨128 * t.val + i.val, by have := t.isLt; have : cfg0.N = 17 := rfl; omega⟩
def rowM (t : Fin cfg0.N) (i : Fin 128) : Fin 2176 := ⟨i.val, by omega⟩

theorem blk0 (t : Fin cfg0.N) (h : Fin 8) (i : Fin 128) (d : Fin 64) : iblk m c 0 t (ix3 h i d) = V m c main_v58 (ix3 h (rowC t i) d) := by
  blk_point [iblk, idx t]
  all_goals (simp only [rowC]; try omega)
theorem blk1 (t : Fin cfg0.N) (h : Fin 2) (i : Fin 128) (d : Fin 64) : iblk m c 1 t (ix3 h i d) = V m c main_v61 (ix3 h (rowP t i) d) := by
  blk_point [iblk, idx t]
  all_goals (simp only [rowP]; try omega)
theorem blk2 (t : Fin cfg0.N) (h : Fin 2) (i : Fin 128) (d : Fin 64) : iblk m c 2 t (ix3 h i d) = V m c main_v61 (ix3 h (rowC t i) d) := by
  blk_point [iblk, idx t]
  all_goals (simp only [rowC]; try omega)
theorem blk3 (t : Fin cfg0.N) (h : Fin 2) (i : Fin 128) (d : Fin 64) : iblk m c 3 t (ix3 h i d) = V m c main_v61 (ix3 h (rowM t i) d) := by
  blk_point [iblk, idx t]
  all_goals (simp only [rowM]; try omega)
theorem blk4 (t : Fin cfg0.N) (h : Fin 2) (i : Fin 128) (d : Fin 64) : iblk m c 4 t (ix3 h i d) = V m c main_v64 (ix3 h (rowP t i) d) := by
  blk_point [iblk, idx t]
  all_goals (simp only [rowP]; try omega)
theorem blk5 (t : Fin cfg0.N) (h : Fin 2) (i : Fin 128) (d : Fin 64) : iblk m c 5 t (ix3 h i d) = V m c main_v64 (ix3 h (rowC t i) d) := by
  blk_point [iblk, idx t]
  all_goals (simp only [rowC]; try omega)
theorem blk6 (t : Fin cfg0.N) (h : Fin 2) (i : Fin 128) (d : Fin 64) : iblk m c 6 t (ix3 h i d) = V m c main_v64 (ix3 h (rowM t i) d) := by
  blk_point [iblk, idx t]
  all_goals (simp only [rowM]; try omega)
theorem blk15 (t : Fin cfg0.N) (h : Fin 8) (i : Fin 128) (d : Fin 64) : iblk m c 15 t (ix3 h i d) = V m c main_v67 (ix3 h (rowC t i) d) := by
  blk_point [iblk, idx t]
  all_goals (simp only [rowC]; try omega)
theorem blk8 (t : Fin cfg0.N) (i : Fin 128) (d : Fin 64) : iblk m c 8 t (ix2 i d) = V m c main_v52 (ix2 (rowC t i) d) := by
  blk_point [iblk, idx t]
  all_goals (simp only [rowC]; try omega)
theorem blk9 (t : Fin cfg0.N) (i : Fin 128) (d : Fin 64) : iblk m c 9 t (ix2 i d) = V m c main_v53 (ix2 (rowC t i) d) := by
  blk_point [iblk, idx t]
  all_goals (simp only [rowC]; try omega)
theorem blk10 (t : Fin cfg0.N) (i : Fin 128) (d : Fin 64) : iblk m c 10 t (ix2 i d) = V m c main_v52 (ix2 (rowP t i) d) := by
  blk_point [iblk, idx t]
  all_goals (simp only [rowP]; try omega)
theorem blk11 (t : Fin cfg0.N) (i : Fin 128) (d : Fin 64) : iblk m c 11 t (ix2 i d) = V m c main_v53 (ix2 (rowP t i) d) := by
  blk_point [iblk, idx t]
  all_goals (simp only [rowP]; try omega)
theorem blk12 (t : Fin cfg0.N) (i : Fin 128) (d : Fin 64) : iblk m c 12 t (ix2 i d) = V m c main_v52 (ix2 (rowM t i) d) := by
  blk_point [iblk, idx t]
  all_goals (simp only [rowM]; try omega)
theorem blk13 (t : Fin cfg0.N) (i : Fin 128) (d : Fin 64) : iblk m c 13 t (ix2 i d) = V m c main_v53 (ix2 (rowM t i) d) := by
  blk_point [iblk, idx t]
  all_goals (simp only [rowM]; try omega)
theorem blk7 (t : Fin cfg0.N) (h : Fin 8) : iblk m c 7 t (ix3 h 0 0) = V m c main_v55 (ix3 h 0 0) := by
  blk_point [iblk, idx t]
set_option maxHeartbeats 1000000 in
theorem blk14 (t : Fin cfg0.N) (e d : Fin 64) : iblk m c 14 t (ix2 e d) = V m c main_v51 (ix2 e d) := by
  blk_point [iblk, idx t]

end Cert.AttnIdeal.Value
-- ==== Proof.AttnMath.lean ====
/- The attention of one query over the reals, and its gradient: how the three blocks of keys that the kernel visits make up the visible keys. -/
module

public import proofs.«01_k».proof.Proof.Gen.AttnIdeal.Skeleton

@[expose] public section

noncomputable section

namespace Cert.AttnMath

open Finset

/-- Query row `a` sees key row `b` (rows counted with the 112 rows of padding in front): not later, and near or among the first sixteen. -/
def vis (a b : ℕ) : Prop := b ≤ a ∧ (a < b + 128 ∨ b < 128)

instance (a b : ℕ) : Decidable (vis a b) := by unfold vis; infer_instance

/-- A sum over a block of 128 as a sum over the rows of the whole array. -/
theorem sum_block (c : ℕ) (hc : c + 128 ≤ 2176) (g : ℕ → ℝ) :
    ∑ j : Fin 128, g j = ∑ b ∈ range 2176, if c ≤ b ∧ b < c + 128 then g (b - c) else 0 := by
  rw [Fin.sum_univ_eq_sum_range, ← sum_filter]
  refine sum_bij' (fun j _ => j + c) (fun b _ => b - c) ?_ ?_ ?_ ?_ ?_
  · intro j hj; simp only [mem_filter, mem_range] at *; omega
  · intro b hb; simp only [mem_filter, mem_range] at *; omega
  · intro j hj; simp
  · intro b hb; simp only [mem_filter, mem_range] at *; omega
  · intro j hj; simp

/-- A sum over the 2064 rows as a sum over the padded rows. -/
theorem sum_rows (g : ℕ → ℝ) : ∑ s : Fin 2064, g (s + 112) = ∑ b ∈ range 2176, if 112 ≤ b then g b else 0 := by
  rw [Fin.sum_univ_eq_sum_range (fun s => g (s + 112)), ← sum_filter]
  refine sum_bij' (fun j _ => j + 112) (fun b _ => b - 112) ?_ ?_ ?_ ?_ ?_
  · intro j hj; simp only [mem_filter, mem_range] at *; omega
  · intro b hb; simp only [mem_filter, mem_range] at *; omega
  · intro j hj; simp
  · intro b hb; simp only [mem_filter, mem_range] at *; omega
  · intro j hj; simp

/-- Key `j` of the block before is seen. -/
def okP (n i j : ℕ) : Prop := i < j ∧ 2 ≤ n
/-- Key `j` of the query's own block is seen. -/
def okC (n i j : ℕ) : Prop := j ≤ i ∧ 1 ≤ n
/-- Key `j` of the first block is seen. -/
def okM (n i j : ℕ) : Prop := 112 ≤ j ∧ (1 ≤ n ∨ j ≤ i)

instance (n i j : ℕ) : Decidable (okP n i j) := by unfold okP; infer_instance
instance (n i j : ℕ) : Decidable (okC n i j) := by unfold okC; infer_instance
instance (n i j : ℕ) : Decidable (okM n i j) := by unfold okM; infer_instance

/-- The keys seen in the three blocks are the visible keys, each once. -/
theorem sum_seen (n i : ℕ) (hn : n < 17) (hi : i < 128) (f : ℕ → ℝ) :
    (∑ j : Fin 128, if okP n i j then f (128 * (n - 1) + j) else 0) + (∑ j : Fin 128, if okC n i j then f (128 * n + j) else 0)
      + (∑ j : Fin 128, if okM n i j then f j else 0)
    = ∑ s : Fin 2064, if vis (128 * n + i) (s + 112) then f (s + 112) else 0 := by
  rw [sum_block (128 * (n - 1)) (by omega) (fun j => if okP n i j then f (128 * (n - 1) + j) else 0),
    sum_block (128 * n) (by omega) (fun j => if okC n i j then f (128 * n + j) else 0),
    sum_block 0 (by omega) (fun j => if okM n i j then f j else 0),
    sum_rows (fun b => if vis (128 * n + i) b then f b else 0), ← sum_add_distrib, ← sum_add_distrib]
  refine sum_congr rfl fun b hb => ?_
  rw [mem_range] at hb
  have e1 : (if 128 * (n - 1) ≤ b ∧ b < 128 * (n - 1) + 128 then
      (if okP n i (b - 128 * (n - 1)) then f (128 * (n - 1) + (b - 128 * (n - 1))) else 0) else 0)
      = if (128 * (n - 1) ≤ b ∧ b < 128 * (n - 1) + 128) ∧ okP n i (b - 128 * (n - 1)) then f b else 0 := by
    by_cases h : 128 * (n - 1) ≤ b ∧ b < 128 * (n - 1) + 128
    · rw [if_pos h, show 128 * (n - 1) + (b - 128 * (n - 1)) = b by omega]; simp [h]
    · rw [if_neg h, if_neg (fun h' => h h'.1)]
  have e2 : (if 128 * n ≤ b ∧ b < 128 * n + 128 then
      (if okC n i (b - 128 * n) then f (128 * n + (b - 128 * n)) else 0) else 0)
      = if (128 * n ≤ b ∧ b < 128 * n + 128) ∧ okC n i (b - 128 * n) then f b else 0 := by
    by_cases h : 128 * n ≤ b ∧ b < 128 * n + 128
    · rw [if_pos h, show 128 * n + (b - 128 * n) = b by omega]; simp [h]
    · rw [if_neg h, if_neg (fun h' => h h'.1)]
  have e3 : (if 0 ≤ b ∧ b < 0 + 128 then (if okM n i (b - 0) then f (b - 0) else 0) else 0)
      = if b < 128 ∧ okM n i b then f b else 0 := by
    by_cases h : b < 128
    · simp [h]
    · simp [h]
  have e4 : (if 112 ≤ b then (if vis (128 * n + i) b then f b else 0) else 0)
      = if 112 ≤ b ∧ vis (128 * n + i) b then f b else 0 := by
    by_cases h : 112 ≤ b
    · simp [h]
    · simp [h]
  rw [e1, e2, e3, e4]
  unfold okP okC okM vis
  by_cases h1 : (128 * (n - 1) ≤ b ∧ b < 128 * (n - 1) + 128) ∧ i < b - 128 * (n - 1) ∧ 2 ≤ n
  · rw [if_pos h1, if_neg (by omega), if_neg (by omega), if_pos (by omega)]; ring
  · rw [if_neg h1]
    by_cases h2 : (128 * n ≤ b ∧ b < 128 * n + 128) ∧ b - 128 * n ≤ i ∧ 1 ≤ n
    · rw [if_pos h2, if_neg (by omega), if_pos (by omega)]; ring
    · rw [if_neg h2]
      by_cases h3 : b < 128 ∧ 112 ≤ b ∧ (1 ≤ n ∨ b ≤ i)
      · rw [if_pos h3, if_pos (by omega)]; ring
      · rw [if_neg h3, if_neg (by omega)]; ring

/-- The weight of one key in the gradient of its score: `e` the exponential, `p` the gradient of the probability, `Z` the sum of the exponentials, `D` the sum of `e * p`. -/
def grad (e p Z D : ℝ) : ℝ := e * (p / Z - D / (Z * Z))

/-- Exponentials all scaled by `w`, as they are when a maximum is taken off the scores, give the same. -/
theorem grad_scale (w e p Z D : ℝ) (hw : w ≠ 0) (hZ : Z ≠ 0) : grad (w * e) p (w * Z) (w * D) = grad e p Z D := by
  unfold grad; field_simp

/-- A real sum as a sum of extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- A choice between two reals. -/
theorem coe_ite (c : Prop) [Decidable c] (a b : ℝ) : ((if c then a else b : ℝ) : EReal) = if c then (a : EReal) else (b : EReal) := by
  split <;> rfl

/-- The largest of values none of which is `⊤`, starting from `⊥`, is not `⊤`. -/
theorem fold_max_ne_top {ι : Type} (s : Finset ι) (f : ι → EReal) (h : ∀ i ∈ s, f i ≠ ⊤) : s.fold max ⊥ f ≠ ⊤ := by
  classical
  induction s using Finset.induction_on with
  | empty => simp
  | insert a s ha ih =>
    rw [fold_insert ha]
    have h1 := h a (mem_insert_self _ _)
    have h2 := ih fun i hi => h i (mem_insert_of_mem hi)
    rcases max_choice (f a) (s.fold max ⊥ f) with h' | h' <;> rw [h'] <;> assumption

/-- A maximum of four, the last a real and the others not `⊤`, is a real. -/
theorem max_real (a b c : EReal) (σ : ℝ) (ha : a ≠ ⊤) (hb : b ≠ ⊤) (hc : c ≠ ⊤) :
    ∃ μ : ℝ, max (max a b) (max c (σ : EReal)) = (μ : EReal) := by
  have h1 : max (max a b) (max c (σ : EReal)) ≠ ⊤ := by
    simp only [ne_eq, max_eq_top, not_or]
    exact ⟨⟨ha, hb⟩, hc, EReal.coe_ne_top σ⟩
  have h2 : max (max a b) (max c (σ : EReal)) ≠ ⊥ := by
    have : (σ : EReal) ≤ max (max a b) (max c (σ : EReal)) := le_max_of_le_right (le_max_right _ _)
    intro h; rw [h] at this; exact EReal.coe_ne_bot σ (le_bot_iff.1 this)
  exact ⟨_, (EReal.coe_toReal h1 h2).symm⟩

end Cert.AttnMath
-- ==== Proof.AttnRow.lean ====
/- What the body of the attention gradient computes from one block of queries of one group of heads, whose entries are reals: its masked scores, their exponentials, and the gradient of the rotated queries. -/
module

public import proofs.«01_k».proof.Proof.AttnMath
public import Idealize.ShloMosaic.Lib.Pointwise
public import Idealize.ShloMosaic.Lib.WordCmp

@[expose] public section

noncomputable section

namespace Cert.AttnIdeal.Row

open Idealize.ShloMosaic Idealize.ShloMosaic.TcCoe Idealize.ShloMosaic.Tactic
open Cert.AttnIdeal Cert.AttnIdeal.Gen Cert.AttnMath

/-- The scale of the scores. -/
theorem eighth : Ideal.ofBits .f32 0x3E000000#32 = ((1 / 8 : ℝ) : EReal) := by
  simp [Ideal.ofBits, Ideal.ieee, -EReal.coe_mul]; norm_num

/-- The mask's constant stands for `-∞`. -/
theorem mask : Named.named (F := Ideal) κ "mask" (φ := .f32) 0xF149F2CA#32 = (⊥ : EReal) :=
  IdealRules.named_const.ideal_named_scalar _ _ _ _ rfl

/-- A maximum starts from `-∞`. -/
theorem neg_inf : Ideal.ofBits .f32 0xFF800000#32 = (⊥ : EReal) := by
  simp [Ideal.ofBits, Ideal.ieee]

/-- The score of query `r` against key `j`. -/
def score (q : Fin 512 → Fin 64 → ℝ) (k : Fin 128 → Fin 64 → ℝ) (r : Fin 512) (j : Fin 128) : ℝ := (∑ d, q r d * k j d) * (1 / 8)

/-- Its exponential, nothing where the key is not seen. -/
def expo (o : Fin 512 → Fin 128 → Bool) (q : Fin 512 → Fin 64 → ℝ) (k : Fin 128 → Fin 64 → ℝ) (r : Fin 512) (j : Fin 128) : ℝ :=
  if o r j then Real.exp (score q k r j) else 0

/-- The gradient of the probability of key `j`. -/
def dprob (g : Fin 512 → Fin 64 → ℝ) (v : Fin 128 → Fin 64 → ℝ) (r : Fin 512) (j : Fin 128) : ℝ := ∑ d, g r d * v j d

/-- The masked score as an extended real. -/
def masked (o : Fin 512 → Fin 128 → Bool) (q : Fin 512 → Fin 64 → ℝ) (k : Fin 128 → Fin 64 → ℝ) (r : Fin 512) (j : Fin 128) : EReal :=
  if o r j then (score q k r j : EReal) else ⊥

theorem masked_ne_top (o q k r j) : masked o q k r j ≠ ⊤ := by
  unfold masked; split
  · exact EReal.coe_ne_top _
  · exact bot_ne_top

/-- Taking the maximum `μ` off a score scales its exponential. -/
theorem exp_masked (o q k r j) (μ : ℝ) : Ideal.exp (masked o q k r j - (μ : EReal)) = ((Real.exp (-μ) * expo o q k r j : ℝ) : EReal) := by
  unfold masked expo
  split
  · rw [← EReal.coe_sub, Ideal.exp_coe, sub_eq_add_neg, Real.exp_add, mul_comm]
  · rw [EReal.bot_sub, Ideal.exp_bot, mul_zero, EReal.coe_zero]

theorem div_one (z : ℝ) (hz : z ≠ 0) : Ideal.div (1 : EReal) (z : EReal) = ((1 / z : ℝ) : EReal) := by
  rw [Ideal.div_coe hz, one_mul]

variable {vq vg : FVec Ideal S512x64 .f32} {kp kc km vp vc vm : FVec Ideal S128x64 .f32} {sk : FVec Ideal S512x1 .f32} {bp bc bm : IVec S512x128 1}
  {q g : Fin 512 → Fin 64 → ℝ} {xp xc xm yp yc ym : Fin 128 → Fin 64 → ℝ} {σ : Fin 512 → ℝ} {op oc om : Fin 512 → Fin 128 → Bool}

/-- The scores against the block before. -/
theorem score_p (hq : ∀ r d, vq (ix2 r d) = (q r d : EReal)) (hk : ∀ j d, kp (ix2 j d) = (xp j d : EReal)) (ho : ∀ r j, bp (ix2 r j) = BitVec.ofBool (op r j))
    (r : Fin 512) (j : Fin 128) : k0_pay78 bp (k0_pay76 vq) (k0_pay77 kp) (ix2 r j) = masked op q xp r j := by
  pointwise [k0_pay78, k0_pay76, k0_pay77]
  simp only [hq, hk, ho, eighth, mask, ← EReal.coe_mul, ← coe_sum, WordCmp.select_ofBool]
  rfl

/-- The scores against the queries' own block. -/
theorem score_c (hq : ∀ r d, vq (ix2 r d) = (q r d : EReal)) (hk : ∀ j d, kc (ix2 j d) = (xc j d : EReal)) (ho : ∀ r j, bc (ix2 r j) = BitVec.ofBool (oc r j))
    (r : Fin 512) (j : Fin 128) : k0_pay80 kc vq bc (ix2 r j) = masked oc q xc r j := by
  pointwise [k0_pay80]
  simp only [hq, hk, ho, eighth, mask, ← EReal.coe_mul, ← coe_sum, WordCmp.select_ofBool]
  rfl

/-- The scores against the first block. -/
theorem score_m (hq : ∀ r d, vq (ix2 r d) = (q r d : EReal)) (hk : ∀ j d, km (ix2 j d) = (xm j d : EReal)) (ho : ∀ r j, bm (ix2 r j) = BitVec.ofBool (om r j))
    (r : Fin 512) (j : Fin 128) : k0_pay82 km vq bm (ix2 r j) = masked om q xm r j := by
  pointwise [k0_pay82]
  simp only [hq, hk, ho, eighth, mask, ← EReal.coe_mul, ← coe_sum, WordCmp.select_ofBool]
  rfl

section Rows

variable {sp sc sm : FVec Ideal S512x128 .f32} {mx : FVec Ideal S512 .f32}

/-- The maximum taken off a row is a real. -/
theorem max_row (hp : ∀ r j, k0_pay78 bp (k0_pay76 vq) (k0_pay77 kp) (ix2 r j) = masked op q xp r j) (hc : ∀ r j, sc (ix2 r j) = masked oc q xc r j)
    (hm : ∀ r j, sm (ix2 r j) = masked om q xm r j) (hs : ∀ r, sk (ix2 r 0) = (σ r : EReal)) (r : Fin 512) :
    ∃ μ : ℝ, k0_pay85 sk sc sm (k0_pay84 bp (k0_pay76 vq) (k0_pay77 kp)) (ix2 r 0) = (μ : EReal) := by
  pointwise [k0_pay85, k0_pay84]
  simp only [hp, hc, hm, hs, neg_inf]
  exact max_real _ _ _ _ (fold_max_ne_top _ _ fun _ _ => masked_ne_top _ _ _ _ _) (fold_max_ne_top _ _ fun _ _ => masked_ne_top _ _ _ _ _)
    (fold_max_ne_top _ _ fun _ _ => masked_ne_top _ _ _ _ _)

variable {μ : Fin 512 → ℝ}

/-- The exponentials of the block before. -/
theorem exp_p (hp : ∀ r j, sp (ix2 r j) = masked op q xp r j) (hμ : ∀ r, k0_pay85 sk sc sm mx (ix2 r 0) = (μ r : EReal)) (r : Fin 512) (j : Fin 128) :
    k0_pay87 sk sp sc sm mx (ix2 r j) = ((Real.exp (-μ r) * expo op q xp r j : ℝ) : EReal) := by
  pointwise [k0_pay87]; rw [hp, hμ, exp_masked]

/-- The exponentials of the own block. -/
theorem exp_c (hc : ∀ r j, sc (ix2 r j) = masked oc q xc r j) (hμ : ∀ r, k0_pay85 sk sc sm mx (ix2 r 0) = (μ r : EReal)) (r : Fin 512) (j : Fin 128) :
    k0_pay89 sk sc sm mx (ix2 r j) = ((Real.exp (-μ r) * expo oc q xc r j : ℝ) : EReal) := by
  pointwise [k0_pay89]; rw [hc, hμ, exp_masked]

/-- The exponentials of the first block. -/
theorem exp_m (hm : ∀ r j, sm (ix2 r j) = masked om q xm r j) (hμ : ∀ r, k0_pay85 sk sc sm mx (ix2 r 0) = (μ r : EReal)) (r : Fin 512) (j : Fin 128) :
    k0_pay91 sk sc sm mx (ix2 r j) = ((Real.exp (-μ r) * expo om q xm r j : ℝ) : EReal) := by
  pointwise [k0_pay91]; rw [hm, hμ, exp_masked]

/-- The sum of a row's exponentials, the sink's among them. -/
def total (σ : Fin 512 → ℝ) (e1 e2 e3 : Fin 512 → Fin 128 → ℝ) (r : Fin 512) : ℝ := ∑ j, e1 r j + ∑ j, e2 r j + ∑ j, e3 r j + Real.exp (σ r)

/-- The exponentials weighted by the gradients of the probabilities. -/
def weighted (e1 e2 e3 p1 p2 p3 : Fin 512 → Fin 128 → ℝ) (r : Fin 512) : ℝ := ∑ j, e1 r j * p1 r j + ∑ j, e2 r j * p2 r j + ∑ j, e3 r j * p3 r j

variable {e1 e2 e3 p1 p2 p3 : Fin 512 → Fin 128 → ℝ} {w : Fin 512 → ℝ}

/-- The sum of a row, scaled. -/
theorem sum_row (h1 : ∀ r j, k0_pay87 sk sp sc sm mx (ix2 r j) = ((w r * e1 r j : ℝ) : EReal)) (h2 : ∀ r j, k0_pay89 sk sc sm mx (ix2 r j) = ((w r * e2 r j : ℝ) : EReal))
    (h3 : ∀ r j, k0_pay91 sk sc sm mx (ix2 r j) = ((w r * e3 r j : ℝ) : EReal)) (h4 : ∀ r, k0_pay93 sk sc sm mx (ix2 r 0) = ((w r * Real.exp (σ r) : ℝ) : EReal)) (r : Fin 512) :
    k0_pay94 sk sp sc sm mx (ix2 r 0) = ((w r * total σ e1 e2 e3 r : ℝ) : EReal) := by
  pointwise [k0_pay94]
  simp only [h1, h2, h3, h4, ← coe_sum, ← EReal.coe_add]
  unfold total
  rw [← Finset.mul_sum, ← Finset.mul_sum, ← Finset.mul_sum, ← mul_add, ← mul_add, ← mul_add]

/-- The sink's exponential. -/
theorem exp_sink (hs : ∀ r, sk (ix2 r 0) = (σ r : EReal)) (hμ : ∀ r, k0_pay85 sk sc sm mx (ix2 r 0) = (μ r : EReal)) (r : Fin 512) :
    k0_pay93 sk sc sm mx (ix2 r 0) = ((Real.exp (-μ r) * Real.exp (σ r) : ℝ) : EReal) := by
  pointwise [k0_pay93]
  rw [hs, hμ, ← EReal.coe_sub, Ideal.exp_coe, sub_eq_add_neg, Real.exp_add, mul_comm]

variable {Z D : Fin 512 → ℝ}

/-- The reciprocal of a row's sum. -/
theorem inv_row (hZ : ∀ r, k0_pay94 sk sp sc sm mx (ix2 r 0) = (Z r : EReal)) (h0 : ∀ r, Z r ≠ 0) (r : Fin 512) :
    k0_pay95 sk sp sc sm mx (ix2 r 0) = ((1 / Z r : ℝ) : EReal) := by
  pointwise [k0_pay95]; rw [hZ, div_one _ (h0 r)]

/-- The reciprocal of its square. -/
theorem inv_sq (hZ : ∀ r, k0_pay94 sk sp sc sm mx (ix2 r 0) = (Z r : EReal)) (h0 : ∀ r, Z r ≠ 0) (r : Fin 512) :
    k0_pay98 (k0_pay96 sk sp sc sm mx) (k0_pay97 (F := Ideal)) (ix2 r 0) = ((1 / (Z r * Z r) : ℝ) : EReal) := by
  pointwise [k0_pay98, k0_pay96, k0_pay97]; rw [hZ, ← EReal.coe_mul, div_one _ (mul_ne_zero (h0 r) (h0 r))]

variable {ep ec em : FVec Ideal S512x128 .f32} {iv iv2 : FVec Ideal S512x1 .f32} {dd : FVec Ideal S512x1 .f32}

/-- The weighted sum of a row, scaled. -/
theorem weighted_row (hg : ∀ r d, vg (ix2 r d) = (g r d : EReal)) (hp : ∀ j d, vp (ix2 j d) = (yp j d : EReal)) (hc : ∀ j d, vc (ix2 j d) = (yc j d : EReal))
    (hm : ∀ j d, vm (ix2 j d) = (ym j d : EReal)) (h1 : ∀ r j, ep (ix2 r j) = ((w r * e1 r j : ℝ) : EReal)) (h2 : ∀ r j, ec (ix2 r j) = ((w r * e2 r j : ℝ) : EReal))
    (h3 : ∀ r j, em (ix2 r j) = ((w r * e3 r j : ℝ) : EReal)) (r : Fin 512) :
    k0_pay130 vp vc vm ep ec em vg (ix2 r 0) = ((w r * weighted e1 e2 e3 (dprob g yp) (dprob g yc) (dprob g ym) r : ℝ) : EReal) := by
  pointwise [k0_pay130, k0_pay122, k0_pay125, k0_pay128]
  simp only [h1, h2, h3, hg, hp, hc, hm, ← EReal.coe_mul, ← coe_sum, ← EReal.coe_add]
  unfold weighted dprob
  simp only [mul_assoc, ← Finset.mul_sum, ← mul_add]
  congr 2; ring

/-- The gradient of the probabilities of the block before, over the row's sum. -/
theorem quot_p (hg : ∀ r d, vg (ix2 r d) = (g r d : EReal)) (hv : ∀ j d, vp (ix2 j d) = (yp j d : EReal)) (hi : ∀ r, iv (ix2 r 0) = ((1 / Z r : ℝ) : EReal)) (r : Fin 512) (j : Fin 128) :
    k0_pay131 vp iv vg (ix2 r j) = ((dprob g yp r j * (1 / Z r) : ℝ) : EReal) := by
  pointwise [k0_pay131, k0_pay128]
  simp only [hg, hv, hi, ← EReal.coe_mul, ← coe_sum]; rfl

/-- The same of the own block. -/
theorem quot_c (hg : ∀ r d, vg (ix2 r d) = (g r d : EReal)) (hv : ∀ j d, vc (ix2 j d) = (yc j d : EReal)) (hi : ∀ r, iv (ix2 r 0) = ((1 / Z r : ℝ) : EReal)) (r : Fin 512) (j : Fin 128) :
    k0_pay127 vc iv vg (ix2 r j) = ((dprob g yc r j * (1 / Z r) : ℝ) : EReal) := by
  pointwise [k0_pay127, k0_pay125]
  simp only [hg, hv, hi, ← EReal.coe_mul, ← coe_sum]; rfl

/-- The same of the first block. -/
theorem quot_m (hg : ∀ r d, vg (ix2 r d) = (g r d : EReal)) (hv : ∀ j d, vm (ix2 j d) = (ym j d : EReal)) (hi : ∀ r, iv (ix2 r 0) = ((1 / Z r : ℝ) : EReal)) (r : Fin 512) (j : Fin 128) :
    k0_pay124 vm iv vg (ix2 r j) = ((dprob g ym r j * (1 / Z r) : ℝ) : EReal) := by
  pointwise [k0_pay124, k0_pay122]
  simp only [hg, hv, hi, ← EReal.coe_mul, ← coe_sum]; rfl

/-- What every key of a row loses. -/
theorem loss_row (h2 : ∀ r, iv2 (ix2 r 0) = ((1 / (Z r * Z r) : ℝ) : EReal)) (hD : ∀ r, dd (ix2 r 0) = (D r : EReal)) (r : Fin 512) :
    k0_pay136 iv2 dd (ix2 r 0) = ((-(D r * (1 / (Z r * Z r))) : ℝ) : EReal) := by
  pointwise [k0_pay136]
  rw [hD, h2, ← EReal.coe_mul, zero_sub, EReal.coe_neg]

/-- The gradient of a row's scores as the body forms it is the gradient. -/
theorem grad_row (w e p Z D : ℝ) (hw : w ≠ 0) (hZ : Z ≠ 0) :
    (p * (1 / (w * Z)) + -(w * D * (1 / (w * Z * (w * Z))))) * (w * e) = grad e p Z D := by
  unfold grad; field_simp; ring

/-- A key not seen has no gradient, so leaving it out changes nothing. -/
theorem select_grad (o : Fin 512 → Fin 128 → Bool) (q : Fin 512 → Fin 64 → ℝ) (k : Fin 128 → Fin 64 → ℝ) (p Z D : ℝ) (r : Fin 512) (j : Fin 128) :
    (if o r j then grad (expo o q k r j) p Z D else 0) = grad (expo o q k r j) p Z D := by
  split
  · rfl
  · rename_i h; unfold expo grad; rw [if_neg h, zero_mul]

/-- The gradient of query `r` from the keys of one block. -/
def dquery (e p : Fin 512 → Fin 128 → ℝ) (Z D : Fin 512 → ℝ) (k : Fin 128 → Fin 64 → ℝ) (r : Fin 512) (d : Fin 64) : ℝ :=
  ∑ j, grad (e r j) (p r j) (Z r) (D r) * (1 / 8) * k j d

variable {qt : FVec Ideal S512x128 .f32} {acc acc' : FVec Ideal S512x64 .f32} {ex : FVec Ideal S512x128 .f32}

/-- What the first block of keys gives. -/
theorem dq_m (hw : ∀ r, w r ≠ 0) (h0 : ∀ r, Z r ≠ 0) (ho : ∀ r j, bm (ix2 r j) = BitVec.ofBool (om r j)) (hk : ∀ j d, km (ix2 j d) = (xm j d : EReal))
    (he : ∀ r j, ex (ix2 r j) = ((w r * expo om q xm r j : ℝ) : EReal)) (hq : ∀ r j, qt (ix2 r j) = ((p3 r j * (1 / (w r * Z r)) : ℝ) : EReal))
    (hl : ∀ r, k0_pay136 iv2 dd (ix2 r 0) = ((-(w r * D r * (1 / (w r * Z r * (w r * Z r)))) : ℝ) : EReal)) (r : Fin 512) (d : Fin 64) :
    k0_pay146 km bm ex iv2 qt dd (ix2 r d) = ((dquery (expo om q xm) p3 Z D xm r d : ℝ) : EReal) := by
  pointwise [k0_pay146, k0_pay145]
  simp only [Finset.univ_unique, Fin.default_eq_zero, Fin.isValue, Finset.sum_singleton, hl, hk, he, hq, ho, eighth, WordCmp.select_ofBool, ← EReal.coe_add, ← EReal.coe_mul,
    grad_row _ _ _ _ _ (hw r) (h0 r), ← EReal.coe_zero, ← coe_ite, ← coe_sum]
  unfold dquery
  congr 1
  refine Finset.sum_congr rfl fun j _ => ?_
  conv_rhs => rw [← select_grad]
  split <;> simp

/-- What the own block gives. -/
theorem dq_c (hw : ∀ r, w r ≠ 0) (h0 : ∀ r, Z r ≠ 0) (ho : ∀ r j, bc (ix2 r j) = BitVec.ofBool (oc r j)) (hk : ∀ j d, kc (ix2 j d) = (xc j d : EReal))
    (he : ∀ r j, ex (ix2 r j) = ((w r * expo oc q xc r j : ℝ) : EReal)) (hq : ∀ r j, qt (ix2 r j) = ((p2 r j * (1 / (w r * Z r)) : ℝ) : EReal))
    (hl : ∀ r, k0_pay136 iv2 dd (ix2 r 0) = ((-(w r * D r * (1 / (w r * Z r * (w r * Z r)))) : ℝ) : EReal)) (r : Fin 512) (d : Fin 64) :
    k0_pay152 kc bc (k0_pay139 ex iv2 qt dd) acc (ix2 r d) = acc (ix2 r d) + ((dquery (expo oc q xc) p2 Z D xc r d : ℝ) : EReal) := by
  pointwise [k0_pay152, k0_pay150, k0_pay139]
  simp only [Finset.univ_unique, Fin.default_eq_zero, Fin.isValue, Finset.sum_singleton, hl, hk, he, hq, ho, eighth, WordCmp.select_ofBool, ← EReal.coe_add, ← EReal.coe_mul,
    grad_row _ _ _ _ _ (hw r) (h0 r), ← EReal.coe_zero, ← coe_ite, ← coe_sum]
  unfold dquery
  congr 2
  refine Finset.sum_congr rfl fun j _ => ?_
  conv_rhs => rw [← select_grad]
  split <;> simp

/-- What the block before gives. -/
theorem dq_p (hw : ∀ r, w r ≠ 0) (h0 : ∀ r, Z r ≠ 0) (ho : ∀ r j, bp (ix2 r j) = BitVec.ofBool (op r j)) (hk : ∀ j d, kp (ix2 j d) = (xp j d : EReal))
    (he : ∀ r j, ex (ix2 r j) = ((w r * expo op q xp r j : ℝ) : EReal)) (hq : ∀ r j, qt (ix2 r j) = ((p1 r j * (1 / (w r * Z r)) : ℝ) : EReal))
    (hl : ∀ r, k0_pay136 iv2 dd (ix2 r 0) = ((-(w r * D r * (1 / (w r * Z r * (w r * Z r)))) : ℝ) : EReal)) (r : Fin 512) (d : Fin 64) :
    k0_pay157 kp bp (k0_pay141 ex iv2 dd qt) (ix2 r d) = ((dquery (expo op q xp) p1 Z D xp r d : ℝ) : EReal) := by
  pointwise [k0_pay157, k0_pay156, k0_pay141]
  simp only [Finset.univ_unique, Fin.default_eq_zero, Fin.isValue, Finset.sum_singleton, hl, hk, he, hq, ho, eighth, WordCmp.select_ofBool, ← EReal.coe_add, ← EReal.coe_mul,
    grad_row _ _ _ _ _ (hw r) (h0 r), ← EReal.coe_zero, ← coe_ite, ← coe_sum]
  unfold dquery
  congr 1
  refine Finset.sum_congr rfl fun j _ => ?_
  conv_rhs => rw [← select_grad]
  split <;> simp

end Rows

/-- The gradient of the rotated queries of one group, as the body computes it from the rotated queries, the three blocks of rotated keys and of values, the sinks, the gradient of the outputs and the three masks. -/
def rotated (vq : FVec Ideal S512x64 .f32) (kp kc km vp vc vm : FVec Ideal S128x64 .f32) (sk : FVec Ideal S512x1 .f32) (vg : FVec Ideal S512x64 .f32) (bp bc bm : IVec S512x128 1) :
    FVec Ideal S512x64 .f32 :=
  let sp := k0_pay78 bp (k0_pay76 vq) (k0_pay77 kp)
  let sc := k0_pay80 kc vq bc
  let sm := k0_pay82 km vq bm
  let mx := k0_pay84 bp (k0_pay76 vq) (k0_pay77 kp)
  let ep := k0_pay87 sk sp sc sm mx
  let ec := k0_pay89 sk sc sm mx
  let em := k0_pay91 sk sc sm mx
  let iv := k0_pay95 sk sp sc sm mx
  let iv2 := k0_pay98 (k0_pay96 sk sp sc sm mx) (k0_pay97 (F := Ideal))
  let dd := k0_pay130 vp vc vm ep ec em vg
  k0_pay160 (k0_pay152 kc bc (k0_pay139 ec iv2 (k0_pay127 vc iv vg) dd) (k0_pay146 km bm em iv2 (k0_pay124 vm iv vg) dd))
    (k0_pay157 kp bp (k0_pay141 ep iv2 dd (k0_pay131 vp iv vg)))

/-- The sum of a row's exponentials is positive. -/
theorem total_ne_zero (σ : Fin 512 → ℝ) (o1 o2 o3 : Fin 512 → Fin 128 → Bool) (q : Fin 512 → Fin 64 → ℝ) (x1 x2 x3 : Fin 128 → Fin 64 → ℝ) (r : Fin 512) :
    total σ (expo o1 q x1) (expo o2 q x2) (expo o3 q x3) r ≠ 0 := by
  have h : ∀ o x, 0 ≤ ∑ j, expo o q x r j := fun o x => Finset.sum_nonneg fun j _ => by
    unfold expo; split
    · exact (Real.exp_pos _).le
    · exact le_rfl
  have := h o1 x1; have := h o2 x2; have := h o3 x3; have := Real.exp_pos (σ r)
  unfold total; positivity

/-- The gradient of the rotated queries over the reals: what each of the three blocks of keys gives. -/
theorem rotated_eq (hq : ∀ r d, vq (ix2 r d) = (q r d : EReal)) (hg : ∀ r d, vg (ix2 r d) = (g r d : EReal)) (hkp : ∀ j d, kp (ix2 j d) = (xp j d : EReal))
    (hkc : ∀ j d, kc (ix2 j d) = (xc j d : EReal)) (hkm : ∀ j d, km (ix2 j d) = (xm j d : EReal)) (hvp : ∀ j d, vp (ix2 j d) = (yp j d : EReal))
    (hvc : ∀ j d, vc (ix2 j d) = (yc j d : EReal)) (hvm : ∀ j d, vm (ix2 j d) = (ym j d : EReal)) (hs : ∀ r, sk (ix2 r 0) = (σ r : EReal))
    (hop : ∀ r j, bp (ix2 r j) = BitVec.ofBool (op r j)) (hoc : ∀ r j, bc (ix2 r j) = BitVec.ofBool (oc r j)) (hom : ∀ r j, bm (ix2 r j) = BitVec.ofBool (om r j))
    (r : Fin 512) (d : Fin 64) :
    rotated vq kp kc km vp vc vm sk vg bp bc bm (ix2 r d) =
      ((dquery (expo om q xm) (dprob g ym) (total σ (expo op q xp) (expo oc q xc) (expo om q xm))
            (weighted (expo op q xp) (expo oc q xc) (expo om q xm) (dprob g yp) (dprob g yc) (dprob g ym)) xm r d
        + dquery (expo oc q xc) (dprob g yc) (total σ (expo op q xp) (expo oc q xc) (expo om q xm))
            (weighted (expo op q xp) (expo oc q xc) (expo om q xm) (dprob g yp) (dprob g yc) (dprob g ym)) xc r d
        + dquery (expo op q xp) (dprob g yp) (total σ (expo op q xp) (expo oc q xc) (expo om q xm))
            (weighted (expo op q xp) (expo oc q xc) (expo om q xm) (dprob g yp) (dprob g yc) (dprob g ym)) xp r d : ℝ) : EReal) := by
  have hp := score_p hq hkp hop
  have hc := score_c hq hkc hoc
  have hm := score_m hq hkm hom
  choose μ hμ using max_row hp hc hm hs
  have h1 := exp_p hp hμ
  have h2 := exp_c hc hμ
  have h3 := exp_m hm hμ
  have h4 := exp_sink hs hμ
  have hw : ∀ r, Real.exp (-μ r) ≠ 0 := fun r => Real.exp_ne_zero _
  have hZ := sum_row (w := fun r => Real.exp (-μ r)) h1 h2 h3 h4
  have h0 := total_ne_zero σ op oc om q xp xc xm
  have h0' : ∀ r, Real.exp (-μ r) * total σ (expo op q xp) (expo oc q xc) (expo om q xm) r ≠ 0 := fun r => mul_ne_zero (hw r) (h0 r)
  have hi := inv_row hZ h0'
  have hi2 := inv_sq hZ h0'
  have hD := weighted_row (w := fun r => Real.exp (-μ r)) hg hvp hvc hvm h1 h2 h3
  have hl := loss_row hi2 hD
  have a3 := dq_m (w := fun r => Real.exp (-μ r)) hw h0 hom hkm h3 (quot_m hg hvm hi) hl
  have a2 := fun acc => dq_c (w := fun r => Real.exp (-μ r)) (acc := acc) hw h0 hoc hkc h2 (quot_c hg hvc hi) hl
  have a1 := dq_p (w := fun r => Real.exp (-μ r)) hw h0 hop hkp h1 (quot_p hg hvp hi) hl
  unfold rotated
  pointwise [k0_pay160]
  rw [a2, a1, a3, ← EReal.coe_add, ← EReal.coe_add]

end Cert.AttnIdeal.Row
-- ==== Proof.AttnCell.lean ====
/- What one group of heads of one block gives: its queries are rotated, the masks are those of the block, and the gradient is rotated back. -/
module

public import proofs.«01_k».proof.Proof.AttnRow

@[expose] public section

noncomputable section

namespace Cert.AttnIdeal.Cell

open Idealize.ShloMosaic Idealize.ShloMosaic.TcCoe Idealize.ShloMosaic.Tactic
open Cert.AttnIdeal Cert.AttnIdeal.Gen Cert.AttnMath

/-- The head of row `r` of a group of four. -/
def hd (r : Fin 512) : Fin 4 := ⟨r.val / 128, by omega⟩
/-- The query of row `r` within its block. -/
def qi (r : Fin 512) : Fin 128 := ⟨r.val % 128, Nat.mod_lt _ (by decide)⟩

/-- Four values laid one below the other, read at row `r`. -/
theorem below {α : Type} {u : Fin 4 → Fin 128 → α} {x0 x1 x2 x3 : Fin 128 → α} (h0 : ∀ i, x0 i = u 0 i) (h1 : ∀ i, x1 i = u 1 i) (h2 : ∀ i, x2 i = u 2 i) (h3 : ∀ i, x3 i = u 3 i) (r : Fin 512) :
    (if h : r.val < 128 then x0 ⟨r.val, h⟩ else if h : r.val - 128 < 128 then x1 ⟨r.val - 128, h⟩
      else if h : r.val - 128 - 128 < 128 then x2 ⟨r.val - 128 - 128, h⟩ else x3 ⟨r.val - 128 - 128 - 128, by omega⟩) = u (hd r) (qi r) := by
  have e : ∀ (a : Fin 4) (i : Fin 128), a.val * 128 + i.val = r.val → u a i = u (hd r) (qi r) := fun a i h => by
    have ha : a = hd r := Fin.ext (show a.val = r.val / 128 by omega)
    have hi : i = qi r := Fin.ext (show i.val = r.val % 128 by omega)
    rw [ha, hi]
  by_cases a : r.val < 128
  · rw [dif_pos a, h0]; exact e 0 _ (by simp)
  rw [dif_neg a]
  by_cases b : r.val - 128 < 128
  · rw [dif_pos b, h1]; exact e 1 _ (by simp; omega)
  rw [dif_neg b]
  by_cases d : r.val - 128 - 128 < 128
  · rw [dif_pos d, h2]; exact e 2 _ (by simp; omega)
  rw [dif_neg d, h3]; exact e 3 _ (by simp; omega)

section Heads

variable {x0 x1 x2 x3 : Vec Ideal S1x128x64 .f32} {u : Fin 4 → Fin 128 → Fin 64 → ℝ}

/-- Four heads of queries, one below the other. -/
theorem queries_first (h0 : ∀ i d, x0 (ix3 0 i d) = (u 0 i d : EReal)) (h1 : ∀ i d, x1 (ix3 0 i d) = (u 1 i d : EReal)) (h2 : ∀ i d, x2 (ix3 0 i d) = (u 2 i d : EReal))
    (h3 : ∀ i d, x3 (ix3 0 i d) = (u 3 i d : EReal)) (r : Fin 512) (d : Fin 64) : k0_pay34 x0 x1 x2 x3 (ix2 r d) = (u (hd r) (qi r) d : EReal) := by
  pointwise [k0_pay34]
  exact below (u := fun a i => (u a i d : EReal)) (x0 := fun i => x0 (ix3 0 i d)) (x1 := fun i => x1 (ix3 0 i d)) (x2 := fun i => x2 (ix3 0 i d)) (x3 := fun i => x3 (ix3 0 i d))
    (fun i => h0 i d) (fun i => h1 i d) (fun i => h2 i d) (fun i => h3 i d) r

theorem queries_second (h0 : ∀ i d, x0 (ix3 0 i d) = (u 0 i d : EReal)) (h1 : ∀ i d, x1 (ix3 0 i d) = (u 1 i d : EReal)) (h2 : ∀ i d, x2 (ix3 0 i d) = (u 2 i d : EReal))
    (h3 : ∀ i d, x3 (ix3 0 i d) = (u 3 i d : EReal)) (r : Fin 512) (d : Fin 64) : k0_pay37 (k0_pay35 x0) (k0_pay36 x1) x2 x3 (ix2 r d) = (u (hd r) (qi r) d : EReal) := by
  pointwise [k0_pay37, k0_pay35, k0_pay36]
  exact below (u := fun a i => (u a i d : EReal)) (x0 := fun i => x0 (ix3 0 i d)) (x1 := fun i => x1 (ix3 0 i d)) (x2 := fun i => x2 (ix3 0 i d)) (x3 := fun i => x3 (ix3 0 i d))
    (fun i => h0 i d) (fun i => h1 i d) (fun i => h2 i d) (fun i => h3 i d) r

/-- Four heads of output gradients, one below the other. -/
theorem outs_first (h0 : ∀ i d, x0 (ix3 0 i d) = (u 0 i d : EReal)) (h1 : ∀ i d, x1 (ix3 0 i d) = (u 1 i d : EReal)) (h2 : ∀ i d, x2 (ix3 0 i d) = (u 2 i d : EReal))
    (h3 : ∀ i d, x3 (ix3 0 i d) = (u 3 i d : EReal)) (r : Fin 512) (d : Fin 64) : k0_pay109 x0 x1 x2 x3 (ix2 r d) = (u (hd r) (qi r) d : EReal) := by
  pointwise [k0_pay109]
  exact below (u := fun a i => (u a i d : EReal)) (x0 := fun i => x0 (ix3 0 i d)) (x1 := fun i => x1 (ix3 0 i d)) (x2 := fun i => x2 (ix3 0 i d)) (x3 := fun i => x3 (ix3 0 i d))
    (fun i => h0 i d) (fun i => h1 i d) (fun i => h2 i d) (fun i => h3 i d) r

theorem outs_second (h0 : ∀ i d, x0 (ix3 0 i d) = (u 0 i d : EReal)) (h1 : ∀ i d, x1 (ix3 0 i d) = (u 1 i d : EReal)) (h2 : ∀ i d, x2 (ix3 0 i d) = (u 2 i d : EReal))
    (h3 : ∀ i d, x3 (ix3 0 i d) = (u 3 i d : EReal)) (r : Fin 512) (d : Fin 64) : k0_pay111 (k0_pay110 x0) x1 x2 x3 (ix2 r d) = (u (hd r) (qi r) d : EReal) := by
  pointwise [k0_pay111, k0_pay110]
  exact below (u := fun a i => (u a i d : EReal)) (x0 := fun i => x0 (ix3 0 i d)) (x1 := fun i => x1 (ix3 0 i d)) (x2 := fun i => x2 (ix3 0 i d)) (x3 := fun i => x3 (ix3 0 i d))
    (fun i => h0 i d) (fun i => h1 i d) (fun i => h2 i d) (fun i => h3 i d) r

end Heads

section Sinks

variable {x0 x1 x2 x3 : Vec Ideal S1x8x128 .f32} {s : Fin 4 → ℝ}

/-- The sinks of four heads, each over its head's rows. -/
theorem sinks_first (h0 : x0 (ix3 0 0 0) = (s 0 : EReal)) (h1 : x1 (ix3 0 0 0) = (s 1 : EReal)) (h2 : x2 (ix3 0 0 0) = (s 2 : EReal)) (h3 : x3 (ix3 0 0 0) = (s 3 : EReal)) (r : Fin 512) :
    k0_pay74 (k0_pay38 x0) (k0_pay39 x1) (k0_pay40 x2) (k0_pay41 x3) (ix2 r 0) = (s (hd r) : EReal) := by
  pointwise [k0_pay74, k0_pay38, k0_pay39, k0_pay40, k0_pay41]
  exact below (u := fun a i => (s a : EReal)) (x0 := fun i => x0 (ix3 0 0 0)) (x1 := fun i => x1 (ix3 0 0 0)) (x2 := fun i => x2 (ix3 0 0 0)) (x3 := fun i => x3 (ix3 0 0 0))
    (fun i => h0) (fun i => h1) (fun i => h2) (fun i => h3) r

theorem sinks_second (h0 : x0 (ix3 0 0 0) = (s 0 : EReal)) (h1 : x1 (ix3 0 0 0) = (s 1 : EReal)) (h2 : x2 (ix3 0 0 0) = (s 2 : EReal)) (h3 : x3 (ix3 0 0 0) = (s 3 : EReal)) (r : Fin 512) :
    k0_pay75 (k0_pay42 x0) (k0_pay43 x1) (k0_pay44 x2) (k0_pay45 x3) (ix2 r 0) = (s (hd r) : EReal) := by
  pointwise [k0_pay75, k0_pay42, k0_pay43, k0_pay44, k0_pay45]
  exact below (u := fun a i => (s a : EReal)) (x0 := fun i => x0 (ix3 0 0 0)) (x1 := fun i => x1 (ix3 0 0 0)) (x2 := fun i => x2 (ix3 0 0 0)) (x3 := fun i => x3 (ix3 0 0 0))
    (fun i => h0) (fun i => h1) (fun i => h2) (fun i => h3) r

end Sinks

section Rope

variable {c s x : FVec Ideal S128x64 .f32} {w : FVec Ideal S64x64 .f32} {C S U : Fin 128 → Fin 64 → ℝ} {R : Fin 64 → Fin 64 → ℝ}

/-- The tables of a block repeat for every head. -/
theorem table_c (hc : ∀ i d, c (ix2 i d) = (C i d : EReal)) (r : Fin 512) (d : Fin 64) : k0_pay58 c (ix2 r d) = (C (qi r) d : EReal) := by
  pointwise [k0_pay58]
  exact below (u := fun a i => (C i d : EReal)) (x0 := fun i => c (ix2 i d)) (x1 := fun i => c (ix2 i d)) (x2 := fun i => c (ix2 i d)) (x3 := fun i => c (ix2 i d))
    (fun i => hc i d) (fun i => hc i d) (fun i => hc i d) (fun i => hc i d) r

theorem table_s (hc : ∀ i d, c (ix2 i d) = (C i d : EReal)) (r : Fin 512) (d : Fin 64) : k0_pay59 c (ix2 r d) = (C (qi r) d : EReal) := by
  pointwise [k0_pay59]
  exact below (u := fun a i => (C i d : EReal)) (x0 := fun i => c (ix2 i d)) (x1 := fun i => c (ix2 i d)) (x2 := fun i => c (ix2 i d)) (x3 := fun i => c (ix2 i d))
    (fun i => hc i d) (fun i => hc i d) (fun i => hc i d) (fun i => hc i d) r

/-- A row `x` rotated by the table's entries `c`, `s` and the matrix `R`. -/
def turn (R : Fin 64 → Fin 64 → ℝ) (c s x : Fin 64 → ℝ) (d : Fin 64) : ℝ := x d * c d + (∑ e, x e * R e d) * s d

/-- The rotation's adjoint. -/
def unturn (R : Fin 64 → Fin 64 → ℝ) (c s x : Fin 64 → ℝ) (d : Fin 64) : ℝ := (∑ e, x e * s e * R d e) + x d * c d

/-- The rotated keys of a block. -/
theorem keys (hc : ∀ i d, c (ix2 i d) = (C i d : EReal)) (hs : ∀ i d, s (ix2 i d) = (S i d : EReal)) (hw : ∀ e d, w (ix2 e d) = (R e d : EReal)) (hx : ∀ i d, x (ix2 i d) = (U i d : EReal))
    (j : Fin 128) (d : Fin 64) : x (ix2 j d) * c (ix2 j d) + (∑ e, x (ix2 j e) * w (ix2 e d)) * s (ix2 j d) = (turn R (C j) (S j) (U j) d : EReal) := by
  simp only [hc, hs, hw, hx, ← EReal.coe_mul, ← coe_sum, ← EReal.coe_add]; rfl

theorem keys_p (hc : ∀ i d, c (ix2 i d) = (C i d : EReal)) (hs : ∀ i d, s (ix2 i d) = (S i d : EReal)) (hw : ∀ e d, w (ix2 e d) = (R e d : EReal)) (hx : ∀ i d, x (ix2 i d) = (U i d : EReal))
    (j : Fin 128) (d : Fin 64) : k0_pay60 c s w x (ix2 j d) = (turn R (C j) (S j) (U j) d : EReal) := by
  pointwise [k0_pay60]; exact keys hc hs hw hx j d
theorem keys_p' (hc : ∀ i d, c (ix2 i d) = (C i d : EReal)) (hs : ∀ i d, s (ix2 i d) = (S i d : EReal)) (hw : ∀ e d, w (ix2 e d) = (R e d : EReal)) (hx : ∀ i d, x (ix2 i d) = (U i d : EReal))
    (j : Fin 128) (d : Fin 64) : k0_pay61 c s w x (ix2 j d) = (turn R (C j) (S j) (U j) d : EReal) := by
  pointwise [k0_pay61]; exact keys hc hs hw hx j d
theorem keys_c (hc : ∀ i d, c (ix2 i d) = (C i d : EReal)) (hs : ∀ i d, s (ix2 i d) = (S i d : EReal)) (hw : ∀ e d, w (ix2 e d) = (R e d : EReal)) (hx : ∀ i d, x (ix2 i d) = (U i d : EReal))
    (j : Fin 128) (d : Fin 64) : k0_pay62 c s w x (ix2 j d) = (turn R (C j) (S j) (U j) d : EReal) := by
  pointwise [k0_pay62]; exact keys hc hs hw hx j d
theorem keys_c' (hc : ∀ i d, c (ix2 i d) = (C i d : EReal)) (hs : ∀ i d, s (ix2 i d) = (S i d : EReal)) (hw : ∀ e d, w (ix2 e d) = (R e d : EReal)) (hx : ∀ i d, x (ix2 i d) = (U i d : EReal))
    (j : Fin 128) (d : Fin 64) : k0_pay63 c s w x (ix2 j d) = (turn R (C j) (S j) (U j) d : EReal) := by
  pointwise [k0_pay63]; exact keys hc hs hw hx j d
theorem keys_m (hc : ∀ i d, c (ix2 i d) = (C i d : EReal)) (hs : ∀ i d, s (ix2 i d) = (S i d : EReal)) (hw : ∀ e d, w (ix2 e d) = (R e d : EReal)) (hx : ∀ i d, x (ix2 i d) = (U i d : EReal))
    (j : Fin 128) (d : Fin 64) : k0_pay64 c s w x (ix2 j d) = (turn R (C j) (S j) (U j) d : EReal) := by
  pointwise [k0_pay64]; exact keys hc hs hw hx j d
theorem keys_m' (hc : ∀ i d, c (ix2 i d) = (C i d : EReal)) (hs : ∀ i d, s (ix2 i d) = (S i d : EReal)) (hw : ∀ e d, w (ix2 e d) = (R e d : EReal)) (hx : ∀ i d, x (ix2 i d) = (U i d : EReal))
    (j : Fin 128) (d : Fin 64) : k0_pay65 c s w x (ix2 j d) = (turn R (C j) (S j) (U j) d : EReal) := by
  pointwise [k0_pay65]; exact keys hc hs hw hx j d

variable {q t y : FVec Ideal S512x64 .f32} {Q : Fin 512 → Fin 64 → ℝ}

/-- The rotated queries of a group. -/
theorem queries_turn (hc : ∀ r d, t (ix2 r d) = (C (qi r) d : EReal)) (hs : ∀ i d, s (ix2 i d) = (S i d : EReal)) (hw : ∀ e d, w (ix2 e d) = (R e d : EReal)) (hq : ∀ r d, q (ix2 r d) = (Q r d : EReal))
    (r : Fin 512) (d : Fin 64) : k0_pay66 s w q t (ix2 r d) = (turn R (C (qi r)) (S (qi r)) (Q r) d : EReal) := by
  pointwise [k0_pay66]
  simp only [hc, table_s hs, hw, hq, ← EReal.coe_mul, ← coe_sum, ← EReal.coe_add]; rfl

theorem queries_turn' (hc : ∀ r d, t (ix2 r d) = (C (qi r) d : EReal)) (hs : ∀ i d, s (ix2 i d) = (S i d : EReal)) (hw : ∀ e d, w (ix2 e d) = (R e d : EReal)) (hq : ∀ r d, q (ix2 r d) = (Q r d : EReal))
    (r : Fin 512) (d : Fin 64) : k0_pay67 s w q t (ix2 r d) = (turn R (C (qi r)) (S (qi r)) (Q r) d : EReal) := by
  pointwise [k0_pay67]
  simp only [hc, table_s hs, hw, hq, ← EReal.coe_mul, ← coe_sum, ← EReal.coe_add]; rfl

/-- The gradient of the queries, rotated back. -/
theorem back (hc : ∀ r d, t (ix2 r d) = (C (qi r) d : EReal)) (hs : ∀ r d, y (ix2 r d) = (S (qi r) d : EReal)) (hw : ∀ e d, w (ix2 e d) = (R e d : EReal)) (hq : ∀ r d, q (ix2 r d) = (Q r d : EReal))
    (r : Fin 512) (d : Fin 64) : k0_pay170 w t y q (ix2 r d) = (unturn R (C (qi r)) (S (qi r)) (Q r) d : EReal) := by
  pointwise [k0_pay170]
  simp only [hc, hs, hw, hq, ← EReal.coe_mul, ← coe_sum, ← EReal.coe_add]; rfl

theorem back' (hc : ∀ r d, t (ix2 r d) = (C (qi r) d : EReal)) (hs : ∀ r d, y (ix2 r d) = (S (qi r) d : EReal)) (hw : ∀ e d, w (ix2 e d) = (R e d : EReal)) (hq : ∀ r d, q (ix2 r d) = (Q r d : EReal))
    (r : Fin 512) (d : Fin 64) : k0_pay169 w t y q (ix2 r d) = (unturn R (C (qi r)) (S (qi r)) (Q r) d : EReal) := by
  pointwise [k0_pay169]
  simp only [hc, hs, hw, hq, ← EReal.coe_mul, ← coe_sum, ← EReal.coe_add]; rfl

end Rope

section Masks

/-- The row's number within its block, as a word. -/
theorem row_word : ∀ r : Fin 512, IntOp.subi (BitVec.ofNat 32 r.val) (IntOp.muli (128#32)
      (IntOp.addi (IntOp.addi (BitVec.setWidth 32 (IntOp.cmpi .sge (BitVec.ofNat 32 r.val) 128#32)) (BitVec.setWidth 32 (IntOp.cmpi .sge (BitVec.ofNat 32 r.val) 256#32)))
        (BitVec.setWidth 32 (IntOp.cmpi .sge (BitVec.ofNat 32 r.val) 384#32)))) = BitVec.ofNat 32 (qi r).val := by
  decide +kernel

theorem gt_word : ∀ j i : Fin 128, IntOp.cmpi .sgt (BitVec.ofNat 32 j.val) (BitVec.ofNat 32 i.val) = BitVec.ofBool (decide (i.val < j.val)) := by decide +kernel
theorem le_word : ∀ j i : Fin 128, IntOp.cmpi .sle (BitVec.ofNat 32 j.val) (BitVec.ofNat 32 i.val) = BitVec.ofBool (decide (j.val ≤ i.val)) := by decide +kernel
theorem meta_word : ∀ j : Fin 128, IntOp.cmpi .sge (BitVec.ofNat 32 j.val) 112#32 = BitVec.ofBool (decide (112 ≤ j.val)) := by decide +kernel
theorem two_word : ∀ n : Fin 17, IntOp.cmpi .sge (IntOp.addi (0#32) (BitVec.ofNat 32 n.val)) 2#32 = BitVec.ofBool (decide (2 ≤ n.val)) := by decide +kernel
theorem one_word : ∀ n : Fin 17, IntOp.cmpi .sge (IntOp.addi (0#32) (BitVec.ofNat 32 n.val)) 1#32 = BitVec.ofBool (decide (1 ≤ n.val)) := by decide +kernel
theorem and_word : ∀ a b : Bool, IntOp.andi (BitVec.ofBool a) (BitVec.ofBool b) = BitVec.ofBool (a && b) := by decide
theorem or_word : ∀ a b : Bool, IntOp.ori (BitVec.ofBool a) (BitVec.ofBool b) = BitVec.ofBool (a || b) := by decide

variable (n : Fin 17) (r : Fin 512) (j : Fin 128)

/-- The mask of the block before. -/
theorem mask_p : k0_pay71 (BitVec.ofNat 32 n.val) (iota .tc S512x128 32 [0] iota_S512x128_d0_w32) k0_pay68 (ix2 r j) = BitVec.ofBool (decide (okP n.val (qi r).val j.val)) := by
  pointwise [k0_pay71, k0_pay69, k0_pay70, k0_pay68]
  rw [row_word, gt_word, two_word, and_word]
  congr 1; rw [Bool.eq_iff_iff]; simp [okP]

/-- The mask of the own block. -/
theorem mask_c : k0_pay72 (BitVec.ofNat 32 n.val) (iota .tc S512x128 32 [0] iota_S512x128_d0_w32) k0_pay68 (ix2 r j) = BitVec.ofBool (decide (okC n.val (qi r).val j.val)) := by
  pointwise [k0_pay72, k0_pay69, k0_pay70, k0_pay68]
  rw [row_word, le_word, one_word, and_word]
  congr 1; rw [Bool.eq_iff_iff]; simp [okC]

/-- The mask of the first block. -/
theorem mask_m : k0_pay73 (BitVec.ofNat 32 n.val) (iota .tc S512x128 32 [0] iota_S512x128_d0_w32) k0_pay68 (ix2 r j) = BitVec.ofBool (decide (okM n.val (qi r).val j.val)) := by
  pointwise [k0_pay73, k0_pay69, k0_pay70, k0_pay68]
  rw [row_word, le_word, one_word, meta_word, or_word, and_word]
  congr 1; rw [Bool.eq_iff_iff]; simp [okM]

end Masks

end Cert.AttnIdeal.Cell
-- ==== Proof.AttnGroup.lean ====
/- The gradient of one group's queries in one block, from the entries of the block's arrays. -/
module

public import proofs.«01_k».proof.Proof.AttnCell

@[expose] public section

noncomputable section

namespace Cert.AttnIdeal.Cell

open Idealize.ShloMosaic Idealize.ShloMosaic.TcCoe Idealize.ShloMosaic.Tactic
open Cert.AttnIdeal Cert.AttnIdeal.Gen Cert.AttnMath

/-- The reals that one group of one block is computed from: the rotation matrix, the tables of the three blocks, the keys and values of the three blocks, and the queries, output gradients and sinks of the group's four heads. -/
structure Reals where
  R : Fin 64 → Fin 64 → ℝ
  cq : Fin 128 → Fin 64 → ℝ
  sq : Fin 128 → Fin 64 → ℝ
  cp : Fin 128 → Fin 64 → ℝ
  sp : Fin 128 → Fin 64 → ℝ
  cm : Fin 128 → Fin 64 → ℝ
  sm : Fin 128 → Fin 64 → ℝ
  kp : Fin 128 → Fin 64 → ℝ
  kc : Fin 128 → Fin 64 → ℝ
  km : Fin 128 → Fin 64 → ℝ
  vp : Fin 128 → Fin 64 → ℝ
  vc : Fin 128 → Fin 64 → ℝ
  vm : Fin 128 → Fin 64 → ℝ
  q : Fin 4 → Fin 128 → Fin 64 → ℝ
  g : Fin 4 → Fin 128 → Fin 64 → ℝ
  σ : Fin 4 → ℝ

namespace Reals

variable (B : Reals) (n : Fin 17)

/-- The rotated queries. -/
def Q (r : Fin 512) : Fin 64 → ℝ := turn B.R (B.cq (qi r)) (B.sq (qi r)) (B.q (hd r) (qi r))
/-- The output gradients. -/
def G (r : Fin 512) : Fin 64 → ℝ := B.g (hd r) (qi r)
/-- The rotated keys of the block before, of the own block and of the first block. -/
def Kp (j : Fin 128) : Fin 64 → ℝ := turn B.R (B.cp j) (B.sp j) (B.kp j)
def Kc (j : Fin 128) : Fin 64 → ℝ := turn B.R (B.cq j) (B.sq j) (B.kc j)
def Km (j : Fin 128) : Fin 64 → ℝ := turn B.R (B.cm j) (B.sm j) (B.km j)
/-- The three masks. -/
def Op (r : Fin 512) (j : Fin 128) : Bool := decide (okP n.val (qi r).val j.val)
def Oc (r : Fin 512) (j : Fin 128) : Bool := decide (okC n.val (qi r).val j.val)
def Om (r : Fin 512) (j : Fin 128) : Bool := decide (okM n.val (qi r).val j.val)
/-- The exponentials of the three blocks' scores. -/
def Ep : Fin 512 → Fin 128 → ℝ := Row.expo (Op n) B.Q B.Kp
def Ec : Fin 512 → Fin 128 → ℝ := Row.expo (Oc n) B.Q B.Kc
def Em : Fin 512 → Fin 128 → ℝ := Row.expo (Om n) B.Q B.Km
/-- The sum of a row's exponentials. -/
def Z : Fin 512 → ℝ := Row.total (fun r => B.σ (hd r)) (B.Ep n) (B.Ec n) (B.Em n)
/-- The weighted sum of the gradients of the probabilities. -/
def D : Fin 512 → ℝ := Row.weighted (B.Ep n) (B.Ec n) (B.Em n) (Row.dprob B.G B.vp) (Row.dprob B.G B.vc) (Row.dprob B.G B.vm)
/-- The gradient of the rotated queries. -/
def dQ (r : Fin 512) (d : Fin 64) : ℝ :=
  Row.dquery (B.Em n) (Row.dprob B.G B.vm) (B.Z n) (B.D n) B.Km r d + Row.dquery (B.Ec n) (Row.dprob B.G B.vc) (B.Z n) (B.D n) B.Kc r d
    + Row.dquery (B.Ep n) (Row.dprob B.G B.vp) (B.Z n) (B.D n) B.Kp r d
/-- The gradient of the queries. -/
def dq (r : Fin 512) (d : Fin 64) : ℝ := unturn B.R (B.cq (qi r)) (B.sq (qi r)) (B.dQ n r) d

end Reals

variable {B : Reals} {w : FVec Ideal S64x64 .f32} {cq sq cp sp cm sm kp kc km vp vc vm : FVec Ideal S128x64 .f32} {x0 x1 x2 x3 y0 y1 y2 y3 : Vec Ideal S1x128x64 .f32} {s0 s1 s2 s3 : Vec Ideal S1x8x128 .f32}

/-- What the body computes for the first group. -/
theorem group_first (n : Fin 17) (hw : ∀ e d, w (ix2 e d) = (B.R e d : EReal))
    (hcq : ∀ i d, cq (ix2 i d) = (B.cq i d : EReal)) (hsq : ∀ i d, sq (ix2 i d) = (B.sq i d : EReal))
    (hcp : ∀ i d, cp (ix2 i d) = (B.cp i d : EReal)) (hsp : ∀ i d, sp (ix2 i d) = (B.sp i d : EReal))
    (hcm : ∀ i d, cm (ix2 i d) = (B.cm i d : EReal)) (hsm : ∀ i d, sm (ix2 i d) = (B.sm i d : EReal))
    (hkp : ∀ i d, kp (ix2 i d) = (B.kp i d : EReal)) (hkc : ∀ i d, kc (ix2 i d) = (B.kc i d : EReal)) (hkm : ∀ i d, km (ix2 i d) = (B.km i d : EReal))
    (hvp : ∀ i d, vp (ix2 i d) = (B.vp i d : EReal)) (hvc : ∀ i d, vc (ix2 i d) = (B.vc i d : EReal)) (hvm : ∀ i d, vm (ix2 i d) = (B.vm i d : EReal))
    (q0 : ∀ i d, x0 (ix3 0 i d) = (B.q 0 i d : EReal)) (q1 : ∀ i d, x1 (ix3 0 i d) = (B.q 1 i d : EReal)) (q2 : ∀ i d, x2 (ix3 0 i d) = (B.q 2 i d : EReal)) (q3 : ∀ i d, x3 (ix3 0 i d) = (B.q 3 i d : EReal))
    (g0 : ∀ i d, y0 (ix3 0 i d) = (B.g 0 i d : EReal)) (g1 : ∀ i d, y1 (ix3 0 i d) = (B.g 1 i d : EReal)) (g2 : ∀ i d, y2 (ix3 0 i d) = (B.g 2 i d : EReal)) (g3 : ∀ i d, y3 (ix3 0 i d) = (B.g 3 i d : EReal))
    (a0 : s0 (ix3 0 0 0) = (B.σ 0 : EReal)) (a1 : s1 (ix3 0 0 0) = (B.σ 1 : EReal)) (a2 : s2 (ix3 0 0 0) = (B.σ 2 : EReal)) (a3 : s3 (ix3 0 0 0) = (B.σ 3 : EReal))
    (r : Fin 512) (d : Fin 64) :
    k0_pay170 w (k0_pay58 cq) (k0_pay59 sq)
      (Row.rotated (k0_pay66 sq w (k0_pay34 x0 x1 x2 x3) (k0_pay58 cq)) (k0_pay60 cp sp w kp) (k0_pay62 cq sq w kc) (k0_pay64 cm sm w km) vp vc vm
        (k0_pay74 (k0_pay38 s0) (k0_pay39 s1) (k0_pay40 s2) (k0_pay41 s3)) (k0_pay109 y0 y1 y2 y3)
        (k0_pay71 (BitVec.ofNat 32 n.val) (iota .tc S512x128 32 [0] iota_S512x128_d0_w32) k0_pay68)
        (k0_pay72 (BitVec.ofNat 32 n.val) (iota .tc S512x128 32 [0] iota_S512x128_d0_w32) k0_pay68)
        (k0_pay73 (BitVec.ofNat 32 n.val) (iota .tc S512x128 32 [0] iota_S512x128_d0_w32) k0_pay68)) (ix2 r d) = (B.dq n r d : EReal) :=
  back (table_c hcq) (table_s hsq) hw
    (Row.rotated_eq (queries_turn (table_c hcq) hsq hw (queries_first q0 q1 q2 q3)) (outs_first g0 g1 g2 g3) (keys_p hcp hsp hw hkp) (keys_c hcq hsq hw hkc) (keys_m hcm hsm hw hkm) hvp hvc hvm
      (sinks_first a0 a1 a2 a3) (mask_p n) (mask_c n) (mask_m n)) r d

/-- What the body computes for the second group. -/
theorem group_second (n : Fin 17) (hw : ∀ e d, w (ix2 e d) = (B.R e d : EReal))
    (hcq : ∀ i d, cq (ix2 i d) = (B.cq i d : EReal)) (hsq : ∀ i d, sq (ix2 i d) = (B.sq i d : EReal))
    (hcp : ∀ i d, cp (ix2 i d) = (B.cp i d : EReal)) (hsp : ∀ i d, sp (ix2 i d) = (B.sp i d : EReal))
    (hcm : ∀ i d, cm (ix2 i d) = (B.cm i d : EReal)) (hsm : ∀ i d, sm (ix2 i d) = (B.sm i d : EReal))
    (hkp : ∀ i d, kp (ix2 i d) = (B.kp i d : EReal)) (hkc : ∀ i d, kc (ix2 i d) = (B.kc i d : EReal)) (hkm : ∀ i d, km (ix2 i d) = (B.km i d : EReal))
    (hvp : ∀ i d, vp (ix2 i d) = (B.vp i d : EReal)) (hvc : ∀ i d, vc (ix2 i d) = (B.vc i d : EReal)) (hvm : ∀ i d, vm (ix2 i d) = (B.vm i d : EReal))
    (q0 : ∀ i d, x0 (ix3 0 i d) = (B.q 0 i d : EReal)) (q1 : ∀ i d, x1 (ix3 0 i d) = (B.q 1 i d : EReal)) (q2 : ∀ i d, x2 (ix3 0 i d) = (B.q 2 i d : EReal)) (q3 : ∀ i d, x3 (ix3 0 i d) = (B.q 3 i d : EReal))
    (g0 : ∀ i d, y0 (ix3 0 i d) = (B.g 0 i d : EReal)) (g1 : ∀ i d, y1 (ix3 0 i d) = (B.g 1 i d : EReal)) (g2 : ∀ i d, y2 (ix3 0 i d) = (B.g 2 i d : EReal)) (g3 : ∀ i d, y3 (ix3 0 i d) = (B.g 3 i d : EReal))
    (a0 : s0 (ix3 0 0 0) = (B.σ 0 : EReal)) (a1 : s1 (ix3 0 0 0) = (B.σ 1 : EReal)) (a2 : s2 (ix3 0 0 0) = (B.σ 2 : EReal)) (a3 : s3 (ix3 0 0 0) = (B.σ 3 : EReal))
    (r : Fin 512) (d : Fin 64) :
    k0_pay169 w (k0_pay58 cq) (k0_pay59 sq)
      (Row.rotated (k0_pay67 sq w (k0_pay37 (k0_pay35 x0) (k0_pay36 x1) x2 x3) (k0_pay58 cq)) (k0_pay61 cp sp w kp) (k0_pay63 cq sq w kc) (k0_pay65 cm sm w km) vp vc vm
        (k0_pay75 (k0_pay42 s0) (k0_pay43 s1) (k0_pay44 s2) (k0_pay45 s3)) (k0_pay111 (k0_pay110 y0) y1 y2 y3)
        (k0_pay71 (BitVec.ofNat 32 n.val) (iota .tc S512x128 32 [0] iota_S512x128_d0_w32) k0_pay68)
        (k0_pay72 (BitVec.ofNat 32 n.val) (iota .tc S512x128 32 [0] iota_S512x128_d0_w32) k0_pay68)
        (k0_pay73 (BitVec.ofNat 32 n.val) (iota .tc S512x128 32 [0] iota_S512x128_d0_w32) k0_pay68)) (ix2 r d) = (B.dq n r d : EReal) :=
  back' (table_c hcq) (table_s hsq) hw
    (Row.rotated_eq (queries_turn' (table_c hcq) hsq hw (queries_second q0 q1 q2 q3)) (outs_second g0 g1 g2 g3) (keys_p' hcp hsp hw hkp) (keys_c' hcq hsq hw hkc) (keys_m' hcm hsm hw hkm) hvp hvc hvm
      (sinks_second a0 a1 a2 a3) (mask_p n) (mask_c n) (mask_m n)) r d

end Cert.AttnIdeal.Cell
-- ==== Proof.AttnBlock.lean ====
/- The two groups of a block as the body computes them from the block's arrays. -/
module

public import proofs.«01_k».proof.Proof.AttnGroup
public import proofs.«01_k».proof.Proof.AttnIdealBody
public import Idealize.ShloMosaic.Lib.WholeRead

@[expose] public section

set_option maxRecDepth 16384

noncomputable section

namespace Cert.AttnIdeal.Cell

open Idealize.ShloMosaic Idealize.ShloMosaic.TcCoe Idealize.ShloMosaic.Tactic
open Cert.AttnIdeal Cert.AttnIdeal.Gen Cert.AttnMath

variable (c : Dev nD) (i : grid0.Coords) {B : Reals}

/-- A load of one head of an array reads that head. -/
theorem slab8 {m : Memref sig .tc .vmem S8x128x64 .f32} (h : m.IsWhole) (X : Vec Ideal S8x128x64 .f32) (k : Fin 8) (hk) (i : Fin 128) (d : Fin 64) :
    View.readAt (Elt Ideal) m.view (Rect.unit (s := S8x128x64) ![k.val, 0, 0] S1x128x64.size hk).toLoadRect (h.unread X) (ix3 0 i d) = X (ix3 k i d) := by
  rw [h.readAt_unread]
  refine congrArg X (funext fun a => ?_)
  fin_cases a <;> refine Fin.ext ?_ <;> rw [LoadRect.idx_apply] <;> simp

/-- A load of one head of an array reads that head. -/
theorem slab2 {m : Memref sig .tc .vmem S2x128x64 .f32} (h : m.IsWhole) (X : Vec Ideal S2x128x64 .f32) (k : Fin 2) (hk) (i : Fin 128) (d : Fin 64) :
    View.readAt (Elt Ideal) m.view (Rect.unit (s := S2x128x64) ![k.val, 0, 0] S1x128x64.size hk).toLoadRect (h.unread X) (ix3 0 i d) = X (ix3 k i d) := by
  rw [h.readAt_unread]
  refine congrArg X (funext fun a => ?_)
  fin_cases a <;> refine Fin.ext ?_ <;> rw [LoadRect.idx_apply] <;> simp

/-- A load of one head of an array reads that head. -/
theorem slabS {m : Memref sig .tc .vmem S8x8x128 .f32} (h : m.IsWhole) (X : Vec Ideal S8x8x128 .f32) (k : Fin 8) (hk) (i : Fin 8) (d : Fin 128) :
    View.readAt (Elt Ideal) m.view (Rect.unit (s := S8x8x128) ![k.val, 0, 0] S1x8x128.size hk).toLoadRect (h.unread X) (ix3 0 i d) = X (ix3 k i d) := by
  rw [h.readAt_unread]
  refine congrArg X (funext fun a => ?_)
  fin_cases a <;> refine Fin.ext ?_ <;> rw [LoadRect.idx_apply] <;> simp

/-- A load of a whole table reads it. -/
theorem whole {m : Memref sig .tc .vmem S128x64 .f32} (h : m.IsWhole) (X : Vec Ideal S128x64 .f32) (hk) (i : Fin 128) (d : Fin 64) :
    View.readAt (Elt Ideal) m.view (Rect.unit (s := S128x64) ![0, 0] S128x64.size hk).toLoadRect (h.unread X) (ix2 i d) = X (ix2 i d) := by
  rw [h.readAt_unread]
  refine congrArg X (funext fun a => ?_)
  fin_cases a <;> refine Fin.ext ?_ <;> rw [LoadRect.idx_apply] <;> simp

/-- A load of a whole table reads it. -/
theorem wholeR {m : Memref sig .tc .vmem S64x64 .f32} (h : m.IsWhole) (X : Vec Ideal S64x64 .f32) (hk) (i : Fin 64) (d : Fin 64) :
    View.readAt (Elt Ideal) m.view (Rect.unit (s := S64x64) ![0, 0] S64x64.size hk).toLoadRect (h.unread X) (ix2 i d) = X (ix2 i d) := by
  rw [h.readAt_unread]
  refine congrArg X (funext fun a => ?_)
  fin_cases a <;> refine Fin.ext ?_ <;> rw [LoadRect.idx_apply] <;> simp

set_option maxHeartbeats 2000000 in
/-- The first group. -/
theorem first_A {arg1 : Memref sig .tc .vmem S8x128x64 .f32} (harg1 : arg1.IsWhole) {arg2 : Memref sig .tc .vmem S2x128x64 .f32} (harg2 : arg2.IsWhole) {arg3 : Memref sig .tc .vmem S2x128x64 .f32} (harg3 : arg3.IsWhole) {arg4 : Memref sig .tc .vmem S2x128x64 .f32} (harg4 : arg4.IsWhole) {arg5 : Memref sig .tc .vmem S2x128x64 .f32} (harg5 : arg5.IsWhole) {arg6 : Memref sig .tc .vmem S2x128x64 .f32} (harg6 : arg6.IsWhole) {arg7 : Memref sig .tc .vmem S2x128x64 .f32} (harg7 : arg7.IsWhole) {arg8 : Memref sig .tc .vmem S8x8x128 .f32} (harg8 : arg8.IsWhole) {arg9 : Memref sig .tc .vmem S128x64 .f32} (harg9 : arg9.IsWhole) {arg10 : Memref sig .tc .vmem S128x64 .f32} (harg10 : arg10.IsWhole) {arg11 : Memref sig .tc .vmem S128x64 .f32} (harg11 : arg11.IsWhole) {arg12 : Memref sig .tc .vmem S128x64 .f32} (harg12 : arg12.IsWhole) {arg13 : Memref sig .tc .vmem S128x64 .f32} (harg13 : arg13.IsWhole) {arg14 : Memref sig .tc .vmem S128x64 .f32} (harg14 : arg14.IsWhole) {arg15 : Memref sig .tc .vmem S64x64 .f32} (harg15 : arg15.IsWhole) {arg16 : Memref sig .tc .vmem S8x128x64 .f32} (harg16 : arg16.IsWhole)
    {x0 : Vec Ideal S8x128x64 .f32} {x1 : Vec Ideal S2x128x64 .f32} {x2 : Vec Ideal S2x128x64 .f32} {x3 : Vec Ideal S2x128x64 .f32} {x4 : Vec Ideal S2x128x64 .f32} {x5 : Vec Ideal S2x128x64 .f32} {x6 : Vec Ideal S2x128x64 .f32} {x7 : Vec Ideal S8x8x128 .f32} {x8 : Vec Ideal S128x64 .f32} {x9 : Vec Ideal S128x64 .f32} {x10 : Vec Ideal S128x64 .f32} {x11 : Vec Ideal S128x64 .f32} {x12 : Vec Ideal S128x64 .f32} {x13 : Vec Ideal S128x64 .f32} {x14 : Vec Ideal S64x64 .f32} {x15 : Vec Ideal S8x128x64 .f32}
    (hw : ∀ e d, x14 (ix2 e d) = (B.R e d : EReal))
    (hcq : ∀ i d, x8 (ix2 i d) = (B.cq i d : EReal))
    (hsq : ∀ i d, x9 (ix2 i d) = (B.sq i d : EReal))
    (hcp : ∀ i d, x10 (ix2 i d) = (B.cp i d : EReal))
    (hsp : ∀ i d, x11 (ix2 i d) = (B.sp i d : EReal))
    (hcm : ∀ i d, x12 (ix2 i d) = (B.cm i d : EReal))
    (hsm : ∀ i d, x13 (ix2 i d) = (B.sm i d : EReal))
    (hkp : ∀ i d, x1 (ix3 0 i d) = (B.kp i d : EReal))
    (hkc : ∀ i d, x2 (ix3 0 i d) = (B.kc i d : EReal))
    (hkm : ∀ i d, x3 (ix3 0 i d) = (B.km i d : EReal))
    (hvp : ∀ i d, x4 (ix3 0 i d) = (B.vp i d : EReal))
    (hvc : ∀ i d, x5 (ix3 0 i d) = (B.vc i d : EReal))
    (hvm : ∀ i d, x6 (ix3 0 i d) = (B.vm i d : EReal))
    (q0 : ∀ i d, x0 (ix3 0 i d) = (B.q 0 i d : EReal))
    (q1 : ∀ i d, x0 (ix3 1 i d) = (B.q 1 i d : EReal))
    (q2 : ∀ i d, x0 (ix3 2 i d) = (B.q 2 i d : EReal))
    (q3 : ∀ i d, x0 (ix3 3 i d) = (B.q 3 i d : EReal))
    (g0 : ∀ i d, x15 (ix3 0 i d) = (B.g 0 i d : EReal))
    (g1 : ∀ i d, x15 (ix3 1 i d) = (B.g 1 i d : EReal))
    (g2 : ∀ i d, x15 (ix3 2 i d) = (B.g 2 i d : EReal))
    (g3 : ∀ i d, x15 (ix3 3 i d) = (B.g 3 i d : EReal))
    (a0 : x7 (ix3 0 0 0) = (B.σ 0 : EReal))
    (a1 : x7 (ix3 1 0 0) = (B.σ 1 : EReal))
    (a2 : x7 (ix3 2 0 0) = (B.σ 2 : EReal))
    (a3 : x7 (ix3 3 0 0) = (B.σ 3 : EReal))
    (r : Fin 512) (d : Fin 64) :
    bodyA.sl.r_123 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15 (ix2 r d) = (B.dq (i 0) r d : EReal) := by
  sl_unfold_run_names
  refine group_first (i 0) ?_ ?_ ?_ ?_ ?_ ?_ ?_ ?_ ?_ ?_ ?_ ?_ ?_ ?_ ?_ ?_ ?_ ?_ ?_ ?_ ?_ ?_ ?_ ?_ ?_ r d
  · intro e d; pointwise [k0_pay33]; rw [wholeR, hw]
  · intro i d; pointwise [k0_pay27]; rw [whole, hcq]
  · intro i d; pointwise [k0_pay28]; rw [whole, hsq]
  · intro i d; pointwise [k0_pay29]; rw [whole, hcp]
  · intro i d; pointwise [k0_pay30]; rw [whole, hsp]
  · intro i d; pointwise [k0_pay31]; rw [whole, hcm]
  · intro i d; pointwise [k0_pay32]; rw [whole, hsm]
  · intro i d; pointwise [k0_pay46]; exact (slab2 harg2 x1 0 _ i d).trans (hkp i d)
  · intro i d; pointwise [k0_pay48]; exact (slab2 harg3 x2 0 _ i d).trans (hkc i d)
  · intro i d; pointwise [k0_pay50]; exact (slab2 harg4 x3 0 _ i d).trans (hkm i d)
  · intro i d; pointwise [k0_pay52]; exact (slab2 harg5 x4 0 _ i d).trans (hvp i d)
  · intro i d; pointwise [k0_pay54]; exact (slab2 harg6 x5 0 _ i d).trans (hvc i d)
  · intro i d; pointwise [k0_pay56]; exact (slab2 harg7 x6 0 _ i d).trans (hvm i d)
  · exact fun i d => (slab8 harg1 x0 0 _ i d).trans (q0 i d)
  · exact fun i d => (slab8 harg1 x0 1 _ i d).trans (q1 i d)
  · exact fun i d => (slab8 harg1 x0 2 _ i d).trans (q2 i d)
  · exact fun i d => (slab8 harg1 x0 3 _ i d).trans (q3 i d)
  · exact fun i d => (slab8 harg16 x15 0 _ i d).trans (g0 i d)
  · exact fun i d => (slab8 harg16 x15 1 _ i d).trans (g1 i d)
  · exact fun i d => (slab8 harg16 x15 2 _ i d).trans (g2 i d)
  · exact fun i d => (slab8 harg16 x15 3 _ i d).trans (g3 i d)
  · exact (slabS harg8 x7 0 _ 0 0).trans a0
  · exact (slabS harg8 x7 1 _ 0 0).trans a1
  · exact (slabS harg8 x7 2 _ 0 0).trans a2
  · exact (slabS harg8 x7 3 _ 0 0).trans a3

set_option maxHeartbeats 2000000 in
/-- The first group. -/
theorem first_B {arg1 : Memref sig .tc .vmem S8x128x64 .f32} (harg1 : arg1.IsWhole) {arg2 : Memref sig .tc .vmem S2x128x64 .f32} (harg2 : arg2.IsWhole) {arg3 : Memref sig .tc .vmem S2x128x64 .f32} (harg3 : arg3.IsWhole) {arg4 : Memref sig .tc .vmem S2x128x64 .f32} (harg4 : arg4.IsWhole) {arg5 : Memref sig .tc .vmem S2x128x64 .f32} (harg5 : arg5.IsWhole) {arg6 : Memref sig .tc .vmem S2x128x64 .f32} (harg6 : arg6.IsWhole) {arg7 : Memref sig .tc .vmem S2x128x64 .f32} (harg7 : arg7.IsWhole) {arg8 : Memref sig .tc .vmem S8x8x128 .f32} (harg8 : arg8.IsWhole) {arg9 : Memref sig .tc .vmem S128x64 .f32} (harg9 : arg9.IsWhole) {arg10 : Memref sig .tc .vmem S128x64 .f32} (harg10 : arg10.IsWhole) {arg11 : Memref sig .tc .vmem S128x64 .f32} (harg11 : arg11.IsWhole) {arg12 : Memref sig .tc .vmem S128x64 .f32} (harg12 : arg12.IsWhole) {arg13 : Memref sig .tc .vmem S128x64 .f32} (harg13 : arg13.IsWhole) {arg14 : Memref sig .tc .vmem S128x64 .f32} (harg14 : arg14.IsWhole) {arg15 : Memref sig .tc .vmem S64x64 .f32} (harg15 : arg15.IsWhole) {arg16 : Memref sig .tc .vmem S8x128x64 .f32} (harg16 : arg16.IsWhole)
    {x0 : Vec Ideal S8x128x64 .f32} {x1 : Vec Ideal S2x128x64 .f32} {x2 : Vec Ideal S2x128x64 .f32} {x3 : Vec Ideal S2x128x64 .f32} {x4 : Vec Ideal S2x128x64 .f32} {x5 : Vec Ideal S2x128x64 .f32} {x6 : Vec Ideal S2x128x64 .f32} {x7 : Vec Ideal S8x8x128 .f32} {x8 : Vec Ideal S128x64 .f32} {x9 : Vec Ideal S128x64 .f32} {x10 : Vec Ideal S128x64 .f32} {x11 : Vec Ideal S128x64 .f32} {x12 : Vec Ideal S128x64 .f32} {x13 : Vec Ideal S128x64 .f32} {x14 : Vec Ideal S64x64 .f32} {x15 : Vec Ideal S8x128x64 .f32}
    (hw : ∀ e d, x14 (ix2 e d) = (B.R e d : EReal))
    (hcq : ∀ i d, x8 (ix2 i d) = (B.cq i d : EReal))
    (hsq : ∀ i d, x9 (ix2 i d) = (B.sq i d : EReal))
    (hcp : ∀ i d, x10 (ix2 i d) = (B.cp i d : EReal))
    (hsp : ∀ i d, x11 (ix2 i d) = (B.sp i d : EReal))
    (hcm : ∀ i d, x12 (ix2 i d) = (B.cm i d : EReal))
    (hsm : ∀ i d, x13 (ix2 i d) = (B.sm i d : EReal))
    (hkp : ∀ i d, x1 (ix3 0 i d) = (B.kp i d : EReal))
    (hkc : ∀ i d, x2 (ix3 0 i d) = (B.kc i d : EReal))
    (hkm : ∀ i d, x3 (ix3 0 i d) = (B.km i d : EReal))
    (hvp : ∀ i d, x4 (ix3 0 i d) = (B.vp i d : EReal))
    (hvc : ∀ i d, x5 (ix3 0 i d) = (B.vc i d : EReal))
    (hvm : ∀ i d, x6 (ix3 0 i d) = (B.vm i d : EReal))
    (q0 : ∀ i d, x0 (ix3 0 i d) = (B.q 0 i d : EReal))
    (q1 : ∀ i d, x0 (ix3 1 i d) = (B.q 1 i d : EReal))
    (q2 : ∀ i d, x0 (ix3 2 i d) = (B.q 2 i d : EReal))
    (q3 : ∀ i d, x0 (ix3 3 i d) = (B.q 3 i d : EReal))
    (g0 : ∀ i d, x15 (ix3 0 i d) = (B.g 0 i d : EReal))
    (g1 : ∀ i d, x15 (ix3 1 i d) = (B.g 1 i d : EReal))
    (g2 : ∀ i d, x15 (ix3 2 i d) = (B.g 2 i d : EReal))
    (g3 : ∀ i d, x15 (ix3 3 i d) = (B.g 3 i d : EReal))
    (a0 : x7 (ix3 0 0 0) = (B.σ 0 : EReal))
    (a1 : x7 (ix3 1 0 0) = (B.σ 1 : EReal))
    (a2 : x7 (ix3 2 0 0) = (B.σ 2 : EReal))
    (a3 : x7 (ix3 3 0 0) = (B.σ 3 : EReal))
    (r : Fin 512) (d : Fin 64) :
    bodyB.sl.r_123 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15 (ix2 r d) = (B.dq (i 0) r d : EReal) := by
  sl_unfold_run_names
  refine group_first (i 0) ?_ ?_ ?_ ?_ ?_ ?_ ?_ ?_ ?_ ?_ ?_ ?_ ?_ ?_ ?_ ?_ ?_ ?_ ?_ ?_ ?_ ?_ ?_ ?_ ?_ r d
  · intro e d; pointwise [k0_pay33]; rw [wholeR, hw]
  · intro i d; pointwise [k0_pay27]; rw [whole, hcq]
  · intro i d; pointwise [k0_pay28]; rw [whole, hsq]
  · intro i d; pointwise [k0_pay29]; rw [whole, hcp]
  · intro i d; pointwise [k0_pay30]; rw [whole, hsp]
  · intro i d; pointwise [k0_pay31]; rw [whole, hcm]
  · intro i d; pointwise [k0_pay32]; rw [whole, hsm]
  · intro i d; pointwise [k0_pay46]; exact (slab2 harg2 x1 0 _ i d).trans (hkp i d)
  · intro i d; pointwise [k0_pay48]; exact (slab2 harg3 x2 0 _ i d).trans (hkc i d)
  · intro i d; pointwise [k0_pay50]; exact (slab2 harg4 x3 0 _ i d).trans (hkm i d)
  · intro i d; pointwise [k0_pay52]; exact (slab2 harg5 x4 0 _ i d).trans (hvp i d)
  · intro i d; pointwise [k0_pay54]; exact (slab2 harg6 x5 0 _ i d).trans (hvc i d)
  · intro i d; pointwise [k0_pay56]; exact (slab2 harg7 x6 0 _ i d).trans (hvm i d)
  · exact fun i d => (slab8 harg1 x0 0 _ i d).trans (q0 i d)
  · exact fun i d => (slab8 harg1 x0 1 _ i d).trans (q1 i d)
  · exact fun i d => (slab8 harg1 x0 2 _ i d).trans (q2 i d)
  · exact fun i d => (slab8 harg1 x0 3 _ i d).trans (q3 i d)
  · exact fun i d => (slab8 harg16 x15 0 _ i d).trans (g0 i d)
  · exact fun i d => (slab8 harg16 x15 1 _ i d).trans (g1 i d)
  · exact fun i d => (slab8 harg16 x15 2 _ i d).trans (g2 i d)
  · exact fun i d => (slab8 harg16 x15 3 _ i d).trans (g3 i d)
  · exact (slabS harg8 x7 0 _ 0 0).trans a0
  · exact (slabS harg8 x7 1 _ 0 0).trans a1
  · exact (slabS harg8 x7 2 _ 0 0).trans a2
  · exact (slabS harg8 x7 3 _ 0 0).trans a3

set_option maxHeartbeats 2000000 in
/-- The second group. -/
theorem second_A {arg1 : Memref sig .tc .vmem S8x128x64 .f32} (harg1 : arg1.IsWhole) {arg2 : Memref sig .tc .vmem S2x128x64 .f32} (harg2 : arg2.IsWhole) {arg3 : Memref sig .tc .vmem S2x128x64 .f32} (harg3 : arg3.IsWhole) {arg4 : Memref sig .tc .vmem S2x128x64 .f32} (harg4 : arg4.IsWhole) {arg5 : Memref sig .tc .vmem S2x128x64 .f32} (harg5 : arg5.IsWhole) {arg6 : Memref sig .tc .vmem S2x128x64 .f32} (harg6 : arg6.IsWhole) {arg7 : Memref sig .tc .vmem S2x128x64 .f32} (harg7 : arg7.IsWhole) {arg8 : Memref sig .tc .vmem S8x8x128 .f32} (harg8 : arg8.IsWhole) {arg9 : Memref sig .tc .vmem S128x64 .f32} (harg9 : arg9.IsWhole) {arg10 : Memref sig .tc .vmem S128x64 .f32} (harg10 : arg10.IsWhole) {arg11 : Memref sig .tc .vmem S128x64 .f32} (harg11 : arg11.IsWhole) {arg12 : Memref sig .tc .vmem S128x64 .f32} (harg12 : arg12.IsWhole) {arg13 : Memref sig .tc .vmem S128x64 .f32} (harg13 : arg13.IsWhole) {arg14 : Memref sig .tc .vmem S128x64 .f32} (harg14 : arg14.IsWhole) {arg15 : Memref sig .tc .vmem S64x64 .f32} (harg15 : arg15.IsWhole) {arg16 : Memref sig .tc .vmem S8x128x64 .f32} (harg16 : arg16.IsWhole)
    {x0 : Vec Ideal S8x128x64 .f32} {x1 : Vec Ideal S2x128x64 .f32} {x2 : Vec Ideal S2x128x64 .f32} {x3 : Vec Ideal S2x128x64 .f32} {x4 : Vec Ideal S2x128x64 .f32} {x5 : Vec Ideal S2x128x64 .f32} {x6 : Vec Ideal S2x128x64 .f32} {x7 : Vec Ideal S8x8x128 .f32} {x8 : Vec Ideal S128x64 .f32} {x9 : Vec Ideal S128x64 .f32} {x10 : Vec Ideal S128x64 .f32} {x11 : Vec Ideal S128x64 .f32} {x12 : Vec Ideal S128x64 .f32} {x13 : Vec Ideal S128x64 .f32} {x14 : Vec Ideal S64x64 .f32} {x15 : Vec Ideal S8x128x64 .f32}
    (hw : ∀ e d, x14 (ix2 e d) = (B.R e d : EReal))
    (hcq : ∀ i d, x8 (ix2 i d) = (B.cq i d : EReal))
    (hsq : ∀ i d, x9 (ix2 i d) = (B.sq i d : EReal))
    (hcp : ∀ i d, x10 (ix2 i d) = (B.cp i d : EReal))
    (hsp : ∀ i d, x11 (ix2 i d) = (B.sp i d : EReal))
    (hcm : ∀ i d, x12 (ix2 i d) = (B.cm i d : EReal))
    (hsm : ∀ i d, x13 (ix2 i d) = (B.sm i d : EReal))
    (hkp : ∀ i d, x1 (ix3 1 i d) = (B.kp i d : EReal))
    (hkc : ∀ i d, x2 (ix3 1 i d) = (B.kc i d : EReal))
    (hkm : ∀ i d, x3 (ix3 1 i d) = (B.km i d : EReal))
    (hvp : ∀ i d, x4 (ix3 1 i d) = (B.vp i d : EReal))
    (hvc : ∀ i d, x5 (ix3 1 i d) = (B.vc i d : EReal))
    (hvm : ∀ i d, x6 (ix3 1 i d) = (B.vm i d : EReal))
    (q0 : ∀ i d, x0 (ix3 4 i d) = (B.q 0 i d : EReal))
    (q1 : ∀ i d, x0 (ix3 5 i d) = (B.q 1 i d : EReal))
    (q2 : ∀ i d, x0 (ix3 6 i d) = (B.q 2 i d : EReal))
    (q3 : ∀ i d, x0 (ix3 7 i d) = (B.q 3 i d : EReal))
    (g0 : ∀ i d, x15 (ix3 4 i d) = (B.g 0 i d : EReal))
    (g1 : ∀ i d, x15 (ix3 5 i d) = (B.g 1 i d : EReal))
    (g2 : ∀ i d, x15 (ix3 6 i d) = (B.g 2 i d : EReal))
    (g3 : ∀ i d, x15 (ix3 7 i d) = (B.g 3 i d : EReal))
    (a0 : x7 (ix3 4 0 0) = (B.σ 0 : EReal))
    (a1 : x7 (ix3 5 0 0) = (B.σ 1 : EReal))
    (a2 : x7 (ix3 6 0 0) = (B.σ 2 : EReal))
    (a3 : x7 (ix3 7 0 0) = (B.σ 3 : EReal))
    (r : Fin 512) (d : Fin 64) :
    bodyA.sl.r_122 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15 (ix2 r d) = (B.dq (i 0) r d : EReal) := by
  sl_unfold_run_names
  refine group_second (i 0) ?_ ?_ ?_ ?_ ?_ ?_ ?_ ?_ ?_ ?_ ?_ ?_ ?_ ?_ ?_ ?_ ?_ ?_ ?_ ?_ ?_ ?_ ?_ ?_ ?_ r d
  · intro e d; pointwise [k0_pay33]; rw [wholeR, hw]
  · intro i d; pointwise [k0_pay27]; rw [whole, hcq]
  · intro i d; pointwise [k0_pay28]; rw [whole, hsq]
  · intro i d; pointwise [k0_pay29]; rw [whole, hcp]
  · intro i d; pointwise [k0_pay30]; rw [whole, hsp]
  · intro i d; pointwise [k0_pay31]; rw [whole, hcm]
  · intro i d; pointwise [k0_pay32]; rw [whole, hsm]
  · intro i d; pointwise [k0_pay47]; exact (slab2 harg2 x1 1 _ i d).trans (hkp i d)
  · intro i d; pointwise [k0_pay49]; exact (slab2 harg3 x2 1 _ i d).trans (hkc i d)
  · intro i d; pointwise [k0_pay51]; exact (slab2 harg4 x3 1 _ i d).trans (hkm i d)
  · intro i d; pointwise [k0_pay53]; exact (slab2 harg5 x4 1 _ i d).trans (hvp i d)
  · intro i d; pointwise [k0_pay55]; exact (slab2 harg6 x5 1 _ i d).trans (hvc i d)
  · intro i d; pointwise [k0_pay57]; exact (slab2 harg7 x6 1 _ i d).trans (hvm i d)
  · exact fun i d => (slab8 harg1 x0 4 _ i d).trans (q0 i d)
  · exact fun i d => (slab8 harg1 x0 5 _ i d).trans (q1 i d)
  · exact fun i d => (slab8 harg1 x0 6 _ i d).trans (q2 i d)
  · exact fun i d => (slab8 harg1 x0 7 _ i d).trans (q3 i d)
  · exact fun i d => (slab8 harg16 x15 4 _ i d).trans (g0 i d)
  · exact fun i d => (slab8 harg16 x15 5 _ i d).trans (g1 i d)
  · exact fun i d => (slab8 harg16 x15 6 _ i d).trans (g2 i d)
  · exact fun i d => (slab8 harg16 x15 7 _ i d).trans (g3 i d)
  · exact (slabS harg8 x7 4 _ 0 0).trans a0
  · exact (slabS harg8 x7 5 _ 0 0).trans a1
  · exact (slabS harg8 x7 6 _ 0 0).trans a2
  · exact (slabS harg8 x7 7 _ 0 0).trans a3

set_option maxHeartbeats 2000000 in
/-- The second group. -/
theorem second_B {arg1 : Memref sig .tc .vmem S8x128x64 .f32} (harg1 : arg1.IsWhole) {arg2 : Memref sig .tc .vmem S2x128x64 .f32} (harg2 : arg2.IsWhole) {arg3 : Memref sig .tc .vmem S2x128x64 .f32} (harg3 : arg3.IsWhole) {arg4 : Memref sig .tc .vmem S2x128x64 .f32} (harg4 : arg4.IsWhole) {arg5 : Memref sig .tc .vmem S2x128x64 .f32} (harg5 : arg5.IsWhole) {arg6 : Memref sig .tc .vmem S2x128x64 .f32} (harg6 : arg6.IsWhole) {arg7 : Memref sig .tc .vmem S2x128x64 .f32} (harg7 : arg7.IsWhole) {arg8 : Memref sig .tc .vmem S8x8x128 .f32} (harg8 : arg8.IsWhole) {arg9 : Memref sig .tc .vmem S128x64 .f32} (harg9 : arg9.IsWhole) {arg10 : Memref sig .tc .vmem S128x64 .f32} (harg10 : arg10.IsWhole) {arg11 : Memref sig .tc .vmem S128x64 .f32} (harg11 : arg11.IsWhole) {arg12 : Memref sig .tc .vmem S128x64 .f32} (harg12 : arg12.IsWhole) {arg13 : Memref sig .tc .vmem S128x64 .f32} (harg13 : arg13.IsWhole) {arg14 : Memref sig .tc .vmem S128x64 .f32} (harg14 : arg14.IsWhole) {arg15 : Memref sig .tc .vmem S64x64 .f32} (harg15 : arg15.IsWhole) {arg16 : Memref sig .tc .vmem S8x128x64 .f32} (harg16 : arg16.IsWhole)
    {x0 : Vec Ideal S8x128x64 .f32} {x1 : Vec Ideal S2x128x64 .f32} {x2 : Vec Ideal S2x128x64 .f32} {x3 : Vec Ideal S2x128x64 .f32} {x4 : Vec Ideal S2x128x64 .f32} {x5 : Vec Ideal S2x128x64 .f32} {x6 : Vec Ideal S2x128x64 .f32} {x7 : Vec Ideal S8x8x128 .f32} {x8 : Vec Ideal S128x64 .f32} {x9 : Vec Ideal S128x64 .f32} {x10 : Vec Ideal S128x64 .f32} {x11 : Vec Ideal S128x64 .f32} {x12 : Vec Ideal S128x64 .f32} {x13 : Vec Ideal S128x64 .f32} {x14 : Vec Ideal S64x64 .f32} {x15 : Vec Ideal S8x128x64 .f32}
    (hw : ∀ e d, x14 (ix2 e d) = (B.R e d : EReal))
    (hcq : ∀ i d, x8 (ix2 i d) = (B.cq i d : EReal))
    (hsq : ∀ i d, x9 (ix2 i d) = (B.sq i d : EReal))
    (hcp : ∀ i d, x10 (ix2 i d) = (B.cp i d : EReal))
    (hsp : ∀ i d, x11 (ix2 i d) = (B.sp i d : EReal))
    (hcm : ∀ i d, x12 (ix2 i d) = (B.cm i d : EReal))
    (hsm : ∀ i d, x13 (ix2 i d) = (B.sm i d : EReal))
    (hkp : ∀ i d, x1 (ix3 1 i d) = (B.kp i d : EReal))
    (hkc : ∀ i d, x2 (ix3 1 i d) = (B.kc i d : EReal))
    (hkm : ∀ i d, x3 (ix3 1 i d) = (B.km i d : EReal))
    (hvp : ∀ i d, x4 (ix3 1 i d) = (B.vp i d : EReal))
    (hvc : ∀ i d, x5 (ix3 1 i d) = (B.vc i d : EReal))
    (hvm : ∀ i d, x6 (ix3 1 i d) = (B.vm i d : EReal))
    (q0 : ∀ i d, x0 (ix3 4 i d) = (B.q 0 i d : EReal))
    (q1 : ∀ i d, x0 (ix3 5 i d) = (B.q 1 i d : EReal))
    (q2 : ∀ i d, x0 (ix3 6 i d) = (B.q 2 i d : EReal))
    (q3 : ∀ i d, x0 (ix3 7 i d) = (B.q 3 i d : EReal))
    (g0 : ∀ i d, x15 (ix3 4 i d) = (B.g 0 i d : EReal))
    (g1 : ∀ i d, x15 (ix3 5 i d) = (B.g 1 i d : EReal))
    (g2 : ∀ i d, x15 (ix3 6 i d) = (B.g 2 i d : EReal))
    (g3 : ∀ i d, x15 (ix3 7 i d) = (B.g 3 i d : EReal))
    (a0 : x7 (ix3 4 0 0) = (B.σ 0 : EReal))
    (a1 : x7 (ix3 5 0 0) = (B.σ 1 : EReal))
    (a2 : x7 (ix3 6 0 0) = (B.σ 2 : EReal))
    (a3 : x7 (ix3 7 0 0) = (B.σ 3 : EReal))
    (r : Fin 512) (d : Fin 64) :
    bodyB.sl.r_122 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15 (ix2 r d) = (B.dq (i 0) r d : EReal) := by
  sl_unfold_run_names
  refine group_second (i 0) ?_ ?_ ?_ ?_ ?_ ?_ ?_ ?_ ?_ ?_ ?_ ?_ ?_ ?_ ?_ ?_ ?_ ?_ ?_ ?_ ?_ ?_ ?_ ?_ ?_ r d
  · intro e d; pointwise [k0_pay33]; rw [wholeR, hw]
  · intro i d; pointwise [k0_pay27]; rw [whole, hcq]
  · intro i d; pointwise [k0_pay28]; rw [whole, hsq]
  · intro i d; pointwise [k0_pay29]; rw [whole, hcp]
  · intro i d; pointwise [k0_pay30]; rw [whole, hsp]
  · intro i d; pointwise [k0_pay31]; rw [whole, hcm]
  · intro i d; pointwise [k0_pay32]; rw [whole, hsm]
  · intro i d; pointwise [k0_pay47]; exact (slab2 harg2 x1 1 _ i d).trans (hkp i d)
  · intro i d; pointwise [k0_pay49]; exact (slab2 harg3 x2 1 _ i d).trans (hkc i d)
  · intro i d; pointwise [k0_pay51]; exact (slab2 harg4 x3 1 _ i d).trans (hkm i d)
  · intro i d; pointwise [k0_pay53]; exact (slab2 harg5 x4 1 _ i d).trans (hvp i d)
  · intro i d; pointwise [k0_pay55]; exact (slab2 harg6 x5 1 _ i d).trans (hvc i d)
  · intro i d; pointwise [k0_pay57]; exact (slab2 harg7 x6 1 _ i d).trans (hvm i d)
  · exact fun i d => (slab8 harg1 x0 4 _ i d).trans (q0 i d)
  · exact fun i d => (slab8 harg1 x0 5 _ i d).trans (q1 i d)
  · exact fun i d => (slab8 harg1 x0 6 _ i d).trans (q2 i d)
  · exact fun i d => (slab8 harg1 x0 7 _ i d).trans (q3 i d)
  · exact fun i d => (slab8 harg16 x15 4 _ i d).trans (g0 i d)
  · exact fun i d => (slab8 harg16 x15 5 _ i d).trans (g1 i d)
  · exact fun i d => (slab8 harg16 x15 6 _ i d).trans (g2 i d)
  · exact fun i d => (slab8 harg16 x15 7 _ i d).trans (g3 i d)
  · exact (slabS harg8 x7 4 _ 0 0).trans a0
  · exact (slabS harg8 x7 5 _ 0 0).trans a1
  · exact (slabS harg8 x7 6 _ 0 0).trans a2
  · exact (slabS harg8 x7 7 _ 0 0).trans a3

end Cert.AttnIdeal.Cell
-- ==== Proof.AttnOut.lean ====
/- The block of gradients that one point of the grid writes, head by head. -/
module

public import proofs.«01_k».proof.Proof.AttnBlock
public import Idealize.ShloMosaic.Lib.Pipeline.ValueKit

@[expose] public section

set_option maxRecDepth 16384

noncomputable section

namespace Cert.AttnIdeal.Cell

open Idealize.ShloMosaic Idealize.ShloMosaic.TcCoe Idealize.ShloMosaic.Tactic
open Cert.AttnIdeal Cert.AttnIdeal.Gen Cert.AttnMath

/-- The last write, at the head it was made to. -/
theorem canon_here {k : ℕ} (hk) (v : S1x128x64.Idx → Elt Ideal .f32) (L : List (View.Piece (Elt Ideal) S8x128x64 .f32)) (a : Fin 8) (ha : a.val = k) (i : Fin 128) (d : Fin 64) :
    View.canon ((⟨Rect.unit (s := S8x128x64) ![k, 0, 0] ![1, 128, 64] hk, v⟩ : View.Piece (Elt Ideal) S8x128x64 .f32) :: L) (ix3 a i d) = v (ix3 0 i d) := by
  have e : (Rect.unit (s := S8x128x64) ![k, 0, 0] ![1, 128, 64] hk).emb (ix3 0 i d) = ix3 a i d := by
    funext b
    fin_cases b <;> refine Fin.ext ?_ <;> simp [ha]
  exact (congrArg _ e.symm).trans (View.canon_cons_emb (Val := Elt Ideal) (Rect.unit (s := S8x128x64) ![k, 0, 0] ![1, 128, 64] hk) v L (ix3 0 i d))

/-- A write to another head leaves the head as it was. -/
theorem canon_past {k : ℕ} (hk) (v : S1x128x64.Idx → Elt Ideal .f32) (L : List (View.Piece (Elt Ideal) S8x128x64 .f32)) (a : Fin 8) (ha : a.val ≠ k) (i : Fin 128) (d : Fin 64) :
    View.canon ((⟨Rect.unit (s := S8x128x64) ![k, 0, 0] ![1, 128, 64] hk, v⟩ : View.Piece (Elt Ideal) S8x128x64 .f32) :: L) (ix3 a i d) = View.canon L (ix3 a i d) := by
  refine View.canon_cons_of_not_mem _ L fun hm => ?_
  have h0 := (Rect.mem_set_unit (s := S8x128x64) (off := ![k, 0, 0]) (size := ![1, 128, 64]) (inb := hk)).1 hm 0
  simp at h0
  omega

/-- The row of its group that head `k`, query `i` takes. -/
def rowOf (k : Fin 8) (i : Fin 128) : Fin 512 := ⟨128 * (k.val % 4) + i.val, by omega⟩

section Slices

variable (v : FVec Ideal S512x64 .f32) (i : Fin 128) (d : Fin 64)

theorem slice0 : k0_pay181 v (ix3 0 i d) = v (ix2 (rowOf 0 i) d) := by pointwise [k0_pay181]; exact congrArg (fun r => v (ix2 r d)) (Fin.ext (by simp [rowOf]))
theorem slice1 : k0_pay182 v (ix3 0 i d) = v (ix2 (rowOf 1 i) d) := by pointwise [k0_pay182]; rfl
theorem slice2 : k0_pay183 v (ix3 0 i d) = v (ix2 (rowOf 2 i) d) := by pointwise [k0_pay183]; rfl
theorem slice3 : k0_pay184 v (ix3 0 i d) = v (ix2 (rowOf 3 i) d) := by pointwise [k0_pay184]; rfl
theorem slice4 : k0_pay189 v (ix3 0 i d) = v (ix2 (rowOf 4 i) d) := by pointwise [k0_pay189]; exact congrArg (fun r => v (ix2 r d)) (Fin.ext (by simp [rowOf]))
theorem slice5 : k0_pay190 v (ix3 0 i d) = v (ix2 (rowOf 5 i) d) := by pointwise [k0_pay190]; rfl
theorem slice6 : k0_pay191 v (ix3 0 i d) = v (ix2 (rowOf 6 i) d) := by pointwise [k0_pay191]; rfl
theorem slice7 : k0_pay1 (k0_pay192 v) (ix3 0 i d) = v (ix2 (rowOf 7 i) d) := by pointwise [k0_pay1, k0_pay192]; rfl

end Slices

/-- Eight heads written one after the other, the first four from `f`, the others from `s`. -/
theorem heads_written (f s : FVec Ideal S512x64 .f32) (h7 h6 h5 h4 h3 h2 h1 h0) (k : Fin 8) (i : Fin 128) (d : Fin 64) :
    View.canon ([⟨Rect.unit (s := S8x128x64) ![7, 0, 0] ![1, 128, 64] h7, k0_pay1 (k0_pay192 s)⟩, ⟨Rect.unit (s := S8x128x64) ![6, 0, 0] ![1, 128, 64] h6, k0_pay191 s⟩,
      ⟨Rect.unit (s := S8x128x64) ![5, 0, 0] ![1, 128, 64] h5, k0_pay190 s⟩, ⟨Rect.unit (s := S8x128x64) ![4, 0, 0] ![1, 128, 64] h4, k0_pay189 s⟩,
      ⟨Rect.unit (s := S8x128x64) ![3, 0, 0] ![1, 128, 64] h3, k0_pay184 f⟩, ⟨Rect.unit (s := S8x128x64) ![2, 0, 0] ![1, 128, 64] h2, k0_pay183 f⟩,
      ⟨Rect.unit (s := S8x128x64) ![1, 0, 0] ![1, 128, 64] h1, k0_pay182 f⟩, ⟨Rect.unit (s := S8x128x64) ![0, 0, 0] ![1, 128, 64] h0, k0_pay181 f⟩] : List (View.Piece (Elt Ideal) S8x128x64 .f32)) (ix3 k i d)
      = (if k.val < 4 then f else s) (ix2 (rowOf k i) d) := by
  by_cases e7 : k.val = 7
  · obtain rfl : k = 7 := Fin.ext e7
    rw [canon_here (k := 7) _ _ _ 7 rfl, slice7]; rfl
  rw [canon_past _ _ _ k e7]
  by_cases e6 : k.val = 6
  · obtain rfl : k = 6 := Fin.ext e6
    rw [canon_here (k := 6) _ _ _ 6 rfl, slice6]; rfl
  rw [canon_past _ _ _ k e6]
  by_cases e5 : k.val = 5
  · obtain rfl : k = 5 := Fin.ext e5
    rw [canon_here (k := 5) _ _ _ 5 rfl, slice5]; rfl
  rw [canon_past _ _ _ k e5]
  by_cases e4 : k.val = 4
  · obtain rfl : k = 4 := Fin.ext e4
    rw [canon_here (k := 4) _ _ _ 4 rfl, slice4]; rfl
  rw [canon_past _ _ _ k e4]
  by_cases e3 : k.val = 3
  · obtain rfl : k = 3 := Fin.ext e3
    rw [canon_here (k := 3) _ _ _ 3 rfl, slice3]; rfl
  rw [canon_past _ _ _ k e3]
  by_cases e2 : k.val = 2
  · obtain rfl : k = 2 := Fin.ext e2
    rw [canon_here (k := 2) _ _ _ 2 rfl, slice2]; rfl
  rw [canon_past _ _ _ k e2]
  by_cases e1 : k.val = 1
  · obtain rfl : k = 1 := Fin.ext e1
    rw [canon_here (k := 1) _ _ _ 1 rfl, slice1]; rfl
  rw [canon_past _ _ _ k e1]
  obtain rfl : k = 0 := Fin.ext (show k.val = 0 by omega)
  rw [canon_here (k := 0) _ _ _ 0 rfl, slice0]; rfl

/-- The reals that a block is computed from: the rotation matrix, the tables of the three blocks, the two heads of keys and values of the three blocks, and the queries, output gradients and sinks of the eight heads. -/
structure Data where
  R : Fin 64 → Fin 64 → ℝ
  cq : Fin 128 → Fin 64 → ℝ
  sq : Fin 128 → Fin 64 → ℝ
  cp : Fin 128 → Fin 64 → ℝ
  sp : Fin 128 → Fin 64 → ℝ
  cm : Fin 128 → Fin 64 → ℝ
  sm : Fin 128 → Fin 64 → ℝ
  kp : Fin 2 → Fin 128 → Fin 64 → ℝ
  kc : Fin 2 → Fin 128 → Fin 64 → ℝ
  km : Fin 2 → Fin 128 → Fin 64 → ℝ
  vp : Fin 2 → Fin 128 → Fin 64 → ℝ
  vc : Fin 2 → Fin 128 → Fin 64 → ℝ
  vm : Fin 2 → Fin 128 → Fin 64 → ℝ
  q : Fin 8 → Fin 128 → Fin 64 → ℝ
  g : Fin 8 → Fin 128 → Fin 64 → ℝ
  σ : Fin 8 → ℝ

/-- What group `b` takes. -/
def Data.group (E : Data) (b : Fin 2) : Reals :=
  ⟨E.R, E.cq, E.sq, E.cp, E.sp, E.cm, E.sm, E.kp b, E.kc b, E.km b, E.vp b, E.vc b, E.vm b, fun a => E.q ⟨4 * b.val + a.val, by omega⟩, fun a => E.g ⟨4 * b.val + a.val, by omega⟩,
    fun a => E.σ ⟨4 * b.val + a.val, by omega⟩⟩

/-- The block's arrays hold these reals. -/
structure Reads (E : Data) (x0 : Vec Ideal S8x128x64 .f32) (x1 x2 x3 x4 x5 x6 : Vec Ideal S2x128x64 .f32) (x7 : Vec Ideal S8x8x128 .f32) (x8 x9 x10 x11 x12 x13 : Vec Ideal S128x64 .f32)
    (x14 : Vec Ideal S64x64 .f32) (x15 : Vec Ideal S8x128x64 .f32) : Prop where
  R : ∀ e d, x14 (ix2 e d) = (E.R e d : EReal)
  cq : ∀ i d, x8 (ix2 i d) = (E.cq i d : EReal)
  sq : ∀ i d, x9 (ix2 i d) = (E.sq i d : EReal)
  cp : ∀ i d, x10 (ix2 i d) = (E.cp i d : EReal)
  sp : ∀ i d, x11 (ix2 i d) = (E.sp i d : EReal)
  cm : ∀ i d, x12 (ix2 i d) = (E.cm i d : EReal)
  sm : ∀ i d, x13 (ix2 i d) = (E.sm i d : EReal)
  kp : ∀ b i d, x1 (ix3 b i d) = (E.kp b i d : EReal)
  kc : ∀ b i d, x2 (ix3 b i d) = (E.kc b i d : EReal)
  km : ∀ b i d, x3 (ix3 b i d) = (E.km b i d : EReal)
  vp : ∀ b i d, x4 (ix3 b i d) = (E.vp b i d : EReal)
  vc : ∀ b i d, x5 (ix3 b i d) = (E.vc b i d : EReal)
  vm : ∀ b i d, x6 (ix3 b i d) = (E.vm b i d : EReal)
  q : ∀ h i d, x0 (ix3 h i d) = (E.q h i d : EReal)
  g : ∀ h i d, x15 (ix3 h i d) = (E.g h i d : EReal)
  σ : ∀ h, x7 (ix3 h 0 0) = (E.σ h : EReal)

/-- The gradient of head `k`, query `i` of the block at point `n`. -/
def Data.dq (E : Data) (n : Fin 17) (k : Fin 8) (i : Fin 128) (d : Fin 64) : ℝ := (E.group ⟨k.val / 4, by omega⟩).dq n (rowOf k i) d

variable (m : (ℓ : Loc nD τ sig) → Buf (Elt Ideal) ℓ) (c : Dev nD) (t : Fin cfg0.N) {E : Data}

set_option maxHeartbeats 2000000 in
/-- What a first point writes. -/
theorem out_A (h0 : cond0_0 (grid0.coords t)) (h1 : ¬cond0_1 (grid0.coords t)) (H : Reads E (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t))
    (k : Fin 8) (i : Fin 128) (d : Fin 64) : (outsA m c t h0 h1).1 (ix3 k i d) = (E.dq (grid0.coords t 0) k i d : EReal) := by
  unfold outsA
  frame_out
  unfold atA bodyA
  dsimp only
  refine (heads_written (bodyA.sl.r_123 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t))
    (bodyA.sl.r_122 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) _ _ _ _ _ _ _ _ k i d).trans ?_
  by_cases hk : k.val < 4
  · rw [if_pos hk]
    refine (first_A (B := E.group 0) c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t)
      H.R H.cq H.sq H.cp H.sp H.cm H.sm (H.kp 0) (H.kc 0) (H.km 0) (H.vp 0) (H.vc 0) (H.vm 0) (H.q 0) (H.q 1) (H.q 2) (H.q 3) (H.g 0) (H.g 1) (H.g 2) (H.g 3) (H.σ 0) (H.σ 1) (H.σ 2) (H.σ 3) (rowOf k i) d).trans ?_
    have e : (⟨k.val / 4, by omega⟩ : Fin 2) = 0 := Fin.ext (show k.val / 4 = 0 by omega)
    unfold Data.dq; rw [e]
  · rw [if_neg hk]
    refine (second_A (B := E.group 1) c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t)
      H.R H.cq H.sq H.cp H.sp H.cm H.sm (H.kp 1) (H.kc 1) (H.km 1) (H.vp 1) (H.vc 1) (H.vm 1) (H.q 4) (H.q 5) (H.q 6) (H.q 7) (H.g 4) (H.g 5) (H.g 6) (H.g 7) (H.σ 4) (H.σ 5) (H.σ 6) (H.σ 7) (rowOf k i) d).trans ?_
    have e : (⟨k.val / 4, by omega⟩ : Fin 2) = 1 := Fin.ext (show k.val / 4 = 1 by omega)
    unfold Data.dq; rw [e]

set_option maxHeartbeats 2000000 in
/-- What a later point writes. -/
theorem out_B (h0 : ¬cond0_0 (grid0.coords t)) (h1 : cond0_1 (grid0.coords t)) (p : Outs Ideal) (H : Reads E (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t))
    (k : Fin 8) (i : Fin 128) (d : Fin 64) : (outsB m c t h0 h1 p).1 (ix3 k i d) = (E.dq (grid0.coords t 0) k i d : EReal) := by
  unfold outsB
  frame_out
  unfold atB bodyB
  dsimp only
  refine (heads_written (bodyB.sl.r_123 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t))
    (bodyB.sl.r_122 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) _ _ _ _ _ _ _ _ k i d).trans ?_
  by_cases hk : k.val < 4
  · rw [if_pos hk]
    refine (first_B (B := E.group 0) c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t)
      H.R H.cq H.sq H.cp H.sp H.cm H.sm (H.kp 0) (H.kc 0) (H.km 0) (H.vp 0) (H.vc 0) (H.vm 0) (H.q 0) (H.q 1) (H.q 2) (H.q 3) (H.g 0) (H.g 1) (H.g 2) (H.g 3) (H.σ 0) (H.σ 1) (H.σ 2) (H.σ 3) (rowOf k i) d).trans ?_
    have e : (⟨k.val / 4, by omega⟩ : Fin 2) = 0 := Fin.ext (show k.val / 4 = 0 by omega)
    unfold Data.dq; rw [e]
  · rw [if_neg hk]
    refine (second_B (B := E.group 1) c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t)
      H.R H.cq H.sq H.cp H.sp H.cm H.sm (H.kp 1) (H.kc 1) (H.km 1) (H.vp 1) (H.vc 1) (H.vm 1) (H.q 4) (H.q 5) (H.q 6) (H.q 7) (H.g 4) (H.g 5) (H.g 6) (H.g 7) (H.σ 4) (H.σ 5) (H.σ 6) (H.σ 7) (rowOf k i) d).trans ?_
    have e : (⟨k.val / 4, by omega⟩ : Fin 2) = 1 := Fin.ext (show k.val / 4 = 1 by omega)
    unfold Data.dq; rw [e]

end Cert.AttnIdeal.Cell
-- ==== Proof.AttnSpec.lean ====
/- The attention gradient of the queries over the whole sequence, as reals, and that what the grid's points compute block by block is it. -/
module

public import proofs.«01_k».proof.Proof.AttnRope
public import proofs.«01_k».proof.Proof.AttnOut

@[expose] public section

set_option maxRecDepth 16384

noncomputable section

namespace Cert.AttnIdeal.Value

open Idealize.ShloMosaic Idealize.ShloMosaic.TcCoe Idealize.SL.Sem Idealize.ShloMosaic.Tactic
open Cert.AttnIdeal Cert.AttnIdeal.Gen Cert.AttnMath Cert.AttnIdeal.Cell

/-- The arguments as reals: queries, keys, values, sinks and the gradient of the output. -/
structure Args where
  q : Fin 2064 → Fin 512 → ℝ
  k : Fin 2064 → Fin 128 → ℝ
  v : Fin 2064 → Fin 128 → ℝ
  σ : Fin 8 → ℝ
  g : Fin 2064 → Fin 512 → ℝ

namespace Args

variable (A : Args)

/-- The group that head `h` belongs to. -/
def grp (h : Fin 8) : Fin 2 := ⟨h.val / 4, by omega⟩
/-- Row `a` of head `h` of the queries and the output gradients, and of group `b` of the keys and the values. -/
def pq (h : Fin 8) (a : ℕ) (d : Fin 64) : ℝ := padded A.q a ⟨h.val * 64 + d.val, by omega⟩
def pg (h : Fin 8) (a : ℕ) (d : Fin 64) : ℝ := padded A.g a ⟨h.val * 64 + d.val, by omega⟩
def pk (b : Fin 2) (a : ℕ) (d : Fin 64) : ℝ := padded A.k a ⟨b.val * 64 + d.val, by omega⟩
def pv (b : Fin 2) (a : ℕ) (d : Fin 64) : ℝ := padded A.v a ⟨b.val * 64 + d.val, by omega⟩
/-- Row `a` of the tables. -/
def co (a : ℕ) (d : Fin 64) : ℝ := Real.cos (ang a d)
def si (a : ℕ) (d : Fin 64) : ℝ := Real.sin (ang a d)
/-- The rotated queries and keys. -/
def rq (h : Fin 8) (a : ℕ) : Fin 64 → ℝ := turn rotM (co a) (si a) (A.pq h a)
def rk (b : Fin 2) (a : ℕ) : Fin 64 → ℝ := turn rotM (co a) (si a) (A.pk b a)
/-- The exponential of the score of query `a` against key `s`. -/
def ex (h : Fin 8) (a s : ℕ) : ℝ := Real.exp ((∑ d, A.rq h a d * A.rk (grp h) s d) * (1 / 8))
/-- The gradient of the probability. -/
def dp (h : Fin 8) (a s : ℕ) : ℝ := ∑ d, A.pg h a d * A.pv (grp h) s d
/-- The sum of a row's exponentials, the sink's among them. -/
def zz (h : Fin 8) (a : ℕ) : ℝ := (∑ s : Fin 2064, if vis a (s.val + 112) then A.ex h a (s.val + 112) else 0) + Real.exp (A.σ h)
/-- The weighted sum of the gradients of the probabilities. -/
def dd (h : Fin 8) (a : ℕ) : ℝ := ∑ s : Fin 2064, if vis a (s.val + 112) then A.ex h a (s.val + 112) * A.dp h a (s.val + 112) else 0
/-- The gradient of the rotated queries. -/
def dr (h : Fin 8) (a : ℕ) (d : Fin 64) : ℝ :=
  ∑ s : Fin 2064, if vis a (s.val + 112) then grad (A.ex h a (s.val + 112)) (A.dp h a (s.val + 112)) (A.zz h a) (A.dd h a) * (1 / 8) * A.rk (grp h) (s.val + 112) d else 0
/-- The gradient of the queries. -/
def dq (h : Fin 8) (a : ℕ) : Fin 64 → ℝ := unturn rotM (co a) (si a) (A.dr h a)

/-- What the block at point `t` takes. -/
def block (t : ℕ) : Data where
  R := rotM
  cq i := co (128 * t + i.val)
  sq i := si (128 * t + i.val)
  cp i := co (128 * (t - 1) + i.val)
  sp i := si (128 * (t - 1) + i.val)
  cm i := co i.val
  sm i := si i.val
  kp b i := A.pk b (128 * (t - 1) + i.val)
  kc b i := A.pk b (128 * t + i.val)
  km b i := A.pk b i.val
  vp b i := A.pv b (128 * (t - 1) + i.val)
  vc b i := A.pv b (128 * t + i.val)
  vm b i := A.pv b i.val
  q h i := A.pq h (128 * t + i.val)
  g h i := A.pg h (128 * t + i.val)
  σ := A.σ

/-- What the block at point `t` computes is the gradient at its rows. -/
theorem block_dq (n : Fin 17) (k : Fin 8) (i : Fin 128) (d : Fin 64) : (A.block n.val).dq n k i d = A.dq k (128 * n.val + i.val) d := by
  have ek : ∀ h, (⟨4 * (k.val / 4) + (hd (rowOf k i)).val, h⟩ : Fin 8) = k := fun h => Fin.ext (by simp [hd, rowOf]; omega)
  have ei : qi (rowOf k i) = i := Fin.ext (by simp [qi, rowOf])
  have hn := n.isLt
  have hi := i.isLt
  let B := (A.block n.val).group ⟨k.val / 4, by omega⟩
  have hQ : B.Q (rowOf k i) = A.rq k (128 * n.val + i.val) := by
    simp only [Reals.Q, B, Data.group, block, ek, ei, rq]
  have hG : B.G (rowOf k i) = A.pg k (128 * n.val + i.val) := by
    simp only [Reals.G, B, Data.group, block, ek, ei]
  have hKp : ∀ j : Fin 128, B.Kp j = A.rk (grp k) (128 * (n.val - 1) + j.val) := fun j => rfl
  have hKc : ∀ j : Fin 128, B.Kc j = A.rk (grp k) (128 * n.val + j.val) := fun j => rfl
  have hKm : ∀ j : Fin 128, B.Km j = A.rk (grp k) j.val := fun j => rfl
  have ep : ∀ j : Fin 128, B.Ep n (rowOf k i) j = if okP n.val i.val j.val then A.ex k (128 * n.val + i.val) (128 * (n.val - 1) + j.val) else 0 := fun j => by
    simp only [Reals.Ep, Row.expo, Row.score, Reals.Op, hQ, hKp, ei, decide_eq_true_eq, ex]
  have ec : ∀ j : Fin 128, B.Ec n (rowOf k i) j = if okC n.val i.val j.val then A.ex k (128 * n.val + i.val) (128 * n.val + j.val) else 0 := fun j => by
    simp only [Reals.Ec, Row.expo, Row.score, Reals.Oc, hQ, hKc, ei, decide_eq_true_eq, ex]
  have em : ∀ j : Fin 128, B.Em n (rowOf k i) j = if okM n.val i.val j.val then A.ex k (128 * n.val + i.val) j.val else 0 := fun j => by
    simp only [Reals.Em, Row.expo, Row.score, Reals.Om, hQ, hKm, ei, decide_eq_true_eq, ex]
  have pp : ∀ j : Fin 128, Row.dprob B.G B.vp (rowOf k i) j = A.dp k (128 * n.val + i.val) (128 * (n.val - 1) + j.val) := fun j => by
    simp only [Row.dprob, hG]; rfl
  have pc : ∀ j : Fin 128, Row.dprob B.G B.vc (rowOf k i) j = A.dp k (128 * n.val + i.val) (128 * n.val + j.val) := fun j => by
    simp only [Row.dprob, hG]; rfl
  have pm : ∀ j : Fin 128, Row.dprob B.G B.vm (rowOf k i) j = A.dp k (128 * n.val + i.val) j.val := fun j => by
    simp only [Row.dprob, hG]; rfl
  have hZ : B.Z n (rowOf k i) = A.zz k (128 * n.val + i.val) := by
    simp only [Reals.Z, Row.total, ep, ec, em, zz]
    rw [← sum_seen n.val i.val hn hi (A.ex k (128 * n.val + i.val))]
    simp only [B, Data.group, block, ek]
  have hD : B.D n (rowOf k i) = A.dd k (128 * n.val + i.val) := by
    simp only [Reals.D, Row.weighted, ep, ec, em, pp, pc, pm, dd, ite_mul, zero_mul]
    exact sum_seen n.val i.val hn hi (fun s => A.ex k (128 * n.val + i.val) s * A.dp k (128 * n.val + i.val) s)
  have hR : B.dQ n (rowOf k i) = A.dr k (128 * n.val + i.val) := by
    funext d
    have cut : ∀ (o : Prop) [Decidable o] (e p Z D x : ℝ), grad (if o then e else 0) p Z D * (1 / 8) * x = if o then grad e p Z D * (1 / 8) * x else 0 := fun o _ e p Z D x => by
      split
      · rfl
      · simp [grad]
    simp only [Reals.dQ, Row.dquery, ep, ec, em, pp, pc, pm, hZ, hD, cut, hKp, hKc, hKm, dr]
    rw [← sum_seen n.val i.val hn hi (fun s => grad (A.ex k (128 * n.val + i.val) s) (A.dp k (128 * n.val + i.val) s) (A.zz k (128 * n.val + i.val)) (A.dd k (128 * n.val + i.val)) * (1 / 8)
      * A.rk (grp k) s d)]
    ring
  show B.dq n (rowOf k i) d = _
  simp only [Reals.dq, hR, ei, dq]
  rfl

end Args

variable (m : (ℓ : Loc nD τ sig) → Buf (Elt Ideal) ℓ) (c : Dev nD)

/-- The arguments hold these reals. -/
structure Holds (A : Args) : Prop where
  q : ∀ t e, m ((c : Thread nD τ).loc main_arg0) (ix2 t e) = (A.q t e : EReal)
  k : ∀ t e, m ((c : Thread nD τ).loc main_arg1) (ix2 t e) = (A.k t e : EReal)
  v : ∀ t e, m ((c : Thread nD τ).loc main_arg2) (ix2 t e) = (A.v t e : EReal)
  σ : ∀ h, m ((c : Thread nD τ).loc main_arg3) (ix2 0 h) = (A.σ h : EReal)
  g : ∀ t e, m ((c : Thread nD τ).loc main_arg4) (ix2 t e) = (A.g t e : EReal)

/-- The blocks at point `t` hold the reals of the rows that it takes. -/
theorem reads {A : Args} (H : Holds m c A) (t : Fin cfg0.N) :
    Reads (A.block t.val) (iblk m c 0 t) (iblk m c 1 t) (iblk m c 2 t) (iblk m c 3 t) (iblk m c 4 t) (iblk m c 5 t) (iblk m c 6 t) (iblk m c 7 t) (iblk m c 8 t) (iblk m c 9 t)
      (iblk m c 10 t) (iblk m c 11 t) (iblk m c 12 t) (iblk m c 13 t) (iblk m c 14 t) (iblk m c 15 t) where
  R e d := (blk14 m c t e d).trans (rot_entry m c e d)
  cq i d := (blk8 m c t i d).trans (cos_table m c _ d)
  sq i d := (blk9 m c t i d).trans (sin_table m c _ d)
  cp i d := (blk10 m c t i d).trans (cos_table m c _ d)
  sp i d := (blk11 m c t i d).trans (sin_table m c _ d)
  cm i d := (blk12 m c t i d).trans (cos_table m c _ d)
  sm i d := (blk13 m c t i d).trans (sin_table m c _ d)
  kp b i d := (blk1 m c t b i d).trans (k_entry m c A.k H.k b _ d)
  kc b i d := (blk2 m c t b i d).trans (k_entry m c A.k H.k b _ d)
  km b i d := (blk3 m c t b i d).trans (k_entry m c A.k H.k b _ d)
  vp b i d := (blk4 m c t b i d).trans (v_entry m c A.v H.v b _ d)
  vc b i d := (blk5 m c t b i d).trans (v_entry m c A.v H.v b _ d)
  vm b i d := (blk6 m c t b i d).trans (v_entry m c A.v H.v b _ d)
  q h i d := (blk0 m c t h i d).trans (q_entry m c A.q H.q h _ d)
  g h i d := (blk15 m c t h i d).trans (do_entry m c A.g H.g h _ d)
  σ h := ((blk7 m c t h).trans (sink_entry m c h)).trans (H.σ h)

/-- The array that the launch leaves holds the gradient. -/
theorem final_real {A : Args} (H : Holds m c A) : (dats m 0 c).arrAt 16 (cfgs 0).N = fun j : S8x2176x64.Idx => ((A.dq (j 0) (j 1).val (j 2) : ℝ) : EReal) := by
  refine (dats m 0 c).arrAt_eq_of_covers 16 _ (by decide +kernel) fun t _ y => ?_
  blk_simp
  rw [after0_16]
  have key : ∀ (k : Fin 8) (i : Fin 128) (d : Fin 64), (outsAt m c t.val t.isLt).1 (ix3 k i d) = ((A.dq k (128 * t.val + i.val) d : ℝ) : EReal) := fun k i d => by
    have en : (grid0.coords t 0 : Fin 17).val = t.val := (idx t).2.2.2.2.2.2.2.2.2.2.2.2.2.2.2.2.2
    have B : (A.block t.val).dq (grid0.coords t 0) k i d = A.dq k (128 * t.val + i.val) d := by
      have := A.block_dq (grid0.coords t 0) k i d
      rwa [en] at this
    rw [← B]
    by_cases h : t.val = 0
    · rw [outsAt_first m c t h]
      exact out_A m c t _ _ (reads m c H t) k i d
    · rw [outsAt_later m c t h]
      exact out_B m c t _ _ _ (reads m c H t) k i d
  idx_vars y
  have ix : win0_16.index t = ![0, t.val, 0] := (idx t).2.2.2.2.2.2.2.2.2.2.2.2.2.2.2.2.1
  have e0 : (((View.whole main_v68_0).slice (win0_16.rect t)).emb (ix3 y0 y1 y2) 0 : Fin 8) = y0 :=
    Fin.ext (by blk_simp; rw [ix]; simp)
  have e2 : (((View.whole main_v68_0).slice (win0_16.rect t)).emb (ix3 y0 y1 y2) 2 : Fin 64) = y2 :=
    Fin.ext (by blk_simp; rw [ix]; simp)
  have e1 : win0_16.index t 1 * 128 + y1.val = 128 * t.val + y1.val := by rw [ix]; simp; omega
  exact (key y0 y1 y2).trans (congrArg (fun x : ℝ => (x : EReal)) (by rw [e1]; exact congrArg₂ (fun h d => A.dq h (128 * t.val + y1.val) d) e0.symm e2.symm))

end Cert.AttnIdeal.Value
-- ==== Proof.AttnRefRope.lean ====
/- What the reference of the attention gradient computes on reals: the rotated queries and keys, the visible keys, the masked scores. -/
module

public import proofs.«01_k».proof.Proof.AttnSpec
public import proofs.«01_k».proof.Proof.Gen.AttnRefIdeal.Read

@[expose] public section

set_option maxRecDepth 16384

noncomputable section

namespace Cert.AttnRefIdeal.Value

open Idealize.ShloMosaic Idealize.ShloMosaic.TcCoe Idealize.SL.Sem Idealize.ShloMosaic.Tactic
open Cert.AttnRefIdeal Cert.AttnRefIdeal.Gen Cert.AttnRefIdeal.Read Cert.AttnMath
open Cert.AttnIdeal.Value (Args ang rotM cos_real sin_real)
open Cert.AttnIdeal.Cell (turn unturn)
open Cert.AttnIdeal.Value.Args (co si grp)

variable {A : Args} {x0 x4 : FVec Ideal S2064x512 .f32} {x1 x2 : FVec Ideal S2064x128 .f32} {x3 : FVec Ideal S1x8 .f32}

/-- The angle at position `t`, which is row `t + 112` of the padded sequence. -/
theorem angle (t d : ℕ) (h : d < 32) : ((t : ℝ) * rate d : ℝ) = ang (t + 112) d := by
  unfold ang; rw [Nat.mod_eq_of_lt h]; push_cast; ring

theorem angle' (t d : ℕ) (h : d < 32) : ang (t + 112) (d + 32) = ang (t + 112) d := by
  unfold ang; rw [Nat.add_mod_right]

theorem v13_eq (t : Fin 2064) (d : Fin 32) : val_main_v13 (F := Ideal) (ix2 t d) = ((Real.cos (ang (t.val + 112) d.val) : ℝ) : EReal) := by
  pointwise [val_main_v13, val_main_v12, val_main_v11, val_main_v10, val_main_v9, val_main_v8, val_main_v7, val_main_v6, val_main_v5, val_main_cst_0, val_main_v4, val_main_v3, val_main_cst, val_main_v2, val_main_v1]
  simp only [FloatOps.sitofp]
  rw [word_real _ (by omega), word_real _ (by omega), rate_host, ← EReal.coe_mul, cos_real, angle _ _ d.isLt]

theorem v15_eq (t : Fin 2064) (d : Fin 32) : val_main_v15 (F := Ideal) (ix2 t d) = ((Real.sin (ang (t.val + 112) d.val) : ℝ) : EReal) := by
  pointwise [val_main_v15, val_main_v12, val_main_v11, val_main_v10, val_main_v9, val_main_v8, val_main_v7, val_main_v6, val_main_v5, val_main_cst_0, val_main_v4, val_main_v3, val_main_cst, val_main_v2, val_main_v1]
  simp only [FloatOps.sitofp]
  rw [word_real _ (by omega), word_real _ (by omega), rate_host, ← EReal.coe_mul, sin_real, angle _ _ d.isLt]

theorem v44_eq (t : Fin 2064) (d : Fin 32) : val_main_v44 (F := Ideal) (ix2 t d) = ((Real.cos (ang (t.val + 112) d.val) : ℝ) : EReal) := by
  pointwise [val_main_v44, val_main_v43, val_main_v42, val_main_v41, val_main_v40, val_main_v39, val_main_v38, val_main_v37, val_main_v36, val_main_cst_2, val_main_v35, val_main_v34, val_main_cst_1, val_main_v33, val_main_v32]
  simp only [FloatOps.sitofp]
  rw [word_real _ (by omega), word_real _ (by omega), rate_host, ← EReal.coe_mul, cos_real, angle _ _ d.isLt]

theorem v46_eq (t : Fin 2064) (d : Fin 32) : val_main_v46 (F := Ideal) (ix2 t d) = ((Real.sin (ang (t.val + 112) d.val) : ℝ) : EReal) := by
  pointwise [val_main_v46, val_main_v43, val_main_v42, val_main_v41, val_main_v40, val_main_v39, val_main_v38, val_main_v37, val_main_v36, val_main_cst_2, val_main_v35, val_main_v34, val_main_cst_1, val_main_v33, val_main_v32]
  simp only [FloatOps.sitofp]
  rw [word_real _ (by omega), word_real _ (by omega), rate_host, ← EReal.coe_mul, sin_real, angle _ _ d.isLt]

/-- The rotation matrix on the first and on the second half. -/
theorem rot_low (x : Fin 64 → ℝ) (d : Fin 32) : ∑ e, x e * rotM e ⟨d.val, by omega⟩ = -x ⟨d.val + 32, by omega⟩ := by
  rw [Finset.sum_eq_single (⟨d.val + 32, by omega⟩ : Fin 64)]
  · simp [rotM]
  · intro e _ he
    have : e.val ≠ d.val + 32 := fun q => he (Fin.ext q)
    have : ¬e.val + 32 = d.val := by omega
    simp [rotM, *]
  · intro h; exact absurd (Finset.mem_univ _) h

theorem rot_up (x : Fin 64 → ℝ) (d : Fin 32) : ∑ e, x e * rotM e ⟨d.val + 32, by omega⟩ = x ⟨d.val, by omega⟩ := by
  rw [Finset.sum_eq_single (⟨d.val, by omega⟩ : Fin 64)]
  · have : ¬d.val = d.val + 32 + 32 := by omega
    simp [rotM, this]
  · intro e _ he
    have : e.val ≠ d.val := fun q => he (Fin.ext q)
    have : ¬e.val = d.val + 32 + 32 := by omega
    have : ¬e.val + 32 = d.val + 32 := by omega
    simp [rotM, *]
  · intro h; exact absurd (Finset.mem_univ _) h

theorem row_in {W : ℕ} (X : Fin 2064 → Fin W → ℝ) (t : Fin 2064) (e : Fin W) : padded X (t.val + 112) e = X t e := by
  unfold padded
  rw [dif_pos ⟨by omega, by omega⟩]
  exact congrArg (fun t => X t e) (Fin.ext (by simp))

/-- The rotation, half by half. -/
theorem turn_halves (x : Fin 64 → ℝ) (t : ℕ) (d : Fin 64) : turn rotM (co (t + 112)) (si (t + 112)) x d
    = if h : d.val < 32 then x d * Real.cos (ang (t + 112) d) - x ⟨d.val + 32, by omega⟩ * Real.sin (ang (t + 112) d)
      else x d * Real.cos (ang (t + 112) (d.val - 32)) + x ⟨d.val - 32, by omega⟩ * Real.sin (ang (t + 112) (d.val - 32)) := by
  unfold turn co si
  split
  · rename_i h
    rw [rot_low x ⟨d.val, h⟩]
    ring
  · rename_i h
    have e : d = ⟨(d.val - 32) + 32, by omega⟩ := Fin.ext (by simp; omega)
    have r := rot_up x ⟨d.val - 32, by omega⟩
    simp only at r
    rw [← e] at r
    have a : ang (t + 112) d.val = ang (t + 112) (d.val - 32) := by
      rw [← angle' t (d.val - 32) (by omega)]; congr 1; omega
    rw [r, a]

/-- The rotated queries. -/
theorem v30_eq (hq : ∀ t e, x0 (ix2 t e) = (A.q t e : EReal)) (t : Fin 2064) (b : Fin 2) (g : Fin 4) (d : Fin 64) :
    val_main_v30 (F := Ideal) x0 (ix4 t b g d) = (A.rq ⟨b.val * 4 + g.val, by omega⟩ (t.val + 112) d : EReal) := by
  pointwise [val_main_v30, val_main_v29, val_main_v28, val_main_v27, val_main_v26, val_main_v25, val_main_v24, val_main_v23, val_main_v22, val_main_v21, val_main_v20, val_main_v19, val_main_v18, val_main_v17, val_main_v16, val_main_v14, val_main_v0]
  unfold Args.rq
  rw [turn_halves]
  split
  · rename_i h
    simp only [hq, v13_eq, v15_eq, Args.pq, row_in, ← EReal.coe_mul, ← EReal.coe_sub]
    refine congrArg (fun x : ℝ => (x : EReal)) ?_
    congr 5; omega
  · rename_i h
    simp only [hq, v13_eq, v15_eq, Args.pq, row_in, ← EReal.coe_mul, ← EReal.coe_add]
    refine congrArg (fun x : ℝ => (x : EReal)) ?_
    congr 5 <;> omega

/-- The rotated keys. -/
theorem v60_eq (hk : ∀ t e, x1 (ix2 t e) = (A.k t e : EReal)) (t : Fin 2064) (b : Fin 2) (d : Fin 64) :
    val_main_v60 (F := Ideal) x1 (ix3 t b d) = (A.rk b (t.val + 112) d : EReal) := by
  pointwise [val_main_v60, val_main_v59, val_main_v58, val_main_v57, val_main_v56, val_main_v55, val_main_v54, val_main_v53, val_main_v52, val_main_v51, val_main_v50, val_main_v49, val_main_v48, val_main_v47, val_main_v45, val_main_v31]
  unfold Args.rk
  rw [turn_halves]
  split
  · rename_i h
    simp only [hk, v44_eq, v46_eq, Args.pk, row_in, ← EReal.coe_mul, ← EReal.coe_sub]
    refine congrArg (fun x : ℝ => (x : EReal)) ?_
    congr 5; omega
  · rename_i h
    simp only [hk, v44_eq, v46_eq, Args.pk, row_in, ← EReal.coe_mul, ← EReal.coe_add]
    refine congrArg (fun x : ℝ => (x : EReal)) ?_
    congr 5 <;> omega

theorem v61_eq (hv : ∀ t e, x2 (ix2 t e) = (A.v t e : EReal)) (t : Fin 2064) (b : Fin 2) (d : Fin 64) :
    val_main_v61 (F := Ideal) x2 (ix3 t b d) = (A.pv b (t.val + 112) d : EReal) := by
  pointwise [val_main_v61]
  rw [hv, Args.pv, row_in]

theorem v78_eq (t s : Fin 2064) : val_main_v78 (F := Ideal) (ix2 t s) = BitVec.ofBool (decide (vis (t.val + 112) (s.val + 112))) := by
  pointwise [val_main_v78, val_main_v77, val_main_v76, val_main_v75, val_main_v74, val_main_c_3, val_main_v73, val_main_v72, val_main_c, val_main_v71, val_main_v70, val_main_v69, val_main_v68, val_main_v67, val_main_v66, val_main_v65, val_main_v64, val_main_v63, val_main_v62]
  have e : (IntOp.subi (BitVec.ofNat 32 t.val) (BitVec.ofNat 32 s.val)).toInt = (t.val : ℤ) - s.val := by
    show (BitVec.ofNat 32 t.val - BitVec.ofNat 32 s.val).toInt = _
    rw [BitVec.toInt_sub, WordCmp.toInt_ofNat_of_lt (by omega), WordCmp.toInt_ofNat_of_lt (by omega), Int.bmod_eq_of_le (by omega) (by omega)]
  rw [WordCmp.cmpi_sle_ofNat (by omega) (by omega), WordCmp.cmpi_slt_eq, e, WordCmp.cmpi_slt_ofNat (by omega) (by omega), WordCmp.ori_ofBool, WordCmp.andi_ofBool]
  congr 1
  rw [Bool.eq_iff_iff]
  have e' : (128#32 : BitVec 32).toInt = 128 := by decide
  simp only [Bool.and_eq_true, Bool.or_eq_true, decide_eq_true_eq, e']
  unfold vis
  omega

end Cert.AttnRefIdeal.Value
-- ==== Proof.AttnRefSoftmax.lean ====
/- The reference's softmax and its gradient on reals. -/
module

public import proofs.«01_k».proof.Proof.AttnRefRope

@[expose] public section

set_option maxRecDepth 16384

noncomputable section

namespace Cert.AttnRefIdeal.Value

open Idealize.ShloMosaic Idealize.ShloMosaic.TcCoe Idealize.SL.Sem Idealize.ShloMosaic.Tactic
open Cert.AttnRefIdeal Cert.AttnRefIdeal.Gen Cert.AttnRefIdeal.Read Cert.AttnMath
open Cert.AttnIdeal.Value (Args ang rotM cos_real sin_real)
open Cert.AttnIdeal.Cell (turn unturn)
open Cert.AttnIdeal.Value.Args (co si grp)

variable {A : Args} {x0 x4 : FVec Ideal S2064x512 .f32} {x1 x2 : FVec Ideal S2064x128 .f32} {x3 : FVec Ideal S1x8 .f32}

/-- Head `g` of group `b`. -/
abbrev hdx (b : Fin 2) (g : Fin 4) : Fin 8 := ⟨b.val * 4 + g.val, by omega⟩

theorem grp_hdx (b : Fin 2) (g : Fin 4) : grp (hdx b g) = b := Fin.ext (by simp [grp, hdx]; omega)

/-- The masked scores. -/
theorem v83_eq (hq : ∀ t e, x0 (ix2 t e) = (A.q t e : EReal)) (hk : ∀ t e, x1 (ix2 t e) = (A.k t e : EReal)) (b : Fin 2) (g : Fin 4) (t s : Fin 2064) :
    val_main_v83_0 (F := Ideal) x0 x1 (ix4 b g t s)
      = if vis (t.val + 112) (s.val + 112) then (((∑ d, A.rq (hdx b g) (t.val + 112) d * A.rk b (s.val + 112) d) * (1 / 8) : ℝ) : EReal) else ⊥ := by
  pointwise [val_main_v83_0, val_main_v83_1, val_main_v82, val_main_v81, val_main_v80, val_main_v79, val_main_cst_4, val_main_call0_v2, val_main_call0_v0, val_main_cst_5]
  simp only [v78_eq, v60_eq hk, v30_eq hq, WordCmp.select_ofBool, Cert.AttnIdeal.Row.eighth, Cert.AttnIdeal.Row.neg_inf, ← EReal.coe_mul, ← coe_sum, decide_eq_true_eq]
  have hb : (id (constant (F := Ideal) S_ .f32 4286578688#32) ix0 : EReal) = ⊥ := Cert.AttnIdeal.Row.neg_inf
  rw [hb]
  simp only [mul_comm]

theorem v85_eq (hs : ∀ h, x3 (ix2 0 h) = (A.σ h : EReal)) (b : Fin 2) (g : Fin 4) (t : Fin 2064) : val_main_v85 (F := Ideal) x3 (ix4 b g t 0) = (A.σ (hdx b g) : EReal) := by
  pointwise [val_main_v85, val_main_v84]
  exact hs _

/-- The scores and, behind them, the sink. -/
theorem v86_low (b : Fin 2) (g : Fin 4) (t : Fin 2064) (s : Fin 2065) (h : s.val < 2064) :
    val_main_v86 (F := Ideal) x0 x1 x3 (ix4 b g t s) = val_main_v83_0 (F := Ideal) x0 x1 (ix4 b g t ⟨s.val, h⟩) := by
  pointwise [val_main_v86]
  rw [dif_pos h]

theorem v86_last (b : Fin 2) (g : Fin 4) (t : Fin 2064) (s : Fin 2065) (h : ¬s.val < 2064) :
    val_main_v86 (F := Ideal) x0 x1 x3 (ix4 b g t s) = val_main_v85 (F := Ideal) x3 (ix4 b g t 0) := by
  pointwise [val_main_v86]
  rw [dif_neg h]
  exact congrArg (fun z => val_main_v85 (F := Ideal) x3 (ix4 b g t z)) (Subsingleton.elim _ _)

theorem max_row (y : FVec Ideal S2x4x2064x2065 .f32) (z : FVec Ideal S_ .f32) (b : Fin 2) (g : Fin 4) (t : Fin 2064) :
    Host.reduce FloatOps.maximumf y z reducesTo_S2x4x2064x2065_S2x4x2064_d3 h_S_ (ix3 b g t) = (Finset.univ : Finset (Fin 2065)).fold max (z (Shape.Idx.first h_S_)) (fun s => y (ix4 b g t s)) := by
  pointwise []

/-- The maximum that the softmax takes off a row is a real. -/
theorem v94_real (hq : ∀ t e, x0 (ix2 t e) = (A.q t e : EReal)) (hk : ∀ t e, x1 (ix2 t e) = (A.k t e : EReal)) (hs : ∀ h, x3 (ix2 0 h) = (A.σ h : EReal))
    (b : Fin 2) (g : Fin 4) (t : Fin 2064) : ∃ μ : ℝ, val_main_v94 (F := Ideal) x0 x1 x3 (ix3 b g t) = (μ : EReal) := by
  have e : val_main_v94 (F := Ideal) x0 x1 x3 (ix3 b g t) = max (Ideal.ofBits .f32 0xFF800000#32) (val_main_v87 (F := Ideal) x0 x1 x3 (ix3 b g t)) := by
    rw [val_main_v94_apply, val_main_v93_apply]; rfl
  rw [e, Cert.AttnIdeal.Row.neg_inf, max_bot_left]
  unfold val_main_v87
  rw [max_row]
  have hb : val_main_cst_6 (F := Ideal) (Shape.Idx.first h_S_) = (⊥ : EReal) := Cert.AttnIdeal.Row.neg_inf
  rw [hb]
  have top : (Finset.univ : Finset (Fin 2065)).fold max (⊥ : EReal) (fun s => val_main_v86 (F := Ideal) x0 x1 x3 (ix4 b g t s)) ≠ ⊤ := by
    refine fold_max_ne_top _ _ fun s _ => ?_
    by_cases h : s.val < 2064
    · rw [v86_low b g t s h, v83_eq hq hk]
      split
      · exact EReal.coe_ne_top _
      · exact bot_ne_top
    · rw [v86_last b g t s h, v85_eq hs]
      exact EReal.coe_ne_top _
  have bot : (Finset.univ : Finset (Fin 2065)).fold max (⊥ : EReal) (fun s => val_main_v86 (F := Ideal) x0 x1 x3 (ix4 b g t s)) ≠ ⊥ := by
    have le : (A.σ (hdx b g) : EReal) ≤ (Finset.univ : Finset (Fin 2065)).fold max (⊥ : EReal) (fun s => val_main_v86 (F := Ideal) x0 x1 x3 (ix4 b g t s)) := by
      refine (Finset.le_fold_max _).2 (Or.inr ⟨⟨2064, by omega⟩, Finset.mem_univ _, ?_⟩)
      rw [v86_last b g t _ (by simp), v85_eq hs]
    exact ne_of_gt (lt_of_lt_of_le (EReal.bot_lt_coe _) le)
  exact ⟨_, (EReal.coe_toReal top bot).symm⟩

section Row

variable (A) (b : Fin 2) (g : Fin 4) (t : Fin 2064)

/-- A row's exponentials, the sink's last. -/
def ee (s : Fin 2065) : ℝ :=
  if s.val < 2064 then (if vis (t.val + 112) (s.val + 112) then A.ex (hdx b g) (t.val + 112) (s.val + 112) else 0) else Real.exp (A.σ (hdx b g))

/-- The gradients of a row's probabilities, the sink's last. -/
def pp (s : Fin 2065) : ℝ := if s.val < 2064 then A.dp (hdx b g) (t.val + 112) (s.val + 112) else 0

theorem sum_ee : ∑ s, ee A b g t s = A.zz (hdx b g) (t.val + 112) := by
  rw [Fin.sum_univ_castSucc]
  unfold ee Args.zz
  simp

theorem sum_pe : ∑ s, pp A b g t s * ee A b g t s = A.dd (hdx b g) (t.val + 112) := by
  rw [Fin.sum_univ_castSucc]
  unfold ee pp Args.dd
  simp [mul_comm]

theorem zz_pos : 0 < A.zz (hdx b g) (t.val + 112) := by
  unfold Args.zz
  refine add_pos_of_nonneg_of_pos (Finset.sum_nonneg fun s _ => ?_) (Real.exp_pos _)
  split
  · exact (Real.exp_pos _).le
  · exact le_refl _

end Row

/-- The exponentials that the reference takes, all scaled by that of the maximum. -/
theorem v107_eq (hq : ∀ t e, x0 (ix2 t e) = (A.q t e : EReal)) (hk : ∀ t e, x1 (ix2 t e) = (A.k t e : EReal)) (hs : ∀ h, x3 (ix2 0 h) = (A.σ h : EReal))
    {b : Fin 2} {g : Fin 4} {t : Fin 2064} {μ : ℝ} (hμ : val_main_v94 (F := Ideal) x0 x1 x3 (ix3 b g t) = (μ : EReal)) (s : Fin 2065) :
    val_main_v107 (F := Ideal) x0 x1 x3 (ix4 b g t s) = ((Real.exp (-μ) * ee A b g t s : ℝ) : EReal) := by
  pointwise [val_main_v107, val_main_v106, val_main_v105, val_main_v104]
  rw [hμ]
  unfold ee
  by_cases h : s.val < 2064
  · rw [v86_low b g t s h, v83_eq hq hk, if_pos h]
    split
    · rw [← EReal.coe_sub, Ideal.exp_coe, sub_eq_add_neg, Real.exp_add, mul_comm]
      unfold Args.ex
      rw [grp_hdx]
    · rw [EReal.bot_sub, Ideal.exp_bot, mul_zero, EReal.coe_zero]
  · rw [v86_last b g t s h, v85_eq hs, if_neg h, ← EReal.coe_sub, Ideal.exp_coe, sub_eq_add_neg, Real.exp_add, mul_comm]

theorem v108_eq (hq : ∀ t e, x0 (ix2 t e) = (A.q t e : EReal)) (hk : ∀ t e, x1 (ix2 t e) = (A.k t e : EReal)) (hs : ∀ h, x3 (ix2 0 h) = (A.σ h : EReal))
    {b : Fin 2} {g : Fin 4} {t : Fin 2064} {μ : ℝ} (hμ : val_main_v94 (F := Ideal) x0 x1 x3 (ix3 b g t) = (μ : EReal)) :
    val_main_v108 (F := Ideal) x0 x1 x3 (ix3 b g t) = ((Real.exp (-μ) * A.zz (hdx b g) (t.val + 112) : ℝ) : EReal) := by
  pointwise [val_main_v108, val_main_cst_14]
  simp only [v107_eq hq hk hs hμ, ← coe_sum]
  rw [← Finset.mul_sum, sum_ee]

theorem v124_eq (hv : ∀ t e, x2 (ix2 t e) = (A.v t e : EReal)) (hg : ∀ t e, x4 (ix2 t e) = (A.g t e : EReal)) (b : Fin 2) (g : Fin 4) (t : Fin 2064) (s : Fin 2065) :
    val_main_v124 (F := Ideal) x2 x4 (ix4 b g t s) = (pp A b g t s : EReal) := by
  pointwise [val_main_v124, val_main_v121, val_main_v120, val_main_v119, val_main_cst_16]
  unfold pp
  by_cases h : s.val < 2064
  · rw [dif_pos h, if_pos h]
    simp only [v61_eq hv, hg, ← EReal.coe_mul, ← coe_sum]
    refine congrArg (fun x : ℝ => (x : EReal)) ?_
    unfold Args.dp
    rw [grp_hdx]
    refine Finset.sum_congr rfl fun d _ => ?_
    rw [Args.pg, row_in]
    congr 2
    refine Fin.ext ?_
    show b.val * 256 + g.val * 64 + d.val = (b.val * 4 + g.val) * 64 + d.val
    omega
  · rw [dif_neg h, if_neg h, EReal.coe_zero]

/-- The gradient of the scores, scaled. -/
theorem v145_eq (hq : ∀ t e, x0 (ix2 t e) = (A.q t e : EReal)) (hk : ∀ t e, x1 (ix2 t e) = (A.k t e : EReal)) (hv : ∀ t e, x2 (ix2 t e) = (A.v t e : EReal))
    (hs : ∀ h, x3 (ix2 0 h) = (A.σ h : EReal)) (hg : ∀ t e, x4 (ix2 t e) = (A.g t e : EReal)) (b : Fin 2) (g : Fin 4) (t s : Fin 2064) :
    val_main_v145 (F := Ideal) x0 x1 x2 x3 x4 (ix4 b s t g)
      = ((if vis (t.val + 112) (s.val + 112) then grad (A.ex (hdx b g) (t.val + 112) (s.val + 112)) (A.dp (hdx b g) (t.val + 112) (s.val + 112)) (A.zz (hdx b g) (t.val + 112)) (A.dd (hdx b g) (t.val + 112)) * (1 / 8) else 0 : ℝ) : EReal) := by
  obtain ⟨μ, hμ⟩ := v94_real hq hk hs b g t
  have hw : Real.exp (-μ) ≠ 0 := (Real.exp_pos _).ne'
  have hZ : A.zz (hdx b g) (t.val + 112) ≠ 0 := (zz_pos A b g t).ne'
  have e133 : val_main_v133 (F := Ideal) x0 x1 x2 x3 x4 (ix3 b g t)
      = ((-(Real.exp (-μ) * A.dd (hdx b g) (t.val + 112) / ((Real.exp (-μ) * A.zz (hdx b g) (t.val + 112)) * (Real.exp (-μ) * A.zz (hdx b g) (t.val + 112)))) : ℝ) : EReal) := by
    pointwise [val_main_v133, val_main_cst_18, val_main_v130, val_main_v129, val_main_v128, val_main_v127, val_main_v126, val_main_v125, val_main_v114, val_main_v113, val_main_cst_15, val_main_v112, val_main_v109, val_main_cst_17]
    simp only [v107_eq hq hk hs hμ, v108_eq hq hk hs hμ, v124_eq hv hg, ← EReal.coe_mul]
    rw [Cert.AttnIdeal.Row.div_one _ (mul_ne_zero (mul_ne_zero hw hZ) (mul_ne_zero hw hZ))]
    simp only [← EReal.coe_mul, ← coe_sum, ← EReal.coe_neg]
    refine congrArg (fun x : ℝ => (x : EReal)) ?_
    rw [Fin.sum_univ_one, ← sum_pe, Finset.mul_sum, Finset.sum_div]
    refine congrArg (fun x : ℝ => -x) (Finset.sum_congr rfl fun s _ => ?_)
    ring
  pointwise [val_main_v145, val_main_v144, val_main_v143, val_main_cst_20, val_main_v142, val_main_v137, val_main_v136, val_main_v135, val_main_v134, val_main_v132, val_main_v131, val_main_v109, val_main_v83_1, val_main_call1_v0, val_main_call1_cst]
  simp only [v78_eq, WordCmp.select_ofBool, v107_eq hq hk hs hμ, v108_eq hq hk hs hμ, v124_eq hv hg, e133, Cert.AttnIdeal.Row.eighth, decide_eq_true_eq]
  rw [Ideal.div_coe (mul_ne_zero hw hZ)]
  by_cases h : vis (t.val + 112) (s.val + 112)
  · rw [if_pos h, if_pos h, ← EReal.coe_mul, ← EReal.coe_add, ← EReal.coe_mul, ← EReal.coe_mul]
    refine congrArg (fun x : ℝ => (x : EReal)) ?_
    unfold pp ee grad
    rw [if_pos s.isLt, if_pos s.isLt, if_pos h]
    field_simp
    ring
  · rw [if_neg h, if_neg h, EReal.coe_zero]

end Cert.AttnRefIdeal.Value
-- ==== Proof.AttnRefValue.lean ====
/- The reference's result: the gradient of the queries, head by head, behind rows of zeros. -/
module

public import proofs.«01_k».proof.Proof.AttnRefSoftmax

@[expose] public section

set_option maxRecDepth 16384

noncomputable section

namespace Cert.AttnRefIdeal.Value

open Idealize.ShloMosaic Idealize.ShloMosaic.TcCoe Idealize.SL.Sem Idealize.ShloMosaic.Tactic
open Cert.AttnRefIdeal Cert.AttnRefIdeal.Gen Cert.AttnRefIdeal.Read Cert.AttnMath
open Cert.AttnIdeal.Value (Args ang rotM cos_real sin_real)
open Cert.AttnIdeal.Cell (turn unturn)
open Cert.AttnIdeal.Value.Args (co si grp)

variable {A : Args} {x0 x4 : FVec Ideal S2064x512 .f32} {x1 x2 : FVec Ideal S2064x128 .f32} {x3 : FVec Ideal S1x8 .f32}

/-- The rotation matrix's rows on the first and on the second half. -/
theorem rotT_low (y : Fin 64 → ℝ) (d : Fin 32) : ∑ e, y e * rotM ⟨d.val, by omega⟩ e = y ⟨d.val + 32, by omega⟩ := by
  rw [Finset.sum_eq_single (⟨d.val + 32, by omega⟩ : Fin 64)]
  · have : ¬d.val = d.val + 32 + 32 := by omega
    simp [rotM, this]
  · intro e _ he
    have : ¬d.val + 32 = e.val := fun q => he (Fin.ext q.symm)
    have : ¬d.val = e.val + 32 := by omega
    simp [rotM, *]
  · intro h; exact absurd (Finset.mem_univ _) h

theorem rotT_up (y : Fin 64 → ℝ) (d : Fin 32) : ∑ e, y e * rotM ⟨d.val + 32, by omega⟩ e = -y ⟨d.val, by omega⟩ := by
  rw [Finset.sum_eq_single (⟨d.val, by omega⟩ : Fin 64)]
  · simp [rotM]
  · intro e _ he
    have : ¬d.val = e.val := fun q => he (Fin.ext q.symm)
    have : ¬d.val + 32 + 32 = e.val := by omega
    simp [rotM, *]
  · intro h; exact absurd (Finset.mem_univ _) h

/-- The rotation's adjoint, half by half. -/
theorem unturn_halves (x : Fin 64 → ℝ) (t : ℕ) (d : Fin 64) : unturn rotM (co (t + 112)) (si (t + 112)) x d
    = if h : d.val < 32 then x ⟨d.val + 32, by omega⟩ * Real.sin (ang (t + 112) d) + x d * Real.cos (ang (t + 112) d)
      else x d * Real.cos (ang (t + 112) (d.val - 32)) + -x ⟨d.val - 32, by omega⟩ * Real.sin (ang (t + 112) (d.val - 32)) := by
  unfold unturn co si
  split
  · rename_i h
    rw [rotT_low (fun e => x e * Real.sin (ang (t + 112) e)) ⟨d.val, h⟩]
    simp only
    rw [angle' t d.val h]
  · rename_i h
    have e : d = ⟨(d.val - 32) + 32, by omega⟩ := Fin.ext (by simp; omega)
    have r := rotT_up (fun e => x e * Real.sin (ang (t + 112) e)) ⟨d.val - 32, by omega⟩
    simp only at r
    rw [← e] at r
    have a : ang (t + 112) d.val = ang (t + 112) (d.val - 32) := by
      rw [← angle' t (d.val - 32) (by omega)]; congr 1; omega
    rw [r, a]
    ring

/-- The gradient of the rotated queries. -/
theorem v147_eq (hq : ∀ t e, x0 (ix2 t e) = (A.q t e : EReal)) (hk : ∀ t e, x1 (ix2 t e) = (A.k t e : EReal)) (hv : ∀ t e, x2 (ix2 t e) = (A.v t e : EReal))
    (hs : ∀ h, x3 (ix2 0 h) = (A.σ h : EReal)) (hg : ∀ t e, x4 (ix2 t e) = (A.g t e : EReal)) (b : Fin 2) (g : Fin 4) (t : Fin 2064) (d : Fin 64) :
    val_main_v147 (F := Ideal) x0 x1 x2 x3 x4 (ix4 t b g d) = (A.dr (hdx b g) (t.val + 112) d : EReal) := by
  pointwise [val_main_v147, val_main_v146]
  simp only [v145_eq hq hk hv hs hg, v60_eq hk, ← EReal.coe_mul, ← coe_sum, ite_mul, zero_mul]
  unfold Args.dr
  rw [grp_hdx]

/-- The gradient of the queries. -/
theorem v184_eq (hq : ∀ t e, x0 (ix2 t e) = (A.q t e : EReal)) (hk : ∀ t e, x1 (ix2 t e) = (A.k t e : EReal)) (hv : ∀ t e, x2 (ix2 t e) = (A.v t e : EReal))
    (hs : ∀ h, x3 (ix2 0 h) = (A.σ h : EReal)) (hg : ∀ t e, x4 (ix2 t e) = (A.g t e : EReal)) (h : Fin 8) (t : Fin 2064) (d : Fin 64) :
    val_main_v184 (F := Ideal) x0 x1 x2 x3 x4 (ix3 t h d) = (A.dq h (t.val + 112) d : EReal) := by
  have e168 : ∀ d : Fin 64, val_main_v168 (F := Ideal) x0 x1 x2 x3 x4 (ix3 t h d) = (A.dr h (t.val + 112) d : EReal) := fun d => by
    pointwise [val_main_v168]
    rw [← show hdx ⟨h.val / 4, by omega⟩ ⟨h.val % 4, by omega⟩ = h from Fin.ext (by simp [hdx]; omega)]
    refine Eq.trans ?_ (v147_eq hq hk hv hs hg _ _ t d)
    congr 2 <;> exact Fin.ext (by simp [hdx] <;> omega)
  unfold Args.dq
  rw [unturn_halves]
  pointwise [val_main_v184, val_main_v183, val_main_v182, val_main_cst_23, val_main_cst_24, val_main_v181, val_main_v180, val_main_v179, val_main_v178, val_main_v177, val_main_v176, val_main_v175, val_main_v174, val_main_v173, val_main_v172, val_main_v171, val_main_v170, val_main_v169, val_main_v14, val_main_v16]
  simp only [e168, v13_eq, v15_eq]
  split
  · rename_i q
    rw [dif_neg (by omega), dif_neg (by omega), add_zero, show (⟨32 + (d.val - 32), by omega⟩ : Fin 64) = d from Fin.ext (by simp; omega)]
    push_cast
    rfl
  · rename_i q
    rw [dif_pos (by omega), dif_pos (by omega), zero_add, show (⟨32 + d.val, by omega⟩ : Fin 64) = ⟨d.val + 32, by omega⟩ from Fin.ext (by simp; omega)]
    push_cast
    rfl

/-- A row of the leading zeros has no gradient. -/
theorem dq_zero (A : Args) (h : Fin 8) (a : ℕ) (d : Fin 64) (q : a < 112) : A.dq h a d = 0 := by
  have e1 : ∀ s, A.dp h a s = 0 := fun s => by
    unfold Args.dp Args.pg padded
    refine Finset.sum_eq_zero fun e _ => ?_
    rw [dif_neg (by omega), zero_mul]
  have e2 : A.dd h a = 0 := by
    unfold Args.dd
    refine Finset.sum_eq_zero fun s _ => ?_
    rw [e1, mul_zero, ite_self]
  have e3 : ∀ e, A.dr h a e = 0 := fun e => by
    unfold Args.dr
    refine Finset.sum_eq_zero fun s _ => ?_
    rw [e1, e2]; simp [grad]
  unfold Args.dq unturn
  simp [e3]

/-- The whole result. -/
theorem result (hq : ∀ t e, x0 (ix2 t e) = (A.q t e : EReal)) (hk : ∀ t e, x1 (ix2 t e) = (A.k t e : EReal)) (hv : ∀ t e, x2 (ix2 t e) = (A.v t e : EReal))
    (hs : ∀ h, x3 (ix2 0 h) = (A.σ h : EReal)) (hg : ∀ t e, x4 (ix2 t e) = (A.g t e : EReal)) (h : Fin 8) (a : Fin 2176) (d : Fin 64) :
    val_main_v189 (F := Ideal) x0 x1 x2 x3 x4 (ix3 h a d) = (A.dq h a.val d : EReal) := by
  pointwise [val_main_v189, val_main_v188, val_main_cst_25, val_main_v187, val_main_v186, val_main_v185]
  split
  · rename_i q
    rw [dq_zero A h a.val d q, EReal.coe_zero]
  · rename_i q
    rw [v184_eq hq hk hv hs hg]
    congr 2
    simp; omega

end Cert.AttnRefIdeal.Value
-- ==== Proof.Attn.lean ====
/- The attention's gradient: on finite arguments the kernel's array of query gradients is the reference's. -/
module

public import proofs.«01_k».proof.Defs
public import proofs.«01_k».proof.Proof.AttnRefValue
public import proofs.«01_k».proof.Proof.Gen.AttnRefIdeal.Run
public import proofs.«01_k».proof.Proof.Gen.Pre_attn_finite
public import Idealize.ShloMosaic.Adequacy
public import Idealize.ShloMosaic.Init

@[expose] public section

set_option maxRecDepth 16384

noncomputable section

namespace Cert.AttnIdeal.Value

open Idealize.ShloMosaic Idealize.ShloMosaic.TcCoe Idealize.SL.Sem Idealize.ShloMosaic.Tactic
open Cert.AttnIdeal Cert.AttnIdeal.Gen Cert.AttnMath

/-- A number whose magnitude compares below infinity is real. -/
theorem real_of_lt {x : EReal} (h : BitVec.ofBool (decide ((FloatOps.absf (F := Ideal) (φ := FTy.f32) x : EReal) < Ideal.ofBits .f32 0x7F800000#32)) = 1#1) : x = ((x.toReal : ℝ) : EReal) := by
  have e : Ideal.ofBits .f32 0x7F800000#32 = ⊤ := by simp [Ideal.ofBits, Ideal.ieee]
  rw [e] at h
  have h2 : (FloatOps.absf (F := Ideal) (φ := FTy.f32) x : EReal) < ⊤ := by
    by_contra q; rw [decide_eq_false q] at h; exact absurd h (by decide)
  induction x using EReal.rec with
  | bot => rw [Ideal.absf_def] at h2; exact absurd h2 (by simp)
  | top => rw [Ideal.absf_def] at h2; exact absurd h2 (by simp)
  | coe y => simp

variable (m : (ℓ : Loc nD τ sig) → Buf (Elt Ideal) ℓ) (c : Dev nD)

instance : Cert.Pre_attn_finite.Facts := Cert.Pre_attn_finite.Gen.facts

/-- The real arguments of device `c`. -/
def theArgs : Args where
  q t e := (m ((c : Thread nD τ).loc main_arg0) (ix2 t e) : EReal).toReal
  k t e := (m ((c : Thread nD τ).loc main_arg1) (ix2 t e) : EReal).toReal
  v t e := (m ((c : Thread nD τ).loc main_arg2) (ix2 t e) : EReal).toReal
  σ h := (m ((c : Thread nD τ).loc main_arg3) (ix2 0 h) : EReal).toReal
  g t e := (m ((c : Thread nD τ).loc main_arg4) (ix2 t e) : EReal).toReal

/-- The precondition says that they are the arguments. -/
theorem holds (h : Cert.Pre_AttnIdeal_attn_finite m) : Holds m c (theArgs m c) where
  q t e := by
    have := congrFun (h c).1 (ix2 t e)
    pointwise [Cert.Pre_attn_finite.fn] at this
    exact real_of_lt this
  k t e := by
    have := congrFun (h c).2.1 (ix2 t e)
    pointwise [Cert.Pre_attn_finite.fn] at this
    exact real_of_lt this
  v t e := by
    have := congrFun (h c).2.2.1 (ix2 t e)
    pointwise [Cert.Pre_attn_finite.fn] at this
    exact real_of_lt this
  σ e := by
    have := congrFun (h c).2.2.2.1 (ix2 0 e)
    pointwise [Cert.Pre_attn_finite.fn] at this
    exact real_of_lt this
  g t e := by
    have := congrFun (h c).2.2.2.2 (ix2 t e)
    pointwise [Cert.Pre_attn_finite.fn] at this
    exact real_of_lt this

/-- The reference's result on the kernel's arguments is the kernel's array. -/
theorem final (h : Cert.Pre_AttnIdeal_attn_finite m) : (dats m 0 c).arrAt 16 (cfgs 0).N
    = Cert.AttnRefIdeal.Read.val_main_v189 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have H := holds m c h
  rw [final_real m c H]
  funext j
  idx_vars j
  exact (Cert.AttnRefIdeal.Value.result H.q H.k H.v H.σ H.g j0 j1 j2).symm

set_option maxHeartbeats 1000000 in
/-- The reference's run, its result named. -/
theorem ref_run (m : (ℓ : Loc Cert.AttnRefIdeal.nD Cert.AttnRefIdeal.τ Cert.AttnRefIdeal.sig) → Buf (Elt Ideal) ℓ) (ρ : Dev Cert.AttnRefIdeal.nD → PrngReg) :
    θ_run (Cert.AttnRefIdeal.defs (F := Ideal)) (onTc (τ := Cert.AttnRefIdeal.τ) (Cert.AttnRefIdeal.main (F := Ideal))) ⟨m, fun _ => 0, ρ⟩ fun r => ∀ c : Dev Cert.AttnRefIdeal.nD,
      r.2.mem ((c.tc : Thread Cert.AttnRefIdeal.nD Cert.AttnRefIdeal.τ).loc Cert.AttnRefIdeal.main_v189)
        = Cert.AttnRefIdeal.Read.val_main_v189 (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))
      ∧ r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4) :=
  (θ_run _ _ _).mono (fun _ h c => ⟨(h c).1.trans (Cert.AttnRefIdeal.Read.val_main_v189_eq (StableHlo.launchContents m c)), (h c).2⟩) (Cert.AttnRefIdeal.Value.run m ρ)

/-- The kernel and the reference end with equal results. -/
theorem algebraic : Cert.algebraic_AttnIdeal_AttnRefIdeal_pre_attn_finite := by
  intro m g m' g' h e
  refine ⟨fun c => (dats m 0 c).arrAt 16 cfg0.N, ?_, ?_⟩
  · exact (θ_run _ _ _).mono (fun r h c => ⟨(h.2 c).1 16, h.1 c⟩) (θ_run_and (unchanged m g) (run_main m g))
  · refine (θ_run _ _ _).mono (fun r k c => ⟨(k c).1.trans ?_, (k c).2⟩) (ref_run m' g')
    rw [(e c).1, (e c).2.1, (e c).2.2.1, (e c).2.2.2.1, (e c).2.2.2.2]
    exact (final m c h).symm

end Cert.AttnIdeal.Value

end
-- ==== Proof.UpDw.lean ====
/- The gradient of the feed-forward block's first weight, each chip's block of columns at its own grid point. -/
module

public import proofs.«01_k».proof.Proof.Gen.UpDwIdeal.Frame
public import proofs.«01_k».proof.Proof.Gen.UpDwRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.UpDwIdeal.Value

open Cert.UpDwIdeal Cert.UpDwIdeal.Gen
open Cert.UpDwRefIdeal.Read

variable (m : (ℓ : Loc nD τ sig) → Buf (Elt Ideal) ℓ)

/-- The blocks that grid point `t` stages: all of the input, column block `t` of the cotangent, slab `t` of the result. -/
theorem idx : ∀ t : Fin cfg0.N, win0_0.index t = ![0, 0] ∧ win0_1.index t = ![0, t.val] ∧ win0_2.index t = ![t.val, 0, 0] :=
  (by decide +kernel : ∀ t : Fin grid0.N, _)

/-- The reference: at slab `a`, row `i`, column `k`, the sum over the tokens of the input at `i` times the cotangent at column `1408 a + k`. -/
abbrev ref (x : FVec Ideal S2064x1024 .bf16) (y : FVec Ideal S2064x5632 .bf16) : FVec Ideal S4x1024x1408 .f32 :=
  val_main_v7 (F := Ideal) x y

/-- What one point stores is the reference at the place it is written to. -/
theorem point (c : Dev nD) (t : Fin cfg0.N) (y) : k0_pay1 (iblk m c 0 t) (iblk m c 1 t) y
    = ref (m ((c : Thread nD τ).loc main_arg0)) (m ((c : Thread nD τ).loc main_arg1)) (((cfg0.win 2).blk t).view.emb y) := by
  simp only [ref, val_main_v7, val_main_v6, val_main_v5, val_main_v4, val_main_v3, val_main_v1]
  pointwise [k0_pay1]
  rw [Finset.sum_congr rfl fun k _ => mul_comm _ _]
  blk_point [iblk, V, idx t]

/-- The kernel's result array is the reference's. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.UpDwIdeal.Value

end
-- ==== Proof.UpDx.lean ====
/- The gradient of what the feed-forward block's first weight multiplies, accumulated over the chips' blocks of columns. -/
module

public import proofs.«01_k».proof.Proof.Gen.UpDxIdeal.Frame
public import proofs.«01_k».proof.Proof.Gen.UpDxRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.UpDxIdeal.Value

open Cert.UpDxIdeal Cert.UpDxIdeal.Gen
open Cert.UpDxRefIdeal.Read

variable (m : (ℓ : Loc nD τ sig) → Buf (Elt Ideal) ℓ)

/-- The blocks that grid point `t` stages: column block `t` of the cotangent, the weight's block `t`, all of the result. -/
theorem idx : ∀ t : Fin cfg0.N, win0_0.index t = ![0, t.val] ∧ win0_1.index t = ![t.val, 0, 0, 0] ∧ win0_2.index t = ![0, 0] :=
  (by decide +kernel : ∀ t : Fin grid0.N, _)

/-- The reference: at token `i`, row `k`, the sum over all 5632 columns of the cotangent at `i` times the whole weight at row `k`. -/
abbrev ref (dy : FVec Ideal S2064x5632 .bf16) (w : FVec Ideal S4x1x1024x1408 .bf16) : FVec Ideal S2064x1024 .f32 :=
  val_main_v7 (F := Ideal) dy w

/-- The reference read at an index, the weight's column `l` found in block `l / 1408` at `l % 1408`. -/
theorem href (dy : FVec Ideal S2064x5632 .bf16) (w : FVec Ideal S4x1x1024x1408 .bf16) (j : S2064x1024.Idx) :
    ref dy w j = ∑ l : Fin 5632, dy (ix2 (j 0) l) * w (ix4 ⟨l.val / 1408, by omega⟩ 0 (j 1) ⟨l.val % 1408, by omega⟩) := by
  simp only [ref, val_main_v7, val_main_v6, val_main_v4, val_main_v2, val_main_v1, val_main_v0]
  pointwise []

/-- The first point clears the accumulator. -/
theorem hzero (j) : k0_pay1 (F := Ideal) j = 0 := by pointwise [k0_pay1]

/-- Every point adds its block's share of the sum to the accumulator. -/
theorem hpay (acc : FVec Ideal S2064x1024 .f32) (x : FVec Ideal S2064x1408 .bf16) (w : FVec Ideal S1x1x1024x1408 .bf16) (j : S2064x1024.Idx) :
    k0_pay2 acc x w j = acc j + ∑ k : Fin 1408, x (ix2 (j 0) k) * w (ix4 0 0 (j 1) k) := by pointwise [k0_pay2]

/-- What the accumulator holds after the last point: the four blocks' shares. -/
theorem acc_last (c : Dev nD) (t : Fin cfg0.N) (ht : t.val % 4 = 3) (j : S2064x1024.Idx) :
    (outsAt0 m c t.val t.isLt).2 j = ref (m ((c : Thread nD τ).loc main_arg0)) (m ((c : Thread nD τ).loc main_arg1)) j := by
  rw [Pipeline.eq_sum_fin_of_reset_step_apply_of_flush (fun n h => (outsAt0 m c n h).2) 4 (fun _ => 0) _
    (fun t h j => by rw [outsAt0_A m c t h (by omega)]; frame_out; rw [hpay, hzero])
    (fun t h j => by
      by_cases h1 : t.val % 4 = 3
      · rw [outsAt0_C m c t h h1]; frame_out; rw [hpay, (Memref.isWhole_whole _).read_unread]
      · rw [outsAt0_B m c t h h1]; frame_out; rw [hpay, (Memref.isWhole_whole _).read_unread])
    t ht j, zero_add, href]
  refine Fin.sum_mul_add_congr fun s k hl => ?_
  have e1 : (s.val * 1408 + k.val) / 1408 = s.val := by omega
  have e2 : (s.val * 1408 + k.val) % 1408 = k.val := by omega
  have hN : t.val < 4 := lt_of_lt_of_eq t.isLt N_0
  have e3 : 4 * (t.val / 4) + s.val = s.val := by omega
  simp only [e1, e2]
  blk_point [iblk, V, idx ⟨_, Pipeline.run_point_lt_of_flush t ht s⟩]

/-- The kernel's result array is the reference's. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2, show (outsAt0 m c t.val t.isLt).1 = (outsAt0 m c t.val t.isLt).2 by
    rw [outsAt0_C m c t (by omega) ht]; funext i; frame_out, acc_last m c t ht]
  blk_point [idx t]

end Cert.UpDxIdeal.Value

end
-- ==== Proof.DownDw.lean ====
/- The gradient of the feed-forward block's second weight, half of its rows at each grid point. -/
module

public import proofs.«01_k».proof.Proof.Gen.DownDwIdeal.Frame
public import proofs.«01_k».proof.Proof.Gen.DownDwRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DownDwIdeal.Value

open Cert.DownDwIdeal Cert.DownDwIdeal.Gen
open Cert.DownDwRefIdeal.Read

variable (m : (ℓ : Loc nD τ sig) → Buf (Elt Ideal) ℓ)

/-- The blocks that grid point `t` stages: column block `t` of the input, all of the cotangent, row block `t` of the result. -/
theorem idx : ∀ t : Fin cfg0.N, win0_0.index t = ![0, t.val] ∧ win0_1.index t = ![0, 0] ∧ win0_2.index t = ![t.val, 0] :=
  (by decide +kernel : ∀ t : Fin grid0.N, _)

/-- The reference: at row `i`, column `k`, the sum over the tokens of the input at `i` times the cotangent at `k`. -/
abbrev ref (x : FVec Ideal S2064x2816 .bf16) (y : FVec Ideal S2064x1024 .f32) : FVec Ideal S2816x1024 .f32 :=
  val_main_v4 (F := Ideal) x y

/-- What one point stores is the reference at the place it is written to. -/
theorem point (c : Dev nD) (t : Fin cfg0.N) (y) : k0_pay1 (iblk m c 0 t) (iblk m c 1 t) y
    = ref (m ((c : Thread nD τ).loc main_arg0)) (m ((c : Thread nD τ).loc main_arg1)) (((cfg0.win 2).blk t).view.emb y) := by
  simp only [ref, val_main_v4, val_main_v3, val_main_v1]
  pointwise [k0_pay1]
  rw [Finset.sum_congr rfl fun k _ => mul_comm _ _]
  blk_point [iblk, V, idx t]

/-- The kernel's result array is the reference's. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.DownDwIdeal.Value

end
-- ==== Proof.DownDx.lean ====
/- The gradient of what the feed-forward block's second weight multiplies, half of its columns at each grid point. -/
module

public import proofs.«01_k».proof.Proof.Gen.DownDxIdeal.Frame
public import proofs.«01_k».proof.Proof.Gen.DownDxRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DownDxIdeal.Value

open Cert.DownDxIdeal Cert.DownDxIdeal.Gen
open Cert.DownDxRefIdeal.Read

variable (m : (ℓ : Loc nD τ sig) → Buf (Elt Ideal) ℓ)

/-- The blocks that grid point `t` stages: all of the cotangent, row block `t` of the weight, column block `t` of the result. -/
theorem idx : ∀ t : Fin cfg0.N, win0_0.index t = ![0, 0] ∧ win0_1.index t = ![0, t.val, 0] ∧ win0_2.index t = ![0, t.val] :=
  (by decide +kernel : ∀ t : Fin grid0.N, _)

/-- The reference: at token `i`, column `k`, the sum over the features of the cotangent at `i` times row `k` of the weight. -/
abbrev ref (x : FVec Ideal S2064x1024 .f32) (y : FVec Ideal S1x2816x1024 .bf16) : FVec Ideal S2064x2816 .f32 :=
  val_main_v4 (F := Ideal) x y

/-- What one point stores is the reference at the place it is written to. -/
theorem point (c : Dev nD) (t : Fin cfg0.N) (y) : k0_pay1 (iblk m c 0 t) (iblk m c 1 t) y
    = ref (m ((c : Thread nD τ).loc main_arg0)) (m ((c : Thread nD τ).loc main_arg1)) (((cfg0.win 2).blk t).view.emb y) := by
  simp only [ref, val_main_v4, val_main_v2, val_main_v0]
  pointwise [k0_pay1]
  blk_point [iblk, V, idx t]

/-- The kernel's result array is the reference's. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.DownDxIdeal.Value

end
-- ==== Proof.InDw.lean ====
/- The gradient of a mixer's input projection, each chip's block of columns at its own grid point. -/
module

public import proofs.«01_k».proof.Proof.Gen.InDwIdeal.Frame
public import proofs.«01_k».proof.Proof.Gen.InDwRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InDwIdeal.Value

open Cert.InDwIdeal Cert.InDwIdeal.Gen
open Cert.InDwRefIdeal.Read

variable (m : (ℓ : Loc nD τ sig) → Buf (Elt Ideal) ℓ)

/-- The blocks that grid point `t` stages: all of the input, column block `t` of the cotangent, slab `t` of the result. -/
theorem idx : ∀ t : Fin cfg0.N, win0_0.index t = ![0, 0] ∧ win0_1.index t = ![0, t.val] ∧ win0_2.index t = ![t.val, 0, 0] :=
  (by decide +kernel : ∀ t : Fin grid0.N, _)

/-- The reference: at slab `a`, row `i`, column `k`, the sum over the tokens of the input at `i` times the cotangent at column `640 a + k`. -/
abbrev ref (x : FVec Ideal S2064x1024 .bf16) (y : FVec Ideal S2064x2560 .bf16) : FVec Ideal S4x1024x640 .f32 :=
  val_main_v7 (F := Ideal) x y

/-- What one point stores is the reference at the place it is written to. -/
theorem point (c : Dev nD) (t : Fin cfg0.N) (y) : k0_pay1 (iblk m c 0 t) (iblk m c 1 t) y
    = ref (m ((c : Thread nD τ).loc main_arg0)) (m ((c : Thread nD τ).loc main_arg1)) (((cfg0.win 2).blk t).view.emb y) := by
  simp only [ref, val_main_v7, val_main_v6, val_main_v5, val_main_v4, val_main_v3, val_main_v1]
  pointwise [k0_pay1]
  rw [Finset.sum_congr rfl fun k _ => mul_comm _ _]
  blk_point [iblk, V, idx t]

/-- The kernel's result array is the reference's. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.InDwIdeal.Value

end
-- ==== Proof.InDx.lean ====
/- The gradient of what a mixer's input projection multiplies, accumulated over the chips' blocks of columns. -/
module

public import proofs.«01_k».proof.Proof.Gen.InDxIdeal.Frame
public import proofs.«01_k».proof.Proof.Gen.InDxRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InDxIdeal.Value

open Cert.InDxIdeal Cert.InDxIdeal.Gen
open Cert.InDxRefIdeal.Read

variable (m : (ℓ : Loc nD τ sig) → Buf (Elt Ideal) ℓ)

/-- The blocks that grid point `t` stages: column block `t` of the cotangent, the weight's block `t`, all of the result. -/
theorem idx : ∀ t : Fin cfg0.N, win0_0.index t = ![0, t.val] ∧ win0_1.index t = ![t.val, 0, 0, 0] ∧ win0_2.index t = ![0, 0] :=
  (by decide +kernel : ∀ t : Fin grid0.N, _)

/-- The reference: at token `i`, row `k`, the sum over all 2560 columns of the cotangent at `i` times the whole weight at row `k`. -/
abbrev ref (dy : FVec Ideal S2064x2560 .bf16) (w : FVec Ideal S4x1x1024x640 .bf16) : FVec Ideal S2064x1024 .f32 :=
  val_main_v7 (F := Ideal) dy w

/-- The reference read at an index, the weight's column `l` found in block `l / 640` at `l % 640`. -/
theorem href (dy : FVec Ideal S2064x2560 .bf16) (w : FVec Ideal S4x1x1024x640 .bf16) (j : S2064x1024.Idx) :
    ref dy w j = ∑ l : Fin 2560, dy (ix2 (j 0) l) * w (ix4 ⟨l.val / 640, by omega⟩ 0 (j 1) ⟨l.val % 640, by omega⟩) := by
  simp only [ref, val_main_v7, val_main_v6, val_main_v4, val_main_v2, val_main_v1, val_main_v0]
  pointwise []

/-- The first point clears the accumulator. -/
theorem hzero (j) : k0_pay1 (F := Ideal) j = 0 := by pointwise [k0_pay1]

/-- Every point adds its block's share of the sum to the accumulator. -/
theorem hpay (acc : FVec Ideal S2064x1024 .f32) (x : FVec Ideal S2064x640 .bf16) (w : FVec Ideal S1x1x1024x640 .bf16) (j : S2064x1024.Idx) :
    k0_pay2 acc x w j = acc j + ∑ k : Fin 640, x (ix2 (j 0) k) * w (ix4 0 0 (j 1) k) := by pointwise [k0_pay2]

/-- What the accumulator holds after the last point: the four blocks' shares. -/
theorem acc_last (c : Dev nD) (t : Fin cfg0.N) (ht : t.val % 4 = 3) (j : S2064x1024.Idx) :
    (outsAt0 m c t.val t.isLt).2 j = ref (m ((c : Thread nD τ).loc main_arg0)) (m ((c : Thread nD τ).loc main_arg1)) j := by
  rw [Pipeline.eq_sum_fin_of_reset_step_apply_of_flush (fun n h => (outsAt0 m c n h).2) 4 (fun _ => 0) _
    (fun t h j => by rw [outsAt0_A m c t h (by omega)]; frame_out; rw [hpay, hzero])
    (fun t h j => by
      by_cases h1 : t.val % 4 = 3
      · rw [outsAt0_C m c t h h1]; frame_out; rw [hpay, (Memref.isWhole_whole _).read_unread]
      · rw [outsAt0_B m c t h h1]; frame_out; rw [hpay, (Memref.isWhole_whole _).read_unread])
    t ht j, zero_add, href]
  refine Fin.sum_mul_add_congr fun s k hl => ?_
  have e1 : (s.val * 640 + k.val) / 640 = s.val := by omega
  have e2 : (s.val * 640 + k.val) % 640 = k.val := by omega
  have hN : t.val < 4 := lt_of_lt_of_eq t.isLt N_0
  have e3 : 4 * (t.val / 4) + s.val = s.val := by omega
  simp only [e1, e2]
  blk_point [iblk, V, idx ⟨_, Pipeline.run_point_lt_of_flush t ht s⟩]

/-- The kernel's result array is the reference's. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2, show (outsAt0 m c t.val t.isLt).1 = (outsAt0 m c t.val t.isLt).2 by
    rw [outsAt0_C m c t (by omega) ht]; funext i; frame_out, acc_last m c t ht]
  blk_point [idx t]

end Cert.InDxIdeal.Value

end
-- ==== Proof.OutDw.lean ====
/- The gradient of a mixer's output projection, half of its rows at each grid point. -/
module

public import proofs.«01_k».proof.Proof.Gen.OutDwIdeal.Frame
public import proofs.«01_k».proof.Proof.Gen.OutDwRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutDwIdeal.Value

open Cert.OutDwIdeal Cert.OutDwIdeal.Gen
open Cert.OutDwRefIdeal.Read

variable (m : (ℓ : Loc nD τ sig) → Buf (Elt Ideal) ℓ)

/-- The blocks that grid point `t` stages: column block `t` of the input, all of the cotangent, row block `t` of the result. -/
theorem idx : ∀ t : Fin cfg0.N, win0_0.index t = ![0, t.val] ∧ win0_1.index t = ![0, 0] ∧ win0_2.index t = ![t.val, 0] :=
  (by decide +kernel : ∀ t : Fin grid0.N, _)

/-- The reference: at row `i`, column `k`, the sum over the tokens of the input at `i` times the cotangent at `k`. -/
abbrev ref (x : FVec Ideal S2064x1024 .bf16) (y : FVec Ideal S2064x1024 .f32) : FVec Ideal S1024x1024 .f32 :=
  val_main_v4 (F := Ideal) x y

/-- What one point stores is the reference at the place it is written to. -/
theorem point (c : Dev nD) (t : Fin cfg0.N) (y) : k0_pay1 (iblk m c 0 t) (iblk m c 1 t) y
    = ref (m ((c : Thread nD τ).loc main_arg0)) (m ((c : Thread nD τ).loc main_arg1)) (((cfg0.win 2).blk t).view.emb y) := by
  simp only [ref, val_main_v4, val_main_v3, val_main_v1]
  pointwise [k0_pay1]
  rw [Finset.sum_congr rfl fun k _ => mul_comm _ _]
  blk_point [iblk, V, idx t]

/-- The kernel's result array is the reference's. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.OutDwIdeal.Value

end
-- ==== Proof.OutDx.lean ====
/- The gradient of what a mixer's output projection multiplies, in one grid point. -/
module

public import proofs.«01_k».proof.Proof.Gen.OutDxIdeal.Frame
public import proofs.«01_k».proof.Proof.Gen.OutDxRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutDxIdeal.Value

open Cert.OutDxIdeal Cert.OutDxIdeal.Gen
open Cert.OutDxRefIdeal.Read

variable (m : (ℓ : Loc nD τ sig) → Buf (Elt Ideal) ℓ)

/-- The blocks that grid point `t` stages: all of the cotangent, row block `t` of the weight, column block `t` of the result. -/
theorem idx : ∀ t : Fin cfg0.N, win0_0.index t = ![0, 0] ∧ win0_1.index t = ![0, t.val, 0] ∧ win0_2.index t = ![0, t.val] :=
  (by decide +kernel : ∀ t : Fin grid0.N, _)

/-- The reference: at token `i`, column `k`, the sum over the features of the cotangent at `i` times row `k` of the weight. -/
abbrev ref (x : FVec Ideal S2064x1024 .f32) (y : FVec Ideal S1x1024x1024 .bf16) : FVec Ideal S2064x1024 .f32 :=
  val_main_v4 (F := Ideal) x y

/-- What one point stores is the reference at the place it is written to. -/
theorem point (c : Dev nD) (t : Fin cfg0.N) (y) : k0_pay1 (iblk m c 0 t) (iblk m c 1 t) y
    = ref (m ((c : Thread nD τ).loc main_arg0)) (m ((c : Thread nD τ).loc main_arg1)) (((cfg0.win 2).blk t).view.emb y) := by
  simp only [ref, val_main_v4, val_main_v2, val_main_v0]
  pointwise [k0_pay1]
  blk_point [iblk, V, idx t]

/-- The kernel's result array is the reference's. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.OutDxIdeal.Value

end
-- ==== Proof.Up.lean ====
/- The feed-forward block's first product, each chip's block of columns at its own grid point. -/
module

public import proofs.«01_k».proof.Proof.Gen.UpIdeal.Frame
public import proofs.«01_k».proof.Proof.Gen.UpRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.UpIdeal.Value

open Cert.UpIdeal Cert.UpIdeal.Gen
open Cert.UpRefIdeal.Read

variable (m : (ℓ : Loc nD τ sig) → Buf (Elt Ideal) ℓ)

/-- The blocks that grid point `t` stages: all of the input, the weight's block `t`, column block `t` of the result. -/
theorem idx : ∀ t : Fin cfg0.N, win0_0.index t = ![0, 0] ∧ win0_1.index t = ![t.val, 0, 0, 0] ∧ win0_2.index t = ![0, t.val] :=
  (by decide +kernel : ∀ t : Fin grid0.N, _)

/-- The reference: at token `i`, column `k`, the sum over the features of the input at `i` times the whole weight at column `k`. -/
abbrev ref (x : FVec Ideal S2064x1024 .bf16) (y : FVec Ideal S4x1x1024x1408 .bf16) : FVec Ideal S2064x5632 .bf16 :=
  val_main_v6 (F := Ideal) x y

/-- What one point stores is the reference at the place it is written to. -/
theorem point (c : Dev nD) (t : Fin cfg0.N) (y) : k0_pay1 (iblk m c 0 t) (iblk m c 1 t) y
    = ref (m ((c : Thread nD τ).loc main_arg0)) (m ((c : Thread nD τ).loc main_arg1)) (((cfg0.win 2).blk t).view.emb y) := by
  simp only [ref, val_main_v6, val_main_v5, val_main_v4, val_main_v3, val_main_v2, val_main_v1, val_main_v0]
  pointwise [k0_pay1]
  blk_point [iblk, V, idx t]

/-- The kernel's result array is the reference's. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.UpIdeal.Value

end
-- ==== Proof.In.lean ====
/- A mixer's input projection, each chip's block of columns at its own grid point. -/
module

public import proofs.«01_k».proof.Proof.Gen.InIdeal.Frame
public import proofs.«01_k».proof.Proof.Gen.InRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InIdeal.Value

open Cert.InIdeal Cert.InIdeal.Gen
open Cert.InRefIdeal.Read

variable (m : (ℓ : Loc nD τ sig) → Buf (Elt Ideal) ℓ)

/-- The blocks that grid point `t` stages: all of the input, the weight's block `t`, column block `t` of the result. -/
theorem idx : ∀ t : Fin cfg0.N, win0_0.index t = ![0, 0] ∧ win0_1.index t = ![t.val, 0, 0, 0] ∧ win0_2.index t = ![0, t.val] :=
  (by decide +kernel : ∀ t : Fin grid0.N, _)

/-- The reference: at token `i`, column `k`, the sum over the features of the input at `i` times the whole weight at column `k`. -/
abbrev ref (x : FVec Ideal S2064x1024 .bf16) (y : FVec Ideal S4x1x1024x640 .bf16) : FVec Ideal S2064x2560 .f32 :=
  val_main_v5 (F := Ideal) x y

/-- What one point stores is the reference at the place it is written to. -/
theorem point (c : Dev nD) (t : Fin cfg0.N) (y) : k0_pay1 (iblk m c 0 t) (iblk m c 1 t) y
    = ref (m ((c : Thread nD τ).loc main_arg0)) (m ((c : Thread nD τ).loc main_arg1)) (((cfg0.win 2).blk t).view.emb y) := by
  simp only [ref, val_main_v5, val_main_v4, val_main_v3, val_main_v2, val_main_v1, val_main_v0]
  pointwise [k0_pay1]
  blk_point [iblk, V, idx t]

/-- The kernel's result array is the reference's. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.InIdeal.Value

end
-- ==== Proof.Down.lean ====
/- The feed-forward block's second product with the residual, accumulated over two halves of the features, and the norm of the sum. -/
module

public import proofs.«01_k».proof.Proof.Gen.DownIdeal.Frame
public import proofs.«01_k».proof.Proof.Gen.DownRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem Idealize.ShloMosaic.Tactic
open Idealize.ShloMosaic.Pipeline (Dat)

namespace Cert.DownIdeal.Value

open Cert.DownIdeal Cert.DownIdeal.Gen
open Cert.DownRefIdeal.Read

variable (m : (ℓ : Loc nD τ sig) → Buf (Elt Ideal) ℓ)

/-- The blocks that grid point `t` stages. -/
theorem idx : ∀ t : Fin cfg0.N, win0_0.index t = ![t.val / 2, t.val % 2] ∧ win0_1.index t = ![0, t.val % 2, 0] ∧ win0_2.index t = ![t.val / 2, 0]
    ∧ win0_3.index t = ![0, 0] ∧ win0_4.index t = ![t.val / 2, 0] ∧ win0_5.index t = ![t.val / 2, 0] :=
  (by decide +kernel : ∀ t : Fin grid0.N, _)

/-- The reference's first result: the residual plus the product. -/
abbrev ref (x : FVec Ideal S2064x2816 .bf16) (w : FVec Ideal S1x2816x1024 .bf16) (h : FVec Ideal S2064x1024 .f32) : FVec Ideal S2064x1024 .f32 :=
  val_main_v4 (F := Ideal) x w h

/-- The reference's second result: the first, each row scaled by the inverse root of its mean square, times the gain. -/
abbrev ref2 (x : FVec Ideal S2064x2816 .bf16) (w : FVec Ideal S1x2816x1024 .bf16) (h : FVec Ideal S2064x1024 .f32) (g : FVec Ideal S1x1024 .f32) : FVec Ideal S2064x1024 .bf16 :=
  val_main_v17 (F := Ideal) x w h g

/-- The first result at an entry. -/
theorem ref_apply (x : FVec Ideal S2064x2816 .bf16) (w : FVec Ideal S1x2816x1024 .bf16) (h : FVec Ideal S2064x1024 .f32) (i : Fin 2064) (j : Fin 1024) :
    ref x w h (ix2 i j) = h (ix2 i j) + ∑ l : Fin 2816, x (ix2 i l) * w (ix3 0 l j) := by
  simp only [ref, val_main_v4, val_main_v3, val_main_v2, val_main_v1, val_main_v0]
  pointwise []

/-- A row `u` scaled by the inverse root of its mean square, times the gain `g`. -/
def scaled (u g : Fin 1024 → EReal) (j : Fin 1024) : EReal :=
  u j * Ideal.rsqrt (Ideal.div (∑ l, u l * u l) (Ideal.ofBits .f32 0x44800000#32) + Ideal.ofBits .f32 0x358637BD#32) * g j

/-- The second result at an entry. -/
theorem ref2_apply (x : FVec Ideal S2064x2816 .bf16) (w : FVec Ideal S1x2816x1024 .bf16) (h : FVec Ideal S2064x1024 .f32) (g : FVec Ideal S1x1024 .f32) (i : Fin 2064) (j : Fin 1024) :
    ref2 x w h g (ix2 i j) = scaled (fun l => ref x w h (ix2 i l)) (fun l => g (ix2 0 l)) j := by
  simp only [ref2, val_main_v17, val_main_v16, val_main_v15, val_main_v14, val_main_v13, val_main_v12, val_main_v11, val_main_v10, val_main_cst_1, val_main_v9, val_main_v8, val_main_cst_0, val_main_v7, val_main_v6, val_main_cst, val_main_v5, scaled, ref]
  pointwise []

/-- The first point of a row block starts from the residual. -/
theorem hstart (h : FVec Ideal S688x1024 .f32) (j) : k0_pay1 (F := Ideal) h j = h j := by pointwise [k0_pay1]

/-- Every point adds its block's share of the sum. -/
theorem hpay (acc : FVec Ideal S688x1024 .f32) (x : FVec Ideal S688x1408 .bf16) (w : FVec Ideal S1x1408x1024 .bf16) (i : Fin 688) (j : Fin 1024) :
    k0_pay2 acc x w (ix2 i j) = acc (ix2 i j) + ∑ k : Fin 1408, x (ix2 i k) * w (ix3 0 k j) := by pointwise [k0_pay2]

/-- The last point scales the sum. -/
theorem hscale (u : FVec Ideal S688x1024 .f32) (g : FVec Ideal S1x1024 .f32) (i : Fin 688) (j : Fin 1024) :
    k0_pay3 (F := Ideal) u g (ix2 i j) = scaled (fun l => u (ix2 i l)) (fun l => g (ix2 0 l)) j := by
  pointwise [k0_pay3, scaled]

/-- The row of the result that row `i` of block `t` is. -/
def row (t : Fin cfg0.N) (i : Fin 688) : Fin 2064 := ⟨t.val / 2 * 688 + i.val, by have := lt_of_lt_of_eq t.isLt N_0; omega⟩

/-- The residual plus the first half of the product's sum. -/
def firstHalf (x : FVec Ideal S2064x2816 .bf16) (w : FVec Ideal S1x2816x1024 .bf16) (h : FVec Ideal S2064x1024 .f32) (i : Fin 2064) (j : Fin 1024) : EReal :=
  h (ix2 i j) + ∑ k : Fin 1408, x (ix2 i ⟨k.val, by omega⟩) * w (ix3 0 ⟨k.val, by omega⟩ j)

/-- What the accumulator holds after a row block's last point: the first result's rows. -/
theorem acc_last (c : Dev nD) (t : Fin cfg0.N) (ht : t.val % 2 = 1) (i : Fin 688) (j : Fin 1024) :
    (outsAt0 m c t.val t.isLt).2.2 (ix2 i j) = ref (m ((c : Thread nD τ).loc main_arg0)) (m ((c : Thread nD τ).loc main_arg1)) (m ((c : Thread nD τ).loc main_arg2)) (ix2 (row t i) j) := by
  have hN := lt_of_lt_of_eq t.isLt N_0
  let s : Fin cfg0.N := ⟨t.val - 1, by omega⟩
  have hs : (outsAt0 m c s.val s.isLt).2.2 (ix2 i j) = firstHalf (m ((c : Thread nD τ).loc main_arg0)) (m ((c : Thread nD τ).loc main_arg1)) (m ((c : Thread nD τ).loc main_arg2)) (row t i) j := by
    unfold firstHalf
    have e1 : (t.val - 1) % 2 = 0 := by omega
    have e2 : (t.val - 1) / 2 = t.val / 2 := by omega
    rw [outsAt0_A m c s (by simp only [s]; omega) (by simp only [s]; omega)]; frame_out; rw [hpay, hstart]
    blk_point [iblk, V, idx s, row, s, e1, e2]
  rw [outsAt0_B m c t (by omega) ht]; frame_out
  rw [hpay, (Memref.isWhole_whole _).read_unread]
  refine (congrArg₂ (· + ·) hs rfl).trans ?_
  rw [ref_apply, firstHalf, add_assoc]
  congr 1
  refine Eq.trans ?_ (Fin.sum_univ_add (a := 1408) (b := 1408) _).symm
  congr 1
  blk_point [iblk, V, idx t, row, ht]
  all_goals rfl

/-- The kernel's first result array is the reference's. -/
theorem final (c : Dev nD) : (dats m 0 c).arrAt 4 (cfgs 0).N = ref (m ((c : Thread nD τ).loc main_arg0)) (m ((c : Thread nD τ).loc main_arg1)) (m ((c : Thread nD τ).loc main_arg2)) := by
  refine (dats m 0 c).arrAt_eq_of_covers 4 _ (by decide +kernel) fun t hf y => ?_
  have ht := (flush0_4 t).mp hf
  blk_simp
  idx_vars y
  rw [after0_4, show (outsAt0 m c t.val t.isLt).1 = (outsAt0 m c t.val t.isLt).2.2 by
    rw [outsAt0_B m c t (by omega) ht]; funext i; frame_out, acc_last m c t ht]
  blk_point [idx t, row]

/-- The kernel's second result array is the reference's. -/
theorem final2 (c : Dev nD) : (dats m 0 c).arrAt 5 (cfgs 0).N = ref2 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have ht := (flush0_5 t).mp hf
  blk_simp
  idx_vars y
  have e : ((cfg0.win 5).blk t).view.emb (ix2 y0 y1) = ix2 (row t y0) y1 := by
    blk_point [idx t, row]
  have g : ∀ l, iblk m c 3 t (ix2 0 l) = m ((c : Thread nD τ).loc main_arg3) (ix2 0 l) := fun l => by blk_point [iblk, V, idx t]
  rw [after0_5, show (outsAt0 m c t.val t.isLt).2.1 = k0_pay3 (outsAt0 m c t.val t.isLt).2.2 (iblk m c 3 t) by
    rw [outsAt0_B m c t (by omega) ht]; funext i; frame_out]
  refine (hscale _ _ y0 y1).trans ?_
  simp only [acc_last m c t ht, g]
  exact ((congrArg (ref2 (m ((c : Thread nD τ).loc main_arg0)) (m ((c : Thread nD τ).loc main_arg1)) (m ((c : Thread nD τ).loc main_arg2)) (m ((c : Thread nD τ).loc main_arg3))) e).trans (ref2_apply _ _ _ _ _ _)).symm

end Cert.DownIdeal.Value

end
-- ==== Proof.Out.lean ====
/- A mixer's output projection with the residual, and the norm of the sum, a third of the tokens at each grid point. -/
module

public import proofs.«01_k».proof.Proof.Gen.OutIdeal.Frame
public import proofs.«01_k».proof.Proof.Gen.OutRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem Idealize.ShloMosaic.Tactic
open Idealize.ShloMosaic.Pipeline (Dat)

namespace Cert.OutIdeal.Value

open Cert.OutIdeal Cert.OutIdeal.Gen
open Cert.OutRefIdeal.Read

variable (m : (ℓ : Loc nD τ sig) → Buf (Elt Ideal) ℓ)

/-- The blocks that grid point `t` stages. -/
theorem idx : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] :=
  (by decide +kernel : ∀ t : Fin grid0.N, _)

/-- The reference's first result: the residual plus the product. -/
abbrev ref (x : FVec Ideal S2064x1024 .bf16) (w : FVec Ideal S1x1024x1024 .bf16) (h : FVec Ideal S2064x1024 .f32) : FVec Ideal S2064x1024 .f32 :=
  val_main_v4 (F := Ideal) x w h

/-- The reference's second result: the first, each row scaled by the inverse root of its mean square, times the gain. -/
abbrev ref2 (x : FVec Ideal S2064x1024 .bf16) (w : FVec Ideal S1x1024x1024 .bf16) (h : FVec Ideal S2064x1024 .f32) (g : FVec Ideal S1x1024 .f32) : FVec Ideal S2064x1024 .bf16 :=
  val_main_v17 (F := Ideal) x w h g

/-- The first result at an entry. -/
theorem ref_apply (x : FVec Ideal S2064x1024 .bf16) (w : FVec Ideal S1x1024x1024 .bf16) (h : FVec Ideal S2064x1024 .f32) (i : Fin 2064) (j : Fin 1024) :
    ref x w h (ix2 i j) = h (ix2 i j) + ∑ l : Fin 1024, x (ix2 i l) * w (ix3 0 l j) := by
  simp only [ref, val_main_v4, val_main_v3, val_main_v2, val_main_v1, val_main_v0]
  pointwise []

/-- A row `u` scaled by the inverse root of its mean square, times the gain `g`. -/
def scaled (u g : Fin 1024 → EReal) (j : Fin 1024) : EReal :=
  u j * Ideal.rsqrt (Ideal.div (∑ l, u l * u l) (Ideal.ofBits .f32 0x44800000#32) + Ideal.ofBits .f32 0x358637BD#32) * g j

/-- The second result at an entry. -/
theorem ref2_apply (x : FVec Ideal S2064x1024 .bf16) (w : FVec Ideal S1x1024x1024 .bf16) (h : FVec Ideal S2064x1024 .f32) (g : FVec Ideal S1x1024 .f32) (i : Fin 2064) (j : Fin 1024) :
    ref2 x w h g (ix2 i j) = scaled (fun l => ref x w h (ix2 i l)) (fun l => g (ix2 0 l)) j := by
  simp only [ref2, val_main_v17, val_main_v16, val_main_v15, val_main_v14, val_main_v13, val_main_v12, val_main_v11, val_main_v10, val_main_cst_1, val_main_v9, val_main_v8, val_main_cst_0, val_main_v7, val_main_v6, val_main_cst, val_main_v5, scaled, ref]
  pointwise []

/-- What one point stores first. -/
theorem point (c : Dev nD) (t : Fin cfg0.N) (i : Fin 688) (j : Fin 1024) : k0_pay1 (iblk m c 0 t) (iblk m c 1 t) (iblk m c 2 t) (ix2 i j)
    = ref (m ((c : Thread nD τ).loc main_arg0)) (m ((c : Thread nD τ).loc main_arg1)) (m ((c : Thread nD τ).loc main_arg2)) (((cfg0.win 4).blk t).view.emb (ix2 i j)) := by
  simp only [ref, val_main_v4, val_main_v3, val_main_v2, val_main_v1, val_main_v0]
  pointwise [k0_pay1]
  rw [add_comm]
  blk_point [iblk, V, idx t]

/-- The second payload is the first, scaled. -/
theorem pay2 (x : FVec Ideal S688x1024 .bf16) (w : FVec Ideal S1x1024x1024 .bf16) (h : FVec Ideal S688x1024 .f32) (g : FVec Ideal S1x1024 .f32) (i : Fin 688) (j : Fin 1024) :
    k0_pay2 (F := Ideal) x w h g (ix2 i j) = scaled (fun l => k0_pay1 (F := Ideal) x w h (ix2 i l)) (fun l => g (ix2 0 l)) j := by
  pointwise [k0_pay2, scaled]

/-- The row of the result that row `i` of block `t` is. -/
def row (t : Fin cfg0.N) (i : Fin 688) : Fin 2064 := ⟨t.val * 688 + i.val, by have := lt_of_lt_of_eq t.isLt N_0; omega⟩

/-- The same, the row named. -/
theorem point' (c : Dev nD) (t : Fin cfg0.N) (i : Fin 688) (j : Fin 1024) : k0_pay1 (iblk m c 0 t) (iblk m c 1 t) (iblk m c 2 t) (ix2 i j)
    = ref (m ((c : Thread nD τ).loc main_arg0)) (m ((c : Thread nD τ).loc main_arg1)) (m ((c : Thread nD τ).loc main_arg2)) (ix2 (row t i) j) := by
  simp only [ref, val_main_v4, val_main_v3, val_main_v2, val_main_v1, val_main_v0]
  pointwise [k0_pay1]
  rw [add_comm]
  blk_point [iblk, V, idx t, row]

/-- The kernel's first result array is the reference's. -/
theorem final (c : Dev nD) : (dats m 0 c).arrAt 4 (cfgs 0).N = ref (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  idx_vars y
  exact point m c t y0 y1

/-- The kernel's second result array is the reference's. -/
theorem final2 (c : Dev nD) : (dats m 0 c).arrAt 5 (cfgs 0).N = ref2 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  idx_vars y
  have e : ((cfg0.win 5).blk t).view.emb (ix2 y0 y1) = ix2 (row t y0) y1 := by
    blk_point [idx t, row]
  have g : ∀ l, iblk m c 3 t (ix2 0 l) = m ((c : Thread nD τ).loc main_arg3) (ix2 0 l) := fun l => by blk_point [iblk, V, idx t]
  refine (pay2 _ _ _ _ y0 y1).trans ?_
  simp only [point', g]
  exact ((congrArg (ref2 (m ((c : Thread nD τ).loc main_arg0)) (m ((c : Thread nD τ).loc main_arg1)) (m ((c : Thread nD τ).loc main_arg2)) (m ((c : Thread nD τ).loc main_arg3))) e).trans (ref2_apply _ _ _ _ _ _)).symm

end Cert.OutIdeal.Value

end
-- ==== Proof.AdamStep.lean ====
/- One entry's AdamW step over the extended reals. -/
module

public import Idealize.ShloMosaic.Lib.Pointwise
public import Idealize.ShloMosaic.PureOps

@[expose] public section

noncomputable section

namespace Cert.AdamStep

open Idealize.ShloMosaic

/-- The running mean of the gradient. -/
def mean (g m : EReal) : EReal := Ideal.ofBits .f32 0x3F666666#32 * m + Ideal.ofBits .f32 0x3DCCCCCD#32 * g

/-- The running mean of its square. -/
def square (g v : EReal) : EReal := Ideal.ofBits .f32 0x3F7FBE77#32 * v + Ideal.ofBits .f32 0x3A83126F#32 * (g * g)

/-- The weight's change: the corrected mean over the root of the corrected square, and the weight's decay. -/
def change (w g m v : EReal) : EReal :=
  Ideal.ofBits .f32 0xBA83126F#32 * (Ideal.div (Ideal.div (mean g m) (Ideal.ofBits .f32 0x3F26BD02#32))
    (Ideal.sqrt (Ideal.div (square g v) (Ideal.ofBits .f32 0x3C231ACC#32)) + Ideal.ofBits .f32 0x322BCC77#32)
    + Ideal.ofBits .f32 0x3C23D70A#32 * w)

end Cert.AdamStep

end
-- ==== Proof.AdamIn.lean ====
/- The AdamW step of the mixers' input projections, block of rows by block of rows. -/
module

public import proofs.«01_k».proof.Proof.Gen.AdamInIdeal.Frame
public import proofs.«01_k».proof.Proof.Gen.AdamInRefIdeal.Read
public import proofs.«01_k».proof.Proof.AdamStep
public import Idealize.ShloMosaic.Lib.Pipeline.ValueKit
public import Idealize.ShloMosaic.Lib.Pointwise
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem Idealize.ShloMosaic.Tactic
open Idealize.ShloMosaic.Pipeline (Dat)

namespace Cert.AdamInIdeal.Value

open Cert.AdamInIdeal Cert.AdamInIdeal.Gen Cert.AdamStep
open Cert.AdamInRefIdeal.Read

variable (m : (ℓ : Loc nD τ sig) → Buf (Elt Ideal) ℓ)

/-- Every array's block at grid point `t` is block `t` of its rows. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The row of the array that row `i` of block `t` is. -/
def row (t : Fin cfg0.N) (i : Fin 512) : Fin 1024 := ⟨t.val * 512 + i.val, by have := lt_of_lt_of_eq t.isLt N_0; omega⟩

/-- Row `i` of all layers one after the other, at column `j`, in a weight's own shape. -/
abbrev at3 (x : FVec Ideal S1x1024x640 .f32) (i : Fin 1024) (j : Fin 640) : EReal := x (ix3 0 i j)

/-- The reference's first result at an entry. -/
theorem ref_change (w g a v : FVec Ideal S1x1024x640 .f32) (i : Fin 1024) (j : Fin 640) :
    val_main_v24 (F := Ideal) w g a v (ix2 i j) = change (at3 w i j) (at3 g i j) (at3 a i j) (at3 v i j) := by
  simp only [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  pointwise [change, mean, square, at3]

/-- The reference's second result at an entry. -/
theorem ref_mean (g a : FVec Ideal S1x1024x640 .f32) (i : Fin 1024) (j : Fin 640) :
    val_main_v25 (F := Ideal) g a (ix2 i j) = mean (at3 g i j) (at3 a i j) := by
  simp only [val_main_v25, val_main_v4, val_main_v3, val_main_v2, val_main_v1, val_main_v0, val_main_cst, val_main_cst_0]
  pointwise [mean, at3]

/-- The reference's third result at an entry. -/
theorem ref_square (g v : FVec Ideal S1x1024x640 .f32) (i : Fin 1024) (j : Fin 640) :
    val_main_v26 (F := Ideal) g v (ix2 i j) = square (at3 g i j) (at3 v i j) := by
  simp only [val_main_v26, val_main_v10, val_main_v9, val_main_v8, val_main_v7, val_main_v6, val_main_v5, val_main_cst_1, val_main_cst_2]
  pointwise [square, at3]

/-- What a grid point stores in the first result, at an entry. -/
theorem pay_change (w g a v : FVec Ideal S512x640 .f32) (y) : k0_pay4 (F := Ideal) w g a v y = change (w y) (g y) (a y) (v y) := by
  pointwise [k0_pay4, k0_pay3, k0_pay2, k0_pay1, change, mean, square]

/-- What a grid point stores in the second result, at an entry. -/
theorem pay_mean (g a : FVec Ideal S512x640 .f32) (y) : k0_pay2 (F := Ideal) g a y = mean (g y) (a y) := by
  pointwise [k0_pay2, k0_pay1, mean]

/-- What a grid point stores in the third result, at an entry. -/
theorem pay_square (g v : FVec Ideal S512x640 .f32) (y) : k0_pay3 (F := Ideal) g v y = square (g y) (v y) := by
  pointwise [k0_pay3, k0_pay1, square]

/-- What the region finds in its array 0: argument 0, its layers' rows one after the other. -/
theorem V0 (c : Dev nD) (i : Fin 1024) (j : Fin 640) : V m c main_v0 (ix2 i j) = at3 (m ((c : Thread nD τ).loc main_arg0)) i j := by
  simp only [V, hostOps0, List.flatten_cons, List.flatten_nil, List.append_nil, List.cons_append, List.nil_append]
  after_reads_at

/-- What the region finds in its array 1: argument 1, its layers' rows one after the other. -/
theorem V1 (c : Dev nD) (i : Fin 1024) (j : Fin 640) : V m c main_v1 (ix2 i j) = at3 (m ((c : Thread nD τ).loc main_arg1)) i j := by
  simp only [V, hostOps0, List.flatten_cons, List.flatten_nil, List.append_nil, List.cons_append, List.nil_append]
  after_reads_at

/-- What the region finds in its array 2: argument 2, its layers' rows one after the other. -/
theorem V2 (c : Dev nD) (i : Fin 1024) (j : Fin 640) : V m c main_v2 (ix2 i j) = at3 (m ((c : Thread nD τ).loc main_arg2)) i j := by
  simp only [V, hostOps0, List.flatten_cons, List.flatten_nil, List.append_nil, List.cons_append, List.nil_append]
  after_reads_at

/-- What the region finds in its array 3: argument 3, its layers' rows one after the other. -/
theorem V3 (c : Dev nD) (i : Fin 1024) (j : Fin 640) : V m c main_v3 (ix2 i j) = at3 (m ((c : Thread nD τ).loc main_arg3)) i j := by
  simp only [V, hostOps0, List.flatten_cons, List.flatten_nil, List.append_nil, List.cons_append, List.nil_append]
  after_reads_at

/-- An entry of block `t` of array 0. -/
theorem blk0 (c : Dev nD) (t : Fin cfg0.N) (i : Fin 512) (j : Fin 640) : iblk m c 0 t (ix2 i j) = at3 (m ((c : Thread nD τ).loc main_arg0)) (row t i) j := by
  refine Eq.trans ?_ (V0 m c (row t i) j)
  have e : ((cfg0.win 0).blk t).view.emb (ix2 i j) = ix2 (row t i) j := by blk_point [idx t, row]
  exact congrArg (V m c main_v0) e

/-- An entry of block `t` of array 1. -/
theorem blk1 (c : Dev nD) (t : Fin cfg0.N) (i : Fin 512) (j : Fin 640) : iblk m c 1 t (ix2 i j) = at3 (m ((c : Thread nD τ).loc main_arg1)) (row t i) j := by
  refine Eq.trans ?_ (V1 m c (row t i) j)
  have e : ((cfg0.win 1).blk t).view.emb (ix2 i j) = ix2 (row t i) j := by blk_point [idx t, row]
  exact congrArg (V m c main_v1) e

/-- An entry of block `t` of array 2. -/
theorem blk2 (c : Dev nD) (t : Fin cfg0.N) (i : Fin 512) (j : Fin 640) : iblk m c 2 t (ix2 i j) = at3 (m ((c : Thread nD τ).loc main_arg2)) (row t i) j := by
  refine Eq.trans ?_ (V2 m c (row t i) j)
  have e : ((cfg0.win 2).blk t).view.emb (ix2 i j) = ix2 (row t i) j := by blk_point [idx t, row]
  exact congrArg (V m c main_v2) e

/-- An entry of block `t` of array 3. -/
theorem blk3 (c : Dev nD) (t : Fin cfg0.N) (i : Fin 512) (j : Fin 640) : iblk m c 3 t (ix2 i j) = at3 (m ((c : Thread nD τ).loc main_arg3)) (row t i) j := by
  refine Eq.trans ?_ (V3 m c (row t i) j)
  have e : ((cfg0.win 3).blk t).view.emb (ix2 i j) = ix2 (row t i) j := by blk_point [idx t, row]
  exact congrArg (V m c main_v3) e

/-- Where entry `(i, j)` of block `t` lies in a result. -/
theorem place (t : Fin cfg0.N) (i : Fin 512) (j : Fin 640) : ((cfg0.win 4).blk t).view.emb (ix2 i j) = ix2 (row t i) j
    ∧ ((cfg0.win 5).blk t).view.emb (ix2 i j) = ix2 (row t i) j ∧ ((cfg0.win 6).blk t).view.emb (ix2 i j) = ix2 (row t i) j := by
  refine ⟨?_, ?_, ?_⟩ <;> blk_point [idx t, row]

/-- The kernel's first result array is the reference's. -/
theorem final (c : Dev nD) : (dats m 0 c).arrAt 4 (cfgs 0).N = val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  idx_vars y
  rw [after0_4, show out0_4 (iblk m c 0 t) (iblk m c 1 t) (iblk m c 2 t) (iblk m c 3 t) (ix2 y0 y1) = k0_pay4 (iblk m c 0 t) (iblk m c 1 t) (iblk m c 2 t) (iblk m c 3 t) (ix2 y0 y1) by frame_out, pay_change, blk0, blk1, blk2, blk3, (place t y0 y1).1]
  exact (ref_change _ _ _ _ _ _).symm

/-- The kernel's second result array is the reference's. -/
theorem final2 (c : Dev nD) : (dats m 0 c).arrAt 5 (cfgs 0).N = val_main_v25 (F := Ideal) (m ((c : Thread nD τ).loc main_arg1)) (m ((c : Thread nD τ).loc main_arg2)) := by
  refine (dats m 0 c).arrAt_eq_of_covers 5 _ (by decide +kernel) fun t _ y => ?_
  blk_simp
  idx_vars y
  rw [after0_5, show out0_5 (iblk m c 0 t) (iblk m c 1 t) (iblk m c 2 t) (iblk m c 3 t) (ix2 y0 y1) = k0_pay2 (iblk m c 1 t) (iblk m c 2 t) (ix2 y0 y1) by frame_out, pay_mean, blk1, blk2, (place t y0 y1).2.1]
  exact (ref_mean _ _ _ _).symm

/-- The kernel's third result array is the reference's. -/
theorem final3 (c : Dev nD) : (dats m 0 c).arrAt 6 (cfgs 0).N = val_main_v26 (F := Ideal) (m ((c : Thread nD τ).loc main_arg1)) (m ((c : Thread nD τ).loc main_arg3)) := by
  refine (dats m 0 c).arrAt_eq_of_covers 6 _ (by decide +kernel) fun t _ y => ?_
  blk_simp
  idx_vars y
  rw [after0_6, show out0_6 (iblk m c 0 t) (iblk m c 1 t) (iblk m c 2 t) (iblk m c 3 t) (ix2 y0 y1) = k0_pay3 (iblk m c 1 t) (iblk m c 3 t) (ix2 y0 y1) by frame_out, pay_square, blk1, blk3, (place t y0 y1).2.2]
  exact (ref_square _ _ _ _).symm

end Cert.AdamInIdeal.Value

end
-- ==== Proof.AdamOut.lean ====
/- The AdamW step of the mixers' output projections, block of rows by block of rows. -/
module

public import proofs.«01_k».proof.Proof.Gen.AdamOutIdeal.Frame
public import proofs.«01_k».proof.Proof.Gen.AdamOutRefIdeal.Read
public import proofs.«01_k».proof.Proof.AdamStep
public import Idealize.ShloMosaic.Lib.Pipeline.ValueKit
public import Idealize.ShloMosaic.Lib.Pointwise
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem Idealize.ShloMosaic.Tactic
open Idealize.ShloMosaic.Pipeline (Dat)

namespace Cert.AdamOutIdeal.Value

open Cert.AdamOutIdeal Cert.AdamOutIdeal.Gen Cert.AdamStep
open Cert.AdamOutRefIdeal.Read

variable (m : (ℓ : Loc nD τ sig) → Buf (Elt Ideal) ℓ)

/-- Every array's block at grid point `t` is block `t` of its rows. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The row of the array that row `i` of block `t` is. -/
def row (t : Fin cfg0.N) (i : Fin 256) : Fin 256 := ⟨t.val * 256 + i.val, by have := lt_of_lt_of_eq t.isLt N_0; omega⟩

/-- Row `i` of all layers one after the other, at column `j`, in a weight's own shape. -/
abbrev at3 (x : FVec Ideal S1x256x1024 .f32) (i : Fin 256) (j : Fin 1024) : EReal := x (ix3 0 i j)

/-- The reference's first result at an entry. -/
theorem ref_change (w g a v : FVec Ideal S1x256x1024 .f32) (i : Fin 256) (j : Fin 1024) :
    val_main_v24 (F := Ideal) w g a v (ix2 i j) = change (at3 w i j) (at3 g i j) (at3 a i j) (at3 v i j) := by
  simp only [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  pointwise [change, mean, square, at3]

/-- The reference's second result at an entry. -/
theorem ref_mean (g a : FVec Ideal S1x256x1024 .f32) (i : Fin 256) (j : Fin 1024) :
    val_main_v25 (F := Ideal) g a (ix2 i j) = mean (at3 g i j) (at3 a i j) := by
  simp only [val_main_v25, val_main_v4, val_main_v3, val_main_v2, val_main_v1, val_main_v0, val_main_cst, val_main_cst_0]
  pointwise [mean, at3]

/-- The reference's third result at an entry. -/
theorem ref_square (g v : FVec Ideal S1x256x1024 .f32) (i : Fin 256) (j : Fin 1024) :
    val_main_v26 (F := Ideal) g v (ix2 i j) = square (at3 g i j) (at3 v i j) := by
  simp only [val_main_v26, val_main_v10, val_main_v9, val_main_v8, val_main_v7, val_main_v6, val_main_v5, val_main_cst_1, val_main_cst_2]
  pointwise [square, at3]

/-- What a grid point stores in the first result, at an entry. -/
theorem pay_change (w g a v : FVec Ideal S256x1024 .f32) (y) : k0_pay4 (F := Ideal) w g a v y = change (w y) (g y) (a y) (v y) := by
  pointwise [k0_pay4, k0_pay3, k0_pay2, k0_pay1, change, mean, square]

/-- What a grid point stores in the second result, at an entry. -/
theorem pay_mean (g a : FVec Ideal S256x1024 .f32) (y) : k0_pay2 (F := Ideal) g a y = mean (g y) (a y) := by
  pointwise [k0_pay2, k0_pay1, mean]

/-- What a grid point stores in the third result, at an entry. -/
theorem pay_square (g v : FVec Ideal S256x1024 .f32) (y) : k0_pay3 (F := Ideal) g v y = square (g y) (v y) := by
  pointwise [k0_pay3, k0_pay1, square]

/-- What the region finds in its array 0: argument 0, its layers' rows one after the other. -/
theorem V0 (c : Dev nD) (i : Fin 256) (j : Fin 1024) : V m c main_v0 (ix2 i j) = at3 (m ((c : Thread nD τ).loc main_arg0)) i j := by
  simp only [V, hostOps0, List.flatten_cons, List.flatten_nil, List.append_nil, List.cons_append, List.nil_append]
  after_reads_at

/-- What the region finds in its array 1: argument 1, its layers' rows one after the other. -/
theorem V1 (c : Dev nD) (i : Fin 256) (j : Fin 1024) : V m c main_v1 (ix2 i j) = at3 (m ((c : Thread nD τ).loc main_arg1)) i j := by
  simp only [V, hostOps0, List.flatten_cons, List.flatten_nil, List.append_nil, List.cons_append, List.nil_append]
  after_reads_at

/-- What the region finds in its array 2: argument 2, its layers' rows one after the other. -/
theorem V2 (c : Dev nD) (i : Fin 256) (j : Fin 1024) : V m c main_v2 (ix2 i j) = at3 (m ((c : Thread nD τ).loc main_arg2)) i j := by
  simp only [V, hostOps0, List.flatten_cons, List.flatten_nil, List.append_nil, List.cons_append, List.nil_append]
  after_reads_at

/-- What the region finds in its array 3: argument 3, its layers' rows one after the other. -/
theorem V3 (c : Dev nD) (i : Fin 256) (j : Fin 1024) : V m c main_v3 (ix2 i j) = at3 (m ((c : Thread nD τ).loc main_arg3)) i j := by
  simp only [V, hostOps0, List.flatten_cons, List.flatten_nil, List.append_nil, List.cons_append, List.nil_append]
  after_reads_at

/-- An entry of block `t` of array 0. -/
theorem blk0 (c : Dev nD) (t : Fin cfg0.N) (i : Fin 256) (j : Fin 1024) : iblk m c 0 t (ix2 i j) = at3 (m ((c : Thread nD τ).loc main_arg0)) (row t i) j := by
  refine Eq.trans ?_ (V0 m c (row t i) j)
  have e : ((cfg0.win 0).blk t).view.emb (ix2 i j) = ix2 (row t i) j := by blk_point [idx t, row]
  exact congrArg (V m c main_v0) e

/-- An entry of block `t` of array 1. -/
theorem blk1 (c : Dev nD) (t : Fin cfg0.N) (i : Fin 256) (j : Fin 1024) : iblk m c 1 t (ix2 i j) = at3 (m ((c : Thread nD τ).loc main_arg1)) (row t i) j := by
  refine Eq.trans ?_ (V1 m c (row t i) j)
  have e : ((cfg0.win 1).blk t).view.emb (ix2 i j) = ix2 (row t i) j := by blk_point [idx t, row]
  exact congrArg (V m c main_v1) e

/-- An entry of block `t` of array 2. -/
theorem blk2 (c : Dev nD) (t : Fin cfg0.N) (i : Fin 256) (j : Fin 1024) : iblk m c 2 t (ix2 i j) = at3 (m ((c : Thread nD τ).loc main_arg2)) (row t i) j := by
  refine Eq.trans ?_ (V2 m c (row t i) j)
  have e : ((cfg0.win 2).blk t).view.emb (ix2 i j) = ix2 (row t i) j := by blk_point [idx t, row]
  exact congrArg (V m c main_v2) e

/-- An entry of block `t` of array 3. -/
theorem blk3 (c : Dev nD) (t : Fin cfg0.N) (i : Fin 256) (j : Fin 1024) : iblk m c 3 t (ix2 i j) = at3 (m ((c : Thread nD τ).loc main_arg3)) (row t i) j := by
  refine Eq.trans ?_ (V3 m c (row t i) j)
  have e : ((cfg0.win 3).blk t).view.emb (ix2 i j) = ix2 (row t i) j := by blk_point [idx t, row]
  exact congrArg (V m c main_v3) e

/-- Where entry `(i, j)` of block `t` lies in a result. -/
theorem place (t : Fin cfg0.N) (i : Fin 256) (j : Fin 1024) : ((cfg0.win 4).blk t).view.emb (ix2 i j) = ix2 (row t i) j
    ∧ ((cfg0.win 5).blk t).view.emb (ix2 i j) = ix2 (row t i) j ∧ ((cfg0.win 6).blk t).view.emb (ix2 i j) = ix2 (row t i) j := by
  refine ⟨?_, ?_, ?_⟩ <;> blk_point [idx t, row]

/-- The kernel's first result array is the reference's. -/
theorem final (c : Dev nD) : (dats m 0 c).arrAt 4 (cfgs 0).N = val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  idx_vars y
  rw [after0_4, show out0_4 (iblk m c 0 t) (iblk m c 1 t) (iblk m c 2 t) (iblk m c 3 t) (ix2 y0 y1) = k0_pay4 (iblk m c 0 t) (iblk m c 1 t) (iblk m c 2 t) (iblk m c 3 t) (ix2 y0 y1) by frame_out, pay_change, blk0, blk1, blk2, blk3, (place t y0 y1).1]
  exact (ref_change _ _ _ _ _ _).symm

/-- The kernel's second result array is the reference's. -/
theorem final2 (c : Dev nD) : (dats m 0 c).arrAt 5 (cfgs 0).N = val_main_v25 (F := Ideal) (m ((c : Thread nD τ).loc main_arg1)) (m ((c : Thread nD τ).loc main_arg2)) := by
  refine (dats m 0 c).arrAt_eq_of_covers 5 _ (by decide +kernel) fun t _ y => ?_
  blk_simp
  idx_vars y
  rw [after0_5, show out0_5 (iblk m c 0 t) (iblk m c 1 t) (iblk m c 2 t) (iblk m c 3 t) (ix2 y0 y1) = k0_pay2 (iblk m c 1 t) (iblk m c 2 t) (ix2 y0 y1) by frame_out, pay_mean, blk1, blk2, (place t y0 y1).2.1]
  exact (ref_mean _ _ _ _).symm

/-- The kernel's third result array is the reference's. -/
theorem final3 (c : Dev nD) : (dats m 0 c).arrAt 6 (cfgs 0).N = val_main_v26 (F := Ideal) (m ((c : Thread nD τ).loc main_arg1)) (m ((c : Thread nD τ).loc main_arg3)) := by
  refine (dats m 0 c).arrAt_eq_of_covers 6 _ (by decide +kernel) fun t _ y => ?_
  blk_simp
  idx_vars y
  rw [after0_6, show out0_6 (iblk m c 0 t) (iblk m c 1 t) (iblk m c 2 t) (iblk m c 3 t) (ix2 y0 y1) = k0_pay3 (iblk m c 1 t) (iblk m c 3 t) (ix2 y0 y1) by frame_out, pay_square, blk1, blk3, (place t y0 y1).2.2]
  exact (ref_square _ _ _ _).symm

end Cert.AdamOutIdeal.Value

end
-- ==== Proof.AdamUp.lean ====
/- The AdamW step of the feed-forward blocks' first matrices, block of rows by block of rows. -/
module

public import proofs.«01_k».proof.Proof.Gen.AdamUpIdeal.Frame
public import proofs.«01_k».proof.Proof.Gen.AdamUpRefIdeal.Read
public import proofs.«01_k».proof.Proof.AdamStep
public import Idealize.ShloMosaic.Lib.Pipeline.ValueKit
public import Idealize.ShloMosaic.Lib.Pointwise
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem Idealize.ShloMosaic.Tactic
open Idealize.ShloMosaic.Pipeline (Dat)

namespace Cert.AdamUpIdeal.Value

open Cert.AdamUpIdeal Cert.AdamUpIdeal.Gen Cert.AdamStep
open Cert.AdamUpRefIdeal.Read

variable (m : (ℓ : Loc nD τ sig) → Buf (Elt Ideal) ℓ)

/-- Every array's block at grid point `t` is block `t` of its rows. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The row of the array that row `i` of block `t` is. -/
def row (t : Fin cfg0.N) (i : Fin 256) : Fin 2048 := ⟨t.val * 256 + i.val, by have := lt_of_lt_of_eq t.isLt N_0; omega⟩

/-- Row `i` of all layers one after the other, at column `j`, in a weight's own shape. -/
abbrev at3 (x : FVec Ideal S2x1024x1408 .f32) (i : Fin 2048) (j : Fin 1408) : EReal := x (ix3 ⟨i.val / 1024, by omega⟩ ⟨i.val % 1024, by omega⟩ j)

/-- The reference's first result at an entry. -/
theorem ref_change (w g a v : FVec Ideal S2x1024x1408 .f32) (i : Fin 2048) (j : Fin 1408) :
    val_main_v24 (F := Ideal) w g a v (ix2 i j) = change (at3 w i j) (at3 g i j) (at3 a i j) (at3 v i j) := by
  simp only [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  pointwise [change, mean, square, at3]

/-- The reference's second result at an entry. -/
theorem ref_mean (g a : FVec Ideal S2x1024x1408 .f32) (i : Fin 2048) (j : Fin 1408) :
    val_main_v25 (F := Ideal) g a (ix2 i j) = mean (at3 g i j) (at3 a i j) := by
  simp only [val_main_v25, val_main_v4, val_main_v3, val_main_v2, val_main_v1, val_main_v0, val_main_cst, val_main_cst_0]
  pointwise [mean, at3]

/-- The reference's third result at an entry. -/
theorem ref_square (g v : FVec Ideal S2x1024x1408 .f32) (i : Fin 2048) (j : Fin 1408) :
    val_main_v26 (F := Ideal) g v (ix2 i j) = square (at3 g i j) (at3 v i j) := by
  simp only [val_main_v26, val_main_v10, val_main_v9, val_main_v8, val_main_v7, val_main_v6, val_main_v5, val_main_cst_1, val_main_cst_2]
  pointwise [square, at3]

/-- What a grid point stores in the first result, at an entry. -/
theorem pay_change (w g a v : FVec Ideal S256x1408 .f32) (y) : k0_pay4 (F := Ideal) w g a v y = change (w y) (g y) (a y) (v y) := by
  pointwise [k0_pay4, k0_pay3, k0_pay2, k0_pay1, change, mean, square]

/-- What a grid point stores in the second result, at an entry. -/
theorem pay_mean (g a : FVec Ideal S256x1408 .f32) (y) : k0_pay2 (F := Ideal) g a y = mean (g y) (a y) := by
  pointwise [k0_pay2, k0_pay1, mean]

/-- What a grid point stores in the third result, at an entry. -/
theorem pay_square (g v : FVec Ideal S256x1408 .f32) (y) : k0_pay3 (F := Ideal) g v y = square (g y) (v y) := by
  pointwise [k0_pay3, k0_pay1, square]

/-- What the region finds in its array 0: argument 0, its layers' rows one after the other. -/
theorem V0 (c : Dev nD) (i : Fin 2048) (j : Fin 1408) : V m c main_v0 (ix2 i j) = at3 (m ((c : Thread nD τ).loc main_arg0)) i j := by
  simp only [V, hostOps0, List.flatten_cons, List.flatten_nil, List.append_nil, List.cons_append, List.nil_append]
  after_reads_at

/-- What the region finds in its array 1: argument 1, its layers' rows one after the other. -/
theorem V1 (c : Dev nD) (i : Fin 2048) (j : Fin 1408) : V m c main_v1 (ix2 i j) = at3 (m ((c : Thread nD τ).loc main_arg1)) i j := by
  simp only [V, hostOps0, List.flatten_cons, List.flatten_nil, List.append_nil, List.cons_append, List.nil_append]
  after_reads_at

/-- What the region finds in its array 2: argument 2, its layers' rows one after the other. -/
theorem V2 (c : Dev nD) (i : Fin 2048) (j : Fin 1408) : V m c main_v2 (ix2 i j) = at3 (m ((c : Thread nD τ).loc main_arg2)) i j := by
  simp only [V, hostOps0, List.flatten_cons, List.flatten_nil, List.append_nil, List.cons_append, List.nil_append]
  after_reads_at

/-- What the region finds in its array 3: argument 3, its layers' rows one after the other. -/
theorem V3 (c : Dev nD) (i : Fin 2048) (j : Fin 1408) : V m c main_v3 (ix2 i j) = at3 (m ((c : Thread nD τ).loc main_arg3)) i j := by
  simp only [V, hostOps0, List.flatten_cons, List.flatten_nil, List.append_nil, List.cons_append, List.nil_append]
  after_reads_at

/-- An entry of block `t` of array 0. -/
theorem blk0 (c : Dev nD) (t : Fin cfg0.N) (i : Fin 256) (j : Fin 1408) : iblk m c 0 t (ix2 i j) = at3 (m ((c : Thread nD τ).loc main_arg0)) (row t i) j := by
  refine Eq.trans ?_ (V0 m c (row t i) j)
  have e : ((cfg0.win 0).blk t).view.emb (ix2 i j) = ix2 (row t i) j := by blk_point [idx t, row]
  exact congrArg (V m c main_v0) e

/-- An entry of block `t` of array 1. -/
theorem blk1 (c : Dev nD) (t : Fin cfg0.N) (i : Fin 256) (j : Fin 1408) : iblk m c 1 t (ix2 i j) = at3 (m ((c : Thread nD τ).loc main_arg1)) (row t i) j := by
  refine Eq.trans ?_ (V1 m c (row t i) j)
  have e : ((cfg0.win 1).blk t).view.emb (ix2 i j) = ix2 (row t i) j := by blk_point [idx t, row]
  exact congrArg (V m c main_v1) e

/-- An entry of block `t` of array 2. -/
theorem blk2 (c : Dev nD) (t : Fin cfg0.N) (i : Fin 256) (j : Fin 1408) : iblk m c 2 t (ix2 i j) = at3 (m ((c : Thread nD τ).loc main_arg2)) (row t i) j := by
  refine Eq.trans ?_ (V2 m c (row t i) j)
  have e : ((cfg0.win 2).blk t).view.emb (ix2 i j) = ix2 (row t i) j := by blk_point [idx t, row]
  exact congrArg (V m c main_v2) e

/-- An entry of block `t` of array 3. -/
theorem blk3 (c : Dev nD) (t : Fin cfg0.N) (i : Fin 256) (j : Fin 1408) : iblk m c 3 t (ix2 i j) = at3 (m ((c : Thread nD τ).loc main_arg3)) (row t i) j := by
  refine Eq.trans ?_ (V3 m c (row t i) j)
  have e : ((cfg0.win 3).blk t).view.emb (ix2 i j) = ix2 (row t i) j := by blk_point [idx t, row]
  exact congrArg (V m c main_v3) e

/-- Where entry `(i, j)` of block `t` lies in a result. -/
theorem place (t : Fin cfg0.N) (i : Fin 256) (j : Fin 1408) : ((cfg0.win 4).blk t).view.emb (ix2 i j) = ix2 (row t i) j
    ∧ ((cfg0.win 5).blk t).view.emb (ix2 i j) = ix2 (row t i) j ∧ ((cfg0.win 6).blk t).view.emb (ix2 i j) = ix2 (row t i) j := by
  refine ⟨?_, ?_, ?_⟩ <;> blk_point [idx t, row]

/-- The kernel's first result array is the reference's. -/
theorem final (c : Dev nD) : (dats m 0 c).arrAt 4 (cfgs 0).N = val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  idx_vars y
  rw [after0_4, show out0_4 (iblk m c 0 t) (iblk m c 1 t) (iblk m c 2 t) (iblk m c 3 t) (ix2 y0 y1) = k0_pay4 (iblk m c 0 t) (iblk m c 1 t) (iblk m c 2 t) (iblk m c 3 t) (ix2 y0 y1) by frame_out, pay_change, blk0, blk1, blk2, blk3, (place t y0 y1).1]
  exact (ref_change _ _ _ _ _ _).symm

/-- The kernel's second result array is the reference's. -/
theorem final2 (c : Dev nD) : (dats m 0 c).arrAt 5 (cfgs 0).N = val_main_v25 (F := Ideal) (m ((c : Thread nD τ).loc main_arg1)) (m ((c : Thread nD τ).loc main_arg2)) := by
  refine (dats m 0 c).arrAt_eq_of_covers 5 _ (by decide +kernel) fun t _ y => ?_
  blk_simp
  idx_vars y
  rw [after0_5, show out0_5 (iblk m c 0 t) (iblk m c 1 t) (iblk m c 2 t) (iblk m c 3 t) (ix2 y0 y1) = k0_pay2 (iblk m c 1 t) (iblk m c 2 t) (ix2 y0 y1) by frame_out, pay_mean, blk1, blk2, (place t y0 y1).2.1]
  exact (ref_mean _ _ _ _).symm

/-- The kernel's third result array is the reference's. -/
theorem final3 (c : Dev nD) : (dats m 0 c).arrAt 6 (cfgs 0).N = val_main_v26 (F := Ideal) (m ((c : Thread nD τ).loc main_arg1)) (m ((c : Thread nD τ).loc main_arg3)) := by
  refine (dats m 0 c).arrAt_eq_of_covers 6 _ (by decide +kernel) fun t _ y => ?_
  blk_simp
  idx_vars y
  rw [after0_6, show out0_6 (iblk m c 0 t) (iblk m c 1 t) (iblk m c 2 t) (iblk m c 3 t) (ix2 y0 y1) = k0_pay3 (iblk m c 1 t) (iblk m c 3 t) (ix2 y0 y1) by frame_out, pay_square, blk1, blk3, (place t y0 y1).2.2]
  exact (ref_square _ _ _ _).symm

end Cert.AdamUpIdeal.Value

end
-- ==== Proof.AdamDown.lean ====
/- The AdamW step of the feed-forward blocks' second matrices, block of rows by block of rows. -/
module

public import proofs.«01_k».proof.Proof.Gen.AdamDownIdeal.Frame
public import proofs.«01_k».proof.Proof.Gen.AdamDownRefIdeal.Read
public import proofs.«01_k».proof.Proof.AdamStep
public import Idealize.ShloMosaic.Lib.Pipeline.ValueKit
public import Idealize.ShloMosaic.Lib.Pointwise
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem Idealize.ShloMosaic.Tactic
open Idealize.ShloMosaic.Pipeline (Dat)

namespace Cert.AdamDownIdeal.Value

open Cert.AdamDownIdeal Cert.AdamDownIdeal.Gen Cert.AdamStep
open Cert.AdamDownRefIdeal.Read

variable (m : (ℓ : Loc nD τ sig) → Buf (Elt Ideal) ℓ)

/-- Every array's block at grid point `t` is block `t` of its rows. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The row of the array that row `i` of block `t` is. -/
def row (t : Fin cfg0.N) (i : Fin 352) : Fin 1408 := ⟨t.val * 352 + i.val, by have := lt_of_lt_of_eq t.isLt N_0; omega⟩

/-- Row `i` of all layers one after the other, at column `j`, in a weight's own shape. -/
abbrev at3 (x : FVec Ideal S2x704x1024 .f32) (i : Fin 1408) (j : Fin 1024) : EReal := x (ix3 ⟨i.val / 704, by omega⟩ ⟨i.val % 704, by omega⟩ j)

/-- The reference's first result at an entry. -/
theorem ref_change (w g a v : FVec Ideal S2x704x1024 .f32) (i : Fin 1408) (j : Fin 1024) :
    val_main_v24 (F := Ideal) w g a v (ix2 i j) = change (at3 w i j) (at3 g i j) (at3 a i j) (at3 v i j) := by
  simp only [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  pointwise [change, mean, square, at3]

/-- The reference's second result at an entry. -/
theorem ref_mean (g a : FVec Ideal S2x704x1024 .f32) (i : Fin 1408) (j : Fin 1024) :
    val_main_v25 (F := Ideal) g a (ix2 i j) = mean (at3 g i j) (at3 a i j) := by
  simp only [val_main_v25, val_main_v4, val_main_v3, val_main_v2, val_main_v1, val_main_v0, val_main_cst, val_main_cst_0]
  pointwise [mean, at3]

/-- The reference's third result at an entry. -/
theorem ref_square (g v : FVec Ideal S2x704x1024 .f32) (i : Fin 1408) (j : Fin 1024) :
    val_main_v26 (F := Ideal) g v (ix2 i j) = square (at3 g i j) (at3 v i j) := by
  simp only [val_main_v26, val_main_v10, val_main_v9, val_main_v8, val_main_v7, val_main_v6, val_main_v5, val_main_cst_1, val_main_cst_2]
  pointwise [square, at3]

/-- What a grid point stores in the first result, at an entry. -/
theorem pay_change (w g a v : FVec Ideal S352x1024 .f32) (y) : k0_pay4 (F := Ideal) w g a v y = change (w y) (g y) (a y) (v y) := by
  pointwise [k0_pay4, k0_pay3, k0_pay2, k0_pay1, change, mean, square]

/-- What a grid point stores in the second result, at an entry. -/
theorem pay_mean (g a : FVec Ideal S352x1024 .f32) (y) : k0_pay2 (F := Ideal) g a y = mean (g y) (a y) := by
  pointwise [k0_pay2, k0_pay1, mean]

/-- What a grid point stores in the third result, at an entry. -/
theorem pay_square (g v : FVec Ideal S352x1024 .f32) (y) : k0_pay3 (F := Ideal) g v y = square (g y) (v y) := by
  pointwise [k0_pay3, k0_pay1, square]

/-- What the region finds in its array 0: argument 0, its layers' rows one after the other. -/
theorem V0 (c : Dev nD) (i : Fin 1408) (j : Fin 1024) : V m c main_v0 (ix2 i j) = at3 (m ((c : Thread nD τ).loc main_arg0)) i j := by
  simp only [V, hostOps0, List.flatten_cons, List.flatten_nil, List.append_nil, List.cons_append, List.nil_append]
  after_reads_at

/-- What the region finds in its array 1: argument 1, its layers' rows one after the other. -/
theorem V1 (c : Dev nD) (i : Fin 1408) (j : Fin 1024) : V m c main_v1 (ix2 i j) = at3 (m ((c : Thread nD τ).loc main_arg1)) i j := by
  simp only [V, hostOps0, List.flatten_cons, List.flatten_nil, List.append_nil, List.cons_append, List.nil_append]
  after_reads_at

/-- What the region finds in its array 2: argument 2, its layers' rows one after the other. -/
theorem V2 (c : Dev nD) (i : Fin 1408) (j : Fin 1024) : V m c main_v2 (ix2 i j) = at3 (m ((c : Thread nD τ).loc main_arg2)) i j := by
  simp only [V, hostOps0, List.flatten_cons, List.flatten_nil, List.append_nil, List.cons_append, List.nil_append]
  after_reads_at

/-- What the region finds in its array 3: argument 3, its layers' rows one after the other. -/
theorem V3 (c : Dev nD) (i : Fin 1408) (j : Fin 1024) : V m c main_v3 (ix2 i j) = at3 (m ((c : Thread nD τ).loc main_arg3)) i j := by
  simp only [V, hostOps0, List.flatten_cons, List.flatten_nil, List.append_nil, List.cons_append, List.nil_append]
  after_reads_at

/-- An entry of block `t` of array 0. -/
theorem blk0 (c : Dev nD) (t : Fin cfg0.N) (i : Fin 352) (j : Fin 1024) : iblk m c 0 t (ix2 i j) = at3 (m ((c : Thread nD τ).loc main_arg0)) (row t i) j := by
  refine Eq.trans ?_ (V0 m c (row t i) j)
  have e : ((cfg0.win 0).blk t).view.emb (ix2 i j) = ix2 (row t i) j := by blk_point [idx t, row]
  exact congrArg (V m c main_v0) e

/-- An entry of block `t` of array 1. -/
theorem blk1 (c : Dev nD) (t : Fin cfg0.N) (i : Fin 352) (j : Fin 1024) : iblk m c 1 t (ix2 i j) = at3 (m ((c : Thread nD τ).loc main_arg1)) (row t i) j := by
  refine Eq.trans ?_ (V1 m c (row t i) j)
  have e : ((cfg0.win 1).blk t).view.emb (ix2 i j) = ix2 (row t i) j := by blk_point [idx t, row]
  exact congrArg (V m c main_v1) e

/-- An entry of block `t` of array 2. -/
theorem blk2 (c : Dev nD) (t : Fin cfg0.N) (i : Fin 352) (j : Fin 1024) : iblk m c 2 t (ix2 i j) = at3 (m ((c : Thread nD τ).loc main_arg2)) (row t i) j := by
  refine Eq.trans ?_ (V2 m c (row t i) j)
  have e : ((cfg0.win 2).blk t).view.emb (ix2 i j) = ix2 (row t i) j := by blk_point [idx t, row]
  exact congrArg (V m c main_v2) e

/-- An entry of block `t` of array 3. -/
theorem blk3 (c : Dev nD) (t : Fin cfg0.N) (i : Fin 352) (j : Fin 1024) : iblk m c 3 t (ix2 i j) = at3 (m ((c : Thread nD τ).loc main_arg3)) (row t i) j := by
  refine Eq.trans ?_ (V3 m c (row t i) j)
  have e : ((cfg0.win 3).blk t).view.emb (ix2 i j) = ix2 (row t i) j := by blk_point [idx t, row]
  exact congrArg (V m c main_v3) e

/-- Where entry `(i, j)` of block `t` lies in a result. -/
theorem place (t : Fin cfg0.N) (i : Fin 352) (j : Fin 1024) : ((cfg0.win 4).blk t).view.emb (ix2 i j) = ix2 (row t i) j
    ∧ ((cfg0.win 5).blk t).view.emb (ix2 i j) = ix2 (row t i) j ∧ ((cfg0.win 6).blk t).view.emb (ix2 i j) = ix2 (row t i) j := by
  refine ⟨?_, ?_, ?_⟩ <;> blk_point [idx t, row]

/-- The kernel's first result array is the reference's. -/
theorem final (c : Dev nD) : (dats m 0 c).arrAt 4 (cfgs 0).N = val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  idx_vars y
  rw [after0_4, show out0_4 (iblk m c 0 t) (iblk m c 1 t) (iblk m c 2 t) (iblk m c 3 t) (ix2 y0 y1) = k0_pay4 (iblk m c 0 t) (iblk m c 1 t) (iblk m c 2 t) (iblk m c 3 t) (ix2 y0 y1) by frame_out, pay_change, blk0, blk1, blk2, blk3, (place t y0 y1).1]
  exact (ref_change _ _ _ _ _ _).symm

/-- The kernel's second result array is the reference's. -/
theorem final2 (c : Dev nD) : (dats m 0 c).arrAt 5 (cfgs 0).N = val_main_v25 (F := Ideal) (m ((c : Thread nD τ).loc main_arg1)) (m ((c : Thread nD τ).loc main_arg2)) := by
  refine (dats m 0 c).arrAt_eq_of_covers 5 _ (by decide +kernel) fun t _ y => ?_
  blk_simp
  idx_vars y
  rw [after0_5, show out0_5 (iblk m c 0 t) (iblk m c 1 t) (iblk m c 2 t) (iblk m c 3 t) (ix2 y0 y1) = k0_pay2 (iblk m c 1 t) (iblk m c 2 t) (ix2 y0 y1) by frame_out, pay_mean, blk1, blk2, (place t y0 y1).2.1]
  exact (ref_mean _ _ _ _).symm

/-- The kernel's third result array is the reference's. -/
theorem final3 (c : Dev nD) : (dats m 0 c).arrAt 6 (cfgs 0).N = val_main_v26 (F := Ideal) (m ((c : Thread nD τ).loc main_arg1)) (m ((c : Thread nD τ).loc main_arg3)) := by
  refine (dats m 0 c).arrAt_eq_of_covers 6 _ (by decide +kernel) fun t _ y => ?_
  blk_simp
  idx_vars y
  rw [after0_6, show out0_6 (iblk m c 0 t) (iblk m c 1 t) (iblk m c 2 t) (iblk m c 3 t) (ix2 y0 y1) = k0_pay3 (iblk m c 1 t) (iblk m c 3 t) (ix2 y0 y1) by frame_out, pay_square, blk1, blk3, (place t y0 y1).2.2]
  exact (ref_square _ _ _ _).symm

end Cert.AdamDownIdeal.Value

end
-- ==== Proof.DownEnd.lean ====
/- The last feed-forward block's second product with the residual, accumulated over two halves of the features. -/
module

public import proofs.«01_k».proof.Proof.Gen.DownEndIdeal.Frame
public import proofs.«01_k».proof.Proof.Gen.DownEndRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem Idealize.ShloMosaic.Tactic
open Idealize.ShloMosaic.Pipeline (Dat)

namespace Cert.DownEndIdeal.Value

open Cert.DownEndIdeal Cert.DownEndIdeal.Gen
open Cert.DownEndRefIdeal.Read

variable (m : (ℓ : Loc nD τ sig) → Buf (Elt Ideal) ℓ)

/-- The blocks that grid point `t` stages. -/
theorem idx : ∀ t : Fin cfg0.N, win0_0.index t = ![t.val / 2, t.val % 2] ∧ win0_1.index t = ![0, t.val % 2, 0] ∧ win0_2.index t = ![t.val / 2, 0] ∧ win0_3.index t = ![t.val / 2, 0] :=
  (by decide +kernel : ∀ t : Fin grid0.N, _)

/-- The reference's result: the residual plus the product. -/
abbrev ref (x : FVec Ideal S2064x2816 .bf16) (w : FVec Ideal S1x2816x1024 .bf16) (h : FVec Ideal S2064x1024 .f32) : FVec Ideal S2064x1024 .f32 :=
  val_main_v4 (F := Ideal) x w h

/-- The result at an entry. -/
theorem ref_apply (x : FVec Ideal S2064x2816 .bf16) (w : FVec Ideal S1x2816x1024 .bf16) (h : FVec Ideal S2064x1024 .f32) (i : Fin 2064) (j : Fin 1024) :
    ref x w h (ix2 i j) = h (ix2 i j) + ∑ l : Fin 2816, x (ix2 i l) * w (ix3 0 l j) := by
  simp only [ref, val_main_v4, val_main_v3, val_main_v2, val_main_v1, val_main_v0]
  pointwise []

/-- The first point of a row block starts from the residual. -/
theorem hstart (h : FVec Ideal S688x1024 .f32) (j) : k0_pay1 (F := Ideal) h j = h j := by pointwise [k0_pay1]

/-- Every point adds its block's share of the sum. -/
theorem hpay (acc : FVec Ideal S688x1024 .f32) (x : FVec Ideal S688x1408 .bf16) (w : FVec Ideal S1x1408x1024 .bf16) (i : Fin 688) (j : Fin 1024) :
    k0_pay2 acc x w (ix2 i j) = acc (ix2 i j) + ∑ k : Fin 1408, x (ix2 i k) * w (ix3 0 k j) := by pointwise [k0_pay2]

/-- The row of the result that row `i` of block `t` is. -/
def row (t : Fin cfg0.N) (i : Fin 688) : Fin 2064 := ⟨t.val / 2 * 688 + i.val, by have := lt_of_lt_of_eq t.isLt N_0; omega⟩

/-- The residual plus the first half of the product's sum. -/
def firstHalf (x : FVec Ideal S2064x2816 .bf16) (w : FVec Ideal S1x2816x1024 .bf16) (h : FVec Ideal S2064x1024 .f32) (i : Fin 2064) (j : Fin 1024) : EReal :=
  h (ix2 i j) + ∑ k : Fin 1408, x (ix2 i ⟨k.val, by omega⟩) * w (ix3 0 ⟨k.val, by omega⟩ j)

/-- What the accumulator holds after a row block's last point: the result's rows. -/
theorem acc_last (c : Dev nD) (t : Fin cfg0.N) (ht : t.val % 2 = 1) (i : Fin 688) (j : Fin 1024) :
    (outsAt0 m c t.val t.isLt).2 (ix2 i j) = ref (m ((c : Thread nD τ).loc main_arg0)) (m ((c : Thread nD τ).loc main_arg1)) (m ((c : Thread nD τ).loc main_arg2)) (ix2 (row t i) j) := by
  have hN := lt_of_lt_of_eq t.isLt N_0
  let s : Fin cfg0.N := ⟨t.val - 1, by omega⟩
  have hs : (outsAt0 m c s.val s.isLt).2 (ix2 i j) = firstHalf (m ((c : Thread nD τ).loc main_arg0)) (m ((c : Thread nD τ).loc main_arg1)) (m ((c : Thread nD τ).loc main_arg2)) (row t i) j := by
    unfold firstHalf
    have e1 : (t.val - 1) % 2 = 0 := by omega
    have e2 : (t.val - 1) / 2 = t.val / 2 := by omega
    rw [outsAt0_A m c s (by simp only [s]; omega) (by simp only [s]; omega)]; frame_out; rw [hpay, hstart]
    blk_point [iblk, V, idx s, row, s, e1, e2]
  rw [outsAt0_B m c t (by omega) ht]; frame_out
  rw [hpay, (Memref.isWhole_whole _).read_unread]
  refine (congrArg₂ (· + ·) hs rfl).trans ?_
  rw [ref_apply, firstHalf, add_assoc]
  congr 1
  refine Eq.trans ?_ (Fin.sum_univ_add (a := 1408) (b := 1408) _).symm
  congr 1
  blk_point [iblk, V, idx t, row, ht]
  all_goals rfl

/-- The kernel's result array is the reference's. -/
theorem final (c : Dev nD) : (dats m 0 c).arrAt 3 (cfgs 0).N = ref (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht := (flush0_3 t).mp hf
  blk_simp
  idx_vars y
  rw [after0_3, show (outsAt0 m c t.val t.isLt).1 = (outsAt0 m c t.val t.isLt).2 by
    rw [outsAt0_B m c t (by omega) ht]; funext i; frame_out, acc_last m c t ht]
  blk_point [idx t, row]

end Cert.DownEndIdeal.Value

end
-- ==== Proof.NormMath.lean ====
/- The gradient of a row's norm, in the two forms that the kernel and the reference give it. -/
module

public import Idealize.ShloMosaic.Lib.Pointwise
public import Idealize.ShloMosaic.PureOps

@[expose] public section

noncomputable section

namespace Cert.NormMath

open Idealize.ShloMosaic

/-- The number of entries of a row. -/
abbrev width : EReal := Ideal.ofBits .f32 0x44800000#32

/-- A row's mean square and the small number added to it. -/
def meanSq (u : Fin 1024 → EReal) : EReal := Ideal.div (∑ l, u l * u l) width + Ideal.ofBits .f32 0x358637BD#32

/-- The inverse root of a row's mean square. -/
def scale (u : Fin 1024 → EReal) : EReal := Ideal.rsqrt (meanSq u)

/-- A row times its scale and the gains. -/
def normed (u g : Fin 1024 → EReal) (j : Fin 1024) : EReal := u j * scale u * g j

/-- The kernel's form: the scaled row's part along itself is taken off before it is scaled. -/
def tiled (u g y : Fin 1024 → EReal) (e : EReal) (j : Fin 1024) : EReal :=
  e + scale u * (y j * g j - u j * scale u * Ideal.div (∑ l, y l * g l * (u l * scale u)) width)

/-- The rowSlope of the scale in the mean square, times what the row's gradient gives it. -/
def rowSlope (u g y : Fin 1024 → EReal) : EReal :=
  Ideal.div ((∑ l, u l * (y l * g l)) * (Ideal.ofBits .f32 0xBF000000#32 * Ideal.div (scale u) (meanSq u))) width

/-- The reference's form: the derivative of a row times its scale, term by term. -/
def plain (u g y : Fin 1024 → EReal) (e : EReal) (j : Fin 1024) : EReal :=
  e + (y j * g j * scale u + u j * rowSlope u g y + rowSlope u g y * u j)

theorem width_eq : width = ((1024 : ℝ) : EReal) := by
  simp [width, Ideal.ofBits, Ideal.ieee, -EReal.coe_mul]; norm_num

theorem half_eq : Ideal.ofBits .f32 0xBF000000#32 = ((-(1 / 2) : ℝ) : EReal) := by
  simp [Ideal.ofBits, Ideal.ieee, -EReal.coe_mul, -EReal.coe_neg]; norm_num

theorem small_eq : ∃ ε : ℝ, 0 < ε ∧ Ideal.ofBits .f32 0x358637BD#32 = (ε : EReal) := by
  refine ⟨_, ?_, by simp [Ideal.ofBits, Ideal.ieee]; rfl⟩
  norm_num

/-- A real factor that is not negative goes into a sum. -/
theorem mul_sum {ι : Type} (s : Finset ι) (f : ι → EReal) {a : ℝ} (ha : 0 ≤ a) : (a : EReal) * ∑ i ∈ s, f i = ∑ i ∈ s, (a : EReal) * f i := by
  classical
  induction s using Finset.induction_on with
  | empty => simp
  | insert i s h ih =>
    rw [Finset.sum_insert h, Finset.sum_insert h, EReal.left_distrib_of_nonneg_of_ne_top (by exact_mod_cast ha) (EReal.coe_ne_top _), ih]

/-- A sum of reals. -/
theorem coe_sum {ι : Type} (s : Finset ι) (f : ι → ℝ) : ((∑ i ∈ s, f i : ℝ) : EReal) = ∑ i ∈ s, (f i : EReal) := by
  classical
  induction s using Finset.induction_on with
  | empty => simp
  | insert i s h ih => rw [Finset.sum_insert h, Finset.sum_insert h, EReal.coe_add, ih]

/-- A square is not negative. -/
theorem square_nonneg (x : EReal) : 0 ≤ x * x := by
  rcases le_total 0 x with h | h
  · exact mul_nonneg h h
  · rw [← neg_mul_neg]; exact mul_nonneg (EReal.neg_nonneg.mpr h) (EReal.neg_nonneg.mpr h)

/-- A row with an infinite entry has an infinite mean square, and is scaled to nothing. -/
theorem meanSq_top (u : Fin 1024 → EReal) (l : Fin 1024) (h : u l * u l = ⊤) : meanSq u = ⊤ := by
  obtain ⟨ε, hε, e⟩ := small_eq
  have s : ∑ l, u l * u l = ⊤ := top_le_iff.mp (h ▸ Finset.single_le_sum (f := fun l => u l * u l) (fun i _ => square_nonneg (u i)) (Finset.mem_univ l))
  rw [meanSq, s, e, width_eq, Ideal.div_coe (by norm_num), EReal.top_mul_coe_of_pos (by norm_num), EReal.top_add_coe]

/-- A real row's mean square and scale. -/
theorem meanSq_real (x : Fin 1024 → ℝ) : ∃ μ : ℝ, 0 < μ ∧ meanSq (fun l => (x l : EReal)) = (μ : EReal)
    ∧ scale (fun l => (x l : EReal)) = (((Real.sqrt μ)⁻¹ : ℝ) : EReal) := by
  obtain ⟨ε, hε, e⟩ := small_eq
  have p : 0 < (∑ l, x l * x l) * (1 / 1024) + ε := by
    have := Finset.sum_nonneg (s := Finset.univ) fun l _ => mul_self_nonneg (x l)
    positivity
  have q : meanSq (fun l => (x l : EReal)) = (((∑ l, x l * x l) * (1 / 1024) + ε : ℝ) : EReal) := by
    rw [meanSq, e, width_eq, Ideal.div_coe (by norm_num), EReal.coe_add, EReal.coe_mul, coe_sum]
    simp only [EReal.coe_mul]
  refine ⟨_, p, q, ?_⟩
  rw [scale, q, Ideal.rsqrt_coe, if_neg (not_lt.mpr p.le), if_neg p.ne']

/-- The two forms agree, whatever the entries are. -/
theorem forms (u g y : Fin 1024 → EReal) (e : EReal) (j : Fin 1024) : tiled u g y e j = plain u g y e j := by
  by_cases h : ∃ l, u l * u l = ⊤
  · obtain ⟨l, h⟩ := h
    have z : scale u = 0 := by rw [scale, meanSq_top u l h, Ideal.rsqrt_top]
    have w : rowSlope u g y = 0 := by
      rw [rowSlope, z, meanSq_top u l h, width_eq, Ideal.div_coe (by norm_num)]
      simp [Ideal.div]
    rw [tiled, plain, w, z]; simp
  · have f : ∀ l, ∃ x : ℝ, u l = x := fun l => by
      have hl : u l * u l ≠ ⊤ := fun q => h ⟨l, q⟩
      generalize u l = v at hl ⊢
      induction v using EReal.rec with
      | bot => simp at hl
      | top => simp at hl
      | coe x => exact ⟨x, rfl⟩
    choose x hx using f
    obtain rfl : u = fun l => (x l : EReal) := funext hx
    obtain ⟨μ, hμ, q, r⟩ := meanSq_real x
    have hr : 0 < (Real.sqrt μ)⁻¹ := by positivity
    have hrr : (Real.sqrt μ)⁻¹ * (Real.sqrt μ)⁻¹ = 1 / μ := by
      rw [← mul_inv, Real.mul_self_sqrt hμ.le, one_div]
    generalize (Real.sqrt μ)⁻¹ = ρ at *
    have s : ∑ l, y l * g l * ((x l : EReal) * (ρ : EReal)) = (ρ : EReal) * ∑ l, (x l : EReal) * (y l * g l) := by
      rw [mul_sum _ _ hr.le]; refine Finset.sum_congr rfl fun l _ => ?_; ac_rfl
    simp only [tiled, plain, rowSlope, r, q, s, width_eq, half_eq, Ideal.div_coe hμ.ne', Ideal.div_coe (show (1024 : ℝ) ≠ 0 by norm_num)]
    generalize ∑ l, (x l : EReal) * (y l * g l) = S
    generalize y j * g j = c
    have a : (x j : EReal) * (ρ : EReal) * ((ρ : EReal) * S * ((1 / 1024 : ℝ) : EReal)) = S * ((x j * ρ * ρ * (1 / 1024) : ℝ) : EReal) := by
      simp only [EReal.coe_mul]; ac_rfl
    have b : S * (((-(1 / 2) : ℝ) : EReal) * ((ρ : EReal) * ((1 / μ : ℝ) : EReal))) * ((1 / 1024 : ℝ) : EReal) = S * ((-(1 / 2) * (ρ * (1 / μ)) * (1 / 1024) : ℝ) : EReal) := by
      simp only [EReal.coe_mul]; ac_rfl
    rw [a, b, sub_eq_add_neg, EReal.left_distrib_of_nonneg_of_ne_top (by exact_mod_cast hr.le) (EReal.coe_ne_top _), add_assoc (c * (ρ : EReal)), mul_comm (ρ : EReal) c]
    congr 2
    have d : (x j : EReal) * (S * ((-(1 / 2) * (ρ * (1 / μ)) * (1 / 1024) : ℝ) : EReal)) = S * ((x j * (-(1 / 2) * (ρ * (1 / μ)) * (1 / 1024)) : ℝ) : EReal) := by
      simp only [EReal.coe_mul]; ac_rfl
    rw [mul_comm _ (x j : EReal), d, ← mul_neg, ← EReal.coe_neg]
    have t : ∀ z : EReal, z + z = z * ((2 : ℝ) : EReal) := fun z => by
      rw [show ((2 : ℝ) : EReal) = 1 + 1 by rw [← EReal.coe_one, ← EReal.coe_add]; norm_num, EReal.left_distrib_of_nonneg zero_le_one zero_le_one, mul_one]
    rw [t, mul_comm (ρ : EReal), mul_assoc, mul_assoc S, ← EReal.coe_mul, ← EReal.coe_mul, ← hrr]
    congr 2
    ring

end Cert.NormMath

end
-- ==== Proof.RmsBwd.lean ====
/- The gradient of a norm and of its gain: the rows' gradients block by block, the gain's summed over the blocks. -/
module

public import proofs.«01_k».proof.Proof.Gen.RmsBwdIdeal.Frame
public import proofs.«01_k».proof.Proof.Gen.RmsBwdRefIdeal.Read
public import proofs.«01_k».proof.Proof.NormMath
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem Idealize.ShloMosaic.Tactic
open Idealize.ShloMosaic.Pipeline (Dat)

namespace Cert.RmsBwdIdeal.Value

open Cert.RmsBwdIdeal Cert.RmsBwdIdeal.Gen Cert.NormMath
open Cert.RmsBwdRefIdeal.Read

variable (m : (ℓ : Loc nD τ sig) → Buf (Elt Ideal) ℓ)

/-- The blocks that grid point `t` stages: block `t` of the rows, and the one row of gains. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] :=
  (by decide +kernel : ∀ t : Fin grid0.N, _)

/-- The row of the array that row `i` of block `t` is. -/
def row (t : Fin cfg0.N) (i : Fin 688) : Fin 2064 := ⟨t.val * 688 + i.val, by have := lt_of_lt_of_eq t.isLt N_0; omega⟩

/-- The reference's first result. -/
abbrev ref (h : FVec Ideal S2064x1024 .f32) (g : FVec Ideal S1x1024 .f32) (y e : FVec Ideal S2064x1024 .f32) : FVec Ideal S2064x1024 .f32 :=
  val_main_v34 (F := Ideal) h g y e

/-- The reference's second result. -/
abbrev ref2 (h y : FVec Ideal S2064x1024 .f32) : FVec Ideal S1x1024 .f32 := val_main_v17 (F := Ideal) h y

/-- The first result at an entry. -/
theorem ref_apply (h : FVec Ideal S2064x1024 .f32) (g : FVec Ideal S1x1024 .f32) (y e : FVec Ideal S2064x1024 .f32) (i : Fin 2064) (j : Fin 1024) :
    ref h g y e (ix2 i j) = plain (fun l => h (ix2 i l)) (fun l => g (ix2 0 l)) (fun l => y (ix2 i l)) (e (ix2 i j)) j := by
  simp only [ref, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v10, val_main_v9, val_main_v8, val_main_v7, val_main_v6, val_main_v5, val_main_v4, val_main_v3, val_main_v2, val_main_v1, val_main_v0, val_main_cst, val_main_cst_0, val_main_cst_1, val_main_cst_2, val_main_cst_4, val_main_cst_5, val_main_cst_6]
  pointwise [plain, rowSlope, scale, meanSq]
  simp only [Fin.sum_univ_one]

/-- A row's part of the gain's gradient. -/
def gain (h y : FVec Ideal S2064x1024 .f32) (j : Fin 1024) (i : Fin 2064) : EReal := y (ix2 i j) * (h (ix2 i j) * scale fun l => h (ix2 i l))

/-- The second result at an entry. -/
theorem ref2_apply (h y : FVec Ideal S2064x1024 .f32) (j : Fin 1024) : ref2 h y (ix2 0 j) = ∑ i : Fin 2064, gain h y j i := by
  simp only [ref2, val_main_v17, val_main_v16, val_main_v15, val_main_v12, val_main_v11, val_main_v7, val_main_v6, val_main_v5, val_main_v4, val_main_v3, val_main_v2, val_main_v1, val_main_v0, val_main_cst, val_main_cst_0, val_main_cst_1, val_main_cst_3]
  pointwise [gain, scale, meanSq]
  exact Finset.sum_congr rfl fun i _ => mul_comm _ _

/-- What a grid point stores of the rows' gradients. -/
theorem pay_rows (h : FVec Ideal S688x1024 .f32) (g : FVec Ideal S1x1024 .f32) (y e : FVec Ideal S688x1024 .f32) (i : Fin 688) (j : Fin 1024) :
    k0_pay5 (F := Ideal) h g y e (ix2 i j) = tiled (fun l => h (ix2 i l)) (fun l => g (ix2 0 l)) (fun l => y (ix2 i l)) (e (ix2 i j)) j := by
  pointwise [k0_pay5, k0_pay3, k0_pay2, tiled, scale, meanSq]

/-- A block's part of the gain's gradient. -/
theorem pay_gain (h y : FVec Ideal S688x1024 .f32) (j : Fin 1024) :
    k0_pay4 (F := Ideal) h y (ix2 0 j) = ∑ i : Fin 688, y (ix2 i j) * (h (ix2 i j) * scale fun l => h (ix2 i l)) := by
  pointwise [k0_pay4, k0_pay3, k0_pay2, scale, meanSq]

/-- A later block's part is added to what the blocks before gave. -/
theorem pay_add (v a : FVec Ideal S1x1024 .f32) (y) : k0_pay1 (F := Ideal) v a y = a y + v y := by pointwise [k0_pay1]

theorem blk0 (c : Dev nD) (t : Fin cfg0.N) (i : Fin 688) (j : Fin 1024) : iblk m c 0 t (ix2 i j) = m ((c : Thread nD τ).loc main_arg0) (ix2 (row t i) j) := by
  blk_point [iblk, V, idx t, row]
theorem blk1 (c : Dev nD) (t : Fin cfg0.N) (j : Fin 1024) : iblk m c 1 t (ix2 0 j) = m ((c : Thread nD τ).loc main_arg1) (ix2 0 j) := by
  blk_point [iblk, V, idx t]
theorem blk2 (c : Dev nD) (t : Fin cfg0.N) (i : Fin 688) (j : Fin 1024) : iblk m c 2 t (ix2 i j) = m ((c : Thread nD τ).loc main_arg2) (ix2 (row t i) j) := by
  blk_point [iblk, V, idx t, row]
theorem blk3 (c : Dev nD) (t : Fin cfg0.N) (i : Fin 688) (j : Fin 1024) : iblk m c 3 t (ix2 i j) = m ((c : Thread nD τ).loc main_arg3) (ix2 (row t i) j) := by
  blk_point [iblk, V, idx t, row]

/-- Every point stores its rows' gradients. -/
theorem rows_at (c : Dev nD) (t : Fin cfg0.N) : (outsAt0 m c t.val t.isLt).1 = k0_pay5 (iblk m c 0 t) (iblk m c 1 t) (iblk m c 2 t) (iblk m c 3 t) := by
  have := lt_of_lt_of_eq t.isLt N_0
  by_cases h : t.val = 0
  · rw [outsAt0_A m c t (by omega) (by omega)]; funext i; frame_out
  · rw [outsAt0_B m c t (by omega) (by omega)]; funext i; frame_out

/-- The kernel's first result array is the reference's. -/
theorem final (c : Dev nD) : (dats m 0 c).arrAt 4 (cfgs 0).N = ref (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  idx_vars y
  have e : ((cfg0.win 4).blk t).view.emb (ix2 y0 y1) = ix2 (row t y0) y1 := by blk_point [idx t, row]
  rw [after0_4, rows_at]
  refine (pay_rows _ _ _ _ y0 y1).trans ?_
  simp only [blk0, blk1, blk2, blk3]
  rw [forms]
  exact ((congrArg (ref (m ((c : Thread nD τ).loc main_arg0)) (m ((c : Thread nD τ).loc main_arg1)) (m ((c : Thread nD τ).loc main_arg2)) (m ((c : Thread nD τ).loc main_arg3))) e).trans (ref_apply _ _ _ _ _ _)).symm

/-- A block's rows' parts of the gain's gradient. -/
theorem gain_block (c : Dev nD) (t : Fin cfg0.N) (j : Fin 1024) : k0_pay4 (F := Ideal) (iblk m c 0 t) (iblk m c 2 t) (ix2 0 j)
    = ∑ i : Fin 688, gain (m ((c : Thread nD τ).loc main_arg0)) (m ((c : Thread nD τ).loc main_arg2)) j (row t i) := by
  refine (pay_gain _ _ j).trans ?_
  simp only [blk0, blk2, gain]

/-- What the sum holds after the first point, and after each later one. -/
theorem gain_first (c : Dev nD) (t : Fin cfg0.N) (h : t.val = 0) : (outsAt0 m c t.val t.isLt).2 = k0_pay4 (iblk m c 0 t) (iblk m c 2 t) := by
  rw [outsAt0_A m c t (by omega) (by omega)]; funext i; frame_out

theorem gain_next (c : Dev nD) (s t : Fin cfg0.N) (h : t.val = s.val + 1) (j : Fin 1024) :
    (outsAt0 m c t.val t.isLt).2 (ix2 0 j) = (outsAt0 m c s.val s.isLt).2 (ix2 0 j) + k0_pay4 (F := Ideal) (iblk m c 0 t) (iblk m c 2 t) (ix2 0 j) := by
  obtain ⟨sv, hs⟩ := s; obtain ⟨tv, ht⟩ := t
  obtain rfl : tv = sv + 1 := h
  have b : sv + 1 < 3 := lt_of_lt_of_eq ht N_0
  rw [outsAt0_B m c ⟨sv + 1, ht⟩ (by simp only; omega) (by simp only; omega)]; frame_out
  exact pay_add _ _ _

/-- A sum over the rows, block by block. -/
theorem blocks_sum (f : Fin 2064 → EReal) : ∑ i, f i
    = ∑ i : Fin 688, f ⟨i.val, by omega⟩ + ∑ i : Fin 688, f ⟨688 + i.val, by omega⟩ + ∑ i : Fin 688, f ⟨1376 + i.val, by omega⟩ := by
  refine (Fin.sum_univ_add (a := 1376) (b := 688) f).trans ?_
  rw [Fin.sum_univ_add (a := 688) (b := 688) fun i => f (Fin.castAdd 688 i)]
  rfl

/-- After the last point the sum is the second result. -/
theorem gain_last (c : Dev nD) (t : Fin cfg0.N) (h : t.val = 2) (j : Fin 1024) :
    (outsAt0 m c t.val t.isLt).2 (ix2 0 j) = ref2 (m ((c : Thread nD τ).loc main_arg0)) (m ((c : Thread nD τ).loc main_arg2)) (ix2 0 j) := by
  have hN := N_0
  let t0 : Fin cfg0.N := ⟨0, by omega⟩
  let t1 : Fin cfg0.N := ⟨1, by omega⟩
  rw [gain_next m c t1 t h, gain_next m c t0 t1 rfl, gain_first m c t0 rfl, gain_block, gain_block, gain_block, ref2_apply]
  rw [blocks_sum]
  have e0 : ∀ i : Fin 688, row t0 i = ⟨i.val, by omega⟩ := fun i => Fin.ext (by simp [row, t0])
  have e1 : ∀ i : Fin 688, row t1 i = ⟨688 + i.val, by omega⟩ := fun i => Fin.ext (by simp [row, t1])
  have e2 : ∀ i : Fin 688, row t i = ⟨1376 + i.val, by omega⟩ := fun i => Fin.ext (by simp [row, h])
  simp only [e0, e1, e2]

/-- The kernel's second result array is the reference's. -/
theorem final2 (c : Dev nD) : (dats m 0 c).arrAt 5 (cfgs 0).N = ref2 (m ((c : Thread nD τ).loc main_arg0)) (m ((c : Thread nD τ).loc main_arg2)) := by
  refine (dats m 0 c).arrAt_eq_of_covers 5 _ (by decide +kernel) fun t hf y => ?_
  have ht := (flush0_5 t).mp hf
  blk_simp
  idx_vars y
  obtain rfl : y0 = 0 := Subsingleton.elim (α := Fin 1) _ _
  have e : ((cfg0.win 5).blk t).view.emb (ix2 0 y1) = ix2 0 y1 := by blk_point [idx t]
  have hN := lt_of_lt_of_eq t.isLt N_0
  rw [after0_5]
  refine (gain_last m c t (by omega) y1).trans ?_
  exact congrArg (ref2 (m ((c : Thread nD τ).loc main_arg0)) (m ((c : Thread nD τ).loc main_arg2))) e.symm

end Cert.RmsBwdIdeal.Value

end
-- ==== Proof.AdamPack.lean ====
/- The small weights, packed into one array of rows of 1024: what is taken out at a weight's place is that weight. -/
module

public import proofs.«01_k».proof.Proof.Gen.AdamSmallIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem Idealize.ShloMosaic.Tactic
open Idealize.ShloMosaic.Pipeline (Dat)

namespace Cert.AdamPack

open Cert.AdamSmallIdeal Cert.AdamSmallIdeal.Gen

/-- One array for each small weight. -/
structure Small where
  x0 : FVec Ideal S16x256 .f32
  x1 : FVec Ideal S1x31x128 .f32
  x2 : FVec Ideal S1x3x128 .f32
  x3 : FVec Ideal S1x448 .f32
  x4 : FVec Ideal S1x128 .f32
  x5 : FVec Ideal S1x64x128 .f32
  x6 : FVec Ideal S1x128 .f32
  x7 : FVec Ideal S1x64x128 .f32
  x8 : FVec Ideal S1x128x128 .f32
  x9 : FVec Ideal S1x128 .f32
  x10 : FVec Ideal S1x128 .f32
  x11 : FVec Ideal S1x128 .f32
  x12 : FVec Ideal S1x128 .f32
  x13 : FVec Ideal S2x3x704 .f32
  x14 : FVec Ideal S2x1024 .f32
  x15 : FVec Ideal S2x1024 .f32
  x16 : FVec Ideal S1024 .f32
  x17 : FVec Ideal S1x512 .f32
  x18 : FVec Ideal S1x512 .f32
  x19 : FVec Ideal S1x8 .f32
  x20 : FVec Ideal S1x8x64 .f32
  x21 : FVec Ideal S2x2816 .f32

/-- The first sixteen, one after the other. -/
def front (x : Small) : FVec Ideal S50752 .f32 :=
  concatenate S50752 0 [⟨S4096, shapeCast S4096 x.x0 shapeCasts_S16x256_S4096⟩, ⟨S3968, shapeCast S3968 x.x1 shapeCasts_S1x31x128_S3968⟩, ⟨S384, shapeCast S384 x.x2 shapeCasts_S1x3x128_S384⟩, ⟨S448, shapeCast S448 x.x3 shapeCasts_S1x448_S448⟩, ⟨S128, shapeCast S128 x.x4 shapeCasts_S1x128_S128⟩, ⟨S8192, shapeCast S8192 x.x5 shapeCasts_S1x64x128_S8192⟩, ⟨S128, shapeCast S128 x.x6 shapeCasts_S1x128_S128⟩, ⟨S8192, shapeCast S8192 x.x7 shapeCasts_S1x64x128_S8192⟩, ⟨S16384, shapeCast S16384 x.x8 shapeCasts_S1x128x128_S16384⟩, ⟨S128, shapeCast S128 x.x9 shapeCasts_S1x128_S128⟩, ⟨S128, shapeCast S128 x.x10 shapeCasts_S1x128_S128⟩, ⟨S128, shapeCast S128 x.x11 shapeCasts_S1x128_S128⟩, ⟨S128, shapeCast S128 x.x12 shapeCasts_S1x128_S128⟩, ⟨S4224, shapeCast S4224 x.x13 shapeCasts_S2x3x704_S4224⟩, ⟨S2048, shapeCast S2048 x.x14 shapeCasts_S2x1024_S2048⟩, ⟨S2048, shapeCast S2048 x.x15 shapeCasts_S2x1024_S2048⟩] concatenates_S4096_S3968_S384_S448_S128_S8192_S128_S8192_S16384_S128_S128_S128_S128_S4224_S2048_S2048_S50752_d0

/-- The others, one after the other. -/
def back (x : Small) : FVec Ideal S8200 .f32 :=
  concatenate S8200 0 [⟨S1024, x.x16⟩, ⟨S512, shapeCast S512 x.x17 shapeCasts_S1x512_S512⟩, ⟨S512, shapeCast S512 x.x18 shapeCasts_S1x512_S512⟩, ⟨S8, shapeCast S8 x.x19 shapeCasts_S1x8_S8⟩, ⟨S512, shapeCast S512 x.x20 shapeCasts_S1x8x64_S512⟩, ⟨S5632, shapeCast S5632 x.x21 shapeCasts_S2x2816_S5632⟩] concatenates_S1024_S512_S512_S8_S512_S5632_S8200_d0

/-- All of them, with zeros behind. -/
def flat (y : FVec Ideal S50752 .f32) (z : FVec Ideal S8200 .f32) : FVec Ideal S65536 .f32 :=
  pad S65536 ![0] ![6584] ![0] (concatenate S58952 0 [⟨S50752, y⟩, ⟨S8200, z⟩] concatenates_S50752_S8200_S58952_d0) (sitofp .f32 (constantI S_ 32 0#32)) pads_S58952_S65536_065840 h_S_

/-- The packed array. -/
def packed (x : Small) : FVec Ideal S64x1024 .f32 := shapeCast S64x1024 (flat (front x) (back x)) shapeCasts_S65536_S64x1024

/-- Its flat order is the order of packing. -/
theorem flat_packed (x : Small) : shapeCast S65536 (packed x) shapeCasts_S64x1024_S65536 = flat (front x) (back x) := shapeCast_shapeCast _ _ _

theorem flat_front (y : FVec Ideal S50752 .f32) (z : FVec Ideal S8200 .f32) (i : Fin 65536) (h : i.val < 50752) : flat y z (ix1 i) = y (ix1 ⟨i.val, h⟩) := by
  have h2 : i.val < 58952 := by omega
  pointwise [flat]
  rw [dif_pos h2, dif_pos h]

theorem flat_back (y : FVec Ideal S50752 .f32) (z : FVec Ideal S8200 .f32) (i : Fin 65536) (h : 50752 ≤ i.val) (h2 : i.val < 58952) :
    flat y z (ix1 i) = z (ix1 ⟨i.val - 50752, by omega⟩) := by
  pointwise [flat]
  rw [dif_pos h2, dif_neg (by omega)]

/-- What `front` puts together. -/
def fronts (x : Small) : List ((s : Shape) × FVec Ideal s .f32) :=
  [⟨S4096, shapeCast S4096 x.x0 shapeCasts_S16x256_S4096⟩, ⟨S3968, shapeCast S3968 x.x1 shapeCasts_S1x31x128_S3968⟩, ⟨S384, shapeCast S384 x.x2 shapeCasts_S1x3x128_S384⟩, ⟨S448, shapeCast S448 x.x3 shapeCasts_S1x448_S448⟩, ⟨S128, shapeCast S128 x.x4 shapeCasts_S1x128_S128⟩, ⟨S8192, shapeCast S8192 x.x5 shapeCasts_S1x64x128_S8192⟩, ⟨S128, shapeCast S128 x.x6 shapeCasts_S1x128_S128⟩, ⟨S8192, shapeCast S8192 x.x7 shapeCasts_S1x64x128_S8192⟩, ⟨S16384, shapeCast S16384 x.x8 shapeCasts_S1x128x128_S16384⟩, ⟨S128, shapeCast S128 x.x9 shapeCasts_S1x128_S128⟩, ⟨S128, shapeCast S128 x.x10 shapeCasts_S1x128_S128⟩, ⟨S128, shapeCast S128 x.x11 shapeCasts_S1x128_S128⟩, ⟨S128, shapeCast S128 x.x12 shapeCasts_S1x128_S128⟩, ⟨S4224, shapeCast S4224 x.x13 shapeCasts_S2x3x704_S4224⟩, ⟨S2048, shapeCast S2048 x.x14 shapeCasts_S2x1024_S2048⟩, ⟨S2048, shapeCast S2048 x.x15 shapeCasts_S2x1024_S2048⟩]

/-- What `back` puts together. -/
def backs (x : Small) : List ((s : Shape) × FVec Ideal s .f32) :=
  [⟨S1024, x.x16⟩, ⟨S512, shapeCast S512 x.x17 shapeCasts_S1x512_S512⟩, ⟨S512, shapeCast S512 x.x18 shapeCasts_S1x512_S512⟩, ⟨S8, shapeCast S8 x.x19 shapeCasts_S1x8_S8⟩, ⟨S512, shapeCast S512 x.x20 shapeCasts_S1x8x64_S512⟩, ⟨S5632, shapeCast S5632 x.x21 shapeCasts_S2x2816_S5632⟩]

theorem piece0 (x : Small) (k : Fin 4096) : front x (ix1 ⟨0 + k.val, by have := k.isLt; omega⟩) = (shapeCast S4096 x.x0 shapeCasts_S16x256_S4096) (ix1 k) :=
  concatenate_apply_piece (t := S50752) 0 (fronts x) concatenates_S4096_S3968_S384_S448_S128_S8192_S128_S8192_S16384_S128_S128_S128_S128_S4224_S2048_S2048_S50752_d0 (ix1 ⟨0 + k.val, by have := k.isLt; omega⟩) 0 (Nat.lt_of_lt_of_eq (by decide : 0 < 16) rfl) S4096 (shapeCast S4096 x.x0 shapeCasts_S16x256_S4096) rfl rfl 0 (by simp [fronts, List.take, Shape.rank]) (ix1 k) (fun b hb => absurd (Subsingleton.elim (α := Fin 1) _ _) hb) rfl

/-- meta tokens. -/
theorem back0 (x : Small) : shapeCast S16x256 (extractStridedSlice S4096 ![0] (shapeCast S65536 (packed x) shapeCasts_S64x1024_S65536) slices_S65536_S4096_0) shapeCasts_S4096_S16x256 = x.x0 := by
  have e : extractStridedSlice S4096 ![0] (shapeCast S65536 (packed x) shapeCasts_S64x1024_S65536) slices_S65536_S4096_0 = shapeCast S4096 x.x0 shapeCasts_S16x256_S4096 := by
    funext j
    idx_vars j
    rw [flat_packed]
    refine Eq.trans ?_ (piece0 x j0)
    have h1 : extractStridedSlice S4096 ![0] (flat (front x) (back x)) slices_S65536_S4096_0 (ix1 j0) = flat (front x) (back x) (ix1 ⟨0 + j0.val, by have := j0.isLt; omega⟩) := by pointwise
    rw [h1]
    exact flat_front (front x) (back x) ⟨0 + j0.val, by have := j0.isLt; omega⟩ (by have := j0.isLt; simp only; omega)
  rw [e]
  exact shapeCast_shapeCast _ _ _

theorem piece1 (x : Small) (k : Fin 3968) : front x (ix1 ⟨4096 + k.val, by have := k.isLt; omega⟩) = (shapeCast S3968 x.x1 shapeCasts_S1x31x128_S3968) (ix1 k) :=
  concatenate_apply_piece (t := S50752) 0 (fronts x) concatenates_S4096_S3968_S384_S448_S128_S8192_S128_S8192_S16384_S128_S128_S128_S128_S4224_S2048_S2048_S50752_d0 (ix1 ⟨4096 + k.val, by have := k.isLt; omega⟩) 1 (Nat.lt_of_lt_of_eq (by decide : 1 < 16) rfl) S3968 (shapeCast S3968 x.x1 shapeCasts_S1x31x128_S3968) rfl rfl 4096 (by simp [fronts, List.take, Shape.rank]) (ix1 k) (fun b hb => absurd (Subsingleton.elim (α := Fin 1) _ _) hb) rfl

/-- ev_conv_a. -/
theorem back1 (x : Small) : shapeCast S1x31x128 (extractStridedSlice S3968 ![4096] (shapeCast S65536 (packed x) shapeCasts_S64x1024_S65536) slices_S65536_S3968_4096) shapeCasts_S3968_S1x31x128 = x.x1 := by
  have e : extractStridedSlice S3968 ![4096] (shapeCast S65536 (packed x) shapeCasts_S64x1024_S65536) slices_S65536_S3968_4096 = shapeCast S3968 x.x1 shapeCasts_S1x31x128_S3968 := by
    funext j
    idx_vars j
    rw [flat_packed]
    refine Eq.trans ?_ (piece1 x j0)
    have h1 : extractStridedSlice S3968 ![4096] (flat (front x) (back x)) slices_S65536_S3968_4096 (ix1 j0) = flat (front x) (back x) (ix1 ⟨4096 + j0.val, by have := j0.isLt; omega⟩) := by pointwise
    rw [h1]
    exact flat_front (front x) (back x) ⟨4096 + j0.val, by have := j0.isLt; omega⟩ (by have := j0.isLt; simp only; omega)
  rw [e]
  exact shapeCast_shapeCast _ _ _

theorem piece2 (x : Small) (k : Fin 384) : front x (ix1 ⟨8064 + k.val, by have := k.isLt; omega⟩) = (shapeCast S384 x.x2 shapeCasts_S1x3x128_S384) (ix1 k) :=
  concatenate_apply_piece (t := S50752) 0 (fronts x) concatenates_S4096_S3968_S384_S448_S128_S8192_S128_S8192_S16384_S128_S128_S128_S128_S4224_S2048_S2048_S50752_d0 (ix1 ⟨8064 + k.val, by have := k.isLt; omega⟩) 2 (Nat.lt_of_lt_of_eq (by decide : 2 < 16) rfl) S384 (shapeCast S384 x.x2 shapeCasts_S1x3x128_S384) rfl rfl 8064 (by simp [fronts, List.take, Shape.rank]) (ix1 k) (fun b hb => absurd (Subsingleton.elim (α := Fin 1) _ _) hb) rfl

/-- ev_conv_b. -/
theorem back2 (x : Small) : shapeCast S1x3x128 (extractStridedSlice S384 ![8064] (shapeCast S65536 (packed x) shapeCasts_S64x1024_S65536) slices_S65536_S384_8064) shapeCasts_S384_S1x3x128 = x.x2 := by
  have e : extractStridedSlice S384 ![8064] (shapeCast S65536 (packed x) shapeCasts_S64x1024_S65536) slices_S65536_S384_8064 = shapeCast S384 x.x2 shapeCasts_S1x3x128_S384 := by
    funext j
    idx_vars j
    rw [flat_packed]
    refine Eq.trans ?_ (piece2 x j0)
    have h1 : extractStridedSlice S384 ![8064] (flat (front x) (back x)) slices_S65536_S384_8064 (ix1 j0) = flat (front x) (back x) (ix1 ⟨8064 + j0.val, by have := j0.isLt; omega⟩) := by pointwise
    rw [h1]
    exact flat_front (front x) (back x) ⟨8064 + j0.val, by have := j0.isLt; omega⟩ (by have := j0.isLt; simp only; omega)
  rw [e]
  exact shapeCast_shapeCast _ _ _

theorem piece3 (x : Small) (k : Fin 448) : front x (ix1 ⟨8448 + k.val, by have := k.isLt; omega⟩) = (shapeCast S448 x.x3 shapeCasts_S1x448_S448) (ix1 k) :=
  concatenate_apply_piece (t := S50752) 0 (fronts x) concatenates_S4096_S3968_S384_S448_S128_S8192_S128_S8192_S16384_S128_S128_S128_S128_S4224_S2048_S2048_S50752_d0 (ix1 ⟨8448 + k.val, by have := k.isLt; omega⟩) 3 (Nat.lt_of_lt_of_eq (by decide : 3 < 16) rfl) S448 (shapeCast S448 x.x3 shapeCasts_S1x448_S448) rfl rfl 8448 (by simp [fronts, List.take, Shape.rank]) (ix1 k) (fun b hb => absurd (Subsingleton.elim (α := Fin 1) _ _) hb) rfl

/-- od_mu. -/
theorem back3 (x : Small) : shapeCast S1x448 (extractStridedSlice S448 ![8448] (shapeCast S65536 (packed x) shapeCasts_S64x1024_S65536) slices_S65536_S448_8448) shapeCasts_S448_S1x448 = x.x3 := by
  have e : extractStridedSlice S448 ![8448] (shapeCast S65536 (packed x) shapeCasts_S64x1024_S65536) slices_S65536_S448_8448 = shapeCast S448 x.x3 shapeCasts_S1x448_S448 := by
    funext j
    idx_vars j
    rw [flat_packed]
    refine Eq.trans ?_ (piece3 x j0)
    have h1 : extractStridedSlice S448 ![8448] (flat (front x) (back x)) slices_S65536_S448_8448 (ix1 j0) = flat (front x) (back x) (ix1 ⟨8448 + j0.val, by have := j0.isLt; omega⟩) := by pointwise
    rw [h1]
    exact flat_front (front x) (back x) ⟨8448 + j0.val, by have := j0.isLt; omega⟩ (by have := j0.isLt; simp only; omega)
  rw [e]
  exact shapeCast_shapeCast _ _ _

theorem piece4 (x : Small) (k : Fin 128) : front x (ix1 ⟨8896 + k.val, by have := k.isLt; omega⟩) = (shapeCast S128 x.x4 shapeCasts_S1x128_S128) (ix1 k) :=
  concatenate_apply_piece (t := S50752) 0 (fronts x) concatenates_S4096_S3968_S384_S448_S128_S8192_S128_S8192_S16384_S128_S128_S128_S128_S4224_S2048_S2048_S50752_d0 (ix1 ⟨8896 + k.val, by have := k.isLt; omega⟩) 4 (Nat.lt_of_lt_of_eq (by decide : 4 < 16) rfl) S128 (shapeCast S128 x.x4 shapeCasts_S1x128_S128) rfl rfl 8896 (by simp [fronts, List.take, Shape.rank]) (ix1 k) (fun b hb => absurd (Subsingleton.elim (α := Fin 1) _ _) hb) rfl

/-- od_w0. -/
theorem back4 (x : Small) : shapeCast S1x128 (extractStridedSlice S128 ![8896] (shapeCast S65536 (packed x) shapeCasts_S64x1024_S65536) slices_S65536_S128_8896) shapeCasts_S128_S1x128 = x.x4 := by
  have e : extractStridedSlice S128 ![8896] (shapeCast S65536 (packed x) shapeCasts_S64x1024_S65536) slices_S65536_S128_8896 = shapeCast S128 x.x4 shapeCasts_S1x128_S128 := by
    funext j
    idx_vars j
    rw [flat_packed]
    refine Eq.trans ?_ (piece4 x j0)
    have h1 : extractStridedSlice S128 ![8896] (flat (front x) (back x)) slices_S65536_S128_8896 (ix1 j0) = flat (front x) (back x) (ix1 ⟨8896 + j0.val, by have := j0.isLt; omega⟩) := by pointwise
    rw [h1]
    exact flat_front (front x) (back x) ⟨8896 + j0.val, by have := j0.isLt; omega⟩ (by have := j0.isLt; simp only; omega)
  rw [e]
  exact shapeCast_shapeCast _ _ _

theorem piece5 (x : Small) (k : Fin 8192) : front x (ix1 ⟨9024 + k.val, by have := k.isLt; omega⟩) = (shapeCast S8192 x.x5 shapeCasts_S1x64x128_S8192) (ix1 k) :=
  concatenate_apply_piece (t := S50752) 0 (fronts x) concatenates_S4096_S3968_S384_S448_S128_S8192_S128_S8192_S16384_S128_S128_S128_S128_S4224_S2048_S2048_S50752_d0 (ix1 ⟨9024 + k.val, by have := k.isLt; omega⟩) 5 (Nat.lt_of_lt_of_eq (by decide : 5 < 16) rfl) S8192 (shapeCast S8192 x.x5 shapeCasts_S1x64x128_S8192) rfl rfl 9024 (by simp [fronts, List.take, Shape.rank]) (ix1 k) (fun b hb => absurd (Subsingleton.elim (α := Fin 1) _ _) hb) rfl

/-- od_w2. -/
theorem back5 (x : Small) : shapeCast S1x64x128 (extractStridedSlice S8192 ![9024] (shapeCast S65536 (packed x) shapeCasts_S64x1024_S65536) slices_S65536_S8192_9024) shapeCasts_S8192_S1x64x128 = x.x5 := by
  have e : extractStridedSlice S8192 ![9024] (shapeCast S65536 (packed x) shapeCasts_S64x1024_S65536) slices_S65536_S8192_9024 = shapeCast S8192 x.x5 shapeCasts_S1x64x128_S8192 := by
    funext j
    idx_vars j
    rw [flat_packed]
    refine Eq.trans ?_ (piece5 x j0)
    have h1 : extractStridedSlice S8192 ![9024] (flat (front x) (back x)) slices_S65536_S8192_9024 (ix1 j0) = flat (front x) (back x) (ix1 ⟨9024 + j0.val, by have := j0.isLt; omega⟩) := by pointwise
    rw [h1]
    exact flat_front (front x) (back x) ⟨9024 + j0.val, by have := j0.isLt; omega⟩ (by have := j0.isLt; simp only; omega)
  rw [e]
  exact shapeCast_shapeCast _ _ _

theorem piece6 (x : Small) (k : Fin 128) : front x (ix1 ⟨17216 + k.val, by have := k.isLt; omega⟩) = (shapeCast S128 x.x6 shapeCasts_S1x128_S128) (ix1 k) :=
  concatenate_apply_piece (t := S50752) 0 (fronts x) concatenates_S4096_S3968_S384_S448_S128_S8192_S128_S8192_S16384_S128_S128_S128_S128_S4224_S2048_S2048_S50752_d0 (ix1 ⟨17216 + k.val, by have := k.isLt; omega⟩) 6 (Nat.lt_of_lt_of_eq (by decide : 6 < 16) rfl) S128 (shapeCast S128 x.x6 shapeCasts_S1x128_S128) rfl rfl 17216 (by simp [fronts, List.take, Shape.rank]) (ix1 k) (fun b hb => absurd (Subsingleton.elim (α := Fin 1) _ _) hb) rfl

/-- od_a0. -/
theorem back6 (x : Small) : shapeCast S1x128 (extractStridedSlice S128 ![17216] (shapeCast S65536 (packed x) shapeCasts_S64x1024_S65536) slices_S65536_S128_17216) shapeCasts_S128_S1x128 = x.x6 := by
  have e : extractStridedSlice S128 ![17216] (shapeCast S65536 (packed x) shapeCasts_S64x1024_S65536) slices_S65536_S128_17216 = shapeCast S128 x.x6 shapeCasts_S1x128_S128 := by
    funext j
    idx_vars j
    rw [flat_packed]
    refine Eq.trans ?_ (piece6 x j0)
    have h1 : extractStridedSlice S128 ![17216] (flat (front x) (back x)) slices_S65536_S128_17216 (ix1 j0) = flat (front x) (back x) (ix1 ⟨17216 + j0.val, by have := j0.isLt; omega⟩) := by pointwise
    rw [h1]
    exact flat_front (front x) (back x) ⟨17216 + j0.val, by have := j0.isLt; omega⟩ (by have := j0.isLt; simp only; omega)
  rw [e]
  exact shapeCast_shapeCast _ _ _

theorem piece7 (x : Small) (k : Fin 8192) : front x (ix1 ⟨17344 + k.val, by have := k.isLt; omega⟩) = (shapeCast S8192 x.x7 shapeCasts_S1x64x128_S8192) (ix1 k) :=
  concatenate_apply_piece (t := S50752) 0 (fronts x) concatenates_S4096_S3968_S384_S448_S128_S8192_S128_S8192_S16384_S128_S128_S128_S128_S4224_S2048_S2048_S50752_d0 (ix1 ⟨17344 + k.val, by have := k.isLt; omega⟩) 7 (Nat.lt_of_lt_of_eq (by decide : 7 < 16) rfl) S8192 (shapeCast S8192 x.x7 shapeCasts_S1x64x128_S8192) rfl rfl 17344 (by simp [fronts, List.take, Shape.rank]) (ix1 k) (fun b hb => absurd (Subsingleton.elim (α := Fin 1) _ _) hb) rfl

/-- od_a2. -/
theorem back7 (x : Small) : shapeCast S1x64x128 (extractStridedSlice S8192 ![17344] (shapeCast S65536 (packed x) shapeCasts_S64x1024_S65536) slices_S65536_S8192_17344) shapeCasts_S8192_S1x64x128 = x.x7 := by
  have e : extractStridedSlice S8192 ![17344] (shapeCast S65536 (packed x) shapeCasts_S64x1024_S65536) slices_S65536_S8192_17344 = shapeCast S8192 x.x7 shapeCasts_S1x64x128_S8192 := by
    funext j
    idx_vars j
    rw [flat_packed]
    refine Eq.trans ?_ (piece7 x j0)
    have h1 : extractStridedSlice S8192 ![17344] (flat (front x) (back x)) slices_S65536_S8192_17344 (ix1 j0) = flat (front x) (back x) (ix1 ⟨17344 + j0.val, by have := j0.isLt; omega⟩) := by pointwise
    rw [h1]
    exact flat_front (front x) (back x) ⟨17344 + j0.val, by have := j0.isLt; omega⟩ (by have := j0.isLt; simp only; omega)
  rw [e]
  exact shapeCast_shapeCast _ _ _

theorem piece8 (x : Small) (k : Fin 16384) : front x (ix1 ⟨25536 + k.val, by have := k.isLt; omega⟩) = (shapeCast S16384 x.x8 shapeCasts_S1x128x128_S16384) (ix1 k) :=
  concatenate_apply_piece (t := S50752) 0 (fronts x) concatenates_S4096_S3968_S384_S448_S128_S8192_S128_S8192_S16384_S128_S128_S128_S128_S4224_S2048_S2048_S50752_d0 (ix1 ⟨25536 + k.val, by have := k.isLt; omega⟩) 8 (Nat.lt_of_lt_of_eq (by decide : 8 < 16) rfl) S16384 (shapeCast S16384 x.x8 shapeCasts_S1x128x128_S16384) rfl rfl 25536 (by simp [fronts, List.take, Shape.rank]) (ix1 k) (fun b hb => absurd (Subsingleton.elim (α := Fin 1) _ _) hb) rfl

/-- od_g2. -/
theorem back8 (x : Small) : shapeCast S1x128x128 (extractStridedSlice S16384 ![25536] (shapeCast S65536 (packed x) shapeCasts_S64x1024_S65536) slices_S65536_S16384_25536) shapeCasts_S16384_S1x128x128 = x.x8 := by
  have e : extractStridedSlice S16384 ![25536] (shapeCast S65536 (packed x) shapeCasts_S64x1024_S65536) slices_S65536_S16384_25536 = shapeCast S16384 x.x8 shapeCasts_S1x128x128_S16384 := by
    funext j
    idx_vars j
    rw [flat_packed]
    refine Eq.trans ?_ (piece8 x j0)
    have h1 : extractStridedSlice S16384 ![25536] (flat (front x) (back x)) slices_S65536_S16384_25536 (ix1 j0) = flat (front x) (back x) (ix1 ⟨25536 + j0.val, by have := j0.isLt; omega⟩) := by pointwise
    rw [h1]
    exact flat_front (front x) (back x) ⟨25536 + j0.val, by have := j0.isLt; omega⟩ (by have := j0.isLt; simp only; omega)
  rw [e]
  exact shapeCast_shapeCast _ _ _

theorem piece9 (x : Small) (k : Fin 128) : front x (ix1 ⟨41920 + k.val, by have := k.isLt; omega⟩) = (shapeCast S128 x.x9 shapeCasts_S1x128_S128) (ix1 k) :=
  concatenate_apply_piece (t := S50752) 0 (fronts x) concatenates_S4096_S3968_S384_S448_S128_S8192_S128_S8192_S16384_S128_S128_S128_S128_S4224_S2048_S2048_S50752_d0 (ix1 ⟨41920 + k.val, by have := k.isLt; omega⟩) 9 (Nat.lt_of_lt_of_eq (by decide : 9 < 16) rfl) S128 (shapeCast S128 x.x9 shapeCasts_S1x128_S128) rfl rfl 41920 (by simp [fronts, List.take, Shape.rank]) (ix1 k) (fun b hb => absurd (Subsingleton.elim (α := Fin 1) _ _) hb) rfl

/-- od_k_k. -/
theorem back9 (x : Small) : shapeCast S1x128 (extractStridedSlice S128 ![41920] (shapeCast S65536 (packed x) shapeCasts_S64x1024_S65536) slices_S65536_S128_41920) shapeCasts_S128_S1x128 = x.x9 := by
  have e : extractStridedSlice S128 ![41920] (shapeCast S65536 (packed x) shapeCasts_S64x1024_S65536) slices_S65536_S128_41920 = shapeCast S128 x.x9 shapeCasts_S1x128_S128 := by
    funext j
    idx_vars j
    rw [flat_packed]
    refine Eq.trans ?_ (piece9 x j0)
    have h1 : extractStridedSlice S128 ![41920] (flat (front x) (back x)) slices_S65536_S128_41920 (ix1 j0) = flat (front x) (back x) (ix1 ⟨41920 + j0.val, by have := j0.isLt; omega⟩) := by pointwise
    rw [h1]
    exact flat_front (front x) (back x) ⟨41920 + j0.val, by have := j0.isLt; omega⟩ (by have := j0.isLt; simp only; omega)
  rw [e]
  exact shapeCast_shapeCast _ _ _

theorem piece10 (x : Small) (k : Fin 128) : front x (ix1 ⟨42048 + k.val, by have := k.isLt; omega⟩) = (shapeCast S128 x.x10 shapeCasts_S1x128_S128) (ix1 k) :=
  concatenate_apply_piece (t := S50752) 0 (fronts x) concatenates_S4096_S3968_S384_S448_S128_S8192_S128_S8192_S16384_S128_S128_S128_S128_S4224_S2048_S2048_S50752_d0 (ix1 ⟨42048 + k.val, by have := k.isLt; omega⟩) 10 (Nat.lt_of_lt_of_eq (by decide : 10 < 16) rfl) S128 (shapeCast S128 x.x10 shapeCasts_S1x128_S128) rfl rfl 42048 (by simp [fronts, List.take, Shape.rank]) (ix1 k) (fun b hb => absurd (Subsingleton.elim (α := Fin 1) _ _) hb) rfl

/-- od_k_a. -/
theorem back10 (x : Small) : shapeCast S1x128 (extractStridedSlice S128 ![42048] (shapeCast S65536 (packed x) shapeCasts_S64x1024_S65536) slices_S65536_S128_42048) shapeCasts_S128_S1x128 = x.x10 := by
  have e : extractStridedSlice S128 ![42048] (shapeCast S65536 (packed x) shapeCasts_S64x1024_S65536) slices_S65536_S128_42048 = shapeCast S128 x.x10 shapeCasts_S1x128_S128 := by
    funext j
    idx_vars j
    rw [flat_packed]
    refine Eq.trans ?_ (piece10 x j0)
    have h1 : extractStridedSlice S128 ![42048] (flat (front x) (back x)) slices_S65536_S128_42048 (ix1 j0) = flat (front x) (back x) (ix1 ⟨42048 + j0.val, by have := j0.isLt; omega⟩) := by pointwise
    rw [h1]
    exact flat_front (front x) (back x) ⟨42048 + j0.val, by have := j0.isLt; omega⟩ (by have := j0.isLt; simp only; omega)
  rw [e]
  exact shapeCast_shapeCast _ _ _

theorem piece11 (x : Small) (k : Fin 128) : front x (ix1 ⟨42176 + k.val, by have := k.isLt; omega⟩) = (shapeCast S128 x.x11 shapeCasts_S1x128_S128) (ix1 k) :=
  concatenate_apply_piece (t := S50752) 0 (fronts x) concatenates_S4096_S3968_S384_S448_S128_S8192_S128_S8192_S16384_S128_S128_S128_S128_S4224_S2048_S2048_S50752_d0 (ix1 ⟨42176 + k.val, by have := k.isLt; omega⟩) 11 (Nat.lt_of_lt_of_eq (by decide : 11 < 16) rfl) S128 (shapeCast S128 x.x11 shapeCasts_S1x128_S128) rfl rfl 42176 (by simp [fronts, List.take, Shape.rank]) (ix1 k) (fun b hb => absurd (Subsingleton.elim (α := Fin 1) _ _) hb) rfl

/-- od_lnx_g. -/
theorem back11 (x : Small) : shapeCast S1x128 (extractStridedSlice S128 ![42176] (shapeCast S65536 (packed x) shapeCasts_S64x1024_S65536) slices_S65536_S128_42176) shapeCasts_S128_S1x128 = x.x11 := by
  have e : extractStridedSlice S128 ![42176] (shapeCast S65536 (packed x) shapeCasts_S64x1024_S65536) slices_S65536_S128_42176 = shapeCast S128 x.x11 shapeCasts_S1x128_S128 := by
    funext j
    idx_vars j
    rw [flat_packed]
    refine Eq.trans ?_ (piece11 x j0)
    have h1 : extractStridedSlice S128 ![42176] (flat (front x) (back x)) slices_S65536_S128_42176 (ix1 j0) = flat (front x) (back x) (ix1 ⟨42176 + j0.val, by have := j0.isLt; omega⟩) := by pointwise
    rw [h1]
    exact flat_front (front x) (back x) ⟨42176 + j0.val, by have := j0.isLt; omega⟩ (by have := j0.isLt; simp only; omega)
  rw [e]
  exact shapeCast_shapeCast _ _ _

theorem piece12 (x : Small) (k : Fin 128) : front x (ix1 ⟨42304 + k.val, by have := k.isLt; omega⟩) = (shapeCast S128 x.x12 shapeCasts_S1x128_S128) (ix1 k) :=
  concatenate_apply_piece (t := S50752) 0 (fronts x) concatenates_S4096_S3968_S384_S448_S128_S8192_S128_S8192_S16384_S128_S128_S128_S128_S4224_S2048_S2048_S50752_d0 (ix1 ⟨42304 + k.val, by have := k.isLt; omega⟩) 12 (Nat.lt_of_lt_of_eq (by decide : 12 < 16) rfl) S128 (shapeCast S128 x.x12 shapeCasts_S1x128_S128) rfl rfl 42304 (by simp [fronts, List.take, Shape.rank]) (ix1 k) (fun b hb => absurd (Subsingleton.elim (α := Fin 1) _ _) hb) rfl

/-- od_lnx_b. -/
theorem back12 (x : Small) : shapeCast S1x128 (extractStridedSlice S128 ![42304] (shapeCast S65536 (packed x) shapeCasts_S64x1024_S65536) slices_S65536_S128_42304) shapeCasts_S128_S1x128 = x.x12 := by
  have e : extractStridedSlice S128 ![42304] (shapeCast S65536 (packed x) shapeCasts_S64x1024_S65536) slices_S65536_S128_42304 = shapeCast S128 x.x12 shapeCasts_S1x128_S128 := by
    funext j
    idx_vars j
    rw [flat_packed]
    refine Eq.trans ?_ (piece12 x j0)
    have h1 : extractStridedSlice S128 ![42304] (flat (front x) (back x)) slices_S65536_S128_42304 (ix1 j0) = flat (front x) (back x) (ix1 ⟨42304 + j0.val, by have := j0.isLt; omega⟩) := by pointwise
    rw [h1]
    exact flat_front (front x) (back x) ⟨42304 + j0.val, by have := j0.isLt; omega⟩ (by have := j0.isLt; simp only; omega)
  rw [e]
  exact shapeCast_shapeCast _ _ _

theorem piece13 (x : Small) (k : Fin 4224) : front x (ix1 ⟨42432 + k.val, by have := k.isLt; omega⟩) = (shapeCast S4224 x.x13 shapeCasts_S2x3x704_S4224) (ix1 k) :=
  concatenate_apply_piece (t := S50752) 0 (fronts x) concatenates_S4096_S3968_S384_S448_S128_S8192_S128_S8192_S16384_S128_S128_S128_S128_S4224_S2048_S2048_S50752_d0 (ix1 ⟨42432 + k.val, by have := k.isLt; omega⟩) 13 (Nat.lt_of_lt_of_eq (by decide : 13 < 16) rfl) S4224 (shapeCast S4224 x.x13 shapeCasts_S2x3x704_S4224) rfl rfl 42432 (by simp [fronts, List.take, Shape.rank]) (ix1 k) (fun b hb => absurd (Subsingleton.elim (α := Fin 1) _ _) hb) rfl

/-- ff_conv. -/
theorem back13 (x : Small) : shapeCast S2x3x704 (extractStridedSlice S4224 ![42432] (shapeCast S65536 (packed x) shapeCasts_S64x1024_S65536) slices_S65536_S4224_42432) shapeCasts_S4224_S2x3x704 = x.x13 := by
  have e : extractStridedSlice S4224 ![42432] (shapeCast S65536 (packed x) shapeCasts_S64x1024_S65536) slices_S65536_S4224_42432 = shapeCast S4224 x.x13 shapeCasts_S2x3x704_S4224 := by
    funext j
    idx_vars j
    rw [flat_packed]
    refine Eq.trans ?_ (piece13 x j0)
    have h1 : extractStridedSlice S4224 ![42432] (flat (front x) (back x)) slices_S65536_S4224_42432 (ix1 j0) = flat (front x) (back x) (ix1 ⟨42432 + j0.val, by have := j0.isLt; omega⟩) := by pointwise
    rw [h1]
    exact flat_front (front x) (back x) ⟨42432 + j0.val, by have := j0.isLt; omega⟩ (by have := j0.isLt; simp only; omega)
  rw [e]
  exact shapeCast_shapeCast _ _ _

theorem piece14 (x : Small) (k : Fin 2048) : front x (ix1 ⟨46656 + k.val, by have := k.isLt; omega⟩) = (shapeCast S2048 x.x14 shapeCasts_S2x1024_S2048) (ix1 k) :=
  concatenate_apply_piece (t := S50752) 0 (fronts x) concatenates_S4096_S3968_S384_S448_S128_S8192_S128_S8192_S16384_S128_S128_S128_S128_S4224_S2048_S2048_S50752_d0 (ix1 ⟨46656 + k.val, by have := k.isLt; omega⟩) 14 (Nat.lt_of_lt_of_eq (by decide : 14 < 16) rfl) S2048 (shapeCast S2048 x.x14 shapeCasts_S2x1024_S2048) rfl rfl 46656 (by simp [fronts, List.take, Shape.rank]) (ix1 k) (fun b hb => absurd (Subsingleton.elim (α := Fin 1) _ _) hb) rfl

/-- norm_mix. -/
theorem back14 (x : Small) : shapeCast S2x1024 (extractStridedSlice S2048 ![46656] (shapeCast S65536 (packed x) shapeCasts_S64x1024_S65536) slices_S65536_S2048_46656) shapeCasts_S2048_S2x1024 = x.x14 := by
  have e : extractStridedSlice S2048 ![46656] (shapeCast S65536 (packed x) shapeCasts_S64x1024_S65536) slices_S65536_S2048_46656 = shapeCast S2048 x.x14 shapeCasts_S2x1024_S2048 := by
    funext j
    idx_vars j
    rw [flat_packed]
    refine Eq.trans ?_ (piece14 x j0)
    have h1 : extractStridedSlice S2048 ![46656] (flat (front x) (back x)) slices_S65536_S2048_46656 (ix1 j0) = flat (front x) (back x) (ix1 ⟨46656 + j0.val, by have := j0.isLt; omega⟩) := by pointwise
    rw [h1]
    exact flat_front (front x) (back x) ⟨46656 + j0.val, by have := j0.isLt; omega⟩ (by have := j0.isLt; simp only; omega)
  rw [e]
  exact shapeCast_shapeCast _ _ _

theorem piece15 (x : Small) (k : Fin 2048) : front x (ix1 ⟨48704 + k.val, by have := k.isLt; omega⟩) = (shapeCast S2048 x.x15 shapeCasts_S2x1024_S2048) (ix1 k) :=
  concatenate_apply_piece (t := S50752) 0 (fronts x) concatenates_S4096_S3968_S384_S448_S128_S8192_S128_S8192_S16384_S128_S128_S128_S128_S4224_S2048_S2048_S50752_d0 (ix1 ⟨48704 + k.val, by have := k.isLt; omega⟩) 15 (Nat.lt_of_lt_of_eq (by decide : 15 < 16) rfl) S2048 (shapeCast S2048 x.x15 shapeCasts_S2x1024_S2048) rfl rfl 48704 (by simp [fronts, List.take, Shape.rank]) (ix1 k) (fun b hb => absurd (Subsingleton.elim (α := Fin 1) _ _) hb) rfl

/-- norm_ffn. -/
theorem back15 (x : Small) : shapeCast S2x1024 (extractStridedSlice S2048 ![48704] (shapeCast S65536 (packed x) shapeCasts_S64x1024_S65536) slices_S65536_S2048_48704) shapeCasts_S2048_S2x1024 = x.x15 := by
  have e : extractStridedSlice S2048 ![48704] (shapeCast S65536 (packed x) shapeCasts_S64x1024_S65536) slices_S65536_S2048_48704 = shapeCast S2048 x.x15 shapeCasts_S2x1024_S2048 := by
    funext j
    idx_vars j
    rw [flat_packed]
    refine Eq.trans ?_ (piece15 x j0)
    have h1 : extractStridedSlice S2048 ![48704] (flat (front x) (back x)) slices_S65536_S2048_48704 (ix1 j0) = flat (front x) (back x) (ix1 ⟨48704 + j0.val, by have := j0.isLt; omega⟩) := by pointwise
    rw [h1]
    exact flat_front (front x) (back x) ⟨48704 + j0.val, by have := j0.isLt; omega⟩ (by have := j0.isLt; simp only; omega)
  rw [e]
  exact shapeCast_shapeCast _ _ _

theorem piece16 (x : Small) (k : Fin 1024) : back x (ix1 ⟨0 + k.val, by have := k.isLt; omega⟩) = (x.x16) (ix1 k) :=
  concatenate_apply_piece (t := S8200) 0 (backs x) concatenates_S1024_S512_S512_S8_S512_S5632_S8200_d0 (ix1 ⟨0 + k.val, by have := k.isLt; omega⟩) 0 (Nat.lt_of_lt_of_eq (by decide : 0 < 6) rfl) S1024 (x.x16) rfl rfl 0 (by simp [backs, List.take, Shape.rank]) (ix1 k) (fun b hb => absurd (Subsingleton.elim (α := Fin 1) _ _) hb) rfl

/-- norm_final. -/
theorem back16 (x : Small) : extractStridedSlice S1024 ![50752] (shapeCast S65536 (packed x) shapeCasts_S64x1024_S65536) slices_S65536_S1024_50752 = x.x16 := by
  have e : extractStridedSlice S1024 ![50752] (shapeCast S65536 (packed x) shapeCasts_S64x1024_S65536) slices_S65536_S1024_50752 = x.x16 := by
    funext j
    idx_vars j
    rw [flat_packed]
    refine Eq.trans ?_ (piece16 x j0)
    have h1 : extractStridedSlice S1024 ![50752] (flat (front x) (back x)) slices_S65536_S1024_50752 (ix1 j0) = flat (front x) (back x) (ix1 ⟨50752 + j0.val, by have := j0.isLt; omega⟩) := by pointwise
    rw [h1]
    exact flat_back (front x) (back x) ⟨50752 + j0.val, by have := j0.isLt; omega⟩ (by have := j0.isLt; simp only; omega) (by have := j0.isLt; simp only; omega) |>.trans (congrArg (back x) (congrArg ix1 (Fin.ext (by simp only; omega))))
  exact e

theorem piece17 (x : Small) (k : Fin 512) : back x (ix1 ⟨1024 + k.val, by have := k.isLt; omega⟩) = (shapeCast S512 x.x17 shapeCasts_S1x512_S512) (ix1 k) :=
  concatenate_apply_piece (t := S8200) 0 (backs x) concatenates_S1024_S512_S512_S8_S512_S5632_S8200_d0 (ix1 ⟨1024 + k.val, by have := k.isLt; omega⟩) 1 (Nat.lt_of_lt_of_eq (by decide : 1 < 6) rfl) S512 (shapeCast S512 x.x17 shapeCasts_S1x512_S512) rfl rfl 1024 (by simp [backs, List.take, Shape.rank]) (ix1 k) (fun b hb => absurd (Subsingleton.elim (α := Fin 1) _ _) hb) rfl

/-- ev_ln_a_g. -/
theorem back17 (x : Small) : shapeCast S1x512 (extractStridedSlice S512 ![51776] (shapeCast S65536 (packed x) shapeCasts_S64x1024_S65536) slices_S65536_S512_51776) shapeCasts_S512_S1x512 = x.x17 := by
  have e : extractStridedSlice S512 ![51776] (shapeCast S65536 (packed x) shapeCasts_S64x1024_S65536) slices_S65536_S512_51776 = shapeCast S512 x.x17 shapeCasts_S1x512_S512 := by
    funext j
    idx_vars j
    rw [flat_packed]
    refine Eq.trans ?_ (piece17 x j0)
    have h1 : extractStridedSlice S512 ![51776] (flat (front x) (back x)) slices_S65536_S512_51776 (ix1 j0) = flat (front x) (back x) (ix1 ⟨51776 + j0.val, by have := j0.isLt; omega⟩) := by pointwise
    rw [h1]
    exact flat_back (front x) (back x) ⟨51776 + j0.val, by have := j0.isLt; omega⟩ (by have := j0.isLt; simp only; omega) (by have := j0.isLt; simp only; omega) |>.trans (congrArg (back x) (congrArg ix1 (Fin.ext (by simp only; omega))))
  rw [e]
  exact shapeCast_shapeCast _ _ _

theorem piece18 (x : Small) (k : Fin 512) : back x (ix1 ⟨1536 + k.val, by have := k.isLt; omega⟩) = (shapeCast S512 x.x18 shapeCasts_S1x512_S512) (ix1 k) :=
  concatenate_apply_piece (t := S8200) 0 (backs x) concatenates_S1024_S512_S512_S8_S512_S5632_S8200_d0 (ix1 ⟨1536 + k.val, by have := k.isLt; omega⟩) 2 (Nat.lt_of_lt_of_eq (by decide : 2 < 6) rfl) S512 (shapeCast S512 x.x18 shapeCasts_S1x512_S512) rfl rfl 1536 (by simp [backs, List.take, Shape.rank]) (ix1 k) (fun b hb => absurd (Subsingleton.elim (α := Fin 1) _ _) hb) rfl

/-- ev_ln_a_b. -/
theorem back18 (x : Small) : shapeCast S1x512 (extractStridedSlice S512 ![52288] (shapeCast S65536 (packed x) shapeCasts_S64x1024_S65536) slices_S65536_S512_52288) shapeCasts_S512_S1x512 = x.x18 := by
  have e : extractStridedSlice S512 ![52288] (shapeCast S65536 (packed x) shapeCasts_S64x1024_S65536) slices_S65536_S512_52288 = shapeCast S512 x.x18 shapeCasts_S1x512_S512 := by
    funext j
    idx_vars j
    rw [flat_packed]
    refine Eq.trans ?_ (piece18 x j0)
    have h1 : extractStridedSlice S512 ![52288] (flat (front x) (back x)) slices_S65536_S512_52288 (ix1 j0) = flat (front x) (back x) (ix1 ⟨52288 + j0.val, by have := j0.isLt; omega⟩) := by pointwise
    rw [h1]
    exact flat_back (front x) (back x) ⟨52288 + j0.val, by have := j0.isLt; omega⟩ (by have := j0.isLt; simp only; omega) (by have := j0.isLt; simp only; omega) |>.trans (congrArg (back x) (congrArg ix1 (Fin.ext (by simp only; omega))))
  rw [e]
  exact shapeCast_shapeCast _ _ _

theorem piece19 (x : Small) (k : Fin 8) : back x (ix1 ⟨2048 + k.val, by have := k.isLt; omega⟩) = (shapeCast S8 x.x19 shapeCasts_S1x8_S8) (ix1 k) :=
  concatenate_apply_piece (t := S8200) 0 (backs x) concatenates_S1024_S512_S512_S8_S512_S5632_S8200_d0 (ix1 ⟨2048 + k.val, by have := k.isLt; omega⟩) 3 (Nat.lt_of_lt_of_eq (by decide : 3 < 6) rfl) S8 (shapeCast S8 x.x19 shapeCasts_S1x8_S8) rfl rfl 2048 (by simp [backs, List.take, Shape.rank]) (ix1 k) (fun b hb => absurd (Subsingleton.elim (α := Fin 1) _ _) hb) rfl

/-- od_sinks. -/
theorem back19 (x : Small) : shapeCast S1x8 (extractStridedSlice S8 ![52800] (shapeCast S65536 (packed x) shapeCasts_S64x1024_S65536) slices_S65536_S8_52800) shapeCasts_S8_S1x8 = x.x19 := by
  have e : extractStridedSlice S8 ![52800] (shapeCast S65536 (packed x) shapeCasts_S64x1024_S65536) slices_S65536_S8_52800 = shapeCast S8 x.x19 shapeCasts_S1x8_S8 := by
    funext j
    idx_vars j
    rw [flat_packed]
    refine Eq.trans ?_ (piece19 x j0)
    have h1 : extractStridedSlice S8 ![52800] (flat (front x) (back x)) slices_S65536_S8_52800 (ix1 j0) = flat (front x) (back x) (ix1 ⟨52800 + j0.val, by have := j0.isLt; omega⟩) := by pointwise
    rw [h1]
    exact flat_back (front x) (back x) ⟨52800 + j0.val, by have := j0.isLt; omega⟩ (by have := j0.isLt; simp only; omega) (by have := j0.isLt; simp only; omega) |>.trans (congrArg (back x) (congrArg ix1 (Fin.ext (by simp only; omega))))
  rw [e]
  exact shapeCast_shapeCast _ _ _

theorem piece20 (x : Small) (k : Fin 512) : back x (ix1 ⟨2056 + k.val, by have := k.isLt; omega⟩) = (shapeCast S512 x.x20 shapeCasts_S1x8x64_S512) (ix1 k) :=
  concatenate_apply_piece (t := S8200) 0 (backs x) concatenates_S1024_S512_S512_S8_S512_S5632_S8200_d0 (ix1 ⟨2056 + k.val, by have := k.isLt; omega⟩) 4 (Nat.lt_of_lt_of_eq (by decide : 4 < 6) rfl) S512 (shapeCast S512 x.x20 shapeCasts_S1x8x64_S512) rfl rfl 2056 (by simp [backs, List.take, Shape.rank]) (ix1 k) (fun b hb => absurd (Subsingleton.elim (α := Fin 1) _ _) hb) rfl

/-- od_r_k. -/
theorem back20 (x : Small) : shapeCast S1x8x64 (extractStridedSlice S512 ![52808] (shapeCast S65536 (packed x) shapeCasts_S64x1024_S65536) slices_S65536_S512_52808) shapeCasts_S512_S1x8x64 = x.x20 := by
  have e : extractStridedSlice S512 ![52808] (shapeCast S65536 (packed x) shapeCasts_S64x1024_S65536) slices_S65536_S512_52808 = shapeCast S512 x.x20 shapeCasts_S1x8x64_S512 := by
    funext j
    idx_vars j
    rw [flat_packed]
    refine Eq.trans ?_ (piece20 x j0)
    have h1 : extractStridedSlice S512 ![52808] (flat (front x) (back x)) slices_S65536_S512_52808 (ix1 j0) = flat (front x) (back x) (ix1 ⟨52808 + j0.val, by have := j0.isLt; omega⟩) := by pointwise
    rw [h1]
    exact flat_back (front x) (back x) ⟨52808 + j0.val, by have := j0.isLt; omega⟩ (by have := j0.isLt; simp only; omega) (by have := j0.isLt; simp only; omega) |>.trans (congrArg (back x) (congrArg ix1 (Fin.ext (by simp only; omega))))
  rw [e]
  exact shapeCast_shapeCast _ _ _

theorem piece21 (x : Small) (k : Fin 5632) : back x (ix1 ⟨2568 + k.val, by have := k.isLt; omega⟩) = (shapeCast S5632 x.x21 shapeCasts_S2x2816_S5632) (ix1 k) :=
  concatenate_apply_piece (t := S8200) 0 (backs x) concatenates_S1024_S512_S512_S8_S512_S5632_S8200_d0 (ix1 ⟨2568 + k.val, by have := k.isLt; omega⟩) 5 (Nat.lt_of_lt_of_eq (by decide : 5 < 6) rfl) S5632 (shapeCast S5632 x.x21 shapeCasts_S2x2816_S5632) rfl rfl 2568 (by simp [backs, List.take, Shape.rank]) (ix1 k) (fun b hb => absurd (Subsingleton.elim (α := Fin 1) _ _) hb) rfl

/-- ff_conv_b. -/
theorem back21 (x : Small) : shapeCast S2x2816 (extractStridedSlice S5632 ![53320] (shapeCast S65536 (packed x) shapeCasts_S64x1024_S65536) slices_S65536_S5632_53320) shapeCasts_S5632_S2x2816 = x.x21 := by
  have e : extractStridedSlice S5632 ![53320] (shapeCast S65536 (packed x) shapeCasts_S64x1024_S65536) slices_S65536_S5632_53320 = shapeCast S5632 x.x21 shapeCasts_S2x2816_S5632 := by
    funext j
    idx_vars j
    rw [flat_packed]
    refine Eq.trans ?_ (piece21 x j0)
    have h1 : extractStridedSlice S5632 ![53320] (flat (front x) (back x)) slices_S65536_S5632_53320 (ix1 j0) = flat (front x) (back x) (ix1 ⟨53320 + j0.val, by have := j0.isLt; omega⟩) := by pointwise
    rw [h1]
    exact flat_back (front x) (back x) ⟨53320 + j0.val, by have := j0.isLt; omega⟩ (by have := j0.isLt; simp only; omega) (by have := j0.isLt; simp only; omega) |>.trans (congrArg (back x) (congrArg ix1 (Fin.ext (by simp only; omega))))
  rw [e]
  exact shapeCast_shapeCast _ _ _

end Cert.AdamPack

end
-- ==== Proof.AdamHost.lean ====
/- The host lines round the small weights' call: what the call finds packed, and what is taken out of its results. -/
module

public import proofs.«01_k».proof.Proof.Gen.AdamSmallIdeal.Launch
public import proofs.«01_k».proof.Proof.AdamPack
public import Idealize.ShloMosaic.Lib.StableHlo.ReadAt
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem Idealize.ShloMosaic.Tactic
open Idealize.ShloMosaic.Pipeline (Dat)

namespace Cert.AdamSmallIdeal.Value

open Cert.AdamSmallIdeal Cert.AdamSmallIdeal.Gen Cert.AdamPack

variable (u : Valuation τ sig (Elt Ideal))

/-- The weights that the arguments hold. -/
def weights : Small :=
  ⟨u (Proc.devRef .tc main_arg0), u (Proc.devRef .tc main_arg1), u (Proc.devRef .tc main_arg2), u (Proc.devRef .tc main_arg3), u (Proc.devRef .tc main_arg4), u (Proc.devRef .tc main_arg5), u (Proc.devRef .tc main_arg6), u (Proc.devRef .tc main_arg7), u (Proc.devRef .tc main_arg8), u (Proc.devRef .tc main_arg9), u (Proc.devRef .tc main_arg10), u (Proc.devRef .tc main_arg11), u (Proc.devRef .tc main_arg12), u (Proc.devRef .tc main_arg13), u (Proc.devRef .tc main_arg14), u (Proc.devRef .tc main_arg15), u (Proc.devRef .tc main_arg16), u (Proc.devRef .tc main_arg17), u (Proc.devRef .tc main_arg18), u (Proc.devRef .tc main_arg19), u (Proc.devRef .tc main_arg20), u (Proc.devRef .tc main_arg21)⟩

/-- The gradients that the arguments hold. -/
def gradients : Small :=
  ⟨u (Proc.devRef .tc main_arg22), u (Proc.devRef .tc main_arg23), u (Proc.devRef .tc main_arg24), u (Proc.devRef .tc main_arg25), u (Proc.devRef .tc main_arg26), u (Proc.devRef .tc main_arg27), u (Proc.devRef .tc main_arg28), u (Proc.devRef .tc main_arg29), u (Proc.devRef .tc main_arg30), u (Proc.devRef .tc main_arg31), u (Proc.devRef .tc main_arg32), u (Proc.devRef .tc main_arg33), u (Proc.devRef .tc main_arg34), u (Proc.devRef .tc main_arg35), u (Proc.devRef .tc main_arg36), u (Proc.devRef .tc main_arg37), u (Proc.devRef .tc main_arg38), u (Proc.devRef .tc main_arg39), u (Proc.devRef .tc main_arg40), u (Proc.devRef .tc main_arg41), u (Proc.devRef .tc main_arg42), u (Proc.devRef .tc main_arg43)⟩

/-- The means that the arguments hold. -/
def means : Small :=
  ⟨u (Proc.devRef .tc main_arg44), u (Proc.devRef .tc main_arg45), u (Proc.devRef .tc main_arg46), u (Proc.devRef .tc main_arg47), u (Proc.devRef .tc main_arg48), u (Proc.devRef .tc main_arg49), u (Proc.devRef .tc main_arg50), u (Proc.devRef .tc main_arg51), u (Proc.devRef .tc main_arg52), u (Proc.devRef .tc main_arg53), u (Proc.devRef .tc main_arg54), u (Proc.devRef .tc main_arg55), u (Proc.devRef .tc main_arg56), u (Proc.devRef .tc main_arg57), u (Proc.devRef .tc main_arg58), u (Proc.devRef .tc main_arg59), u (Proc.devRef .tc main_arg60), u (Proc.devRef .tc main_arg61), u (Proc.devRef .tc main_arg62), u (Proc.devRef .tc main_arg63), u (Proc.devRef .tc main_arg64), u (Proc.devRef .tc main_arg65)⟩

/-- The squares that the arguments hold. -/
def squares : Small :=
  ⟨u (Proc.devRef .tc main_arg66), u (Proc.devRef .tc main_arg67), u (Proc.devRef .tc main_arg68), u (Proc.devRef .tc main_arg69), u (Proc.devRef .tc main_arg70), u (Proc.devRef .tc main_arg71), u (Proc.devRef .tc main_arg72), u (Proc.devRef .tc main_arg73), u (Proc.devRef .tc main_arg74), u (Proc.devRef .tc main_arg75), u (Proc.devRef .tc main_arg76), u (Proc.devRef .tc main_arg77), u (Proc.devRef .tc main_arg78), u (Proc.devRef .tc main_arg79), u (Proc.devRef .tc main_arg80), u (Proc.devRef .tc main_arg81), u (Proc.devRef .tc main_arg82), u (Proc.devRef .tc main_arg83), u (Proc.devRef .tc main_arg84), u (Proc.devRef .tc main_arg85), u (Proc.devRef .tc main_arg86), u (Proc.devRef .tc main_arg87)⟩

set_option maxHeartbeats 1000000 in
/-- The call finds the weights packed. -/
theorem host0 : StableHlo.after (List.flatten [hostOps0, hostOps0_1, hostOps0_2, hostOps0_3, hostOps0_4, hostOps0_5, hostOps0_6, hostOps0_7, hostOps0_8]) u (Proc.devRef .tc main_v25) = packed (weights u) := by
  simp only [hostOps0, hostOps0_1, hostOps0_2, hostOps0_3, hostOps0_4, hostOps0_5, hostOps0_6, hostOps0_7, hostOps0_8, List.flatten_cons, List.flatten_nil, List.append_nil, List.cons_append, List.nil_append]
  after_reads_simp
  rfl

set_option maxHeartbeats 1000000 in
/-- The call finds the gradients packed. -/
theorem host1 : StableHlo.after (List.flatten [hostOps0, hostOps0_1, hostOps0_2, hostOps0_3, hostOps0_4, hostOps0_5, hostOps0_6, hostOps0_7, hostOps0_8]) u (Proc.devRef .tc main_v51) = packed (gradients u) := by
  simp only [hostOps0, hostOps0_1, hostOps0_2, hostOps0_3, hostOps0_4, hostOps0_5, hostOps0_6, hostOps0_7, hostOps0_8, List.flatten_cons, List.flatten_nil, List.append_nil, List.cons_append, List.nil_append]
  after_reads_simp
  rfl

set_option maxHeartbeats 1000000 in
/-- The call finds the means packed. -/
theorem host2 : StableHlo.after (List.flatten [hostOps0, hostOps0_1, hostOps0_2, hostOps0_3, hostOps0_4, hostOps0_5, hostOps0_6, hostOps0_7, hostOps0_8]) u (Proc.devRef .tc main_v77) = packed (means u) := by
  simp only [hostOps0, hostOps0_1, hostOps0_2, hostOps0_3, hostOps0_4, hostOps0_5, hostOps0_6, hostOps0_7, hostOps0_8, List.flatten_cons, List.flatten_nil, List.append_nil, List.cons_append, List.nil_append]
  after_reads_simp
  rfl

set_option maxHeartbeats 1000000 in
/-- The call finds the squares packed. -/
theorem host3 : StableHlo.after (List.flatten [hostOps0, hostOps0_1, hostOps0_2, hostOps0_3, hostOps0_4, hostOps0_5, hostOps0_6, hostOps0_7, hostOps0_8]) u (Proc.devRef .tc main_v103) = packed (squares u) := by
  simp only [hostOps0, hostOps0_1, hostOps0_2, hostOps0_3, hostOps0_4, hostOps0_5, hostOps0_6, hostOps0_7, hostOps0_8, List.flatten_cons, List.flatten_nil, List.append_nil, List.cons_append, List.nil_append]
  after_reads_simp
  rfl

/-- Result 0. -/
theorem tail0 : StableHlo.after hostOps1 u (Proc.devRef .tc main_v107) = shapeCast S16x256 (extractStridedSlice S4096 ![0] (shapeCast S65536 (u (Proc.devRef .tc main_v104_0) : FVec Ideal S64x1024 .f32) shapeCasts_S64x1024_S65536) slices_S65536_S4096_0) shapeCasts_S4096_S16x256 := by
  after_reads_simp
  rfl

/-- Result 1. -/
theorem tail1 : StableHlo.after hostOps1 u (Proc.devRef .tc main_v109) = shapeCast S1x31x128 (extractStridedSlice S3968 ![4096] (shapeCast S65536 (u (Proc.devRef .tc main_v104_0) : FVec Ideal S64x1024 .f32) shapeCasts_S64x1024_S65536) slices_S65536_S3968_4096) shapeCasts_S3968_S1x31x128 := by
  after_reads_simp
  rfl

/-- Result 2. -/
theorem tail2 : StableHlo.after hostOps1 u (Proc.devRef .tc main_v111) = shapeCast S1x3x128 (extractStridedSlice S384 ![8064] (shapeCast S65536 (u (Proc.devRef .tc main_v104_0) : FVec Ideal S64x1024 .f32) shapeCasts_S64x1024_S65536) slices_S65536_S384_8064) shapeCasts_S384_S1x3x128 := by
  after_reads_simp
  rfl

/-- Result 3. -/
theorem tail3 : StableHlo.after hostOps1 u (Proc.devRef .tc main_v113) = shapeCast S1x448 (extractStridedSlice S448 ![8448] (shapeCast S65536 (u (Proc.devRef .tc main_v104_0) : FVec Ideal S64x1024 .f32) shapeCasts_S64x1024_S65536) slices_S65536_S448_8448) shapeCasts_S448_S1x448 := by
  after_reads_simp
  rfl

/-- Result 4. -/
theorem tail4 : StableHlo.after hostOps1 u (Proc.devRef .tc main_v115) = shapeCast S1x128 (extractStridedSlice S128 ![8896] (shapeCast S65536 (u (Proc.devRef .tc main_v104_0) : FVec Ideal S64x1024 .f32) shapeCasts_S64x1024_S65536) slices_S65536_S128_8896) shapeCasts_S128_S1x128 := by
  after_reads_simp
  rfl

/-- Result 5. -/
theorem tail5 : StableHlo.after hostOps1 u (Proc.devRef .tc main_v117) = shapeCast S1x64x128 (extractStridedSlice S8192 ![9024] (shapeCast S65536 (u (Proc.devRef .tc main_v104_0) : FVec Ideal S64x1024 .f32) shapeCasts_S64x1024_S65536) slices_S65536_S8192_9024) shapeCasts_S8192_S1x64x128 := by
  after_reads_simp
  rfl

/-- Result 6. -/
theorem tail6 : StableHlo.after hostOps1 u (Proc.devRef .tc main_v119) = shapeCast S1x128 (extractStridedSlice S128 ![17216] (shapeCast S65536 (u (Proc.devRef .tc main_v104_0) : FVec Ideal S64x1024 .f32) shapeCasts_S64x1024_S65536) slices_S65536_S128_17216) shapeCasts_S128_S1x128 := by
  after_reads_simp
  rfl

/-- Result 7. -/
theorem tail7 : StableHlo.after hostOps1 u (Proc.devRef .tc main_v121) = shapeCast S1x64x128 (extractStridedSlice S8192 ![17344] (shapeCast S65536 (u (Proc.devRef .tc main_v104_0) : FVec Ideal S64x1024 .f32) shapeCasts_S64x1024_S65536) slices_S65536_S8192_17344) shapeCasts_S8192_S1x64x128 := by
  after_reads_simp
  rfl

/-- Result 8. -/
theorem tail8 : StableHlo.after hostOps1 u (Proc.devRef .tc main_v123) = shapeCast S1x128x128 (extractStridedSlice S16384 ![25536] (shapeCast S65536 (u (Proc.devRef .tc main_v104_0) : FVec Ideal S64x1024 .f32) shapeCasts_S64x1024_S65536) slices_S65536_S16384_25536) shapeCasts_S16384_S1x128x128 := by
  after_reads_simp
  rfl

/-- Result 9. -/
theorem tail9 : StableHlo.after hostOps1 u (Proc.devRef .tc main_v125) = shapeCast S1x128 (extractStridedSlice S128 ![41920] (shapeCast S65536 (u (Proc.devRef .tc main_v104_0) : FVec Ideal S64x1024 .f32) shapeCasts_S64x1024_S65536) slices_S65536_S128_41920) shapeCasts_S128_S1x128 := by
  after_reads_simp
  rfl

/-- Result 10. -/
theorem tail10 : StableHlo.after hostOps1 u (Proc.devRef .tc main_v127) = shapeCast S1x128 (extractStridedSlice S128 ![42048] (shapeCast S65536 (u (Proc.devRef .tc main_v104_0) : FVec Ideal S64x1024 .f32) shapeCasts_S64x1024_S65536) slices_S65536_S128_42048) shapeCasts_S128_S1x128 := by
  after_reads_simp
  rfl

/-- Result 11. -/
theorem tail11 : StableHlo.after hostOps1 u (Proc.devRef .tc main_v129) = shapeCast S1x128 (extractStridedSlice S128 ![42176] (shapeCast S65536 (u (Proc.devRef .tc main_v104_0) : FVec Ideal S64x1024 .f32) shapeCasts_S64x1024_S65536) slices_S65536_S128_42176) shapeCasts_S128_S1x128 := by
  after_reads_simp
  rfl

/-- Result 12. -/
theorem tail12 : StableHlo.after hostOps1 u (Proc.devRef .tc main_v131) = shapeCast S1x128 (extractStridedSlice S128 ![42304] (shapeCast S65536 (u (Proc.devRef .tc main_v104_0) : FVec Ideal S64x1024 .f32) shapeCasts_S64x1024_S65536) slices_S65536_S128_42304) shapeCasts_S128_S1x128 := by
  after_reads_simp
  rfl

/-- Result 13. -/
theorem tail13 : StableHlo.after hostOps1 u (Proc.devRef .tc main_v133) = shapeCast S2x3x704 (extractStridedSlice S4224 ![42432] (shapeCast S65536 (u (Proc.devRef .tc main_v104_0) : FVec Ideal S64x1024 .f32) shapeCasts_S64x1024_S65536) slices_S65536_S4224_42432) shapeCasts_S4224_S2x3x704 := by
  after_reads_simp
  rfl

/-- Result 14. -/
theorem tail14 : StableHlo.after hostOps1 u (Proc.devRef .tc main_v135) = shapeCast S2x1024 (extractStridedSlice S2048 ![46656] (shapeCast S65536 (u (Proc.devRef .tc main_v104_0) : FVec Ideal S64x1024 .f32) shapeCasts_S64x1024_S65536) slices_S65536_S2048_46656) shapeCasts_S2048_S2x1024 := by
  after_reads_simp
  rfl

/-- Result 15. -/
theorem tail15 : StableHlo.after hostOps1 u (Proc.devRef .tc main_v137) = shapeCast S2x1024 (extractStridedSlice S2048 ![48704] (shapeCast S65536 (u (Proc.devRef .tc main_v104_0) : FVec Ideal S64x1024 .f32) shapeCasts_S64x1024_S65536) slices_S65536_S2048_48704) shapeCasts_S2048_S2x1024 := by
  after_reads_simp
  rfl

/-- Result 16. -/
theorem tail16 : StableHlo.after hostOps1 u (Proc.devRef .tc main_v138) = extractStridedSlice S1024 ![50752] (shapeCast S65536 (u (Proc.devRef .tc main_v104_0) : FVec Ideal S64x1024 .f32) shapeCasts_S64x1024_S65536) slices_S65536_S1024_50752 := by
  after_reads_simp
  rfl

/-- Result 17. -/
theorem tail17 : StableHlo.after hostOps1 u (Proc.devRef .tc main_v140) = shapeCast S1x512 (extractStridedSlice S512 ![51776] (shapeCast S65536 (u (Proc.devRef .tc main_v104_0) : FVec Ideal S64x1024 .f32) shapeCasts_S64x1024_S65536) slices_S65536_S512_51776) shapeCasts_S512_S1x512 := by
  after_reads_simp
  rfl

/-- Result 18. -/
theorem tail18 : StableHlo.after hostOps1 u (Proc.devRef .tc main_v142) = shapeCast S1x512 (extractStridedSlice S512 ![52288] (shapeCast S65536 (u (Proc.devRef .tc main_v104_0) : FVec Ideal S64x1024 .f32) shapeCasts_S64x1024_S65536) slices_S65536_S512_52288) shapeCasts_S512_S1x512 := by
  after_reads_simp
  rfl

/-- Result 19. -/
theorem tail19 : StableHlo.after hostOps1 u (Proc.devRef .tc main_v144) = shapeCast S1x8 (extractStridedSlice S8 ![52800] (shapeCast S65536 (u (Proc.devRef .tc main_v104_0) : FVec Ideal S64x1024 .f32) shapeCasts_S64x1024_S65536) slices_S65536_S8_52800) shapeCasts_S8_S1x8 := by
  after_reads_simp
  rfl

/-- Result 20. -/
theorem tail20 : StableHlo.after hostOps1 u (Proc.devRef .tc main_v146) = shapeCast S1x8x64 (extractStridedSlice S512 ![52808] (shapeCast S65536 (u (Proc.devRef .tc main_v104_0) : FVec Ideal S64x1024 .f32) shapeCasts_S64x1024_S65536) slices_S65536_S512_52808) shapeCasts_S512_S1x8x64 := by
  after_reads_simp
  rfl

/-- Result 21. -/
theorem tail21 : StableHlo.after hostOps1 u (Proc.devRef .tc main_v148) = shapeCast S2x2816 (extractStridedSlice S5632 ![53320] (shapeCast S65536 (u (Proc.devRef .tc main_v104_0) : FVec Ideal S64x1024 .f32) shapeCasts_S64x1024_S65536) slices_S65536_S5632_53320) shapeCasts_S5632_S2x2816 := by
  after_reads_simp
  rfl

/-- Result 22. -/
theorem tail22 : StableHlo.after hostOps1 u (Proc.devRef .tc main_v151) = shapeCast S16x256 (extractStridedSlice S4096 ![0] (shapeCast S65536 (u (Proc.devRef .tc main_v104_1) : FVec Ideal S64x1024 .f32) shapeCasts_S64x1024_S65536) slices_S65536_S4096_0) shapeCasts_S4096_S16x256 := by
  after_reads_simp
  rfl

/-- Result 23. -/
theorem tail23 : StableHlo.after hostOps1 u (Proc.devRef .tc main_v153) = shapeCast S1x31x128 (extractStridedSlice S3968 ![4096] (shapeCast S65536 (u (Proc.devRef .tc main_v104_1) : FVec Ideal S64x1024 .f32) shapeCasts_S64x1024_S65536) slices_S65536_S3968_4096) shapeCasts_S3968_S1x31x128 := by
  after_reads_simp
  rfl

/-- Result 24. -/
theorem tail24 : StableHlo.after hostOps1 u (Proc.devRef .tc main_v155) = shapeCast S1x3x128 (extractStridedSlice S384 ![8064] (shapeCast S65536 (u (Proc.devRef .tc main_v104_1) : FVec Ideal S64x1024 .f32) shapeCasts_S64x1024_S65536) slices_S65536_S384_8064) shapeCasts_S384_S1x3x128 := by
  after_reads_simp
  rfl

/-- Result 25. -/
theorem tail25 : StableHlo.after hostOps1 u (Proc.devRef .tc main_v157) = shapeCast S1x448 (extractStridedSlice S448 ![8448] (shapeCast S65536 (u (Proc.devRef .tc main_v104_1) : FVec Ideal S64x1024 .f32) shapeCasts_S64x1024_S65536) slices_S65536_S448_8448) shapeCasts_S448_S1x448 := by
  after_reads_simp
  rfl

/-- Result 26. -/
theorem tail26 : StableHlo.after hostOps1 u (Proc.devRef .tc main_v159) = shapeCast S1x128 (extractStridedSlice S128 ![8896] (shapeCast S65536 (u (Proc.devRef .tc main_v104_1) : FVec Ideal S64x1024 .f32) shapeCasts_S64x1024_S65536) slices_S65536_S128_8896) shapeCasts_S128_S1x128 := by
  after_reads_simp
  rfl

/-- Result 27. -/
theorem tail27 : StableHlo.after hostOps1 u (Proc.devRef .tc main_v161) = shapeCast S1x64x128 (extractStridedSlice S8192 ![9024] (shapeCast S65536 (u (Proc.devRef .tc main_v104_1) : FVec Ideal S64x1024 .f32) shapeCasts_S64x1024_S65536) slices_S65536_S8192_9024) shapeCasts_S8192_S1x64x128 := by
  after_reads_simp
  rfl

/-- Result 28. -/
theorem tail28 : StableHlo.after hostOps1 u (Proc.devRef .tc main_v163) = shapeCast S1x128 (extractStridedSlice S128 ![17216] (shapeCast S65536 (u (Proc.devRef .tc main_v104_1) : FVec Ideal S64x1024 .f32) shapeCasts_S64x1024_S65536) slices_S65536_S128_17216) shapeCasts_S128_S1x128 := by
  after_reads_simp
  rfl

/-- Result 29. -/
theorem tail29 : StableHlo.after hostOps1 u (Proc.devRef .tc main_v165) = shapeCast S1x64x128 (extractStridedSlice S8192 ![17344] (shapeCast S65536 (u (Proc.devRef .tc main_v104_1) : FVec Ideal S64x1024 .f32) shapeCasts_S64x1024_S65536) slices_S65536_S8192_17344) shapeCasts_S8192_S1x64x128 := by
  after_reads_simp
  rfl

/-- Result 30. -/
theorem tail30 : StableHlo.after hostOps1 u (Proc.devRef .tc main_v167) = shapeCast S1x128x128 (extractStridedSlice S16384 ![25536] (shapeCast S65536 (u (Proc.devRef .tc main_v104_1) : FVec Ideal S64x1024 .f32) shapeCasts_S64x1024_S65536) slices_S65536_S16384_25536) shapeCasts_S16384_S1x128x128 := by
  after_reads_simp
  rfl

/-- Result 31. -/
theorem tail31 : StableHlo.after hostOps1 u (Proc.devRef .tc main_v169) = shapeCast S1x128 (extractStridedSlice S128 ![41920] (shapeCast S65536 (u (Proc.devRef .tc main_v104_1) : FVec Ideal S64x1024 .f32) shapeCasts_S64x1024_S65536) slices_S65536_S128_41920) shapeCasts_S128_S1x128 := by
  after_reads_simp
  rfl

/-- Result 32. -/
theorem tail32 : StableHlo.after hostOps1 u (Proc.devRef .tc main_v171) = shapeCast S1x128 (extractStridedSlice S128 ![42048] (shapeCast S65536 (u (Proc.devRef .tc main_v104_1) : FVec Ideal S64x1024 .f32) shapeCasts_S64x1024_S65536) slices_S65536_S128_42048) shapeCasts_S128_S1x128 := by
  after_reads_simp
  rfl

/-- Result 33. -/
theorem tail33 : StableHlo.after hostOps1 u (Proc.devRef .tc main_v173) = shapeCast S1x128 (extractStridedSlice S128 ![42176] (shapeCast S65536 (u (Proc.devRef .tc main_v104_1) : FVec Ideal S64x1024 .f32) shapeCasts_S64x1024_S65536) slices_S65536_S128_42176) shapeCasts_S128_S1x128 := by
  after_reads_simp
  rfl

/-- Result 34. -/
theorem tail34 : StableHlo.after hostOps1 u (Proc.devRef .tc main_v175) = shapeCast S1x128 (extractStridedSlice S128 ![42304] (shapeCast S65536 (u (Proc.devRef .tc main_v104_1) : FVec Ideal S64x1024 .f32) shapeCasts_S64x1024_S65536) slices_S65536_S128_42304) shapeCasts_S128_S1x128 := by
  after_reads_simp
  rfl

/-- Result 35. -/
theorem tail35 : StableHlo.after hostOps1 u (Proc.devRef .tc main_v177) = shapeCast S2x3x704 (extractStridedSlice S4224 ![42432] (shapeCast S65536 (u (Proc.devRef .tc main_v104_1) : FVec Ideal S64x1024 .f32) shapeCasts_S64x1024_S65536) slices_S65536_S4224_42432) shapeCasts_S4224_S2x3x704 := by
  after_reads_simp
  rfl

/-- Result 36. -/
theorem tail36 : StableHlo.after hostOps1 u (Proc.devRef .tc main_v179) = shapeCast S2x1024 (extractStridedSlice S2048 ![46656] (shapeCast S65536 (u (Proc.devRef .tc main_v104_1) : FVec Ideal S64x1024 .f32) shapeCasts_S64x1024_S65536) slices_S65536_S2048_46656) shapeCasts_S2048_S2x1024 := by
  after_reads_simp
  rfl

/-- Result 37. -/
theorem tail37 : StableHlo.after hostOps1 u (Proc.devRef .tc main_v181) = shapeCast S2x1024 (extractStridedSlice S2048 ![48704] (shapeCast S65536 (u (Proc.devRef .tc main_v104_1) : FVec Ideal S64x1024 .f32) shapeCasts_S64x1024_S65536) slices_S65536_S2048_48704) shapeCasts_S2048_S2x1024 := by
  after_reads_simp
  rfl

/-- Result 38. -/
theorem tail38 : StableHlo.after hostOps1 u (Proc.devRef .tc main_v182) = extractStridedSlice S1024 ![50752] (shapeCast S65536 (u (Proc.devRef .tc main_v104_1) : FVec Ideal S64x1024 .f32) shapeCasts_S64x1024_S65536) slices_S65536_S1024_50752 := by
  after_reads_simp
  rfl

/-- Result 39. -/
theorem tail39 : StableHlo.after hostOps1 u (Proc.devRef .tc main_v184) = shapeCast S1x512 (extractStridedSlice S512 ![51776] (shapeCast S65536 (u (Proc.devRef .tc main_v104_1) : FVec Ideal S64x1024 .f32) shapeCasts_S64x1024_S65536) slices_S65536_S512_51776) shapeCasts_S512_S1x512 := by
  after_reads_simp
  rfl

/-- Result 40. -/
theorem tail40 : StableHlo.after hostOps1 u (Proc.devRef .tc main_v186) = shapeCast S1x512 (extractStridedSlice S512 ![52288] (shapeCast S65536 (u (Proc.devRef .tc main_v104_1) : FVec Ideal S64x1024 .f32) shapeCasts_S64x1024_S65536) slices_S65536_S512_52288) shapeCasts_S512_S1x512 := by
  after_reads_simp
  rfl

/-- Result 41. -/
theorem tail41 : StableHlo.after hostOps1 u (Proc.devRef .tc main_v188) = shapeCast S1x8 (extractStridedSlice S8 ![52800] (shapeCast S65536 (u (Proc.devRef .tc main_v104_1) : FVec Ideal S64x1024 .f32) shapeCasts_S64x1024_S65536) slices_S65536_S8_52800) shapeCasts_S8_S1x8 := by
  after_reads_simp
  rfl

/-- Result 42. -/
theorem tail42 : StableHlo.after hostOps1 u (Proc.devRef .tc main_v190) = shapeCast S1x8x64 (extractStridedSlice S512 ![52808] (shapeCast S65536 (u (Proc.devRef .tc main_v104_1) : FVec Ideal S64x1024 .f32) shapeCasts_S64x1024_S65536) slices_S65536_S512_52808) shapeCasts_S512_S1x8x64 := by
  after_reads_simp
  rfl

/-- Result 43. -/
theorem tail43 : StableHlo.after hostOps1 u (Proc.devRef .tc main_v192) = shapeCast S2x2816 (extractStridedSlice S5632 ![53320] (shapeCast S65536 (u (Proc.devRef .tc main_v104_1) : FVec Ideal S64x1024 .f32) shapeCasts_S64x1024_S65536) slices_S65536_S5632_53320) shapeCasts_S5632_S2x2816 := by
  after_reads_simp
  rfl

/-- Result 44. -/
theorem tail44 : StableHlo.after hostOps1 u (Proc.devRef .tc main_v195) = shapeCast S16x256 (extractStridedSlice S4096 ![0] (shapeCast S65536 (u (Proc.devRef .tc main_v104_2) : FVec Ideal S64x1024 .f32) shapeCasts_S64x1024_S65536) slices_S65536_S4096_0) shapeCasts_S4096_S16x256 := by
  after_reads_simp
  rfl

/-- Result 45. -/
theorem tail45 : StableHlo.after hostOps1 u (Proc.devRef .tc main_v197) = shapeCast S1x31x128 (extractStridedSlice S3968 ![4096] (shapeCast S65536 (u (Proc.devRef .tc main_v104_2) : FVec Ideal S64x1024 .f32) shapeCasts_S64x1024_S65536) slices_S65536_S3968_4096) shapeCasts_S3968_S1x31x128 := by
  after_reads_simp
  rfl

/-- Result 46. -/
theorem tail46 : StableHlo.after hostOps1 u (Proc.devRef .tc main_v199) = shapeCast S1x3x128 (extractStridedSlice S384 ![8064] (shapeCast S65536 (u (Proc.devRef .tc main_v104_2) : FVec Ideal S64x1024 .f32) shapeCasts_S64x1024_S65536) slices_S65536_S384_8064) shapeCasts_S384_S1x3x128 := by
  after_reads_simp
  rfl

/-- Result 47. -/
theorem tail47 : StableHlo.after hostOps1 u (Proc.devRef .tc main_v201) = shapeCast S1x448 (extractStridedSlice S448 ![8448] (shapeCast S65536 (u (Proc.devRef .tc main_v104_2) : FVec Ideal S64x1024 .f32) shapeCasts_S64x1024_S65536) slices_S65536_S448_8448) shapeCasts_S448_S1x448 := by
  after_reads_simp
  rfl

/-- Result 48. -/
theorem tail48 : StableHlo.after hostOps1 u (Proc.devRef .tc main_v203) = shapeCast S1x128 (extractStridedSlice S128 ![8896] (shapeCast S65536 (u (Proc.devRef .tc main_v104_2) : FVec Ideal S64x1024 .f32) shapeCasts_S64x1024_S65536) slices_S65536_S128_8896) shapeCasts_S128_S1x128 := by
  after_reads_simp
  rfl

/-- Result 49. -/
theorem tail49 : StableHlo.after hostOps1 u (Proc.devRef .tc main_v205) = shapeCast S1x64x128 (extractStridedSlice S8192 ![9024] (shapeCast S65536 (u (Proc.devRef .tc main_v104_2) : FVec Ideal S64x1024 .f32) shapeCasts_S64x1024_S65536) slices_S65536_S8192_9024) shapeCasts_S8192_S1x64x128 := by
  after_reads_simp
  rfl

/-- Result 50. -/
theorem tail50 : StableHlo.after hostOps1 u (Proc.devRef .tc main_v207) = shapeCast S1x128 (extractStridedSlice S128 ![17216] (shapeCast S65536 (u (Proc.devRef .tc main_v104_2) : FVec Ideal S64x1024 .f32) shapeCasts_S64x1024_S65536) slices_S65536_S128_17216) shapeCasts_S128_S1x128 := by
  after_reads_simp
  rfl

/-- Result 51. -/
theorem tail51 : StableHlo.after hostOps1 u (Proc.devRef .tc main_v209) = shapeCast S1x64x128 (extractStridedSlice S8192 ![17344] (shapeCast S65536 (u (Proc.devRef .tc main_v104_2) : FVec Ideal S64x1024 .f32) shapeCasts_S64x1024_S65536) slices_S65536_S8192_17344) shapeCasts_S8192_S1x64x128 := by
  after_reads_simp
  rfl

/-- Result 52. -/
theorem tail52 : StableHlo.after hostOps1 u (Proc.devRef .tc main_v211) = shapeCast S1x128x128 (extractStridedSlice S16384 ![25536] (shapeCast S65536 (u (Proc.devRef .tc main_v104_2) : FVec Ideal S64x1024 .f32) shapeCasts_S64x1024_S65536) slices_S65536_S16384_25536) shapeCasts_S16384_S1x128x128 := by
  after_reads_simp
  rfl

/-- Result 53. -/
theorem tail53 : StableHlo.after hostOps1 u (Proc.devRef .tc main_v213) = shapeCast S1x128 (extractStridedSlice S128 ![41920] (shapeCast S65536 (u (Proc.devRef .tc main_v104_2) : FVec Ideal S64x1024 .f32) shapeCasts_S64x1024_S65536) slices_S65536_S128_41920) shapeCasts_S128_S1x128 := by
  after_reads_simp
  rfl

/-- Result 54. -/
theorem tail54 : StableHlo.after hostOps1 u (Proc.devRef .tc main_v215) = shapeCast S1x128 (extractStridedSlice S128 ![42048] (shapeCast S65536 (u (Proc.devRef .tc main_v104_2) : FVec Ideal S64x1024 .f32) shapeCasts_S64x1024_S65536) slices_S65536_S128_42048) shapeCasts_S128_S1x128 := by
  after_reads_simp
  rfl

/-- Result 55. -/
theorem tail55 : StableHlo.after hostOps1 u (Proc.devRef .tc main_v217) = shapeCast S1x128 (extractStridedSlice S128 ![42176] (shapeCast S65536 (u (Proc.devRef .tc main_v104_2) : FVec Ideal S64x1024 .f32) shapeCasts_S64x1024_S65536) slices_S65536_S128_42176) shapeCasts_S128_S1x128 := by
  after_reads_simp
  rfl

/-- Result 56. -/
theorem tail56 : StableHlo.after hostOps1 u (Proc.devRef .tc main_v219) = shapeCast S1x128 (extractStridedSlice S128 ![42304] (shapeCast S65536 (u (Proc.devRef .tc main_v104_2) : FVec Ideal S64x1024 .f32) shapeCasts_S64x1024_S65536) slices_S65536_S128_42304) shapeCasts_S128_S1x128 := by
  after_reads_simp
  rfl

/-- Result 57. -/
theorem tail57 : StableHlo.after hostOps1 u (Proc.devRef .tc main_v221) = shapeCast S2x3x704 (extractStridedSlice S4224 ![42432] (shapeCast S65536 (u (Proc.devRef .tc main_v104_2) : FVec Ideal S64x1024 .f32) shapeCasts_S64x1024_S65536) slices_S65536_S4224_42432) shapeCasts_S4224_S2x3x704 := by
  after_reads_simp
  rfl

/-- Result 58. -/
theorem tail58 : StableHlo.after hostOps1 u (Proc.devRef .tc main_v223) = shapeCast S2x1024 (extractStridedSlice S2048 ![46656] (shapeCast S65536 (u (Proc.devRef .tc main_v104_2) : FVec Ideal S64x1024 .f32) shapeCasts_S64x1024_S65536) slices_S65536_S2048_46656) shapeCasts_S2048_S2x1024 := by
  after_reads_simp
  rfl

/-- Result 59. -/
theorem tail59 : StableHlo.after hostOps1 u (Proc.devRef .tc main_v225) = shapeCast S2x1024 (extractStridedSlice S2048 ![48704] (shapeCast S65536 (u (Proc.devRef .tc main_v104_2) : FVec Ideal S64x1024 .f32) shapeCasts_S64x1024_S65536) slices_S65536_S2048_48704) shapeCasts_S2048_S2x1024 := by
  after_reads_simp
  rfl

/-- Result 60. -/
theorem tail60 : StableHlo.after hostOps1 u (Proc.devRef .tc main_v226) = extractStridedSlice S1024 ![50752] (shapeCast S65536 (u (Proc.devRef .tc main_v104_2) : FVec Ideal S64x1024 .f32) shapeCasts_S64x1024_S65536) slices_S65536_S1024_50752 := by
  after_reads_simp
  rfl

/-- Result 61. -/
theorem tail61 : StableHlo.after hostOps1 u (Proc.devRef .tc main_v228) = shapeCast S1x512 (extractStridedSlice S512 ![51776] (shapeCast S65536 (u (Proc.devRef .tc main_v104_2) : FVec Ideal S64x1024 .f32) shapeCasts_S64x1024_S65536) slices_S65536_S512_51776) shapeCasts_S512_S1x512 := by
  after_reads_simp
  rfl

/-- Result 62. -/
theorem tail62 : StableHlo.after hostOps1 u (Proc.devRef .tc main_v230) = shapeCast S1x512 (extractStridedSlice S512 ![52288] (shapeCast S65536 (u (Proc.devRef .tc main_v104_2) : FVec Ideal S64x1024 .f32) shapeCasts_S64x1024_S65536) slices_S65536_S512_52288) shapeCasts_S512_S1x512 := by
  after_reads_simp
  rfl

/-- Result 63. -/
theorem tail63 : StableHlo.after hostOps1 u (Proc.devRef .tc main_v232) = shapeCast S1x8 (extractStridedSlice S8 ![52800] (shapeCast S65536 (u (Proc.devRef .tc main_v104_2) : FVec Ideal S64x1024 .f32) shapeCasts_S64x1024_S65536) slices_S65536_S8_52800) shapeCasts_S8_S1x8 := by
  after_reads_simp
  rfl

/-- Result 64. -/
theorem tail64 : StableHlo.after hostOps1 u (Proc.devRef .tc main_v234) = shapeCast S1x8x64 (extractStridedSlice S512 ![52808] (shapeCast S65536 (u (Proc.devRef .tc main_v104_2) : FVec Ideal S64x1024 .f32) shapeCasts_S64x1024_S65536) slices_S65536_S512_52808) shapeCasts_S512_S1x8x64 := by
  after_reads_simp
  rfl

/-- Result 65. -/
theorem tail65 : StableHlo.after hostOps1 u (Proc.devRef .tc main_v236) = shapeCast S2x2816 (extractStridedSlice S5632 ![53320] (shapeCast S65536 (u (Proc.devRef .tc main_v104_2) : FVec Ideal S64x1024 .f32) shapeCasts_S64x1024_S65536) slices_S65536_S5632_53320) shapeCasts_S5632_S2x2816 := by
  after_reads_simp
  rfl

end Cert.AdamSmallIdeal.Value

end
-- ==== Proof.AdamEach.lean ====
/- The AdamW step on whole arrays, entry by entry, and that it goes with the order of the entries. -/
module

public import proofs.«01_k».proof.Proof.AdamStep
public import Idealize.ShloMosaic.Lib.Pipeline.ValueKit

@[expose] public section

noncomputable section

namespace Cert.AdamEach

open Idealize.ShloMosaic Cert.AdamStep

/-- Each weight's change. -/
def newChanges {s : Shape} (w g m v : FVec Ideal s .f32) : FVec Ideal s .f32 := fun i => change (w i) (g i) (m i) (v i)

/-- Each new running mean of the gradient. -/
def newMeans {s : Shape} (g m : FVec Ideal s .f32) : FVec Ideal s .f32 := fun i => mean (g i) (m i)

/-- Each new running mean of the square. -/
def newSquares {s : Shape} (g v : FVec Ideal s .f32) : FVec Ideal s .f32 := fun i => square (g i) (v i)

theorem newChanges_cast {s t : Shape} (h) (w g m v : FVec Ideal s .f32) :
    shapeCast t (newChanges w g m v) h = newChanges (shapeCast t w h) (shapeCast t g h) (shapeCast t m h) (shapeCast t v h) := rfl

theorem newMeans_cast {s t : Shape} (h) (g m : FVec Ideal s .f32) : shapeCast t (newMeans g m) h = newMeans (shapeCast t g h) (shapeCast t m h) := rfl

theorem newSquares_cast {s t : Shape} (h) (g v : FVec Ideal s .f32) : shapeCast t (newSquares g v) h = newSquares (shapeCast t g h) (shapeCast t v h) := rfl

theorem newChanges_slice {s t : Shape} (o) (h) (w g m v : FVec Ideal s .f32) :
    extractStridedSlice t o (newChanges w g m v) h
      = newChanges (extractStridedSlice t o w h) (extractStridedSlice t o g h) (extractStridedSlice t o m h) (extractStridedSlice t o v h) := rfl

theorem newMeans_slice {s t : Shape} (o) (h) (g m : FVec Ideal s .f32) :
    extractStridedSlice t o (newMeans g m) h = newMeans (extractStridedSlice t o g h) (extractStridedSlice t o m h) := rfl

theorem newSquares_slice {s t : Shape} (o) (h) (g v : FVec Ideal s .f32) :
    extractStridedSlice t o (newSquares g v) h = newSquares (extractStridedSlice t o g h) (extractStridedSlice t o v h) := rfl

end Cert.AdamEach

end
-- ==== Proof.AdamSmallKernel.lean ====
/- The small weights' AdamW call: its three packed results, and each weight's part of them. -/
module

public import proofs.«01_k».proof.Proof.Gen.AdamSmallIdeal.Frame
public import proofs.«01_k».proof.Proof.AdamHost
public import proofs.«01_k».proof.Proof.AdamEach
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem Idealize.ShloMosaic.Tactic
open Idealize.ShloMosaic.Pipeline (Dat)

namespace Cert.AdamSmallIdeal.Value

open Cert.AdamSmallIdeal Cert.AdamSmallIdeal.Gen Cert.AdamStep Cert.AdamEach Cert.AdamPack

variable (m : (ℓ : Loc nD τ sig) → Buf (Elt Ideal) ℓ)

/-- Every array is one block. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The row of the array that row `i` of block `t` is. -/
def row (t : Fin cfg0.N) (i : Fin 64) : Fin 64 := ⟨t.val * 64 + i.val, by have := lt_of_lt_of_eq t.isLt N_0; omega⟩

/-- The weights at launch. -/
def weights₀ (c : Dev nD) : Small := weights (fun b => m (c, b))

/-- The gradients at launch. -/
def gradients₀ (c : Dev nD) : Small := gradients (fun b => m (c, b))

/-- The means at launch. -/
def means₀ (c : Dev nD) : Small := means (fun b => m (c, b))

/-- The squares at launch. -/
def squares₀ (c : Dev nD) : Small := squares (fun b => m (c, b))

/-- What the call stores in result array 0, at an entry. -/
theorem pay_change (w g a v : FVec Ideal S64x1024 .f32) (y) : k0_pay4 (F := Ideal) w g a v y = change (w y) (g y) (a y) (v y) := by
  pointwise [k0_pay4, k0_pay3, k0_pay2, k0_pay1, change, mean, square]

/-- What the call stores in result array 1, at an entry. -/
theorem pay_mean (g a : FVec Ideal S64x1024 .f32) (y) : k0_pay2 (F := Ideal) g a y = mean (g y) (a y) := by
  pointwise [k0_pay2, k0_pay1, mean]

/-- What the call stores in result array 2, at an entry. -/
theorem pay_square (g v : FVec Ideal S64x1024 .f32) (y) : k0_pay3 (F := Ideal) g v y = square (g y) (v y) := by
  pointwise [k0_pay3, k0_pay1, square]

/-- An entry of the block of array 0. -/
theorem blk0 (c : Dev nD) (t : Fin cfg0.N) (i : Fin 64) (j : Fin 1024) : iblk m c 0 t (ix2 i j) = packed (weights₀ m c) (ix2 (row t i) j) := by
  refine Eq.trans ?_ (congrFun (host0 (fun b => m (c, b))) (ix2 (row t i) j))
  have e : ((cfg0.win 0).blk t).view.emb (ix2 i j) = ix2 (row t i) j := by blk_point [idx t, row]
  exact congrArg (V m c main_v25) e

/-- An entry of the block of array 1. -/
theorem blk1 (c : Dev nD) (t : Fin cfg0.N) (i : Fin 64) (j : Fin 1024) : iblk m c 1 t (ix2 i j) = packed (gradients₀ m c) (ix2 (row t i) j) := by
  refine Eq.trans ?_ (congrFun (host1 (fun b => m (c, b))) (ix2 (row t i) j))
  have e : ((cfg0.win 1).blk t).view.emb (ix2 i j) = ix2 (row t i) j := by blk_point [idx t, row]
  exact congrArg (V m c main_v51) e

/-- An entry of the block of array 2. -/
theorem blk2 (c : Dev nD) (t : Fin cfg0.N) (i : Fin 64) (j : Fin 1024) : iblk m c 2 t (ix2 i j) = packed (means₀ m c) (ix2 (row t i) j) := by
  refine Eq.trans ?_ (congrFun (host2 (fun b => m (c, b))) (ix2 (row t i) j))
  have e : ((cfg0.win 2).blk t).view.emb (ix2 i j) = ix2 (row t i) j := by blk_point [idx t, row]
  exact congrArg (V m c main_v77) e

/-- An entry of the block of array 3. -/
theorem blk3 (c : Dev nD) (t : Fin cfg0.N) (i : Fin 64) (j : Fin 1024) : iblk m c 3 t (ix2 i j) = packed (squares₀ m c) (ix2 (row t i) j) := by
  refine Eq.trans ?_ (congrFun (host3 (fun b => m (c, b))) (ix2 (row t i) j))
  have e : ((cfg0.win 3).blk t).view.emb (ix2 i j) = ix2 (row t i) j := by blk_point [idx t, row]
  exact congrArg (V m c main_v103) e

/-- Where entry `(i, j)` of block `t` lies in a result. -/
theorem place (t : Fin cfg0.N) (i : Fin 64) (j : Fin 1024) : ((cfg0.win 4).blk t).view.emb (ix2 i j) = ix2 (row t i) j
    ∧ ((cfg0.win 5).blk t).view.emb (ix2 i j) = ix2 (row t i) j ∧ ((cfg0.win 6).blk t).view.emb (ix2 i j) = ix2 (row t i) j := by
  refine ⟨?_, ?_, ?_⟩ <;> blk_point [idx t, row]

/-- Packed result 0. -/
theorem array0 (c : Dev nD) : (dats m 0 c).arrAt 4 (cfgs 0).N = newChanges (packed (weights₀ m c)) (packed (gradients₀ m c)) (packed (means₀ m c)) (packed (squares₀ m c)) := by
  refine (dats m 0 c).arrAt_eq_of_covers 4 _ (by decide +kernel) fun t _ y => ?_
  blk_simp
  idx_vars y
  rw [after0_4, show out0_4 (iblk m c 0 t) (iblk m c 1 t) (iblk m c 2 t) (iblk m c 3 t) (ix2 y0 y1) = k0_pay4 (iblk m c 0 t) (iblk m c 1 t) (iblk m c 2 t) (iblk m c 3 t) (ix2 y0 y1) by frame_out, pay_change, blk0, blk1, blk2, blk3, (place t y0 y1).1]
  rfl

/-- Packed result 1. -/
theorem array1 (c : Dev nD) : (dats m 0 c).arrAt 5 (cfgs 0).N = newMeans (packed (gradients₀ m c)) (packed (means₀ m c)) := by
  refine (dats m 0 c).arrAt_eq_of_covers 5 _ (by decide +kernel) fun t _ y => ?_
  blk_simp
  idx_vars y
  rw [after0_5, show out0_5 (iblk m c 0 t) (iblk m c 1 t) (iblk m c 2 t) (iblk m c 3 t) (ix2 y0 y1) = k0_pay2 (iblk m c 1 t) (iblk m c 2 t) (ix2 y0 y1) by frame_out, pay_mean, blk1, blk2, (place t y0 y1).2.1]
  rfl

/-- Packed result 2. -/
theorem array2 (c : Dev nD) : (dats m 0 c).arrAt 6 (cfgs 0).N = newSquares (packed (gradients₀ m c)) (packed (squares₀ m c)) := by
  refine (dats m 0 c).arrAt_eq_of_covers 6 _ (by decide +kernel) fun t _ y => ?_
  blk_simp
  idx_vars y
  rw [after0_6, show out0_6 (iblk m c 0 t) (iblk m c 1 t) (iblk m c 2 t) (iblk m c 3 t) (ix2 y0 y1) = k0_pay3 (iblk m c 1 t) (iblk m c 3 t) (ix2 y0 y1) by frame_out, pay_square, blk1, blk3, (place t y0 y1).2.2]
  rfl

/-- What a buffer holds at the end. -/
abbrev final (c : Dev nD) := Pipeline.afterTail₀ cfgs (dats m) 0 (V0 m) [hostOps1] c

/-- What the lines after the call start from. -/
abbrev before (c : Dev nD) : Valuation τ sig (Elt Ideal) := Pipeline.withArrays (cfgs 0).spec c (V0 m c) fun w => (dats m 0 c).arrAt w (cfgs 0).N

theorem final_eq (c : Dev nD) (b : Ref sig .tc) : final m c b = StableHlo.after hostOps1 (before m c) (Proc.devRef .tc b) := by
  unfold final Pipeline.afterTail₀
  rw [List.flatten_cons, List.flatten_nil, List.append_nil]

theorem before0 (c : Dev nD) : before m c (Proc.devRef .tc main_v104_0) = newChanges (packed (weights₀ m c)) (packed (gradients₀ m c)) (packed (means₀ m c)) (packed (squares₀ m c)) :=
  (Pipeline.withArrays_arr (cfgs 0).spec winFacts0.arr_inj c _ _ 4).trans (array0 m c)

theorem before1 (c : Dev nD) : before m c (Proc.devRef .tc main_v104_1) = newMeans (packed (gradients₀ m c)) (packed (means₀ m c)) :=
  (Pipeline.withArrays_arr (cfgs 0).spec winFacts0.arr_inj c _ _ 5).trans (array1 m c)

theorem before2 (c : Dev nD) : before m c (Proc.devRef .tc main_v104_2) = newSquares (packed (gradients₀ m c)) (packed (squares₀ m c)) :=
  (Pipeline.withArrays_arr (cfgs 0).spec winFacts0.arr_inj c _ _ 6).trans (array2 m c)

/-- meta tokens: result 0. -/
theorem value0 (c : Dev nD) : final m c main_v107 = newChanges (weights₀ m c).x0 (gradients₀ m c).x0 (means₀ m c).x0 (squares₀ m c).x0 := by
  refine (final_eq m c main_v107).trans ((tail0 (before m c)).trans ?_)
  rw [before0, newChanges_cast, newChanges_slice, newChanges_cast, back0, back0, back0, back0]

/-- ev_conv_a: result 1. -/
theorem value1 (c : Dev nD) : final m c main_v109 = newChanges (weights₀ m c).x1 (gradients₀ m c).x1 (means₀ m c).x1 (squares₀ m c).x1 := by
  refine (final_eq m c main_v109).trans ((tail1 (before m c)).trans ?_)
  rw [before0, newChanges_cast, newChanges_slice, newChanges_cast, back1, back1, back1, back1]

/-- ev_conv_b: result 2. -/
theorem value2 (c : Dev nD) : final m c main_v111 = newChanges (weights₀ m c).x2 (gradients₀ m c).x2 (means₀ m c).x2 (squares₀ m c).x2 := by
  refine (final_eq m c main_v111).trans ((tail2 (before m c)).trans ?_)
  rw [before0, newChanges_cast, newChanges_slice, newChanges_cast, back2, back2, back2, back2]

/-- od_mu: result 3. -/
theorem value3 (c : Dev nD) : final m c main_v113 = newChanges (weights₀ m c).x3 (gradients₀ m c).x3 (means₀ m c).x3 (squares₀ m c).x3 := by
  refine (final_eq m c main_v113).trans ((tail3 (before m c)).trans ?_)
  rw [before0, newChanges_cast, newChanges_slice, newChanges_cast, back3, back3, back3, back3]

/-- od_w0: result 4. -/
theorem value4 (c : Dev nD) : final m c main_v115 = newChanges (weights₀ m c).x4 (gradients₀ m c).x4 (means₀ m c).x4 (squares₀ m c).x4 := by
  refine (final_eq m c main_v115).trans ((tail4 (before m c)).trans ?_)
  rw [before0, newChanges_cast, newChanges_slice, newChanges_cast, back4, back4, back4, back4]

/-- od_w2: result 5. -/
theorem value5 (c : Dev nD) : final m c main_v117 = newChanges (weights₀ m c).x5 (gradients₀ m c).x5 (means₀ m c).x5 (squares₀ m c).x5 := by
  refine (final_eq m c main_v117).trans ((tail5 (before m c)).trans ?_)
  rw [before0, newChanges_cast, newChanges_slice, newChanges_cast, back5, back5, back5, back5]

/-- od_a0: result 6. -/
theorem value6 (c : Dev nD) : final m c main_v119 = newChanges (weights₀ m c).x6 (gradients₀ m c).x6 (means₀ m c).x6 (squares₀ m c).x6 := by
  refine (final_eq m c main_v119).trans ((tail6 (before m c)).trans ?_)
  rw [before0, newChanges_cast, newChanges_slice, newChanges_cast, back6, back6, back6, back6]

/-- od_a2: result 7. -/
theorem value7 (c : Dev nD) : final m c main_v121 = newChanges (weights₀ m c).x7 (gradients₀ m c).x7 (means₀ m c).x7 (squares₀ m c).x7 := by
  refine (final_eq m c main_v121).trans ((tail7 (before m c)).trans ?_)
  rw [before0, newChanges_cast, newChanges_slice, newChanges_cast, back7, back7, back7, back7]

/-- od_g2: result 8. -/
theorem value8 (c : Dev nD) : final m c main_v123 = newChanges (weights₀ m c).x8 (gradients₀ m c).x8 (means₀ m c).x8 (squares₀ m c).x8 := by
  refine (final_eq m c main_v123).trans ((tail8 (before m c)).trans ?_)
  rw [before0, newChanges_cast, newChanges_slice, newChanges_cast, back8, back8, back8, back8]

/-- od_k_k: result 9. -/
theorem value9 (c : Dev nD) : final m c main_v125 = newChanges (weights₀ m c).x9 (gradients₀ m c).x9 (means₀ m c).x9 (squares₀ m c).x9 := by
  refine (final_eq m c main_v125).trans ((tail9 (before m c)).trans ?_)
  rw [before0, newChanges_cast, newChanges_slice, newChanges_cast, back9, back9, back9, back9]

/-- od_k_a: result 10. -/
theorem value10 (c : Dev nD) : final m c main_v127 = newChanges (weights₀ m c).x10 (gradients₀ m c).x10 (means₀ m c).x10 (squares₀ m c).x10 := by
  refine (final_eq m c main_v127).trans ((tail10 (before m c)).trans ?_)
  rw [before0, newChanges_cast, newChanges_slice, newChanges_cast, back10, back10, back10, back10]

/-- od_lnx_g: result 11. -/
theorem value11 (c : Dev nD) : final m c main_v129 = newChanges (weights₀ m c).x11 (gradients₀ m c).x11 (means₀ m c).x11 (squares₀ m c).x11 := by
  refine (final_eq m c main_v129).trans ((tail11 (before m c)).trans ?_)
  rw [before0, newChanges_cast, newChanges_slice, newChanges_cast, back11, back11, back11, back11]

/-- od_lnx_b: result 12. -/
theorem value12 (c : Dev nD) : final m c main_v131 = newChanges (weights₀ m c).x12 (gradients₀ m c).x12 (means₀ m c).x12 (squares₀ m c).x12 := by
  refine (final_eq m c main_v131).trans ((tail12 (before m c)).trans ?_)
  rw [before0, newChanges_cast, newChanges_slice, newChanges_cast, back12, back12, back12, back12]

/-- ff_conv: result 13. -/
theorem value13 (c : Dev nD) : final m c main_v133 = newChanges (weights₀ m c).x13 (gradients₀ m c).x13 (means₀ m c).x13 (squares₀ m c).x13 := by
  refine (final_eq m c main_v133).trans ((tail13 (before m c)).trans ?_)
  rw [before0, newChanges_cast, newChanges_slice, newChanges_cast, back13, back13, back13, back13]

/-- norm_mix: result 14. -/
theorem value14 (c : Dev nD) : final m c main_v135 = newChanges (weights₀ m c).x14 (gradients₀ m c).x14 (means₀ m c).x14 (squares₀ m c).x14 := by
  refine (final_eq m c main_v135).trans ((tail14 (before m c)).trans ?_)
  rw [before0, newChanges_cast, newChanges_slice, newChanges_cast, back14, back14, back14, back14]

/-- norm_ffn: result 15. -/
theorem value15 (c : Dev nD) : final m c main_v137 = newChanges (weights₀ m c).x15 (gradients₀ m c).x15 (means₀ m c).x15 (squares₀ m c).x15 := by
  refine (final_eq m c main_v137).trans ((tail15 (before m c)).trans ?_)
  rw [before0, newChanges_cast, newChanges_slice, newChanges_cast, back15, back15, back15, back15]

/-- norm_final: result 16. -/
theorem value16 (c : Dev nD) : final m c main_v138 = newChanges (weights₀ m c).x16 (gradients₀ m c).x16 (means₀ m c).x16 (squares₀ m c).x16 := by
  refine (final_eq m c main_v138).trans ((tail16 (before m c)).trans ?_)
  rw [before0, newChanges_cast, newChanges_slice, back16, back16, back16, back16]

/-- ev_ln_a_g: result 17. -/
theorem value17 (c : Dev nD) : final m c main_v140 = newChanges (weights₀ m c).x17 (gradients₀ m c).x17 (means₀ m c).x17 (squares₀ m c).x17 := by
  refine (final_eq m c main_v140).trans ((tail17 (before m c)).trans ?_)
  rw [before0, newChanges_cast, newChanges_slice, newChanges_cast, back17, back17, back17, back17]

/-- ev_ln_a_b: result 18. -/
theorem value18 (c : Dev nD) : final m c main_v142 = newChanges (weights₀ m c).x18 (gradients₀ m c).x18 (means₀ m c).x18 (squares₀ m c).x18 := by
  refine (final_eq m c main_v142).trans ((tail18 (before m c)).trans ?_)
  rw [before0, newChanges_cast, newChanges_slice, newChanges_cast, back18, back18, back18, back18]

/-- od_sinks: result 19. -/
theorem value19 (c : Dev nD) : final m c main_v144 = newChanges (weights₀ m c).x19 (gradients₀ m c).x19 (means₀ m c).x19 (squares₀ m c).x19 := by
  refine (final_eq m c main_v144).trans ((tail19 (before m c)).trans ?_)
  rw [before0, newChanges_cast, newChanges_slice, newChanges_cast, back19, back19, back19, back19]

/-- od_r_k: result 20. -/
theorem value20 (c : Dev nD) : final m c main_v146 = newChanges (weights₀ m c).x20 (gradients₀ m c).x20 (means₀ m c).x20 (squares₀ m c).x20 := by
  refine (final_eq m c main_v146).trans ((tail20 (before m c)).trans ?_)
  rw [before0, newChanges_cast, newChanges_slice, newChanges_cast, back20, back20, back20, back20]

/-- ff_conv_b: result 21. -/
theorem value21 (c : Dev nD) : final m c main_v148 = newChanges (weights₀ m c).x21 (gradients₀ m c).x21 (means₀ m c).x21 (squares₀ m c).x21 := by
  refine (final_eq m c main_v148).trans ((tail21 (before m c)).trans ?_)
  rw [before0, newChanges_cast, newChanges_slice, newChanges_cast, back21, back21, back21, back21]

/-- meta tokens: result 22. -/
theorem value22 (c : Dev nD) : final m c main_v151 = newMeans (gradients₀ m c).x0 (means₀ m c).x0 := by
  refine (final_eq m c main_v151).trans ((tail22 (before m c)).trans ?_)
  rw [before1, newMeans_cast, newMeans_slice, newMeans_cast, back0, back0]

/-- ev_conv_a: result 23. -/
theorem value23 (c : Dev nD) : final m c main_v153 = newMeans (gradients₀ m c).x1 (means₀ m c).x1 := by
  refine (final_eq m c main_v153).trans ((tail23 (before m c)).trans ?_)
  rw [before1, newMeans_cast, newMeans_slice, newMeans_cast, back1, back1]

/-- ev_conv_b: result 24. -/
theorem value24 (c : Dev nD) : final m c main_v155 = newMeans (gradients₀ m c).x2 (means₀ m c).x2 := by
  refine (final_eq m c main_v155).trans ((tail24 (before m c)).trans ?_)
  rw [before1, newMeans_cast, newMeans_slice, newMeans_cast, back2, back2]

/-- od_mu: result 25. -/
theorem value25 (c : Dev nD) : final m c main_v157 = newMeans (gradients₀ m c).x3 (means₀ m c).x3 := by
  refine (final_eq m c main_v157).trans ((tail25 (before m c)).trans ?_)
  rw [before1, newMeans_cast, newMeans_slice, newMeans_cast, back3, back3]

/-- od_w0: result 26. -/
theorem value26 (c : Dev nD) : final m c main_v159 = newMeans (gradients₀ m c).x4 (means₀ m c).x4 := by
  refine (final_eq m c main_v159).trans ((tail26 (before m c)).trans ?_)
  rw [before1, newMeans_cast, newMeans_slice, newMeans_cast, back4, back4]

/-- od_w2: result 27. -/
theorem value27 (c : Dev nD) : final m c main_v161 = newMeans (gradients₀ m c).x5 (means₀ m c).x5 := by
  refine (final_eq m c main_v161).trans ((tail27 (before m c)).trans ?_)
  rw [before1, newMeans_cast, newMeans_slice, newMeans_cast, back5, back5]

/-- od_a0: result 28. -/
theorem value28 (c : Dev nD) : final m c main_v163 = newMeans (gradients₀ m c).x6 (means₀ m c).x6 := by
  refine (final_eq m c main_v163).trans ((tail28 (before m c)).trans ?_)
  rw [before1, newMeans_cast, newMeans_slice, newMeans_cast, back6, back6]

/-- od_a2: result 29. -/
theorem value29 (c : Dev nD) : final m c main_v165 = newMeans (gradients₀ m c).x7 (means₀ m c).x7 := by
  refine (final_eq m c main_v165).trans ((tail29 (before m c)).trans ?_)
  rw [before1, newMeans_cast, newMeans_slice, newMeans_cast, back7, back7]

/-- od_g2: result 30. -/
theorem value30 (c : Dev nD) : final m c main_v167 = newMeans (gradients₀ m c).x8 (means₀ m c).x8 := by
  refine (final_eq m c main_v167).trans ((tail30 (before m c)).trans ?_)
  rw [before1, newMeans_cast, newMeans_slice, newMeans_cast, back8, back8]

/-- od_k_k: result 31. -/
theorem value31 (c : Dev nD) : final m c main_v169 = newMeans (gradients₀ m c).x9 (means₀ m c).x9 := by
  refine (final_eq m c main_v169).trans ((tail31 (before m c)).trans ?_)
  rw [before1, newMeans_cast, newMeans_slice, newMeans_cast, back9, back9]

/-- od_k_a: result 32. -/
theorem value32 (c : Dev nD) : final m c main_v171 = newMeans (gradients₀ m c).x10 (means₀ m c).x10 := by
  refine (final_eq m c main_v171).trans ((tail32 (before m c)).trans ?_)
  rw [before1, newMeans_cast, newMeans_slice, newMeans_cast, back10, back10]

/-- od_lnx_g: result 33. -/
theorem value33 (c : Dev nD) : final m c main_v173 = newMeans (gradients₀ m c).x11 (means₀ m c).x11 := by
  refine (final_eq m c main_v173).trans ((tail33 (before m c)).trans ?_)
  rw [before1, newMeans_cast, newMeans_slice, newMeans_cast, back11, back11]

/-- od_lnx_b: result 34. -/
theorem value34 (c : Dev nD) : final m c main_v175 = newMeans (gradients₀ m c).x12 (means₀ m c).x12 := by
  refine (final_eq m c main_v175).trans ((tail34 (before m c)).trans ?_)
  rw [before1, newMeans_cast, newMeans_slice, newMeans_cast, back12, back12]

/-- ff_conv: result 35. -/
theorem value35 (c : Dev nD) : final m c main_v177 = newMeans (gradients₀ m c).x13 (means₀ m c).x13 := by
  refine (final_eq m c main_v177).trans ((tail35 (before m c)).trans ?_)
  rw [before1, newMeans_cast, newMeans_slice, newMeans_cast, back13, back13]

/-- norm_mix: result 36. -/
theorem value36 (c : Dev nD) : final m c main_v179 = newMeans (gradients₀ m c).x14 (means₀ m c).x14 := by
  refine (final_eq m c main_v179).trans ((tail36 (before m c)).trans ?_)
  rw [before1, newMeans_cast, newMeans_slice, newMeans_cast, back14, back14]

/-- norm_ffn: result 37. -/
theorem value37 (c : Dev nD) : final m c main_v181 = newMeans (gradients₀ m c).x15 (means₀ m c).x15 := by
  refine (final_eq m c main_v181).trans ((tail37 (before m c)).trans ?_)
  rw [before1, newMeans_cast, newMeans_slice, newMeans_cast, back15, back15]

/-- norm_final: result 38. -/
theorem value38 (c : Dev nD) : final m c main_v182 = newMeans (gradients₀ m c).x16 (means₀ m c).x16 := by
  refine (final_eq m c main_v182).trans ((tail38 (before m c)).trans ?_)
  rw [before1, newMeans_cast, newMeans_slice, back16, back16]

/-- ev_ln_a_g: result 39. -/
theorem value39 (c : Dev nD) : final m c main_v184 = newMeans (gradients₀ m c).x17 (means₀ m c).x17 := by
  refine (final_eq m c main_v184).trans ((tail39 (before m c)).trans ?_)
  rw [before1, newMeans_cast, newMeans_slice, newMeans_cast, back17, back17]

/-- ev_ln_a_b: result 40. -/
theorem value40 (c : Dev nD) : final m c main_v186 = newMeans (gradients₀ m c).x18 (means₀ m c).x18 := by
  refine (final_eq m c main_v186).trans ((tail40 (before m c)).trans ?_)
  rw [before1, newMeans_cast, newMeans_slice, newMeans_cast, back18, back18]

/-- od_sinks: result 41. -/
theorem value41 (c : Dev nD) : final m c main_v188 = newMeans (gradients₀ m c).x19 (means₀ m c).x19 := by
  refine (final_eq m c main_v188).trans ((tail41 (before m c)).trans ?_)
  rw [before1, newMeans_cast, newMeans_slice, newMeans_cast, back19, back19]

/-- od_r_k: result 42. -/
theorem value42 (c : Dev nD) : final m c main_v190 = newMeans (gradients₀ m c).x20 (means₀ m c).x20 := by
  refine (final_eq m c main_v190).trans ((tail42 (before m c)).trans ?_)
  rw [before1, newMeans_cast, newMeans_slice, newMeans_cast, back20, back20]

/-- ff_conv_b: result 43. -/
theorem value43 (c : Dev nD) : final m c main_v192 = newMeans (gradients₀ m c).x21 (means₀ m c).x21 := by
  refine (final_eq m c main_v192).trans ((tail43 (before m c)).trans ?_)
  rw [before1, newMeans_cast, newMeans_slice, newMeans_cast, back21, back21]

/-- meta tokens: result 44. -/
theorem value44 (c : Dev nD) : final m c main_v195 = newSquares (gradients₀ m c).x0 (squares₀ m c).x0 := by
  refine (final_eq m c main_v195).trans ((tail44 (before m c)).trans ?_)
  rw [before2, newSquares_cast, newSquares_slice, newSquares_cast, back0, back0]

/-- ev_conv_a: result 45. -/
theorem value45 (c : Dev nD) : final m c main_v197 = newSquares (gradients₀ m c).x1 (squares₀ m c).x1 := by
  refine (final_eq m c main_v197).trans ((tail45 (before m c)).trans ?_)
  rw [before2, newSquares_cast, newSquares_slice, newSquares_cast, back1, back1]

/-- ev_conv_b: result 46. -/
theorem value46 (c : Dev nD) : final m c main_v199 = newSquares (gradients₀ m c).x2 (squares₀ m c).x2 := by
  refine (final_eq m c main_v199).trans ((tail46 (before m c)).trans ?_)
  rw [before2, newSquares_cast, newSquares_slice, newSquares_cast, back2, back2]

/-- od_mu: result 47. -/
theorem value47 (c : Dev nD) : final m c main_v201 = newSquares (gradients₀ m c).x3 (squares₀ m c).x3 := by
  refine (final_eq m c main_v201).trans ((tail47 (before m c)).trans ?_)
  rw [before2, newSquares_cast, newSquares_slice, newSquares_cast, back3, back3]

/-- od_w0: result 48. -/
theorem value48 (c : Dev nD) : final m c main_v203 = newSquares (gradients₀ m c).x4 (squares₀ m c).x4 := by
  refine (final_eq m c main_v203).trans ((tail48 (before m c)).trans ?_)
  rw [before2, newSquares_cast, newSquares_slice, newSquares_cast, back4, back4]

/-- od_w2: result 49. -/
theorem value49 (c : Dev nD) : final m c main_v205 = newSquares (gradients₀ m c).x5 (squares₀ m c).x5 := by
  refine (final_eq m c main_v205).trans ((tail49 (before m c)).trans ?_)
  rw [before2, newSquares_cast, newSquares_slice, newSquares_cast, back5, back5]

/-- od_a0: result 50. -/
theorem value50 (c : Dev nD) : final m c main_v207 = newSquares (gradients₀ m c).x6 (squares₀ m c).x6 := by
  refine (final_eq m c main_v207).trans ((tail50 (before m c)).trans ?_)
  rw [before2, newSquares_cast, newSquares_slice, newSquares_cast, back6, back6]

/-- od_a2: result 51. -/
theorem value51 (c : Dev nD) : final m c main_v209 = newSquares (gradients₀ m c).x7 (squares₀ m c).x7 := by
  refine (final_eq m c main_v209).trans ((tail51 (before m c)).trans ?_)
  rw [before2, newSquares_cast, newSquares_slice, newSquares_cast, back7, back7]

/-- od_g2: result 52. -/
theorem value52 (c : Dev nD) : final m c main_v211 = newSquares (gradients₀ m c).x8 (squares₀ m c).x8 := by
  refine (final_eq m c main_v211).trans ((tail52 (before m c)).trans ?_)
  rw [before2, newSquares_cast, newSquares_slice, newSquares_cast, back8, back8]

/-- od_k_k: result 53. -/
theorem value53 (c : Dev nD) : final m c main_v213 = newSquares (gradients₀ m c).x9 (squares₀ m c).x9 := by
  refine (final_eq m c main_v213).trans ((tail53 (before m c)).trans ?_)
  rw [before2, newSquares_cast, newSquares_slice, newSquares_cast, back9, back9]

/-- od_k_a: result 54. -/
theorem value54 (c : Dev nD) : final m c main_v215 = newSquares (gradients₀ m c).x10 (squares₀ m c).x10 := by
  refine (final_eq m c main_v215).trans ((tail54 (before m c)).trans ?_)
  rw [before2, newSquares_cast, newSquares_slice, newSquares_cast, back10, back10]

/-- od_lnx_g: result 55. -/
theorem value55 (c : Dev nD) : final m c main_v217 = newSquares (gradients₀ m c).x11 (squares₀ m c).x11 := by
  refine (final_eq m c main_v217).trans ((tail55 (before m c)).trans ?_)
  rw [before2, newSquares_cast, newSquares_slice, newSquares_cast, back11, back11]

/-- od_lnx_b: result 56. -/
theorem value56 (c : Dev nD) : final m c main_v219 = newSquares (gradients₀ m c).x12 (squares₀ m c).x12 := by
  refine (final_eq m c main_v219).trans ((tail56 (before m c)).trans ?_)
  rw [before2, newSquares_cast, newSquares_slice, newSquares_cast, back12, back12]

/-- ff_conv: result 57. -/
theorem value57 (c : Dev nD) : final m c main_v221 = newSquares (gradients₀ m c).x13 (squares₀ m c).x13 := by
  refine (final_eq m c main_v221).trans ((tail57 (before m c)).trans ?_)
  rw [before2, newSquares_cast, newSquares_slice, newSquares_cast, back13, back13]

/-- norm_mix: result 58. -/
theorem value58 (c : Dev nD) : final m c main_v223 = newSquares (gradients₀ m c).x14 (squares₀ m c).x14 := by
  refine (final_eq m c main_v223).trans ((tail58 (before m c)).trans ?_)
  rw [before2, newSquares_cast, newSquares_slice, newSquares_cast, back14, back14]

/-- norm_ffn: result 59. -/
theorem value59 (c : Dev nD) : final m c main_v225 = newSquares (gradients₀ m c).x15 (squares₀ m c).x15 := by
  refine (final_eq m c main_v225).trans ((tail59 (before m c)).trans ?_)
  rw [before2, newSquares_cast, newSquares_slice, newSquares_cast, back15, back15]

/-- norm_final: result 60. -/
theorem value60 (c : Dev nD) : final m c main_v226 = newSquares (gradients₀ m c).x16 (squares₀ m c).x16 := by
  refine (final_eq m c main_v226).trans ((tail60 (before m c)).trans ?_)
  rw [before2, newSquares_cast, newSquares_slice, back16, back16]

/-- ev_ln_a_g: result 61. -/
theorem value61 (c : Dev nD) : final m c main_v228 = newSquares (gradients₀ m c).x17 (squares₀ m c).x17 := by
  refine (final_eq m c main_v228).trans ((tail61 (before m c)).trans ?_)
  rw [before2, newSquares_cast, newSquares_slice, newSquares_cast, back17, back17]

/-- ev_ln_a_b: result 62. -/
theorem value62 (c : Dev nD) : final m c main_v230 = newSquares (gradients₀ m c).x18 (squares₀ m c).x18 := by
  refine (final_eq m c main_v230).trans ((tail62 (before m c)).trans ?_)
  rw [before2, newSquares_cast, newSquares_slice, newSquares_cast, back18, back18]

/-- od_sinks: result 63. -/
theorem value63 (c : Dev nD) : final m c main_v232 = newSquares (gradients₀ m c).x19 (squares₀ m c).x19 := by
  refine (final_eq m c main_v232).trans ((tail63 (before m c)).trans ?_)
  rw [before2, newSquares_cast, newSquares_slice, newSquares_cast, back19, back19]

/-- od_r_k: result 64. -/
theorem value64 (c : Dev nD) : final m c main_v234 = newSquares (gradients₀ m c).x20 (squares₀ m c).x20 := by
  refine (final_eq m c main_v234).trans ((tail64 (before m c)).trans ?_)
  rw [before2, newSquares_cast, newSquares_slice, newSquares_cast, back20, back20]

/-- ff_conv_b: result 65. -/
theorem value65 (c : Dev nD) : final m c main_v236 = newSquares (gradients₀ m c).x21 (squares₀ m c).x21 := by
  refine (final_eq m c main_v236).trans ((tail65 (before m c)).trans ?_)
  rw [before2, newSquares_cast, newSquares_slice, newSquares_cast, back21, back21]

end Cert.AdamSmallIdeal.Value

end
-- ==== Proof.AdamSmallRef.lean ====
/- The reference's results are the AdamW step of each small weight. -/
module

public import proofs.«01_k».proof.Proof.Gen.AdamSmallRefIdeal.Read
public import proofs.«01_k».proof.Proof.AdamEach
public import Idealize.ShloMosaic.Lib.Pointwise

@[expose] public section

set_option maxRecDepth 16384

noncomputable section

open Idealize.ShloMosaic Idealize.ShloMosaic.TcCoe Idealize.SL.Sem Idealize.ShloMosaic.Tactic

namespace Cert.AdamSmallRefIdeal.Each

open Cert.AdamSmallRefIdeal Cert.AdamSmallRefIdeal.Gen Cert.AdamStep Cert.AdamEach
open Cert.AdamSmallRefIdeal.Read

/-- Result 0. -/
theorem ref0 (w g a v : FVec Ideal S16x256 .f32) : val_main_v23 (F := Ideal) w g a v = newChanges w g a v := by
  funext i
  rfl

/-- Result 1. -/
theorem ref1 (w g a v : FVec Ideal S1x31x128 .f32) : val_main_v47 (F := Ideal) w g a v = newChanges w g a v := by
  funext i
  rfl

/-- Result 2. -/
theorem ref2 (w g a v : FVec Ideal S1x3x128 .f32) : val_main_v71 (F := Ideal) w g a v = newChanges w g a v := by
  funext i
  rfl

/-- Result 3. -/
theorem ref3 (w g a v : FVec Ideal S1x448 .f32) : val_main_v95 (F := Ideal) w g a v = newChanges w g a v := by
  funext i
  rfl

/-- Result 4. -/
theorem ref4 (w g a v : FVec Ideal S1x128 .f32) : val_main_v119 (F := Ideal) w g a v = newChanges w g a v := by
  funext i
  rfl

/-- Result 5. -/
theorem ref5 (w g a v : FVec Ideal S1x64x128 .f32) : val_main_v143 (F := Ideal) w g a v = newChanges w g a v := by
  funext i
  rfl

/-- Result 6. -/
theorem ref6 (w g a v : FVec Ideal S1x128 .f32) : val_main_v167 (F := Ideal) w g a v = newChanges w g a v := by
  funext i
  rfl

/-- Result 7. -/
theorem ref7 (w g a v : FVec Ideal S1x64x128 .f32) : val_main_v191 (F := Ideal) w g a v = newChanges w g a v := by
  funext i
  rfl

/-- Result 8. -/
theorem ref8 (w g a v : FVec Ideal S1x128x128 .f32) : val_main_v215 (F := Ideal) w g a v = newChanges w g a v := by
  funext i
  rfl

/-- Result 9. -/
theorem ref9 (w g a v : FVec Ideal S1x128 .f32) : val_main_v239 (F := Ideal) w g a v = newChanges w g a v := by
  funext i
  rfl

/-- Result 10. -/
theorem ref10 (w g a v : FVec Ideal S1x128 .f32) : val_main_v263 (F := Ideal) w g a v = newChanges w g a v := by
  funext i
  rfl

/-- Result 11. -/
theorem ref11 (w g a v : FVec Ideal S1x128 .f32) : val_main_v287 (F := Ideal) w g a v = newChanges w g a v := by
  funext i
  rfl

/-- Result 12. -/
theorem ref12 (w g a v : FVec Ideal S1x128 .f32) : val_main_v311 (F := Ideal) w g a v = newChanges w g a v := by
  funext i
  rfl

/-- Result 13. -/
theorem ref13 (w g a v : FVec Ideal S2x3x704 .f32) : val_main_v335 (F := Ideal) w g a v = newChanges w g a v := by
  funext i
  rfl

/-- Result 14. -/
theorem ref14 (w g a v : FVec Ideal S2x1024 .f32) : val_main_v359 (F := Ideal) w g a v = newChanges w g a v := by
  funext i
  rfl

/-- Result 15. -/
theorem ref15 (w g a v : FVec Ideal S2x1024 .f32) : val_main_v383 (F := Ideal) w g a v = newChanges w g a v := by
  funext i
  rfl

/-- Result 16. -/
theorem ref16 (w g a v : FVec Ideal S1024 .f32) : val_main_v407 (F := Ideal) w g a v = newChanges w g a v := by
  funext i
  rfl

/-- Result 17. -/
theorem ref17 (w g a v : FVec Ideal S1x512 .f32) : val_main_v431 (F := Ideal) w g a v = newChanges w g a v := by
  funext i
  rfl

/-- Result 18. -/
theorem ref18 (w g a v : FVec Ideal S1x512 .f32) : val_main_v455 (F := Ideal) w g a v = newChanges w g a v := by
  funext i
  rfl

/-- Result 19. -/
theorem ref19 (w g a v : FVec Ideal S1x8 .f32) : val_main_v479 (F := Ideal) w g a v = newChanges w g a v := by
  funext i
  rfl

/-- Result 20. -/
theorem ref20 (w g a v : FVec Ideal S1x8x64 .f32) : val_main_v503 (F := Ideal) w g a v = newChanges w g a v := by
  funext i
  rfl

/-- Result 21. -/
theorem ref21 (w g a v : FVec Ideal S2x2816 .f32) : val_main_v527 (F := Ideal) w g a v = newChanges w g a v := by
  funext i
  rfl

/-- Result 22. -/
theorem ref22 (g a : FVec Ideal S16x256 .f32) : val_main_v4 (F := Ideal) g a = newMeans g a := by
  funext i
  rfl

/-- Result 23. -/
theorem ref23 (g a : FVec Ideal S1x31x128 .f32) : val_main_v28 (F := Ideal) g a = newMeans g a := by
  funext i
  rfl

/-- Result 24. -/
theorem ref24 (g a : FVec Ideal S1x3x128 .f32) : val_main_v52 (F := Ideal) g a = newMeans g a := by
  funext i
  rfl

/-- Result 25. -/
theorem ref25 (g a : FVec Ideal S1x448 .f32) : val_main_v76 (F := Ideal) g a = newMeans g a := by
  funext i
  rfl

/-- Result 26. -/
theorem ref26 (g a : FVec Ideal S1x128 .f32) : val_main_v100 (F := Ideal) g a = newMeans g a := by
  funext i
  rfl

/-- Result 27. -/
theorem ref27 (g a : FVec Ideal S1x64x128 .f32) : val_main_v124 (F := Ideal) g a = newMeans g a := by
  funext i
  rfl

/-- Result 28. -/
theorem ref28 (g a : FVec Ideal S1x128 .f32) : val_main_v148 (F := Ideal) g a = newMeans g a := by
  funext i
  rfl

/-- Result 29. -/
theorem ref29 (g a : FVec Ideal S1x64x128 .f32) : val_main_v172 (F := Ideal) g a = newMeans g a := by
  funext i
  rfl

/-- Result 30. -/
theorem ref30 (g a : FVec Ideal S1x128x128 .f32) : val_main_v196 (F := Ideal) g a = newMeans g a := by
  funext i
  rfl

/-- Result 31. -/
theorem ref31 (g a : FVec Ideal S1x128 .f32) : val_main_v220 (F := Ideal) g a = newMeans g a := by
  funext i
  rfl

/-- Result 32. -/
theorem ref32 (g a : FVec Ideal S1x128 .f32) : val_main_v244 (F := Ideal) g a = newMeans g a := by
  funext i
  rfl

/-- Result 33. -/
theorem ref33 (g a : FVec Ideal S1x128 .f32) : val_main_v268 (F := Ideal) g a = newMeans g a := by
  funext i
  rfl

/-- Result 34. -/
theorem ref34 (g a : FVec Ideal S1x128 .f32) : val_main_v292 (F := Ideal) g a = newMeans g a := by
  funext i
  rfl

/-- Result 35. -/
theorem ref35 (g a : FVec Ideal S2x3x704 .f32) : val_main_v316 (F := Ideal) g a = newMeans g a := by
  funext i
  rfl

/-- Result 36. -/
theorem ref36 (g a : FVec Ideal S2x1024 .f32) : val_main_v340 (F := Ideal) g a = newMeans g a := by
  funext i
  rfl

/-- Result 37. -/
theorem ref37 (g a : FVec Ideal S2x1024 .f32) : val_main_v364 (F := Ideal) g a = newMeans g a := by
  funext i
  rfl

/-- Result 38. -/
theorem ref38 (g a : FVec Ideal S1024 .f32) : val_main_v388 (F := Ideal) g a = newMeans g a := by
  funext i
  rfl

/-- Result 39. -/
theorem ref39 (g a : FVec Ideal S1x512 .f32) : val_main_v412 (F := Ideal) g a = newMeans g a := by
  funext i
  rfl

/-- Result 40. -/
theorem ref40 (g a : FVec Ideal S1x512 .f32) : val_main_v436 (F := Ideal) g a = newMeans g a := by
  funext i
  rfl

/-- Result 41. -/
theorem ref41 (g a : FVec Ideal S1x8 .f32) : val_main_v460 (F := Ideal) g a = newMeans g a := by
  funext i
  rfl

/-- Result 42. -/
theorem ref42 (g a : FVec Ideal S1x8x64 .f32) : val_main_v484 (F := Ideal) g a = newMeans g a := by
  funext i
  rfl

/-- Result 43. -/
theorem ref43 (g a : FVec Ideal S2x2816 .f32) : val_main_v508 (F := Ideal) g a = newMeans g a := by
  funext i
  rfl

/-- Result 44. -/
theorem ref44 (g v : FVec Ideal S16x256 .f32) : val_main_v10 (F := Ideal) g v = newSquares g v := by
  funext i
  rfl

/-- Result 45. -/
theorem ref45 (g v : FVec Ideal S1x31x128 .f32) : val_main_v34 (F := Ideal) g v = newSquares g v := by
  funext i
  rfl

/-- Result 46. -/
theorem ref46 (g v : FVec Ideal S1x3x128 .f32) : val_main_v58 (F := Ideal) g v = newSquares g v := by
  funext i
  rfl

/-- Result 47. -/
theorem ref47 (g v : FVec Ideal S1x448 .f32) : val_main_v82 (F := Ideal) g v = newSquares g v := by
  funext i
  rfl

/-- Result 48. -/
theorem ref48 (g v : FVec Ideal S1x128 .f32) : val_main_v106 (F := Ideal) g v = newSquares g v := by
  funext i
  rfl

/-- Result 49. -/
theorem ref49 (g v : FVec Ideal S1x64x128 .f32) : val_main_v130 (F := Ideal) g v = newSquares g v := by
  funext i
  rfl

/-- Result 50. -/
theorem ref50 (g v : FVec Ideal S1x128 .f32) : val_main_v154 (F := Ideal) g v = newSquares g v := by
  funext i
  rfl

/-- Result 51. -/
theorem ref51 (g v : FVec Ideal S1x64x128 .f32) : val_main_v178 (F := Ideal) g v = newSquares g v := by
  funext i
  rfl

/-- Result 52. -/
theorem ref52 (g v : FVec Ideal S1x128x128 .f32) : val_main_v202 (F := Ideal) g v = newSquares g v := by
  funext i
  rfl

/-- Result 53. -/
theorem ref53 (g v : FVec Ideal S1x128 .f32) : val_main_v226 (F := Ideal) g v = newSquares g v := by
  funext i
  rfl

/-- Result 54. -/
theorem ref54 (g v : FVec Ideal S1x128 .f32) : val_main_v250 (F := Ideal) g v = newSquares g v := by
  funext i
  rfl

/-- Result 55. -/
theorem ref55 (g v : FVec Ideal S1x128 .f32) : val_main_v274 (F := Ideal) g v = newSquares g v := by
  funext i
  rfl

/-- Result 56. -/
theorem ref56 (g v : FVec Ideal S1x128 .f32) : val_main_v298 (F := Ideal) g v = newSquares g v := by
  funext i
  rfl

/-- Result 57. -/
theorem ref57 (g v : FVec Ideal S2x3x704 .f32) : val_main_v322 (F := Ideal) g v = newSquares g v := by
  funext i
  rfl

/-- Result 58. -/
theorem ref58 (g v : FVec Ideal S2x1024 .f32) : val_main_v346 (F := Ideal) g v = newSquares g v := by
  funext i
  rfl

/-- Result 59. -/
theorem ref59 (g v : FVec Ideal S2x1024 .f32) : val_main_v370 (F := Ideal) g v = newSquares g v := by
  funext i
  rfl

/-- Result 60. -/
theorem ref60 (g v : FVec Ideal S1024 .f32) : val_main_v394 (F := Ideal) g v = newSquares g v := by
  funext i
  rfl

/-- Result 61. -/
theorem ref61 (g v : FVec Ideal S1x512 .f32) : val_main_v418 (F := Ideal) g v = newSquares g v := by
  funext i
  rfl

/-- Result 62. -/
theorem ref62 (g v : FVec Ideal S1x512 .f32) : val_main_v442 (F := Ideal) g v = newSquares g v := by
  funext i
  rfl

/-- Result 63. -/
theorem ref63 (g v : FVec Ideal S1x8 .f32) : val_main_v466 (F := Ideal) g v = newSquares g v := by
  funext i
  rfl

/-- Result 64. -/
theorem ref64 (g v : FVec Ideal S1x8x64 .f32) : val_main_v490 (F := Ideal) g v = newSquares g v := by
  funext i
  rfl

/-- Result 65. -/
theorem ref65 (g v : FVec Ideal S2x2816 .f32) : val_main_v514 (F := Ideal) g v = newSquares g v := by
  funext i
  rfl

end Cert.AdamSmallRefIdeal.Each

end
-- ==== Proof.AdamSmall.lean ====
/- The small weights' AdamW step: the call's results are the reference's. -/
module

public import proofs.«01_k».proof.Defs
public import proofs.«01_k».proof.Proof.AdamSmallKernel
public import proofs.«01_k».proof.Proof.AdamSmallRef
public import proofs.«01_k».proof.Proof.Gen.AdamSmallRefIdeal.Run
public import Idealize.ShloMosaic.Lib.Claim

@[expose] public section

set_option maxRecDepth 16384

noncomputable section

open Idealize.ShloMosaic Idealize.ShloMosaic.TcCoe Idealize.SL.Sem Idealize.ShloMosaic.Tactic

namespace Cert.AdamSmallIdeal.Value

open Cert.AdamSmallIdeal Cert.AdamSmallIdeal.Gen Cert.AdamEach Cert.AdamPack

/-- One entry of a step depends on nothing but its four numbers. -/
theorem newChanges_congr {s : Shape} {w g a v w' g' a' v' : FVec Ideal s .f32} (hw : w = w') (hg : g = g') (ha : a = a') (hv : v = v') : newChanges w g a v = newChanges w' g' a' v' := by
  subst hw hg ha hv; rfl

theorem newMeans_congr {s : Shape} {g a g' a' : FVec Ideal s .f32} (hg : g = g') (ha : a = a') : newMeans g a = newMeans g' a' := by
  subst hg ha; rfl

theorem newSquares_congr {s : Shape} {g v g' v' : FVec Ideal s .f32} (hg : g = g') (hv : v = v') : newSquares g v = newSquares g' v' := by
  subst hg hv; rfl

set_option maxHeartbeats 2000000 in
/-- The kernel and the reference, from memories that agree on the arguments, end with the same results. -/
theorem algebraic : Cert.algebraic_AdamSmallIdeal_AdamSmallRefIdeal := by
  intro m g m' g' _ e
  refine ⟨fun c => newChanges (weights₀ m c).x0 (gradients₀ m c).x0 (means₀ m c).x0 (squares₀ m c).x0,
    fun c => newChanges (weights₀ m c).x1 (gradients₀ m c).x1 (means₀ m c).x1 (squares₀ m c).x1,
    fun c => newChanges (weights₀ m c).x2 (gradients₀ m c).x2 (means₀ m c).x2 (squares₀ m c).x2,
    fun c => newChanges (weights₀ m c).x3 (gradients₀ m c).x3 (means₀ m c).x3 (squares₀ m c).x3,
    fun c => newChanges (weights₀ m c).x4 (gradients₀ m c).x4 (means₀ m c).x4 (squares₀ m c).x4,
    fun c => newChanges (weights₀ m c).x5 (gradients₀ m c).x5 (means₀ m c).x5 (squares₀ m c).x5,
    fun c => newChanges (weights₀ m c).x6 (gradients₀ m c).x6 (means₀ m c).x6 (squares₀ m c).x6,
    fun c => newChanges (weights₀ m c).x7 (gradients₀ m c).x7 (means₀ m c).x7 (squares₀ m c).x7,
    fun c => newChanges (weights₀ m c).x8 (gradients₀ m c).x8 (means₀ m c).x8 (squares₀ m c).x8,
    fun c => newChanges (weights₀ m c).x9 (gradients₀ m c).x9 (means₀ m c).x9 (squares₀ m c).x9,
    fun c => newChanges (weights₀ m c).x10 (gradients₀ m c).x10 (means₀ m c).x10 (squares₀ m c).x10,
    fun c => newChanges (weights₀ m c).x11 (gradients₀ m c).x11 (means₀ m c).x11 (squares₀ m c).x11,
    fun c => newChanges (weights₀ m c).x12 (gradients₀ m c).x12 (means₀ m c).x12 (squares₀ m c).x12,
    fun c => newChanges (weights₀ m c).x13 (gradients₀ m c).x13 (means₀ m c).x13 (squares₀ m c).x13,
    fun c => newChanges (weights₀ m c).x14 (gradients₀ m c).x14 (means₀ m c).x14 (squares₀ m c).x14,
    fun c => newChanges (weights₀ m c).x15 (gradients₀ m c).x15 (means₀ m c).x15 (squares₀ m c).x15,
    fun c => newChanges (weights₀ m c).x16 (gradients₀ m c).x16 (means₀ m c).x16 (squares₀ m c).x16,
    fun c => newChanges (weights₀ m c).x17 (gradients₀ m c).x17 (means₀ m c).x17 (squares₀ m c).x17,
    fun c => newChanges (weights₀ m c).x18 (gradients₀ m c).x18 (means₀ m c).x18 (squares₀ m c).x18,
    fun c => newChanges (weights₀ m c).x19 (gradients₀ m c).x19 (means₀ m c).x19 (squares₀ m c).x19,
    fun c => newChanges (weights₀ m c).x20 (gradients₀ m c).x20 (means₀ m c).x20 (squares₀ m c).x20,
    fun c => newChanges (weights₀ m c).x21 (gradients₀ m c).x21 (means₀ m c).x21 (squares₀ m c).x21,
    fun c => newMeans (gradients₀ m c).x0 (means₀ m c).x0,
    fun c => newMeans (gradients₀ m c).x1 (means₀ m c).x1,
    fun c => newMeans (gradients₀ m c).x2 (means₀ m c).x2,
    fun c => newMeans (gradients₀ m c).x3 (means₀ m c).x3,
    fun c => newMeans (gradients₀ m c).x4 (means₀ m c).x4,
    fun c => newMeans (gradients₀ m c).x5 (means₀ m c).x5,
    fun c => newMeans (gradients₀ m c).x6 (means₀ m c).x6,
    fun c => newMeans (gradients₀ m c).x7 (means₀ m c).x7,
    fun c => newMeans (gradients₀ m c).x8 (means₀ m c).x8,
    fun c => newMeans (gradients₀ m c).x9 (means₀ m c).x9,
    fun c => newMeans (gradients₀ m c).x10 (means₀ m c).x10,
    fun c => newMeans (gradients₀ m c).x11 (means₀ m c).x11,
    fun c => newMeans (gradients₀ m c).x12 (means₀ m c).x12,
    fun c => newMeans (gradients₀ m c).x13 (means₀ m c).x13,
    fun c => newMeans (gradients₀ m c).x14 (means₀ m c).x14,
    fun c => newMeans (gradients₀ m c).x15 (means₀ m c).x15,
    fun c => newMeans (gradients₀ m c).x16 (means₀ m c).x16,
    fun c => newMeans (gradients₀ m c).x17 (means₀ m c).x17,
    fun c => newMeans (gradients₀ m c).x18 (means₀ m c).x18,
    fun c => newMeans (gradients₀ m c).x19 (means₀ m c).x19,
    fun c => newMeans (gradients₀ m c).x20 (means₀ m c).x20,
    fun c => newMeans (gradients₀ m c).x21 (means₀ m c).x21,
    fun c => newSquares (gradients₀ m c).x0 (squares₀ m c).x0,
    fun c => newSquares (gradients₀ m c).x1 (squares₀ m c).x1,
    fun c => newSquares (gradients₀ m c).x2 (squares₀ m c).x2,
    fun c => newSquares (gradients₀ m c).x3 (squares₀ m c).x3,
    fun c => newSquares (gradients₀ m c).x4 (squares₀ m c).x4,
    fun c => newSquares (gradients₀ m c).x5 (squares₀ m c).x5,
    fun c => newSquares (gradients₀ m c).x6 (squares₀ m c).x6,
    fun c => newSquares (gradients₀ m c).x7 (squares₀ m c).x7,
    fun c => newSquares (gradients₀ m c).x8 (squares₀ m c).x8,
    fun c => newSquares (gradients₀ m c).x9 (squares₀ m c).x9,
    fun c => newSquares (gradients₀ m c).x10 (squares₀ m c).x10,
    fun c => newSquares (gradients₀ m c).x11 (squares₀ m c).x11,
    fun c => newSquares (gradients₀ m c).x12 (squares₀ m c).x12,
    fun c => newSquares (gradients₀ m c).x13 (squares₀ m c).x13,
    fun c => newSquares (gradients₀ m c).x14 (squares₀ m c).x14,
    fun c => newSquares (gradients₀ m c).x15 (squares₀ m c).x15,
    fun c => newSquares (gradients₀ m c).x16 (squares₀ m c).x16,
    fun c => newSquares (gradients₀ m c).x17 (squares₀ m c).x17,
    fun c => newSquares (gradients₀ m c).x18 (squares₀ m c).x18,
    fun c => newSquares (gradients₀ m c).x19 (squares₀ m c).x19,
    fun c => newSquares (gradients₀ m c).x20 (squares₀ m c).x20,
    fun c => newSquares (gradients₀ m c).x21 (squares₀ m c).x21, ?_, ?_⟩
  · refine (θ_run _ _ _).mono (fun r h c => ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, h.1 c⟩) (θ_run_and (unchanged m g) (run_main m g))
    · exact ((h.2 c).2 main_v107 (Pipeline.mem_restRefs_of main_v107 (by decide) (by decide))).trans (value0 m c)
    · exact ((h.2 c).2 main_v109 (Pipeline.mem_restRefs_of main_v109 (by decide) (by decide))).trans (value1 m c)
    · exact ((h.2 c).2 main_v111 (Pipeline.mem_restRefs_of main_v111 (by decide) (by decide))).trans (value2 m c)
    · exact ((h.2 c).2 main_v113 (Pipeline.mem_restRefs_of main_v113 (by decide) (by decide))).trans (value3 m c)
    · exact ((h.2 c).2 main_v115 (Pipeline.mem_restRefs_of main_v115 (by decide) (by decide))).trans (value4 m c)
    · exact ((h.2 c).2 main_v117 (Pipeline.mem_restRefs_of main_v117 (by decide) (by decide))).trans (value5 m c)
    · exact ((h.2 c).2 main_v119 (Pipeline.mem_restRefs_of main_v119 (by decide) (by decide))).trans (value6 m c)
    · exact ((h.2 c).2 main_v121 (Pipeline.mem_restRefs_of main_v121 (by decide) (by decide))).trans (value7 m c)
    · exact ((h.2 c).2 main_v123 (Pipeline.mem_restRefs_of main_v123 (by decide) (by decide))).trans (value8 m c)
    · exact ((h.2 c).2 main_v125 (Pipeline.mem_restRefs_of main_v125 (by decide) (by decide))).trans (value9 m c)
    · exact ((h.2 c).2 main_v127 (Pipeline.mem_restRefs_of main_v127 (by decide) (by decide))).trans (value10 m c)
    · exact ((h.2 c).2 main_v129 (Pipeline.mem_restRefs_of main_v129 (by decide) (by decide))).trans (value11 m c)
    · exact ((h.2 c).2 main_v131 (Pipeline.mem_restRefs_of main_v131 (by decide) (by decide))).trans (value12 m c)
    · exact ((h.2 c).2 main_v133 (Pipeline.mem_restRefs_of main_v133 (by decide) (by decide))).trans (value13 m c)
    · exact ((h.2 c).2 main_v135 (Pipeline.mem_restRefs_of main_v135 (by decide) (by decide))).trans (value14 m c)
    · exact ((h.2 c).2 main_v137 (Pipeline.mem_restRefs_of main_v137 (by decide) (by decide))).trans (value15 m c)
    · exact ((h.2 c).2 main_v138 (Pipeline.mem_restRefs_of main_v138 (by decide) (by decide))).trans (value16 m c)
    · exact ((h.2 c).2 main_v140 (Pipeline.mem_restRefs_of main_v140 (by decide) (by decide))).trans (value17 m c)
    · exact ((h.2 c).2 main_v142 (Pipeline.mem_restRefs_of main_v142 (by decide) (by decide))).trans (value18 m c)
    · exact ((h.2 c).2 main_v144 (Pipeline.mem_restRefs_of main_v144 (by decide) (by decide))).trans (value19 m c)
    · exact ((h.2 c).2 main_v146 (Pipeline.mem_restRefs_of main_v146 (by decide) (by decide))).trans (value20 m c)
    · exact ((h.2 c).2 main_v148 (Pipeline.mem_restRefs_of main_v148 (by decide) (by decide))).trans (value21 m c)
    · exact ((h.2 c).2 main_v151 (Pipeline.mem_restRefs_of main_v151 (by decide) (by decide))).trans (value22 m c)
    · exact ((h.2 c).2 main_v153 (Pipeline.mem_restRefs_of main_v153 (by decide) (by decide))).trans (value23 m c)
    · exact ((h.2 c).2 main_v155 (Pipeline.mem_restRefs_of main_v155 (by decide) (by decide))).trans (value24 m c)
    · exact ((h.2 c).2 main_v157 (Pipeline.mem_restRefs_of main_v157 (by decide) (by decide))).trans (value25 m c)
    · exact ((h.2 c).2 main_v159 (Pipeline.mem_restRefs_of main_v159 (by decide) (by decide))).trans (value26 m c)
    · exact ((h.2 c).2 main_v161 (Pipeline.mem_restRefs_of main_v161 (by decide) (by decide))).trans (value27 m c)
    · exact ((h.2 c).2 main_v163 (Pipeline.mem_restRefs_of main_v163 (by decide) (by decide))).trans (value28 m c)
    · exact ((h.2 c).2 main_v165 (Pipeline.mem_restRefs_of main_v165 (by decide) (by decide))).trans (value29 m c)
    · exact ((h.2 c).2 main_v167 (Pipeline.mem_restRefs_of main_v167 (by decide) (by decide))).trans (value30 m c)
    · exact ((h.2 c).2 main_v169 (Pipeline.mem_restRefs_of main_v169 (by decide) (by decide))).trans (value31 m c)
    · exact ((h.2 c).2 main_v171 (Pipeline.mem_restRefs_of main_v171 (by decide) (by decide))).trans (value32 m c)
    · exact ((h.2 c).2 main_v173 (Pipeline.mem_restRefs_of main_v173 (by decide) (by decide))).trans (value33 m c)
    · exact ((h.2 c).2 main_v175 (Pipeline.mem_restRefs_of main_v175 (by decide) (by decide))).trans (value34 m c)
    · exact ((h.2 c).2 main_v177 (Pipeline.mem_restRefs_of main_v177 (by decide) (by decide))).trans (value35 m c)
    · exact ((h.2 c).2 main_v179 (Pipeline.mem_restRefs_of main_v179 (by decide) (by decide))).trans (value36 m c)
    · exact ((h.2 c).2 main_v181 (Pipeline.mem_restRefs_of main_v181 (by decide) (by decide))).trans (value37 m c)
    · exact ((h.2 c).2 main_v182 (Pipeline.mem_restRefs_of main_v182 (by decide) (by decide))).trans (value38 m c)
    · exact ((h.2 c).2 main_v184 (Pipeline.mem_restRefs_of main_v184 (by decide) (by decide))).trans (value39 m c)
    · exact ((h.2 c).2 main_v186 (Pipeline.mem_restRefs_of main_v186 (by decide) (by decide))).trans (value40 m c)
    · exact ((h.2 c).2 main_v188 (Pipeline.mem_restRefs_of main_v188 (by decide) (by decide))).trans (value41 m c)
    · exact ((h.2 c).2 main_v190 (Pipeline.mem_restRefs_of main_v190 (by decide) (by decide))).trans (value42 m c)
    · exact ((h.2 c).2 main_v192 (Pipeline.mem_restRefs_of main_v192 (by decide) (by decide))).trans (value43 m c)
    · exact ((h.2 c).2 main_v195 (Pipeline.mem_restRefs_of main_v195 (by decide) (by decide))).trans (value44 m c)
    · exact ((h.2 c).2 main_v197 (Pipeline.mem_restRefs_of main_v197 (by decide) (by decide))).trans (value45 m c)
    · exact ((h.2 c).2 main_v199 (Pipeline.mem_restRefs_of main_v199 (by decide) (by decide))).trans (value46 m c)
    · exact ((h.2 c).2 main_v201 (Pipeline.mem_restRefs_of main_v201 (by decide) (by decide))).trans (value47 m c)
    · exact ((h.2 c).2 main_v203 (Pipeline.mem_restRefs_of main_v203 (by decide) (by decide))).trans (value48 m c)
    · exact ((h.2 c).2 main_v205 (Pipeline.mem_restRefs_of main_v205 (by decide) (by decide))).trans (value49 m c)
    · exact ((h.2 c).2 main_v207 (Pipeline.mem_restRefs_of main_v207 (by decide) (by decide))).trans (value50 m c)
    · exact ((h.2 c).2 main_v209 (Pipeline.mem_restRefs_of main_v209 (by decide) (by decide))).trans (value51 m c)
    · exact ((h.2 c).2 main_v211 (Pipeline.mem_restRefs_of main_v211 (by decide) (by decide))).trans (value52 m c)
    · exact ((h.2 c).2 main_v213 (Pipeline.mem_restRefs_of main_v213 (by decide) (by decide))).trans (value53 m c)
    · exact ((h.2 c).2 main_v215 (Pipeline.mem_restRefs_of main_v215 (by decide) (by decide))).trans (value54 m c)
    · exact ((h.2 c).2 main_v217 (Pipeline.mem_restRefs_of main_v217 (by decide) (by decide))).trans (value55 m c)
    · exact ((h.2 c).2 main_v219 (Pipeline.mem_restRefs_of main_v219 (by decide) (by decide))).trans (value56 m c)
    · exact ((h.2 c).2 main_v221 (Pipeline.mem_restRefs_of main_v221 (by decide) (by decide))).trans (value57 m c)
    · exact ((h.2 c).2 main_v223 (Pipeline.mem_restRefs_of main_v223 (by decide) (by decide))).trans (value58 m c)
    · exact ((h.2 c).2 main_v225 (Pipeline.mem_restRefs_of main_v225 (by decide) (by decide))).trans (value59 m c)
    · exact ((h.2 c).2 main_v226 (Pipeline.mem_restRefs_of main_v226 (by decide) (by decide))).trans (value60 m c)
    · exact ((h.2 c).2 main_v228 (Pipeline.mem_restRefs_of main_v228 (by decide) (by decide))).trans (value61 m c)
    · exact ((h.2 c).2 main_v230 (Pipeline.mem_restRefs_of main_v230 (by decide) (by decide))).trans (value62 m c)
    · exact ((h.2 c).2 main_v232 (Pipeline.mem_restRefs_of main_v232 (by decide) (by decide))).trans (value63 m c)
    · exact ((h.2 c).2 main_v234 (Pipeline.mem_restRefs_of main_v234 (by decide) (by decide))).trans (value64 m c)
    · exact ((h.2 c).2 main_v236 (Pipeline.mem_restRefs_of main_v236 (by decide) (by decide))).trans (value65 m c)
  · refine (θ_run _ _ _).mono (fun r h c => ?_) (Cert.AdamSmallRefIdeal.Value.run m' g')
    obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43, e44, e45, e46, e47, e48, e49, e50, e51, e52, e53, e54, e55, e56, e57, e58, e59, e60, e61, e62, e63, e64, e65, e66, e67, e68, e69, e70, e71, e72, e73, e74, e75, e76, e77, e78, e79, e80, e81, e82, e83, e84, e85, e86, e87⟩ := e c
    obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, h54, h55, h56, h57, h58, h59, h60, h61, h62, h63, h64, h65, k⟩ := h c
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, k⟩
    · exact h0.trans ((Cert.AdamSmallRefIdeal.Read.val_main_v23_eq (StableHlo.launchContents m' c)).trans ((Cert.AdamSmallRefIdeal.Each.ref0 _ _ _ _ ).trans (newChanges_congr e0 e22 e44 e66)))
    · exact h1.trans ((Cert.AdamSmallRefIdeal.Read.val_main_v47_eq (StableHlo.launchContents m' c)).trans ((Cert.AdamSmallRefIdeal.Each.ref1 _ _ _ _ ).trans (newChanges_congr e1 e23 e45 e67)))
    · exact h2.trans ((Cert.AdamSmallRefIdeal.Read.val_main_v71_eq (StableHlo.launchContents m' c)).trans ((Cert.AdamSmallRefIdeal.Each.ref2 _ _ _ _ ).trans (newChanges_congr e2 e24 e46 e68)))
    · exact h3.trans ((Cert.AdamSmallRefIdeal.Read.val_main_v95_eq (StableHlo.launchContents m' c)).trans ((Cert.AdamSmallRefIdeal.Each.ref3 _ _ _ _ ).trans (newChanges_congr e3 e25 e47 e69)))
    · exact h4.trans ((Cert.AdamSmallRefIdeal.Read.val_main_v119_eq (StableHlo.launchContents m' c)).trans ((Cert.AdamSmallRefIdeal.Each.ref4 _ _ _ _ ).trans (newChanges_congr e4 e26 e48 e70)))
    · exact h5.trans ((Cert.AdamSmallRefIdeal.Read.val_main_v143_eq (StableHlo.launchContents m' c)).trans ((Cert.AdamSmallRefIdeal.Each.ref5 _ _ _ _ ).trans (newChanges_congr e5 e27 e49 e71)))
    · exact h6.trans ((Cert.AdamSmallRefIdeal.Read.val_main_v167_eq (StableHlo.launchContents m' c)).trans ((Cert.AdamSmallRefIdeal.Each.ref6 _ _ _ _ ).trans (newChanges_congr e6 e28 e50 e72)))
    · exact h7.trans ((Cert.AdamSmallRefIdeal.Read.val_main_v191_eq (StableHlo.launchContents m' c)).trans ((Cert.AdamSmallRefIdeal.Each.ref7 _ _ _ _ ).trans (newChanges_congr e7 e29 e51 e73)))
    · exact h8.trans ((Cert.AdamSmallRefIdeal.Read.val_main_v215_eq (StableHlo.launchContents m' c)).trans ((Cert.AdamSmallRefIdeal.Each.ref8 _ _ _ _ ).trans (newChanges_congr e8 e30 e52 e74)))
    · exact h9.trans ((Cert.AdamSmallRefIdeal.Read.val_main_v239_eq (StableHlo.launchContents m' c)).trans ((Cert.AdamSmallRefIdeal.Each.ref9 _ _ _ _ ).trans (newChanges_congr e9 e31 e53 e75)))
    · exact h10.trans ((Cert.AdamSmallRefIdeal.Read.val_main_v263_eq (StableHlo.launchContents m' c)).trans ((Cert.AdamSmallRefIdeal.Each.ref10 _ _ _ _ ).trans (newChanges_congr e10 e32 e54 e76)))
    · exact h11.trans ((Cert.AdamSmallRefIdeal.Read.val_main_v287_eq (StableHlo.launchContents m' c)).trans ((Cert.AdamSmallRefIdeal.Each.ref11 _ _ _ _ ).trans (newChanges_congr e11 e33 e55 e77)))
    · exact h12.trans ((Cert.AdamSmallRefIdeal.Read.val_main_v311_eq (StableHlo.launchContents m' c)).trans ((Cert.AdamSmallRefIdeal.Each.ref12 _ _ _ _ ).trans (newChanges_congr e12 e34 e56 e78)))
    · exact h13.trans ((Cert.AdamSmallRefIdeal.Read.val_main_v335_eq (StableHlo.launchContents m' c)).trans ((Cert.AdamSmallRefIdeal.Each.ref13 _ _ _ _ ).trans (newChanges_congr e13 e35 e57 e79)))
    · exact h14.trans ((Cert.AdamSmallRefIdeal.Read.val_main_v359_eq (StableHlo.launchContents m' c)).trans ((Cert.AdamSmallRefIdeal.Each.ref14 _ _ _ _ ).trans (newChanges_congr e14 e36 e58 e80)))
    · exact h15.trans ((Cert.AdamSmallRefIdeal.Read.val_main_v383_eq (StableHlo.launchContents m' c)).trans ((Cert.AdamSmallRefIdeal.Each.ref15 _ _ _ _ ).trans (newChanges_congr e15 e37 e59 e81)))
    · exact h16.trans ((Cert.AdamSmallRefIdeal.Read.val_main_v407_eq (StableHlo.launchContents m' c)).trans ((Cert.AdamSmallRefIdeal.Each.ref16 _ _ _ _ ).trans (newChanges_congr e16 e38 e60 e82)))
    · exact h17.trans ((Cert.AdamSmallRefIdeal.Read.val_main_v431_eq (StableHlo.launchContents m' c)).trans ((Cert.AdamSmallRefIdeal.Each.ref17 _ _ _ _ ).trans (newChanges_congr e17 e39 e61 e83)))
    · exact h18.trans ((Cert.AdamSmallRefIdeal.Read.val_main_v455_eq (StableHlo.launchContents m' c)).trans ((Cert.AdamSmallRefIdeal.Each.ref18 _ _ _ _ ).trans (newChanges_congr e18 e40 e62 e84)))
    · exact h19.trans ((Cert.AdamSmallRefIdeal.Read.val_main_v479_eq (StableHlo.launchContents m' c)).trans ((Cert.AdamSmallRefIdeal.Each.ref19 _ _ _ _ ).trans (newChanges_congr e19 e41 e63 e85)))
    · exact h20.trans ((Cert.AdamSmallRefIdeal.Read.val_main_v503_eq (StableHlo.launchContents m' c)).trans ((Cert.AdamSmallRefIdeal.Each.ref20 _ _ _ _ ).trans (newChanges_congr e20 e42 e64 e86)))
    · exact h21.trans ((Cert.AdamSmallRefIdeal.Read.val_main_v527_eq (StableHlo.launchContents m' c)).trans ((Cert.AdamSmallRefIdeal.Each.ref21 _ _ _ _ ).trans (newChanges_congr e21 e43 e65 e87)))
    · exact h22.trans ((Cert.AdamSmallRefIdeal.Read.val_main_v4_eq (StableHlo.launchContents m' c)).trans ((Cert.AdamSmallRefIdeal.Each.ref22 _ _ ).trans (newMeans_congr e22 e44)))
    · exact h23.trans ((Cert.AdamSmallRefIdeal.Read.val_main_v28_eq (StableHlo.launchContents m' c)).trans ((Cert.AdamSmallRefIdeal.Each.ref23 _ _ ).trans (newMeans_congr e23 e45)))
    · exact h24.trans ((Cert.AdamSmallRefIdeal.Read.val_main_v52_eq (StableHlo.launchContents m' c)).trans ((Cert.AdamSmallRefIdeal.Each.ref24 _ _ ).trans (newMeans_congr e24 e46)))
    · exact h25.trans ((Cert.AdamSmallRefIdeal.Read.val_main_v76_eq (StableHlo.launchContents m' c)).trans ((Cert.AdamSmallRefIdeal.Each.ref25 _ _ ).trans (newMeans_congr e25 e47)))
    · exact h26.trans ((Cert.AdamSmallRefIdeal.Read.val_main_v100_eq (StableHlo.launchContents m' c)).trans ((Cert.AdamSmallRefIdeal.Each.ref26 _ _ ).trans (newMeans_congr e26 e48)))
    · exact h27.trans ((Cert.AdamSmallRefIdeal.Read.val_main_v124_eq (StableHlo.launchContents m' c)).trans ((Cert.AdamSmallRefIdeal.Each.ref27 _ _ ).trans (newMeans_congr e27 e49)))
    · exact h28.trans ((Cert.AdamSmallRefIdeal.Read.val_main_v148_eq (StableHlo.launchContents m' c)).trans ((Cert.AdamSmallRefIdeal.Each.ref28 _ _ ).trans (newMeans_congr e28 e50)))
    · exact h29.trans ((Cert.AdamSmallRefIdeal.Read.val_main_v172_eq (StableHlo.launchContents m' c)).trans ((Cert.AdamSmallRefIdeal.Each.ref29 _ _ ).trans (newMeans_congr e29 e51)))
    · exact h30.trans ((Cert.AdamSmallRefIdeal.Read.val_main_v196_eq (StableHlo.launchContents m' c)).trans ((Cert.AdamSmallRefIdeal.Each.ref30 _ _ ).trans (newMeans_congr e30 e52)))
    · exact h31.trans ((Cert.AdamSmallRefIdeal.Read.val_main_v220_eq (StableHlo.launchContents m' c)).trans ((Cert.AdamSmallRefIdeal.Each.ref31 _ _ ).trans (newMeans_congr e31 e53)))
    · exact h32.trans ((Cert.AdamSmallRefIdeal.Read.val_main_v244_eq (StableHlo.launchContents m' c)).trans ((Cert.AdamSmallRefIdeal.Each.ref32 _ _ ).trans (newMeans_congr e32 e54)))
    · exact h33.trans ((Cert.AdamSmallRefIdeal.Read.val_main_v268_eq (StableHlo.launchContents m' c)).trans ((Cert.AdamSmallRefIdeal.Each.ref33 _ _ ).trans (newMeans_congr e33 e55)))
    · exact h34.trans ((Cert.AdamSmallRefIdeal.Read.val_main_v292_eq (StableHlo.launchContents m' c)).trans ((Cert.AdamSmallRefIdeal.Each.ref34 _ _ ).trans (newMeans_congr e34 e56)))
    · exact h35.trans ((Cert.AdamSmallRefIdeal.Read.val_main_v316_eq (StableHlo.launchContents m' c)).trans ((Cert.AdamSmallRefIdeal.Each.ref35 _ _ ).trans (newMeans_congr e35 e57)))
    · exact h36.trans ((Cert.AdamSmallRefIdeal.Read.val_main_v340_eq (StableHlo.launchContents m' c)).trans ((Cert.AdamSmallRefIdeal.Each.ref36 _ _ ).trans (newMeans_congr e36 e58)))
    · exact h37.trans ((Cert.AdamSmallRefIdeal.Read.val_main_v364_eq (StableHlo.launchContents m' c)).trans ((Cert.AdamSmallRefIdeal.Each.ref37 _ _ ).trans (newMeans_congr e37 e59)))
    · exact h38.trans ((Cert.AdamSmallRefIdeal.Read.val_main_v388_eq (StableHlo.launchContents m' c)).trans ((Cert.AdamSmallRefIdeal.Each.ref38 _ _ ).trans (newMeans_congr e38 e60)))
    · exact h39.trans ((Cert.AdamSmallRefIdeal.Read.val_main_v412_eq (StableHlo.launchContents m' c)).trans ((Cert.AdamSmallRefIdeal.Each.ref39 _ _ ).trans (newMeans_congr e39 e61)))
    · exact h40.trans ((Cert.AdamSmallRefIdeal.Read.val_main_v436_eq (StableHlo.launchContents m' c)).trans ((Cert.AdamSmallRefIdeal.Each.ref40 _ _ ).trans (newMeans_congr e40 e62)))
    · exact h41.trans ((Cert.AdamSmallRefIdeal.Read.val_main_v460_eq (StableHlo.launchContents m' c)).trans ((Cert.AdamSmallRefIdeal.Each.ref41 _ _ ).trans (newMeans_congr e41 e63)))
    · exact h42.trans ((Cert.AdamSmallRefIdeal.Read.val_main_v484_eq (StableHlo.launchContents m' c)).trans ((Cert.AdamSmallRefIdeal.Each.ref42 _ _ ).trans (newMeans_congr e42 e64)))
    · exact h43.trans ((Cert.AdamSmallRefIdeal.Read.val_main_v508_eq (StableHlo.launchContents m' c)).trans ((Cert.AdamSmallRefIdeal.Each.ref43 _ _ ).trans (newMeans_congr e43 e65)))
    · exact h44.trans ((Cert.AdamSmallRefIdeal.Read.val_main_v10_eq (StableHlo.launchContents m' c)).trans ((Cert.AdamSmallRefIdeal.Each.ref44 _ _ ).trans (newSquares_congr e22 e66)))
    · exact h45.trans ((Cert.AdamSmallRefIdeal.Read.val_main_v34_eq (StableHlo.launchContents m' c)).trans ((Cert.AdamSmallRefIdeal.Each.ref45 _ _ ).trans (newSquares_congr e23 e67)))
    · exact h46.trans ((Cert.AdamSmallRefIdeal.Read.val_main_v58_eq (StableHlo.launchContents m' c)).trans ((Cert.AdamSmallRefIdeal.Each.ref46 _ _ ).trans (newSquares_congr e24 e68)))
    · exact h47.trans ((Cert.AdamSmallRefIdeal.Read.val_main_v82_eq (StableHlo.launchContents m' c)).trans ((Cert.AdamSmallRefIdeal.Each.ref47 _ _ ).trans (newSquares_congr e25 e69)))
    · exact h48.trans ((Cert.AdamSmallRefIdeal.Read.val_main_v106_eq (StableHlo.launchContents m' c)).trans ((Cert.AdamSmallRefIdeal.Each.ref48 _ _ ).trans (newSquares_congr e26 e70)))
    · exact h49.trans ((Cert.AdamSmallRefIdeal.Read.val_main_v130_eq (StableHlo.launchContents m' c)).trans ((Cert.AdamSmallRefIdeal.Each.ref49 _ _ ).trans (newSquares_congr e27 e71)))
    · exact h50.trans ((Cert.AdamSmallRefIdeal.Read.val_main_v154_eq (StableHlo.launchContents m' c)).trans ((Cert.AdamSmallRefIdeal.Each.ref50 _ _ ).trans (newSquares_congr e28 e72)))
    · exact h51.trans ((Cert.AdamSmallRefIdeal.Read.val_main_v178_eq (StableHlo.launchContents m' c)).trans ((Cert.AdamSmallRefIdeal.Each.ref51 _ _ ).trans (newSquares_congr e29 e73)))
    · exact h52.trans ((Cert.AdamSmallRefIdeal.Read.val_main_v202_eq (StableHlo.launchContents m' c)).trans ((Cert.AdamSmallRefIdeal.Each.ref52 _ _ ).trans (newSquares_congr e30 e74)))
    · exact h53.trans ((Cert.AdamSmallRefIdeal.Read.val_main_v226_eq (StableHlo.launchContents m' c)).trans ((Cert.AdamSmallRefIdeal.Each.ref53 _ _ ).trans (newSquares_congr e31 e75)))
    · exact h54.trans ((Cert.AdamSmallRefIdeal.Read.val_main_v250_eq (StableHlo.launchContents m' c)).trans ((Cert.AdamSmallRefIdeal.Each.ref54 _ _ ).trans (newSquares_congr e32 e76)))
    · exact h55.trans ((Cert.AdamSmallRefIdeal.Read.val_main_v274_eq (StableHlo.launchContents m' c)).trans ((Cert.AdamSmallRefIdeal.Each.ref55 _ _ ).trans (newSquares_congr e33 e77)))
    · exact h56.trans ((Cert.AdamSmallRefIdeal.Read.val_main_v298_eq (StableHlo.launchContents m' c)).trans ((Cert.AdamSmallRefIdeal.Each.ref56 _ _ ).trans (newSquares_congr e34 e78)))
    · exact h57.trans ((Cert.AdamSmallRefIdeal.Read.val_main_v322_eq (StableHlo.launchContents m' c)).trans ((Cert.AdamSmallRefIdeal.Each.ref57 _ _ ).trans (newSquares_congr e35 e79)))
    · exact h58.trans ((Cert.AdamSmallRefIdeal.Read.val_main_v346_eq (StableHlo.launchContents m' c)).trans ((Cert.AdamSmallRefIdeal.Each.ref58 _ _ ).trans (newSquares_congr e36 e80)))
    · exact h59.trans ((Cert.AdamSmallRefIdeal.Read.val_main_v370_eq (StableHlo.launchContents m' c)).trans ((Cert.AdamSmallRefIdeal.Each.ref59 _ _ ).trans (newSquares_congr e37 e81)))
    · exact h60.trans ((Cert.AdamSmallRefIdeal.Read.val_main_v394_eq (StableHlo.launchContents m' c)).trans ((Cert.AdamSmallRefIdeal.Each.ref60 _ _ ).trans (newSquares_congr e38 e82)))
    · exact h61.trans ((Cert.AdamSmallRefIdeal.Read.val_main_v418_eq (StableHlo.launchContents m' c)).trans ((Cert.AdamSmallRefIdeal.Each.ref61 _ _ ).trans (newSquares_congr e39 e83)))
    · exact h62.trans ((Cert.AdamSmallRefIdeal.Read.val_main_v442_eq (StableHlo.launchContents m' c)).trans ((Cert.AdamSmallRefIdeal.Each.ref62 _ _ ).trans (newSquares_congr e40 e84)))
    · exact h63.trans ((Cert.AdamSmallRefIdeal.Read.val_main_v466_eq (StableHlo.launchContents m' c)).trans ((Cert.AdamSmallRefIdeal.Each.ref63 _ _ ).trans (newSquares_congr e41 e85)))
    · exact h64.trans ((Cert.AdamSmallRefIdeal.Read.val_main_v490_eq (StableHlo.launchContents m' c)).trans ((Cert.AdamSmallRefIdeal.Each.ref64 _ _ ).trans (newSquares_congr e42 e86)))
    · exact h65.trans ((Cert.AdamSmallRefIdeal.Read.val_main_v514_eq (StableHlo.launchContents m' c)).trans ((Cert.AdamSmallRefIdeal.Each.ref65 _ _ ).trans (newSquares_congr e43 e87)))

end Cert.AdamSmallIdeal.Value

end
-- ==== Proof.LossMath.lean ====
/- The loss of one device's sequence and its gradients, as sums over the rows; the constants that the loss is scaled by. -/
module

public import proofs.«01_k».proof.Proof.NormMath

@[expose] public section

noncomputable section

namespace Cert.LossMath

open Idealize.ShloMosaic Cert.NormMath

variable (h : Fin 2064 → Fin 1024 → EReal) (g : Fin 1024 → EReal) (t : Fin 2048 → Fin 1024 → EReal)

/-- The target of a row: the meta tokens have none. -/
def goal (i : Fin 2064) (l : Fin 1024) : EReal := if c : 16 ≤ i.val then t ⟨i.val - 16, by omega⟩ l else 0

/-- By how much a row's normed entry misses its target: not at all at a meta token. -/
def miss (i : Fin 2064) (l : Fin 1024) : EReal := if 16 ≤ i.val then h i l * scale (h i) * g l - goal t i l else 0

/-- The gradient of the loss in the normed entries. -/
def slope (i : Fin 2064) (l : Fin 1024) : EReal := Ideal.div (miss h g t i l) width

/-- A row's squares. -/
def squares (i : Fin 2064) : EReal := ∑ l, miss h g t i l * miss h g t i l

/-- What a sum of squares is multiplied by. -/
abbrev part : EReal := ((1 / 2048 : ℝ) : EReal)

/-- The loss. -/
def total : EReal := ∑ i, part * squares h g t i

/-- A row's part of the gain's gradient. -/
def gain (j : Fin 1024) (i : Fin 2064) : EReal := slope h g t i j * (h i j * scale (h i))

theorem zero_eq : Ideal.ofBits .f32 0x00000000#32 = 0 := by simp [Ideal.ofBits, Ideal.ieee]
theorem half_eq : Ideal.ofBits .f32 0x3F000000#32 = ((1 / 2 : ℝ) : EReal) := by
  simp [Ideal.ofBits, Ideal.ieee, -EReal.coe_mul]; norm_num
theorem one_eq : Ideal.ofBits .f32 0x3F800000#32 = ((1 : ℝ) : EReal) := by
  simp [Ideal.ofBits, Ideal.ieee, -EReal.coe_mul, -EReal.coe_one]; norm_num
theorem two_eq : Ideal.ofBits .f32 0x40000000#32 = ((2 : ℝ) : EReal) := by
  simp [Ideal.ofBits, Ideal.ieee, -EReal.coe_mul]; norm_num

/-- A number over the width. -/
theorem div_width (x : EReal) : Ideal.div x width = x * ((1 / 1024 : ℝ) : EReal) := by
  rw [width_eq, Ideal.div_coe (by norm_num)]

/-- Half of a sum over the width, and half of a sum of quotients by the width. -/
theorem half_div {n : ℕ} (f : Fin n → EReal) : Ideal.div (Ideal.ofBits .f32 0x3F000000#32 * ∑ i, f i) width = ∑ i, part * f i := by
  rw [div_width, half_eq, ← mul_sum _ _ (by norm_num : (0 : ℝ) ≤ 1 / 2048), mul_comm _ (((1 / 1024 : ℝ) : EReal)), ← mul_assoc, ← EReal.coe_mul]
  norm_num

theorem half_sum {n : ℕ} (f : Fin n → EReal) : Ideal.ofBits .f32 0x3F000000#32 * ∑ i, Ideal.div (f i) width = ∑ i, part * f i := by
  rw [half_eq, mul_sum _ _ (by norm_num : (0 : ℝ) ≤ 1 / 2)]
  refine Finset.sum_congr rfl fun i _ => ?_
  rw [div_width, mul_comm (f i), ← mul_assoc, ← EReal.coe_mul]
  norm_num

/-- The derivative of half a square over the width. -/
theorem cotangent (x : EReal) : Ideal.div (Ideal.ofBits .f32 0x3F000000#32 * Ideal.ofBits .f32 0x3F800000#32) width * (Ideal.ofBits .f32 0x40000000#32 * x) = Ideal.div x width := by
  rw [div_width, div_width, half_eq, one_eq, two_eq, ← EReal.coe_mul, ← EReal.coe_mul, ← mul_assoc, ← EReal.coe_mul, mul_comm x]
  norm_num

theorem miss_meta (i : Fin 2064) (l : Fin 1024) (c : ¬16 ≤ i.val) : miss h g t i l = 0 := if_neg c

/-- A meta token has no slope and no part of the loss. -/
theorem slope_meta (i : Fin 2064) (l : Fin 1024) (c : ¬16 ≤ i.val) : slope h g t i l = 0 := by
  rw [slope, miss_meta h g t i l c, div_width, zero_mul]

theorem squares_meta (i : Fin 2064) (c : ¬16 ≤ i.val) : squares h g t i = 0 := by
  rw [squares]; exact Finset.sum_eq_zero fun l _ => by rw [miss_meta h g t i l c, zero_mul]

/-- The loss is the sum over the rows that have a target. -/
theorem total_eq : total h g t = ∑ i : Fin 2048, part * squares h g t ⟨16 + i.val, by omega⟩ := by
  rw [total, Fin.sum_univ_add (a := 16) (b := 2048) fun i => part * squares h g t i]
  rw [Finset.sum_eq_zero fun i _ => by rw [squares_meta h g t _ (by simp), mul_zero], zero_add]
  rfl

end Cert.LossMath

end
-- ==== Proof.LossRef.lean ====
/- The reference of the loss, read entry by entry. -/
module

public import proofs.«01_k».proof.Proof.Gen.FinalLossRefIdeal.Read
public import proofs.«01_k».proof.Proof.LossMath
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.Tactic

namespace Cert.LossRef

open Cert.FinalLossRefIdeal Cert.FinalLossRefIdeal.Gen Cert.FinalLossRefIdeal.Read Cert.NormMath Cert.LossMath

variable (h : FVec Ideal S2064x1024 .f32) (g : FVec Ideal S1x1024 .f32) (t : FVec Ideal S2048x1024 .f32)

/-- The rows, the gain and the targets. -/
abbrev H (i : Fin 2064) (l : Fin 1024) : EReal := h (ix2 i l)
abbrev G (l : Fin 1024) : EReal := g (ix2 0 l)
abbrev T (i : Fin 2048) (l : Fin 1024) : EReal := t (ix2 i l)

/-- The reference's three results. -/
abbrev ref : FVec Ideal S_ .f32 := val_main_v24 (F := Ideal) h g t
abbrev ref2 : FVec Ideal S2064x1024 .f32 := val_main_v50 (F := Ideal) h g t
abbrev ref3 : FVec Ideal S1x1024 .f32 := val_main_v34 (F := Ideal) h g t

/-- A normed entry. -/
theorem normed (i : Fin 2064) (l : Fin 1024) : val_main_v14 (F := Ideal) h g (ix2 i l) = H h i l * scale (H h i) * G g l := by
  simp only [val_main_v14, val_main_v13, val_main_v12, val_main_v11, val_main_v7, val_main_v6, val_main_v5, val_main_v4, val_main_v3, val_main_v2, val_main_v1, val_main_v0, val_main_cst, val_main_cst_0, val_main_cst_1]
  pointwise [scale, meanSq]

/-- By how much an entry misses its target. -/
theorem missed (i : Fin 2048) (l : Fin 1024) : val_main_v16 (F := Ideal) h g t (ix2 i l) = miss (H h) (G g) (T t) ⟨16 + i.val, by omega⟩ l := by
  have e : val_main_v15 (F := Ideal) h g (ix2 i l) = val_main_v14 (F := Ideal) h g (ix2 ⟨16 + i.val, by omega⟩ l) := by
    simp only [val_main_v15]
    generalize val_main_v14 (F := Ideal) h g = y
    pointwise []
  have k : goal (T t) ⟨16 + i.val, by omega⟩ l = t (ix2 i l) := by
    rw [goal, dif_pos (by simp)]
    exact congrArg (fun a => t (ix2 a l)) (Fin.ext (by simp))
  rw [miss, if_pos (by simp), k, ← normed, ← e]
  rfl

/-- The gradient in the normed entries: nothing at a meta token. -/
theorem sloped (i : Fin 2064) (l : Fin 1024) : val_main_v31 (F := Ideal) h g t (ix2 i l) = slope (H h) (G g) (T t) i l := by
  have e : ∀ (a : Fin 2048), val_main_v30 (F := Ideal) h g t (ix2 a l) = slope (H h) (G g) (T t) ⟨16 + a.val, by omega⟩ l := by
    intro a
    rw [LossMath.slope, ← missed, ← cotangent]
    simp only [val_main_v30, val_main_v29, val_main_v28, val_main_v27, val_main_v26, val_main_v25, val_main_v19, val_main_v18, val_main_cst_3, val_main_cst_8, val_main_cst_9, val_main_cst_10]
    generalize val_main_v16 (F := Ideal) h g t = y
    pointwise []
  simp only [val_main_v31, val_main_cst_11]
  generalize hy : val_main_v30 (F := Ideal) h g t = y at e
  pointwise []
  split
  · rename_i c
    exact (e _).trans (congrArg (fun a => LossMath.slope (H h) (G g) (T t) a l) (Fin.ext (by show 16 + (i.val - 16) = i.val; omega)))
  · rename_i c
    exact (slope_meta (H h) (G g) (T t) i l fun k => c ⟨k, by omega⟩).symm

/-- The loss. -/
theorem ref_apply (k : S_.Idx) : ref h g t k = total (H h) (G g) (T t) := by
  rw [total_eq, ← half_sum]
  simp only [squares, ← missed]
  simp only [ref, val_main_v24, val_main_v23, val_main_v22, val_main_v21, val_main_v20, val_main_v17, val_main_cst_4, val_main_cst_5, val_main_cst_6, val_main_cst_7]
  generalize val_main_v16 (F := Ideal) h g t = y
  pointwise []

/-- The rows' gradients. -/
theorem ref2_apply (i : Fin 2064) (j : Fin 1024) : ref2 h g t (ix2 i j) = plain (H h i) (G g) (slope (H h) (G g) (T t) i) 0 j := by
  rw [show slope (H h) (G g) (T t) i = fun l => val_main_v31 (F := Ideal) h g t (ix2 i l) from funext fun l => (sloped h g t i l).symm]
  simp only [ref2, val_main_v50, val_main_v49, val_main_v48, val_main_v47, val_main_v46, val_main_v45, val_main_v44, val_main_v43, val_main_v42, val_main_v41, val_main_v40, val_main_v39, val_main_v38, val_main_v37, val_main_v36, val_main_v35, val_main_v10, val_main_v9, val_main_v8, val_main_v7, val_main_v6, val_main_v5, val_main_v4, val_main_v3, val_main_v2, val_main_v1, val_main_v0, val_main_cst, val_main_cst_0, val_main_cst_1, val_main_cst_2, val_main_cst_13, val_main_cst_14, val_main_cst_15]
  generalize val_main_v31 (F := Ideal) h g t = y
  pointwise [plain, rowSlope, scale, meanSq]
  simp only [Fin.sum_univ_one, zero_add]

/-- The gain's gradient. -/
theorem ref3_apply (j : Fin 1024) : ref3 h g t (ix2 0 j) = ∑ i, gain (H h) (G g) (T t) j i := by
  simp only [gain, ← sloped]
  simp only [ref3, val_main_v34, val_main_v33, val_main_v32, val_main_v12, val_main_v11, val_main_v7, val_main_v6, val_main_v5, val_main_v4, val_main_v3, val_main_v2, val_main_v1, val_main_v0, val_main_cst, val_main_cst_0, val_main_cst_1, val_main_cst_12]
  generalize val_main_v31 (F := Ideal) h g t = y
  pointwise [scale, meanSq]
  exact Finset.sum_congr rfl fun i _ => mul_comm _ _

end Cert.LossRef

end
-- ==== Proof.LossCell.lean ====
/- What a grid point of the loss's call computes of its block of rows. -/
module

public import proofs.«01_k».proof.Proof.Gen.FinalLossIdeal.Skeleton
public import proofs.«01_k».proof.Proof.LossMath
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.Tactic

namespace Cert.LossCell

open Cert.FinalLossIdeal Cert.FinalLossIdeal.Gen Cert.NormMath Cert.LossMath

/-- Whether row `i` of block `n` is past the meta tokens. -/
theorem row_word : ∀ (n : Fin 3) (i : Fin 688), IntOp.cmpi .sge (IntOp.addi (IntOp.muli (BitVec.ofNat 32 n.val) 688#32) (BitVec.ofNat 32 i.val)) 16#32
    = BitVec.ofBool (decide (16 ≤ n.val * 688 + i.val)) := by decide +kernel

variable (n : grid0.Coords) (h : FVec Ideal S688x1024 .f32) (g : FVec Ideal S1x1024 .f32) (t : FVec Ideal S688x1024 .f32)

/-- By how much a block's entry misses its target. -/
def off (i : Fin 688) (l : Fin 1024) : EReal :=
  if 16 ≤ (n 0).val * 688 + i.val then h (ix2 i l) * scale (fun l => h (ix2 i l)) * g (ix2 0 l) - t (ix2 i l) else 0

theorem pay_off (i : Fin 688) (l : Fin 1024) : k0_pay7 (F := Ideal) n h g t (ix2 i l) = off n h g t i l := by
  pointwise [k0_pay7, k0_pay6, k0_pay5, scale, meanSq, off]
  rw [show IntOp.cmpi .sge (IntOp.addi (Scalar.muli (BitVec.ofNat 32 (n 0).val) 688#32) (BitVec.ofNat 32 i.val)) 16#32 = _ from row_word (n 0) i]
  by_cases c : 16 ≤ (n 0).val * 688 + i.val
  · rw [if_pos c, decide_eq_true c]; rfl
  · rw [if_neg c, decide_eq_false c]; rfl

theorem pay_scale (i : Fin 688) (l : Fin 1024) : k0_pay6 (F := Ideal) h (ix2 i l) = h (ix2 i l) * scale fun l => h (ix2 i l) := by
  pointwise [k0_pay6, k0_pay5, scale, meanSq]

/-- A block's part of the loss. -/
theorem pay_loss (a : Fin 8) (b : Fin 128) : k0_pay8 (F := Ideal) n h g t (ix2 a b) = ∑ i, part * ∑ l, off n h g t i l * off n h g t i l := by
  rw [← half_div]
  simp only [← pay_off]
  simp only [k0_pay8]
  generalize k0_pay7 (F := Ideal) n h g t = y
  pointwise []

/-- The gradient in a normed entry. -/
theorem pay_slope (i : Fin 688) (l : Fin 1024) : k0_pay9 (F := Ideal) n h g t (ix2 i l) = Ideal.div (off n h g t i l) width := by
  rw [← pay_off]
  simp only [k0_pay9]
  generalize k0_pay7 (F := Ideal) n h g t = y
  pointwise []

/-- The rows' gradients. -/
theorem pay_rows (y : FVec Ideal S688x1024 .f32) (i : Fin 688) (j : Fin 1024) : k0_pay2 (F := Ideal) g (k0_pay5 (F := Ideal) h) (k0_pay6 (F := Ideal) h) y (ix2 i j)
    = tiled (fun l => h (ix2 i l)) (fun l => g (ix2 0 l)) (fun l => y (ix2 i l)) 0 j := by
  rw [tiled, zero_add]
  pointwise [k0_pay2, k0_pay6, k0_pay5, scale, meanSq]

/-- A block's part of the gain's gradient. -/
theorem pay_gain (j : Fin 1024) : k0_pay1 (F := Ideal) (k0_pay10 (F := Ideal) n h g t) (ix2 0 j)
    = ∑ i : Fin 688, Ideal.div (off n h g t i j) width * (h (ix2 i j) * scale fun l => h (ix2 i l)) := by
  simp only [← pay_slope, ← pay_scale]
  simp only [k0_pay1, k0_pay10]
  generalize k0_pay9 (F := Ideal) n h g t = y
  generalize k0_pay6 (F := Ideal) h = z
  pointwise []

/-- A later block's parts are added to what the blocks before gave. -/
theorem pay_add (v : FVec Ideal S688x1024 .f32) (a : FVec Ideal S1x1024 .f32) (y) : k0_pay4 (F := Ideal) v a y = a y + k0_pay1 (F := Ideal) v y := by pointwise [k0_pay4]
theorem pay_sum (v a : FVec Ideal S8x128 .f32) (y) : k0_pay3 (F := Ideal) v a y = a y + v y := by pointwise [k0_pay3]

end Cert.LossCell

end
-- ==== Proof.FinalLoss.lean ====
/- The loss of one device's sequence and its gradients: the rows' gradients block by block, the loss and the gain's gradient summed over the blocks. -/
module

public import proofs.«01_k».proof.Defs
public import proofs.«01_k».proof.Proof.Gen.FinalLoss.Frame
public import proofs.«01_k».proof.Proof.Gen.FinalLossIdeal.Frame
public import proofs.«01_k».proof.Proof.Gen.FinalLossRefIdeal.Run
public import proofs.«01_k».proof.Proof.LossRef
public import proofs.«01_k».proof.Proof.LossCell
public import Idealize.ShloMosaic.Lib.StableHlo.ReadAt
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem Idealize.ShloMosaic.Tactic
open Idealize.ShloMosaic.Pipeline (Dat)

namespace Cert.FinalLossIdeal.Value

open Cert.FinalLossIdeal Cert.FinalLossIdeal.Gen Cert.NormMath Cert.LossMath Cert.LossRef Cert.LossCell

variable (m : (ℓ : Loc nD τ sig) → Buf (Elt Ideal) ℓ)

/-- The blocks that grid point `t` stages: block `t` of the rows and of the targets, and the one row of gains. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] :=
  (by decide +kernel : ∀ t : Fin grid0.N, _)

theorem point : ∀ t : Fin cfg0.N, ((grid0.coords t) 0).val = t.val := (by decide +kernel : ∀ t : Fin grid0.N, _)

/-- The row of the array that row `i` of block `t` is. -/
def row (t : Fin cfg0.N) (i : Fin 688) : Fin 2064 := ⟨t.val * 688 + i.val, by have := lt_of_lt_of_eq t.isLt N_0; omega⟩

/-- The rows, the gain and the targets that the arguments hold. -/
abbrev a0 (c : Dev nD) : FVec Ideal S2064x1024 .f32 := m ((c : Thread nD τ).loc main_arg0)
abbrev a1 (c : Dev nD) : FVec Ideal S1x1024 .f32 := m ((c : Thread nD τ).loc main_arg1)
abbrev a2 (c : Dev nD) : FVec Ideal S2048x1024 .f32 := m ((c : Thread nD τ).loc main_arg2)

/-- The targets that the call finds: nothing at the meta tokens. -/
theorem goals (c : Dev nD) (i : Fin 2064) (l : Fin 1024) : V m c main_v0 (ix2 i l) = goal (T (a2 m c)) i l := by
  simp only [V, V0, hostOps0, hostOps0_1, List.flatten_cons, List.flatten_nil, List.append_nil, List.cons_append, List.nil_append]
  entry_read
  show pad S2064x1024 ![16, 0] ![0, 0] ![0, 0] (a2 m c) (sitofp (F := Ideal) .f32 (constantI S_ 32 0#32)) pads_S2048x1024_S2064x1024_1600_000 h_S_ (ix2 i l) = _
  pointwise []
  unfold goal
  split
  · rename_i k
    rw [dif_pos k.1]
  · rename_i k
    rw [dif_neg (fun q => k ⟨q, by omega⟩)]
    simp [FloatOps.sitofp]

theorem blk0 (c : Dev nD) (t : Fin cfg0.N) (i : Fin 688) (j : Fin 1024) : iblk m c 0 t (ix2 i j) = a0 m c (ix2 (row t i) j) := by
  rw [a0, ← V_main_arg0 m c]
  blk_point [iblk, idx t, row]
theorem blk1 (c : Dev nD) (t : Fin cfg0.N) (j : Fin 1024) : iblk m c 1 t (ix2 0 j) = a1 m c (ix2 0 j) := by
  rw [a1, ← V_main_arg1 m c]
  blk_point [iblk, idx t]
theorem blk2 (c : Dev nD) (t : Fin cfg0.N) (i : Fin 688) (j : Fin 1024) : iblk m c 2 t (ix2 i j) = goal (T (a2 m c)) (row t i) j := by
  rw [← goals]
  blk_point [iblk, idx t, row]

/-- By how much a block's entries miss their targets. -/
theorem off_eq (c : Dev nD) (t : Fin cfg0.N) (i : Fin 688) (l : Fin 1024) : off (grid0.coords t) (iblk m c 0 t) (iblk m c 1 t) (iblk m c 2 t) i l
    = miss (H (a0 m c)) (G (a1 m c)) (T (a2 m c)) (row t i) l := by
  unfold off miss
  simp only [blk0, blk1, blk2, point]
  rfl

/-- Every point stores its rows' gradients. -/
theorem rows_at (c : Dev nD) (t : Fin cfg0.N) : (outsAt0 m c t.val t.isLt).2.1
    = k0_pay2 (iblk m c 1 t) (k0_pay5 (iblk m c 0 t)) (k0_pay6 (iblk m c 0 t)) (k0_pay9 (grid0.coords t) (iblk m c 0 t) (iblk m c 1 t) (iblk m c 2 t)) := by
  have := lt_of_lt_of_eq t.isLt N_0
  by_cases h : t.val = 0
  · rw [outsAt0_A m c t (by omega) (by omega) (by omega) (by omega)]; funext i; frame_out
  · rw [outsAt0_B m c t (by omega) (by omega) (by omega) (by omega)]; funext i; frame_out

/-- The rows' gradients are the reference's. -/
theorem final (c : Dev nD) : (dats m 0 c).arrAt 4 (cfgs 0).N = ref2 (a0 m c) (a1 m c) (a2 m c) := by
  refine (dats m 0 c).arrAt_eq_of_covers 4 _ (by decide +kernel) fun t hf y => ?_
  blk_simp
  idx_vars y
  have e : ((cfg0.win 4).blk t).view.emb (ix2 y0 y1) = ix2 (row t y0) y1 := by blk_point [idx t, row]
  rw [after0_4, rows_at]
  refine (pay_rows _ _ _ y0 y1).trans ?_
  simp only [pay_slope, off_eq, blk0, blk1]
  rw [forms]
  exact ((congrArg (ref2 (a0 m c) (a1 m c) (a2 m c)) e).trans (ref2_apply _ _ _ _ _)).symm

/-- A block's rows' parts of the gain's gradient. -/
theorem gain_block (c : Dev nD) (t : Fin cfg0.N) (j : Fin 1024) : k0_pay1 (F := Ideal) (k0_pay10 (grid0.coords t) (iblk m c 0 t) (iblk m c 1 t) (iblk m c 2 t)) (ix2 0 j)
    = ∑ i : Fin 688, gain (H (a0 m c)) (G (a1 m c)) (T (a2 m c)) j (row t i) := by
  refine (pay_gain _ _ _ _ j).trans ?_
  simp only [off_eq, blk0]
  rfl

/-- A block's rows' parts of the loss. -/
theorem loss_block (c : Dev nD) (t : Fin cfg0.N) (a : Fin 8) (b : Fin 128) : k0_pay8 (F := Ideal) (grid0.coords t) (iblk m c 0 t) (iblk m c 1 t) (iblk m c 2 t) (ix2 a b)
    = ∑ i : Fin 688, part * squares (H (a0 m c)) (G (a1 m c)) (T (a2 m c)) (row t i) := by
  refine (pay_loss _ _ _ _ a b).trans ?_
  simp only [off_eq]
  rfl

/-- What the sums hold after the first point, and after each later one. -/
theorem gain_first (c : Dev nD) (t : Fin cfg0.N) (h : t.val = 0) : (outsAt0 m c t.val t.isLt).2.2
    = k0_pay1 (k0_pay10 (grid0.coords t) (iblk m c 0 t) (iblk m c 1 t) (iblk m c 2 t)) := by
  rw [outsAt0_A m c t (by omega) (by omega) (by omega) (by omega)]; funext i; frame_out

theorem loss_first (c : Dev nD) (t : Fin cfg0.N) (h : t.val = 0) : (outsAt0 m c t.val t.isLt).1
    = k0_pay8 (grid0.coords t) (iblk m c 0 t) (iblk m c 1 t) (iblk m c 2 t) := by
  rw [outsAt0_A m c t (by omega) (by omega) (by omega) (by omega)]; funext i; frame_out

theorem gain_next (c : Dev nD) (s t : Fin cfg0.N) (h : t.val = s.val + 1) (j : Fin 1024) : (outsAt0 m c t.val t.isLt).2.2 (ix2 0 j)
    = (outsAt0 m c s.val s.isLt).2.2 (ix2 0 j) + k0_pay1 (F := Ideal) (k0_pay10 (grid0.coords t) (iblk m c 0 t) (iblk m c 1 t) (iblk m c 2 t)) (ix2 0 j) := by
  obtain ⟨sv, hs⟩ := s; obtain ⟨tv, ht⟩ := t
  obtain rfl : tv = sv + 1 := h
  have b : sv + 1 < 3 := lt_of_lt_of_eq ht N_0
  rw [outsAt0_B m c ⟨sv + 1, ht⟩ (by simp only; omega) (by simp only; omega) (by simp only; omega) (by simp only; omega)]; frame_out
  exact pay_add _ _ _

theorem loss_next (c : Dev nD) (s t : Fin cfg0.N) (h : t.val = s.val + 1) (i : Fin 8) (j : Fin 128) : (outsAt0 m c t.val t.isLt).1 (ix2 i j)
    = (outsAt0 m c s.val s.isLt).1 (ix2 i j) + k0_pay8 (F := Ideal) (grid0.coords t) (iblk m c 0 t) (iblk m c 1 t) (iblk m c 2 t) (ix2 i j) := by
  obtain ⟨sv, hs⟩ := s; obtain ⟨tv, ht⟩ := t
  obtain rfl : tv = sv + 1 := h
  have b : sv + 1 < 3 := lt_of_lt_of_eq ht N_0
  rw [outsAt0_B m c ⟨sv + 1, ht⟩ (by simp only; omega) (by simp only; omega) (by simp only; omega) (by simp only; omega)]; frame_out
  exact pay_sum _ _ _

/-- A sum over the rows, block by block. -/
theorem blocks_sum (f : Fin 2064 → EReal) : ∑ i, f i
    = ∑ i : Fin 688, f ⟨i.val, by omega⟩ + ∑ i : Fin 688, f ⟨688 + i.val, by omega⟩ + ∑ i : Fin 688, f ⟨1376 + i.val, by omega⟩ := by
  refine (Fin.sum_univ_add (a := 1376) (b := 688) f).trans ?_
  rw [Fin.sum_univ_add (a := 688) (b := 688) fun i => f (Fin.castAdd 688 i)]
  rfl

theorem points_sum (f : Fin 2064 → EReal) (t0 t1 t2 : Fin cfg0.N) (h0 : t0.val = 0) (h1 : t1.val = 1) (h2 : t2.val = 2) :
    ∑ i : Fin 688, f (row t0 i) + ∑ i : Fin 688, f (row t1 i) + ∑ i : Fin 688, f (row t2 i) = ∑ i, f i := by
  have e0 : ∀ i : Fin 688, row t0 i = ⟨i.val, by omega⟩ := fun i => Fin.ext (by simp [row, h0])
  have e1 : ∀ i : Fin 688, row t1 i = ⟨688 + i.val, by omega⟩ := fun i => Fin.ext (by simp [row, h1])
  have e2 : ∀ i : Fin 688, row t2 i = ⟨1376 + i.val, by omega⟩ := fun i => Fin.ext (by simp [row, h2])
  rw [blocks_sum f]
  simp only [e0, e1, e2]

/-- After the last point the sums are whole. -/
theorem gain_last (c : Dev nD) (t : Fin cfg0.N) (h : t.val = 2) (j : Fin 1024) :
    (outsAt0 m c t.val t.isLt).2.2 (ix2 0 j) = ref3 (a0 m c) (a1 m c) (a2 m c) (ix2 0 j) := by
  have hN := N_0
  let t0 : Fin cfg0.N := ⟨0, by omega⟩
  let t1 : Fin cfg0.N := ⟨1, by omega⟩
  rw [gain_next m c t1 t h, gain_next m c t0 t1 rfl, gain_first m c t0 rfl, gain_block, gain_block, gain_block, ref3_apply]
  exact points_sum _ t0 t1 t rfl rfl h

theorem loss_last (c : Dev nD) (t : Fin cfg0.N) (h : t.val = 2) (i : Fin 8) (j : Fin 128) :
    (outsAt0 m c t.val t.isLt).1 (ix2 i j) = total (H (a0 m c)) (G (a1 m c)) (T (a2 m c)) := by
  have hN := N_0
  let t0 : Fin cfg0.N := ⟨0, by omega⟩
  let t1 : Fin cfg0.N := ⟨1, by omega⟩
  rw [loss_next m c t1 t h, loss_next m c t0 t1 rfl, loss_first m c t0 rfl, loss_block, loss_block, loss_block]
  exact points_sum (fun i => part * squares (H (a0 m c)) (G (a1 m c)) (T (a2 m c)) i) t0 t1 t rfl rfl h

/-- The gain's gradient is the reference's. -/
theorem final2 (c : Dev nD) : (dats m 0 c).arrAt 5 (cfgs 0).N = ref3 (a0 m c) (a1 m c) (a2 m c) := by
  refine (dats m 0 c).arrAt_eq_of_covers 5 _ (by decide +kernel) fun t hf y => ?_
  have ht := (flush0_5 t).mp hf
  blk_simp
  idx_vars y
  obtain rfl : y0 = 0 := Subsingleton.elim (α := Fin 1) _ _
  have e : ((cfg0.win 5).blk t).view.emb (ix2 0 y1) = ix2 0 y1 := by blk_point [idx t]
  have hN := lt_of_lt_of_eq t.isLt N_0
  rw [after0_5]
  refine (gain_last m c t (by omega) y1).trans ?_
  exact congrArg (ref3 (a0 m c) (a1 m c) (a2 m c)) e.symm

/-- Every entry of the array of the loss is the loss. -/
theorem final0 (c : Dev nD) : (dats m 0 c).arrAt 3 (cfgs 0).N = (fun _ => total (H (a0 m c)) (G (a1 m c)) (T (a2 m c)) : FVec Ideal S8x128 .f32) := by
  refine (dats m 0 c).arrAt_eq_of_covers 3 _ (by decide +kernel) fun t hf y => ?_
  have ht := (flush0_3 t).mp hf
  blk_simp
  idx_vars y
  have hN := lt_of_lt_of_eq t.isLt N_0
  rw [after0_3]
  exact loss_last m c t (by omega) y0 y1

/-- The line after the call takes the array's first entry. -/
theorem tail (u : Valuation τ sig (Elt Ideal)) : StableHlo.after hostOps1 u (Proc.devRef .tc main_v3)
    = shapeCast S_ (extractStridedSlice S1x1 ![0, 0] (u (Proc.devRef .tc main_v1_0) : FVec Ideal S8x128 .f32) slices_S8x128_S1x1_0_0) shapeCasts_S1x1_S_ := by
  after_reads_simp
  rfl

/-- The loss is the reference's. -/
theorem value (c : Dev nD) : Pipeline.afterTail₀ cfgs (dats m) 0 (V0 m) [hostOps1] c main_v3 = ref (a0 m c) (a1 m c) (a2 m c) := by
  have e : Pipeline.withArrays (cfgs 0).spec c (V0 m c) (fun w => (dats m 0 c).arrAt w (cfgs 0).N) (Proc.devRef .tc main_v1_0)
      = (fun _ => total (H (a0 m c)) (G (a1 m c)) (T (a2 m c)) : FVec Ideal S8x128 .f32) :=
    (Pipeline.withArrays_arr (cfgs 0).spec winFacts0.arr_inj c _ _ 3).trans (final0 m c)
  refine (tail _).trans ?_
  rw [e]
  funext k
  rw [ref_apply]
  rfl

theorem algebraic : Cert.algebraic_FinalLossIdeal_FinalLossRefIdeal := by
  intro m g m' g' _ e
  refine ⟨fun c => ref (a0 m c) (a1 m c) (a2 m c), fun c => ref2 (a0 m c) (a1 m c) (a2 m c), fun c => ref3 (a0 m c) (a1 m c) (a2 m c), ?_, ?_⟩
  · refine (θ_run _ _ _).mono (fun r h c => ⟨?_, ?_, ?_, h.1 c⟩) (θ_run_and (unchanged m g) (run_main m g))
    · exact ((h.2 c).2 main_v3 (Pipeline.mem_restRefs_of main_v3 (by decide) (by decide))).trans (value m c)
    · exact ((h.2 c).1 4).trans (final m c)
    · exact ((h.2 c).1 5).trans (final2 m c)
  · refine (θ_run _ _ _).mono (fun r h c => ?_) (Cert.FinalLossRefIdeal.Value.run m' g')
    obtain ⟨h0, h1, h2, h3⟩ := h c
    obtain ⟨e0, e1, e2⟩ := e c
    refine ⟨h0.trans ?_, h1.trans ?_, h2.trans ?_, h3⟩
    · refine (Cert.FinalLossRefIdeal.Read.val_main_v24_eq _ _ _).trans ?_
      rw [e0, e1, e2]
    · refine (Cert.FinalLossRefIdeal.Read.val_main_v50_eq m' c).trans ?_
      rw [e0, e1, e2]
    · refine (Cert.FinalLossRefIdeal.Read.val_main_v34_eq _ _ _).trans ?_
      rw [e0, e1, e2]

end Cert.FinalLossIdeal.Value

end
-- ==== Proof.FirstNorm.lean ====
/- The first norm of the rows, scaled by its gains. -/
module

public import proofs.«01_k».proof.Proof.Gen.FirstNormIdeal.Frame
public import proofs.«01_k».proof.Proof.Gen.FirstNormRefIdeal.Read
public import proofs.«01_k».proof.Proof.NormMath
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem Idealize.ShloMosaic.Tactic
open Idealize.ShloMosaic.Pipeline (Dat)

namespace Cert.FirstNormIdeal.Value

open Cert.FirstNormIdeal Cert.FirstNormIdeal.Gen Cert.NormMath
open Cert.FirstNormRefIdeal.Read

variable (m : (ℓ : Loc nD τ sig) → Buf (Elt Ideal) ℓ)

/-- The blocks that grid point `t` stages: block `t` of the rows, and the one row of each of the others. -/
theorem idx : ∀ t : Fin cfg0.N, win0_0.index t = ![t.val, 0] ∧ win0_1.index t = ![0, 0] ∧ win0_2.index t = ![t.val, 0] :=
  (by decide +kernel : ∀ t : Fin grid0.N, _)

/-- The row of the array that row `i` of block `t` is. -/
def row (t : Fin cfg0.N) (i : Fin 688) : Fin 2064 := ⟨t.val * 688 + i.val, by have := lt_of_lt_of_eq t.isLt N_0; omega⟩

/-- The reference's result. -/
abbrev ref (h : FVec Ideal S2064x1024 .f32) (g : FVec Ideal S1x1024 .f32) : FVec Ideal S2064x1024 .bf16 :=
  val_main_v12 (F := Ideal) h g

/-- The reference's result at an entry. -/
theorem ref_apply (h : FVec Ideal S2064x1024 .f32) (g : FVec Ideal S1x1024 .f32) (i : Fin 2064) (j : Fin 1024) :
    ref h g (ix2 i j) = normed (fun l => h (ix2 i l)) (fun l => g (ix2 0 l)) j := by
  simp only [ref, val_main_v12, val_main_v11, val_main_v10, val_main_v9, val_main_v8, val_main_v7, val_main_v6, val_main_v5, val_main_v4, val_main_v3, val_main_v2, val_main_v1, val_main_v0, val_main_cst, val_main_cst_0, val_main_cst_1]
  pointwise [normed, scale, meanSq]

/-- What a grid point stores at an entry. -/
theorem pay_apply (h : FVec Ideal S688x1024 .f32) (g : FVec Ideal S1x1024 .f32) (i : Fin 688) (j : Fin 1024) :
    k0_pay1 (F := Ideal) h g (ix2 i j) = normed (fun l => h (ix2 i l)) (fun l => g (ix2 0 l)) j := by
  pointwise [k0_pay1, normed, scale, meanSq]

theorem blk0 (c : Dev nD) (t : Fin cfg0.N) (i : Fin 688) (j : Fin 1024) : iblk m c 0 t (ix2 i j) = m ((c : Thread nD τ).loc main_arg0) (ix2 (row t i) j) := by
  blk_point [iblk, V, idx t, row]
theorem blk1 (c : Dev nD) (t : Fin cfg0.N) (j : Fin 1024) : iblk m c 1 t (ix2 0 j) = m ((c : Thread nD τ).loc main_arg1) (ix2 0 j) := by
  blk_point [iblk, V, idx t]

/-- The kernel's result array is the reference's. -/
theorem final (c : Dev nD) : (dats m 0 c).arrAt 2 (cfgs 0).N = ref (m ((c : Thread nD τ).loc main_arg0)) (m ((c : Thread nD τ).loc main_arg1)) := by
  refine (dats m 0 c).arrAt_eq_of_covers 2 _ (by decide +kernel) fun t hf y => ?_
  blk_simp
  idx_vars y
  have e : ((cfg0.win 2).blk t).view.emb (ix2 y0 y1) = ix2 (row t y0) y1 := by blk_point [idx t, row]
  rw [after0_2]
  frame_out
  refine (pay_apply _ _ y0 y1).trans ?_
  simp only [blk0, blk1]
  exact ((congrArg (ref (m ((c : Thread nD τ).loc main_arg0)) (m ((c : Thread nD τ).loc main_arg1))) e).trans (ref_apply _ _ _ _)).symm

end Cert.FirstNormIdeal.Value

end
-- ==== Proof.LnMath.lean ====
/- A row's channel norm with gains and offsets, the swish of it, and the gradient of both in the two forms that the kernel and
   the reference give it. -/
module

public import Idealize.ShloMosaic.Lib.Pointwise
public import Idealize.ShloMosaic.PureOps

@[expose] public section

noncomputable section

namespace Cert.LnMath

open Idealize.ShloMosaic

/-- The number of entries of a row. -/
abbrev width : EReal := Ideal.ofBits .f32 0x44000000#32

/-- A row with its mean taken off. -/
def center (u : Fin 512 → EReal) (l : Fin 512) : EReal := u l - Ideal.div (∑ k, u k) width

/-- A row's variance and the small number added to it. -/
def spread (u : Fin 512 → EReal) : EReal := Ideal.div (∑ l, center u l * center u l) width + Ideal.ofBits .f32 0x3727C5AC#32

/-- The inverse root of the variance. -/
def rstd (u : Fin 512 → EReal) : EReal := Ideal.rsqrt (spread u)

/-- The row with mean zero and variance one. -/
def hat (u : Fin 512 → EReal) (l : Fin 512) : EReal := center u l * rstd u

/-- The row with its gains and offsets. -/
def lin (u g b : Fin 512 → EReal) (l : Fin 512) : EReal := hat u l * g l + b l

/-- The logistic function. -/
def logis (x : EReal) : EReal := Ideal.div 1 (1 + Ideal.exp (-x))

/-- The swish of the row. -/
def swished (u g b : Fin 512 → EReal) (l : Fin 512) : EReal := lin u g b l * logis (lin u g b l)

/-- The swish's gradient at `n`, as the kernel gives it. -/
def slopeK (n y : EReal) : EReal := y * (logis n * (1 + n * (1 - logis n)))

/-- The swish's gradient at `n`, as the reference gives it. -/
def slopeR (n y : EReal) : EReal := y * logis n + n * y * (logis n * (1 - logis n))

/-- The kernel's gradient of a row whose normed entries have the gradient `d`. -/
def tiled (u d : Fin 512 → EReal) (j : Fin 512) : EReal :=
  rstd u * (d j - Ideal.div (∑ l, d l) width - hat u j * Ideal.div (∑ l, d l * hat u l) width)

/-- The part of the gradient that goes through the variance. -/
def along (u d : Fin 512 → EReal) : EReal :=
  Ideal.div ((∑ l, center u l * d l) * (Ideal.ofBits .f32 0xBF000000#32 * Ideal.div (rstd u) (spread u))) width

/-- The reference's gradient of a row whose normed entries have the gradient `d`. -/
def plain (u d : Fin 512 → EReal) (j : Fin 512) : EReal :=
  d j * rstd u + along u d * (Ideal.ofBits .f32 0x40000000#32 * center u j)
    + Ideal.div ((∑ l, -(d l * rstd u)) + ∑ l, -(along u d * (Ideal.ofBits .f32 0x40000000#32 * center u l))) width

theorem width_eq : width = ((512 : ℝ) : EReal) := by
  simp [width, Ideal.ofBits, Ideal.ieee]; norm_num [← EReal.coe_mul]

theorem half_eq : Ideal.ofBits .f32 0xBF000000#32 = ((-(1 / 2) : ℝ) : EReal) := by
  simp [Ideal.ofBits, Ideal.ieee]; norm_num [← EReal.coe_mul]

theorem two_eq : Ideal.ofBits .f32 0x40000000#32 = ((2 : ℝ) : EReal) := by
  simp [Ideal.ofBits, Ideal.ieee]; norm_num [← EReal.coe_mul]

theorem coe_sum {ι : Type} (s : Finset ι) (f : ι → ℝ) : ((∑ i ∈ s, f i : ℝ) : EReal) = ∑ i ∈ s, (f i : EReal) := by
  classical
  induction s using Finset.induction_on with
  | empty => simp
  | insert a t h ih => rw [Finset.sum_insert h, Finset.sum_insert h, EReal.coe_add, ih]

/-- On real numbers the two forms of the swish's gradient agree, and are real. -/
theorem slope_real (n y : ℝ) : ∃ d : ℝ, slopeK n y = (d : EReal) ∧ slopeR n y = (d : EReal) := by
  have p : (1 + Real.exp (-n) : ℝ) ≠ 0 := by positivity
  have s : logis (n : EReal) = ((1 / (1 + Real.exp (-n)) : ℝ) : EReal) := by
    rw [logis, ← EReal.coe_neg, Ideal.exp_coe, ← EReal.coe_one, ← EReal.coe_add, Ideal.div_coe p, EReal.coe_one, one_mul]
  refine ⟨y * (1 / (1 + Real.exp (-n)) * (1 + n * (1 - 1 / (1 + Real.exp (-n))))), ?_, ?_⟩
  · rw [slopeK, s, ← EReal.coe_one]; simp only [← EReal.coe_sub, ← EReal.coe_mul, ← EReal.coe_add]
  · rw [slopeR, s, ← EReal.coe_one]; simp only [← EReal.coe_sub, ← EReal.coe_mul, ← EReal.coe_add]
    congr 1; ring

/-- A real row has a real center whose sum is zero, and a positive real spread. -/
theorem row_real (x : Fin 512 → ℝ) : ∃ (c : Fin 512 → ℝ) (v : ℝ), 0 < v ∧ ∑ l, c l = 0 ∧ (∀ l, center (fun l => (x l : EReal)) l = (c l : EReal))
    ∧ spread (fun l => (x l : EReal)) = (v : EReal) ∧ rstd (fun l => (x l : EReal)) = (((Real.sqrt v)⁻¹ : ℝ) : EReal) := by
  obtain ⟨ε, hε, e⟩ : ∃ ε : ℝ, 0 < ε ∧ Ideal.ofBits .f32 0x3727C5AC#32 = (ε : EReal) := by
    refine ⟨_, ?_, by simp [Ideal.ofBits, Ideal.ieee]; norm_cast⟩
    positivity
  have h : ∀ l, center (fun l => (x l : EReal)) l = ((x l - (∑ k, x k) * (1 / 512) : ℝ) : EReal) := fun l => by
    rw [center, width_eq, Ideal.div_coe (by norm_num), ← coe_sum, ← EReal.coe_mul, ← EReal.coe_sub]
  let c : Fin 512 → ℝ := fun l => x l - (∑ k, x k) * (1 / 512)
  have p : 0 < (∑ l, c l * c l) * (1 / 512) + ε := by
    have := Finset.sum_nonneg (s := Finset.univ) fun l _ => mul_self_nonneg (c l)
    positivity
  have q : spread (fun l => (x l : EReal)) = (((∑ l, c l * c l) * (1 / 512) + ε : ℝ) : EReal) := by
    simp only [spread, h, e, width_eq, Ideal.div_coe (show (512 : ℝ) ≠ 0 by norm_num), ← EReal.coe_mul, ← coe_sum, ← EReal.coe_add, c]
  refine ⟨c, _, p, ?_, h, q, ?_⟩
  · simp only [c, Finset.sum_sub_distrib, Finset.sum_const, Finset.card_univ, Fintype.card_fin]; ring
  · rw [rstd, q, Ideal.rsqrt_coe, if_neg (not_lt.mpr p.le), if_neg p.ne']

/-- On real rows the normed row with its gains and offsets is real. -/
theorem lin_real (x g b : Fin 512 → ℝ) (l : Fin 512) : ∃ n : ℝ, lin (fun l => (x l : EReal)) (fun l => (g l : EReal)) (fun l => (b l : EReal)) l = (n : EReal) := by
  obtain ⟨c, v, hv, z, hc, hs, hr⟩ := row_real x
  exact ⟨c l * (Real.sqrt v)⁻¹ * g l + b l, by simp only [lin, hat, hc, hr, ← EReal.coe_mul, ← EReal.coe_add]⟩

/-- On real rows the two forms of the row's gradient agree. -/
theorem forms (x d : Fin 512 → ℝ) (j : Fin 512) : tiled (fun l => (x l : EReal)) (fun l => (d l : EReal)) j = plain (fun l => (x l : EReal)) (fun l => (d l : EReal)) j := by
  obtain ⟨c, v, hv, z, hc, hs, hr⟩ := row_real x
  have hq : (Real.sqrt v)⁻¹ * (Real.sqrt v)⁻¹ = 1 / v := by
    rw [← mul_inv, Real.mul_self_sqrt hv.le, one_div]
  generalize (Real.sqrt v)⁻¹ = ρ at *
  simp only [tiled, plain, along, hat, hc, hr, hs, width_eq, half_eq, two_eq, Ideal.div_coe hv.ne', Ideal.div_coe (show (512 : ℝ) ≠ 0 by norm_num),
    ← EReal.coe_neg, ← EReal.coe_mul, ← coe_sum, ← EReal.coe_add, ← EReal.coe_sub]
  congr 1
  have a : ∑ l, d l * (c l * ρ) = ρ * ∑ l, c l * d l := by rw [Finset.mul_sum]; exact Finset.sum_congr rfl fun l _ => by ring
  have b : ∑ l, -(d l * ρ) = -(ρ * ∑ l, d l) := by rw [Finset.mul_sum, ← Finset.sum_neg_distrib]; exact Finset.sum_congr rfl fun l _ => by ring
  have e : ∀ w : ℝ, ∑ l, -(w * (2 * c l)) = 0 := fun w => by
    rw [← mul_zero (-(2 * w)), ← z, Finset.mul_sum]; exact Finset.sum_congr rfl fun l _ => by ring
  rw [a, b, e, ← hq]
  ring

/-- A number whose magnitude compares below infinity is real. -/
theorem real_of_lt {x : EReal} (h : BitVec.ofBool (decide ((FloatOps.absf (F := Ideal) (φ := FTy.f32) x : EReal) < Ideal.ofBits .f32 0x7F800000#32)) = 1#1) : x = ((x.toReal : ℝ) : EReal) := by
  have e : Ideal.ofBits .f32 0x7F800000#32 = ⊤ := by simp [Ideal.ofBits, Ideal.ieee]
  rw [e] at h
  have h2 : (FloatOps.absf (F := Ideal) (φ := FTy.f32) x : EReal) < ⊤ := by
    by_contra q; rw [decide_eq_false q] at h; exact absurd h (by decide)
  induction x using EReal.rec with
  | bot => rw [Ideal.absf_def] at h2; exact absurd h2 (by simp)
  | top => rw [Ideal.absf_def] at h2; exact absurd h2 (by simp)
  | coe y => simp

end Cert.LnMath

end
-- ==== Proof.EvenLn.lean ====
/- The even layer's channel norm followed by the swish. -/
module

public import proofs.«01_k».proof.Proof.Gen.EvenLnIdeal.Frame
public import proofs.«01_k».proof.Proof.Gen.EvenLnRefIdeal.Read
public import proofs.«01_k».proof.Proof.LnMath
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem Idealize.ShloMosaic.Tactic
open Idealize.ShloMosaic.Pipeline (Dat)

namespace Cert.EvenLnIdeal.Value

open Cert.EvenLnIdeal Cert.EvenLnIdeal.Gen Cert.LnMath
open Cert.EvenLnRefIdeal.Read

variable (m : (ℓ : Loc nD τ sig) → Buf (Elt Ideal) ℓ)

/-- The blocks that grid point `t` stages: block `t` of the rows, and the one row of each of the others. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- The row of the array that row `i` of block `t` is. -/
def row (t : Fin cfg0.N) (i : Fin 688) : Fin 2064 := ⟨t.val * 688 + i.val, by have := lt_of_lt_of_eq t.isLt N_0; omega⟩

/-- The reference's result. -/
abbrev ref (u : FVec Ideal S2064x512 .f32) (g : FVec Ideal S1x512 .f32) (b : FVec Ideal S1x512 .f32) : FVec Ideal S2064x512 .bf16 :=
  val_main_v29 (F := Ideal) u g b

/-- The reference's result at an entry. -/
theorem ref_apply (u : FVec Ideal S2064x512 .f32) (g : FVec Ideal S1x512 .f32) (b : FVec Ideal S1x512 .f32) (i : Fin 2064) (j : Fin 512) :
    ref u g b (ix2 i j) = swished (fun l => u (ix2 i l)) (fun l => g (ix2 0 l)) (fun l => b (ix2 0 l)) j := by
  simp only [ref, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5]
  pointwise [swished, lin, hat, rstd, spread, center, logis]

/-- What a grid point stores at an entry. -/
theorem pay_apply (u : FVec Ideal S688x512 .f32) (g : FVec Ideal S1x512 .f32) (b : FVec Ideal S1x512 .f32) (i : Fin 688) (j : Fin 512) :
    k0_pay1 (F := Ideal) u g b (ix2 i j) = swished (fun l => u (ix2 i l)) (fun l => g (ix2 0 l)) (fun l => b (ix2 0 l)) j := by
  pointwise [k0_pay1, swished, lin, hat, rstd, spread, center, logis]
  simp only [zero_sub]

theorem blk0 (c : Dev nD) (t : Fin cfg0.N) (i : Fin 688) (j : Fin 512) : iblk m c 0 t (ix2 i j) = m ((c : Thread nD τ).loc main_arg0) (ix2 (row t i) j) := by
  blk_point [iblk, V, idx t, row]
theorem blk1 (c : Dev nD) (t : Fin cfg0.N) (j : Fin 512) : iblk m c 1 t (ix2 0 j) = m ((c : Thread nD τ).loc main_arg1) (ix2 0 j) := by
  blk_point [iblk, V, idx t]
theorem blk2 (c : Dev nD) (t : Fin cfg0.N) (j : Fin 512) : iblk m c 2 t (ix2 0 j) = m ((c : Thread nD τ).loc main_arg2) (ix2 0 j) := by
  blk_point [iblk, V, idx t]

/-- The kernel's result array is the reference's. -/
theorem final (c : Dev nD) : (dats m 0 c).arrAt 3 (cfgs 0).N = ref (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  idx_vars y
  have e : ((cfg0.win 3).blk t).view.emb (ix2 y0 y1) = ix2 (row t y0) y1 := by blk_point [idx t, row]
  rw [after0_3]
  frame_out
  refine (pay_apply _ _ _ y0 y1).trans ?_
  simp only [blk0, blk1, blk2]
  exact ((congrArg (ref (m ((c : Thread nD τ).loc main_arg0)) (m ((c : Thread nD τ).loc main_arg1)) (m ((c : Thread nD τ).loc main_arg2))) e).trans (ref_apply _ _ _ _ _)).symm

end Cert.EvenLnIdeal.Value

end
-- ==== Proof.EvenLnBwd.lean ====
/- The gradient of the even layer's channel norm and swish, of the norm's gains and of its offsets: the rows' gradients block by
   block, those of the gains and the offsets summed over the blocks. All on finite arguments. -/
module

public import proofs.«01_k».proof.Defs
public import proofs.«01_k».proof.Proof.Gen.EvenLnBwdIdeal.Frame
public import proofs.«01_k».proof.Proof.Gen.EvenLnBwdRefIdeal.Run
public import proofs.«01_k».proof.Proof.Gen.Pre_ln_finite
public import proofs.«01_k».proof.Proof.Gen.EvenLnBwdRefIdeal.Read
public import proofs.«01_k».proof.Proof.LnMath
public import Idealize.ShloMosaic.Adequacy
public import Idealize.ShloMosaic.Init
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem Idealize.ShloMosaic.Tactic
open Idealize.ShloMosaic.Pipeline (Dat)

namespace Cert.EvenLnBwdIdeal.Value

open Cert.EvenLnBwdIdeal Cert.EvenLnBwdIdeal.Gen Cert.LnMath
open Cert.EvenLnBwdRefIdeal.Read

variable (m : (ℓ : Loc nD τ sig) → Buf (Elt Ideal) ℓ)

/-- The blocks that grid point `t` stages: block `t` of the rows, and the one row of each of the others. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![0, 0] ∧ win0_6.index t = ![0, 0] :=
  (by decide +kernel : ∀ t : Fin grid0.N, _)

/-- The row of the array that row `i` of block `t` is. -/
def row (t : Fin cfg0.N) (i : Fin 688) : Fin 2064 := ⟨t.val * 688 + i.val, by have := lt_of_lt_of_eq t.isLt N_0; omega⟩

/-- A column of the half that the gradient is read from. -/
def half (j : Fin 512) : Fin 1024 := ⟨j.val, by omega⟩

/-- The gradient of a normed entry with its gains and offsets, as the reference gives it. -/
def slope (u : FVec Ideal S2064x512 .f32) (g b : FVec Ideal S1x512 .f32) (y : FVec Ideal S2064x1024 .f32) (i : Fin 2064) (j : Fin 512) : EReal :=
  slopeR (lin (fun l => u (ix2 i l)) (fun l => g (ix2 0 l)) (fun l => b (ix2 0 l)) j) (y (ix2 i (half j)))

theorem slope_apply (u : FVec Ideal S2064x512 .f32) (g b : FVec Ideal S1x512 .f32) (y : FVec Ideal S2064x1024 .f32) (i : Fin 2064) (j : Fin 512) : val_main_v41 (F := Ideal) u g b y (ix2 i j) = slope u g b y i j := by
  simp only [val_main_v41, val_main_v40, val_main_v39, val_main_v38, val_main_v37, val_main_v36, val_main_v35, val_main_v34, val_main_v33, val_main_v32, val_main_v31, val_main_v30, val_main_v29, val_main_v28, val_main_cst_6, val_main_cst_7, val_main_cst_8]
  have e : val_main_v26 (F := Ideal) u g b (ix2 i j) = lin (fun l => u (ix2 i l)) (fun l => g (ix2 0 l)) (fun l => b (ix2 0 l)) j := by
    simp only [val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v6, val_main_v5, val_main_v4, val_main_v3, val_main_v2, val_main_v1, val_main_v0, val_main_cst, val_main_cst_0, val_main_cst_2, val_main_cst_3, val_main_cst_4]
    pointwise [lin, hat, rstd, spread, center]
  simp only [val_main_v27]
  rw [slope, ← e]
  generalize val_main_v26 (F := Ideal) u g b = n
  pointwise [slopeR, logis]
  rfl

/-- The reference's first result at an entry. -/
theorem ref_apply (u : FVec Ideal S2064x512 .f32) (g b : FVec Ideal S1x512 .f32) (y : FVec Ideal S2064x1024 .f32) (i : Fin 2064) (j : Fin 512) : val_main_v72 (F := Ideal) u g b y (ix2 i j)
    = plain (fun l => u (ix2 i l)) (fun l => slope u g b y i l * g (ix2 0 l)) j := by
  simp only [val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_9, val_main_cst_10, val_main_cst_11, val_main_cst_12, val_main_cst_13, val_main_cst_14, val_main_cst_15, val_main_cst_16, val_main_cst_17]
  simp only [← slope_apply]
  generalize val_main_v41 (F := Ideal) u g b y = d
  pointwise [plain, along, rstd, spread, center]
  simp only [Fin.sum_univ_one]

/-- The reference's second result, the gains' gradient, at an entry. -/
theorem ref2_apply (u : FVec Ideal S2064x512 .f32) (g b : FVec Ideal S1x512 .f32) (y : FVec Ideal S2064x1024 .f32) (j : Fin 512) : val_main_v46 (F := Ideal) u g b y (ix2 0 j)
    = ∑ i : Fin 2064, slope u g b y i j * hat (fun l => u (ix2 i l)) j := by
  simp only [val_main_v46, val_main_v45, val_main_v44, val_main_v22, val_main_v21, val_main_v20, val_main_v19, val_main_v18, val_main_v17, val_main_v16, val_main_v15, val_main_v14, val_main_v13, val_main_v12, val_main_v11, val_main_v10, val_main_v9, val_main_v6, val_main_v5, val_main_v4, val_main_v3, val_main_v2, val_main_v1, val_main_v0, val_main_cst, val_main_cst_0, val_main_cst_2, val_main_cst_3, val_main_cst_4, val_main_cst_10]
  simp only [← slope_apply]
  generalize val_main_v41 (F := Ideal) u g b y = d
  pointwise [hat, rstd, spread, center]
  exact Finset.sum_congr rfl fun i _ => mul_comm _ _

/-- The reference's third result, the offsets' gradient, at an entry. -/
theorem ref3_apply (u : FVec Ideal S2064x512 .f32) (g b : FVec Ideal S1x512 .f32) (y : FVec Ideal S2064x1024 .f32) (j : Fin 512) : val_main_v43 (F := Ideal) u g b y (ix2 0 j) = ∑ i : Fin 2064, slope u g b y i j := by
  simp only [val_main_v43, val_main_v42, val_main_cst_9]
  simp only [← slope_apply]
  generalize val_main_v41 (F := Ideal) u g b y = d
  pointwise []

/-- What a grid point holds of the normed entries and of their gradients. -/
theorem pay_hat (u : FVec Ideal S688x512 .f32) (i : Fin 688) (j : Fin 512) : k0_pay8 (F := Ideal) u (ix2 i j) = hat (fun l => u (ix2 i l)) j := by
  pointwise [k0_pay8, k0_pay7, k0_pay6, hat, rstd, spread, center]

theorem pay_slope (u : FVec Ideal S688x512 .f32) (g b : FVec Ideal S1x512 .f32) (y : FVec Ideal S688x512 .f32) (i : Fin 688) (j : Fin 512) : k0_pay9 (F := Ideal) u g b y (ix2 i j)
    = slopeK (lin (fun l => u (ix2 i l)) (fun l => g (ix2 0 l)) (fun l => b (ix2 0 l)) j) (y (ix2 i j)) := by
  simp only [lin, ← pay_hat]
  simp only [k0_pay9]
  generalize k0_pay8 (F := Ideal) u = n
  pointwise [slopeK, logis]
  simp only [zero_sub]

/-- What a grid point stores of the rows' gradients. -/
theorem pay_rows (u : FVec Ideal S688x512 .f32) (g b : FVec Ideal S1x512 .f32) (y : FVec Ideal S688x512 .f32) (i : Fin 688) (j : Fin 512) : k0_pay3 (F := Ideal) g (k0_pay7 u) (k0_pay8 u) (k0_pay9 u g b y) (ix2 i j)
    = tiled (fun l => u (ix2 i l)) (fun l => slopeK (lin (fun l => u (ix2 i l)) (fun l => g (ix2 0 l)) (fun l => b (ix2 0 l)) l) (y (ix2 i l)) * g (ix2 0 l)) j := by
  simp only [tiled, ← pay_hat, ← pay_slope]
  generalize k0_pay8 (F := Ideal) u = n
  generalize k0_pay9 (F := Ideal) u g b y = d
  pointwise [k0_pay3, k0_pay7, k0_pay6, rstd, spread, center]

/-- A block's part of the gains' gradient, and of the offsets'. -/
theorem pay_gain (u : FVec Ideal S688x512 .f32) (g b : FVec Ideal S1x512 .f32) (y : FVec Ideal S688x512 .f32) (j : Fin 512) : k0_pay1 (F := Ideal) (k0_pay10 u g b y) (ix2 0 j)
    = ∑ i : Fin 688, slopeK (lin (fun l => u (ix2 i l)) (fun l => g (ix2 0 l)) (fun l => b (ix2 0 l)) j) (y (ix2 i j)) * hat (fun l => u (ix2 i l)) j := by
  simp only [← pay_hat, ← pay_slope, k0_pay10]
  generalize k0_pay8 (F := Ideal) u = n
  generalize k0_pay9 (F := Ideal) u g b y = d
  pointwise [k0_pay1]

theorem pay_offset (u : FVec Ideal S688x512 .f32) (g b : FVec Ideal S1x512 .f32) (y : FVec Ideal S688x512 .f32) (j : Fin 512) : k0_pay2 (F := Ideal) (k0_pay9 u g b y) (ix2 0 j)
    = ∑ i : Fin 688, slopeK (lin (fun l => u (ix2 i l)) (fun l => g (ix2 0 l)) (fun l => b (ix2 0 l)) j) (y (ix2 i j)) := by
  simp only [← pay_slope]
  generalize k0_pay9 (F := Ideal) u g b y = d
  pointwise [k0_pay2]

/-- A later block's part is added to what the blocks before gave. -/
theorem pay_add (v : FVec Ideal S512 .f32) (a : FVec Ideal S1x512 .f32) (z) : k0_pay4 (F := Ideal) v a z = a z + k0_pay1 v z := by
  simp only [k0_pay4]; generalize k0_pay1 (F := Ideal) v = w; pointwise []
theorem pay_add2 (v : FVec Ideal S688x512 .f32) (a : FVec Ideal S1x512 .f32) (z) : k0_pay5 (F := Ideal) v a z = a z + k0_pay2 v z := by
  simp only [k0_pay5]; generalize k0_pay2 (F := Ideal) v = w; pointwise []

theorem blk0 (c : Dev nD) (t : Fin cfg0.N) (i : Fin 688) (j : Fin 512) : iblk m c 0 t (ix2 i j) = m ((c : Thread nD τ).loc main_arg0) (ix2 (row t i) j) := by
  blk_point [iblk, V, idx t, row]
theorem blk1 (c : Dev nD) (t : Fin cfg0.N) (j : Fin 512) : iblk m c 1 t (ix2 0 j) = m ((c : Thread nD τ).loc main_arg1) (ix2 0 j) := by
  blk_point [iblk, V, idx t]
theorem blk2 (c : Dev nD) (t : Fin cfg0.N) (j : Fin 512) : iblk m c 2 t (ix2 0 j) = m ((c : Thread nD τ).loc main_arg2) (ix2 0 j) := by
  blk_point [iblk, V, idx t]
theorem blk3 (c : Dev nD) (t : Fin cfg0.N) (i : Fin 688) (j : Fin 512) : iblk m c 3 t (ix2 i j) = m ((c : Thread nD τ).loc main_arg3) (ix2 (row t i) (half j)) := by
  blk_point [iblk, V, idx t, row, half]

instance : Cert.Pre_ln_finite.Facts := Cert.Pre_ln_finite.Gen.facts

/-- The precondition says that the arguments that are read are real. -/
theorem real0 (c : Dev nD) (h : Cert.Pre_EvenLnBwdIdeal_ln_finite m) (i : Fin 2064) (l : Fin 512) :
    ∃ x : ℝ, m ((c : Thread nD τ).loc main_arg0) (ix2 i l) = (x : EReal) := by
  have := congrFun (h c).1 (ix2 i l)
  pointwise [Cert.Pre_ln_finite.fn] at this
  exact ⟨_, real_of_lt this⟩
theorem real1 (c : Dev nD) (h : Cert.Pre_EvenLnBwdIdeal_ln_finite m) (l : Fin 512) :
    ∃ x : ℝ, m ((c : Thread nD τ).loc main_arg1) (ix2 0 l) = (x : EReal) := by
  have := congrFun (h c).2.1 (ix2 0 l)
  pointwise [Cert.Pre_ln_finite.fn] at this
  exact ⟨_, real_of_lt this⟩
theorem real2 (c : Dev nD) (h : Cert.Pre_EvenLnBwdIdeal_ln_finite m) (l : Fin 512) :
    ∃ x : ℝ, m ((c : Thread nD τ).loc main_arg2) (ix2 0 l) = (x : EReal) := by
  have := congrFun (h c).2.2.1 (ix2 0 l)
  pointwise [Cert.Pre_ln_finite.fn] at this
  exact ⟨_, real_of_lt this⟩
theorem real3 (c : Dev nD) (h : Cert.Pre_EvenLnBwdIdeal_ln_finite m) (i : Fin 2064) (l : Fin 512) :
    ∃ x : ℝ, m ((c : Thread nD τ).loc main_arg3) (ix2 i (half l)) = (x : EReal) := by
  have := congrFun (h c).2.2.2 (ix2 i l)
  pointwise [Cert.Pre_ln_finite.fn] at this
  exact ⟨_, real_of_lt this⟩

/-- At every entry the kernel's form of the swish's gradient is the reference's. -/
theorem slope_eq (c : Dev nD) (h : Cert.Pre_EvenLnBwdIdeal_ln_finite m) (i : Fin 2064) (j : Fin 512) :
    ∃ d : ℝ, slopeK (lin (fun l => m ((c : Thread nD τ).loc main_arg0) (ix2 i l)) (fun l => m ((c : Thread nD τ).loc main_arg1) (ix2 0 l))
      (fun l => m ((c : Thread nD τ).loc main_arg2) (ix2 0 l)) j) (m ((c : Thread nD τ).loc main_arg3) (ix2 i (half j))) = (d : EReal)
      ∧ slope (m ((c : Thread nD τ).loc main_arg0)) (m ((c : Thread nD τ).loc main_arg1)) (m ((c : Thread nD τ).loc main_arg2)) (m ((c : Thread nD τ).loc main_arg3)) i j = (d : EReal) := by
  choose x hx using real0 m c h i
  choose g hg using real1 m c h
  choose b hb using real2 m c h
  obtain ⟨y, hy⟩ := real3 m c h i j
  obtain ⟨n, hn⟩ := lin_real x g b j
  simp only [slope, hx, hg, hb, hy, hn]
  exact slope_real n y

/-- So are the rows' gradients. -/
theorem rows_eq (c : Dev nD) (h : Cert.Pre_EvenLnBwdIdeal_ln_finite m) (i : Fin 2064) (j : Fin 512) :
    tiled (fun l => m ((c : Thread nD τ).loc main_arg0) (ix2 i l)) (fun l => slope (m ((c : Thread nD τ).loc main_arg0)) (m ((c : Thread nD τ).loc main_arg1)) (m ((c : Thread nD τ).loc main_arg2)) (m ((c : Thread nD τ).loc main_arg3)) i l * m ((c : Thread nD τ).loc main_arg1) (ix2 0 l)) j
      = plain (fun l => m ((c : Thread nD τ).loc main_arg0) (ix2 i l)) (fun l => slope (m ((c : Thread nD τ).loc main_arg0)) (m ((c : Thread nD τ).loc main_arg1)) (m ((c : Thread nD τ).loc main_arg2)) (m ((c : Thread nD τ).loc main_arg3)) i l * m ((c : Thread nD τ).loc main_arg1) (ix2 0 l)) j := by
  choose x hx using real0 m c h i
  choose g hg using real1 m c h
  choose d hd using slope_eq m c h i
  simp only [hx, hg, (hd _).2, ← EReal.coe_mul]
  exact forms x (fun l => d l * g l) j

theorem slope_swap (c : Dev nD) (h : Cert.Pre_EvenLnBwdIdeal_ln_finite m) (i : Fin 2064) (j : Fin 512) :
    slopeK (lin (fun l => m ((c : Thread nD τ).loc main_arg0) (ix2 i l)) (fun l => m ((c : Thread nD τ).loc main_arg1) (ix2 0 l))
      (fun l => m ((c : Thread nD τ).loc main_arg2) (ix2 0 l)) j) (m ((c : Thread nD τ).loc main_arg3) (ix2 i (half j))) = slope (m ((c : Thread nD τ).loc main_arg0)) (m ((c : Thread nD τ).loc main_arg1)) (m ((c : Thread nD τ).loc main_arg2)) (m ((c : Thread nD τ).loc main_arg3)) i j := by
  obtain ⟨d, a, b⟩ := slope_eq m c h i j
  rw [a, b]

/-- Every point stores its rows' gradients. -/
theorem rows_at (c : Dev nD) (t : Fin cfg0.N) : (outsAt0 m c t.val t.isLt).1
    = k0_pay3 (iblk m c 1 t) (k0_pay7 (iblk m c 0 t)) (k0_pay8 (iblk m c 0 t)) (k0_pay9 (iblk m c 0 t) (iblk m c 1 t) (iblk m c 2 t) (iblk m c 3 t)) := by
  have := lt_of_lt_of_eq t.isLt N_0
  by_cases h : t.val = 0
  · rw [outsAt0_A m c t (by omega) (by omega) (by omega) (by omega)]; funext i; frame_out
  · rw [outsAt0_B m c t (by omega) (by omega) (by omega) (by omega)]; funext i; frame_out

/-- The kernel's first result array is the reference's. -/
theorem final (c : Dev nD) (h : Cert.Pre_EvenLnBwdIdeal_ln_finite m) : (dats m 0 c).arrAt 4 (cfgs 0).N = val_main_v72 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  idx_vars y
  have e : ((cfg0.win 4).blk t).view.emb (ix2 y0 y1) = ix2 (row t y0) y1 := by blk_point [idx t, row]
  rw [after0_4, rows_at]
  refine (pay_rows _ _ _ _ y0 y1).trans ?_
  simp only [blk0, blk1, blk2, blk3, slope_swap m c h]
  rw [rows_eq m c h]
  exact ((congrArg (val_main_v72 (F := Ideal) (m ((c : Thread nD τ).loc main_arg0)) (m ((c : Thread nD τ).loc main_arg1)) (m ((c : Thread nD τ).loc main_arg2)) (m ((c : Thread nD τ).loc main_arg3))) e).trans (ref_apply _ _ _ _ _ _)).symm

/-- A block's part of the gains' gradient, and of the offsets'. -/
theorem gain_block (c : Dev nD) (h : Cert.Pre_EvenLnBwdIdeal_ln_finite m) (t : Fin cfg0.N) (j : Fin 512) :
    k0_pay1 (F := Ideal) (k0_pay10 (iblk m c 0 t) (iblk m c 1 t) (iblk m c 2 t) (iblk m c 3 t)) (ix2 0 j)
      = ∑ i : Fin 688, slope (m ((c : Thread nD τ).loc main_arg0)) (m ((c : Thread nD τ).loc main_arg1)) (m ((c : Thread nD τ).loc main_arg2)) (m ((c : Thread nD τ).loc main_arg3)) (row t i) j * hat (fun l => m ((c : Thread nD τ).loc main_arg0) (ix2 (row t i) l)) j := by
  refine (pay_gain _ _ _ _ j).trans ?_
  simp only [blk0, blk1, blk2, blk3, slope_swap m c h]

theorem offset_block (c : Dev nD) (h : Cert.Pre_EvenLnBwdIdeal_ln_finite m) (t : Fin cfg0.N) (j : Fin 512) :
    k0_pay2 (F := Ideal) (k0_pay9 (iblk m c 0 t) (iblk m c 1 t) (iblk m c 2 t) (iblk m c 3 t)) (ix2 0 j) = ∑ i : Fin 688, slope (m ((c : Thread nD τ).loc main_arg0)) (m ((c : Thread nD τ).loc main_arg1)) (m ((c : Thread nD τ).loc main_arg2)) (m ((c : Thread nD τ).loc main_arg3)) (row t i) j := by
  refine (pay_offset _ _ _ _ j).trans ?_
  simp only [blk0, blk1, blk2, blk3, slope_swap m c h]

/-- What the two sums hold after the first point, and after each later one. -/
theorem gain_first (c : Dev nD) (t : Fin cfg0.N) (h : t.val = 0) : (outsAt0 m c t.val t.isLt).2.1
    = k0_pay1 (k0_pay10 (iblk m c 0 t) (iblk m c 1 t) (iblk m c 2 t) (iblk m c 3 t)) := by
  rw [outsAt0_A m c t (by omega) (by omega) (by omega) (by omega)]; funext i; frame_out

theorem offset_first (c : Dev nD) (t : Fin cfg0.N) (h : t.val = 0) : (outsAt0 m c t.val t.isLt).2.2
    = k0_pay2 (k0_pay9 (iblk m c 0 t) (iblk m c 1 t) (iblk m c 2 t) (iblk m c 3 t)) := by
  rw [outsAt0_A m c t (by omega) (by omega) (by omega) (by omega)]; funext i; frame_out

theorem gain_next (c : Dev nD) (s t : Fin cfg0.N) (h : t.val = s.val + 1) (j : Fin 512) : (outsAt0 m c t.val t.isLt).2.1 (ix2 0 j)
    = (outsAt0 m c s.val s.isLt).2.1 (ix2 0 j) + k0_pay1 (F := Ideal) (k0_pay10 (iblk m c 0 t) (iblk m c 1 t) (iblk m c 2 t) (iblk m c 3 t)) (ix2 0 j) := by
  obtain ⟨sv, hs⟩ := s; obtain ⟨tv, ht⟩ := t
  obtain rfl : tv = sv + 1 := h
  have b : sv + 1 < 3 := lt_of_lt_of_eq ht N_0
  rw [outsAt0_B m c ⟨sv + 1, ht⟩ (by simp only; omega) (by simp only; omega) (by simp only; omega) (by simp only; omega)]; frame_out
  exact pay_add _ _ _

theorem offset_next (c : Dev nD) (s t : Fin cfg0.N) (h : t.val = s.val + 1) (j : Fin 512) : (outsAt0 m c t.val t.isLt).2.2 (ix2 0 j)
    = (outsAt0 m c s.val s.isLt).2.2 (ix2 0 j) + k0_pay2 (F := Ideal) (k0_pay9 (iblk m c 0 t) (iblk m c 1 t) (iblk m c 2 t) (iblk m c 3 t)) (ix2 0 j) := by
  obtain ⟨sv, hs⟩ := s; obtain ⟨tv, ht⟩ := t
  obtain rfl : tv = sv + 1 := h
  have b : sv + 1 < 3 := lt_of_lt_of_eq ht N_0
  rw [outsAt0_B m c ⟨sv + 1, ht⟩ (by simp only; omega) (by simp only; omega) (by simp only; omega) (by simp only; omega)]; frame_out
  exact pay_add2 _ _ _

/-- A sum over the rows, block by block. -/
theorem blocks_sum (f : Fin 2064 → EReal) (t0 t1 t2 : Fin cfg0.N) (h0 : t0.val = 0) (h1 : t1.val = 1) (h2 : t2.val = 2) : ∑ i, f i
    = ∑ i : Fin 688, f (row t0 i) + ∑ i : Fin 688, f (row t1 i) + ∑ i : Fin 688, f (row t2 i) := by
  have e0 : ∀ i : Fin 688, row t0 i = ⟨i.val, by omega⟩ := fun i => Fin.ext (by simp [row, h0])
  have e1 : ∀ i : Fin 688, row t1 i = ⟨688 + i.val, by omega⟩ := fun i => Fin.ext (by simp [row, h1])
  have e2 : ∀ i : Fin 688, row t2 i = ⟨1376 + i.val, by omega⟩ := fun i => Fin.ext (by simp [row, h2])
  simp only [e0, e1, e2]
  refine (Fin.sum_univ_add (a := 1376) (b := 688) f).trans ?_
  rw [Fin.sum_univ_add (a := 688) (b := 688) fun i => f (Fin.castAdd 688 i)]
  rfl

/-- After the last point the sums are the second and the third result. -/
theorem gain_last (c : Dev nD) (h : Cert.Pre_EvenLnBwdIdeal_ln_finite m) (t : Fin cfg0.N) (ht : t.val = 2) (j : Fin 512) :
    (outsAt0 m c t.val t.isLt).2.1 (ix2 0 j) = val_main_v46 (F := Ideal) (m ((c : Thread nD τ).loc main_arg0)) (m ((c : Thread nD τ).loc main_arg1)) (m ((c : Thread nD τ).loc main_arg2)) (m ((c : Thread nD τ).loc main_arg3)) (ix2 0 j) := by
  have hN := N_0
  let t0 : Fin cfg0.N := ⟨0, by omega⟩
  let t1 : Fin cfg0.N := ⟨1, by omega⟩
  rw [gain_next m c t1 t ht, gain_next m c t0 t1 rfl, gain_first m c t0 rfl, gain_block m c h, gain_block m c h, gain_block m c h, ref2_apply,
    blocks_sum _ t0 t1 t rfl rfl ht]

theorem offset_last (c : Dev nD) (h : Cert.Pre_EvenLnBwdIdeal_ln_finite m) (t : Fin cfg0.N) (ht : t.val = 2) (j : Fin 512) :
    (outsAt0 m c t.val t.isLt).2.2 (ix2 0 j) = val_main_v43 (F := Ideal) (m ((c : Thread nD τ).loc main_arg0)) (m ((c : Thread nD τ).loc main_arg1)) (m ((c : Thread nD τ).loc main_arg2)) (m ((c : Thread nD τ).loc main_arg3)) (ix2 0 j) := by
  have hN := N_0
  let t0 : Fin cfg0.N := ⟨0, by omega⟩
  let t1 : Fin cfg0.N := ⟨1, by omega⟩
  rw [offset_next m c t1 t ht, offset_next m c t0 t1 rfl, offset_first m c t0 rfl, offset_block m c h, offset_block m c h, offset_block m c h, ref3_apply,
    blocks_sum _ t0 t1 t rfl rfl ht]

/-- The kernel's second and third result arrays are the reference's. -/
theorem final2 (c : Dev nD) (h : Cert.Pre_EvenLnBwdIdeal_ln_finite m) : (dats m 0 c).arrAt 5 (cfgs 0).N = val_main_v46 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have ht := (flush0_5 t).mp hf
  blk_simp
  idx_vars y
  obtain rfl : y0 = 0 := Subsingleton.elim (α := Fin 1) _ _
  have e : ((cfg0.win 5).blk t).view.emb (ix2 0 y1) = ix2 0 y1 := by blk_point [idx t]
  have hN := lt_of_lt_of_eq t.isLt N_0
  rw [after0_5]
  refine (gain_last m c h t (by omega) y1).trans ?_
  exact congrArg (val_main_v46 (F := Ideal) (m ((c : Thread nD τ).loc main_arg0)) (m ((c : Thread nD τ).loc main_arg1)) (m ((c : Thread nD τ).loc main_arg2)) (m ((c : Thread nD τ).loc main_arg3))) e.symm

theorem final3 (c : Dev nD) (h : Cert.Pre_EvenLnBwdIdeal_ln_finite m) : (dats m 0 c).arrAt 6 (cfgs 0).N = val_main_v43 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  have ht := (flush0_6 t).mp hf
  blk_simp
  idx_vars y
  obtain rfl : y0 = 0 := Subsingleton.elim (α := Fin 1) _ _
  have e : ((cfg0.win 6).blk t).view.emb (ix2 0 y1) = ix2 0 y1 := by blk_point [idx t]
  have hN := lt_of_lt_of_eq t.isLt N_0
  rw [after0_6]
  refine (offset_last m c h t (by omega) y1).trans ?_
  exact congrArg (val_main_v43 (F := Ideal) (m ((c : Thread nD τ).loc main_arg0)) (m ((c : Thread nD τ).loc main_arg1)) (m ((c : Thread nD τ).loc main_arg2)) (m ((c : Thread nD τ).loc main_arg3))) e.symm

theorem algebraic : Cert.algebraic_EvenLnBwdIdeal_EvenLnBwdRefIdeal_pre_ln_finite := by
  intro m g m' g' h e
  refine ⟨fun c => (dats m 0 c).arrAt 4 cfg0.N, fun c => (dats m 0 c).arrAt 5 cfg0.N, fun c => (dats m 0 c).arrAt 6 cfg0.N, ?_, ?_⟩
  · exact (θ_run _ _ _).mono (fun r h c => ⟨(h.2 c).1 4, (h.2 c).1 5, (h.2 c).1 6, h.1 c⟩) (θ_run_and (unchanged m g) (run_main m g))
  · refine (θ_run _ _ _).mono (fun r k c => ?_) (Cert.EvenLnBwdRefIdeal.Value.run m' g')
    obtain ⟨k0, k1, k2, k3⟩ := k c
    obtain ⟨e0, e1, e2, e3⟩ := e c
    refine ⟨k0.trans ?_, k1.trans ?_, k2.trans ?_, k3⟩
    · refine (Cert.EvenLnBwdRefIdeal.Read.val_main_v72_eq m' c).trans ?_
      rw [e0, e1, e2, e3]
      exact (final m c h).symm
    · refine (Cert.EvenLnBwdRefIdeal.Read.val_main_v46_eq m' c).trans ?_
      rw [e0, e1, e2, e3]
      exact (final2 m c h).symm
    · refine (Cert.EvenLnBwdRefIdeal.Read.val_main_v43_eq m' c).trans ?_
      rw [e0, e1, e2, e3]
      exact (final3 m c h).symm
end Cert.EvenLnBwdIdeal.Value

end
-- ==== Proof.lean ====
/- The claims put together: for each call of the step its frames, that its idealization rewrites nothing, and that its
   results are the reference's. What each result is, is proved in the module named after the call. -/
module

public import proofs.«01_k».proof.Defs
public import proofs.«01_k».proof.Proof.AttnBody
public import proofs.«01_k».proof.Proof.AttnIdealBody
public import proofs.«01_k».proof.Proof.Gen.AttnRefIdeal.Run
public import proofs.«01_k».proof.Proof.Gen.AttnRefIdeal.Read
public import proofs.«01_k».proof.Proof.Gen.UpDw.Frame
public import proofs.«01_k».proof.Proof.Gen.UpDwIdeal.Frame
public import proofs.«01_k».proof.Proof.Gen.UpDwIdeal.Value
public import proofs.«01_k».proof.Proof.Gen.UpDwRefIdeal.Run
public import proofs.«01_k».proof.Proof.Gen.UpDwRefIdeal.Read
public import proofs.«01_k».proof.Proof.Gen.UpDx.Frame
public import proofs.«01_k».proof.Proof.Gen.UpDxIdeal.Frame
public import proofs.«01_k».proof.Proof.Gen.UpDxIdeal.Value
public import proofs.«01_k».proof.Proof.Gen.UpDxRefIdeal.Run
public import proofs.«01_k».proof.Proof.Gen.UpDxRefIdeal.Read
public import proofs.«01_k».proof.Proof.Gen.DownDw.Frame
public import proofs.«01_k».proof.Proof.Gen.DownDwIdeal.Frame
public import proofs.«01_k».proof.Proof.Gen.DownDwIdeal.Value
public import proofs.«01_k».proof.Proof.Gen.DownDwRefIdeal.Run
public import proofs.«01_k».proof.Proof.Gen.DownDwRefIdeal.Read
public import proofs.«01_k».proof.Proof.Gen.DownDx.Frame
public import proofs.«01_k».proof.Proof.Gen.DownDxIdeal.Frame
public import proofs.«01_k».proof.Proof.Gen.DownDxIdeal.Value
public import proofs.«01_k».proof.Proof.Gen.DownDxRefIdeal.Run
public import proofs.«01_k».proof.Proof.Gen.DownDxRefIdeal.Read
public import proofs.«01_k».proof.Proof.Gen.InDw.Frame
public import proofs.«01_k».proof.Proof.Gen.InDwIdeal.Frame
public import proofs.«01_k».proof.Proof.Gen.InDwIdeal.Value
public import proofs.«01_k».proof.Proof.Gen.InDwRefIdeal.Run
public import proofs.«01_k».proof.Proof.Gen.InDwRefIdeal.Read
public import proofs.«01_k».proof.Proof.Gen.InDx.Frame
public import proofs.«01_k».proof.Proof.Gen.InDxIdeal.Frame
public import proofs.«01_k».proof.Proof.Gen.InDxIdeal.Value
public import proofs.«01_k».proof.Proof.Gen.InDxRefIdeal.Run
public import proofs.«01_k».proof.Proof.Gen.InDxRefIdeal.Read
public import proofs.«01_k».proof.Proof.Gen.OutDw.Frame
public import proofs.«01_k».proof.Proof.Gen.OutDwIdeal.Frame
public import proofs.«01_k».proof.Proof.Gen.OutDwIdeal.Value
public import proofs.«01_k».proof.Proof.Gen.OutDwRefIdeal.Run
public import proofs.«01_k».proof.Proof.Gen.OutDwRefIdeal.Read
public import proofs.«01_k».proof.Proof.Gen.OutDx.Frame
public import proofs.«01_k».proof.Proof.Gen.OutDxIdeal.Frame
public import proofs.«01_k».proof.Proof.Gen.OutDxIdeal.Value
public import proofs.«01_k».proof.Proof.Gen.OutDxRefIdeal.Run
public import proofs.«01_k».proof.Proof.Gen.OutDxRefIdeal.Read
public import proofs.«01_k».proof.Proof.Gen.Up.Frame
public import proofs.«01_k».proof.Proof.Gen.UpIdeal.Frame
public import proofs.«01_k».proof.Proof.Gen.UpIdeal.Value
public import proofs.«01_k».proof.Proof.Gen.UpRefIdeal.Run
public import proofs.«01_k».proof.Proof.Gen.UpRefIdeal.Read
public import proofs.«01_k».proof.Proof.Gen.In.Frame
public import proofs.«01_k».proof.Proof.Gen.InIdeal.Frame
public import proofs.«01_k».proof.Proof.Gen.InIdeal.Value
public import proofs.«01_k».proof.Proof.Gen.InRefIdeal.Run
public import proofs.«01_k».proof.Proof.Gen.InRefIdeal.Read
public import proofs.«01_k».proof.Proof.Gen.Down.Frame
public import proofs.«01_k».proof.Proof.Gen.DownIdeal.Frame
public import proofs.«01_k».proof.Proof.Gen.DownIdeal.Value
public import proofs.«01_k».proof.Proof.Gen.DownRefIdeal.Run
public import proofs.«01_k».proof.Proof.Gen.DownRefIdeal.Read
public import proofs.«01_k».proof.Proof.Gen.Out.Frame
public import proofs.«01_k».proof.Proof.Gen.OutIdeal.Frame
public import proofs.«01_k».proof.Proof.Gen.OutIdeal.Value
public import proofs.«01_k».proof.Proof.Gen.OutRefIdeal.Run
public import proofs.«01_k».proof.Proof.Gen.OutRefIdeal.Read
public import proofs.«01_k».proof.Proof.Gen.AdamIn.Frame
public import proofs.«01_k».proof.Proof.Gen.AdamInIdeal.Frame
public import proofs.«01_k».proof.Proof.Gen.AdamInIdeal.Value
public import proofs.«01_k».proof.Proof.Gen.AdamInRefIdeal.Run
public import proofs.«01_k».proof.Proof.Gen.AdamInRefIdeal.Read
public import proofs.«01_k».proof.Proof.Gen.AdamOut.Frame
public import proofs.«01_k».proof.Proof.Gen.AdamOutIdeal.Frame
public import proofs.«01_k».proof.Proof.Gen.AdamOutIdeal.Value
public import proofs.«01_k».proof.Proof.Gen.AdamOutRefIdeal.Run
public import proofs.«01_k».proof.Proof.Gen.AdamOutRefIdeal.Read
public import proofs.«01_k».proof.Proof.Gen.AdamUp.Frame
public import proofs.«01_k».proof.Proof.Gen.AdamUpIdeal.Frame
public import proofs.«01_k».proof.Proof.Gen.AdamUpIdeal.Value
public import proofs.«01_k».proof.Proof.Gen.AdamUpRefIdeal.Run
public import proofs.«01_k».proof.Proof.Gen.AdamUpRefIdeal.Read
public import proofs.«01_k».proof.Proof.Gen.AdamDown.Frame
public import proofs.«01_k».proof.Proof.Gen.AdamDownIdeal.Frame
public import proofs.«01_k».proof.Proof.Gen.AdamDownIdeal.Value
public import proofs.«01_k».proof.Proof.Gen.AdamDownRefIdeal.Run
public import proofs.«01_k».proof.Proof.Gen.AdamDownRefIdeal.Read
public import proofs.«01_k».proof.Proof.Gen.DownEnd.Frame
public import proofs.«01_k».proof.Proof.Gen.DownEndIdeal.Frame
public import proofs.«01_k».proof.Proof.Gen.DownEndIdeal.Value
public import proofs.«01_k».proof.Proof.Gen.DownEndRefIdeal.Run
public import proofs.«01_k».proof.Proof.Gen.DownEndRefIdeal.Read
public import proofs.«01_k».proof.Proof.Gen.RmsBwd.Frame
public import proofs.«01_k».proof.Proof.Gen.RmsBwdIdeal.Frame
public import proofs.«01_k».proof.Proof.Gen.RmsBwdIdeal.Value
public import proofs.«01_k».proof.Proof.Gen.RmsBwdRefIdeal.Run
public import proofs.«01_k».proof.Proof.Gen.RmsBwdRefIdeal.Read
public import proofs.«01_k».proof.Proof.Gen.AdamSmall.Frame
public import proofs.«01_k».proof.Proof.Gen.AdamSmallIdeal.Frame
public import proofs.«01_k».proof.Proof.Gen.AdamSmallRefIdeal.Run
public import proofs.«01_k».proof.Proof.Gen.AdamSmallRefIdeal.Read
public import proofs.«01_k».proof.Proof.Gen.FinalLoss.Frame
public import proofs.«01_k».proof.Proof.Gen.FinalLossIdeal.Frame
public import proofs.«01_k».proof.Proof.Gen.FinalLossRefIdeal.Run
public import proofs.«01_k».proof.Proof.Gen.FinalLossRefIdeal.Read
public import proofs.«01_k».proof.Proof.Gen.FirstNorm.Frame
public import proofs.«01_k».proof.Proof.Gen.FirstNormIdeal.Frame
public import proofs.«01_k».proof.Proof.Gen.FirstNormRefIdeal.Run
public import proofs.«01_k».proof.Proof.Gen.FirstNormRefIdeal.Read
public import proofs.«01_k».proof.Proof.Gen.EvenLn.Frame
public import proofs.«01_k».proof.Proof.Gen.EvenLnIdeal.Frame
public import proofs.«01_k».proof.Proof.Gen.EvenLnRefIdeal.Run
public import proofs.«01_k».proof.Proof.Gen.EvenLnRefIdeal.Read
public import proofs.«01_k».proof.Proof.Gen.EvenLnBwd.Frame
public import proofs.«01_k».proof.Proof.Gen.EvenLnBwdIdeal.Frame
public import proofs.«01_k».proof.Proof.Gen.EvenLnBwdRefIdeal.Run
public import proofs.«01_k».proof.Proof.Gen.EvenLnBwdRefIdeal.Read
public import proofs.«01_k».proof.Proof.Gen.Pre_attn_finite
public import proofs.«01_k».proof.Proof.Gen.Pre_ln_finite
public import proofs.«01_k».proof.Proof.Attn
public import proofs.«01_k».proof.Proof.UpDw
public import proofs.«01_k».proof.Proof.UpDx
public import proofs.«01_k».proof.Proof.DownDw
public import proofs.«01_k».proof.Proof.DownDx
public import proofs.«01_k».proof.Proof.InDw
public import proofs.«01_k».proof.Proof.InDx
public import proofs.«01_k».proof.Proof.OutDw
public import proofs.«01_k».proof.Proof.OutDx
public import proofs.«01_k».proof.Proof.Up
public import proofs.«01_k».proof.Proof.In
public import proofs.«01_k».proof.Proof.Down
public import proofs.«01_k».proof.Proof.Out
public import proofs.«01_k».proof.Proof.AdamIn
public import proofs.«01_k».proof.Proof.AdamOut
public import proofs.«01_k».proof.Proof.AdamUp
public import proofs.«01_k».proof.Proof.AdamDown
public import proofs.«01_k».proof.Proof.DownEnd
public import proofs.«01_k».proof.Proof.RmsBwd
public import proofs.«01_k».proof.Proof.AdamSmall
public import proofs.«01_k».proof.Proof.FinalLoss
public import proofs.«01_k».proof.Proof.FirstNorm
public import proofs.«01_k».proof.Proof.EvenLn
public import proofs.«01_k».proof.Proof.EvenLnBwd
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

/-- `UpDw`: the kernel's and the reference's results are equal. -/
theorem algebraic_UpDw : Cert.algebraic_UpDwIdeal_UpDwRefIdeal := by
  pair_intro
  · run_from Cert.UpDwIdeal.Gen.run_main m g
  · run_from Cert.UpDwRefIdeal.Value.run m' g'
    exact (Cert.UpDwIdeal.Value.final m c).symm

/-- `UpDx`: the kernel's and the reference's results are equal. -/
theorem algebraic_UpDx : Cert.algebraic_UpDxIdeal_UpDxRefIdeal := by
  pair_intro
  · run_from Cert.UpDxIdeal.Gen.run_main m g
  · run_from Cert.UpDxRefIdeal.Value.run m' g'
    exact (Cert.UpDxIdeal.Value.final m c).symm

/-- `DownDw`: the kernel's and the reference's results are equal. -/
theorem algebraic_DownDw : Cert.algebraic_DownDwIdeal_DownDwRefIdeal := by
  pair_intro
  · run_from Cert.DownDwIdeal.Gen.run_main m g
  · run_from Cert.DownDwRefIdeal.Value.run m' g'
    exact (Cert.DownDwIdeal.Value.final m c).symm

/-- `DownDx`: the kernel's and the reference's results are equal. -/
theorem algebraic_DownDx : Cert.algebraic_DownDxIdeal_DownDxRefIdeal := by
  pair_intro
  · run_from Cert.DownDxIdeal.Gen.run_main m g
  · run_from Cert.DownDxRefIdeal.Value.run m' g'
    exact (Cert.DownDxIdeal.Value.final m c).symm

/-- `InDw`: the kernel's and the reference's results are equal. -/
theorem algebraic_InDw : Cert.algebraic_InDwIdeal_InDwRefIdeal := by
  pair_intro
  · run_from Cert.InDwIdeal.Gen.run_main m g
  · run_from Cert.InDwRefIdeal.Value.run m' g'
    exact (Cert.InDwIdeal.Value.final m c).symm

/-- `InDx`: the kernel's and the reference's results are equal. -/
theorem algebraic_InDx : Cert.algebraic_InDxIdeal_InDxRefIdeal := by
  pair_intro
  · run_from Cert.InDxIdeal.Gen.run_main m g
  · run_from Cert.InDxRefIdeal.Value.run m' g'
    exact (Cert.InDxIdeal.Value.final m c).symm

/-- `OutDw`: the kernel's and the reference's results are equal. -/
theorem algebraic_OutDw : Cert.algebraic_OutDwIdeal_OutDwRefIdeal := by
  pair_intro
  · run_from Cert.OutDwIdeal.Gen.run_main m g
  · run_from Cert.OutDwRefIdeal.Value.run m' g'
    exact (Cert.OutDwIdeal.Value.final m c).symm

/-- `OutDx`: the kernel's and the reference's results are equal. -/
theorem algebraic_OutDx : Cert.algebraic_OutDxIdeal_OutDxRefIdeal := by
  pair_intro
  · run_from Cert.OutDxIdeal.Gen.run_main m g
  · run_from Cert.OutDxRefIdeal.Value.run m' g'
    exact (Cert.OutDxIdeal.Value.final m c).symm

/-- `Up`: the kernel's and the reference's results are equal. -/
theorem algebraic_Up : Cert.algebraic_UpIdeal_UpRefIdeal := by
  pair_intro
  · run_from Cert.UpIdeal.Gen.run_main m g
  · run_from Cert.UpRefIdeal.Value.run m' g'
    exact (Cert.UpIdeal.Value.final m c).symm

/-- `In`: the kernel's and the reference's results are equal. -/
theorem algebraic_In : Cert.algebraic_InIdeal_InRefIdeal := by
  pair_intro
  · run_from Cert.InIdeal.Gen.run_main m g
  · run_from Cert.InRefIdeal.Value.run m' g'
    exact (Cert.InIdeal.Value.final m c).symm

/-- `Down`: the kernel's and the reference's results are equal. -/
theorem algebraic_Down : Cert.algebraic_DownIdeal_DownRefIdeal := by
  pair_intro
  · run_from Cert.DownIdeal.Gen.run_main m g
  · run_from Cert.DownRefIdeal.Value.run m' g'
    · exact (Cert.DownIdeal.Value.final m c).symm
    · exact (Cert.DownIdeal.Value.final2 m c).symm

/-- `Out`: the kernel's and the reference's results are equal. -/
theorem algebraic_Out : Cert.algebraic_OutIdeal_OutRefIdeal := by
  pair_intro
  · run_from Cert.OutIdeal.Gen.run_main m g
  · run_from Cert.OutRefIdeal.Value.run m' g'
    · exact (Cert.OutIdeal.Value.final m c).symm
    · exact (Cert.OutIdeal.Value.final2 m c).symm

/-- `AdamIn`: the kernel's and the reference's results are equal. -/
theorem algebraic_AdamIn : Cert.algebraic_AdamInIdeal_AdamInRefIdeal := by
  pair_intro
  · run_from Cert.AdamInIdeal.Gen.run_main m g
  · run_from Cert.AdamInRefIdeal.Value.run m' g'
    · exact (Cert.AdamInIdeal.Value.final m c).symm
    · exact (Cert.AdamInIdeal.Value.final2 m c).symm
    · exact (Cert.AdamInIdeal.Value.final3 m c).symm

/-- `AdamOut`: the kernel's and the reference's results are equal. -/
theorem algebraic_AdamOut : Cert.algebraic_AdamOutIdeal_AdamOutRefIdeal := by
  pair_intro
  · run_from Cert.AdamOutIdeal.Gen.run_main m g
  · run_from Cert.AdamOutRefIdeal.Value.run m' g'
    · exact (Cert.AdamOutIdeal.Value.final m c).symm
    · exact (Cert.AdamOutIdeal.Value.final2 m c).symm
    · exact (Cert.AdamOutIdeal.Value.final3 m c).symm

/-- `AdamUp`: the kernel's and the reference's results are equal. -/
theorem algebraic_AdamUp : Cert.algebraic_AdamUpIdeal_AdamUpRefIdeal := by
  pair_intro
  · run_from Cert.AdamUpIdeal.Gen.run_main m g
  · run_from Cert.AdamUpRefIdeal.Value.run m' g'
    · exact (Cert.AdamUpIdeal.Value.final m c).symm
    · exact (Cert.AdamUpIdeal.Value.final2 m c).symm
    · exact (Cert.AdamUpIdeal.Value.final3 m c).symm

/-- `AdamDown`: the kernel's and the reference's results are equal. -/
theorem algebraic_AdamDown : Cert.algebraic_AdamDownIdeal_AdamDownRefIdeal := by
  pair_intro
  · run_from Cert.AdamDownIdeal.Gen.run_main m g
  · run_from Cert.AdamDownRefIdeal.Value.run m' g'
    · exact (Cert.AdamDownIdeal.Value.final m c).symm
    · exact (Cert.AdamDownIdeal.Value.final2 m c).symm
    · exact (Cert.AdamDownIdeal.Value.final3 m c).symm

/-- `DownEnd`: the kernel's and the reference's results are equal. -/
theorem algebraic_DownEnd : Cert.algebraic_DownEndIdeal_DownEndRefIdeal := by
  pair_intro
  · run_from Cert.DownEndIdeal.Gen.run_main m g
  · run_from Cert.DownEndRefIdeal.Value.run m' g'
    exact (Cert.DownEndIdeal.Value.final m c).symm

set_option maxHeartbeats 2000000 in
/-- `RmsBwd`: the kernel's and the reference's results are equal. -/
theorem algebraic_RmsBwd : Cert.algebraic_RmsBwdIdeal_RmsBwdRefIdeal := by
  pair_intro
  · run_from Cert.RmsBwdIdeal.Gen.run_main m g
  · run_from Cert.RmsBwdRefIdeal.Value.run m' g'
    · exact (Cert.RmsBwdIdeal.Value.final m c).symm
    · exact (Cert.RmsBwdIdeal.Value.final2 m c).symm

/-- `FirstNorm`: the kernel's and the reference's results are equal. -/
theorem algebraic_FirstNorm : Cert.algebraic_FirstNormIdeal_FirstNormRefIdeal := by
  pair_intro
  · run_from Cert.FirstNormIdeal.Gen.run_main m g
  · run_from Cert.FirstNormRefIdeal.Value.run m' g'
    exact (Cert.FirstNormIdeal.Value.final m c).symm

/-- `EvenLn`: the kernel's and the reference's results are equal. -/
theorem algebraic_EvenLn : Cert.algebraic_EvenLnIdeal_EvenLnRefIdeal := by
  pair_intro
  · run_from Cert.EvenLnIdeal.Gen.run_main m g
  · run_from Cert.EvenLnRefIdeal.Value.run m' g'
    exact (Cert.EvenLnIdeal.Value.final m c).symm

/-- `Attn`'s reference leaves its arguments alone. -/
theorem frame_AttnRef : Cert.quiescent_AttnRefIdeal := by
  intro m g _
  exact (θ_run _ _ _).mono (fun r h => ⟨fun c => ⟨(h c).2.1, (h c).2.2.1, (h c).2.2.2.1, (h c).2.2.2.2.1, (h c).2.2.2.2.2⟩, sem_eq_zero_of_no_sems (by decide) r.2⟩) (Cert.AttnRefIdeal.Value.run m g)

/-- `UpDw`'s reference leaves its arguments alone. -/
theorem frame_UpDwRef : Cert.quiescent_UpDwRefIdeal := by
  intro m g _
  exact (θ_run _ _ _).mono (fun r h => ⟨fun c => ⟨(h c).2.1, (h c).2.2⟩, sem_eq_zero_of_no_sems (by decide) r.2⟩) (Cert.UpDwRefIdeal.Value.run m g)

/-- `UpDx`'s reference leaves its arguments alone. -/
theorem frame_UpDxRef : Cert.quiescent_UpDxRefIdeal := by
  intro m g _
  exact (θ_run _ _ _).mono (fun r h => ⟨fun c => ⟨(h c).2.1, (h c).2.2⟩, sem_eq_zero_of_no_sems (by decide) r.2⟩) (Cert.UpDxRefIdeal.Value.run m g)

/-- `DownDw`'s reference leaves its arguments alone. -/
theorem frame_DownDwRef : Cert.quiescent_DownDwRefIdeal := by
  intro m g _
  exact (θ_run _ _ _).mono (fun r h => ⟨fun c => ⟨(h c).2.1, (h c).2.2⟩, sem_eq_zero_of_no_sems (by decide) r.2⟩) (Cert.DownDwRefIdeal.Value.run m g)

/-- `DownDx`'s reference leaves its arguments alone. -/
theorem frame_DownDxRef : Cert.quiescent_DownDxRefIdeal := by
  intro m g _
  exact (θ_run _ _ _).mono (fun r h => ⟨fun c => ⟨(h c).2.1, (h c).2.2⟩, sem_eq_zero_of_no_sems (by decide) r.2⟩) (Cert.DownDxRefIdeal.Value.run m g)

/-- `InDw`'s reference leaves its arguments alone. -/
theorem frame_InDwRef : Cert.quiescent_InDwRefIdeal := by
  intro m g _
  exact (θ_run _ _ _).mono (fun r h => ⟨fun c => ⟨(h c).2.1, (h c).2.2⟩, sem_eq_zero_of_no_sems (by decide) r.2⟩) (Cert.InDwRefIdeal.Value.run m g)

/-- `InDx`'s reference leaves its arguments alone. -/
theorem frame_InDxRef : Cert.quiescent_InDxRefIdeal := by
  intro m g _
  exact (θ_run _ _ _).mono (fun r h => ⟨fun c => ⟨(h c).2.1, (h c).2.2⟩, sem_eq_zero_of_no_sems (by decide) r.2⟩) (Cert.InDxRefIdeal.Value.run m g)

/-- `OutDw`'s reference leaves its arguments alone. -/
theorem frame_OutDwRef : Cert.quiescent_OutDwRefIdeal := by
  intro m g _
  exact (θ_run _ _ _).mono (fun r h => ⟨fun c => ⟨(h c).2.1, (h c).2.2⟩, sem_eq_zero_of_no_sems (by decide) r.2⟩) (Cert.OutDwRefIdeal.Value.run m g)

/-- `OutDx`'s reference leaves its arguments alone. -/
theorem frame_OutDxRef : Cert.quiescent_OutDxRefIdeal := by
  intro m g _
  exact (θ_run _ _ _).mono (fun r h => ⟨fun c => ⟨(h c).2.1, (h c).2.2⟩, sem_eq_zero_of_no_sems (by decide) r.2⟩) (Cert.OutDxRefIdeal.Value.run m g)

/-- `Up`'s reference leaves its arguments alone. -/
theorem frame_UpRef : Cert.quiescent_UpRefIdeal := by
  intro m g _
  exact (θ_run _ _ _).mono (fun r h => ⟨fun c => ⟨(h c).2.1, (h c).2.2⟩, sem_eq_zero_of_no_sems (by decide) r.2⟩) (Cert.UpRefIdeal.Value.run m g)

/-- `In`'s reference leaves its arguments alone. -/
theorem frame_InRef : Cert.quiescent_InRefIdeal := by
  intro m g _
  exact (θ_run _ _ _).mono (fun r h => ⟨fun c => ⟨(h c).2.1, (h c).2.2⟩, sem_eq_zero_of_no_sems (by decide) r.2⟩) (Cert.InRefIdeal.Value.run m g)

/-- `Down`'s reference leaves its arguments alone. -/
theorem frame_DownRef : Cert.quiescent_DownRefIdeal := by
  intro m g _
  exact (θ_run _ _ _).mono (fun r h => ⟨fun c => ⟨(h c).2.2.1, (h c).2.2.2.1, (h c).2.2.2.2.1, (h c).2.2.2.2.2⟩, sem_eq_zero_of_no_sems (by decide) r.2⟩) (Cert.DownRefIdeal.Value.run m g)

/-- `Out`'s reference leaves its arguments alone. -/
theorem frame_OutRef : Cert.quiescent_OutRefIdeal := by
  intro m g _
  exact (θ_run _ _ _).mono (fun r h => ⟨fun c => ⟨(h c).2.2.1, (h c).2.2.2.1, (h c).2.2.2.2.1, (h c).2.2.2.2.2⟩, sem_eq_zero_of_no_sems (by decide) r.2⟩) (Cert.OutRefIdeal.Value.run m g)

/-- `AdamIn`'s reference leaves its arguments alone. -/
theorem frame_AdamInRef : Cert.quiescent_AdamInRefIdeal := by
  intro m g _
  exact (θ_run _ _ _).mono (fun r h => ⟨fun c => ⟨(h c).2.2.2.1, (h c).2.2.2.2.1, (h c).2.2.2.2.2.1, (h c).2.2.2.2.2.2⟩, sem_eq_zero_of_no_sems (by decide) r.2⟩) (Cert.AdamInRefIdeal.Value.run m g)

/-- `AdamOut`'s reference leaves its arguments alone. -/
theorem frame_AdamOutRef : Cert.quiescent_AdamOutRefIdeal := by
  intro m g _
  exact (θ_run _ _ _).mono (fun r h => ⟨fun c => ⟨(h c).2.2.2.1, (h c).2.2.2.2.1, (h c).2.2.2.2.2.1, (h c).2.2.2.2.2.2⟩, sem_eq_zero_of_no_sems (by decide) r.2⟩) (Cert.AdamOutRefIdeal.Value.run m g)

/-- `AdamUp`'s reference leaves its arguments alone. -/
theorem frame_AdamUpRef : Cert.quiescent_AdamUpRefIdeal := by
  intro m g _
  exact (θ_run _ _ _).mono (fun r h => ⟨fun c => ⟨(h c).2.2.2.1, (h c).2.2.2.2.1, (h c).2.2.2.2.2.1, (h c).2.2.2.2.2.2⟩, sem_eq_zero_of_no_sems (by decide) r.2⟩) (Cert.AdamUpRefIdeal.Value.run m g)

/-- `AdamDown`'s reference leaves its arguments alone. -/
theorem frame_AdamDownRef : Cert.quiescent_AdamDownRefIdeal := by
  intro m g _
  exact (θ_run _ _ _).mono (fun r h => ⟨fun c => ⟨(h c).2.2.2.1, (h c).2.2.2.2.1, (h c).2.2.2.2.2.1, (h c).2.2.2.2.2.2⟩, sem_eq_zero_of_no_sems (by decide) r.2⟩) (Cert.AdamDownRefIdeal.Value.run m g)

/-- `DownEnd`'s reference leaves its arguments alone. -/
theorem frame_DownEndRef : Cert.quiescent_DownEndRefIdeal := by
  intro m g _
  exact (θ_run _ _ _).mono (fun r h => ⟨fun c => ⟨(h c).2.1, (h c).2.2.1, (h c).2.2.2⟩, sem_eq_zero_of_no_sems (by decide) r.2⟩) (Cert.DownEndRefIdeal.Value.run m g)

/-- `RmsBwd`'s reference leaves its arguments alone. -/
theorem frame_RmsBwdRef : Cert.quiescent_RmsBwdRefIdeal := by
  intro m g _
  exact (θ_run _ _ _).mono (fun r h => ⟨fun c => ⟨(h c).2.2.1, (h c).2.2.2.1, (h c).2.2.2.2.1, (h c).2.2.2.2.2⟩, sem_eq_zero_of_no_sems (by decide) r.2⟩) (Cert.RmsBwdRefIdeal.Value.run m g)

/-- `AdamSmall`'s reference leaves its arguments alone. -/
theorem frame_AdamSmallRef : Cert.quiescent_AdamSmallRefIdeal := by
  intro m g _
  exact (θ_run _ _ _).mono (fun r h => ⟨fun c => (h c).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2, sem_eq_zero_of_no_sems (by decide) r.2⟩) (Cert.AdamSmallRefIdeal.Value.run m g)

/-- `FinalLoss`'s reference leaves its arguments alone. -/
theorem frame_FinalLossRef : Cert.quiescent_FinalLossRefIdeal := by
  intro m g _
  exact (θ_run _ _ _).mono (fun r h => ⟨fun c => ⟨(h c).2.2.2.1, (h c).2.2.2.2.1, (h c).2.2.2.2.2⟩, sem_eq_zero_of_no_sems (by decide) r.2⟩) (Cert.FinalLossRefIdeal.Value.run m g)

/-- `FirstNorm`'s reference leaves its arguments alone. -/
theorem frame_FirstNormRef : Cert.quiescent_FirstNormRefIdeal := by
  intro m g _
  exact (θ_run _ _ _).mono (fun r h => ⟨fun c => ⟨(h c).2.1, (h c).2.2⟩, sem_eq_zero_of_no_sems (by decide) r.2⟩) (Cert.FirstNormRefIdeal.Value.run m g)

/-- `EvenLn`'s reference leaves its arguments alone. -/
theorem frame_EvenLnRef : Cert.quiescent_EvenLnRefIdeal := by
  intro m g _
  exact (θ_run _ _ _).mono (fun r h => ⟨fun c => ⟨(h c).2.1, (h c).2.2.1, (h c).2.2.2⟩, sem_eq_zero_of_no_sems (by decide) r.2⟩) (Cert.EvenLnRefIdeal.Value.run m g)

/-- `EvenLnBwd`'s reference leaves its arguments alone. -/
theorem frame_EvenLnBwdRef : Cert.quiescent_EvenLnBwdRefIdeal := by
  intro m g _
  exact (θ_run _ _ _).mono (fun r h => ⟨fun c => ⟨(h c).2.2.2.1, (h c).2.2.2.2.1, (h c).2.2.2.2.2.1, (h c).2.2.2.2.2.2⟩, sem_eq_zero_of_no_sems (by decide) r.2⟩) (Cert.EvenLnBwdRefIdeal.Value.run m g)

/-- `Attn`: the mask is read as the number it is named. -/
theorem preserves_Attn : Cert.preserves_Attn_AttnIdeal :=
  IdealRules.named_const.statement Cert.AttnIdeal.κ "mask" .f32 0xF149F2CA#32 ⊥ rfl

/-- Everything claimed. -/
theorem claim : Cert.Claim :=
  ⟨Cert.Attn.Gen.facts,
   Cert.AttnIdeal.Gen.facts,
   Cert.AttnRefIdeal.Gen.facts,
   Cert.UpDw.Gen.facts,
   Cert.UpDwIdeal.Gen.facts,
   Cert.UpDwRefIdeal.Gen.facts,
   Cert.UpDx.Gen.facts,
   Cert.UpDxIdeal.Gen.facts,
   Cert.UpDxRefIdeal.Gen.facts,
   Cert.DownDw.Gen.facts,
   Cert.DownDwIdeal.Gen.facts,
   Cert.DownDwRefIdeal.Gen.facts,
   Cert.DownDx.Gen.facts,
   Cert.DownDxIdeal.Gen.facts,
   Cert.DownDxRefIdeal.Gen.facts,
   Cert.InDw.Gen.facts,
   Cert.InDwIdeal.Gen.facts,
   Cert.InDwRefIdeal.Gen.facts,
   Cert.InDx.Gen.facts,
   Cert.InDxIdeal.Gen.facts,
   Cert.InDxRefIdeal.Gen.facts,
   Cert.OutDw.Gen.facts,
   Cert.OutDwIdeal.Gen.facts,
   Cert.OutDwRefIdeal.Gen.facts,
   Cert.OutDx.Gen.facts,
   Cert.OutDxIdeal.Gen.facts,
   Cert.OutDxRefIdeal.Gen.facts,
   Cert.Up.Gen.facts,
   Cert.UpIdeal.Gen.facts,
   Cert.UpRefIdeal.Gen.facts,
   Cert.In.Gen.facts,
   Cert.InIdeal.Gen.facts,
   Cert.InRefIdeal.Gen.facts,
   Cert.Down.Gen.facts,
   Cert.DownIdeal.Gen.facts,
   Cert.DownRefIdeal.Gen.facts,
   Cert.Out.Gen.facts,
   Cert.OutIdeal.Gen.facts,
   Cert.OutRefIdeal.Gen.facts,
   Cert.AdamIn.Gen.facts,
   Cert.AdamInIdeal.Gen.facts,
   Cert.AdamInRefIdeal.Gen.facts,
   Cert.AdamOut.Gen.facts,
   Cert.AdamOutIdeal.Gen.facts,
   Cert.AdamOutRefIdeal.Gen.facts,
   Cert.AdamUp.Gen.facts,
   Cert.AdamUpIdeal.Gen.facts,
   Cert.AdamUpRefIdeal.Gen.facts,
   Cert.AdamDown.Gen.facts,
   Cert.AdamDownIdeal.Gen.facts,
   Cert.AdamDownRefIdeal.Gen.facts,
   Cert.DownEnd.Gen.facts,
   Cert.DownEndIdeal.Gen.facts,
   Cert.DownEndRefIdeal.Gen.facts,
   Cert.RmsBwd.Gen.facts,
   Cert.RmsBwdIdeal.Gen.facts,
   Cert.RmsBwdRefIdeal.Gen.facts,
   Cert.AdamSmall.Gen.facts,
   Cert.AdamSmallIdeal.Gen.facts,
   Cert.AdamSmallRefIdeal.Gen.facts,
   Cert.FinalLoss.Gen.facts,
   Cert.FinalLossIdeal.Gen.facts,
   Cert.FinalLossRefIdeal.Gen.facts,
   Cert.FirstNorm.Gen.facts,
   Cert.FirstNormIdeal.Gen.facts,
   Cert.FirstNormRefIdeal.Gen.facts,
   Cert.EvenLn.Gen.facts,
   Cert.EvenLnIdeal.Gen.facts,
   Cert.EvenLnRefIdeal.Gen.facts,
   Cert.EvenLnBwd.Gen.facts,
   Cert.EvenLnBwdIdeal.Gen.facts,
   Cert.EvenLnBwdRefIdeal.Gen.facts,
   Cert.Pre_attn_finite.Gen.facts,
   Cert.Pre_ln_finite.Gen.facts,
   fun m ρ _ => Cert.Attn.Gen.frame m ρ,
   fun m ρ _ => Cert.AttnIdeal.Gen.frame m ρ,
   fun m ρ _ => Cert.AttnIdeal.Gen.frame m ρ,
   frame_AttnRef,
   fun m ρ _ => frame_AttnRef m ρ trivial,
   fun m ρ _ => Cert.UpDw.Gen.frame m ρ,
   fun m ρ _ => Cert.UpDwIdeal.Gen.frame m ρ,
   frame_UpDwRef,
   fun m ρ _ => Cert.UpDx.Gen.frame m ρ,
   fun m ρ _ => Cert.UpDxIdeal.Gen.frame m ρ,
   frame_UpDxRef,
   fun m ρ _ => Cert.DownDw.Gen.frame m ρ,
   fun m ρ _ => Cert.DownDwIdeal.Gen.frame m ρ,
   frame_DownDwRef,
   fun m ρ _ => Cert.DownDx.Gen.frame m ρ,
   fun m ρ _ => Cert.DownDxIdeal.Gen.frame m ρ,
   frame_DownDxRef,
   fun m ρ _ => Cert.InDw.Gen.frame m ρ,
   fun m ρ _ => Cert.InDwIdeal.Gen.frame m ρ,
   frame_InDwRef,
   fun m ρ _ => Cert.InDx.Gen.frame m ρ,
   fun m ρ _ => Cert.InDxIdeal.Gen.frame m ρ,
   frame_InDxRef,
   fun m ρ _ => Cert.OutDw.Gen.frame m ρ,
   fun m ρ _ => Cert.OutDwIdeal.Gen.frame m ρ,
   frame_OutDwRef,
   fun m ρ _ => Cert.OutDx.Gen.frame m ρ,
   fun m ρ _ => Cert.OutDxIdeal.Gen.frame m ρ,
   frame_OutDxRef,
   fun m ρ _ => Cert.Up.Gen.frame m ρ,
   fun m ρ _ => Cert.UpIdeal.Gen.frame m ρ,
   frame_UpRef,
   fun m ρ _ => Cert.In.Gen.frame m ρ,
   fun m ρ _ => Cert.InIdeal.Gen.frame m ρ,
   frame_InRef,
   fun m ρ _ => Cert.Down.Gen.frame m ρ,
   fun m ρ _ => Cert.DownIdeal.Gen.frame m ρ,
   frame_DownRef,
   fun m ρ _ => Cert.Out.Gen.frame m ρ,
   fun m ρ _ => Cert.OutIdeal.Gen.frame m ρ,
   frame_OutRef,
   fun m ρ _ => Cert.AdamIn.Gen.frame m ρ,
   fun m ρ _ => Cert.AdamInIdeal.Gen.frame m ρ,
   frame_AdamInRef,
   fun m ρ _ => Cert.AdamOut.Gen.frame m ρ,
   fun m ρ _ => Cert.AdamOutIdeal.Gen.frame m ρ,
   frame_AdamOutRef,
   fun m ρ _ => Cert.AdamUp.Gen.frame m ρ,
   fun m ρ _ => Cert.AdamUpIdeal.Gen.frame m ρ,
   frame_AdamUpRef,
   fun m ρ _ => Cert.AdamDown.Gen.frame m ρ,
   fun m ρ _ => Cert.AdamDownIdeal.Gen.frame m ρ,
   frame_AdamDownRef,
   fun m ρ _ => Cert.DownEnd.Gen.frame m ρ,
   fun m ρ _ => Cert.DownEndIdeal.Gen.frame m ρ,
   frame_DownEndRef,
   fun m ρ _ => Cert.RmsBwd.Gen.frame m ρ,
   fun m ρ _ => Cert.RmsBwdIdeal.Gen.frame m ρ,
   frame_RmsBwdRef,
   fun m ρ _ => Cert.AdamSmall.Gen.frame m ρ,
   fun m ρ _ => Cert.AdamSmallIdeal.Gen.frame m ρ,
   frame_AdamSmallRef,
   fun m ρ _ => Cert.FinalLoss.Gen.frame m ρ,
   fun m ρ _ => Cert.FinalLossIdeal.Gen.frame m ρ,
   frame_FinalLossRef,
   fun m ρ _ => Cert.FirstNorm.Gen.frame m ρ,
   fun m ρ _ => Cert.FirstNormIdeal.Gen.frame m ρ,
   frame_FirstNormRef,
   fun m ρ _ => Cert.EvenLn.Gen.frame m ρ,
   fun m ρ _ => Cert.EvenLnIdeal.Gen.frame m ρ,
   frame_EvenLnRef,
   fun m ρ _ => Cert.EvenLnBwd.Gen.frame m ρ,
   fun m ρ _ => Cert.EvenLnBwdIdeal.Gen.frame m ρ,
   fun m ρ _ => Cert.EvenLnBwdIdeal.Gen.frame m ρ,
   frame_EvenLnBwdRef,
   fun m ρ _ => frame_EvenLnBwdRef m ρ trivial,
   preserves_Attn,
   Cert.AttnIdeal.Value.algebraic,
   trivial,
   algebraic_UpDw,
   trivial,
   algebraic_UpDx,
   trivial,
   algebraic_DownDw,
   trivial,
   algebraic_DownDx,
   trivial,
   algebraic_InDw,
   trivial,
   algebraic_InDx,
   trivial,
   algebraic_OutDw,
   trivial,
   algebraic_OutDx,
   trivial,
   algebraic_Up,
   trivial,
   algebraic_In,
   trivial,
   algebraic_Down,
   trivial,
   algebraic_Out,
   trivial,
   algebraic_AdamIn,
   trivial,
   algebraic_AdamOut,
   trivial,
   algebraic_AdamUp,
   trivial,
   algebraic_AdamDown,
   trivial,
   algebraic_DownEnd,
   trivial,
   algebraic_RmsBwd,
   trivial,
   Cert.AdamSmallIdeal.Value.algebraic,
   trivial,
   Cert.FinalLossIdeal.Value.algebraic,
   trivial,
   algebraic_FirstNorm,
   trivial,
   algebraic_EvenLn,
   trivial,
   Cert.EvenLnBwdIdeal.Value.algebraic⟩

end Cert.Proof

end
